-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v22_0)) (v2 : (c : Dev Cert.Kernel2Ideal.nD) → Buf (Elt Ideal) ((c.tc : Thread Cert.Kernel2Ideal.nD Cert.Kernel2Ideal.τ).loc Cert.Kernel2Ideal.main_v23)) (v3 : (c : Dev Cert.Kernel2Ideal.nD) → Buf (Elt Ideal) ((c.tc : Thread Cert.Kernel2Ideal.nD Cert.Kernel2Ideal.τ).loc Cert.Kernel2Ideal.main_v13)) (v4 : (c : Dev Cert.Kernel2Ideal.nD) → Buf (Elt Ideal) ((c.tc : Thread Cert.Kernel2Ideal.nD Cert.Kernel2Ideal.τ).loc Cert.Kernel2Ideal.main_v25)) (v5 : (c : Dev Cert.Kernel2Ideal.nD) → Buf (Elt Ideal) ((c.tc : Thread Cert.Kernel2Ideal.nD Cert.Kernel2Ideal.τ).loc Cert.Kernel2Ideal.main_v27)) (v6 : (c : Dev Cert.Kernel2Ideal.nD) → Buf (Elt Ideal) ((c.tc : Thread Cert.Kernel2Ideal.nD Cert.Kernel2Ideal.τ).loc Cert.Kernel2Ideal.main_v28)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v22_0) = v1 c
          ∧ r.2.mem ((c.tc : Thread Cert.Kernel2Ideal.nD Cert.Kernel2Ideal.τ).loc Cert.Kernel2Ideal.main_v23) = v2 c
          ∧ r.2.mem ((c.tc : Thread Cert.Kernel2Ideal.nD Cert.Kernel2Ideal.τ).loc Cert.Kernel2Ideal.main_v13) = v3 c
          ∧ r.2.mem ((c.tc : Thread Cert.Kernel2Ideal.nD Cert.Kernel2Ideal.τ).loc Cert.Kernel2Ideal.main_v25) = v4 c
          ∧ r.2.mem ((c.tc : Thread Cert.Kernel2Ideal.nD Cert.Kernel2Ideal.τ).loc Cert.Kernel2Ideal.main_v27) = v5 c
          ∧ r.2.mem ((c.tc : Thread Cert.Kernel2Ideal.nD Cert.Kernel2Ideal.τ).loc Cert.Kernel2Ideal.main_v28) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v92) = v1 c
          ∧ r.2.mem ((c.tc : Thread Cert.Reference2Ideal.nD Cert.Reference2Ideal.τ).loc Cert.Reference2Ideal.main_v77) = v2 c
          ∧ r.2.mem ((c.tc : Thread Cert.Reference2Ideal.nD Cert.Reference2Ideal.τ).loc Cert.Reference2Ideal.main_v44) = v3 c
          ∧ r.2.mem ((c.tc : Thread Cert.Reference2Ideal.nD Cert.Reference2Ideal.τ).loc Cert.Reference2Ideal.main_v69) = v4 c
          ∧ r.2.mem ((c.tc : Thread Cert.Reference2Ideal.nD Cert.Reference2Ideal.τ).loc Cert.Reference2Ideal.main_v65) = v5 c
          ∧ r.2.mem ((c.tc : Thread Cert.Reference2Ideal.nD Cert.Reference2Ideal.τ).loc Cert.Reference2Ideal.main_v60) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v24)) (v1 : (c : Dev Cert.Kernel3Ideal.nD) → Buf (Elt Ideal) ((c.tc : Thread Cert.Kernel3Ideal.nD Cert.Kernel3Ideal.τ).loc Cert.Kernel3Ideal.main_v19_0)) (v2 : (c : Dev Cert.Kernel3Ideal.nD) → Buf (Elt Ideal) ((c.tc : Thread Cert.Kernel3Ideal.nD Cert.Kernel3Ideal.τ).loc Cert.Kernel3Ideal.main_v20)) (v3 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_v19_0) = v1 c
          ∧ r.2.mem ((c.tc : Thread Cert.Kernel3Ideal.nD Cert.Kernel3Ideal.τ).loc Cert.Kernel3Ideal.main_v20) = v2 c
          ∧ r.2.mem ((c.tc : Thread Cert.Kernel3Ideal.nD Cert.Kernel3Ideal.τ).loc Cert.Kernel3Ideal.main_v29) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)) (v1 : (c : Dev Cert.Kernel4Ideal.nD) → Buf (Elt Ideal) ((c.tc : Thread Cert.Kernel4Ideal.nD Cert.Kernel4Ideal.τ).loc Cert.Kernel4Ideal.main_v8)) (v2 : (c : Dev Cert.Kernel4Ideal.nD) → Buf (Elt Ideal) ((c.tc : Thread Cert.Kernel4Ideal.nD Cert.Kernel4Ideal.τ).loc Cert.Kernel4Ideal.main_v11)) (v3 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_v11) = v2 c
          ∧ r.2.mem ((c.tc : Thread Cert.Kernel4Ideal.nD Cert.Kernel4Ideal.τ).loc Cert.Kernel4Ideal.main_v7) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v39) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)) (v1 : (c : Dev Cert.Kernel5Ideal.nD) → Buf (Elt Ideal) ((c.tc : Thread Cert.Kernel5Ideal.nD Cert.Kernel5Ideal.τ).loc Cert.Kernel5Ideal.main_v4)) (v2 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_v4) = v1 c
          ∧ r.2.mem ((c.tc : Thread Cert.Kernel5Ideal.nD Cert.Kernel5Ideal.τ).loc Cert.Kernel5Ideal.main_v7) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v3) = v1 c
          ∧ r.2.mem ((c.tc : Thread Cert.Reference5Ideal.nD Cert.Reference5Ideal.τ).loc Cert.Reference5Ideal.main_v2) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8192x3072 : Shape := ⟨2, ![8192, 3072]⟩
abbrev S8192x1024 : Shape := ⟨2, ![8192, 1024]⟩
abbrev S_ : Shape := ⟨0, ![]⟩

class Facts : Prop where
  bcast_S_S8192x3072 : S_.BroadcastsInDim S8192x3072 (![] : Fin 0 → Fin S8192x3072.rank)
  bcast_S_S8192x1024 : S_.BroadcastsInDim S8192x1024 (![] : Fin 0 → Fin S8192x1024.rank)

variable [Facts]

def fn {F : FTy → Type} [FloatOps F] (main_arg0 : FVec F S8192x3072 .f32) (main_arg1 : FVec F S8192x1024 .f32) : IVec S8192x3072 1 × IVec S8192x1024 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  (main_v2, main_v5)
-- ==== Pre_finite2.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn_part1 {F : FTy → Type} [FloatOps F] (main_arg6 : FVec F S8192x2048 .f32) (main_v2 : IVec S8192x2048 1) (main_v5 : IVec S2048 1) (main_v8 : IVec S2048 1) (main_v11 : IVec S2048x5632 1) (main_v14 : IVec S2048x5632 1) (main_v17 : IVec S5632x2048 1) : IVec S8192x2048 1 × IVec S2048 1 × IVec S2048 1 × IVec S2048x5632 1 × IVec S2048x5632 1 × IVec S5632x2048 1 × IVec S8192x2048 1 :=
  let main_v18 : FVec F S8192x2048 .f32 := Host.absf main_arg6
  let main_cst_5 : FVec F S_ .f32 := constant S_ .f32 0x7F800000#32
  let main_v19 : FVec F S8192x2048 .f32 := broadcastInDim S8192x2048 ![] bcast_S_S8192x2048 main_cst_5
  let main_v20 : IVec S8192x2048 1 := cmpf .olt main_v18 main_v19
  (main_v2, main_v5, main_v8, main_v11, main_v14, main_v17, main_v20)

def fn {F : FTy → Type} [FloatOps F] (main_arg0 : FVec F S8192x2048 .f32) (main_arg1 : FVec F S2048 .f32) (main_arg2 : FVec F S2048 .f32) (main_arg3 : FVec F S2048x5632 .f32) (main_arg4 : FVec F S2048x5632 .f32) (main_arg5 : FVec F S5632x2048 .f32) (main_arg6 : FVec F S8192x2048 .f32) : IVec S8192x2048 1 × IVec S2048 1 × IVec S2048 1 × IVec S2048x5632 1 × IVec S2048x5632 1 × IVec S5632x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048x5632 .f32 := Host.absf main_arg3
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_v12 : FVec F S2048x5632 .f32 := Host.absf main_arg4
  let main_cst_3 : FVec F S_ .f32 := constant S_ .f32 0x7F800000#32
  let main_v13 : FVec F S2048x5632 .f32 := broadcastInDim S2048x5632 ![] bcast_S_S2048x5632 main_cst_3
  let main_v14 : IVec S2048x5632 1 := cmpf .olt main_v12 main_v13
  let main_v15 : FVec F S5632x2048 .f32 := Host.absf main_arg5
  let main_cst_4 : FVec F S_ .f32 := constant S_ .f32 0x7F800000#32
  let main_v16 : FVec F S5632x2048 .f32 := broadcastInDim S5632x2048 ![] bcast_S_S5632x2048 main_cst_4
  let main_v17 : IVec S5632x2048 1 := cmpf .olt main_v15 main_v16
  fn_part1 (F := F) main_arg6 main_v2 main_v5 main_v8 main_v11 main_v14 main_v17
-- ==== Kernel.lean ====
abbrev S8192x3072 : Shape := ⟨2, ![8192, 3072]⟩
abbrev S8192x1024 : Shape := ⟨2, ![8192, 1024]⟩
abbrev S1024x128 : Shape := ⟨2, ![1024, 128]⟩
abbrev S8192x128 : Shape := ⟨2, ![8192, 128]⟩
abbrev S256x256 : Shape := ⟨2, ![256, 256]⟩
abbrev S1024x256 : Shape := ⟨2, ![1024, 256]⟩
abbrev S1024x1 : Shape := ⟨2, ![1024, 1]⟩
abbrev S256x128 : Shape := ⟨2, ![256, 128]⟩
abbrev S1024 : Shape := ⟨1, ![1024]⟩

abbrev nBuf : Space → Nat
  | .hbm => 7
  | .vmem => 24
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x3072, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S8192x128, .bf16⟩
  | .local _ .vmem, ⟨11, _⟩ => ⟨S8192x128, .bf16⟩
  | .local _ .vmem, ⟨12, _⟩ => ⟨S8192x128, .bf16⟩
  | .local _ .vmem, ⟨13, _⟩ => ⟨S8192x128, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S8192x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c4_i32 : BitVec 32 := 4#32
  let v15 : BitVec 32 := Scalar.addi c0_i32 c4_i32
  let c1_i32 : BitVec 32 := 1#32
  ⟨c0_i32, v15, c1_i32⟩
def k0_mult1 (i : grid0.Coords) (k0_t1 : Fin k0_t1_loop.trips) : BitVec 32 :=
  let arg1 : BitVec 32 := BitVec.ofNat 32 (i 1).val
  let c1_i32_10 : BitVec 32 := 1#32
  let v26 : BitVec 32 := Scalar.addi arg1 c1_i32_10
  let c4_i32_11 : BitVec 32 := 4#32
  let v27 : BitVec 32 := Scalar.muli v26 c4_i32_11
  let c1_i32_12 : BitVec 32 := 1#32
  let v28 : BitVec 32 := Scalar.subi v27 c1_i32_12
  let c0_i32 : BitVec 32 := 0#32
  let c1_i32 : BitVec 32 := 1#32
  let arg6 : BitVec 32 := Scf.iv c0_i32 c1_i32 k0_t1
  let v29 : BitVec 32 := Scalar.subi v28 arg6
  let c256_i32 : BitVec 32 := 256#32
  let v30 : BitVec 32 := Scalar.muli v29 c256_i32
  v30
def k0_off1 (i : grid0.Coords) (k0_t1 : Fin k0_t1_loop.trips) : Fin 2 → Nat :=
  let arg1 : BitVec 32 := BitVec.ofNat 32 (i 1).val
  let c1_i32_10 : BitVec 32 := 1#32
  let v26 : BitVec 32 := Scalar.addi arg1 c1_i32_10
  let c4_i32_11 : BitVec 32 := 4#32
  let v27 : BitVec 32 := Scalar.muli v26 c4_i32_11
  let c1_i32_12 : BitVec 32 := 1#32
  let v28 : BitVec 32 := Scalar.subi v27 c1_i32_12
  let c0_i32 : BitVec 32 := 0#32
  let c1_i32 : BitVec 32 := 1#32
  let arg6 : BitVec 32 := Scf.iv c0_i32 c1_i32 k0_t1
  let v29 : BitVec 32 := Scalar.subi v28 arg6
  let c256_i32 : BitVec 32 := 256#32
  let v30 : BitVec 32 := Scalar.muli v29 c256_i32
  let v31 : BitVec 32 := v30
  let v36 : Index := Scalar.indexCast v31
  let c0_14 : Index := 0#32
  ![v36.toNat, 0]
@[reducible] def k0_t2_loop (i : grid0.Coords) : Scf.Loop 32 :=
  let c0_i32_4 : BitVec 32 := 0#32
  let arg1 : BitVec 32 := BitVec.ofNat 32 (i 1).val
  let c4_i32_3 : BitVec 32 := 4#32
  let v17 : BitVec 32 := Scalar.muli arg1 c4_i32_3
  let v18 : BitVec 32 := Scalar.subi v17 c0_i32_4
  let c1_i32_5 : BitVec 32 := 1#32
  let v20 : BitVec 32 := Scalar.divsi v18 c1_i32_5
  let v21 : BitVec 32 := Scalar.muli v20 c1_i32_5
  let v22 : BitVec 32 := Scalar.addi c0_i32_4 v21
  let c1_i32_6 : BitVec 32 := 1#32
  ⟨c0_i32_4, v22, c1_i32_6⟩
def k0_mult2 (i : grid0.Coords) (k0_t2 : Fin (k0_t2_loop i).trips) : BitVec 32 :=
  let arg1 : BitVec 32 := BitVec.ofNat 32 (i 1).val
  let c4_i32_10 : BitVec 32 := 4#32
  let v26 : BitVec 32 := Scalar.muli arg1 c4_i32_10
  let c1_i32_11 : BitVec 32 := 1#32
  let v27 : BitVec 32 := Scalar.subi v26 c1_i32_11
  let c0_i32_4 : BitVec 32 := 0#32
  let c1_i32_6 : BitVec 32 := 1#32
  let arg6 : BitVec 32 := Scf.iv c0_i32_4 c1_i32_6 k0_t2
  let v28 : BitVec 32 := Scalar.subi v27 arg6
  let c256_i32 : BitVec 32 := 256#32
  let v29 : BitVec 32 := Scalar.muli v28 c256_i32
  v29
def k0_off2 (i : grid0.Coords) (k0_t2 : Fin (k0_t2_loop i).trips) : Fin 2 → Nat :=
  let arg1 : BitVec 32 := BitVec.ofNat 32 (i 1).val
  let c4_i32_10 : BitVec 32 := 4#32
  let v26 : BitVec 32 := Scalar.muli arg1 c4_i32_10
  let c1_i32_11 : BitVec 32 := 1#32
  let v27 : BitVec 32 := Scalar.subi v26 c1_i32_11
  let c0_i32_4 : BitVec 32 := 0#32
  let c1_i32_6 : BitVec 32 := 1#32
  let arg6 : BitVec 32 := Scf.iv c0_i32_4 c1_i32_6 k0_t2
  let v28 : BitVec 32 := Scalar.subi v27 arg6
  let c256_i32 : BitVec 32 := 256#32
  let v29 : BitVec 32 := Scalar.muli v28 c256_i32
  let v30 : BitVec 32 := v29
  let v31 : Index := Scalar.indexCast v30
  let c0_12 : Index := 0#32
  ![v31.toNat, 0]
@[reducible] def k0_t3_loop (i : grid0.Coords) : Scf.Loop 32 :=
  let c0_i32_4 : BitVec 32 := 0#32
  let arg1 : BitVec 32 := BitVec.ofNat 32 (i 1).val
  let c4_i32_3 : BitVec 32 := 4#32
  let v17 : BitVec 32 := Scalar.muli arg1 c4_i32_3
  let v18 : BitVec 32 := Scalar.subi v17 c0_i32_4
  let c1_i32_5 : BitVec 32 := 1#32
  let v20 : BitVec 32 := Scalar.divsi v18 c1_i32_5
  let v21 : BitVec 32 := Scalar.muli v20 c1_i32_5
  let v22 : BitVec 32 := Scalar.addi c0_i32_4 v21
  let v19 : BitVec 32 := Scalar.addi c0_i32_4 v18
  let c1_i32_7 : BitVec 32 := 1#32
  ⟨v22, v19, c1_i32_7⟩
def k0_mult3 (i : grid0.Coords) (k0_t3 : Fin (k0_t3_loop i).trips) : BitVec 32 :=
  let arg1 : BitVec 32 := BitVec.ofNat 32 (i 1).val
  let c4_i32_10 : BitVec 32 := 4#32
  let v26 : BitVec 32 := Scalar.muli arg1 c4_i32_10
  let c1_i32_11 : BitVec 32 := 1#32
  let v27 : BitVec 32 := Scalar.subi v26 c1_i32_11
  let c0_i32_4 : BitVec 32 := 0#32
  let c4_i32_3 : BitVec 32 := 4#32
  let v17 : BitVec 32 := Scalar.muli arg1 c4_i32_3
  let v18 : BitVec 32 := Scalar.subi v17 c0_i32_4
  let c1_i32_5 : BitVec 32 := 1#32
  let v20 : BitVec 32 := Scalar.divsi v18 c1_i32_5
  let v21 : BitVec 32 := Scalar.muli v20 c1_i32_5
  let v22 : BitVec 32 := Scalar.addi c0_i32_4 v21
  let c1_i32_7 : BitVec 32 := 1#32
  let arg6 : BitVec 32 := Scf.iv v22 c1_i32_7 k0_t3
  let v28 : BitVec 32 := Scalar.subi v27 arg6
  let c256_i32 : BitVec 32 := 256#32
  let v29 : BitVec 32 := Scalar.muli v28 c256_i32
  v29
def k0_off3 (i : grid0.Coords) (k0_t3 : Fin (k0_t3_loop i).trips) : Fin 2 → Nat :=
  let arg1 : BitVec 32 := BitVec.ofNat 32 (i 1).val
  let c4_i32_10 : BitVec 32 := 4#32
  let v26 : BitVec 32 := Scalar.muli arg1 c4_i32_10
  let c1_i32_11 : BitVec 32 := 1#32
  let v27 : BitVec 32 := Scalar.subi v26 c1_i32_11
  let c0_i32_4 : BitVec 32 := 0#32
  let c4_i32_3 : BitVec 32 := 4#32
  let v17 : BitVec 32 := Scalar.muli arg1 c4_i32_3
  let v18 : BitVec 32 := Scalar.subi v17 c0_i32_4
  let c1_i32_5 : BitVec 32 := 1#32
  let v20 : BitVec 32 := Scalar.divsi v18 c1_i32_5
  let v21 : BitVec 32 := Scalar.muli v20 c1_i32_5
  let v22 : BitVec 32 := Scalar.addi c0_i32_4 v21
  let c1_i32_7 : BitVec 32 := 1#32
  let arg6 : BitVec 32 := Scf.iv v22 c1_i32_7 k0_t3
  let v28 : BitVec 32 := Scalar.subi v27 arg6
  let c256_i32 : BitVec 32 := 256#32
  let v29 : BitVec 32 := Scalar.muli v28 c256_i32
  let v30 : BitVec 32 := v29
  let v31 : Index := Scalar.indexCast v30
  let c0_12 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

@[reducible] def k1_t1_loop : Scf.Loop 32 :=
  let c0_i32_8 : BitVec 32 := 0#32
  let c4_i32 : BitVec 32 := 4#32
  let v30 : BitVec 32 := Scalar.addi c0_i32_8 c4_i32
  let c1_i32 : BitVec 32 := 1#32
  ⟨c0_i32_8, v30, c1_i32⟩
def k1_mult1 (i : grid1.Coords) (k1_t1 : Fin k1_t1_loop.trips) : BitVec 32 :=
  let arg1 : BitVec 32 := BitVec.ofNat 32 (i 1).val
  let c1_i32_17 : BitVec 32 := 1#32
  let v41 : BitVec 32 := Scalar.addi arg1 c1_i32_17
  let c4_i32_18 : BitVec 32 := 4#32
  let v42 : BitVec 32 := Scalar.muli v41 c4_i32_18
  let c1_i32_19 : BitVec 32 := 1#32
  let v43 : BitVec 32 := Scalar.subi v42 c1_i32_19
  let c0_i32_8 : BitVec 32 := 0#32
  let c1_i32 : BitVec 32 := 1#32
  let arg10 : BitVec 32 := Scf.iv c0_i32_8 c1_i32 k1_t1
  let v44 : BitVec 32 := Scalar.subi v43 arg10
  let c256_i32 : BitVec 32 := 256#32
  let v45 : BitVec 32 := Scalar.muli v44 c256_i32
  v45
def k1_off1 (i : grid1.Coords) (k1_t1 : Fin k1_t1_loop.trips) : Fin 2 → Nat :=
  let arg1 : BitVec 32 := BitVec.ofNat 32 (i 1).val
  let c1_i32_17 : BitVec 32 := 1#32
  let v41 : BitVec 32 := Scalar.addi arg1 c1_i32_17
  let c4_i32_18 : BitVec 32 := 4#32
  let v42 : BitVec 32 := Scalar.muli v41 c4_i32_18
  let c1_i32_19 : BitVec 32 := 1#32
  let v43 : BitVec 32 := Scalar.subi v42 c1_i32_19
  let c0_i32_8 : BitVec 32 := 0#32
  let c1_i32 : BitVec 32 := 1#32
  let arg10 : BitVec 32 := Scf.iv c0_i32_8 c1_i32 k1_t1
  let v44 : BitVec 32 := Scalar.subi v43 arg10
  let c256_i32 : BitVec 32 := 256#32
  let v45 : BitVec 32 := Scalar.muli v44 c256_i32
  let v46 : BitVec 32 := v45
  let v51 : Index := Scalar.indexCast v46
  let c0_21 : Index := 0#32
  ![v51.toNat, 0]
@[reducible] def k1_t2_loop (i : grid1.Coords) : Scf.Loop 32 :=
  let c0_i32_11 : BitVec 32 := 0#32
  let arg1 : BitVec 32 := BitVec.ofNat 32 (i 1).val
  let c4_i32_10 : BitVec 32 := 4#32
  let v32 : BitVec 32 := Scalar.muli arg1 c4_i32_10
  let v33 : BitVec 32 := Scalar.subi v32 c0_i32_11
  let c1_i32_12 : BitVec 32 := 1#32
  let v35 : BitVec 32 := Scalar.divsi v33 c1_i32_12
  let v36 : BitVec 32 := Scalar.muli v35 c1_i32_12
  let v37 : BitVec 32 := Scalar.addi c0_i32_11 v36
  let c1_i32_13 : BitVec 32 := 1#32
  ⟨c0_i32_11, v37, c1_i32_13⟩
def k1_mult2 (i : grid1.Coords) (k1_t2 : Fin (k1_t2_loop i).trips) : BitVec 32 :=
  let arg1 : BitVec 32 := BitVec.ofNat 32 (i 1).val
  let c4_i32_17 : BitVec 32 := 4#32
  let v41 : BitVec 32 := Scalar.muli arg1 c4_i32_17
  let c1_i32_18 : BitVec 32 := 1#32
  let v42 : BitVec 32 := Scalar.subi v41 c1_i32_18
  let c0_i32_11 : BitVec 32 := 0#32
  let c1_i32_13 : BitVec 32 := 1#32
  let arg10 : BitVec 32 := Scf.iv c0_i32_11 c1_i32_13 k1_t2
  let v43 : BitVec 32 := Scalar.subi v42 arg10
  let c256_i32 : BitVec 32 := 256#32
  let v44 : BitVec 32 := Scalar.muli v43 c256_i32
  v44
def k1_off2 (i : grid1.Coords) (k1_t2 : Fin (k1_t2_loop i).trips) : Fin 2 → Nat :=
  let arg1 : BitVec 32 := BitVec.ofNat 32 (i 1).val
  let c4_i32_17 : BitVec 32 := 4#32
  let v41 : BitVec 32 := Scalar.muli arg1 c4_i32_17
  let c1_i32_18 : BitVec 32 := 1#32
  let v42 : BitVec 32 := Scalar.subi v41 c1_i32_18
  let c0_i32_11 : BitVec 32 := 0#32
  let c1_i32_13 : BitVec 32 := 1#32
  let arg10 : BitVec 32 := Scf.iv c0_i32_11 c1_i32_13 k1_t2
  let v43 : BitVec 32 := Scalar.subi v42 arg10
  let c256_i32 : BitVec 32 := 256#32
  let v44 : BitVec 32 := Scalar.muli v43 c256_i32
  let v45 : BitVec 32 := v44
  let v46 : Index := Scalar.indexCast v45
  let c0_19 : Index := 0#32
  ![v46.toNat, 0]
@[reducible] def k1_t3_loop (i : grid1.Coords) : Scf.Loop 32 :=
  let c0_i32_11 : BitVec 32 := 0#32
  let arg1 : BitVec 32 := BitVec.ofNat 32 (i 1).val
  let c4_i32_10 : BitVec 32 := 4#32
  let v32 : BitVec 32 := Scalar.muli arg1 c4_i32_10
  let v33 : BitVec 32 := Scalar.subi v32 c0_i32_11
  let c1_i32_12 : BitVec 32 := 1#32
  let v35 : BitVec 32 := Scalar.divsi v33 c1_i32_12
  let v36 : BitVec 32 := Scalar.muli v35 c1_i32_12
  let v37 : BitVec 32 := Scalar.addi c0_i32_11 v36
  let v34 : BitVec 32 := Scalar.addi c0_i32_11 v33
  let c1_i32_14 : BitVec 32 := 1#32
  ⟨v37, v34, c1_i32_14⟩
def k1_mult3 (i : grid1.Coords) (k1_t3 : Fin (k1_t3_loop i).trips) : BitVec 32 :=
  let arg1 : BitVec 32 := BitVec.ofNat 32 (i 1).val
  let c4_i32_17 : BitVec 32 := 4#32
  let v41 : BitVec 32 := Scalar.muli arg1 c4_i32_17
  let c1_i32_18 : BitVec 32 := 1#32
  let v42 : BitVec 32 := Scalar.subi v41 c1_i32_18
  let c0_i32_11 : BitVec 32 := 0#32
  let c4_i32_10 : BitVec 32 := 4#32
  let v32 : BitVec 32 := Scalar.muli arg1 c4_i32_10
  let v33 : BitVec 32 := Scalar.subi v32 c0_i32_11
  let c1_i32_12 : BitVec 32 := 1#32
  let v35 : BitVec 32 := Scalar.divsi v33 c1_i32_12
  let v36 : BitVec 32 := Scalar.muli v35 c1_i32_12
  let v37 : BitVec 32 := Scalar.addi c0_i32_11 v36
  let c1_i32_14 : BitVec 32 := 1#32
  let arg10 : BitVec 32 := Scf.iv v37 c1_i32_14 k1_t3
  let v43 : BitVec 32 := Scalar.subi v42 arg10
  let c256_i32 : BitVec 32 := 256#32
  let v44 : BitVec 32 := Scalar.muli v43 c256_i32
  v44
def k1_off3 (i : grid1.Coords) (k1_t3 : Fin (k1_t3_loop i).trips) : Fin 2 → Nat :=
  let arg1 : BitVec 32 := BitVec.ofNat 32 (i 1).val
  let c4_i32_17 : BitVec 32 := 4#32
  let v41 : BitVec 32 := Scalar.muli arg1 c4_i32_17
  let c1_i32_18 : BitVec 32 := 1#32
  let v42 : BitVec 32 := Scalar.subi v41 c1_i32_18
  let c0_i32_11 : BitVec 32 := 0#32
  let c4_i32_10 : BitVec 32 := 4#32
  let v32 : BitVec 32 := Scalar.muli arg1 c4_i32_10
  let v33 : BitVec 32 := Scalar.subi v32 c0_i32_11
  let c1_i32_12 : BitVec 32 := 1#32
  let v35 : BitVec 32 := Scalar.divsi v33 c1_i32_12
  let v36 : BitVec 32 := Scalar.muli v35 c1_i32_12
  let v37 : BitVec 32 := Scalar.addi c0_i32_11 v36
  let c1_i32_14 : BitVec 32 := 1#32
  let arg10 : BitVec 32 := Scf.iv v37 c1_i32_14 k1_t3
  let v43 : BitVec 32 := Scalar.subi v42 arg10
  let c256_i32 : BitVec 32 := 256#32
  let v44 : BitVec 32 := Scalar.muli v43 c256_i32
  let v45 : BitVec 32 := v44
  let v46 : Index := Scalar.indexCast v45
  let c0_19 : Index := 0#32
  ![v46.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8192x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8192x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S8192x3072 : Shape := ⟨2, ![8192, 3072]⟩
abbrev S8192x1024 : Shape := ⟨2, ![8192, 1024]⟩
abbrev S1x8192x1024 : Shape := ⟨3, ![1, 8192, 1024]⟩
abbrev S1x8192x8x128 : Shape := ⟨4, ![1, 8192, 8, 128]⟩
abbrev S1x8x8192x128 : Shape := ⟨4, ![1, 8, 8192, 128]⟩
abbrev S1x8x8192x8192 : Shape := ⟨4, ![1, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x128x8192 : Shape := ⟨4, ![1, 8, 128, 8192]⟩

abbrev nBuf : Space → Nat
  | .hbm => 186
  | .vmem => 0
  | .smem => 0
  | _ => 0

abbrev hbmTy0_0 (i : Nat) : BufTy := match i % 128 with
  | 0 => ⟨S8192x3072, .f32⟩
  | 1 => ⟨S8192x1024, .f32⟩
  | 2 => ⟨S8192x1024, .f32⟩
  | 3 => ⟨S8192x1024, .f32⟩
  | 4 => ⟨S8192x1024, .f32⟩
  | 5 => ⟨S1x8192x1024, .f32⟩
  | 6 => ⟨S1x8192x1024, .f32⟩
  | 7 => ⟨S1x8192x1024, .f32⟩
  | 8 => ⟨S1x8192x8x128, .f32⟩
  | 9 => ⟨S1x8x8192x128, .f32⟩
  | 10 => ⟨S1x8192x8x128, .f32⟩
  | 11 => ⟨S1x8x8192x128, .f32⟩
  | 12 => ⟨S1x8192x8x128, .f32⟩
  | 13 => ⟨S1x8x8192x128, .f32⟩
  | 14 => ⟨S1x8x8192x8192, .f32⟩
  | 15 => ⟨S_, .f32⟩
  | 16 => ⟨S1x8x8192x8192, .f32⟩
  | 17 => ⟨S1x8x8192x8192, .f32⟩
  | 18 => ⟨S8192, .i32⟩
  | 19 => ⟨S1x8192, .i32⟩
  | 20 => ⟨S8192, .i32⟩
  | 21 => ⟨S8192x1, .i32⟩
  | 22 => ⟨S8192x8192, .i32⟩
  | 23 => ⟨S8192x8192, .i32⟩
  | 24 => ⟨S8192x8192, .i1⟩
  | 25 => ⟨S1x8x8192x8192, .f32⟩
  | 26 => ⟨S1x8x8192x8192, .f32⟩
  | 27 => ⟨S_, .f32⟩
  | 28 => ⟨S1x8x8192x8192, .f32⟩
  | 29 => ⟨S1x8x8192x8192, .f32⟩
  | 30 => ⟨S1x8x8192x8192, .f32⟩
  | 31 => ⟨S1x8x8192x8192, .f32⟩
  | 32 => ⟨S1x8x8192x8192, .i1⟩
  | 33 => ⟨S1x8x8192x8192, .f32⟩
  | 34 => ⟨S1x8x8192x8192, .f32⟩
  | 35 => ⟨S1x8x8192x8192, .f32⟩
  | 36 => ⟨S1x8x8192x8192, .f32⟩
  | 37 => ⟨S1x8x8192x8192, .f32⟩
  | 38 => ⟨S1x8x8192x8192, .f32⟩
  | 39 => ⟨S1x8x8192x8192, .f32⟩
  | 40 => ⟨S1x8x8192x8192, .f32⟩
  | 41 => ⟨S_, .f32⟩
  | 42 => ⟨S1x8x8192x8192, .f32⟩
  | 43 => ⟨S1x8x8192x8192, .i1⟩
  | 44 => ⟨S_, .f32⟩
  | 45 => ⟨S1x8x8192x8192, .f32⟩
  | 46 => ⟨S1x8x8192x8192, .f32⟩
  | 47 => ⟨S_, .f32⟩
  | 48 => ⟨S1x8x8192x8192, .f32⟩
  | 49 => ⟨S1x8x8192x8192, .i1⟩
  | 50 => ⟨S_, .f32⟩
  | 51 => ⟨S1x8x8192x8192, .f32⟩
  | 52 => ⟨S1x8x8192x8192, .f32⟩
  | 53 => ⟨S1x8x8192x8192, .f32⟩
  | 54 => ⟨S1x8x8192x8192, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S1x8x8192x8192, .f32⟩
  | 63 => ⟨S1x8x8192x8192, .i1⟩
  | 64 => ⟨S_, .f32⟩
  | 65 => ⟨S1x8x8192x8192, .f32⟩
  | 66 => ⟨S1x8x8192x8192, .f32⟩
  | 67 => ⟨S1x8x8192x8192, .f32⟩
  | 68 => ⟨S1x8x8192x8192, .f32⟩
  | 69 => ⟨S1x8x8192x8192, .f32⟩
  | 70 => ⟨S_, .f32⟩
  | 71 => ⟨S1x8x8192x8192, .f32⟩
  | 72 => ⟨S1x8x8192x8192, .f32⟩
  | 73 => ⟨S1x8x8192x8192, .f32⟩
  | 74 => ⟨S_, .f32⟩
  | 75 => ⟨S_, .f32⟩
  | 76 => ⟨S1x8x8192x8192, .i1⟩
  | 77 => ⟨S1x8x8192x8192, .f32⟩
  | 78 => ⟨S1x8x8192x8192, .f32⟩
  | 79 => ⟨S_, .f32⟩
  | 80 => ⟨S1x8x8192x8192, .f32⟩
  | 81 => ⟨S_, .f32⟩
  | 82 => ⟨S_, .f32⟩
  | 83 => ⟨S1x8x8192x8192, .f32⟩
  | 84 => ⟨S1x8x8192x8192, .f32⟩
  | 85 => ⟨S1x8x8192x8192, .f32⟩
  | 86 => ⟨S_, .f32⟩
  | 87 => ⟨S1x8x8192x8192, .f32⟩
  | 88 => ⟨S1x8x8192x8192, .f32⟩
  | 89 => ⟨S1x8x8192x8192, .f32⟩
  | 90 => ⟨S1x8x8192x8192, .f32⟩
  | 91 => ⟨S1x8x8192x8192, .i1⟩
  | 92 => ⟨S1x8x8192x8192, .f32⟩
  | 93 => ⟨S1x8x8192x8192, .f32⟩
  | 94 => ⟨S1x8x8192x8192, .f32⟩
  | 95 => ⟨S1x8x8192x8192, .f32⟩
  | 96 => ⟨S1x8x8192x8192, .f32⟩
  | 97 => ⟨S1x8x8192x8192, .f32⟩
  | 98 => ⟨S1x8x8192x8192, .f32⟩
  | 99 => ⟨S1x8x8192x8192, .f32⟩
  | 100 => ⟨S_, .f32⟩
  | 101 => ⟨S1x8x8192x8192, .f32⟩
  | 102 => ⟨S1x8x8192x8192, .i1⟩
  | 103 => ⟨S_, .f32⟩
  | 104 => ⟨S1x8x8192x8192, .f32⟩
  | 105 => ⟨S1x8x8192x8192, .f32⟩
  | 106 => ⟨S_, .f32⟩
  | 107 => ⟨S1x8x8192x8192, .f32⟩
  | 108 => ⟨S1x8x8192x8192, .i1⟩
  | 109 => ⟨S_, .f32⟩
  | 110 => ⟨S1x8x8192x8192, .f32⟩
  | 111 => ⟨S1x8x8192x8192, .f32⟩
  | 112 => ⟨S1x8x8192x8192, .f32⟩
  | 113 => ⟨S1x8x8192x8192, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S1x8x8192x8192, .f32⟩
  | 122 => ⟨S1x8x8192x8192, .i1⟩
  | 123 => ⟨S_, .f32⟩
  | 124 => ⟨S1x8x8192x8192, .f32⟩
  | 125 => ⟨S1x8x8192x8192, .f32⟩
  | 126 => ⟨S1x8x8192x8192, .f32⟩
  | 127 => ⟨S1x8x8192x8192, .f32⟩
  | _ => ⟨S8192x3072, .f32⟩

abbrev hbmTy0_1 (i : Nat) : BufTy := match i % 128 with
  | 0 => ⟨S1x8x8192x8192, .f32⟩
  | 1 => ⟨S_, .f32⟩
  | 2 => ⟨S1x8x8192x8192, .f32⟩
  | 3 => ⟨S1x8x8192x8192, .f32⟩
  | 4 => ⟨S1x8x8192x8192, .f32⟩
  | 5 => ⟨S1x8x8192x8192, .f32⟩
  | 6 => ⟨S1x8x8192x8192, .f32⟩
  | 7 => ⟨S_, .f32⟩
  | 8 => ⟨S_, .f32⟩
  | 9 => ⟨S1x8x8192x8192, .i1⟩
  | 10 => ⟨S1x8x8192x8192, .f32⟩
  | 11 => ⟨S1x8x8192x8192, .f32⟩
  | 12 => ⟨S_, .f32⟩
  | 13 => ⟨S1x8x8192x8192, .f32⟩
  | 14 => ⟨S1x8x8192x128, .f32⟩
  | 15 => ⟨S1x8192x8x128, .f32⟩
  | 16 => ⟨S1x8192x1024, .f32⟩
  | 17 => ⟨S8192x1024, .f32⟩
  | 18 => ⟨S1x8192x1024, .f32⟩
  | 19 => ⟨S1x8192x8x128, .f32⟩
  | 20 => ⟨S1x8x8192x128, .f32⟩
  | 21 => ⟨S1x8x128x8192, .f32⟩
  | 22 => ⟨S1x8x8192x128, .f32⟩
  | 23 => ⟨S1x8x8192x8192, .f32⟩
  | 24 => ⟨S_, .f32⟩
  | 25 => ⟨S1x8x8192x8192, .f32⟩
  | 26 => ⟨S1x8x8192x8192, .f32⟩
  | 27 => ⟨S1x8x8192x8192, .f32⟩
  | 28 => ⟨S1x8x8192x8192, .f32⟩
  | 29 => ⟨S1x8x8192x8192, .f32⟩
  | 30 => ⟨S1x8x8192x8192, .f32⟩
  | 31 => ⟨S1x8x8192x8192, .f32⟩
  | 32 => ⟨S_, .f32⟩
  | 33 => ⟨S_, .f32⟩
  | 34 => ⟨S1x8x8192x8192, .f32⟩
  | 35 => ⟨S1x8x8192x8192, .f32⟩
  | 36 => ⟨S_, .f32⟩
  | 37 => ⟨S1x8x8192x8192, .f32⟩
  | 38 => ⟨S1x8x8192x8192, .f32⟩
  | 39 => ⟨S1x8x8192x8192, .f32⟩
  | 40 => ⟨S1x8x8192x8192, .f32⟩
  | 41 => ⟨S1x8x8192x8192, .f32⟩
  | 42 => ⟨S1x8x8192x8192, .f32⟩
  | 43 => ⟨S1x8x8192x8192, .f32⟩
  | 44 => ⟨S_, .f32⟩
  | 45 => ⟨S1x8x8192x8192, .f32⟩
  | 46 => ⟨S1x8x8192x8192, .f32⟩
  | 47 => ⟨S1x8x8192x128, .f32⟩
  | 48 => ⟨S1x8x8192x128, .f32⟩
  | 49 => ⟨S1x8192x8x128, .f32⟩
  | 50 => ⟨S1x8192x1024, .f32⟩
  | 51 => ⟨S1x8192x8x128, .f32⟩
  | 52 => ⟨S1x8192x1024, .f32⟩
  | 53 => ⟨S1x8192x8x128, .f32⟩
  | 54 => ⟨S1x8192x1024, .f32⟩
  | 55 => ⟨S8192x1024, .f32⟩
  | 56 => ⟨S8192x1024, .f32⟩
  | 57 => ⟨S8192x1024, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v23_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v23_2 : Ref sig .tc := ⟨.hbm, 72, rfl⟩
abbrev main_v23_0 : Ref sig .tc := ⟨.hbm, 73, rfl⟩
abbrev main_cst_0 : Ref sig .tc := ⟨.hbm, 74, rfl⟩
abbrev main_call1_v0 : Ref sig .tc := ⟨.hbm, 75, rfl⟩
abbrev main_v24_1 : Ref sig .tc := ⟨.hbm, 76, rfl⟩
abbrev main_call1_v2 : Ref sig .tc := ⟨.hbm, 77, rfl⟩
abbrev main_v24_0 : Ref sig .tc := ⟨.hbm, 78, rfl⟩
abbrev main_call1_cst : Ref sig .tc := ⟨.hbm, 79, rfl⟩
abbrev main_v24_2 : Ref sig .tc := ⟨.hbm, 80, rfl⟩
abbrev main_call2_cst : Ref sig .tc := ⟨.hbm, 81, rfl⟩
abbrev main_call2_v0 : Ref sig .tc := ⟨.hbm, 82, rfl⟩
abbrev main_v25 : Ref sig .tc := ⟨.hbm, 83, rfl⟩
abbrev main_v26 : Ref sig .tc := ⟨.hbm, 84, rfl⟩
abbrev main_call3_v0 : Ref sig .tc := ⟨.hbm, 85, rfl⟩
abbrev main_call3_call0_cst : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_call0_v2 : Ref sig .tc := ⟨.hbm, 89, rfl⟩
abbrev main_call3_call0_v3 : Ref sig .tc := ⟨.hbm, 90, rfl⟩
abbrev main_call3_call0_v4 : Ref sig .tc := ⟨.hbm, 91, rfl⟩
abbrev main_call3_call0_v5 : Ref sig .tc := ⟨.hbm, 92, rfl⟩
abbrev main_call3_call0_v6 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_v1_0 : Ref sig .tc := ⟨.hbm, 99, rfl⟩
abbrev main_call3_call0_cst_0 : Ref sig .tc := ⟨.hbm, 100, rfl⟩
abbrev main_call3_call0_v13 : Ref sig .tc := ⟨.hbm, 101, rfl⟩
abbrev main_call3_call0_v14 : Ref sig .tc := ⟨.hbm, 102, rfl⟩
abbrev main_call3_call0_cst_1 : Ref sig .tc := ⟨.hbm, 103, rfl⟩
abbrev main_call3_call0_v15 : Ref sig .tc := ⟨.hbm, 104, rfl⟩
abbrev main_call3_call0_v16 : Ref sig .tc := ⟨.hbm, 105, rfl⟩
abbrev main_call3_call0_cst_2 : Ref sig .tc := ⟨.hbm, 106, rfl⟩
abbrev main_call3_call0_v17 : Ref sig .tc := ⟨.hbm, 107, rfl⟩
abbrev main_call3_call0_v18 : Ref sig .tc := ⟨.hbm, 108, rfl⟩
abbrev main_call3_call0_cst_3 : Ref sig .tc := ⟨.hbm, 109, rfl⟩
abbrev main_call3_call0_v19 : Ref sig .tc := ⟨.hbm, 110, rfl⟩
abbrev main_call3_call0_v20 : Ref sig .tc := ⟨.hbm, 111, rfl⟩
abbrev main_call3_call0_v21 : Ref sig .tc := ⟨.hbm, 112, rfl⟩
abbrev main_v27_1 : Ref sig .tc := ⟨.hbm, 113, rfl⟩
abbrev main_call3_call0_cst_4 : Ref sig .tc := ⟨.hbm, 114, rfl⟩
abbrev main_call3_call0_cst_5 : Ref sig .tc := ⟨.hbm, 115, rfl⟩
abbrev main_call3_call0_v23 : Ref sig .tc := ⟨.hbm, 116, rfl⟩
abbrev main_call3_call0_cst_6 : Ref sig .tc := ⟨.hbm, 117, rfl⟩
abbrev main_call3_call0_cst_7 : Ref sig .tc := ⟨.hbm, 118, rfl⟩
abbrev main_call3_call0_v24 : Ref sig .tc := ⟨.hbm, 119, rfl⟩
abbrev main_call3_call0_cst_8 : Ref sig .tc := ⟨.hbm, 120, rfl⟩
abbrev main_call3_call0_v25 : Ref sig .tc := ⟨.hbm, 121, rfl⟩
abbrev main_call3_call0_v26 : Ref sig .tc := ⟨.hbm, 122, rfl⟩
abbrev main_call3_call0_cst_9 : Ref sig .tc := ⟨.hbm, 123, rfl⟩
abbrev main_call3_call0_v27 : Ref sig .tc := ⟨.hbm, 124, rfl⟩
abbrev main_call3_call0_v28 : Ref sig .tc := ⟨.hbm, 125, rfl⟩
abbrev main_call3_call0_v29 : Ref sig .tc := ⟨.hbm, 126, rfl⟩
abbrev main_call3_call0_v30 : Ref sig .tc := ⟨.hbm, 127, rfl⟩
abbrev main_call3_call0_v31 : Ref sig .tc := ⟨.hbm, 128, rfl⟩
abbrev main_call3_call0_cst_10 : Ref sig .tc := ⟨.hbm, 129, rfl⟩
abbrev main_call3_call0_v32 : Ref sig .tc := ⟨.hbm, 130, rfl⟩
abbrev main_v27_2 : Ref sig .tc := ⟨.hbm, 131, rfl⟩
abbrev main_v27_0 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_call5_cst : Ref sig .tc := ⟨.hbm, 152, rfl⟩
abbrev main_call5_v0 : Ref sig .tc := ⟨.hbm, 153, rfl⟩
abbrev main_v41 : Ref sig .tc := ⟨.hbm, 154, rfl⟩
abbrev main_v42 : Ref sig .tc := ⟨.hbm, 155, rfl⟩
abbrev main_call6_v0 : Ref sig .tc := ⟨.hbm, 156, rfl⟩
abbrev main_call6_v1 : Ref sig .tc := ⟨.hbm, 157, rfl⟩
abbrev main_v43 : Ref sig .tc := ⟨.hbm, 158, rfl⟩
abbrev main_v44 : Ref sig .tc := ⟨.hbm, 159, rfl⟩
abbrev main_call7_cst : Ref sig .tc := ⟨.hbm, 160, rfl⟩
abbrev main_call7_v0 : Ref sig .tc := ⟨.hbm, 161, rfl⟩
abbrev main_v45 : Ref sig .tc := ⟨.hbm, 162, rfl⟩
abbrev main_v46 : Ref sig .tc := ⟨.hbm, 163, rfl⟩
abbrev main_call8_cst : Ref sig .tc := ⟨.hbm, 164, rfl⟩
abbrev main_call8_v0 : Ref sig .tc := ⟨.hbm, 165, rfl⟩
abbrev main_v47 : Ref sig .tc := ⟨.hbm, 166, rfl⟩
abbrev main_call9_v0 : Ref sig .tc := ⟨.hbm, 167, rfl⟩
abbrev main_call9_v1 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_cst_2 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S2048x11264 : Shape := ⟨2, ![2048, 11264]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S8192x11264 : Shape := ⟨2, ![8192, 11264]⟩
abbrev S1024x2048 : Shape := ⟨2, ![1024, 2048]⟩
abbrev S2048x1408 : Shape := ⟨2, ![2048, 1408]⟩
abbrev S1024x1408 : Shape := ⟨2, ![1024, 1408]⟩
abbrev S8192x5632 : Shape := ⟨2, ![8192, 5632]⟩
abbrev S128x5632 : Shape := ⟨2, ![128, 5632]⟩
abbrev S1408x1024 : Shape := ⟨2, ![1408, 1024]⟩
abbrev S1024x1024 : Shape := ⟨2, ![1024, 1024]⟩
abbrev S1408x2048 : Shape := ⟨2, ![1408, 2048]⟩
abbrev S5632x8192 : Shape := ⟨2, ![5632, 8192]⟩
abbrev S2048x1024 : Shape := ⟨2, ![2048, 1024]⟩
abbrev S128x11264 : Shape := ⟨2, ![128, 11264]⟩
abbrev S2048x8192 : Shape := ⟨2, ![2048, 8192]⟩

abbrev nBuf : Space → Nat
  | .hbm => 38
  | .vmem => 86
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S8192x2048, .f32⟩
  | .hbm, ⟨7, _⟩ => ⟨S2048x5632, .bf16⟩
  | .hbm, ⟨8, _⟩ => ⟨S2048x5632, .bf16⟩
  | .hbm, ⟨9, _⟩ => ⟨S2048x11264, .bf16⟩
  | .hbm, ⟨10, _⟩ => ⟨S5632x2048, .bf16⟩
  | .hbm, ⟨11, _⟩ => ⟨S1x2048, .f32⟩
  | .hbm, ⟨12, _⟩ => ⟨S8192x2048, .bf16⟩
  | .hbm, ⟨13, _⟩ => ⟨S8192x11264, .bf16⟩
  | .hbm, ⟨14, _⟩ => ⟨S8192x5632, .bf16⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S1x2048, .f32⟩
  | .hbm, ⟨19, _⟩ => ⟨S8192x2048, .bf16⟩
  | .hbm, ⟨20, _⟩ => ⟨S1x2048, .f32⟩
  | .hbm, ⟨21, _⟩ => ⟨S2048, .f32⟩
  | .hbm, ⟨22, _⟩ => ⟨S8192x5632, .f32⟩
  | .hbm, ⟨23, _⟩ => ⟨S5632x8192, .bf16⟩
  | .hbm, ⟨24, _⟩ => ⟨S5632x2048, .bf16⟩
  | .hbm, ⟨25, _⟩ => ⟨S8192x11264, .bf16⟩
  | .hbm, ⟨26, _⟩ => ⟨S8192x2048, .f32⟩
  | .hbm, ⟨27, _⟩ => ⟨S2048x8192, .bf16⟩
  | .hbm, ⟨28, _⟩ => ⟨S2048x11264, .bf16⟩
  | .hbm, ⟨29, _⟩ => ⟨S1x2048, .f32⟩
  | .hbm, ⟨30, _⟩ => ⟨S8192x2048, .f32⟩
  | .hbm, ⟨31, _⟩ => ⟨S1x2048, .f32⟩
  | .hbm, ⟨32, _⟩ => ⟨S2048, .f32⟩
  | .hbm, ⟨33, _⟩ => ⟨S2048x5632, .bf16⟩
  | .hbm, ⟨34, _⟩ => ⟨S2048x5632, .f32⟩
  | .hbm, ⟨35, _⟩ => ⟨S2048x5632, .bf16⟩
  | .hbm, ⟨36, _⟩ => ⟨S2048x5632, .f32⟩
  | .hbm, ⟨37, _⟩ => ⟨S5632x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1408, .bf16⟩
  | .local _ .vmem, ⟨8, _⟩ => ⟨S2048x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .f32⟩
  | .local _ .vmem, ⟨12, _⟩ => ⟨S128x5632, .bf16⟩
  | .local _ .vmem, ⟨13, _⟩ => ⟨S128x5632, .bf16⟩
  | .local _ .vmem, ⟨14, _⟩ => ⟨S128x5632, .bf16⟩
  | .local _ .vmem, ⟨15, _⟩ => ⟨S128x5632, .bf16⟩
  | .local _ .vmem, ⟨16, _⟩ => ⟨S128x5632, .bf16⟩
  | .local _ .vmem, ⟨17, _⟩ => ⟨S128x5632, .bf16⟩
  | .local _ .vmem, ⟨18, _⟩ => ⟨S1024x1408, .bf16⟩
  | .local _ .vmem, ⟨19, _⟩ => ⟨S1024x1408, .bf16⟩
  | .local _ .vmem, ⟨20, _⟩ => ⟨S1408x1024, .bf16⟩
  | .local _ .vmem, ⟨21, _⟩ => ⟨S1408x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S256x2048, .f32⟩
  | .local _ .vmem, ⟨26, _⟩ => ⟨S256x2048, .f32⟩
  | .local _ .vmem, ⟨27, _⟩ => ⟨S1x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S1x2048, .f32⟩
  | .local _ .vmem, ⟨35, _⟩ => ⟨S256x2048, .f32⟩
  | .local _ .vmem, ⟨36, _⟩ => ⟨S256x2048, .f32⟩
  | .local _ .vmem, ⟨37, _⟩ => ⟨S256x2048, .bf16⟩
  | .local _ .vmem, ⟨38, _⟩ => ⟨S256x2048, .bf16⟩
  | .local _ .vmem, ⟨39, _⟩ => ⟨S1x2048, .f32⟩
  | .local _ .vmem, ⟨40, _⟩ => ⟨S1024x2048, .bf16⟩
  | .local _ .vmem, ⟨41, _⟩ => ⟨S1024x2048, .bf16⟩
  | .local _ .vmem, ⟨42, _⟩ => ⟨S1408x2048, .bf16⟩
  | .local _ .vmem, ⟨43, _⟩ => ⟨S1408x2048, .bf16⟩
  | .local _ .vmem, ⟨44, _⟩ => ⟨S1024x1408, .f32⟩
  | .local _ .vmem, ⟨45, _⟩ => ⟨S1024x1408, .f32⟩
  | .local _ .vmem, ⟨46, _⟩ => ⟨S1024x1408, .f32⟩
  | .local _ .vmem, ⟨47, _⟩ => ⟨S1408x2048, .bf16⟩
  | .local _ .vmem, ⟨48, _⟩ => ⟨S1408x2048, .bf16⟩
  | .local _ .vmem, ⟨49, _⟩ => ⟨S2048x1024, .bf16⟩
  | .local _ .vmem, ⟨50, _⟩ => ⟨S2048x1024, .bf16⟩
  | .local _ .vmem, ⟨51, _⟩ => ⟨S1408x1024, .bf16⟩
  | .local _ .vmem, ⟨52, _⟩ => ⟨S1408x1024, .bf16⟩
  | .local _ .vmem, ⟨53, _⟩ => ⟨S1408x1024, .f32⟩
  | .local _ .vmem, ⟨54, _⟩ => ⟨S128x5632, .bf16⟩
  | .local _ .vmem, ⟨55, _⟩ => ⟨S128x5632, .bf16⟩
  | .local _ .vmem, ⟨56, _⟩ => ⟨S128x5632, .bf16⟩
  | .local _ .vmem, ⟨57, _⟩ => ⟨S128x5632, .bf16⟩
  | .local _ .vmem, ⟨58, _⟩ => ⟨S128x5632, .f32⟩
  | .local _ .vmem, ⟨59, _⟩ => ⟨S128x5632, .f32⟩
  | .local _ .vmem, ⟨60, _⟩ => ⟨S128x11264, .bf16⟩
  | .local _ .vmem, ⟨61, _⟩ => ⟨S128x11264, .bf16⟩
  | .local _ .vmem, ⟨62, _⟩ => ⟨S1024x1408, .bf16⟩
  | .local _ .vmem, ⟨63, _⟩ => ⟨S1024x1408, .bf16⟩
  | .local _ .vmem, ⟨64, _⟩ => ⟨S1024x1408, .bf16⟩
  | .local _ .vmem, ⟨65, _⟩ => ⟨S1024x1408, .bf16⟩
  | .local _ .vmem, ⟨66, _⟩ => ⟨S1024x1024, .f32⟩
  | .local _ .vmem, ⟨67, _⟩ => ⟨S1024x1024, .f32⟩
  | .local _ .vmem, ⟨68, _⟩ => ⟨S1024x1024, .f32⟩
  | .local _ .vmem, ⟨69, _⟩ => ⟨S1024x2048, .bf16⟩
  | .local _ .vmem, ⟨70, _⟩ => ⟨S1024x2048, .bf16⟩
  | .local _ .vmem, ⟨71, _⟩ => ⟨S2048x1408, .bf16⟩
  | .local _ .vmem, ⟨72, _⟩ => ⟨S2048x1408, .bf16⟩
  | .local _ .vmem, ⟨73, _⟩ => ⟨S1024x1408, .bf16⟩
  | .local _ .vmem, ⟨74, _⟩ => ⟨S1024x1408, .bf16⟩
  | .local _ .vmem, ⟨75, _⟩ => ⟨S1024x1408, .f32⟩
  | .local _ .vmem, ⟨76, _⟩ => ⟨S256x2048, .f32⟩
  | .local _ .vmem, ⟨77, _⟩ => ⟨S256x2048, .f32⟩
  | .local _ .vmem, ⟨78, _⟩ => ⟨S1x2048, .f32⟩
  | .local _ .vmem, ⟨79, _⟩ => ⟨S256x2048, .f32⟩
  | .local _ .vmem, ⟨80, _⟩ => ⟨S256x2048, .f32⟩
  | .local _ .vmem, ⟨81, _⟩ => ⟨S256x2048, .f32⟩
  | .local _ .vmem, ⟨82, _⟩ => ⟨S256x2048, .f32⟩
  | .local _ .vmem, ⟨83, _⟩ => ⟨S256x2048, .f32⟩
  | .local _ .vmem, ⟨84, _⟩ => ⟨S256x2048, .f32⟩
  | .local _ .vmem, ⟨85, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc5_stg4_0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_scratch0 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_scratch0 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg2_1 : Ref sig .tc := ⟨.vmem, 59, rfl⟩
abbrev cc8_stg3_0 : Ref sig .tc := ⟨.vmem, 60, rfl⟩
abbrev cc8_stg3_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg2_1 : Ref sig .tc := ⟨.vmem, 67, rfl⟩
abbrev cc9_scratch0 : Ref sig .tc := ⟨.vmem, 68, rfl⟩
abbrev cc10_stg0_0 : Ref sig .tc := ⟨.vmem, 69, rfl⟩
abbrev cc10_stg0_1 : Ref sig .tc := ⟨.vmem, 70, rfl⟩
abbrev cc10_stg1_0 : Ref sig .tc := ⟨.vmem, 71, rfl⟩
abbrev cc10_stg1_1 : Ref sig .tc := ⟨.vmem, 72, rfl⟩
abbrev cc10_stg2_0 : Ref sig .tc := ⟨.vmem, 73, rfl⟩
abbrev cc10_stg2_1 : Ref sig .tc := ⟨.vmem, 74, rfl⟩
abbrev cc10_scratch0 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg2_0 : Ref sig .tc := ⟨.vmem, 79, rfl⟩
abbrev cc11_stg2_1 : Ref sig .tc := ⟨.vmem, 80, rfl⟩
abbrev cc11_stg3_0 : Ref sig .tc := ⟨.vmem, 81, rfl⟩
abbrev cc11_stg3_1 : Ref sig .tc := ⟨.vmem, 82, rfl⟩
abbrev cc11_stg4_0 : Ref sig .tc := ⟨.vmem, 83, rfl⟩
abbrev cc11_stg4_1 : Ref sig .tc := ⟨.vmem, 84, rfl⟩
abbrev cc11_stg5_0 : Ref sig .tc := ⟨.vmem, 85, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem2_1 : DmaSem sig := 34
abbrev cc5_sem3_0 : DmaSem sig := 35
abbrev cc5_sem3_1 : DmaSem sig := 36
abbrev cc5_sem4_0 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc8_sem3_0 : DmaSem sig := 56
abbrev cc8_sem3_1 : DmaSem sig := 57
abbrev cc9_sem0_0 : DmaSem sig := 58
abbrev cc9_sem0_1 : DmaSem sig := 59
abbrev cc9_sem1_0 : DmaSem sig := 60
abbrev cc9_sem1_1 : DmaSem sig := 61
abbrev cc9_sem2_0 : DmaSem sig := 62
abbrev cc9_sem2_1 : DmaSem sig := 63
abbrev cc10_sem0_0 : DmaSem sig := 64
abbrev cc10_sem0_1 : DmaSem sig := 65
abbrev cc10_sem1_0 : DmaSem sig := 66
abbrev cc10_sem1_1 : DmaSem sig := 67
abbrev cc10_sem2_0 : DmaSem sig := 68
abbrev cc10_sem2_1 : DmaSem sig := 69
abbrev cc11_sem0_0 : DmaSem sig := 70
abbrev cc11_sem0_1 : DmaSem sig := 71
abbrev cc11_sem1_0 : DmaSem sig := 72
abbrev cc11_sem2_0 : DmaSem sig := 73
abbrev cc11_sem2_1 : DmaSem sig := 74
abbrev cc11_sem3_0 : DmaSem sig := 75
abbrev cc11_sem3_1 : DmaSem sig := 76
abbrev cc11_sem4_0 : DmaSem sig := 77
abbrev cc11_sem4_1 : DmaSem sig := 78
abbrev cc11_sem5_0 : DmaSem sig := 79

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 8, 1], ![false, false, false]⟩

def k1_cond3 (i : grid1.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x5632 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x5632 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![8, 2, 4], ![false, false, false]⟩

def k3_cond3 (i : grid3.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1408x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![32], ![false]⟩

def k5_cond1 (i : grid5.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_12 : BitVec 32 := 0#32
  let v34 : BitVec 1 := Scalar.cmpi .ne v33 c0_i32_12
  v34

def k5_cond2 (i : grid5.Coords) : BitVec 1 :=
  let arg0 : BitVec 32 := BitVec.ofNat 32 (i 0).val
  let c0_i32 : BitVec 32 := 0#32
  let v32 : BitVec 1 := Scalar.cmpi .eq arg0 c0_i32
  let v_true : BitVec 1 := 1#1
  let v35 : BitVec 1 := Scalar.xori v32 v_true
  let v36 : BitVec 32 := Scalar.extui v35
  let c0_i32_13 : BitVec 32 := 0#32
  let v37 : BitVec 1 := Scalar.cmpi .ne v36 c0_i32_13
  v37

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x2048 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x2048 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨3, ![8, 4, 1], ![false, false, false]⟩

def k6_cond3 (i : grid6.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1408x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1408 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 2, 4], ![false, false, false]⟩

def k7_cond3 (i : grid7.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1408x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1408x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨1, ![64], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c1_i32 : BitVec 32 := 1#32
  let c0_i32 : BitVec 32 := 0#32
  ![arg0.toNat, c1_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S128x5632 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S128x5632 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S128x5632 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S128x11264 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨3, ![8, 2, 8], ![false, false, false]⟩

def k9_cond3 (i : grid9.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1024x1408 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1024x1408 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![2, 8, 4], ![false, false, false]⟩

def k10_cond3 (i : grid10.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S2048x1408 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S1024x1408 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨1, ![32], ![false]⟩

def k11_cond1 (i : grid11.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_14 : BitVec 32 := 0#32
  let v35 : BitVec 1 := Scalar.cmpi .ne v34 c0_i32_14
  v35

def k11_cond2 (i : grid11.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_15 : BitVec 32 := 0#32
  let v38 : BitVec 1 := Scalar.cmpi .ne v37 c0_i32_15
  v38

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S256x2048 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x2048 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S256x2048 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S256x2048 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S256x2048 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 1 → Memref sig .tc .vmem S1x2048 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]
-- ==== Reference2Ideal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 133
  | .vmem => 0
  | .smem => 0
  | _ => 0

abbrev hbmTy0_0 (i : Nat) : BufTy := match i % 128 with
  | 0 => ⟨S8192x2048, .f32⟩
  | 1 => ⟨S2048, .f32⟩
  | 2 => ⟨S2048, .f32⟩
  | 3 => ⟨S2048x5632, .f32⟩
  | 4 => ⟨S2048x5632, .f32⟩
  | 5 => ⟨S5632x2048, .f32⟩
  | 6 => ⟨S8192x2048, .f32⟩
  | 7 => ⟨S8192x2048, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x2048, .f32⟩
  | 23 => ⟨S8192x2048, .f32⟩
  | 24 => ⟨S1x2048, .f32⟩
  | 25 => ⟨S8192x2048, .f32⟩
  | 26 => ⟨S8192x2048, .f32⟩
  | 27 => ⟨S8192x5632, .f32⟩
  | 28 => ⟨S8192x5632, .f32⟩
  | 29 => ⟨S8192x5632, .f32⟩
  | 30 => ⟨S_, .f32⟩
  | 31 => ⟨S8192x5632, .f32⟩
  | 32 => ⟨S8192x5632, .f32⟩
  | 33 => ⟨S_, .f32⟩
  | 34 => ⟨S8192x5632, .f32⟩
  | 35 => ⟨S8192x5632, .f32⟩
  | 36 => ⟨S_, .f32⟩
  | 37 => ⟨S8192x5632, .f32⟩
  | 38 => ⟨S8192x5632, .f32⟩
  | 39 => ⟨S8192x5632, .f32⟩
  | 40 => ⟨S8192x5632, .f32⟩
  | 41 => ⟨S8192x5632, .f32⟩
  | 42 => ⟨S8192x5632, .f32⟩
  | 43 => ⟨S8192x2048, .f32⟩
  | 44 => ⟨S8192x2048, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x2048, .f32⟩
  | 60 => ⟨S8192x2048, .f32⟩
  | 61 => ⟨S1x2048, .f32⟩
  | 62 => ⟨S8192x2048, .f32⟩
  | 63 => ⟨S8192x2048, .f32⟩
  | 64 => ⟨S8192x2048, .f32⟩
  | 65 => ⟨S8192x2048, .f32⟩
  | 66 => ⟨S8192x2048, .f32⟩
  | 67 => ⟨S_, .f32⟩
  | 68 => ⟨S2048, .f32⟩
  | 69 => ⟨S1x2048, .f32⟩
  | 70 => ⟨S8192x2048, .f32⟩
  | 71 => ⟨S8192x2048, .f32⟩
  | 72 => ⟨S_, .f32⟩
  | 73 => ⟨S2048, .f32⟩
  | 74 => ⟨S8192x2048, .f32⟩
  | 75 => ⟨S_, .f32⟩
  | 76 => ⟨S8192, .f32⟩
  | 77 => ⟨S8192x1, .f32⟩
  | 78 => ⟨S8192x2048, .f32⟩
  | 79 => ⟨S8192x2048, .f32⟩
  | 80 => ⟨S8192x1, .f32⟩
  | 81 => ⟨S_, .f32⟩
  | 82 => ⟨S8192x1, .f32⟩
  | 83 => ⟨S8192x1, .f32⟩
  | 84 => ⟨S_, .f32⟩
  | 85 => ⟨S8192, .f32⟩
  | 86 => ⟨S8192x2048, .f32⟩
  | 87 => ⟨S8192x2048, .f32⟩
  | 88 => ⟨S8192x2048, .f32⟩
  | 89 => ⟨S8192x2048, .f32⟩
  | 90 => ⟨S8192x2048, .f32⟩
  | 91 => ⟨S2048x5632, .f32⟩
  | 92 => ⟨S5632x2048, .f32⟩
  | 93 => ⟨S8192x5632, .f32⟩
  | 94 => ⟨S8192x5632, .f32⟩
  | 95 => ⟨S8192x5632, .f32⟩
  | 96 => ⟨S5632x2048, .f32⟩
  | 97 => ⟨S2048x5632, .f32⟩
  | 98 => ⟨S8192x2048, .f32⟩
  | 99 => ⟨S8192x5632, .f32⟩
  | 100 => ⟨S8192x5632, .f32⟩
  | 101 => ⟨S8192x5632, .f32⟩
  | 102 => ⟨S8192x5632, .f32⟩
  | 103 => ⟨S5632x2048, .f32⟩
  | 104 => ⟨S2048x5632, .f32⟩
  | 105 => ⟨S8192x2048, .f32⟩
  | 106 => ⟨S8192x2048, .f32⟩
  | 107 => ⟨S8192x2048, .f32⟩
  | 108 => ⟨S_, .f32⟩
  | 109 => ⟨S2048, .f32⟩
  | 110 => ⟨S1x2048, .f32⟩
  | 111 => ⟨S8192x2048, .f32⟩
  | 112 => ⟨S8192x2048, .f32⟩
  | 113 => ⟨S_, .f32⟩
  | 114 => ⟨S2048, .f32⟩
  | 115 => ⟨S8192x2048, .f32⟩
  | 116 => ⟨S_, .f32⟩
  | 117 => ⟨S8192, .f32⟩
  | 118 => ⟨S8192x1, .f32⟩
  | 119 => ⟨S8192x2048, .f32⟩
  | 120 => ⟨S8192x2048, .f32⟩
  | 121 => ⟨S8192x2048, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192, .f32⟩
  | _ => ⟨S8192x2048, .f32⟩

abbrev hbmTy0_1 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v17_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v17_1 : Ref sig .tc := ⟨.hbm, 39, rfl⟩
abbrev main_v17_0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_13 : Ref sig .tc := ⟨.hbm, 113, rfl⟩
abbrev main_v77 : Ref sig .tc := ⟨.hbm, 114, rfl⟩
abbrev main_v78 : Ref sig .tc := ⟨.hbm, 115, rfl⟩
abbrev main_cst_14 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_15 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2048x16400 : Shape := ⟨2, ![2048, 16400]⟩
abbrev S8192x16400 : Shape := ⟨2, ![8192, 16400]⟩
abbrev S_ : Shape := ⟨0, ![]⟩
abbrev S2048x496 : Shape := ⟨2, ![2048, 496]⟩
abbrev S2048x10240 : Shape := ⟨2, ![2048, 10240]⟩
abbrev S2048x6144 : Shape := ⟨2, ![2048, 6144]⟩
abbrev S2048x16 : Shape := ⟨2, ![2048, 16]⟩
abbrev S2048x16896 : Shape := ⟨2, ![2048, 16896]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S8192x16896 : Shape := ⟨2, ![8192, 16896]⟩
abbrev S1024x2048 : Shape := ⟨2, ![1024, 2048]⟩
abbrev S2048x1408 : Shape := ⟨2, ![2048, 1408]⟩
abbrev S1024x1408 : Shape := ⟨2, ![1024, 1408]⟩
abbrev S8192x496 : Shape := ⟨2, ![8192, 496]⟩
abbrev S8192x10240 : Shape := ⟨2, ![8192, 10240]⟩
abbrev S8192x6144 : Shape := ⟨2, ![8192, 6144]⟩
abbrev S8192x16 : Shape := ⟨2, ![8192, 16]⟩
abbrev S1024x1536 : Shape := ⟨2, ![1024, 1536]⟩
abbrev S1024x1024 : Shape := ⟨2, ![1024, 1024]⟩
abbrev S2048x8192 : Shape := ⟨2, ![2048, 8192]⟩
abbrev S2048x1536 : Shape := ⟨2, ![2048, 1536]⟩

abbrev nBuf : Space → Nat
  | .hbm => 38
  | .vmem => 36
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x16400, .f32⟩
  | .hbm, ⟨3, _⟩ => ⟨S8192x16400, .f32⟩
  | .hbm, ⟨4, _⟩ => ⟨S8192x2048, .f32⟩
  | .hbm, ⟨5, _⟩ => ⟨S2048x16400, .bf16⟩
  | .hbm, ⟨6, _⟩ => ⟨S_, .bf16⟩
  | .hbm, ⟨7, _⟩ => ⟨S2048x496, .bf16⟩
  | .hbm, ⟨8, _⟩ => ⟨S2048x10240, .bf16⟩
  | .hbm, ⟨9, _⟩ => ⟨S2048x6144, .bf16⟩
  | .hbm, ⟨10, _⟩ => ⟨S2048x16, .bf16⟩
  | .hbm, ⟨11, _⟩ => ⟨S2048x16896, .bf16⟩
  | .hbm, ⟨12, _⟩ => ⟨S1x2048, .f32⟩
  | .hbm, ⟨13, _⟩ => ⟨S8192x2048, .bf16⟩
  | .hbm, ⟨14, _⟩ => ⟨S8192x16896, .f32⟩
  | .hbm, ⟨15, _⟩ => ⟨S_, .f32⟩
  | .hbm, ⟨16, _⟩ => ⟨S8192x496, .f32⟩
  | .hbm, ⟨17, _⟩ => ⟨S8192x10240, .f32⟩
  | .hbm, ⟨18, _⟩ => ⟨S8192x6144, .f32⟩
  | .hbm, ⟨19, _⟩ => ⟨S8192x16, .f32⟩
  | .hbm, ⟨20, _⟩ => ⟨S8192x16896, .f32⟩
  | .hbm, ⟨21, _⟩ => ⟨S8192x16896, .bf16⟩
  | .hbm, ⟨22, _⟩ => ⟨S8192x2048, .f32⟩
  | .hbm, ⟨23, _⟩ => ⟨S2048x8192, .bf16⟩
  | .hbm, ⟨24, _⟩ => ⟨S2048x16896, .bf16⟩
  | .hbm, ⟨25, _⟩ => ⟨S1x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S8192x10240, .f32⟩
  | .hbm, ⟨30, _⟩ => ⟨S8192x16, .f32⟩
  | .hbm, ⟨31, _⟩ => ⟨S8192x6144, .f32⟩
  | .hbm, ⟨32, _⟩ => ⟨S8192x16400, .f32⟩
  | .hbm, ⟨33, _⟩ => ⟨S2048x10240, .bf16⟩
  | .hbm, ⟨34, _⟩ => ⟨S2048x16, .bf16⟩
  | .hbm, ⟨35, _⟩ => ⟨S2048x6144, .bf16⟩
  | .hbm, ⟨36, _⟩ => ⟨S2048x16400, .bf16⟩
  | .hbm, ⟨37, _⟩ => ⟨S2048x16400, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1408, .bf16⟩
  | .local _ .vmem, ⟨8, _⟩ => ⟨S2048x1408, .bf16⟩
  | .local _ .vmem, ⟨9, _⟩ => ⟨S1024x1408, .f32⟩
  | .local _ .vmem, ⟨10, _⟩ => ⟨S1024x1408, .f32⟩
  | .local _ .vmem, ⟨11, _⟩ => ⟨S1024x1408, .f32⟩
  | .local _ .vmem, ⟨12, _⟩ => ⟨S1024x1536, .bf16⟩
  | .local _ .vmem, ⟨13, _⟩ => ⟨S1024x1536, .bf16⟩
  | .local _ .vmem, ⟨14, _⟩ => ⟨S1024x1536, .bf16⟩
  | .local _ .vmem, ⟨15, _⟩ => ⟨S1024x1536, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x2048, .bf16⟩
  | .local _ .vmem, ⟨20, _⟩ => ⟨S1024x2048, .bf16⟩
  | .local _ .vmem, ⟨21, _⟩ => ⟨S2048x1536, .bf16⟩
  | .local _ .vmem, ⟨22, _⟩ => ⟨S2048x1536, .bf16⟩
  | .local _ .vmem, ⟨23, _⟩ => ⟨S1024x1536, .bf16⟩
  | .local _ .vmem, ⟨24, _⟩ => ⟨S1024x1536, .bf16⟩
  | .local _ .vmem, ⟨25, _⟩ => ⟨S1024x1536, .f32⟩
  | .local _ .vmem, ⟨26, _⟩ => ⟨S256x2048, .f32⟩
  | .local _ .vmem, ⟨27, _⟩ => ⟨S256x2048, .f32⟩
  | .local _ .vmem, ⟨28, _⟩ => ⟨S1x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg4_1 : Ref sig .tc := ⟨.vmem, 34, rfl⟩
abbrev cc4_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem3_1 : DmaSem sig := 29
abbrev cc4_sem4_0 : DmaSem sig := 30
abbrev cc4_sem4_1 : DmaSem sig := 31
abbrev cc4_sem5_0 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 12, 1], ![false, false, false]⟩

def k1_cond3 (i : grid1.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 2, 11], ![false, false, false]⟩

def k2_cond3 (i : grid2.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_6 : BitVec 32 := 0#32
  let v13 : BitVec 1 := Scalar.cmpi .ne v12 c0_i32_6
  v13

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1536 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1536 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 11, 4], ![false, false, false]⟩

def k3_cond3 (i : grid3.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1536 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1536 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![32], ![false]⟩

def k4_cond1 (i : grid4.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_14 : BitVec 32 := 0#32
  let v35 : BitVec 1 := Scalar.cmpi .ne v34 c0_i32_14
  v35

def k4_cond2 (i : grid4.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_15 : BitVec 32 := 0#32
  let v38 : BitVec 1 := Scalar.cmpi .ne v37 c0_i32_15
  v38

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x2048 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]
-- ==== Reference3Ideal.lean ====
abbrev S8192x2048 : Shape := ⟨2, ![8192, 2048]⟩
abbrev S2048 : Shape := ⟨1, ![2048]⟩
abbrev S2048x16400 : Shape := ⟨2, ![2048, 16400]⟩
abbrev S8192x16400 : Shape := ⟨2, ![8192, 16400]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S16400x2048 : Shape := ⟨2, ![16400, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x16400, .f32⟩
  | .hbm, ⟨3, _⟩ => ⟨S8192x16400, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x16400, .f32⟩
  | .hbm, ⟨26, _⟩ => ⟨S16400x2048, .f32⟩
  | .hbm, ⟨27, _⟩ => ⟨S2048x16400, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S2048 : Shape := ⟨1, ![2048]⟩
abbrev S1024x2048 : Shape := ⟨2, ![1024, 2048]⟩
abbrev S2048x1024 : Shape := ⟨2, ![2048, 1024]⟩
abbrev S1024x1024 : Shape := ⟨2, ![1024, 1024]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048x8192 : Shape := ⟨2, ![2048, 8192]⟩

abbrev nBuf : Space → Nat
  | .hbm => 18
  | .vmem => 36
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S8192x2048, .bf16⟩
  | .hbm, ⟨6, _⟩ => ⟨S2048x2048, .bf16⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S1x2048, .f32⟩
  | .hbm, ⟨11, _⟩ => ⟨S8192x2048, .bf16⟩
  | .hbm, ⟨12, _⟩ => ⟨S1x2048, .f32⟩
  | .hbm, ⟨13, _⟩ => ⟨S2048, .f32⟩
  | .hbm, ⟨14, _⟩ => ⟨S8192x2048, .f32⟩
  | .hbm, ⟨15, _⟩ => ⟨S2048x8192, .bf16⟩
  | .hbm, ⟨16, _⟩ => ⟨S2048x2048, .bf16⟩
  | .hbm, ⟨17, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | .local _ .vmem, ⟨21, _⟩ => ⟨S1x2048, .f32⟩
  | .local _ .vmem, ⟨22, _⟩ => ⟨S1024x2048, .bf16⟩
  | .local _ .vmem, ⟨23, _⟩ => ⟨S1024x2048, .bf16⟩
  | .local _ .vmem, ⟨24, _⟩ => ⟨S1024x2048, .bf16⟩
  | .local _ .vmem, ⟨25, _⟩ => ⟨S1024x2048, .bf16⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x2048, .bf16⟩
  | .local _ .vmem, ⟨30, _⟩ => ⟨S1024x2048, .bf16⟩
  | .local _ .vmem, ⟨31, _⟩ => ⟨S2048x1024, .bf16⟩
  | .local _ .vmem, ⟨32, _⟩ => ⟨S2048x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def k2_cond1 (i : grid2.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_12 : BitVec 32 := 0#32
  let v34 : BitVec 1 := Scalar.cmpi .ne v33 c0_i32_12
  v34

def k2_cond2 (i : grid2.Coords) : BitVec 1 :=
  let arg0 : BitVec 32 := BitVec.ofNat 32 (i 0).val
  let c0_i32 : BitVec 32 := 0#32
  let v32 : BitVec 1 := Scalar.cmpi .eq arg0 c0_i32
  let v_true : BitVec 1 := 1#1
  let v35 : BitVec 1 := Scalar.xori v32 v_true
  let v36 : BitVec 32 := Scalar.extui v35
  let c0_i32_13 : BitVec 32 := 0#32
  let v37 : BitVec 1 := Scalar.cmpi .ne v36 c0_i32_13
  v37

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨3, ![8, 2, 1], ![false, false, false]⟩

def k3_cond3 (i : grid3.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 4], ![false, false, false]⟩

def k4_cond3 (i : grid4.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference4Ideal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S2048x2048, .f32⟩
  | .hbm, ⟨53, _⟩ => ⟨S2048x2048, .f32⟩
  | .hbm, ⟨54, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩
abbrev S1024x8192 : Shape := ⟨2, ![1024, 8192]⟩
abbrev S2048x1024 : Shape := ⟨2, ![2048, 1024]⟩

abbrev nBuf : Space → Nat
  | .hbm => 11
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .bf16⟩
  | .hbm, ⟨4, _⟩ => ⟨S1024x2048, .bf16⟩
  | .hbm, ⟨5, _⟩ => ⟨S8192x2048, .bf16⟩
  | .hbm, ⟨6, _⟩ => ⟨S8192x2048, .f32⟩
  | .hbm, ⟨7, _⟩ => ⟨S8192x1024, .f32⟩
  | .hbm, ⟨8, _⟩ => ⟨S1024x8192, .bf16⟩
  | .hbm, ⟨9, _⟩ => ⟨S1024x2048, .bf16⟩
  | .hbm, ⟨10, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x2048, .bf16⟩
  | .local _ .vmem, ⟨14, _⟩ => ⟨S1024x2048, .bf16⟩
  | .local _ .vmem, ⟨15, _⟩ => ⟨S2048x1024, .bf16⟩
  | .local _ .vmem, ⟨16, _⟩ => ⟨S2048x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def k1_cond3 (i : grid1.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 4], ![false, false, false]⟩

def k2_cond3 (i : grid2.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference5Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Lift.lean ====
/- Vectors of extended reals all of whose entries are real numbers, given by a function of their coordinates, and
   what the vector operations of the kernel make of them: each operation on such vectors is such a vector again. -/
module

public import proofs.«01_k».proof.Proof.Gen.KernelIdeal
public import Idealize.ShloMosaic.Lib.MatmulPlain
public import Idealize.ShloMosaic.Lib.ValueIdx
public import Idealize.ShloMosaic.Lib.Pipeline.Value

@[expose] public section

set_option maxRecDepth 16384

noncomputable section

namespace Cert.Stick

open Idealize.ShloMosaic Idealize.ShloMosaic.ValueIdx Cert.KernelIdeal Cert.KernelIdeal.Facts
open scoped BigOperators

/-- The matrix whose entry at row `r` and column `c` is the real number `f r c`. -/
def L2 {d : Fin 2 → ℕ} (φ : FTy) (f : ℕ → ℕ → ℝ) : FVec Ideal ⟨2, d⟩ φ := fun i => ((f (i 0).val (i 1).val : ℝ) : EReal)

/-- The matrix of single bits whose entry at row `r` and column `c` says whether `p r c`. -/
def B2 {d : Fin 2 → ℕ} (p : ℕ → ℕ → Bool) : IVec ⟨2, d⟩ 1 := fun i => BitVec.ofBool (p (i 0).val (i 1).val)

variable {d : Fin 2 → ℕ} {φ ψ : FTy} (f g : ℕ → ℕ → ℝ)

theorem L2_apply (i : (⟨2, d⟩ : Shape).Idx) : L2 φ f i = ((f (i 0).val (i 1).val : ℝ) : EReal) := rfl

/-- Two functions that agree inside the shape give the same matrix. -/
theorem L2_congr {f g : ℕ → ℕ → ℝ} (h : ∀ r c, r < d 0 → c < d 1 → f r c = g r c) : L2 (d := d) φ f = L2 φ g :=
  funext fun i => congrArg _ (h _ _ (i 0).isLt (i 1).isLt)

theorem addf_L2 : addf (L2 (d := d) φ f) (L2 φ g) = L2 φ (fun r c => f r c + g r c) := funext fun _ => (EReal.coe_add _ _).symm
theorem subf_L2 : subf (L2 (d := d) φ f) (L2 φ g) = L2 φ (fun r c => f r c - g r c) := funext fun _ => (EReal.coe_sub _ _).symm
theorem mulf_L2 : mulf (L2 (d := d) φ f) (L2 φ g) = L2 φ (fun r c => f r c * g r c) := funext fun _ => (EReal.coe_mul _ _).symm
theorem maximumf_L2 : maximumf (L2 (d := d) φ f) (L2 φ g) = L2 φ (fun r c => max (f r c) (g r c)) :=
  funext fun _ => (EReal.coe_strictMono.monotone.map_max).symm
theorem absf_L2 : absf (L2 (d := d) φ f) = L2 φ (fun r c => |f r c|) :=
  funext fun i => by
    show max ((f _ _ : ℝ) : EReal) (-((f _ _ : ℝ) : EReal)) = ((|f _ _| : ℝ) : EReal)
    rw [← EReal.coe_neg]; exact (EReal.coe_strictMono.monotone.map_max).symm
theorem exp_L2 : exp (L2 (d := d) φ f) = L2 φ (fun r c => Real.exp (f r c)) := funext fun _ => Ideal.exp_coe _
/-- The logarithm, of one plus an exponential. -/
theorem log_one_add_exp_L2 : log (L2 (d := d) φ (fun r c => 1 + Real.exp (f r c))) = L2 φ (fun r c => Real.log (1 + Real.exp (f r c))) :=
  funext fun i => by
    show Ideal.log ((1 + Real.exp _ : ℝ) : EReal) = _
    rw [Ideal.log_coe, if_neg (by have := Real.exp_pos (f (i 0).val (i 1).val); linarith)]; rfl
theorem truncf_L2 (h : ψ.bits < φ.bits) : truncf ψ (L2 (d := d) φ f) h = L2 ψ f := rfl
theorem extf_L2 (h : φ.bits < ψ.bits) : extf ψ (L2 (d := d) φ f) h = L2 ψ f := rfl
theorem select_L2 (p : ℕ → ℕ → Bool) :
    select (B2 p) (L2 (d := d) φ f) (L2 φ g) = L2 φ (fun r c => if p r c then f r c else g r c) :=
  funext fun i => by
    show (if BitVec.ofBool (p _ _) = 1 then _ else _) = ((if p _ _ then _ else _ : ℝ) : EReal)
    cases p (i 0).val (i 1).val <;> rfl
theorem shapeCast_L2 (h : (⟨2, d⟩ : Shape).ShapeCasts ⟨2, d⟩) : shapeCast ⟨2, d⟩ (L2 (d := d) φ f) h = L2 φ f := shapeCast_self _ _

/-- The scale of the scores, the value of its printed literal. -/
def scl : ℝ := (Ideal.ofBits .f32 0x3DB504F3#32).toReal

theorem ofBits_scl : Ideal.ofBits .f32 0x3DB504F3#32 = ((scl : ℝ) : EReal) := by
  unfold scl
  simp [Ideal.ofBits, Ideal.ieee, -EReal.coe_mul]
  try norm_num

theorem ofBits_one : Ideal.ofBits .f32 0x3F800000#32 = ((1 : ℝ) : EReal) := by
  simp [Ideal.ofBits, Ideal.ieee, -EReal.coe_mul]
  try norm_num

theorem bc_zero (s : Fin 2 → ℕ) : broadcast (⟨2, s⟩ : Shape) (Scalar.ofBits (F := Ideal) .f32 0x00000000#32) = L2 .f32 (fun _ _ => 0) :=
  funext fun _ => (Ideal.ofBits_zero_f32).trans EReal.coe_zero.symm
theorem bc_one (s : Fin 2 → ℕ) : broadcast (⟨2, s⟩ : Shape) (Scalar.ofBits (F := Ideal) .f32 0x3F800000#32) = L2 .f32 (fun _ _ => 1) :=
  funext fun _ => ofBits_one
theorem bc_scl (s : Fin 2 → ℕ) : broadcast (⟨2, s⟩ : Shape) (Scalar.ofBits (F := Ideal) .f32 0x3DB504F3#32) = L2 .f32 (fun _ _ => scl) :=
  funext fun _ => ofBits_scl

/-- A column broadcast across the columns of a matrix. -/
theorem broadcastTo_L2 (h : S1024x1.Broadcasts S1024x256) :
    broadcastTo S1024x256 (L2 φ f : FVec Ideal S1024x1 φ) h = L2 φ (fun r _ => f r 0) := by
  funext j
  refine (broadcastTo_apply _ h j (ix2 ⟨(j 0).val, idx2_lt0 j⟩ ⟨0, Nat.one_pos⟩) fun a => ?_).trans rfl
  match a with
  | ⟨0, _⟩ => rfl
  | ⟨1, _⟩ => rfl

theorem coe_sum_range (n : ℕ) (u : ℕ → ℝ) : ∑ k : Fin n, ((u k.val : ℝ) : EReal) = ((∑ k ∈ Finset.range n, u k : ℝ) : EReal) := by
  rw [← Fin.sum_univ_eq_sum_range u n]
  induction n with
  | zero => simp
  | succ n ih => rw [Fin.sum_univ_castSucc, Fin.sum_univ_castSucc, EReal.coe_add]; exact congrArg (· + _) ih

/-- The sums of the rows of a matrix, as a column. -/
theorem rowsum_L2 {n : ℕ} (h : (⟨2, ![1024, n]⟩ : Shape).Reduces [1] S1024) (h1 : FKind.Formats .f32) (h2) (h3 : S1024.ShapeCasts S1024x1) :
    shapeCast S1024x1 (multiReduction .add [1] S1024 (L2 .f32 f : FVec Ideal ⟨2, ![1024, n]⟩ .f32) 0x00000000#32 h h1 h2) h3
      = L2 .f32 (fun r _ => ∑ c ∈ Finset.range n, f r c) := by
  funext j
  rw [shapeCast_apply _ _ j (ix1 ⟨(j 0).val, idx2_lt0 j⟩ : S1024.Idx) ?_, Ideal.multiReduction_add_single]
  · exact coe_sum_range n (fun c => f (j 0).val c)
  · have h1 := idx2_lt1 j
    rw [Shape.rowMajor_val_one, Shape.rowMajor_val_two]
    show (j 0).val = (j 0).val * 1 + (j 1).val
    omega

theorem sum_mul_coe (n : ℕ) (u v : ℕ → ℝ) : ((0 : ℝ) : EReal) + ∑ k : Fin n, ((u k.val : ℝ) : EReal) * ((v k.val : ℝ) : EReal)
    = ((∑ k ∈ Finset.range n, u k * v k : ℝ) : EReal) := by
  rw [EReal.coe_zero, zero_add, ← coe_sum_range n (fun k => u k * v k)]
  exact Finset.sum_congr rfl fun k _ => (EReal.coe_mul _ _).symm

/-- A product of two matrices into the zero matrix. -/
theorem matmul_plain_L2 {M K N : ℕ} :
    matmul (DotDims.plain M K N) none (L2 φ f) (L2 ψ g) (constant ⟨2, ![M, N]⟩ .f32 0x00000000#32)
      = (L2 .f32 (fun r c => ∑ k ∈ Finset.range K, f r k * g k c) : FVec Ideal ⟨2, ![M, N]⟩ .f32) := by
  funext j
  rw [eq_ix2 j]
  refine (Ideal.matmul_plain_apply none _ _ _ _ _).trans ?_
  refine Eq.trans ?_ (sum_mul_coe K (fun k => f (j 0).val k) (fun k => g k (j 1).val))
  exact congrArg (· + _) (Ideal.ofBits_zero_f32.trans EReal.coe_zero.symm)

/-- A product with the right factor transposed, into the zero matrix. -/
theorem matmul_transposedRhs_L2 {M K N : ℕ} :
    matmul (DotDims.transposedRhs M K N) none (L2 φ f) (L2 ψ g) (constant ⟨2, ![M, N]⟩ .f32 0x00000000#32)
      = (L2 .f32 (fun r c => ∑ k ∈ Finset.range K, f r k * g c k) : FVec Ideal ⟨2, ![M, N]⟩ .f32) := by
  funext j
  rw [eq_ix2 j]
  refine (Ideal.matmul_transposedRhs_apply none _ _ _ _ _).trans ?_
  refine Eq.trans ?_ (sum_mul_coe K (fun k => f (j 0).val k) (fun k => g (j 1).val k))
  exact congrArg (· + _) (Ideal.ofBits_zero_f32.trans EReal.coe_zero.symm)

theorem dot_qk : matmul dot_S1024x128_S256x128_S1024x256_1_1_0_0_n_n none (L2 φ f) (L2 ψ g) (constant S1024x256 .f32 0x00000000#32)
    = (L2 .f32 (fun r c => ∑ k ∈ Finset.range 128, f r k * g c k) : FVec Ideal S1024x256 .f32) :=
  matmul_transposedRhs_L2 (M := 1024) (K := 128) (N := 256) f g

theorem dot_tri : matmul dot_S1024x256_S256x256_S1024x256_1_0_0_1_n_n none (L2 φ f) (L2 ψ g) (constant S1024x256 .f32 0x00000000#32)
    = (L2 .f32 (fun r c => ∑ k ∈ Finset.range 256, f r k * g k c) : FVec Ideal S1024x256 .f32) :=
  matmul_plain_L2 (M := 1024) (K := 256) (N := 256) f g

theorem dot_wv : matmul dot_S1024x256_S256x128_S1024x128_1_0_0_1_n_n none (L2 φ f) (L2 ψ g) (constant S1024x128 .f32 0x00000000#32)
    = (L2 .f32 (fun r c => ∑ k ∈ Finset.range 256, f r k * g k c) : FVec Ideal S1024x128 .f32) :=
  matmul_plain_L2 (M := 1024) (K := 256) (N := 128) f g

/-- A product with the left factor transposed, into the zero matrix. -/
theorem dot_zq : matmul dot_S1024x256_S1024x128_S256x128_0_0_1_1_n_n none (L2 φ f) (L2 ψ g) (constant S256x128 .f32 0x00000000#32)
    = (L2 .f32 (fun r c => ∑ k ∈ Finset.range 1024, f k r * g k c) : FVec Ideal S256x128 .f32) := by
  funext j
  let D := dot_S1024x256_S1024x128_S256x128_0_0_1_1_n_n
  have hr : D.contr.rank = 1 := rfl
  have hs : D.contr.size ⟨0, by rw [hr]; exact Nat.one_pos⟩ = 1024 := rfl
  refine (Ideal.matmul_apply D none _ _ _ _).trans ?_
  rw [← Equiv.sum_comp (contrEquiv1 D 1024 hr hs).symm]
  refine Eq.trans ?_ (sum_mul_coe 1024 (fun k => f k (j 0).val) (fun k => g k (j 1).val))
  refine congrArg₂ (· + ·) (Ideal.ofBits_zero_f32.trans EReal.coe_zero.symm) (Finset.sum_congr rfl fun k _ => ?_)
  have hk := contrEquiv1_symm_val D 1024 hr hs k
  have el : D.lhsIdx j ((contrEquiv1 D 1024 hr hs).symm k) = ix2 k (j 0) := by
    funext a; apply Fin.ext
    match a with
    | ⟨0, _⟩ => exact hk
    | ⟨1, _⟩ => rfl
  have er : D.rhsIdx j ((contrEquiv1 D 1024 hr hs).symm k) = ix2 k (j 1) := by
    funext a; apply Fin.ext
    match a with
    | ⟨0, _⟩ => exact hk
    | ⟨1, _⟩ => rfl
  rw [el, er]
  rfl

end Cert.Stick

end
-- ==== Proof.Words.lean ====
/- The numbers the kernel computes with its counters: how often each loop runs, at which key a tile begins, and which
   entries of a tile the mask keeps. -/
module

public import proofs.«01_k».proof.Proof.Lift
public import proofs.«01_k».proof.Proof.Gen.KernelIdeal.Skeleton
public import Idealize.ShloMosaic.Lib.WordCmp

@[expose] public section

set_option maxRecDepth 16384

noncomputable section

namespace Cert.Stick

open Idealize.ShloMosaic Idealize.ShloMosaic.ValueIdx Cert.KernelIdeal Cert.KernelIdeal.Facts Cert.KernelIdeal.Gen

theorem coord0_lt (i : grid0.Coords) : (i 1).val < 8 := (i 1).isLt
theorem coord1_lt (i : grid1.Coords) : (i 1).val < 8 := (i 1).isLt

theorem trips0_1 : k0_t1_loop.trips = 4 := by decide +kernel
theorem trips0_2 (i : grid0.Coords) : (k0_t2_loop i).trips = 4 * (i 1).val := by
  unfold k0_t2_loop; generalize i 1 = a; revert a; decide +kernel
theorem trips0_3 (i : grid0.Coords) : (k0_t3_loop i).trips = 0 := by
  unfold k0_t3_loop; generalize i 1 = a; revert a; decide +kernel
theorem trips1_1 : k1_t1_loop.trips = 4 := by decide +kernel
theorem trips1_2 (i : grid1.Coords) : (k1_t2_loop i).trips = 4 * (i 1).val := by
  unfold k1_t2_loop; generalize i 1 = a; revert a; decide +kernel
theorem trips1_3 (i : grid1.Coords) : (k1_t3_loop i).trips = 0 := by
  unfold k1_t3_loop; generalize i 1 = a; revert a; decide +kernel

theorem off0_1 (i : grid0.Coords) (k : Fin k0_t1_loop.trips) : k0_off1 i k = ![256 * (4 * ((i 1).val + 1) - 1 - k.val), 0] := by
  unfold k0_off1; revert k; generalize i 1 = a; revert a; decide +kernel
theorem off0_2 (i : grid0.Coords) (k : Fin (k0_t2_loop i).trips) : k0_off2 i k = ![256 * (4 * (i 1).val - 1 - k.val), 0] := by
  unfold k0_off2; revert k; unfold k0_t2_loop; generalize i 1 = a; revert a; decide +kernel
theorem off1_1 (i : grid1.Coords) (k : Fin k1_t1_loop.trips) : k1_off1 i k = ![256 * (4 * ((i 1).val + 1) - 1 - k.val), 0] := by
  unfold k1_off1; revert k; generalize i 1 = a; revert a; decide +kernel
theorem off1_2 (i : grid1.Coords) (k : Fin (k1_t2_loop i).trips) : k1_off2 i k = ![256 * (4 * (i 1).val - 1 - k.val), 0] := by
  unfold k1_off2; revert k; unfold k1_t2_loop; generalize i 1 = a; revert a; decide +kernel

/-- A comparison of two words that hold small numbers. -/
theorem cmpi_slt_small {x y : BitVec 32} {a b : ℕ} (hx : x = BitVec.ofNat 32 a) (hy : y = BitVec.ofNat 32 b)
    (ha : a < 2 ^ 31) (hb : b < 2 ^ 31) : IntOp.cmpi .slt x y = BitVec.ofBool (decide (a < b)) := by
  subst hx hy; exact WordCmp.cmpi_slt_ofNat ha hb

/-- The word of the first key of a tile of the masked loop. -/
theorem base_word (a : Fin 8) (k : Fin 4) :
    Scalar.muli (Scalar.subi (Scalar.subi (Scalar.muli (Scalar.addi (BitVec.ofNat 32 a.val) 1#32) 4#32) 1#32) (Scf.iv 0#32 1#32 k.val)) 256#32
      = BitVec.ofNat 32 (256 * (4 * (a.val + 1) - 1 - k.val)) := by
  revert a k; decide +kernel
theorem row_word (a : Fin 8) : Scalar.muli (BitVec.ofNat 32 a.val) 1024#32 = BitVec.ofNat 32 (1024 * a.val) := by
  revert a; decide +kernel

/-- The mask of a tile: the key's position is below the query's. -/
def mask (t0 s0 : ℕ) : ℕ → ℕ → Bool := fun r c => decide (s0 + c < t0 + r)

theorem mask_core (a : Fin 8) (k : Fin 4) (h0 h1) :
    (cmpi .slt
      (addi (broadcast S1024x256 (Scalar.muli (Scalar.subi (Scalar.subi (Scalar.muli (Scalar.addi (BitVec.ofNat 32 a.val) 1#32) 4#32) 1#32) (Scf.iv 0#32 1#32 k.val)) 256#32))
        (iota .tc S1024x256 32 [1] h1))
      (addi (broadcast S1024x256 (Scalar.muli (BitVec.ofNat 32 a.val) 1024#32)) (iota .tc S1024x256 32 [0] h0)) : IVec S1024x256 1)
      = B2 (mask (1024 * a.val) (256 * (4 * (a.val + 1) - 1 - k.val))) := by
  rw [base_word, row_word]
  funext j
  have hj0 := idx2_lt0 j
  have hj1 := idx2_lt1 j
  have ha := a.isLt
  have hk := k.isLt
  refine (cmpi_slt_small (a := 256 * (4 * (a.val + 1) - 1 - k.val) + (j 1).val) (b := 1024 * a.val + (j 0).val) ?_ ?_ ?_ ?_).trans rfl
  · rw [BitVec.ofNat_add]; show _ + BitVec.ofNat 32 (0 * _ + (j 1).val) = _; rw [Nat.zero_mul, Nat.zero_add]; rfl
  · rw [BitVec.ofNat_add]; show _ + BitVec.ofNat 32 (0 * _ + (j 0).val) = _; rw [Nat.zero_mul, Nat.zero_add]; rfl
  · omega
  · omega

theorem mask0 (i : grid0.Coords) (k : Fin k0_t1_loop.trips) :
    k0_pay8 (BitVec.ofNat 32 (i 1).val) (k0_pay2 i) (iota .tc S1024x256 32 [1] iota_S1024x256_d1_w32) 0#32 1#32 k
      = B2 (mask (1024 * (i 1).val) (256 * (4 * ((i 1).val + 1) - 1 - k.val))) :=
  mask_core (i 1) ⟨k.val, k.isLt.trans_eq trips0_1⟩ _ _
theorem mask1 (i : grid1.Coords) (k : Fin k1_t1_loop.trips) :
    k1_pay13 (BitVec.ofNat 32 (i 1).val) (k1_pay53 i) (iota .tc S1024x256 32 [1] iota_S1024x256_d1_w32) 0#32 1#32 k
      = B2 (mask (1024 * (i 1).val) (256 * (4 * ((i 1).val + 1) - 1 - k.val))) :=
  mask_core (i 1) ⟨k.val, k.isLt.trans_eq trips1_1⟩ _ _

/-- The triangle of ones strictly below the diagonal. -/
theorem tri_gt : (k0_pay3 : FVec Ideal S256x256 .bf16) = L2 .bf16 (fun r c => if c < r then 1 else 0) := by
  funext j
  have hj0 := idx2_lt0 j
  have hj1 := idx2_lt1 j
  show (((BitVec.zeroExtend 32 (IntOp.cmpi .slt (BitVec.ofNat 32 (0 * _ + (j 1).val)) (BitVec.ofNat 32 (0 * _ + (j 0).val)))).toInt : ℝ) : EReal) = _
  rw [Nat.zero_mul, Nat.zero_add, Nat.zero_mul, Nat.zero_add, cmpi_slt_small rfl rfl (by omega) (by omega), L2_apply]
  by_cases h : (j 1).val < (j 0).val <;> simp [h]
theorem tri_gt' : (k1_pay54 : FVec Ideal S256x256 .bf16) = L2 .bf16 (fun r c => if c < r then 1 else 0) := tri_gt
/-- The triangle of ones on and below the diagonal. -/
theorem tri_ge : (k1_pay55 : FVec Ideal S256x256 .bf16) = L2 .bf16 (fun r c => if c ≤ r then 1 else 0) := by
  funext j
  have hj0 := idx2_lt0 j
  have hj1 := idx2_lt1 j
  show (((BitVec.zeroExtend 32 (IntOp.cmpi .sge (BitVec.ofNat 32 (0 * _ + (j 0).val)) (BitVec.ofNat 32 (0 * _ + (j 1).val)))).toInt : ℝ) : EReal) = _
  have e : IntOp.cmpi .sge (BitVec.ofNat 32 (0 * 256 + (j 0).val)) (BitVec.ofNat 32 (0 * 256 + (j 1).val)) = BitVec.ofBool (decide ((j 1).val ≤ (j 0).val)) := by
    rw [Nat.zero_mul, Nat.zero_add, Nat.zero_add]
    exact WordCmp.cmpi_sge_ofNat (by omega) (by omega)
  rw [L2_apply]
  refine (congrArg (fun b => (((BitVec.zeroExtend 32 b).toInt : ℝ) : EReal)) e).trans ?_
  by_cases h : (j 1).val ≤ (j 0).val <;> simp [h]

end Cert.Stick

end
-- ==== Proof.Stick.lean ====
/- Stick-breaking attention of one head over real numbers: what its forward lines and its gradient are, entry by entry.
   Queries and keys are numbered from 0 to 8191 and a query `t` looks at the keys below it. -/
module

public import Mathlib.Analysis.SpecialFunctions.Log.Basic
public import Mathlib.Algebra.BigOperators.Intervals

@[expose] public section

noncomputable section

namespace Cert.Stick

open scoped BigOperators

/-- The softplus `log (1 + exp x)`, in the form that does not overflow. -/
def sp (x : ℝ) : ℝ := max x 0 + Real.log (1 + Real.exp (0 - |x|))

section
variable (scl : ℝ) (q k v u : ℕ → ℕ → ℝ)

/-- The score of key `s` at query `t`. -/
def z (t s : ℕ) : ℝ := (∑ d ∈ Finset.range 128, q t d * k s d) * scl
/-- The logarithm of what key `s` leaves of the stick. -/
def lk (t s : ℕ) : ℝ := if s < t then 0 - sp (z scl q k t s) else 0
/-- The weight of key `s` at query `t`. -/
def w (t s : ℕ) : ℝ :=
  if s < t then Real.exp (z scl q k t s - sp (z scl q k t s) + ∑ j ∈ Finset.Ico (s + 1) 8192, lk scl q k t j) else 0
/-- The output. -/
def o (t d : ℕ) : ℝ := ∑ s ∈ Finset.range 8192, w scl q k t s * v s d
/-- The gradient of a weight times the weight; `u` is the gradient of the output. -/
def e (t s : ℕ) : ℝ := (∑ d ∈ Finset.range 128, u t d * v s d) * w scl q k t s
/-- The sum of a query's `e`, as the kernel gets it from the output. -/
def delta (t : ℕ) : ℝ := ∑ d ∈ Finset.range 128, u t d * o scl q k v t d
/-- The gradient of a score. -/
def dz (t s : ℕ) : ℝ :=
  if s < t then
    (e scl q k v u t s * (1 - Real.exp (z scl q k t s - sp (z scl q k t s)))
      - Real.exp (z scl q k t s - sp (z scl q k t s)) * (delta scl q k v u t - ∑ j ∈ Finset.Ico s 8192, e scl q k v u t j)) * scl
  else 0
/-- The gradients of the queries, the keys and the values. -/
def dq (t d : ℕ) : ℝ := ∑ s ∈ Finset.range 8192, dz scl q k v u t s * k s d
def dk (s d : ℕ) : ℝ := ∑ t ∈ Finset.range 8192, dz scl q k v u t s * q t d
def dv (s d : ℕ) : ℝ := ∑ t ∈ Finset.range 8192, w scl q k t s * u t d

end

/-- A sum of a window's entries that lie above the entry `c`. -/
theorem sum_tri_gt (f : ℕ → ℝ) (M c : ℕ) (hc : c < 256) :
    ∑ k ∈ Finset.range 256, f (M + k) * (if c < k then 1 else 0) = ∑ j ∈ Finset.Ico (M + c + 1) (M + 256), f j := by
  rw [← Finset.sum_subset (s₁ := Finset.Ico (c + 1) 256) (fun x hx => by simp at hx ⊢; omega)
    (fun x h1 h2 => by simp at h1 h2; rw [if_neg (by omega), mul_zero])]
  rw [show M + c + 1 = (c + 1) + M by omega, show M + 256 = 256 + M by omega, ← Finset.sum_Ico_add f]
  exact Finset.sum_congr rfl fun x hx => by simp at hx; rw [if_pos (by omega), mul_one]

/-- A sum of a window's entries from the entry `c` on. -/
theorem sum_tri_ge (f : ℕ → ℝ) (M c : ℕ) (hc : c < 256) :
    ∑ k ∈ Finset.range 256, f (M + k) * (if c ≤ k then 1 else 0) = ∑ j ∈ Finset.Ico (M + c) (M + 256), f j := by
  rw [← Finset.sum_subset (s₁ := Finset.Ico c 256) (fun x hx => by simp at hx ⊢; omega)
    (fun x h1 h2 => by simp at h1 h2; rw [if_neg (by omega), mul_zero])]
  rw [show M + c = c + M by omega, show M + 256 = 256 + M by omega, ← Finset.sum_Ico_add f]
  exact Finset.sum_congr rfl fun x hx => by simp at hx; rw [if_pos (by omega), mul_one]

/-- The sum over a whole window, moved to its place. -/
theorem sum_window (f : ℕ → ℝ) (M : ℕ) (n : ℕ) : ∑ k ∈ Finset.range n, f (M + k) = ∑ j ∈ Finset.Ico M (M + n), f j := by
  rw [Finset.range_eq_Ico, Finset.sum_Ico_add f, Nat.zero_add, Nat.add_comm n M]

/-- A sum over later entries, and the window just below them. -/
theorem sum_tail (f : ℕ → ℝ) {a b c : ℕ} (h1 : a ≤ b) (h2 : b ≤ c) :
    (∑ j ∈ Finset.Ico b c, f j) + ∑ j ∈ Finset.Ico a b, f j = ∑ j ∈ Finset.Ico a c, f j := by
  rw [add_comm, Finset.sum_Ico_consecutive f h1 h2]

end Cert.Stick

end
-- ==== Proof.Tile.lean ====
/- What the kernels compute on one tile of 1024 queries by 256 keys, for real inputs: each intermediate matrix is the
   matching piece of the matrices of `Stick`. -/
module

public import proofs.«01_k».proof.Proof.Words
public import proofs.«01_k».proof.Proof.Stick

@[expose] public section

set_option maxRecDepth 16384

noncomputable section

namespace Cert.Stick

open Idealize.ShloMosaic Idealize.ShloMosaic.ValueIdx Cert.KernelIdeal Cert.KernelIdeal.Facts Cert.KernelIdeal.Gen
open scoped BigOperators

/-- The rows of a matrix from row `n` on. -/
def rows (n : ℕ) (f : ℕ → ℕ → ℝ) : ℕ → ℕ → ℝ := fun r c => f (n + r) c
/-- The piece of a matrix from row `t0` and column `s0` on. -/
def tile (t0 s0 : ℕ) (f : ℕ → ℕ → ℝ) : ℕ → ℕ → ℝ := fun r c => f (t0 + r) (s0 + c)
/-- The sums of the rows from `t0` on over the columns from `s0` on. -/
def tail (t0 s0 : ℕ) (f : ℕ → ℕ → ℝ) : ℕ → ℕ → ℝ := fun r _ => ∑ j ∈ Finset.Ico s0 8192, f (t0 + r) j
/-- The same sums, of the products with the rows of a second matrix. -/
def tailMul (t0 s0 : ℕ) (f g : ℕ → ℕ → ℝ) : ℕ → ℕ → ℝ := fun r d => ∑ j ∈ Finset.Ico s0 8192, f (t0 + r) j * g j d

variable (q k v u : ℕ → ℕ → ℝ) (t0 s0 : ℕ)

theorem rowsum_256 (f : ℕ → ℕ → ℝ) :
    shapeCast S1024x1 (multiReduction .add [1] S1024 (L2 .f32 f : FVec Ideal S1024x256 .f32) 0x00000000#32 reduces_S1024x256_S1024 (.inl rfl) rfl) shapeCasts_S1024_S1024x1
      = (L2 .f32 (fun r _ => ∑ c ∈ Finset.range 256, f r c) : FVec Ideal S1024x1 .f32) := rowsum_L2 (n := 256) f _ _ _ _
theorem rowsum_128 (f : ℕ → ℕ → ℝ) :
    shapeCast S1024x1 (multiReduction .add [1] S1024 (L2 .f32 f : FVec Ideal S1024x128 .f32) 0x00000000#32 reduces_S1024x128_S1024 (.inl rfl) rfl) shapeCasts_S1024_S1024x1
      = (L2 .f32 (fun r _ => ∑ c ∈ Finset.range 128, f r c) : FVec Ideal S1024x1 .f32) := rowsum_L2 (n := 128) f _ _ _ _

/-- The scores. -/
theorem tile_z : mulf (matmul dot_S1024x128_S256x128_S1024x256_1_1_0_0_n_n none (L2 .bf16 (rows t0 q)) (L2 .bf16 (rows s0 k)) (constant S1024x256 .f32 0x00000000#32))
      (broadcast S1024x256 (Scalar.ofBits (F := Ideal) .f32 0x3DB504F3#32)) = L2 .f32 (tile t0 s0 (z scl q k)) := by
  rw [dot_qk, bc_scl, mulf_L2]; rfl

/-- The softplus of the scores. -/
theorem tile_sp (f : ℕ → ℕ → ℝ) : addf (maximumf (L2 .f32 (tile t0 s0 f)) (broadcast S1024x256 (Scalar.ofBits (F := Ideal) .f32 0x00000000#32)))
      (log (addf (broadcast S1024x256 (Scalar.ofBits (F := Ideal) .f32 0x3F800000#32))
        (exp (subf (broadcast S1024x256 (Scalar.ofBits (F := Ideal) .f32 0x00000000#32)) (absf (L2 .f32 (tile t0 s0 f)))))))
      = L2 .f32 (tile t0 s0 (fun t s => sp (f t s))) := by
  simp only [bc_zero, bc_one, addf_L2, subf_L2, maximumf_L2, absf_L2, exp_L2, log_one_add_exp_L2]; rfl

/-- What the keys leave of the stick, where the tile is masked. -/
theorem tile_lk : select (B2 (mask t0 s0)) (subf (broadcast S1024x256 (Scalar.ofBits (F := Ideal) .f32 0x00000000#32)) (L2 .f32 (tile t0 s0 (fun t s => sp (z scl q k t s)))))
      (broadcast S1024x256 (Scalar.ofBits (F := Ideal) .f32 0x00000000#32)) = L2 .f32 (tile t0 s0 (lk scl q k)) := by
  rw [bc_zero, subf_L2, select_L2]
  exact L2_congr fun r c _ _ => by simp only [mask, decide_eq_true_eq, tile, lk]

/-- The same where all the tile's keys lie below all its queries. -/
theorem tile_lk_free (h : s0 + 256 ≤ t0) :
    subf (broadcast S1024x256 (Scalar.ofBits (F := Ideal) .f32 0x00000000#32)) (L2 .f32 (tile t0 s0 (fun t s => sp (z scl q k t s))))
      = L2 .f32 (tile t0 s0 (lk scl q k)) := by
  rw [bc_zero, subf_L2]
  exact L2_congr fun r c _ hc => by
    have : c < 256 := hc
    simp only [tile, lk]; rw [if_pos (by omega)]

/-- A product of a matrix, split in its rounding and the rest, with a triangle: sums over the later keys of the tile. -/
theorem tile_later (f : ℕ → ℕ → ℝ) :
    addf (matmul dot_S1024x256_S256x256_S1024x256_1_0_0_1_n_n none (truncf .bf16 (L2 .f32 (tile t0 s0 f)) bitsLt_bf16_f32) (L2 .bf16 (fun r c => if c < r then 1 else 0)) (constant S1024x256 .f32 0x00000000#32))
      (matmul dot_S1024x256_S256x256_S1024x256_1_0_0_1_n_n none
        (truncf .bf16 (subf (L2 .f32 (tile t0 s0 f)) (extf .f32 (truncf .bf16 (L2 .f32 (tile t0 s0 f)) bitsLt_bf16_f32) bitsLt_bf16_f32)) bitsLt_bf16_f32)
        (L2 .bf16 (fun r c => if c < r then 1 else 0)) (constant S1024x256 .f32 0x00000000#32))
      = (L2 .f32 (tile t0 s0 (fun t s => ∑ j ∈ Finset.Ico (s + 1) (s0 + 256), f t j)) : FVec Ideal S1024x256 .f32) := by
  simp only [truncf_L2, extf_L2, subf_L2, dot_tri, addf_L2, sub_self, zero_mul, Finset.sum_const_zero, add_zero]
  exact L2_congr fun r c _ hc => sum_tri_gt (fun j => f (t0 + r) j) s0 c hc

/-- The same with the diagonal. -/
theorem tile_suffix (f : ℕ → ℕ → ℝ) :
    addf (matmul dot_S1024x256_S256x256_S1024x256_1_0_0_1_n_n none (truncf .bf16 (L2 .f32 (tile t0 s0 f)) bitsLt_bf16_f32) (L2 .bf16 (fun r c => if c ≤ r then 1 else 0)) (constant S1024x256 .f32 0x00000000#32))
      (matmul dot_S1024x256_S256x256_S1024x256_1_0_0_1_n_n none
        (truncf .bf16 (subf (L2 .f32 (tile t0 s0 f)) (extf .f32 (truncf .bf16 (L2 .f32 (tile t0 s0 f)) bitsLt_bf16_f32) bitsLt_bf16_f32)) bitsLt_bf16_f32)
        (L2 .bf16 (fun r c => if c ≤ r then 1 else 0)) (constant S1024x256 .f32 0x00000000#32))
      = (L2 .f32 (tile t0 s0 (fun t s => ∑ j ∈ Finset.Ico s (s0 + 256), f t j)) : FVec Ideal S1024x256 .f32) := by
  simp only [truncf_L2, extf_L2, subf_L2, dot_tri, addf_L2, sub_self, zero_mul, Finset.sum_const_zero, add_zero]
  exact L2_congr fun r c _ hc => sum_tri_ge (fun j => f (t0 + r) j) s0 c hc

/-- The weight without its mask. -/
def wx (t s : ℕ) : ℝ := Real.exp (z scl q k t s - sp (z scl q k t s) + ∑ j ∈ Finset.Ico (s + 1) 8192, lk scl q k t j)

/-- The weights before the mask. -/
theorem tile_wx (h : s0 + 256 ≤ 8192) :
    exp (addf (addf (subf (L2 .f32 (tile t0 s0 (z scl q k))) (L2 .f32 (tile t0 s0 (fun t s => sp (z scl q k t s)))))
        (L2 .f32 (tile t0 s0 (fun t s => ∑ j ∈ Finset.Ico (s + 1) (s0 + 256), lk scl q k t j))))
        (broadcastTo S1024x256 (L2 .f32 (tail t0 (s0 + 256) (lk scl q k))) broadcasts_S1024x1_S1024x256))
      = (L2 .f32 (tile t0 s0 (wx q k)) : FVec Ideal S1024x256 .f32) := by
  rw [broadcastTo_L2, subf_L2, addf_L2, addf_L2, exp_L2]
  exact L2_congr fun r c _ hc => by
    have : c < 256 := hc
    simp only [tile, tail, wx]
    rw [add_assoc, add_comm (∑ j ∈ Finset.Ico (s0 + c + 1) (s0 + 256), _), sum_tail _ (by omega) h]

/-- The weights, where the tile is masked. -/
theorem tile_w : select (B2 (mask t0 s0)) (L2 .f32 (tile t0 s0 (wx q k))) (broadcast S1024x256 (Scalar.ofBits (F := Ideal) .f32 0x00000000#32))
      = L2 .f32 (tile t0 s0 (w scl q k)) := by
  rw [bc_zero, select_L2]
  exact L2_congr fun r c _ _ => by simp only [mask, decide_eq_true_eq, tile, w, wx]

/-- The weights, where it is not. -/
theorem tile_w_free (h : s0 + 256 ≤ t0) : (L2 .f32 (tile t0 s0 (wx q k)) : FVec Ideal S1024x256 .f32) = L2 .f32 (tile t0 s0 (w scl q k)) :=
  L2_congr fun r c _ hc => by
    have : c < 256 := hc
    simp only [tile, w, wx]; rw [if_pos (by omega)]

/-- The running sums of a matrix's rows take in one more tile. -/
theorem tile_tail (f : ℕ → ℕ → ℝ) (h : s0 + 256 ≤ 8192) :
    addf (L2 .f32 (tail t0 (s0 + 256) f)) (shapeCast S1024x1 (multiReduction .add [1] S1024 (L2 .f32 (tile t0 s0 f) : FVec Ideal S1024x256 .f32) 0x00000000#32 reduces_S1024x256_S1024 (.inl rfl) rfl) shapeCasts_S1024_S1024x1)
      = (L2 .f32 (tail t0 s0 f) : FVec Ideal S1024x1 .f32) := by
  rw [rowsum_256, addf_L2]
  exact L2_congr fun r c _ _ => by
    simp only [tile, tail]
    rw [sum_window (fun j => f (t0 + r) j), sum_tail _ (by omega) h]

/-- The running products take in one more tile. -/
theorem tile_tailMul (f : ℕ → ℕ → ℝ) (h : s0 + 256 ≤ 8192) :
    addf (L2 .f32 (tailMul t0 (s0 + 256) f v)) (matmul dot_S1024x256_S256x128_S1024x128_1_0_0_1_n_n none (L2 .bf16 (tile t0 s0 f)) (L2 .bf16 (rows s0 v)) (constant S1024x128 .f32 0x00000000#32))
      = (L2 .f32 (tailMul t0 s0 f v) : FVec Ideal S1024x128 .f32) := by
  rw [dot_wv, addf_L2]
  exact L2_congr fun r c _ _ => by
    simp only [tile, tailMul, rows]
    rw [sum_window (fun j => f (t0 + r) j * v j c), sum_tail _ (by omega) h]

/-- The gradient of a weight times the weight. -/
theorem tile_e : mulf (matmul dot_S1024x128_S256x128_S1024x256_1_1_0_0_n_n none (L2 .bf16 (rows t0 u)) (L2 .bf16 (rows s0 v)) (constant S1024x256 .f32 0x00000000#32))
      (extf .f32 (L2 .bf16 (tile t0 s0 (w scl q k))) bitsLt_bf16_f32) = L2 .f32 (tile t0 s0 (e scl q k v u)) := by
  rw [dot_qk, extf_L2, mulf_L2]; rfl

/-- The gradient of a score without its mask. -/
def dzx (t s : ℕ) : ℝ :=
  (e scl q k v u t s * (1 - Real.exp (z scl q k t s - sp (z scl q k t s)))
      - Real.exp (z scl q k t s - sp (z scl q k t s)) * (delta scl q k v u t - ∑ j ∈ Finset.Ico s 8192, e scl q k v u t j)) * scl

/-- The gradients of the scores before the mask. -/
theorem tile_dzx (h : s0 + 256 ≤ 8192) :
    mulf (subf (mulf (L2 .f32 (tile t0 s0 (e scl q k v u)))
        (subf (broadcast S1024x256 (Scalar.ofBits (F := Ideal) .f32 0x3F800000#32)) (exp (subf (L2 .f32 (tile t0 s0 (z scl q k))) (L2 .f32 (tile t0 s0 (fun t s => sp (z scl q k t s))))))))
        (mulf (exp (subf (L2 .f32 (tile t0 s0 (z scl q k))) (L2 .f32 (tile t0 s0 (fun t s => sp (z scl q k t s))))))
          (subf (broadcastTo S1024x256 (L2 .f32 (fun r _ => delta scl q k v u (t0 + r))) broadcasts_S1024x1_S1024x256)
            (addf (broadcastTo S1024x256 (L2 .f32 (tail t0 (s0 + 256) (e scl q k v u))) broadcasts_S1024x1_S1024x256)
              (L2 .f32 (tile t0 s0 (fun t s => ∑ j ∈ Finset.Ico s (s0 + 256), e scl q k v u t j)))))))
      (broadcast S1024x256 (Scalar.ofBits (F := Ideal) .f32 0x3DB504F3#32))
      = (L2 .f32 (tile t0 s0 (dzx q k v u)) : FVec Ideal S1024x256 .f32) := by
  rw [broadcastTo_L2, broadcastTo_L2, bc_one, bc_scl]
  simp only [subf_L2, exp_L2, addf_L2, mulf_L2]
  exact L2_congr fun r c _ hc => by
    have : c < 256 := hc
    simp only [tile, tail, dzx]
    rw [sum_tail _ (by omega) h]

/-- The gradients of the scores, where the tile is masked. -/
theorem tile_dz : select (B2 (mask t0 s0)) (L2 .f32 (tile t0 s0 (dzx q k v u))) (broadcast S1024x256 (Scalar.ofBits (F := Ideal) .f32 0x00000000#32))
      = L2 .f32 (tile t0 s0 (dz scl q k v u)) := by
  rw [bc_zero, select_L2]
  exact L2_congr fun r c _ _ => by simp only [mask, decide_eq_true_eq, tile, dz, dzx]

/-- The gradients of the scores, where it is not. -/
theorem tile_dz_free (h : s0 + 256 ≤ t0) : (L2 .f32 (tile t0 s0 (dzx q k v u)) : FVec Ideal S1024x256 .f32) = L2 .f32 (tile t0 s0 (dz scl q k v u)) :=
  L2_congr fun r c _ hc => by
    have : c < 256 := hc
    simp only [tile, dz, dzx]; rw [if_pos (by omega)]

/-- A tile's share of a sum over the queries, added to what a window of rows holds. -/
theorem tile_acc (f g b : ℕ → ℕ → ℝ) :
    addf (L2 .f32 b)
      (matmul dot_S1024x256_S1024x128_S256x128_0_0_1_1_n_n none (L2 .bf16 (tile t0 s0 f)) (L2 .bf16 (rows t0 g)) (constant S256x128 .f32 0x00000000#32))
      = (L2 .f32 (fun r c => b r c + ∑ j ∈ Finset.Ico t0 (t0 + 1024), f j (s0 + r) * g j c) : FVec Ideal S256x128 .f32) := by
  rw [dot_zq, addf_L2]
  exact L2_congr fun r c _ _ => by
    simp only [tile, rows]
    rw [sum_window (fun j => f j (s0 + r) * g j c)]

end Cert.Stick

end
-- ==== Proof.FwdTrip.lean ====
/- One trip of the forward kernel's loops on real inputs: the running output and the running sum take in one more tile. -/
module

public import proofs.«01_k».proof.Proof.Tile
public import proofs.«01_k».proof.Proof.Gen.KernelIdeal.Loops
public import Idealize.ShloMosaic.Lib.Pipeline.ValueKit.Tiles

@[expose] public section

set_option maxRecDepth 16384

noncomputable section

namespace Cert.Stick

open Idealize.ShloMosaic Idealize.ShloMosaic.ValueIdx Idealize.SL.Sem Cert.KernelIdeal Cert.KernelIdeal.Facts Cert.KernelIdeal.Gen
open scoped BigOperators

/-- A window of rows of a matrix, as a load reads it. -/
theorem readAt_rows {κ : Kind} {sp : Space} (m : Memref sig κ sp S8192x128 .bf16) (X : BufTy.Contents (Elt Ideal) m.view.ty) {f : ℕ → ℕ → ℝ}
    (hX : m.view.read (Elt Ideal) X = L2 .bf16 f) {off : Fin 2 → ℕ} {n : ℕ} (h : off = ![n, 0]) (inb) :
    View.readAt (Elt Ideal) m.view (Rect.unit (s := S8192x128) off S256x128.size inb).toLoadRect X = (L2 .bf16 (rows n f) : FVec Ideal S256x128 .bf16) := by
  subst h
  refine (View.readAt_eq_ld _ _ _).trans ?_
  rw [hX]
  funext x
  have h0 : n + (x 0).val < 8192 := lt_of_lt_of_le (Nat.add_lt_add_left (x 0).isLt _) (inb 0)
  refine (View.ld_unit_apply_of (S := S8192x128) (Val := Elt Ideal) (show S8192x128.Idx → Elt Ideal .bf16 from L2 .bf16 f) ![n, 0] S256x128.size inb x
    (ix2 ⟨n + (x 0).val, h0⟩ ⟨(x 1).val, (x 1).isLt⟩) ?_).trans rfl
  intro a
  match a with
  | ⟨0, _⟩ => rfl
  | ⟨1, _⟩ => exact (Nat.zero_add _).symm

variable (𝒱 : Variants) (c : Dev nD) (bd : Option 𝒱.V) (i : grid0.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .f32) (harg5 : arg5.IsWhole)
  (X3 : BufTy.Contents (Elt Ideal) arg3.view.ty) (X4 : BufTy.Contents (Elt Ideal) arg4.view.ty)
  (q k v : ℕ → ℕ → ℝ)

/-- What the forward loops carry when the keys from `s0` on are done. -/
def carryF (q k v : ℕ → ℕ → ℝ) (t0 s0 : ℕ) : FVec Ideal S1024x128 .f32 × FVec Ideal S1024x1 .f32 :=
  (L2 .f32 (tailMul t0 s0 (w scl q k) v), L2 .f32 (tail t0 s0 (lk scl q k)))

theorem trip0_1 (hX3 : arg3.view.read (Elt Ideal) X3 = L2 .bf16 k) (hX4 : arg4.view.read (Elt Ideal) X4 = L2 .bf16 v)
    (n : Fin k0_t1_loop.trips) :
    tripR_k0_t1 (F := Ideal) 𝒱 c bd i arg2 harg2 arg3 harg3 arg4 harg4 arg5 harg5 (BitVec.ofNat 32 (i 1).val)
      (L2 .bf16 (rows (1024 * (i 1).val) q) : FVec Ideal S1024x128 .bf16) (iota .tc S1024x256 32 [1] iota_S1024x256_d1_w32) X3 X4 n
      (carryF q k v (1024 * (i 1).val) (256 * (4 * ((i 1).val + 1) - 1 - n.val) + 256))
      = carryF q k v (1024 * (i 1).val) (256 * (4 * ((i 1).val + 1) - 1 - n.val)) := by
  have hi := coord0_lt i
  have hb : 256 * (4 * ((i 1).val + 1) - 1 - n.val) + 256 ≤ 8192 := by omega
  unfold tripR_k0_t1 trip_k0_t1 carryF
  dsimp only
  unfold trip_k0_t1.sl.r trip_k0_t1.sl.r_1 trip_k0_t1.sl.r_2
  rw [readAt_rows arg3 X3 hX3 (off0_1 i n), readAt_rows arg4 X4 hX4 (off0_1 i n)]
  unfold k0_pay6 k0_pay7 k0_pay12 k0_pay11 k0_pay10 k0_pay9 k0_pay13 k0_pay1
  dsimp only
  rw [mask0 i n]
  generalize 256 * (4 * ((i 1).val + 1) - 1 - n.val) = s0 at hb ⊢
  simp only [shapeCast_L2]
  rw [tile_z, tile_sp, tile_lk, tri_gt, tile_later, tile_wx _ _ _ _ hb, tile_w, truncf_L2, tile_tailMul _ _ _ _ hb,
    tile_tail _ _ _ hb]

theorem trip0_2 (hX3 : arg3.view.read (Elt Ideal) X3 = L2 .bf16 k) (hX4 : arg4.view.read (Elt Ideal) X4 = L2 .bf16 v)
    (n : Fin (k0_t2_loop i).trips) :
    tripR_k0_t2 (F := Ideal) 𝒱 c bd i arg2 harg2 arg3 harg3 arg4 harg4 arg5 harg5 (BitVec.ofNat 32 (i 1).val)
      (L2 .bf16 (rows (1024 * (i 1).val) q) : FVec Ideal S1024x128 .bf16) X3 X4 n
      (carryF q k v (1024 * (i 1).val) (256 * (4 * (i 1).val - 1 - n.val) + 256))
      = carryF q k v (1024 * (i 1).val) (256 * (4 * (i 1).val - 1 - n.val)) := by
  have hi := coord0_lt i
  have hn := n.isLt.trans_eq (trips0_2 i)
  have hb : 256 * (4 * (i 1).val - 1 - n.val) + 256 ≤ 8192 := by omega
  have hf : 256 * (4 * (i 1).val - 1 - n.val) + 256 ≤ 1024 * (i 1).val := by omega
  unfold tripR_k0_t2 trip_k0_t2 carryF
  dsimp only
  unfold trip_k0_t2.sl.r trip_k0_t2.sl.r_1
  dsimp only
  rw [readAt_rows arg3 X3 hX3 (off0_2 i n), readAt_rows arg4 X4 hX4 (off0_2 i n)]
  generalize 256 * (4 * (i 1).val - 1 - n.val) = s0 at hb hf ⊢
  unfold k0_pay17 k0_pay18 k0_pay16 k0_pay15 k0_pay14 k0_pay1
  dsimp only
  simp only [shapeCast_L2]
  rw [tile_z, tile_sp, tile_lk_free _ _ _ _ hf, tri_gt, tile_later, tile_wx _ _ _ _ hb, tile_w_free _ _ _ _ hf, truncf_L2,
    tile_tailMul _ _ _ _ hb, tile_tail _ _ _ hb]

/-- The masked loop after `n` trips. -/
theorem loop0_1 (hX3 : arg3.view.read (Elt Ideal) X3 = L2 .bf16 k) (hX4 : arg4.view.read (Elt Ideal) X4 = L2 .bf16 v) :
    ∀ n : ℕ, n ≤ 4 → st_k0_t1 (F := Ideal) 𝒱 c bd i arg2 harg2 arg3 harg3 arg4 harg4 arg5 harg5 (BitVec.ofNat 32 (i 1).val)
      (L2 .bf16 (rows (1024 * (i 1).val) q) : FVec Ideal S1024x128 .bf16) (iota .tc S1024x256 32 [1] iota_S1024x256_d1_w32) X3 X4
      (carryF q k v (1024 * (i 1).val) (256 * (4 * ((i 1).val + 1)))) n
      = carryF q k v (1024 * (i 1).val) (256 * (4 * ((i 1).val + 1) - n))
  | 0, _ => rfl
  | n + 1, h => by
    have h4 : n < k0_t1_loop.trips := by rw [trips0_1]; omega
    refine (st_k0_t1_succ 𝒱 c bd i arg2 harg2 arg3 harg3 arg4 harg4 arg5 harg5 _ _ _ X3 X4 _ ⟨n, h4⟩).trans ?_
    dsimp only
    rw [loop0_1 hX3 hX4 n (by omega)]
    have := trip0_1 𝒱 c bd i arg2 harg2 arg3 harg3 arg4 harg4 arg5 harg5 X3 X4 q k v hX3 hX4 ⟨n, h4⟩
    rw [show 256 * (4 * ((i 1).val + 1) - n) = 256 * (4 * ((i 1).val + 1) - 1 - n) + 256 by omega]
    rw [show 4 * ((i 1).val + 1) - (n + 1) = 4 * ((i 1).val + 1) - 1 - n by omega]
    exact this

/-- The free loop after `n` trips. -/
theorem loop0_2 (hX3 : arg3.view.read (Elt Ideal) X3 = L2 .bf16 k) (hX4 : arg4.view.read (Elt Ideal) X4 = L2 .bf16 v) :
    ∀ n : ℕ, n ≤ 4 * (i 1).val → st_k0_t2 (F := Ideal) 𝒱 c bd i arg2 harg2 arg3 harg3 arg4 harg4 arg5 harg5 (BitVec.ofNat 32 (i 1).val)
      (L2 .bf16 (rows (1024 * (i 1).val) q) : FVec Ideal S1024x128 .bf16) X3 X4
      (carryF q k v (1024 * (i 1).val) (256 * (4 * (i 1).val))) n
      = carryF q k v (1024 * (i 1).val) (256 * (4 * (i 1).val - n))
  | 0, _ => rfl
  | n + 1, h => by
    have h4 : n < (k0_t2_loop i).trips := by rw [trips0_2]; omega
    refine (st_k0_t2_succ 𝒱 c bd i arg2 harg2 arg3 harg3 arg4 harg4 arg5 harg5 _ _ X3 X4 _ ⟨n, h4⟩).trans ?_
    dsimp only
    rw [loop0_2 hX3 hX4 n (by omega)]
    have := trip0_2 𝒱 c bd i arg2 harg2 arg3 harg3 arg4 harg4 arg5 harg5 X3 X4 q k v hX3 hX4 ⟨n, h4⟩
    rw [show 256 * (4 * (i 1).val - n) = 256 * (4 * (i 1).val - 1 - n) + 256 by omega]
    rw [show 4 * (i 1).val - (n + 1) = 4 * (i 1).val - 1 - n by omega]
    exact this

/-- The loops begin with zeros: no key from the block's end on lies below a query of the block. -/
theorem carryF_start (t : ℕ) : ((k0_pay4 : FVec Ideal S1024x128 .f32), (k0_pay5 : FVec Ideal S1024x1 .f32)) = carryF q k v (1024 * t) (256 * (4 * (t + 1))) := by
  unfold k0_pay4 k0_pay5 carryF
  dsimp only
  rw [bc_zero, bc_zero]
  refine congrArg₂ Prod.mk (L2_congr fun r d hr _ => ?_) (L2_congr fun r d hr _ => ?_)
  · have hr : r < 1024 := hr
    exact (Finset.sum_eq_zero fun j hj => by
      rw [Finset.mem_Ico] at hj
      simp only [w]; rw [if_neg (by omega), zero_mul]).symm
  · have hr : r < 1024 := hr
    exact (Finset.sum_eq_zero fun j hj => by
      rw [Finset.mem_Ico] at hj
      simp only [lk]; rw [if_neg (by omega)]).symm

end Cert.Stick

end
-- ==== Proof.FwdOut.lean ====
/- What the forward call writes at one grid point. -/
module

public import proofs.«01_k».proof.Proof.FwdTrip
public import proofs.«01_k».proof.Proof.Gen.KernelIdeal.Frame

@[expose] public section

set_option maxRecDepth 16384

noncomputable section

namespace Cert.Stick

open Idealize.ShloMosaic Idealize.ShloMosaic.ValueIdx Idealize.SL.Sem Cert.KernelIdeal Cert.KernelIdeal.Facts Cert.KernelIdeal.Gen
open scoped BigOperators

variable (c : Dev nD) (i : grid0.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .f32) (harg5 : arg5.IsWhole)
  (q k v : ℕ → ℕ → ℝ)

/-- At grid point `(h, i)` the forward call writes the block's rows of the weighted values. -/
theorem out0 : out0_A_3 (F := Ideal) c i arg2 harg2 arg3 harg3 arg4 harg4 arg5 harg5 (L2 .bf16 (rows (1024 * (i 1).val) q)) (L2 .bf16 k) (L2 .bf16 v)
    = L2 .f32 (rows (1024 * (i 1).val) (o scl q k v)) := by
  unfold out0_A_3
  rw [View.read_writes_eq_canon _ _ _ (cover0_A_3 c i arg2 harg2 arg3 harg3 arg4 harg4 arg5 harg5 _ _ _)]
  unfold kernelRun0_A
  dsimp only
  have hz : (![0, 0] : Fin 2 → ℕ) = fun _ => 0 := by decide
  simp only [View.readAt_eq_ld, harg2.read_unread, View.ld_unit_zero (S := S1024x128) hz inb_S1024x128_S1024x128_0_0]
  refine (View.canon_unit_zero (S := S1024x128) hz inb_S1024x128_S1024x128_0_0 _).trans ?_
  rw [show Scf.trips (0#32) (Scalar.addi 0#32 4#32) 1#32 = 4 from trips0_1]
  rw [show Scf.trips (0#32) (Scalar.addi (0#32) (Scalar.muli (Scalar.divsi (Scalar.subi (Scalar.muli (BitVec.ofNat 32 (i 1).val) 4#32) 0#32) 1#32) 1#32)) 1#32 = 4 * (i 1).val from trips0_2 i]
  have h3 : arg3.view.read (Elt Ideal) (harg3.unread (L2 .bf16 k)) = L2 .bf16 k := harg3.read_unread _
  have h4 : arg4.view.read (Elt Ideal) (harg4.unread (L2 .bf16 v)) = L2 .bf16 v := harg4.read_unread _
  have e1 := loop0_1 Variants.none c none i arg2 harg2 arg3 harg3 arg4 harg4 arg5 harg5 _ _ q k v h3 h4 4 (by omega)
  have e2 := loop0_2 Variants.none c none i arg2 harg2 arg3 harg3 arg4 harg4 arg5 harg5 _ _ q k v h3 h4 (4 * (i 1).val) (by omega)
  rw [← carryF_start] at e1
  rw [show 4 * ((i 1).val + 1) - 4 = 4 * (i 1).val by omega] at e1
  rw [Nat.sub_self, Nat.mul_zero] at e2
  have e3 : Scf.trips (Scalar.addi (0#32) (Scalar.muli (Scalar.divsi (Scalar.subi (Scalar.muli (BitVec.ofNat 32 (i 1).val) 4#32) 0#32) 1#32) 1#32))
      (Scalar.addi (0#32) (Scalar.subi (Scalar.muli (BitVec.ofNat 32 (i 1).val) 4#32) 0#32)) 1#32 = 0 := trips0_3 i
  unfold kernelRun0_A.sl.v8
  simp only [e1, Prod.mk.eta, e2, e3, st_k0_t3_zero]
  unfold carryF
  refine L2_congr fun r d _ _ => ?_
  simp only [tailMul, rows, o, Nat.Ico_zero_eq_range]

end Cert.Stick

end
-- ==== Proof.FwdArray.lean ====
/- The array that the forward call leaves. -/
module

public import proofs.«01_k».proof.Proof.FwdOut
public import proofs.«01_k».proof.Proof.Gen.KernelIdeal.Points

@[expose] public section

set_option maxRecDepth 16384

noncomputable section

namespace Cert.Stick

open Idealize.ShloMosaic Idealize.ShloMosaic.ValueIdx Idealize.SL.Sem Cert.KernelIdeal Cert.KernelIdeal.Facts Cert.KernelIdeal.Gen Idealize.ShloMosaic.Pipeline
open scoped BigOperators

/-- The columns of a matrix from `n` on. -/
def cols (n : ℕ) (f : ℕ → ℕ → ℝ) : ℕ → ℕ → ℝ := fun r c => f r (n + c)

/-- A matrix made of blocks of 128 columns, block `h` given by `f h`. -/
def heads (f : ℕ → ℕ → ℕ → ℝ) : ℕ → ℕ → ℝ := fun r c => f (c / 128) r (c % 128)

variable (V : (c : Dev nD) → (b : Ref sig .tc) → Buf (Elt Ideal) ((c.tc : Thread nD τ).loc b)) (c : Dev nD) (Q : ℕ → ℕ → ℝ)

theorem idx0 (t : Fin cfg0.N) : (win0_0.index t 0 = (grid0.coords t 1).val ∧ win0_0.index t 1 = (grid0.coords t 0).val)
    ∧ (win0_1.index t 0 = 0 ∧ win0_1.index t 1 = 8 + (grid0.coords t 0).val)
    ∧ (win0_2.index t 0 = 0 ∧ win0_2.index t 1 = 16 + (grid0.coords t 0).val)
    ∧ (win0_3.index t 0 = (grid0.coords t 1).val ∧ win0_3.index t 1 = (grid0.coords t 0).val) := by
  revert t; decide +kernel

theorem coords0 (t : Fin cfg0.N) : t.val = 8 * (grid0.coords t 0).val + (grid0.coords t 1).val := by
  revert t; decide +kernel

theorem iblk0_0 (hV : V c main_v0 = (L2 .bf16 Q : FVec Ideal S8192x3072 .bf16)) (t : Fin cfg0.N) :
    (iblk0 (F := Ideal) V c 0 t : FVec Ideal S1024x128 .bf16) = L2 .bf16 (rows (1024 * (grid0.coords t 1).val) (cols (128 * (grid0.coords t 0).val) Q)) := by
  funext j
  unfold iblk0
  rw [View.read_apply]
  show V c main_v0 _ = _
  rw [hV, L2_apply, L2_apply]
  have h := (idx0 t).1
  refine congrArg (fun x : ℝ => (x : EReal)) (congrArg₂ Q ?_ ?_)
  · show win0_0.index t 0 * 1024 + 1 * (j 0).val = _
    rw [h.1]; omega
  · show win0_0.index t 1 * 128 + 1 * (j 1).val = _
    rw [h.2]; omega

theorem iblk0_1 (hV : V c main_v0 = (L2 .bf16 Q : FVec Ideal S8192x3072 .bf16)) (t : Fin cfg0.N) :
    (iblk0 (F := Ideal) V c 1 t : FVec Ideal S8192x128 .bf16) = L2 .bf16 (cols (1024 + 128 * (grid0.coords t 0).val) Q) := by
  funext j
  unfold iblk0
  rw [View.read_apply]
  show V c main_v0 _ = _
  rw [hV, L2_apply, L2_apply]
  have h := (idx0 t).2.1
  refine congrArg (fun x : ℝ => (x : EReal)) (congrArg₂ Q ?_ ?_)
  · show win0_1.index t 0 * 8192 + 1 * (j 0).val = _
    rw [h.1]; omega
  · show win0_1.index t 1 * 128 + 1 * (j 1).val = _
    rw [h.2]; omega

theorem iblk0_2 (hV : V c main_v0 = (L2 .bf16 Q : FVec Ideal S8192x3072 .bf16)) (t : Fin cfg0.N) :
    (iblk0 (F := Ideal) V c 2 t : FVec Ideal S8192x128 .bf16) = L2 .bf16 (cols (2048 + 128 * (grid0.coords t 0).val) Q) := by
  funext j
  unfold iblk0
  rw [View.read_apply]
  show V c main_v0 _ = _
  rw [hV, L2_apply, L2_apply]
  have h := (idx0 t).2.2.1
  refine congrArg (fun x : ℝ => (x : EReal)) (congrArg₂ Q ?_ ?_)
  · show win0_2.index t 0 * 8192 + 1 * (j 0).val = _
    rw [h.1]; omega
  · show win0_2.index t 1 * 128 + 1 * (j 1).val = _
    rw [h.2]; omega

/-- The output of head `h`, from the matrix that holds the queries, keys and values side by side. -/
def oH (Q : ℕ → ℕ → ℝ) (h : ℕ) : ℕ → ℕ → ℝ := o scl (cols (128 * h) Q) (cols (1024 + 128 * h) Q) (cols (2048 + 128 * h) Q)

theorem final0 (hV : V c main_v0 = (L2 .bf16 Q : FVec Ideal S8192x3072 .bf16)) :
    ((dat0 (F := Ideal) V c).arrAt 3 cfg0.N : FVec Ideal S8192x1024 .f32) = L2 .f32 (heads (oH Q)) := by
  refine (dat0 (F := Ideal) V c).arrAt_eq_of_cover 3 (L2 .f32 (heads (oH Q)) : FVec Ideal S8192x1024 .f32) ?_ ?_
  · intro t _
    show (cfg0.win 3).cut (grid0.coords t) ((dat0 V c).after 3 t) = _
    rw [after0_3]
    unfold outsAt0
    have e := out0 c (grid0.coords t) (ms0_0 t) (hs0_0 t) (ms0_1 t) (hs0_1 t) (ms0_2 t) (hs0_2 t) (ms0_3 t) (hs0_3 t)
      (cols (128 * (grid0.coords t 0).val) Q) (cols (1024 + 128 * (grid0.coords t 0).val) Q) (cols (2048 + 128 * (grid0.coords t 0).val) Q)
    rw [← iblk0_0 V c Q hV t, ← iblk0_1 V c Q hV t, ← iblk0_2 V c Q hV t] at e
    rw [e]
    funext j
    rw [View.read_apply]
    have h := (idx0 t).2.2.2
    have hj : (j 1).val < 128 := (j 1).isLt
    show (L2 .f32 _ : FVec Ideal S1024x128 .f32) j = (L2 .f32 (heads (oH Q)) : FVec Ideal S8192x1024 .f32) _
    rw [L2_apply, L2_apply]
    have e0 : win0_3.index t 0 * 1024 + 1 * (j 0).val = 1024 * (grid0.coords t 1).val + (j 0).val := by rw [h.1]; omega
    have e1 : win0_3.index t 1 * 128 + 1 * (j 1).val = 128 * (grid0.coords t 0).val + (j 1).val := by rw [h.2]; omega
    refine congrArg (fun x : ℝ => (x : EReal)) ?_
    show _ = heads (oH Q) (win0_3.index t 0 * 1024 + 1 * (j 0).val) (win0_3.index t 1 * 128 + 1 * (j 1).val)
    rw [e0, e1]
    simp only [heads, rows, oH]
    rw [show (128 * (grid0.coords t 0).val + (j 1).val) / 128 = (grid0.coords t 0).val by omega,
      show (128 * (grid0.coords t 0).val + (j 1).val) % 128 = (j 1).val by omega]
  · intro i
    have h0 : (i 0 : ℕ) < 8192 := (i 0).isLt
    have h1 : (i 1 : ℕ) < 1024 := (i 1).isLt
    obtain ⟨t, ht0, ht1⟩ : ∃ t : Fin cfg0.N, (grid0.coords t 0).val = (i 1).val / 128 ∧ (grid0.coords t 1).val = (i 0).val / 1024 := by
      have : ∀ a b : Fin 8, ∃ t : Fin cfg0.N, (grid0.coords t 0).val = a.val ∧ (grid0.coords t 1).val = b.val := by decide +kernel
      exact this ⟨(i 1).val / 128, by omega⟩ ⟨(i 0).val / 1024, by omega⟩
    refine ⟨t, flush0_3 t, ?_⟩
    have h := (idx0 t).2.2.2
    show i ∈ ((View.whole main_v1).slice (win0_3.rect t)).set
    rw [View.set_slice_whole, Rect.mem_set_unit]
    intro a
    match a with
    | ⟨0, _⟩ =>
      show win0_3.index t 0 * 1024 ≤ (i 0 : ℕ) ∧ (i 0 : ℕ) < win0_3.index t 0 * 1024 + 1024
      rw [h.1]; omega
    | ⟨1, _⟩ =>
      show win0_3.index t 1 * 128 ≤ (i 1 : ℕ) ∧ (i 1 : ℕ) < win0_3.index t 1 * 128 + 128
      rw [h.2]; omega

end Cert.Stick

end
-- ==== Proof.BwdTrip.lean ====
/- One trip of the backward kernel's loops on real inputs. -/
module

public import proofs.«01_k».proof.Proof.FwdTrip
public import Idealize.ShloMosaic.Lib.WritesUnit

@[expose] public section

set_option maxRecDepth 16384

noncomputable section

namespace Cert.Stick

open Idealize.ShloMosaic Idealize.ShloMosaic.ValueIdx Idealize.SL.Sem Cert.KernelIdeal Cert.KernelIdeal.Facts Cert.KernelIdeal.Gen
open scoped BigOperators

/-- A window of rows of a matrix held in the wide format, as a load reads it. -/
theorem readAt_rows32 {κ : Kind} {sp : Space} (m : Memref sig κ sp S8192x128 .f32) (X : BufTy.Contents (Elt Ideal) m.view.ty) {f : ℕ → ℕ → ℝ}
    (hX : m.view.read (Elt Ideal) X = L2 .f32 f) {off : Fin 2 → ℕ} {n : ℕ} (h : off = ![n, 0]) (inb) :
    View.readAt (Elt Ideal) m.view (Rect.unit (s := S8192x128) off S256x128.size inb).toLoadRect X = (L2 .f32 (rows n f) : FVec Ideal S256x128 .f32) := by
  subst h
  refine (View.readAt_eq_ld _ _ _).trans ?_
  rw [hX]
  funext x
  have h0 : n + (x 0).val < 8192 := lt_of_lt_of_le (Nat.add_lt_add_left (x 0).isLt _) (inb 0)
  refine (View.ld_unit_apply_of (S := S8192x128) (Val := Elt Ideal) (show S8192x128.Idx → Elt Ideal .f32 from L2 .f32 f) ![n, 0] S256x128.size inb x
    (ix2 ⟨n + (x 0).val, h0⟩ ⟨(x 1).val, (x 1).isLt⟩) ?_).trans rfl
  intro a
  match a with
  | ⟨0, _⟩ => rfl
  | ⟨1, _⟩ => exact (Nat.zero_add _).symm

variable (𝒱 : Variants) (c : Dev nD) (bd : Option 𝒱.V) (i : grid1.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32) (harg7 : arg7.IsWhole)
  (arg8 : Memref sig .tc .vmem S8192x128 .f32) (harg8 : arg8.IsWhole) (arg9 : Memref sig .tc .vmem S8192x128 .f32) (harg9 : arg9.IsWhole)
  (X3 : BufTy.Contents (Elt Ideal) arg3.view.ty) (X4 : BufTy.Contents (Elt Ideal) arg4.view.ty)
  (f8 : BufTy.Contents (Elt Ideal) arg8.view.ty) (f9 : BufTy.Contents (Elt Ideal) arg9.view.ty)
  (q k v u g8 g9 : ℕ → ℕ → ℝ)

/-- What the backward loops carry when the keys from `s0` on are done. -/
def carryB (q k v u : ℕ → ℕ → ℝ) (t0 s0 : ℕ) : FVec Ideal S1024x128 .f32 × FVec Ideal S1024x1 .f32 × FVec Ideal S1024x1 .f32 :=
  (L2 .f32 (tailMul t0 s0 (dz scl q k v u) k), L2 .f32 (tail t0 s0 (lk scl q k)), L2 .f32 (tail t0 s0 (e scl q k v u)))

/-- A matrix whose rows from `s0` on have taken in the share of the block of queries at `t0`. -/
def acc (t0 s0 : ℕ) (f p g : ℕ → ℕ → ℝ) : ℕ → ℕ → ℝ :=
  fun r d => if s0 ≤ r then g r d + ∑ j ∈ Finset.Ico t0 (t0 + 1024), f j r * p j d else g r d

/-- A store of one more window of rows. -/
theorem store_rows {κ : Kind} {sp : Space} (m : Memref sig κ sp S8192x128 .f32) (X : BufTy.Contents (Elt Ideal) m.view.ty) {t0 s0 : ℕ} {f p g : ℕ → ℕ → ℝ}
    (hX : m.view.read (Elt Ideal) X = L2 .f32 (acc t0 (s0 + 256) f p g)) {off : Fin 2 → ℕ} (h : off = ![s0, 0]) (inb) :
    m.view.read (Elt Ideal) (m.view.writes (Elt Ideal) X [⟨Rect.unit (s := S8192x128) off S256x128.size inb,
      (L2 .f32 (fun r d => rows s0 (acc t0 (s0 + 256) f p g) r d + ∑ j ∈ Finset.Ico t0 (t0 + 1024), f j (s0 + r) * p j d) : FVec Ideal S256x128 .f32)⟩])
      = (L2 .f32 (acc t0 s0 f p g) : FVec Ideal S8192x128 .f32) := by
  funext y
  by_cases hy : s0 ≤ (y 0).val ∧ (y 0).val < s0 + 256
  · refine (View.read_writes_cons_rows_of_mem (d := ![8192, 128]) m.view X inb _ [] y
      (ix2 ⟨(y 0).val - s0, by omega⟩ ⟨(y 1).val, (y 1).isLt⟩) h ?_ ?_).trans ?_
    · show (y 0).val = s0 + ((y 0).val - s0); omega
    · rfl
    · rw [L2_apply, L2_apply]
      show ((rows s0 (acc t0 (s0 + 256) f p g) ((y 0).val - s0) (y 1).val + ∑ j ∈ Finset.Ico t0 (t0 + 1024), f j (s0 + ((y 0).val - s0)) * p j (y 1).val : ℝ) : EReal) = _
      simp only [rows, acc]
      rw [show s0 + ((y 0).val - s0) = (y 0).val by omega, if_neg (by omega), if_pos hy.1]
  · refine (View.read_writes_cons_rows_of_not_mem (d := ![8192, 128]) (W := 256) m.view X inb _ [] y h rfl (by omega)).trans ?_
    rw [View.writes_nil, hX, L2_apply, L2_apply]
    simp only [acc]
    by_cases h2 : s0 ≤ (y 0).val
    · rw [if_pos h2, if_pos (by omega)]
    · rw [if_neg h2, if_neg (by omega)]

/-- The sum of the gradient against the output, as the kernel forms it. -/
theorem tile_delta (t0 : ℕ) : (k1_pay52 (L2 .f32 (rows t0 u)) (L2 .f32 (rows t0 (o scl q k v))) : FVec Ideal S1024x1 .f32)
    = L2 .f32 (fun r _ => delta scl q k v u (t0 + r)) := by
  unfold k1_pay52 k1_pay51
  dsimp only
  rw [truncf_L2, extf_L2, shapeCast_L2, mulf_L2, rowsum_128]
  rfl

/-- One trip of the masked loop. -/
theorem trip1_1 (hX3 : arg3.view.read (Elt Ideal) X3 = L2 .bf16 k) (hX4 : arg4.view.read (Elt Ideal) X4 = L2 .bf16 v)
    (n : Fin k1_t1_loop.trips) (t0 s0 : ℕ) (ht : t0 = 1024 * (i 1).val) (hs : s0 = 256 * (4 * ((i 1).val + 1) - 1 - n.val))
    (hf8 : arg8.view.read (Elt Ideal) f8 = L2 .f32 (acc t0 (s0 + 256) (dz scl q k v u) q g8))
    (hf9 : arg9.view.read (Elt Ideal) f9 = L2 .f32 (acc t0 (s0 + 256) (w scl q k) u g9)) :
    tripR_k1_t1 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .f32 (rows t0 u) : FVec Ideal S1024x128 .f32) (L2 .f32 (rows t0 (o scl q k v)) : FVec Ideal S1024x128 .f32)
      (iota .tc S1024x256 32 [1] iota_S1024x256_d1_w32) X3 X4 n (carryB q k v u t0 (s0 + 256)) f8 f9 = carryB q k v u t0 s0
    ∧ arg8.view.read (Elt Ideal) (arg8.view.writes (Elt Ideal) f8 (tripL_k1_t1 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .f32 (rows t0 u) : FVec Ideal S1024x128 .f32) (L2 .f32 (rows t0 (o scl q k v)) : FVec Ideal S1024x128 .f32)
      (iota .tc S1024x256 32 [1] iota_S1024x256_d1_w32) X3 X4 n (carryB q k v u t0 (s0 + 256)) f8 f9).1) = L2 .f32 (acc t0 s0 (dz scl q k v u) q g8)
    ∧ arg9.view.read (Elt Ideal) (arg9.view.writes (Elt Ideal) f9 (tripL_k1_t1 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .f32 (rows t0 u) : FVec Ideal S1024x128 .f32) (L2 .f32 (rows t0 (o scl q k v)) : FVec Ideal S1024x128 .f32)
      (iota .tc S1024x256 32 [1] iota_S1024x256_d1_w32) X3 X4 n (carryB q k v u t0 (s0 + 256)) f8 f9).2) = L2 .f32 (acc t0 s0 (w scl q k) u g9) := by
  have hi := coord1_lt i
  have hb : s0 + 256 ≤ 8192 := by omega
  unfold tripR_k1_t1 tripL_k1_t1 trip_k1_t1 carryB
  dsimp only
  unfold trip_k1_t1.sl.r_9 trip_k1_t1.sl.r_8 trip_k1_t1.sl.r_7 trip_k1_t1.sl.r_6 trip_k1_t1.sl.r_5 trip_k1_t1.sl.r_4 trip_k1_t1.sl.r_3 trip_k1_t1.sl.r_2 trip_k1_t1.sl.r_1 trip_k1_t1.sl.r
  dsimp only
  have off := off1_1 i n
  rw [← hs] at off
  rw [readAt_rows arg3 X3 hX3 off, readAt_rows arg4 X4 hX4 off, readAt_rows32 arg8 f8 hf8 off, readAt_rows32 arg9 f9 hf9 off, tile_delta]
  unfold k1_pay25 k1_pay26 k1_pay27 k1_pay24 k1_pay23 k1_pay22 k1_pay20 k1_pay58 k1_pay59 k1_pay21 k1_pay19 k1_pay18 k1_pay17 k1_pay16 k1_pay15 k1_pay14
  unfold k1_pay50 k1_pay51
  dsimp only
  rw [mask1 i n, ← hs, ← ht, tri_gt', tri_ge]
  simp only [shapeCast_L2]
  rw [tile_z, tile_sp, tile_lk, tile_later, tile_wx _ _ _ _ hb, tile_w, truncf_L2, truncf_L2, tile_e, tile_suffix, tile_dzx _ _ _ _ _ _ hb, tile_dz, truncf_L2, tile_tailMul _ _ _ _ hb,
    tile_tail _ _ _ hb, tile_tail _ _ _ hb, tile_acc, tile_acc]
  exact ⟨rfl, store_rows arg8 f8 hf8 off _, store_rows arg9 f9 hf9 off _⟩

/-- One trip of the free loop. -/
theorem trip1_2 (hX3 : arg3.view.read (Elt Ideal) X3 = L2 .bf16 k) (hX4 : arg4.view.read (Elt Ideal) X4 = L2 .bf16 v)
    (b : BitVec 32) (n : Fin (k1_t2_loop i).trips) (t0 s0 : ℕ) (ht : t0 = 1024 * (i 1).val) (hs : s0 = 256 * (4 * (i 1).val - 1 - n.val))
    (hf8 : arg8.view.read (Elt Ideal) f8 = L2 .f32 (acc t0 (s0 + 256) (dz scl q k v u) q g8))
    (hf9 : arg9.view.read (Elt Ideal) f9 = L2 .f32 (acc t0 (s0 + 256) (w scl q k) u g9)) :
    tripR_k1_t2 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .bf16 (rows t0 u) : FVec Ideal S1024x128 .bf16) (L2 .f32 (fun r _ => delta scl q k v u (t0 + r)) : FVec Ideal S1024x1 .f32)
      k1_pay54 k1_pay55 b X3 X4 n (carryB q k v u t0 (s0 + 256)) f8 f9 = carryB q k v u t0 s0
    ∧ arg8.view.read (Elt Ideal) (arg8.view.writes (Elt Ideal) f8 (tripL_k1_t2 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .bf16 (rows t0 u) : FVec Ideal S1024x128 .bf16) (L2 .f32 (fun r _ => delta scl q k v u (t0 + r)) : FVec Ideal S1024x1 .f32)
      k1_pay54 k1_pay55 b X3 X4 n (carryB q k v u t0 (s0 + 256)) f8 f9).1) = L2 .f32 (acc t0 s0 (dz scl q k v u) q g8)
    ∧ arg9.view.read (Elt Ideal) (arg9.view.writes (Elt Ideal) f9 (tripL_k1_t2 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .bf16 (rows t0 u) : FVec Ideal S1024x128 .bf16) (L2 .f32 (fun r _ => delta scl q k v u (t0 + r)) : FVec Ideal S1024x1 .f32)
      k1_pay54 k1_pay55 b X3 X4 n (carryB q k v u t0 (s0 + 256)) f8 f9).2) = L2 .f32 (acc t0 s0 (w scl q k) u g9) := by
  have hi := coord1_lt i
  have hn := n.isLt.trans_eq (trips1_2 i)
  have hb : s0 + 256 ≤ 8192 := by omega
  have hf : s0 + 256 ≤ t0 := by omega
  unfold tripR_k1_t2 tripL_k1_t2 trip_k1_t2 carryB
  dsimp only
  unfold trip_k1_t2.sl.r_6 trip_k1_t2.sl.r_5 trip_k1_t2.sl.r_4 trip_k1_t2.sl.r_3 trip_k1_t2.sl.r_2 trip_k1_t2.sl.r_1 trip_k1_t2.sl.r
  dsimp only
  have off := off1_2 i n
  rw [← hs] at off
  rw [readAt_rows arg3 X3 hX3 off, readAt_rows arg4 X4 hX4 off, readAt_rows32 arg8 f8 hf8 off, readAt_rows32 arg9 f9 hf9 off]
  unfold k1_pay2 k1_pay3 k1_pay4 k1_pay1 k1_pay37 k1_pay36 k1_pay35 k1_pay34 k1_pay33 k1_pay5 k1_pay6 k1_pay32 k1_pay31 k1_pay30 k1_pay29 k1_pay28
  dsimp only
  rw [tri_gt', tri_ge]
  simp only [shapeCast_L2]
  rw [tile_z, tile_sp, tile_lk_free _ _ _ _ hf, tile_later, tile_wx _ _ _ _ hb, tile_w_free _ _ _ _ hf, truncf_L2, tile_e, tile_suffix,
    tile_dzx _ _ _ _ _ _ hb, tile_dz_free _ _ _ _ _ _ hf, truncf_L2, tile_tailMul _ _ _ _ hb, tile_tail _ _ _ hb, tile_tail _ _ _ hb, tile_acc, tile_acc]
  exact ⟨rfl, store_rows arg8 f8 hf8 off _, store_rows arg9 f9 hf9 off _⟩

/-- The masked loop after `n` trips: what it carries, and what the two matrices it adds to hold. -/
theorem loop1_1 (hX3 : arg3.view.read (Elt Ideal) X3 = L2 .bf16 k) (hX4 : arg4.view.read (Elt Ideal) X4 = L2 .bf16 v) (t0 : ℕ) (ht : t0 = 1024 * (i 1).val)
    (hf8 : arg8.view.read (Elt Ideal) f8 = L2 .f32 (acc t0 (256 * (4 * ((i 1).val + 1))) (dz scl q k v u) q g8))
    (hf9 : arg9.view.read (Elt Ideal) f9 = L2 .f32 (acc t0 (256 * (4 * ((i 1).val + 1))) (w scl q k) u g9)) :
    ∀ n : ℕ, n ≤ 4 →
      (st_k1_t1 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .f32 (rows t0 u) : FVec Ideal S1024x128 .f32) (L2 .f32 (rows t0 (o scl q k v)) : FVec Ideal S1024x128 .f32)
      (iota .tc S1024x256 32 [1] iota_S1024x256_d1_w32) X3 X4 f8 f9 (carryB q k v u t0 (256 * (4 * ((i 1).val + 1)))) n).1 = carryB q k v u t0 (256 * (4 * ((i 1).val + 1) - n))
      ∧ arg8.view.read (Elt Ideal) (arg8.view.writes (Elt Ideal) f8 (st_k1_t1 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .f32 (rows t0 u) : FVec Ideal S1024x128 .f32) (L2 .f32 (rows t0 (o scl q k v)) : FVec Ideal S1024x128 .f32)
      (iota .tc S1024x256 32 [1] iota_S1024x256_d1_w32) X3 X4 f8 f9 (carryB q k v u t0 (256 * (4 * ((i 1).val + 1)))) n).2.1)
        = L2 .f32 (acc t0 (256 * (4 * ((i 1).val + 1) - n)) (dz scl q k v u) q g8)
      ∧ arg9.view.read (Elt Ideal) (arg9.view.writes (Elt Ideal) f9 (st_k1_t1 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .f32 (rows t0 u) : FVec Ideal S1024x128 .f32) (L2 .f32 (rows t0 (o scl q k v)) : FVec Ideal S1024x128 .f32)
      (iota .tc S1024x256 32 [1] iota_S1024x256_d1_w32) X3 X4 f8 f9 (carryB q k v u t0 (256 * (4 * ((i 1).val + 1)))) n).2.2)
        = L2 .f32 (acc t0 (256 * (4 * ((i 1).val + 1) - n)) (w scl q k) u g9)
  | 0, _ => ⟨rfl, hf8, hf9⟩
  | n + 1, h => by
    have h4 : n < k1_t1_loop.trips := by rw [trips1_1]; omega
    obtain ⟨e, e8, e9⟩ := loop1_1 hX3 hX4 t0 ht hf8 hf9 n (by omega)
    rw [show 256 * (4 * ((i 1).val + 1) - n) = 256 * (4 * ((i 1).val + 1) - 1 - n) + 256 by omega] at e e8 e9
    rw [show 4 * ((i 1).val + 1) - (n + 1) = 4 * ((i 1).val + 1) - 1 - n by omega]
    have st := st_k1_t1_succ (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .f32 (rows t0 u) : FVec Ideal S1024x128 .f32) (L2 .f32 (rows t0 (o scl q k v)) : FVec Ideal S1024x128 .f32)
      (iota .tc S1024x256 32 [1] iota_S1024x256_d1_w32) X3 X4 f8 f9 (carryB q k v u t0 (256 * (4 * ((i 1).val + 1)))) ⟨n, h4⟩
    dsimp only at st
    rw [st, e]
    have tr := trip1_1 𝒱 c bd i arg2 harg2 arg3 harg3 arg4 harg4 arg5 harg5 arg6 harg6 arg7 harg7 arg8 harg8 arg9 harg9 X3 X4 _ _ q k v u g8 g9 hX3 hX4 ⟨n, h4⟩ t0 _ ht rfl e8 e9
    rw [View.writes_append, View.writes_append]
    exact tr

/-- The free loop after `n` trips: what it carries, and what the two matrices it adds to hold. -/
theorem loop1_2 (hX3 : arg3.view.read (Elt Ideal) X3 = L2 .bf16 k) (hX4 : arg4.view.read (Elt Ideal) X4 = L2 .bf16 v) (b : BitVec 32) (t0 : ℕ) (ht : t0 = 1024 * (i 1).val)
    (hf8 : arg8.view.read (Elt Ideal) f8 = L2 .f32 (acc t0 (256 * (4 * (i 1).val)) (dz scl q k v u) q g8))
    (hf9 : arg9.view.read (Elt Ideal) f9 = L2 .f32 (acc t0 (256 * (4 * (i 1).val)) (w scl q k) u g9)) :
    ∀ n : ℕ, n ≤ 4 * (i 1).val →
      (st_k1_t2 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .bf16 (rows t0 u) : FVec Ideal S1024x128 .bf16) (L2 .f32 (fun r _ => delta scl q k v u (t0 + r)) : FVec Ideal S1024x1 .f32)
      k1_pay54 k1_pay55 b X3 X4 f8 f9 (carryB q k v u t0 (256 * (4 * (i 1).val))) n).1 = carryB q k v u t0 (256 * (4 * (i 1).val - n))
      ∧ arg8.view.read (Elt Ideal) (arg8.view.writes (Elt Ideal) f8 (st_k1_t2 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .bf16 (rows t0 u) : FVec Ideal S1024x128 .bf16) (L2 .f32 (fun r _ => delta scl q k v u (t0 + r)) : FVec Ideal S1024x1 .f32)
      k1_pay54 k1_pay55 b X3 X4 f8 f9 (carryB q k v u t0 (256 * (4 * (i 1).val))) n).2.1)
        = L2 .f32 (acc t0 (256 * (4 * (i 1).val - n)) (dz scl q k v u) q g8)
      ∧ arg9.view.read (Elt Ideal) (arg9.view.writes (Elt Ideal) f9 (st_k1_t2 (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .bf16 (rows t0 u) : FVec Ideal S1024x128 .bf16) (L2 .f32 (fun r _ => delta scl q k v u (t0 + r)) : FVec Ideal S1024x1 .f32)
      k1_pay54 k1_pay55 b X3 X4 f8 f9 (carryB q k v u t0 (256 * (4 * (i 1).val))) n).2.2)
        = L2 .f32 (acc t0 (256 * (4 * (i 1).val - n)) (w scl q k) u g9)
  | 0, _ => ⟨rfl, hf8, hf9⟩
  | n + 1, h => by
    have h4 : n < (k1_t2_loop i).trips := by rw [trips1_2]; omega
    obtain ⟨e, e8, e9⟩ := loop1_2 hX3 hX4 b t0 ht hf8 hf9 n (by omega)
    rw [show 256 * (4 * (i 1).val - n) = 256 * (4 * (i 1).val - 1 - n) + 256 by omega] at e e8 e9
    rw [show 4 * (i 1).val - (n + 1) = 4 * (i 1).val - 1 - n by omega]
    have st := st_k1_t2_succ (F := Ideal) 𝒱 c bd i arg2 harg2 arg3 harg3 arg4 harg4 arg5 harg5 arg6 harg6 arg7 harg7 arg8 harg8 arg9 harg9 (BitVec.ofNat 32 (i 1).val)
      (L2 .bf16 (rows t0 q) : FVec Ideal S1024x128 .bf16) (L2 .bf16 (rows t0 u) : FVec Ideal S1024x128 .bf16) (L2 .f32 (fun r _ => delta scl q k v u (t0 + r)) : FVec Ideal S1024x1 .f32)
      k1_pay54 k1_pay55 b X3 X4 f8 f9 (carryB q k v u t0 (256 * (4 * (i 1).val))) ⟨n, h4⟩
    dsimp only at st
    rw [st, e]
    have tr := trip1_2 𝒱 c bd i arg2 harg2 arg3 harg3 arg4 harg4 arg5 harg5 arg6 harg6 arg7 harg7 arg8 harg8 arg9 harg9 X3 X4 _ _ q k v u g8 g9 hX3 hX4 b ⟨n, h4⟩ t0 _ ht rfl e8 e9
    rw [View.writes_append, View.writes_append]
    exact tr

end Cert.Stick

end
-- ==== Proof.BwdOut.lean ====
/- What the backward call writes at one grid point. -/
module

public import proofs.«01_k».proof.Proof.BwdTrip
public import proofs.«01_k».proof.Proof.Gen.KernelIdeal.Frame

@[expose] public section

set_option maxRecDepth 16384

noncomputable section

namespace Cert.Stick

open Idealize.ShloMosaic Idealize.ShloMosaic.ValueIdx Idealize.SL.Sem Cert.KernelIdeal Cert.KernelIdeal.Facts Cert.KernelIdeal.Gen
open scoped BigOperators

variable (c : Dev nD) (i : grid1.Coords)
  (arg2 : Memref sig .tc .vmem S1024x128 .bf16) (harg2 : arg2.IsWhole) (arg3 : Memref sig .tc .vmem S8192x128 .bf16) (harg3 : arg3.IsWhole)
  (arg4 : Memref sig .tc .vmem S8192x128 .bf16) (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32) (harg7 : arg7.IsWhole)
  (arg8 : Memref sig .tc .vmem S8192x128 .f32) (harg8 : arg8.IsWhole) (arg9 : Memref sig .tc .vmem S8192x128 .f32) (harg9 : arg9.IsWhole)
  (q k v u g8 g9 : ℕ → ℕ → ℝ)

theorem pay50_L2 (f : ℕ → ℕ → ℝ) : (k1_pay50 (L2 .bf16 f) : FVec Ideal S1024x128 .bf16) = L2 .bf16 f := by
  unfold k1_pay50; exact shapeCast_L2 _ _
theorem pay51_L2 (f : ℕ → ℕ → ℝ) : (k1_pay51 (L2 .f32 f) : FVec Ideal S1024x128 .bf16) = L2 .bf16 f := by
  unfold k1_pay51; exact truncf_L2 _ _

/-- The loops begin with zeros: no key from the block's end on lies below a query of the block. -/
theorem carryB_start (t : ℕ) : ((k1_pay57 : FVec Ideal S1024x128 .f32), (k1_pay56 : FVec Ideal S1024x1 .f32), (k1_pay56 : FVec Ideal S1024x1 .f32))
    = carryB q k v u (1024 * t) (256 * (4 * (t + 1))) := by
  unfold k1_pay57 k1_pay56 carryB
  dsimp only
  rw [bc_zero, bc_zero]
  refine congrArg₂ Prod.mk (L2_congr fun r d hr _ => ?_) (congrArg₂ Prod.mk (L2_congr fun r d hr _ => ?_) (L2_congr fun r d hr _ => ?_))
  · have hr : r < 1024 := hr
    exact (Finset.sum_eq_zero fun j hj => by
      rw [Finset.mem_Ico] at hj
      simp only [dz]; rw [if_neg (by omega), zero_mul]).symm
  · have hr : r < 1024 := hr
    exact (Finset.sum_eq_zero fun j hj => by
      rw [Finset.mem_Ico] at hj
      simp only [lk]; rw [if_neg (by omega)]).symm
  · have hr : r < 1024 := hr
    exact (Finset.sum_eq_zero fun j hj => by
      rw [Finset.mem_Ico] at hj
      simp only [e, w]; rw [if_neg (by omega), mul_zero]).symm

/-- No row has taken in anything yet. -/
theorem acc_start (t : ℕ) (f p g : ℕ → ℕ → ℝ) (h : ∀ j r, j ≤ r → f j r = 0) :
    (L2 .f32 (acc (1024 * t) (256 * (4 * (t + 1))) f p g) : FVec Ideal S8192x128 .f32) = L2 .f32 g :=
  L2_congr fun r d _ _ => by
    simp only [acc]
    by_cases hr : 256 * (4 * (t + 1)) ≤ r
    · rw [if_pos hr, Finset.sum_eq_zero, add_zero]
      intro j hj
      rw [Finset.mem_Ico] at hj
      rw [h _ _ (by omega), zero_mul]
    · rw [if_neg hr]

theorem dz_above (j r : ℕ) (h : j ≤ r) : dz scl q k v u j r = 0 := by simp only [dz]; rw [if_neg (by omega)]
theorem w_above (j r : ℕ) (h : j ≤ r) : w scl q k j r = 0 := by simp only [w]; rw [if_neg (by omega)]

/-- The two loops one after the other, begun with zeros. -/
theorem loops1 (X3 : BufTy.Contents (Elt Ideal) arg3.view.ty) (X4 : BufTy.Contents (Elt Ideal) arg4.view.ty)
    (f8 : BufTy.Contents (Elt Ideal) arg8.view.ty) (f9 : BufTy.Contents (Elt Ideal) arg9.view.ty)
    (hX3 : arg3.view.read (Elt Ideal) X3 = L2 .bf16 k) (hX4 : arg4.view.read (Elt Ideal) X4 = L2 .bf16 v)
    (hf8 : arg8.view.read (Elt Ideal) f8 = L2 .f32 g8) (hf9 : arg9.view.read (Elt Ideal) f9 = L2 .f32 g9) :
    ∀ S1, (st_k1_t1 (F := Ideal) Variants.none c none i arg2 harg2 arg3 harg3 arg4 harg4 arg5 harg5 arg6 harg6 arg7 harg7 arg8 harg8 arg9 harg9 (BitVec.ofNat 32 (i 1).val)
      (L2 .bf16 (rows (1024 * (i 1).val) q) : FVec Ideal S1024x128 .bf16) (L2 .f32 (rows (1024 * (i 1).val) u) : FVec Ideal S1024x128 .f32) (L2 .f32 (rows (1024 * (i 1).val) (o scl q k v)) : FVec Ideal S1024x128 .f32)
      (iota .tc S1024x256 32 [1] iota_S1024x256_d1_w32) X3 X4 f8 f9 (k1_pay57, k1_pay56, k1_pay56) 4) = S1 → ∀ S2, (st_k1_t2 (F := Ideal) Variants.none c none i arg2 harg2 arg3 harg3 arg4 harg4 arg5 harg5 arg6 harg6 arg7 harg7 arg8 harg8 arg9 harg9 (BitVec.ofNat 32 (i 1).val)
      (L2 .bf16 (rows (1024 * (i 1).val) q) : FVec Ideal S1024x128 .bf16) (L2 .bf16 (rows (1024 * (i 1).val) u) : FVec Ideal S1024x128 .bf16) (L2 .f32 (fun r _ => delta scl q k v u (1024 * (i 1).val + r)) : FVec Ideal S1024x1 .f32)
      k1_pay54 k1_pay55 0#32 X3 X4 (arg8.view.writes (Elt Ideal) f8 S1.2.1) (arg9.view.writes (Elt Ideal) f9 S1.2.2) S1.1 (4 * (i 1).val)) = S2 →
      S2.1 = carryB q k v u (1024 * (i 1).val) 0
      ∧ arg8.view.read (Elt Ideal) (arg8.view.writes (Elt Ideal) (arg8.view.writes (Elt Ideal) f8 S1.2.1) S2.2.1)
        = L2 .f32 (acc (1024 * (i 1).val) 0 (dz scl q k v u) q g8)
      ∧ arg9.view.read (Elt Ideal) (arg9.view.writes (Elt Ideal) (arg9.view.writes (Elt Ideal) f9 S1.2.2) S2.2.2)
        = L2 .f32 (acc (1024 * (i 1).val) 0 (w scl q k) u g9) := by
  intro S1 h1 S2 h2
  rw [← acc_start (i 1).val (dz scl q k v u) q g8 (dz_above q k v u)] at hf8
  rw [← acc_start (i 1).val (w scl q k) u g9 (w_above q k)] at hf9
  have e1 := loop1_1 Variants.none c none i arg2 harg2 arg3 harg3 arg4 harg4 arg5 harg5 arg6 harg6 arg7 harg7 arg8 harg8 arg9 harg9 X3 X4 f8 f9 q k v u g8 g9 hX3 hX4 _ rfl hf8 hf9 4 (by omega)
  rw [← carryB_start, h1, show 4 * ((i 1).val + 1) - 4 = 4 * (i 1).val by omega] at e1
  obtain ⟨a1, b1, d1⟩ := e1
  have e2 := loop1_2 Variants.none c none i arg2 harg2 arg3 harg3 arg4 harg4 arg5 harg5 arg6 harg6 arg7 harg7 arg8 harg8 arg9 harg9 X3 X4 _ _ q k v u g8 g9 hX3 hX4 0#32 _ rfl b1 d1 (4 * (i 1).val) (by omega)
  rw [← a1, h2, Nat.sub_self, Nat.mul_zero] at e2
  exact e2

/-- The matrix the first block starts from. -/
theorem read_zeros6 (m : Memref sig .tc .vmem S8192x128 .f32) :
    m.view.read (Elt Ideal) (m.view.writes (Elt Ideal) m.view.junk kernelRun1_A.sl.H6_1) = (L2 .f32 (fun _ _ => 0) : FVec Ideal S8192x128 .f32) := by
  unfold kernelRun1_A.sl.H6_1
  have hz : (![0, 0] : Fin 2 → ℕ) = fun _ => 0 := by decide
  rw [View.read_writes_junk_eq_canon]
  refine (View.canon_unit_zero (S := S8192x128) hz inb_S8192x128_S8192x128_0_0 _).trans ?_
  unfold k1_pay48
  exact bc_zero _

/-- The matrix the first block starts from. -/
theorem read_zeros7 (m : Memref sig .tc .vmem S8192x128 .f32) :
    m.view.read (Elt Ideal) (m.view.writes (Elt Ideal) m.view.junk kernelRun1_A.sl.H7_1) = (L2 .f32 (fun _ _ => 0) : FVec Ideal S8192x128 .f32) := by
  unfold kernelRun1_A.sl.H7_1
  have hz : (![0, 0] : Fin 2 → ℕ) = fun _ => 0 := by decide
  rw [View.read_writes_junk_eq_canon]
  refine (View.canon_unit_zero (S := S8192x128) hz inb_S8192x128_S8192x128_0_0 _).trans ?_
  unfold k1_pay49
  exact bc_zero _

/-- The first block writes the block's rows of the gradient of the queries. -/
theorem out1A_5 (hc0 : cond1_0 i) : out1_A_5 (F := Ideal) c i arg2 harg2 arg3 harg3 arg4 harg4 arg5 harg5 arg6 harg6 arg7 harg7 arg8 harg8 arg9 harg9 hc0
      (L2 .bf16 (rows (1024 * (i 1).val) q)) (L2 .bf16 k) (L2 .bf16 v) (L2 .f32 (rows (1024 * (i 1).val) (o scl q k v))) (L2 .f32 (rows (1024 * (i 1).val) u))
    = L2 .f32 (rows (1024 * (i 1).val) (dq scl q k v u)) := by
  unfold out1_A_5
  rw [View.read_writes_eq_canon _ _ _ (cover1_A_5 c i arg2 harg2 arg3 harg3 arg4 harg4 arg5 harg5 arg6 harg6 arg7 harg7 arg8 harg8 arg9 harg9 hc0 _ _ _ _ _)]
  unfold kernelRun1_A
  dsimp only
  unfold kernelRun1_A.sl.r_5 kernelRun1_A.sl.r_4 kernelRun1_A.sl.r_3 kernelRun1_A.sl.r_2 kernelRun1_A.sl.r_1 kernelRun1_A.sl.r kernelRun1_A.sl.v19
  dsimp only
  have hz : (![0, 0] : Fin 2 → ℕ) = fun _ => 0 := by decide
  simp only [View.readAt_eq_ld, harg2.read_unread, harg5.read_unread, harg6.read_unread, View.ld_unit_zero (S := S1024x128) hz inb_S1024x128_S1024x128_0_0]
  rw [pay50_L2, pay51_L2, tile_delta]
  rw [show Scf.trips (0#32) (Scalar.addi 0#32 4#32) 1#32 = 4 from trips1_1, show (Scf.trips (0#32) (Scalar.addi (0#32) (Scalar.muli (Scalar.divsi (Scalar.subi (Scalar.muli (BitVec.ofNat 32 (i 1).val) 4#32) 0#32) 1#32) 1#32)) 1#32) = 4 * (i 1).val from trips1_2 i,
    show Scf.trips (Scalar.addi (0#32) (Scalar.muli (Scalar.divsi (Scalar.subi (Scalar.muli (BitVec.ofNat 32 (i 1).val) 4#32) 0#32) 1#32) 1#32))
      (Scalar.addi (0#32) (Scalar.subi (Scalar.muli (BitVec.ofNat 32 (i 1).val) 4#32) 0#32)) 1#32 = 0 from trips1_3 i]
  have main := loops1 c i arg2 harg2 arg3 harg3 arg4 harg4 arg5 harg5 arg6 harg6 arg7 harg7 arg8 harg8 arg9 harg9 q k v u (fun _ _ => 0) (fun _ _ => 0) (harg3.unread (L2 .bf16 k)) (harg4.unread (L2 .bf16 v)) (arg8.view.writes (Elt Ideal) arg8.view.junk kernelRun1_A.sl.H6_1) (arg9.view.writes (Elt Ideal) arg9.view.junk kernelRun1_A.sl.H7_1)
    (harg3.read_unread _) (harg4.read_unread _) (read_zeros6 arg8) (read_zeros7 arg9) _ rfl _ rfl
  simp only [st_k1_t3.eq_1, Prod.mk.eta, List.nil_append, View.writes_append]
  refine (View.canon_unit_zero (S := S1024x128) hz inb_S1024x128_S1024x128_0_0 _).trans ?_
  rw [main.1]
  exact L2_congr fun r d _ _ => by simp only [tailMul, rows, dq, Nat.Ico_zero_eq_range]

/-- The first block writes the gradient of the keys with the block's share added. -/
theorem out1A_6 (hc0 : cond1_0 i) : out1_A_6 (F := Ideal) c i arg2 harg2 arg3 harg3 arg4 harg4 arg5 harg5 arg6 harg6 arg7 harg7 arg8 harg8 arg9 harg9 hc0
      (L2 .bf16 (rows (1024 * (i 1).val) q)) (L2 .bf16 k) (L2 .bf16 v) (L2 .f32 (rows (1024 * (i 1).val) (o scl q k v))) (L2 .f32 (rows (1024 * (i 1).val) u))
    = L2 .f32 (acc (1024 * (i 1).val) 0 (dz scl q k v u) q (fun _ _ => 0)) := by
  unfold out1_A_6
  rw [View.read_writes_eq_canon _ _ _ (cover1_A_6 c i arg2 harg2 arg3 harg3 arg4 harg4 arg5 harg5 arg6 harg6 arg7 harg7 arg8 harg8 arg9 harg9 hc0 _ _ _ _ _), ← View.read_writes_eq_canon arg8.view arg8.view.junk _ (cover1_A_6 c i arg2 harg2 arg3 harg3 arg4 harg4 arg5 harg5 arg6 harg6 arg7 harg7 arg8 harg8 arg9 harg9 hc0 _ _ _ _ _)]
  unfold kernelRun1_A
  dsimp only
  unfold kernelRun1_A.sl.r_5 kernelRun1_A.sl.r_4 kernelRun1_A.sl.r_3 kernelRun1_A.sl.r_2 kernelRun1_A.sl.r_1 kernelRun1_A.sl.r kernelRun1_A.sl.v19
  dsimp only
  have hz : (![0, 0] : Fin 2 → ℕ) = fun _ => 0 := by decide
  simp only [View.readAt_eq_ld, harg2.read_unread, harg5.read_unread, harg6.read_unread, View.ld_unit_zero (S := S1024x128) hz inb_S1024x128_S1024x128_0_0]
  rw [pay50_L2, pay51_L2, tile_delta]
  rw [show Scf.trips (0#32) (Scalar.addi 0#32 4#32) 1#32 = 4 from trips1_1, show (Scf.trips (0#32) (Scalar.addi (0#32) (Scalar.muli (Scalar.divsi (Scalar.subi (Scalar.muli (BitVec.ofNat 32 (i 1).val) 4#32) 0#32) 1#32) 1#32)) 1#32) = 4 * (i 1).val from trips1_2 i,
    show Scf.trips (Scalar.addi (0#32) (Scalar.muli (Scalar.divsi (Scalar.subi (Scalar.muli (BitVec.ofNat 32 (i 1).val) 4#32) 0#32) 1#32) 1#32))
      (Scalar.addi (0#32) (Scalar.subi (Scalar.muli (BitVec.ofNat 32 (i 1).val) 4#32) 0#32)) 1#32 = 0 from trips1_3 i]
  have main := loops1 c i arg2 harg2 arg3 harg3 arg4 harg4 arg5 harg5 arg6 harg6 arg7 harg7 arg8 harg8 arg9 harg9 q k v u (fun _ _ => 0) (fun _ _ => 0) (harg3.unread (L2 .bf16 k)) (harg4.unread (L2 .bf16 v)) (arg8.view.writes (Elt Ideal) arg8.view.junk kernelRun1_A.sl.H6_1) (arg9.view.writes (Elt Ideal) arg9.view.junk kernelRun1_A.sl.H7_1)
    (harg3.read_unread _) (harg4.read_unread _) (read_zeros6 arg8) (read_zeros7 arg9) _ rfl _ rfl
  simp only [st_k1_t3.eq_1, Prod.mk.eta, List.nil_append, View.writes_append]
  exact main.2.1

/-- The first block writes the gradient of the values with the block's share added. -/
theorem out1A_7 (hc0 : cond1_0 i) : out1_A_7 (F := Ideal) c i arg2 harg2 arg3 harg3 arg4 harg4 arg5 harg5 arg6 harg6 arg7 harg7 arg8 harg8 arg9 harg9 hc0
      (L2 .bf16 (rows (1024 * (i 1).val) q)) (L2 .bf16 k) (L2 .bf16 v) (L2 .f32 (rows (1024 * (i 1).val) (o scl q k v))) (L2 .f32 (rows (1024 * (i 1).val) u))
    = L2 .f32 (acc (1024 * (i 1).val) 0 (w scl q k) u (fun _ _ => 0)) := by
  unfold out1_A_7
  rw [View.read_writes_eq_canon _ _ _ (cover1_A_7 c i arg2 harg2 arg3 harg3 arg4 harg4 arg5 harg5 arg6 harg6 arg7 harg7 arg8 harg8 arg9 harg9 hc0 _ _ _ _ _), ← View.read_writes_eq_canon arg9.view arg9.view.junk _ (cover1_A_7 c i arg2 harg2 arg3 harg3 arg4 harg4 arg5 harg5 arg6 harg6 arg7 harg7 arg8 harg8 arg9 harg9 hc0 _ _ _ _ _)]
  unfold kernelRun1_A
  dsimp only
  unfold kernelRun1_A.sl.r_5 kernelRun1_A.sl.r_4 kernelRun1_A.sl.r_3 kernelRun1_A.sl.r_2 kernelRun1_A.sl.r_1 kernelRun1_A.sl.r kernelRun1_A.sl.v19
  dsimp only
  have hz : (![0, 0] : Fin 2 → ℕ) = fun _ => 0 := by decide
  simp only [View.readAt_eq_ld, harg2.read_unread, harg5.read_unread, harg6.read_unread, View.ld_unit_zero (S := S1024x128) hz inb_S1024x128_S1024x128_0_0]
  rw [pay50_L2, pay51_L2, tile_delta]
  rw [show Scf.trips (0#32) (Scalar.addi 0#32 4#32) 1#32 = 4 from trips1_1, show (Scf.trips (0#32) (Scalar.addi (0#32) (Scalar.muli (Scalar.divsi (Scalar.subi (Scalar.muli (BitVec.ofNat 32 (i 1).val) 4#32) 0#32) 1#32) 1#32)) 1#32) = 4 * (i 1).val from trips1_2 i,
    show Scf.trips (Scalar.addi (0#32) (Scalar.muli (Scalar.divsi (Scalar.subi (Scalar.muli (BitVec.ofNat 32 (i 1).val) 4#32) 0#32) 1#32) 1#32))
      (Scalar.addi (0#32) (Scalar.subi (Scalar.muli (BitVec.ofNat 32 (i 1).val) 4#32) 0#32)) 1#32 = 0 from trips1_3 i]
  have main := loops1 c i arg2 harg2 arg3 harg3 arg4 harg4 arg5 harg5 arg6 harg6 arg7 harg7 arg8 harg8 arg9 harg9 q k v u (fun _ _ => 0) (fun _ _ => 0) (harg3.unread (L2 .bf16 k)) (harg4.unread (L2 .bf16 v)) (arg8.view.writes (Elt Ideal) arg8.view.junk kernelRun1_A.sl.H6_1) (arg9.view.writes (Elt Ideal) arg9.view.junk kernelRun1_A.sl.H7_1)
    (harg3.read_unread _) (harg4.read_unread _) (read_zeros6 arg8) (read_zeros7 arg9) _ rfl _ rfl
  simp only [st_k1_t3.eq_1, Prod.mk.eta, List.nil_append, View.writes_append]
  exact main.2.2

/-- A later block writes the block's rows of the gradient of the queries. -/
theorem out1B_5 (hc0 : ¬cond1_0 i) : out1_B_5 (F := Ideal) c i arg2 harg2 arg3 harg3 arg4 harg4 arg5 harg5 arg6 harg6 arg7 harg7 arg8 harg8 arg9 harg9 hc0
      (L2 .bf16 (rows (1024 * (i 1).val) q)) (L2 .bf16 k) (L2 .bf16 v) (L2 .f32 (rows (1024 * (i 1).val) (o scl q k v))) (L2 .f32 (rows (1024 * (i 1).val) u))
      (L2 .f32 g8) (L2 .f32 g9)
    = L2 .f32 (rows (1024 * (i 1).val) (dq scl q k v u)) := by
  unfold out1_B_5
  rw [View.read_writes_eq_canon _ _ _ (cover1_B_5 c i arg2 harg2 arg3 harg3 arg4 harg4 arg5 harg5 arg6 harg6 arg7 harg7 arg8 harg8 arg9 harg9 hc0 _ _ _ _ _ _ _)]
  unfold kernelRun1_B
  dsimp only
  unfold kernelRun1_B.sl.r_5 kernelRun1_B.sl.r_4 kernelRun1_B.sl.r_3 kernelRun1_B.sl.r_2 kernelRun1_B.sl.r_1 kernelRun1_B.sl.r kernelRun1_B.sl.v19
  dsimp only
  have hz : (![0, 0] : Fin 2 → ℕ) = fun _ => 0 := by decide
  simp only [View.readAt_eq_ld, harg2.read_unread, harg5.read_unread, harg6.read_unread, View.ld_unit_zero (S := S1024x128) hz inb_S1024x128_S1024x128_0_0]
  rw [pay50_L2, pay51_L2, tile_delta]
  rw [show Scf.trips (0#32) (Scalar.addi 0#32 4#32) 1#32 = 4 from trips1_1, show (Scf.trips (0#32) (Scalar.addi (0#32) (Scalar.muli (Scalar.divsi (Scalar.subi (Scalar.muli (BitVec.ofNat 32 (i 1).val) 4#32) 0#32) 1#32) 1#32)) 1#32) = 4 * (i 1).val from trips1_2 i,
    show Scf.trips (Scalar.addi (0#32) (Scalar.muli (Scalar.divsi (Scalar.subi (Scalar.muli (BitVec.ofNat 32 (i 1).val) 4#32) 0#32) 1#32) 1#32))
      (Scalar.addi (0#32) (Scalar.subi (Scalar.muli (BitVec.ofNat 32 (i 1).val) 4#32) 0#32)) 1#32 = 0 from trips1_3 i]
  have main := loops1 c i arg2 harg2 arg3 harg3 arg4 harg4 arg5 harg5 arg6 harg6 arg7 harg7 arg8 harg8 arg9 harg9 q k v u g8 g9 (harg3.unread (L2 .bf16 k)) (harg4.unread (L2 .bf16 v)) (harg8.unread (L2 .f32 g8)) (harg9.unread (L2 .f32 g9))
    (harg3.read_unread _) (harg4.read_unread _) (harg8.read_unread _) (harg9.read_unread _) _ rfl _ rfl
  simp only [st_k1_t3.eq_1, Prod.mk.eta, List.nil_append, View.writes_append]
  refine (View.canon_unit_zero (S := S1024x128) hz inb_S1024x128_S1024x128_0_0 _).trans ?_
  rw [main.1]
  exact L2_congr fun r d _ _ => by simp only [tailMul, rows, dq, Nat.Ico_zero_eq_range]

/-- A later block writes the gradient of the keys with the block's share added. -/
theorem out1B_6 (hc0 : ¬cond1_0 i) : out1_B_6 (F := Ideal) c i arg2 harg2 arg3 harg3 arg4 harg4 arg5 harg5 arg6 harg6 arg7 harg7 arg8 harg8 arg9 harg9 hc0
      (L2 .bf16 (rows (1024 * (i 1).val) q)) (L2 .bf16 k) (L2 .bf16 v) (L2 .f32 (rows (1024 * (i 1).val) (o scl q k v))) (L2 .f32 (rows (1024 * (i 1).val) u))
      (L2 .f32 g8) (L2 .f32 g9)
    = L2 .f32 (acc (1024 * (i 1).val) 0 (dz scl q k v u) q g8) := by
  unfold out1_B_6
  unfold kernelRun1_B
  dsimp only
  unfold kernelRun1_B.sl.r_5 kernelRun1_B.sl.r_4 kernelRun1_B.sl.r_3 kernelRun1_B.sl.r_2 kernelRun1_B.sl.r_1 kernelRun1_B.sl.r kernelRun1_B.sl.v19
  dsimp only
  have hz : (![0, 0] : Fin 2 → ℕ) = fun _ => 0 := by decide
  simp only [View.readAt_eq_ld, harg2.read_unread, harg5.read_unread, harg6.read_unread, View.ld_unit_zero (S := S1024x128) hz inb_S1024x128_S1024x128_0_0]
  rw [pay50_L2, pay51_L2, tile_delta]
  rw [show Scf.trips (0#32) (Scalar.addi 0#32 4#32) 1#32 = 4 from trips1_1, show (Scf.trips (0#32) (Scalar.addi (0#32) (Scalar.muli (Scalar.divsi (Scalar.subi (Scalar.muli (BitVec.ofNat 32 (i 1).val) 4#32) 0#32) 1#32) 1#32)) 1#32) = 4 * (i 1).val from trips1_2 i,
    show Scf.trips (Scalar.addi (0#32) (Scalar.muli (Scalar.divsi (Scalar.subi (Scalar.muli (BitVec.ofNat 32 (i 1).val) 4#32) 0#32) 1#32) 1#32))
      (Scalar.addi (0#32) (Scalar.subi (Scalar.muli (BitVec.ofNat 32 (i 1).val) 4#32) 0#32)) 1#32 = 0 from trips1_3 i]
  have main := loops1 c i arg2 harg2 arg3 harg3 arg4 harg4 arg5 harg5 arg6 harg6 arg7 harg7 arg8 harg8 arg9 harg9 q k v u g8 g9 (harg3.unread (L2 .bf16 k)) (harg4.unread (L2 .bf16 v)) (harg8.unread (L2 .f32 g8)) (harg9.unread (L2 .f32 g9))
    (harg3.read_unread _) (harg4.read_unread _) (harg8.read_unread _) (harg9.read_unread _) _ rfl _ rfl
  simp only [st_k1_t3.eq_1, Prod.mk.eta, List.nil_append, View.writes_append]
  exact main.2.1

/-- A later block writes the gradient of the values with the block's share added. -/
theorem out1B_7 (hc0 : ¬cond1_0 i) : out1_B_7 (F := Ideal) c i arg2 harg2 arg3 harg3 arg4 harg4 arg5 harg5 arg6 harg6 arg7 harg7 arg8 harg8 arg9 harg9 hc0
      (L2 .bf16 (rows (1024 * (i 1).val) q)) (L2 .bf16 k) (L2 .bf16 v) (L2 .f32 (rows (1024 * (i 1).val) (o scl q k v))) (L2 .f32 (rows (1024 * (i 1).val) u))
      (L2 .f32 g8) (L2 .f32 g9)
    = L2 .f32 (acc (1024 * (i 1).val) 0 (w scl q k) u g9) := by
  unfold out1_B_7
  unfold kernelRun1_B
  dsimp only
  unfold kernelRun1_B.sl.r_5 kernelRun1_B.sl.r_4 kernelRun1_B.sl.r_3 kernelRun1_B.sl.r_2 kernelRun1_B.sl.r_1 kernelRun1_B.sl.r kernelRun1_B.sl.v19
  dsimp only
  have hz : (![0, 0] : Fin 2 → ℕ) = fun _ => 0 := by decide
  simp only [View.readAt_eq_ld, harg2.read_unread, harg5.read_unread, harg6.read_unread, View.ld_unit_zero (S := S1024x128) hz inb_S1024x128_S1024x128_0_0]
  rw [pay50_L2, pay51_L2, tile_delta]
  rw [show Scf.trips (0#32) (Scalar.addi 0#32 4#32) 1#32 = 4 from trips1_1, show (Scf.trips (0#32) (Scalar.addi (0#32) (Scalar.muli (Scalar.divsi (Scalar.subi (Scalar.muli (BitVec.ofNat 32 (i 1).val) 4#32) 0#32) 1#32) 1#32)) 1#32) = 4 * (i 1).val from trips1_2 i,
    show Scf.trips (Scalar.addi (0#32) (Scalar.muli (Scalar.divsi (Scalar.subi (Scalar.muli (BitVec.ofNat 32 (i 1).val) 4#32) 0#32) 1#32) 1#32))
      (Scalar.addi (0#32) (Scalar.subi (Scalar.muli (BitVec.ofNat 32 (i 1).val) 4#32) 0#32)) 1#32 = 0 from trips1_3 i]
  have main := loops1 c i arg2 harg2 arg3 harg3 arg4 harg4 arg5 harg5 arg6 harg6 arg7 harg7 arg8 harg8 arg9 harg9 q k v u g8 g9 (harg3.unread (L2 .bf16 k)) (harg4.unread (L2 .bf16 v)) (harg8.unread (L2 .f32 g8)) (harg9.unread (L2 .f32 g9))
    (harg3.read_unread _) (harg4.read_unread _) (harg8.read_unread _) (harg9.read_unread _) _ rfl _ rfl
  simp only [st_k1_t3.eq_1, Prod.mk.eta, List.nil_append, View.writes_append]
  exact main.2.2

end Cert.Stick

end
-- ==== Proof.BwdArray.lean ====
/- The arrays that the backward call leaves. -/
module

public import proofs.«01_k».proof.Proof.FwdArray
public import proofs.«01_k».proof.Proof.BwdOut
public import proofs.«01_k».proof.Proof.Gen.KernelIdeal.Points

@[expose] public section

set_option maxRecDepth 16384

noncomputable section

namespace Cert.Stick

open Idealize.ShloMosaic Idealize.ShloMosaic.ValueIdx Idealize.SL.Sem Cert.KernelIdeal Cert.KernelIdeal.Facts Cert.KernelIdeal.Gen Idealize.ShloMosaic.Pipeline
open scoped BigOperators

variable (V : (c : Dev nD) → (b : Ref sig .tc) → Buf (Elt Ideal) ((c.tc : Thread nD τ).loc b)) (c : Dev nD) (Q U : ℕ → ℕ → ℝ)

theorem idx1 (t : Fin cfg1.N) : (win1_0.index t 0 = (grid1.coords t 1).val ∧ win1_0.index t 1 = (grid1.coords t 0).val)
    ∧ (win1_1.index t 0 = 0 ∧ win1_1.index t 1 = 8 + (grid1.coords t 0).val)
    ∧ (win1_2.index t 0 = 0 ∧ win1_2.index t 1 = 16 + (grid1.coords t 0).val)
    ∧ (win1_3.index t 0 = (grid1.coords t 1).val ∧ win1_3.index t 1 = (grid1.coords t 0).val)
    ∧ (win1_4.index t 0 = (grid1.coords t 1).val ∧ win1_4.index t 1 = (grid1.coords t 0).val)
    ∧ (win1_5.index t 0 = (grid1.coords t 1).val ∧ win1_5.index t 1 = (grid1.coords t 0).val)
    ∧ (win1_6.index t 0 = 0 ∧ win1_6.index t 1 = (grid1.coords t 0).val)
    ∧ (win1_7.index t 0 = 0 ∧ win1_7.index t 1 = (grid1.coords t 0).val) := by
  revert t; decide +kernel

theorem coords1 (t : Fin cfg1.N) : t.val = 8 * (grid1.coords t 0).val + (grid1.coords t 1).val := by
  revert t; decide +kernel

theorem iblk1_0 (hV : V c main_v0 = (L2 .bf16 Q : FVec Ideal S8192x3072 .bf16)) (t : Fin cfg1.N) :
    (iblk1 (F := Ideal) V c 0 t : FVec Ideal S1024x128 .bf16) = L2 .bf16 (rows (1024 * (grid1.coords t 1).val) (cols (128 * (grid1.coords t 0).val) Q)) := by
  funext j
  unfold iblk1
  rw [View.read_apply]
  show V c main_v0 _ = _
  rw [hV, L2_apply, L2_apply]
  have h := (idx1 t).1
  refine congrArg (fun x : ℝ => (x : EReal)) (congrArg₂ Q ?_ ?_)
  · show win1_0.index t 0 * 1024 + 1 * (j 0).val = _
    rw [h.1]; omega
  · show win1_0.index t 1 * 128 + 1 * (j 1).val = _
    rw [h.2]; omega

theorem iblk1_1 (hV : V c main_v0 = (L2 .bf16 Q : FVec Ideal S8192x3072 .bf16)) (t : Fin cfg1.N) :
    (iblk1 (F := Ideal) V c 1 t : FVec Ideal S8192x128 .bf16) = L2 .bf16 (cols (1024 + 128 * (grid1.coords t 0).val) Q) := by
  funext j
  unfold iblk1
  rw [View.read_apply]
  show V c main_v0 _ = _
  rw [hV, L2_apply, L2_apply]
  have h := (idx1 t).2.1
  refine congrArg (fun x : ℝ => (x : EReal)) (congrArg₂ Q ?_ ?_)
  · show win1_1.index t 0 * 8192 + 1 * (j 0).val = _
    rw [h.1]; omega
  · show win1_1.index t 1 * 128 + 1 * (j 1).val = _
    rw [h.2]; omega

theorem iblk1_2 (hV : V c main_v0 = (L2 .bf16 Q : FVec Ideal S8192x3072 .bf16)) (t : Fin cfg1.N) :
    (iblk1 (F := Ideal) V c 2 t : FVec Ideal S8192x128 .bf16) = L2 .bf16 (cols (2048 + 128 * (grid1.coords t 0).val) Q) := by
  funext j
  unfold iblk1
  rw [View.read_apply]
  show V c main_v0 _ = _
  rw [hV, L2_apply, L2_apply]
  have h := (idx1 t).2.2.1
  refine congrArg (fun x : ℝ => (x : EReal)) (congrArg₂ Q ?_ ?_)
  · show win1_2.index t 0 * 8192 + 1 * (j 0).val = _
    rw [h.1]; omega
  · show win1_2.index t 1 * 128 + 1 * (j 1).val = _
    rw [h.2]; omega

theorem iblk1_3 (hV : V c main_v1 = (L2 .f32 (heads (oH Q)) : FVec Ideal S8192x1024 .f32)) (t : Fin cfg1.N) :
    (iblk1 (F := Ideal) V c 3 t : FVec Ideal S1024x128 .f32) = L2 .f32 (rows (1024 * (grid1.coords t 1).val) (oH Q (grid1.coords t 0).val)) := by
  funext j
  unfold iblk1
  rw [View.read_apply]
  show V c main_v1 _ = _
  rw [hV, L2_apply, L2_apply]
  have h := (idx1 t).2.2.2.1
  have hj : (j 1).val < 128 := (j 1).isLt
  have e0 : win1_3.index t 0 * 1024 + 1 * (j 0).val = 1024 * (grid1.coords t 1).val + (j 0).val := by rw [h.1]; omega
  have e1 : win1_3.index t 1 * 128 + 1 * (j 1).val = 128 * (grid1.coords t 0).val + (j 1).val := by rw [h.2]; omega
  refine congrArg (fun x : ℝ => (x : EReal)) ?_
  show heads (oH Q) (win1_3.index t 0 * 1024 + 1 * (j 0).val) (win1_3.index t 1 * 128 + 1 * (j 1).val) = _
  rw [e0, e1]
  simp only [heads, rows]
  rw [show (128 * (grid1.coords t 0).val + (j 1).val) / 128 = (grid1.coords t 0).val by omega, show (128 * (grid1.coords t 0).val + (j 1).val) % 128 = (j 1).val by omega]

theorem iblk1_4 (hV : V c main_arg1 = (L2 .f32 U : FVec Ideal S8192x1024 .f32)) (t : Fin cfg1.N) :
    (iblk1 (F := Ideal) V c 4 t : FVec Ideal S1024x128 .f32) = L2 .f32 (rows (1024 * (grid1.coords t 1).val) (cols (128 * (grid1.coords t 0).val) U)) := by
  funext j
  unfold iblk1
  rw [View.read_apply]
  show V c main_arg1 _ = _
  rw [hV, L2_apply, L2_apply]
  have h := (idx1 t).2.2.2.2.1
  refine congrArg (fun x : ℝ => (x : EReal)) (congrArg₂ U ?_ ?_)
  · show win1_4.index t 0 * 1024 + 1 * (j 0).val = _
    rw [h.1]; omega
  · show win1_4.index t 1 * 128 + 1 * (j 1).val = _
    rw [h.2]; omega

/-- The gradients of head `h`'s queries, keys and values, from the matrix of the queries, keys and values and the gradient of the output. -/
def dqH (Q U : ℕ → ℕ → ℝ) (h : ℕ) : ℕ → ℕ → ℝ := dq scl (cols (128 * h) Q) (cols (1024 + 128 * h) Q) (cols (2048 + 128 * h) Q) (cols (128 * h) U)
def dkH (Q U : ℕ → ℕ → ℝ) (h : ℕ) : ℕ → ℕ → ℝ := dk scl (cols (128 * h) Q) (cols (1024 + 128 * h) Q) (cols (2048 + 128 * h) Q) (cols (128 * h) U)
def dvH (Q U : ℕ → ℕ → ℝ) (h : ℕ) : ℕ → ℕ → ℝ := dv scl (cols (128 * h) Q) (cols (1024 + 128 * h) Q) (cols (128 * h) U)

/-- The share of the first `n` blocks of queries. -/
def sofar (n : ℕ) (f p : ℕ → ℕ → ℝ) : ℕ → ℕ → ℝ := fun r d => ∑ j ∈ Finset.range (1024 * n), f j r * p j d

theorem acc_part (n : ℕ) (f p : ℕ → ℕ → ℝ) : acc (1024 * n) 0 f p (sofar n f p) = sofar (n + 1) f p := by
  funext r d
  simp only [acc, sofar, Nat.zero_le, if_true]
  rw [show 1024 * (n + 1) = 1024 * n + 1024 by omega, Finset.range_eq_Ico, Finset.range_eq_Ico]
  exact Finset.sum_Ico_consecutive _ (by omega) (by omega)

theorem acc_part_zero (f p : ℕ → ℕ → ℝ) : acc (1024 * 0) 0 f p (fun _ _ => 0) = sofar (0 + 1) f p := by
  rw [← acc_part]; congr 1

/-- What the three outputs hold after a point: the block's rows of one, the blocks' shares so far of the other two. -/
theorem outs1 (h0 : V c main_v0 = (L2 .bf16 Q : FVec Ideal S8192x3072 .bf16)) (h1 : V c main_v1 = (L2 .f32 (heads (oH Q)) : FVec Ideal S8192x1024 .f32))
    (h2 : V c main_arg1 = (L2 .f32 U : FVec Ideal S8192x1024 .f32)) : ∀ (n : ℕ) (t : Fin cfg1.N), (grid1.coords t 1).val = n →
    outsAt1 (F := Ideal) V c t.val t.isLt = ((L2 .f32 (rows (1024 * n) (dqH Q U (grid1.coords t 0).val)) : FVec Ideal S1024x128 .f32),
      (L2 .f32 (sofar (n + 1) (dz scl (cols (128 * (grid1.coords t 0).val) Q) (cols (1024 + 128 * (grid1.coords t 0).val) Q) (cols (2048 + 128 * (grid1.coords t 0).val) Q) (cols (128 * (grid1.coords t 0).val) U)) (cols (128 * (grid1.coords t 0).val) Q)) : FVec Ideal S8192x128 .f32),
      (L2 .f32 (sofar (n + 1) (w scl (cols (128 * (grid1.coords t 0).val) Q) (cols (1024 + 128 * (grid1.coords t 0).val) Q)) (cols (128 * (grid1.coords t 0).val) U)) : FVec Ideal S8192x128 .f32))
  | 0, t, hn => by
    have hc := coords1 t
    have hz : t.val % 8 = 0 := by omega
    rw [outsAt1_A V c t hz, iblk1_0 V c Q h0, iblk1_1 V c Q h0, iblk1_2 V c Q h0, iblk1_3 V c Q h1, iblk1_4 V c U h2]
    unfold oH
    rw [out1A_5, out1A_6, out1A_7, hn, acc_part_zero, acc_part_zero]
    rfl
  | n + 1, t, hn => by
    have hc := coords1 t
    have hi : (grid1.coords t 1).val < 8 := coord1_lt _
    have hz : ¬t.val % 8 = 0 := by omega
    have hlt : t.val - 1 < cfg1.N := Nat.lt_of_le_of_lt (Nat.sub_le _ _) t.isLt
    have hc' := coords1 ⟨t.val - 1, hlt⟩
    have hi' : (grid1.coords ⟨t.val - 1, hlt⟩ 1).val < 8 := coord1_lt _
    dsimp only at hc'
    have ih := outs1 h0 h1 h2 n ⟨t.val - 1, hlt⟩ (by omega)
    rw [show (grid1.coords ⟨t.val - 1, hlt⟩ 0).val = (grid1.coords t 0).val by omega] at ih
    dsimp only at ih
    rw [outsAt1_B V c t hz, iblk1_0 V c Q h0, iblk1_1 V c Q h0, iblk1_2 V c Q h0, iblk1_3 V c Q h1, iblk1_4 V c U h2, ih]
    unfold oH
    dsimp only
    rw [out1B_5, out1B_6, out1B_7, hn, acc_part, acc_part]
    rfl

theorem final1_5 (h0 : V c main_v0 = (L2 .bf16 Q : FVec Ideal S8192x3072 .bf16)) (h1 : V c main_v1 = (L2 .f32 (heads (oH Q)) : FVec Ideal S8192x1024 .f32))
    (h2 : V c main_arg1 = (L2 .f32 U : FVec Ideal S8192x1024 .f32)) :
    ((dat1 (F := Ideal) V c).arrAt 5 cfg1.N : FVec Ideal S8192x1024 .f32) = L2 .f32 (heads (dqH Q U)) := by
  refine (dat1 (F := Ideal) V c).arrAt_eq_of_cover 5 (L2 .f32 (heads (dqH Q U)) : FVec Ideal S8192x1024 .f32) ?_ ?_
  · intro t _
    show (cfg1.win 5).cut (grid1.coords t) ((dat1 V c).after 5 t) = _
    rw [after1_5, outs1 V c Q U h0 h1 h2 (grid1.coords t 1).val t rfl]
    dsimp only
    funext j
    rw [View.read_apply]
    have h := (idx1 t).2.2.2.2.2.1
    have hj : (j 1).val < 128 := (j 1).isLt
    show (L2 .f32 _ : FVec Ideal S1024x128 .f32) j = (L2 .f32 (heads (dqH Q U)) : FVec Ideal S8192x1024 .f32) _
    rw [L2_apply, L2_apply]
    have e0 : win1_5.index t 0 * 1024 + 1 * (j 0).val = 1024 * (grid1.coords t 1).val + (j 0).val := by rw [h.1]; omega
    have e1 : win1_5.index t 1 * 128 + 1 * (j 1).val = 128 * (grid1.coords t 0).val + (j 1).val := by rw [h.2]; omega
    refine congrArg (fun x : ℝ => (x : EReal)) ?_
    show _ = heads (dqH Q U) (win1_5.index t 0 * 1024 + 1 * (j 0).val) (win1_5.index t 1 * 128 + 1 * (j 1).val)
    rw [e0, e1]
    unfold heads
    rw [show (128 * (grid1.coords t 0).val + (j 1).val) / 128 = (grid1.coords t 0).val by omega, show (128 * (grid1.coords t 0).val + (j 1).val) % 128 = (j 1).val by omega]
    rfl
  · intro i
    have h0 : (i 0 : ℕ) < 8192 := (i 0).isLt
    have h1 : (i 1 : ℕ) < 1024 := (i 1).isLt
    obtain ⟨t, ht0, ht1⟩ : ∃ t : Fin cfg1.N, (grid1.coords t 0).val = (i 1).val / 128 ∧ (grid1.coords t 1).val = (i 0).val / 1024 := by
      have : ∀ a b : Fin 8, ∃ t : Fin cfg1.N, (grid1.coords t 0).val = a.val ∧ (grid1.coords t 1).val = b.val := by decide +kernel
      exact this ⟨(i 1).val / 128, by omega⟩ ⟨(i 0).val / 1024, by omega⟩
    refine ⟨t, flush1_5 t, ?_⟩
    have h := (idx1 t).2.2.2.2.2.1
    show i ∈ ((View.whole main_v2_0).slice (win1_5.rect t)).set
    rw [View.set_slice_whole, Rect.mem_set_unit]
    intro a
    match a with
    | ⟨0, _⟩ =>
      show win1_5.index t 0 * 1024 ≤ (i 0 : ℕ) ∧ (i 0 : ℕ) < win1_5.index t 0 * 1024 + 1024
      rw [h.1]; omega
    | ⟨1, _⟩ =>
      show win1_5.index t 1 * 128 ≤ (i 1 : ℕ) ∧ (i 1 : ℕ) < win1_5.index t 1 * 128 + 128
      rw [h.2]; omega

theorem final1_6 (h0 : V c main_v0 = (L2 .bf16 Q : FVec Ideal S8192x3072 .bf16)) (h1 : V c main_v1 = (L2 .f32 (heads (oH Q)) : FVec Ideal S8192x1024 .f32))
    (h2 : V c main_arg1 = (L2 .f32 U : FVec Ideal S8192x1024 .f32)) :
    ((dat1 (F := Ideal) V c).arrAt 6 cfg1.N : FVec Ideal S8192x1024 .f32) = L2 .f32 (heads (dkH Q U)) := by
  refine (dat1 (F := Ideal) V c).arrAt_eq_of_cover 6 (L2 .f32 (heads (dkH Q U)) : FVec Ideal S8192x1024 .f32) ?_ ?_
  · intro t hf
    show (cfg1.win 6).cut (grid1.coords t) ((dat1 V c).after 6 t) = _
    rw [after1_6, outs1 V c Q U h0 h1 h2 (grid1.coords t 1).val t rfl]
    dsimp only
    have h7 := (flush1_6 t).mp hf
    have hi : (grid1.coords t 1).val < 8 := coord1_lt _
    rw [show (grid1.coords t 1).val = 7 by have := coords1 t; omega]
    funext j
    rw [View.read_apply]
    have h := (idx1 t).2.2.2.2.2.2.1
    have hj : (j 1).val < 128 := (j 1).isLt
    show (L2 .f32 _ : FVec Ideal S8192x128 .f32) j = (L2 .f32 (heads (dkH Q U)) : FVec Ideal S8192x1024 .f32) _
    rw [L2_apply, L2_apply]
    have e0 : win1_6.index t 0 * 8192 + 1 * (j 0).val = (j 0).val := by rw [h.1]; omega
    have e1 : win1_6.index t 1 * 128 + 1 * (j 1).val = 128 * (grid1.coords t 0).val + (j 1).val := by rw [h.2]; omega
    refine congrArg (fun x : ℝ => (x : EReal)) ?_
    show _ = heads (dkH Q U) (win1_6.index t 0 * 8192 + 1 * (j 0).val) (win1_6.index t 1 * 128 + 1 * (j 1).val)
    rw [e0, e1]
    unfold heads
    rw [show (128 * (grid1.coords t 0).val + (j 1).val) / 128 = (grid1.coords t 0).val by omega, show (128 * (grid1.coords t 0).val + (j 1).val) % 128 = (j 1).val by omega]
    rfl
  · intro i
    have h0 : (i 0 : ℕ) < 8192 := (i 0).isLt
    have h1 : (i 1 : ℕ) < 1024 := (i 1).isLt
    obtain ⟨t, ht0, ht1⟩ : ∃ t : Fin cfg1.N, (grid1.coords t 0).val = (i 1).val / 128 ∧ (grid1.coords t 1).val = 7 := by
      have : ∀ a b : Fin 8, ∃ t : Fin cfg1.N, (grid1.coords t 0).val = a.val ∧ (grid1.coords t 1).val = b.val := by decide +kernel
      exact this ⟨(i 1).val / 128, by omega⟩ 7
    refine ⟨t, (flush1_6 t).mpr (by have := coords1 t; omega), ?_⟩
    have h := (idx1 t).2.2.2.2.2.2.1
    show i ∈ ((View.whole main_v2_1).slice (win1_6.rect t)).set
    rw [View.set_slice_whole, Rect.mem_set_unit]
    intro a
    match a with
    | ⟨0, _⟩ =>
      show win1_6.index t 0 * 8192 ≤ (i 0 : ℕ) ∧ (i 0 : ℕ) < win1_6.index t 0 * 8192 + 8192
      rw [h.1]; omega
    | ⟨1, _⟩ =>
      show win1_6.index t 1 * 128 ≤ (i 1 : ℕ) ∧ (i 1 : ℕ) < win1_6.index t 1 * 128 + 128
      rw [h.2]; omega

theorem final1_7 (h0 : V c main_v0 = (L2 .bf16 Q : FVec Ideal S8192x3072 .bf16)) (h1 : V c main_v1 = (L2 .f32 (heads (oH Q)) : FVec Ideal S8192x1024 .f32))
    (h2 : V c main_arg1 = (L2 .f32 U : FVec Ideal S8192x1024 .f32)) :
    ((dat1 (F := Ideal) V c).arrAt 7 cfg1.N : FVec Ideal S8192x1024 .f32) = L2 .f32 (heads (dvH Q U)) := by
  refine (dat1 (F := Ideal) V c).arrAt_eq_of_cover 7 (L2 .f32 (heads (dvH Q U)) : FVec Ideal S8192x1024 .f32) ?_ ?_
  · intro t hf
    show (cfg1.win 7).cut (grid1.coords t) ((dat1 V c).after 7 t) = _
    rw [after1_7, outs1 V c Q U h0 h1 h2 (grid1.coords t 1).val t rfl]
    dsimp only
    have h7 := (flush1_7 t).mp hf
    have hi : (grid1.coords t 1).val < 8 := coord1_lt _
    rw [show (grid1.coords t 1).val = 7 by have := coords1 t; omega]
    funext j
    rw [View.read_apply]
    have h := (idx1 t).2.2.2.2.2.2.2
    have hj : (j 1).val < 128 := (j 1).isLt
    show (L2 .f32 _ : FVec Ideal S8192x128 .f32) j = (L2 .f32 (heads (dvH Q U)) : FVec Ideal S8192x1024 .f32) _
    rw [L2_apply, L2_apply]
    have e0 : win1_7.index t 0 * 8192 + 1 * (j 0).val = (j 0).val := by rw [h.1]; omega
    have e1 : win1_7.index t 1 * 128 + 1 * (j 1).val = 128 * (grid1.coords t 0).val + (j 1).val := by rw [h.2]; omega
    refine congrArg (fun x : ℝ => (x : EReal)) ?_
    show _ = heads (dvH Q U) (win1_7.index t 0 * 8192 + 1 * (j 0).val) (win1_7.index t 1 * 128 + 1 * (j 1).val)
    rw [e0, e1]
    unfold heads
    rw [show (128 * (grid1.coords t 0).val + (j 1).val) / 128 = (grid1.coords t 0).val by omega, show (128 * (grid1.coords t 0).val + (j 1).val) % 128 = (j 1).val by omega]
    rfl
  · intro i
    have h0 : (i 0 : ℕ) < 8192 := (i 0).isLt
    have h1 : (i 1 : ℕ) < 1024 := (i 1).isLt
    obtain ⟨t, ht0, ht1⟩ : ∃ t : Fin cfg1.N, (grid1.coords t 0).val = (i 1).val / 128 ∧ (grid1.coords t 1).val = 7 := by
      have : ∀ a b : Fin 8, ∃ t : Fin cfg1.N, (grid1.coords t 0).val = a.val ∧ (grid1.coords t 1).val = b.val := by decide +kernel
      exact this ⟨(i 1).val / 128, by omega⟩ 7
    refine ⟨t, (flush1_7 t).mpr (by have := coords1 t; omega), ?_⟩
    have h := (idx1 t).2.2.2.2.2.2.2
    show i ∈ ((View.whole main_v2_2).slice (win1_7.rect t)).set
    rw [View.set_slice_whole, Rect.mem_set_unit]
    intro a
    match a with
    | ⟨0, _⟩ =>
      show win1_7.index t 0 * 8192 ≤ (i 0 : ℕ) ∧ (i 0 : ℕ) < win1_7.index t 0 * 8192 + 8192
      rw [h.1]; omega
    | ⟨1, _⟩ =>
      show win1_7.index t 1 * 128 ≤ (i 1 : ℕ) ∧ (i 1 : ℕ) < win1_7.index t 1 * 128 + 128
      rw [h.2]; omega

end Cert.Stick

end
-- ==== Proof.Region.lean ====
/-
What every region of a program of several pallas_calls needs beside its body: the contents of the core's buffers when the
region is left (`exitW`), the region as a segment of @main (`plainRegion`), and the accumulator of a blocked product
point by point (`accum`). Nothing here depends on a particular program.
-/
module

public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.VecWindow

@[expose] public section

set_option maxRecDepth 16384

noncomputable section

namespace Cert.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {nD : ℕ} {τ : Topo} {sig : RefSig} {Val : EltTy → Type}
variable {U : Type} [URA U] {Λ₀ : Labels}

local notation "𝕄" => MT nD τ sig Unit Val ℕ U ℕ

/-- Window `w`'s block at point `t` of a call, read off its array as the call finds it. -/
def blockAt (cfg : Cfg sig Λ₀) (W : Dev nD → Valuation τ sig Val) (c : Dev nD) (w : Fin cfg.W) (t : Fin cfg.N) : ((cfg.win w).xblock (cfg.grid.coords t)).Idx → Val (cfg.win w).elt :=
  ((cfg.win w).blk t).view.read Val (W c (Proc.devRef .tc (Pipeline.arrRef cfg.spec w)))

/-! ## The buffers when a region is left -/

/-- Every window of the call on the buffer `r` is an input. -/
abbrev OnlyRead (cfg : Cfg sig Λ₀) (r : Ref sig .tc) : Prop := ∀ w : Fin cfg.W, Pipeline.arrRef cfg.spec w = r → (cfg.win w).isOut = false

/-- The core's buffers when a region is left: each of its arrays at what the pipeline's write-backs leave, every other
    buffer as it was entered. -/
def exitW {cfg : Cfg sig Λ₀} (dat : (c : Dev nD) → Dat τ Val Unit ℕ U ℕ cfg c) (W : Dev nD → Valuation τ sig Val) (c : Dev nD) :
    Valuation τ sig Val :=
  Pipeline.withArrays cfg.spec c (W c) fun w => (dat c).arrAt w cfg.N

/-- A region's array holds, when the region is left, what its write-backs leave. -/
theorem exitW_arr {cfg : Cfg sig Λ₀} (dat : (c : Dev nD) → Dat τ Val Unit ℕ U ℕ cfg c) (W : Dev nD → Valuation τ sig Val)
    (hsh : Pipeline.SharedIn cfg.spec) (hA : ∀ c w, (dat c).A w = W c (Proc.devRef .tc (Pipeline.arrRef cfg.spec w)))
    (c : Dev nD) (w : Fin cfg.W) :
    exitW dat W c (Proc.devRef .tc (Pipeline.arrRef cfg.spec w)) = (dat c).arrAt w cfg.N := by
  unfold exitW; exact (dat c).withArrays_arrAt hsh _ (hA c) w

/-- A buffer that is no array of the region is left as it was. -/
theorem exitW_of_ne {cfg : Cfg sig Λ₀} (dat : (c : Dev nD) → Dat τ Val Unit ℕ U ℕ cfg c) (W : Dev nD → Valuation τ sig Val)
    (c : Dev nD) (b : Ref sig .tc) (hb : ∀ w, Pipeline.arrRef cfg.spec w ≠ b) :
    exitW dat W c (Proc.devRef .tc b) = W c (Proc.devRef .tc b) := by
  unfold exitW; exact Pipeline.withArrays_of_ne cfg.spec c _ _ b hb

/-- A buffer that is no output array of the region is left as it was. -/
theorem exitW_of {cfg : Cfg sig Λ₀} (dat : (c : Dev nD) → Dat τ Val Unit ℕ U ℕ cfg c) (W : Dev nD → Valuation τ sig Val)
    (hsh : Pipeline.SharedIn cfg.spec) (hA : ∀ c w, (dat c).A w = W c (Proc.devRef .tc (Pipeline.arrRef cfg.spec w)))
    (c : Dev nD) (r : Ref sig .tc) (h : ∀ w : Fin cfg.W, Pipeline.arrRef cfg.spec w = r → (cfg.win w).isOut = false) :
    exitW dat W c (Proc.devRef .tc r) = W c (Proc.devRef .tc r) := by
  by_cases hw : ∃ w : Fin cfg.W, Pipeline.arrRef cfg.spec w = r
  · obtain ⟨w, rfl⟩ := hw
    exact (exitW_arr dat W hsh hA c w).trans (((dat c).arrAt_in w (h w rfl) _).trans (hA c w))
  · exact exitW_of_ne dat W c r fun w e => hw ⟨w, e⟩

/-! ## A region as a segment -/

/-- What rides beside the buffers through every segment: the generator register at some state, nothing owed. -/
abbrev rides (c : Dev nD) : sProp 𝕄 :=
  iprop((∃ r, prngReg c r) ∗ ∃ W, owes (c.tc : Thread nD τ) (0 : CellTallies nD τ sig Unit) W)

variable {P : Type} [Fintype P]

/-- The pipelines of a program without prefetched tables, with the admissible contents of no table. -/
abbrev plain (cfgs : P → Cfg sig Λ₀) : P → Pipeline.PCfg sig Λ₀ Val := fun q => (cfgs q).toPCfg
abbrev plainAdm (cfgs : P → Cfg sig Λ₀) : (q : P) → (plain (Val := Val) cfgs q).Adm := fun q => (cfgs q).toPCfg_adm

-- the library's lemmas are stated over the pinned configuration, which unfolds to the printed one
set_option backward.isDefEq.respectTransparency.types false in
/-- A region whose pipeline owes nothing, has no semaphore of its own and whose invariant is entered from and left at the
    scoped buffers no window stages, as a segment: entered with every unscoped buffer at `W`, left with them at `W'`. -/
def plainRegion (cfgs : P → Cfg sig Λ₀)
    (pdats : (q : P) → (c : Dev nD) → Dat τ Val Unit ℕ U ℕ (Pipeline.pin (plain cfgs) (plainAdm cfgs) q) c)
    (defs₀ : Defs nD τ sig Val Λ₀) (p : P) (kit : Pipeline.LaunchFacts₀ (nD := nD) (τ := τ) cfgs p)
    (W W' : Dev nD → Valuation τ sig Val)
    (hq : ∀ c w, ((cfgs p).spec w).isOut = false → (pdats p c).q w = Pipeline.shareOf (cfgs p).spec w)
    (howed : ∀ c t, (pdats p c).owed t = 0) (hrec : ∀ c x, x ∈ (pdats p c).recorded 0)
    (hA : ∀ c w, (pdats p c).A w = W c (Proc.devRef .tc (Pipeline.arrRef (cfgs p).spec w)))
    (hF : ∀ c w, (pdats p c).arrAt w (cfgs p).N = W' c (Proc.devRef .tc (Pipeline.arrRef (cfgs p).spec w)))
    (hrest : ∀ c (b : Ref sig .tc), b ∉ Finset.univ.image (Pipeline.arrRef (cfgs p).spec) → W' c (Proc.devRef .tc b) = W c (Proc.devRef .tc b))
    (hbody : ∀ c, BodyObligation (pdats p c) defs₀ Variants.none () Set.univ)
    (hin : ∀ c, (Pipeline.ΦA (cfgs p).spec c : sProp 𝕄) ⊢ (pdats p c).Φ 0)
    (hout : ∀ c, (pdats p c).Φ (Fin.last _) ⊢ (Pipeline.ΦA (cfgs p).spec c : sProp 𝕄)) :
    Pipeline.RegionSeg (plain cfgs) (plainAdm cfgs) pdats () defs₀ Variants.none (fun _ => ∅) (fun _ _ => 0) p where
  win := kit.win
  block_pos := kit.block_pos
  stage_whole := kit.stage_whole
  K := PEmpty
  osem k := k.elim
  ho := Pipeline.OwnSemFacts.none _
  hbody c := (hbody c).loose
  hwaits := Pipeline.hwaits_of_owed_zero _ _ _ _ _ _ p howed
  pre c := iprop(StableHlo.held (c.tc : Thread nD τ) (Pipeline.ucRefs τ sig) (W c) ∗ rides c)
  post c := iprop(StableHlo.held (c.tc : Thread nD τ) (Pipeline.ucRefs τ sig) (W' c) ∗ rides c)
  X c := iprop(∃ r, prngReg c r)
  Y c := iprop(∃ r, prngReg c r)
  Z c := Pipeline.unscopedRest (Ix := Unit) (Name := ℕ) (U := U) (Lvl := ℕ) (cfgs p).spec c (fun b => W c (Proc.devRef .tc b))
  hentry c := by
    rw [Pipeline.ownSems0_none]
    have hsplit := Pipeline.arrays_of_unscopedBufs_shared (p := p) (plain cfgs) (plainAdm cfgs) pdats kit.win kit.sharedIn kit.arr_whole c
      (hq c) (fun b => W c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays_shared (p := p) (plain cfgs) (plainAdm cfgs) (Ix := Unit) (Name := ℕ) (U := U) (Lvl := ℕ)
      kit.win kit.sharedIn kit.arr_whole c pdats (hq c)
      (fun b => W c (Proc.devRef .tc b)) (fun b => W' c (Proc.devRef .tc b)) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-- A load of a whole buffer known to read `x` gives `x`. -/
theorem readAt_unread {sig : RefSig} {Val : EltTy → Type} {κ : Kind} {sp : Space} {s : Shape} {e : EltTy} {a : Memref sig κ sp s e} (h : a.IsWhole) (x : s.Idx → Val e)
    {off : Fin s.rank → ℕ} (inb : ∀ a, off a + s.size a ≤ s.size a) :
    a.view.readAt Val (Rect.unit off s.size inb).toLoadRect (h.unread x) = x := by
  rw [View.readAt_full]; exact h.read_unread x

/-! ## The accumulator of a blocked product -/

/-- What the accumulator holds before point `n` of a grid whose blocks of one output take `k` points each: the first of the
    `k` stores `first`, every other one turns the contents by `next`. Before point 0 it holds anything (`first 0`). -/
def accum {α : Type} (k : ℕ) (first : ℕ → α) (next : ℕ → α → α) : ℕ → α
  | 0 => first 0
  | n + 1 => if n % k = 0 then first n else next n (accum k first next n)

theorem accum_first {α : Type} (k : ℕ) (first : ℕ → α) (next : ℕ → α → α) (n : ℕ) (h : n % k = 0) :
    accum k first next (n + 1) = first n := by simp only [accum, h, if_true]

theorem accum_next {α : Type} (k : ℕ) (first : ℕ → α) (next : ℕ → α → α) (n : ℕ) (h : ¬n % k = 0) :
    accum k first next (n + 1) = next n (accum k first next n) := by simp only [accum, h, if_false]

/-- The `n`-th point of a grid of `N`. -/
def pointOf {N : ℕ} (h : 0 < N) (n : ℕ) : Fin N := ⟨n % N, Nat.mod_lt _ h⟩
theorem pointOf_val {N : ℕ} (h : 0 < N) (t : Fin N) : pointOf h t.val = t := Fin.ext (Nat.mod_eq_of_lt t.isLt)

/-- `accum` over the points of a grid. -/
def accumAt {α : Type} {N : ℕ} (h : 0 < N) (k : ℕ) (first : Fin N → α) (next : Fin N → α → α) : ℕ → α :=
  accum k (fun n => first (pointOf h n)) (fun n => next (pointOf h n))
theorem accumAt_first {α : Type} {N : ℕ} (h : 0 < N) (k : ℕ) (first : Fin N → α) (next : Fin N → α → α) (t : Fin N) (h0 : t.val % k = 0) :
    accumAt h k first next (t.val + 1) = first t := by unfold accumAt; rw [accum_first _ _ _ _ h0, pointOf_val]
theorem accumAt_next {α : Type} {N : ℕ} (h : 0 < N) (k : ℕ) (first : Fin N → α) (next : Fin N → α → α) (t : Fin N) (h0 : ¬t.val % k = 0) :
    accumAt h k first next (t.val + 1) = next t (accumAt h k first next t.val) := by unfold accumAt; rw [accum_next _ _ _ _ h0, pointOf_val]

/-! ## The launch -/

section Launch
open Idealize.ShloMosaic.Rounds

local notation "𝕎" => MT nD τ sig Unit Val ℕ (UR sig nD τ) ℕ

/-- A buffer that is none of the region's arrays is, when the region is left, as it was. -/
theorem exitW_rest {cfg : Cfg sig Λ₀} (dat : (c : Dev nD) → Dat τ Val Unit ℕ U ℕ cfg c) (W : Dev nD → Valuation τ sig Val) (c : Dev nD) (b : Ref sig .tc)
    (hb : b ∉ Finset.univ.image (Pipeline.arrRef cfg.spec)) : exitW dat W c (Proc.devRef .tc b) = W c (Proc.devRef .tc b) :=
  exitW_of_ne _ _ c b fun w e => hb (Finset.mem_image.mpr ⟨w, Finset.mem_univ _, e⟩)

/-- A call as a segment: entered with every unscoped buffer at `W`, left with them at what its write-backs leave. -/
def callRegion (cfgs : P → Cfg sig Λ₀) (pdats : (q : P) → (c : Dev nD) → Dat τ Val Unit ℕ U ℕ (Pipeline.pin (plain cfgs) (plainAdm cfgs) q) c)
    (defs₀ : Defs nD τ sig Val Λ₀) (p : P) (kit : Pipeline.LaunchFacts₀ (nD := nD) (τ := τ) cfgs p) (W : Dev nD → Valuation τ sig Val)
    (hbody : ∀ c, BodyObligation (pdats p c) defs₀ Variants.none () Set.univ)
    (hin : ∀ c, (Pipeline.ΦA (cfgs p).spec c : sProp 𝕄) ⊢ (pdats p c).Φ 0)
    (hout : ∀ c, (pdats p c).Φ (Fin.last _) ⊢ (Pipeline.ΦA (cfgs p).spec c : sProp 𝕄))
    (hq : ∀ c w, ((cfgs p).spec w).isOut = false → (pdats p c).q w = Pipeline.shareOf (cfgs p).spec w := by intros; rfl)
    (howed : ∀ c t, (pdats p c).owed t = 0 := by intros; rfl) (hrec : ∀ c x, x ∈ (pdats p c).recorded 0 := by intros; trivial)
    (hA : ∀ c w, (pdats p c).A w = W c (Proc.devRef .tc (Pipeline.arrRef (cfgs p).spec w)) := by intros; rfl) :
    Pipeline.RegionSeg (plain cfgs) (plainAdm cfgs) pdats () defs₀ Variants.none (fun _ => ∅) (fun _ _ => 0) p :=
  plainRegion cfgs pdats defs₀ p kit W (exitW (pdats p) W) hq howed hrec hA (fun c w => (exitW_arr (pdats p) W kit.sharedIn hA c w).symm) (exitW_rest (pdats p) W)
    hbody hin hout

/-- A host stretch as a segment. -/
abbrev hostSeg (cfgs : P → Cfg sig Λ₀) (defs₀ : Defs nD τ sig Val Λ₀) (ops : List (HloOp τ sig Val)) (hsub : ops.Forall fun op => op.bufs ⊆ StableHlo.tcRefs τ sig)
    (hfresh : ops.Forall fun op => op.fresh = ∅) (W : Dev nD → Valuation τ sig Val) :
    Pipeline.HostSeg (Name := ℕ) (U := UR sig nD τ) (plain (Val := Val) cfgs) defs₀ Variants.none (fun _ => (∅ : Finset Unit)) (fun _ _ => 0) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides

/-- The state a core ends in. -/
abbrev endState (B : Dev nD → Valuation τ sig Val) (c : Dev nD) : sProp 𝕎 := iprop(StableHlo.held (c : Thread nD τ) (Pipeline.ucRefs τ sig) (B c) ∗ ∃ r, prngReg c r)

theorem lands (B : Dev nD → Valuation τ sig Val) (c : Dev nD) : (iprop(StableHlo.held (c : Thread nD τ) (Pipeline.ucRefs τ sig) (B c) ∗ rides c) : sProp 𝕎)
    ⊢ iprop(endState B c ∗ ∃ W, owes (c : Thread nD τ) (0 : CellTallies nD τ sig Unit) W) := by
  iintro ⟨Hh, Hp, HO⟩
  isplitr [HO]
  · isplitl [Hh] <;> iassumption
  iexact HO

-- the launch's implicit arguments are found by unification that unfolds plain definitions
set_option backward.isDefEq.respectTransparency.types false in
/-- A program that runs as segments, from any memory with zero counters: every weakly fair execution terminates without a fault,
    and ends with every unscoped buffer at the contents of the last boundary and every counter at zero. -/
theorem launched [DecidableEq P] [∀ e, Nonempty (Val e)] (cfgs : P → Cfg sig Λ₀) (inj : Function.Injective (Pipeline.cellOf (nD := nD) (τ := τ) cfgs))
    (pdats : (q : P) → (c : Dev nD) → Dat τ Val Unit ℕ (UR sig nD τ) ℕ (Pipeline.pin (plain cfgs) (plainAdm cfgs) q) c)
    (defs₀ : Defs nD τ sig Val Λ₀) (m : (ℓ : Loc nD τ sig) → Buf Val ℓ) (ρ : Dev nD → PrngReg)
    (main : Dev nD → Prog (TpuEff nD τ sig Val (Pipeline.Sig Λ₀ P fun p => (plain (Val := Val) cfgs p).Adm) .tc) PUnit)
    (segs : List (Pipeline.Seg (plain (Val := Val) cfgs) (plainAdm cfgs) pdats () defs₀ Variants.none (fun _ => ∅) (fun _ _ => 0)))
    (hrun : ∀ c, main c = Pipeline.Seg.run segs) (hnd : (Pipeline.Seg.pipes segs).Nodup) (B0 Bn : Dev nD → Valuation τ sig Val)
    (hB : B0 = fun c b => m (c, b))
    (hch : Pipeline.Seg.Chains (fun c => iprop(StableHlo.held (c : Thread nD τ) (Pipeline.ucRefs τ sig) (B0 c) ∗ rides c)) segs
      fun c => iprop(endState Bn c ∗ ∃ W, owes (c : Thread nD τ) (0 : CellTallies nD τ sig Unit) W))
    (hsc : ∀ sm : SemLoc sig, sm.isScoped .tc = true) :
    θ_run (Pipeline.defs (plain cfgs) defs₀) (onTc (τ := τ) main) ⟨m, fun _ => 0, ρ⟩ (fun r =>
      (∀ c : Dev nD, ∀ b : Ref sig .tc, ¬ (Proc.devRef .tc b : DevRef τ sig).isScoped → r.2.mem ((c.tc : Thread nD τ).loc b) = Bn c (Proc.devRef .tc b))
      ∧ r.2.sem = fun _ => 0) := by
  subst hB
  exact Pipeline.θ_run_regions_kit_sems (plain (Val := Val) cfgs) (plainAdm cfgs) pdats () inj emb₁ defs₀ Variants.none (fun _ => ∅) (fun _ _ => 0) m ρ main segs
    (fun c Q => by rw [hrun c])
    hnd
    (O₀ := 0) (hL := fun _ _ => rfl) (G := fun _ => iprop(emp))
    (u₀ := initOf (Pipeline.cells cfgs inj) (Pipeline.launchToks cfgs inj))
    (hu₀ := by
      iintro Hu; imodintro
      isplitl [Hu]
      · iapply (show (ownU (initOf (Pipeline.cells cfgs inj) (Pipeline.launchToks cfgs inj)) : sProp 𝕎)
            ⊢ BI.own (emb₁ (initOf (Pipeline.cells cfgs inj) (Pipeline.launchToks cfgs inj))) from .rfl)
        iexact Hu
      iapply (show (BI.emp : sProp 𝕎) ⊢ bigSep Finset.univ (fun _ : Dev nD => (BI.emp : sProp 𝕎)) from by rw [BI.bigSep_emp_const])
      iempintro)
    (T₀ := fun c => iprop(StableHlo.held (c : Thread nD τ) (Pipeline.ucRefs τ sig) (fun b => m (c, b)) ∗ rides c)) (Tₙ := endState Bn)
    (hch := hch)
    (hinit := by
      refine Pipeline.initEach (fun _ => ∅) (fun _ _ => 0) fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bn c b)
    (hfin := fun c s' => by
      iintro ⟨⟨Hh, -⟩, HSI⟩
      unfold StableHlo.held
      imodintro
      iapply (pointsTo_read_all (Pipeline.ucRefs τ sig) (fun b => (((c : Thread nD τ)).1, b)) (Bn c) s')
      isplitl [Hh] <;> iassumption)
    (hQ := fun s h hz => ⟨fun c b hb => h c _ (Finset.mem_filter.mpr ⟨StableHlo.devRef_mem_tcRefs b, hb⟩), funext fun g => hz g (.inr (hsc g.2))⟩)

end Launch

end Cert.Region

end
-- ==== Proof.Wide.lean ====
/- Matrices and vectors of extended reals, infinities among them, given by a function of their coordinates; what the
   operations of the calls and of the host make of them, and the sums that a blocked product accumulates. -/
module

public import proofs.«01_k».proof.Proof.Lift
public import proofs.«01_k».proof.Proof.Region
public import Idealize.ShloMosaic.Lib.Pointwise.Reduce

@[expose] public section

set_option maxRecDepth 16384

noncomputable section

namespace Cert.Region

open scoped BigOperators

/-! ### Blocks of a matrix, and the sum that a blocked product accumulates -/

/-- Block `(i, j)` of a matrix cut into blocks of `a` rows and `b` columns. -/
def part {R : Type} (a b i j : ℕ) (f : ℕ → ℕ → R) : ℕ → ℕ → R := fun r c => f (i * a + 1 * r) (j * b + 1 * c)

theorem sum_blocks {R : Type} [AddCommMonoid R] (k K : ℕ) (u : ℕ → R) : ∑ i ∈ Finset.range k, ∑ j ∈ Finset.range K, u (i * K + 1 * j) = ∑ j ∈ Finset.range (k * K), u j := by
  induction k with
  | zero => simp
  | succ k ih => rw [Finset.sum_range_succ, ih, Nat.succ_mul, Finset.sum_range_add]; simp only [one_mul]

/-- The accumulator after a point: the sum of the terms of its group's points so far. -/
theorem accum_sum {R α : Type} [AddCommMonoid R] (L : (ℕ → ℕ → R) → α) {N : ℕ} (h : 0 < N) (k : ℕ) (first : Fin N → α) (next : Fin N → α → α)
    (b : ℕ → ℕ → ℕ → R) (hf : ∀ t, first t = L (b t.val)) (hn : ∀ t e, next t (L e) = L (fun r c => e r c + b t.val r c)) (t : ℕ) (ht : t < N) :
    accumAt h k first next (t + 1) = L (fun r c => ∑ i ∈ Finset.range (t % k + 1), b (t - t % k + i) r c) := by
  induction t with
  | zero =>
    refine (accumAt_first h k first next ⟨0, ht⟩ (Nat.zero_mod k)).trans ((hf _).trans ?_)
    congr 1; funext r c; simp
  | succ t ih =>
    by_cases e : (t + 1) % k = 0
    · refine (accumAt_first h k first next ⟨t + 1, ht⟩ e).trans ((hf _).trans ?_)
      congr 1; funext r c; simp [e]
    · refine (accumAt_next h k first next ⟨t + 1, ht⟩ e).trans ?_
      show next _ (accumAt h k first next (t + 1)) = _
      rw [ih (by omega), hn]
      have hm : (t + 1) % k = t % k + 1 := by
        rcases Nat.eq_zero_or_pos k with rfl | hk
        · simp
        · rw [Nat.add_mod]
          by_cases h1 : k = 1
          · subst h1; simp [Nat.mod_one] at e
          rw [Nat.mod_eq_of_lt (show 1 < k by omega)]
          refine Nat.mod_eq_of_lt ?_
          rcases Nat.lt_or_ge (t % k + 1) k with h2 | h2
          · exact h2
          · have h3 := Nat.mod_lt t hk
            refine absurd ?_ e
            rw [Nat.add_mod, Nat.mod_eq_of_lt (show 1 < k by omega), show t % k + 1 = k by omega, Nat.mod_self]
      congr 1; funext r c
      have hle := Nat.mod_le t k
      rw [hm, Finset.sum_range_succ _ (t % k + 1), show t + 1 - (t % k + 1) = t - t % k by omega]
      show _ + b (t + 1) r c = _
      rw [show t - t % k + (t % k + 1) = t + 1 by omega]

/-- The accumulator after the last point of a block's group holds the block of the whole product. -/
theorem accum_mul {R α : Type} [AddCommMonoid R] [Mul R] (L : (ℕ → ℕ → R) → α) {N : ℕ} (h : 0 < N) (nk nj a b K : ℕ) (hk : 0 < nk) (f g : ℕ → ℕ → R)
    (first : Fin N → α) (next : Fin N → α → α)
    (hf : ∀ t : Fin N, first t = L (fun r c => ∑ j ∈ Finset.range K, part a K (t.val / nk / nj) (t.val % nk) f r j * part K b (t.val % nk) (t.val / nk % nj) g j c))
    (hn : ∀ (t : Fin N) e, next t (L e) = L (fun r c => e r c
      + ∑ j ∈ Finset.range K, part a K (t.val / nk / nj) (t.val % nk) f r j * part K b (t.val % nk) (t.val / nk % nj) g j c))
    (t : Fin N) (ht : t.val % nk = nk - 1) :
    accumAt h nk first next (t.val + 1) = L (part a b (t.val / nk / nj) (t.val / nk % nj) (fun r c => ∑ j ∈ Finset.range (nk * K), f r j * g j c)) := by
  refine (accum_sum L h nk first next (fun t r c => ∑ j ∈ Finset.range K, part a K (t / nk / nj) (t % nk) f r j * part K b (t % nk) (t / nk % nj) g j c) hf hn t.val t.isLt).trans ?_
  congr 1; funext r c
  rw [ht, Nat.sub_add_cancel hk]
  show _ = ∑ j ∈ Finset.range (nk * K), _
  rw [← sum_blocks nk K]
  refine Finset.sum_congr rfl fun i hi => Finset.sum_congr rfl fun j _ => ?_
  have hi := Finset.mem_range.mp hi
  have e : t.val - (nk - 1) + i = nk * (t.val / nk) + i := by have := Nat.div_add_mod t.val nk; omega
  rw [e, Nat.mul_add_mod, Nat.mod_eq_of_lt hi, Nat.mul_add_div hk, Nat.div_eq_of_lt hi, Nat.add_zero]
  rfl

end Cert.Region

namespace Cert.Stick

open Idealize.ShloMosaic

/-! ### Constants -/

/-- The number added under the root, the value of its printed literal. -/
def eps : ℝ := (Ideal.ofBits .f32 0x358637BD#32).toReal

theorem ofBits_eps_pos : Ideal.ofBits .f32 0x358637BD#32 = ((eps : ℝ) : EReal) ∧ 0 < eps := by
  unfold eps
  simp [Ideal.ofBits, Ideal.ieee, -EReal.coe_mul]
  try norm_num
theorem eps_pos : 0 < eps := ofBits_eps_pos.2
theorem ofBits_2048 : Ideal.ofBits .f32 0x45000000#32 = ((2048 : ℝ) : EReal) := by
  simp [Ideal.ofBits, Ideal.ieee, -EReal.coe_mul]
  try norm_num
theorem ofBits_half : Ideal.ofBits .f32 0xBF000000#32 = ((-(1 / 2) : ℝ) : EReal) := by
  simp [Ideal.ofBits, Ideal.ieee, -EReal.coe_mul]
  try norm_num

end Cert.Stick

namespace Cert.Wide

open Idealize.ShloMosaic Idealize.ShloMosaic.ValueIdx
export Cert.Region (part sum_blocks)
open Cert.Stick (eps ofBits_eps_pos ofBits_2048 ofBits_half)
open scoped BigOperators

/-- The matrix whose entry at row `r` and column `c` is `f r c`. -/
def L2 {d : Fin 2 → ℕ} (φ : FTy) (f : ℕ → ℕ → EReal) : FVec Ideal ⟨2, d⟩ φ := fun i => f (i 0).val (i 1).val
/-- The vector whose entry at `i` is `u i`. -/
def L1 {d : Fin 1 → ℕ} (φ : FTy) (u : ℕ → EReal) : FVec Ideal ⟨1, d⟩ φ := fun i => u (i 0).val

/-- The entries of a matrix, by their coordinates. -/
def entry2 {a b : ℕ} {φ : FTy} (x : FVec Ideal ⟨2, ![a, b]⟩ φ) : ℕ → ℕ → EReal := fun r c => if h : r < a ∧ c < b then x (ValueIdx.ix2 ⟨r, h.1⟩ ⟨c, h.2⟩) else 0
/-- The entries of a vector, by their coordinate. -/
def entry1 {a : ℕ} {φ : FTy} (x : FVec Ideal ⟨1, ![a]⟩ φ) : ℕ → EReal := fun r => if h : r < a then x (ValueIdx.ix1 ⟨r, h⟩) else 0

theorem entry2_L2 {a b : ℕ} {φ : FTy} (x : FVec Ideal ⟨2, ![a, b]⟩ φ) : x = L2 φ (entry2 x) := by
  funext i
  show x i = entry2 x (i 0).val (i 1).val
  unfold entry2
  rw [dif_pos ⟨idx2_lt0 i, idx2_lt1 i⟩]
  exact congrArg x (ValueIdx.eq_ix2 i)
theorem entry1_L1 {a : ℕ} {φ : FTy} (x : FVec Ideal ⟨1, ![a]⟩ φ) : x = L1 φ (entry1 x) := by
  funext i
  have hl : (i 0).val < a := (i 0).isLt
  show x i = entry1 x (i 0).val
  unfold entry1
  rw [dif_pos hl]
  exact congrArg x (funext fun | ⟨0, _⟩ => rfl)

variable {d : Fin 2 → ℕ} {φ ψ : FTy} (f g : ℕ → ℕ → EReal) (u : ℕ → EReal) {M n : ℕ}

/-- Two functions that agree inside the shape give the same matrix. -/
theorem L2_congr {f g : ℕ → ℕ → EReal} (h : ∀ r c, r < d 0 → c < d 1 → f r c = g r c) : L2 (d := d) φ f = L2 φ g :=
  funext fun i => h _ _ (i 0).isLt (i 1).isLt

theorem addf_L2 : addf (L2 (d := d) φ f) (L2 φ g) = L2 φ (fun r c => f r c + g r c) := rfl
theorem subf_L2 : subf (L2 (d := d) φ f) (L2 φ g) = L2 φ (fun r c => f r c - g r c) := rfl
theorem mulf_L2 : mulf (L2 (d := d) φ f) (L2 φ g) = L2 φ (fun r c => f r c * g r c) := rfl
theorem divf_L2 : divf (L2 (d := d) φ f) (L2 φ g) = L2 φ (fun r c => Ideal.div (f r c) (g r c)) := rfl
theorem hdivf_L2 : Host.divf (L2 (d := d) φ f) (L2 φ g) = L2 φ (fun r c => Ideal.div (f r c) (g r c)) := rfl
theorem shapeCast_L2 (h : (⟨2, d⟩ : Shape).ShapeCasts ⟨2, d⟩) : shapeCast ⟨2, d⟩ (L2 (d := d) φ f) h = L2 φ f := shapeCast_self _ _

theorem bc_2048 (s : Fin 2 → ℕ) : broadcast (⟨2, s⟩ : Shape) (Scalar.ofBits (F := Ideal) .f32 0x45000000#32) = L2 .f32 (fun _ _ => ((2048 : ℝ) : EReal)) :=
  funext fun _ => ofBits_2048
theorem bc_eps (s : Fin 2 → ℕ) : broadcast (⟨2, s⟩ : Shape) (Scalar.ofBits (F := Ideal) .f32 0x358637BD#32) = L2 .f32 (fun _ _ => (eps : EReal)) :=
  funext fun _ => ofBits_eps_pos.1

/-- A scalar constant broadcast to a matrix. -/
theorem bcast_const {s : Fin 2 → ℕ} {b : BitVec 32} {x : EReal} (hb : Ideal.ofBits .f32 b = x)
    (h : (⟨0, ![]⟩ : Shape).BroadcastsInDim ⟨2, s⟩ (![] : Fin 0 → Fin 2)) :
    broadcastInDim ⟨2, s⟩ ![] h (constant (F := Ideal) ⟨0, ![]⟩ .f32 b) = L2 .f32 (fun _ _ => x) := funext fun _ => hb

/-! ### Sums and products -/

theorem sum_range (n : ℕ) (u : ℕ → EReal) : ∑ k : Fin n, u k.val = ∑ k ∈ Finset.range n, u k := Fin.sum_univ_eq_sum_range u n

/-- A product of two matrices into the zero matrix. -/
theorem matmul_plain_L2 {M K N : ℕ} :
    matmul (DotDims.plain M K N) none (L2 φ f) (L2 ψ g) (constant ⟨2, ![M, N]⟩ .f32 0x00000000#32)
      = (L2 .f32 (fun r c => ∑ k ∈ Finset.range K, f r k * g k c) : FVec Ideal ⟨2, ![M, N]⟩ .f32) := by
  funext j
  rw [ValueIdx.eq_ix2 j]
  refine (Ideal.matmul_plain_apply none _ _ _ _ _).trans ?_
  exact (congrArg₂ (· + ·) Ideal.ofBits_zero_f32 (sum_range K fun k => f (j 0).val k * g k (j 1).val)).trans (zero_add _)

/-- A product with the right factor transposed, into the zero matrix. -/
theorem matmul_transposedRhs_L2 {M K N : ℕ} :
    matmul (DotDims.transposedRhs M K N) none (L2 φ f) (L2 ψ g) (constant ⟨2, ![M, N]⟩ .f32 0x00000000#32)
      = (L2 .f32 (fun r c => ∑ k ∈ Finset.range K, f r k * g c k) : FVec Ideal ⟨2, ![M, N]⟩ .f32) := by
  funext j
  rw [ValueIdx.eq_ix2 j]
  refine (Ideal.matmul_transposedRhs_apply none _ _ _ _ _).trans ?_
  exact (congrArg₂ (· + ·) Ideal.ofBits_zero_f32 (sum_range K fun k => f (j 0).val k * g (j 1).val k)).trans (zero_add _)

/-- The sums of the rows of a matrix, as a column. -/
theorem rowsums_L2 (h : (⟨2, ![M, n]⟩ : Shape).Reduces [1] ⟨1, ![M]⟩) (h1 : FKind.Formats .f32) (h2) (h3 : (⟨1, ![M]⟩ : Shape).ShapeCasts ⟨2, ![M, 1]⟩) :
    shapeCast ⟨2, ![M, 1]⟩ (multiReduction .add [1] ⟨1, ![M]⟩ (L2 .f32 f : FVec Ideal ⟨2, ![M, n]⟩ .f32) 0x00000000#32 h h1 h2) h3
      = L2 .f32 (fun r _ => ∑ c ∈ Finset.range n, f r c) := by
  funext j
  rw [shapeCast_apply _ _ j (ValueIdx.ix1 ⟨(j 0).val, idx2_lt0 j⟩ : (⟨1, ![M]⟩ : Shape).Idx) ?_, Ideal.multiReduction_add_single]
  · exact sum_range n (fun c => f (j 0).val c)
  · have h1 := idx2_lt1 j
    rw [Shape.rowMajor_val_one, Shape.rowMajor_val_two]
    show (j 0).val = (j 0).val * 1 + (j 1).val
    omega

/-- The sums of the columns of a matrix, as a row. -/
theorem colsums_L2 (h : (⟨2, ![M, n]⟩ : Shape).Reduces [0] ⟨1, ![n]⟩) (h1 : FKind.Formats .f32) (h2) (h3 : (⟨1, ![n]⟩ : Shape).ShapeCasts ⟨2, ![1, n]⟩) :
    shapeCast ⟨2, ![1, n]⟩ (multiReduction .add [0] ⟨1, ![n]⟩ (L2 .f32 f : FVec Ideal ⟨2, ![M, n]⟩ .f32) 0x00000000#32 h h1 h2) h3
      = L2 .f32 (fun _ c => ∑ r ∈ Finset.range M, f r c) := by
  funext j
  rw [shapeCast_apply _ _ j (ValueIdx.ix1 ⟨(j 1).val, idx2_lt1 j⟩ : (⟨1, ![n]⟩ : Shape).Idx) ?_, Ideal.multiReduction_add_single]
  · exact sum_range M (fun r => f r (j 1).val)
  · have h1 := idx2_lt0 j
    rw [Shape.rowMajor_val_one, Shape.rowMajor_val_two]
    show (j 1).val = (j 0).val * n + (j 1).val
    rw [show (j 0).val = 0 by omega]; omega

/-- A column broadcast across the columns of a matrix. -/
theorem spread_col (h : (⟨2, ![M, 1]⟩ : Shape).Broadcasts ⟨2, ![M, n]⟩) :
    broadcastTo ⟨2, ![M, n]⟩ (L2 φ f : FVec Ideal ⟨2, ![M, 1]⟩ φ) h = L2 φ (fun r _ => f r 0) := by
  funext j
  refine (broadcastTo_apply _ h j (ValueIdx.ix2 ⟨(j 0).val, idx2_lt0 j⟩ ⟨0, Nat.one_pos⟩) fun a => ?_).trans rfl
  match a with
  | ⟨0, _⟩ =>
    by_cases e : M = 1
    · subst e; have := idx2_lt0 j; simp; omega
    · simp [e]
  | ⟨1, _⟩ => rfl

/-- A row broadcast down the rows of a matrix. -/
theorem spread_row (h : (⟨2, ![1, n]⟩ : Shape).Broadcasts ⟨2, ![M, n]⟩) :
    broadcastTo ⟨2, ![M, n]⟩ (L2 φ f : FVec Ideal ⟨2, ![1, n]⟩ φ) h = L2 φ (fun _ c => f 0 c) := by
  funext j
  refine (broadcastTo_apply _ h j (ValueIdx.ix2 ⟨0, Nat.one_pos⟩ ⟨(j 1).val, idx2_lt1 j⟩) fun a => ?_).trans rfl
  match a with
  | ⟨0, _⟩ => rfl
  | ⟨1, _⟩ =>
    by_cases e : n = 1
    · subst e; have := idx2_lt1 j; simp; omega
    · simp [e]

theorem cast_row (h : (⟨1, ![n]⟩ : Shape).ShapeCasts ⟨2, ![1, n]⟩) :
    shapeCast ⟨2, ![1, n]⟩ (L1 φ u : FVec Ideal ⟨1, ![n]⟩ φ) h = L2 φ (fun _ c => u c) := by
  funext j
  rw [shapeCast_apply _ _ j (ValueIdx.ix1 ⟨(j 1).val, idx2_lt1 j⟩ : (⟨1, ![n]⟩ : Shape).Idx) ?_]
  · rfl
  · have h1 := idx2_lt0 j
    rw [Shape.rowMajor_val_one, Shape.rowMajor_val_two]
    show (j 1).val = (j 0).val * n + (j 1).val
    rw [show (j 0).val = 0 by omega]; omega

theorem cast_col (h : (⟨1, ![M]⟩ : Shape).ShapeCasts ⟨2, ![M, 1]⟩) :
    shapeCast ⟨2, ![M, 1]⟩ (L1 φ u : FVec Ideal ⟨1, ![M]⟩ φ) h = L2 φ (fun r _ => u r) := by
  funext j
  rw [shapeCast_apply _ _ j (ValueIdx.ix1 ⟨(j 0).val, idx2_lt0 j⟩ : (⟨1, ![M]⟩ : Shape).Idx) ?_]
  · rfl
  · have h1 := idx2_lt1 j
    rw [Shape.rowMajor_val_one, Shape.rowMajor_val_two]
    show (j 0).val = (j 0).val * 1 + (j 1).val
    omega

theorem uncast_row (h : (⟨2, ![1, n]⟩ : Shape).ShapeCasts ⟨1, ![n]⟩) :
    shapeCast ⟨1, ![n]⟩ (L2 φ f : FVec Ideal ⟨2, ![1, n]⟩ φ) h = L1 φ (fun c => f 0 c) := by
  funext j
  rw [shapeCast_apply _ _ j (ValueIdx.ix2 ⟨0, Nat.one_pos⟩ (j 0) : (⟨2, ![1, n]⟩ : Shape).Idx) ?_]
  · rfl
  · rw [Shape.rowMajor_val_one, Shape.rowMajor_val_two]
    show 0 * n + (j 0).val = (j 0).val
    omega

theorem zero_add_sum (n : ℕ) (u : ℕ → EReal) : Ideal.ofBits .f32 0x00000000#32 + ∑ k : Fin n, (u k.val : EReal) = (∑ k ∈ Finset.range n, u k : EReal) := by
  rw [Ideal.ofBits_zero_f32, zero_add, sum_range]

/-- The host's sums of the rows. -/
theorem hrowsums_L2 (h : (⟨2, ![M, n]⟩ : Shape).ReducesTo [1] ⟨1, ![M]⟩) (hu : 0 < (⟨0, ![]⟩ : Shape).numel) :
    Host.reduceAdd (L2 .f32 f : FVec Ideal ⟨2, ![M, n]⟩ .f32) (constant (F := Ideal) ⟨0, ![]⟩ .f32 0x00000000#32) h hu
      = L1 .f32 (fun r => ∑ c ∈ Finset.range n, f r c) :=
  funext fun j => (Ideal.hostReduceAdd_r2_a1 h _ _ j).trans (zero_add_sum n (fun c => f (j 0).val c))

/-- The host's sums of the columns. -/
theorem hcolsums_L2 (h : (⟨2, ![M, n]⟩ : Shape).ReducesTo [0] ⟨1, ![n]⟩) (hu : 0 < (⟨0, ![]⟩ : Shape).numel) :
    Host.reduceAdd (L2 .f32 f : FVec Ideal ⟨2, ![M, n]⟩ .f32) (constant (F := Ideal) ⟨0, ![]⟩ .f32 0x00000000#32) h hu
      = L1 .f32 (fun c => ∑ r ∈ Finset.range M, f r c) :=
  funext fun j => (Ideal.hostReduceAdd_r2_a0 h _ _ j).trans (zero_add_sum M (fun r => f r (j 0).val))

theorem hcol_L1 (h : (⟨1, ![M]⟩ : Shape).BroadcastsInDim ⟨2, ![M, n]⟩ (![0] : Fin 1 → Fin 2)) :
    broadcastInDim ⟨2, ![M, n]⟩ ![0] h (L1 φ u : FVec Ideal ⟨1, ![M]⟩ φ) = L2 φ (fun r _ => u r) := by
  funext j
  refine (broadcastInDim_apply _ _ _ j (ValueIdx.ix1 ⟨(j 0).val, idx2_lt0 j⟩) fun a => ?_).trans rfl
  match a with
  | ⟨0, _⟩ =>
    by_cases e : M = 1
    · subst e; have := idx2_lt0 j; simp; omega
    · simp [e]

theorem hrow_L1 (h : (⟨1, ![n]⟩ : Shape).BroadcastsInDim ⟨2, ![M, n]⟩ (![1] : Fin 1 → Fin 2)) :
    broadcastInDim ⟨2, ![M, n]⟩ ![1] h (L1 φ u : FVec Ideal ⟨1, ![n]⟩ φ) = L2 φ (fun _ c => u c) := by
  funext j
  refine (broadcastInDim_apply _ _ _ j (ValueIdx.ix1 ⟨(j 1).val, idx2_lt1 j⟩) fun a => ?_).trans rfl
  match a with
  | ⟨0, _⟩ =>
    by_cases e : n = 1
    · subst e; have := idx2_lt1 j; simp; omega
    · simp [e]

theorem hspread_col (h : (⟨2, ![M, 1]⟩ : Shape).BroadcastsInDim ⟨2, ![M, n]⟩ (![0, 1] : Fin 2 → Fin 2)) :
    broadcastInDim ⟨2, ![M, n]⟩ ![0, 1] h (L2 φ f : FVec Ideal ⟨2, ![M, 1]⟩ φ) = L2 φ (fun r _ => f r 0) := by
  funext j
  refine (broadcastInDim_apply _ _ _ j (ValueIdx.ix2 ⟨(j 0).val, idx2_lt0 j⟩ ⟨0, Nat.one_pos⟩) fun a => ?_).trans rfl
  match a with
  | ⟨0, _⟩ =>
    by_cases e : M = 1
    · subst e; have := idx2_lt0 j; simp; omega
    · simp [e]
  | ⟨1, _⟩ => rfl

theorem hspread_row (h : (⟨2, ![1, n]⟩ : Shape).BroadcastsInDim ⟨2, ![M, n]⟩ (![0, 1] : Fin 2 → Fin 2)) :
    broadcastInDim ⟨2, ![M, n]⟩ ![0, 1] h (L2 φ f : FVec Ideal ⟨2, ![1, n]⟩ φ) = L2 φ (fun _ c => f 0 c) := by
  funext j
  refine (broadcastInDim_apply _ _ _ j (ValueIdx.ix2 ⟨0, Nat.one_pos⟩ ⟨(j 1).val, idx2_lt1 j⟩) fun a => ?_).trans rfl
  match a with
  | ⟨0, _⟩ => rfl
  | ⟨1, _⟩ =>
    by_cases e : n = 1
    · subst e; have := idx2_lt1 j; simp; omega
    · simp [e]

theorem transpose_L2 (h : (⟨2, ![M, n]⟩ : Shape).Transposes [1, 0] ⟨2, ![n, M]⟩) :
    transpose ⟨2, ![n, M]⟩ [1, 0] (L2 φ f : FVec Ideal ⟨2, ![M, n]⟩ φ) h = L2 φ (fun r c => f c r) := by
  funext j
  refine (transpose_apply _ _ _ j (ValueIdx.ix2 ⟨(j 1).val, idx2_lt1 j⟩ ⟨(j 0).val, idx2_lt0 j⟩) fun a => ?_).trans rfl
  match a with
  | ⟨0, _⟩ => rfl
  | ⟨1, _⟩ => rfl

/-- The columns from `o` on. -/
theorem slice_cols {N o : ℕ} (h : (⟨2, ![M, n]⟩ : Shape).Slices ![0, o] ⟨2, ![M, N]⟩) :
    extractStridedSlice ⟨2, ![M, N]⟩ ![0, o] (L2 φ f : FVec Ideal ⟨2, ![M, n]⟩ φ) h = L2 φ (fun r c => f r (o + c)) := by
  funext j
  show (f (0 + (j 0).val) (o + (j 1).val) : EReal) = _
  rw [Nat.zero_add]; rfl

/-- A host product of two matrices with one contracted axis, the factors of its terms named by `a` and `b`. -/
theorem hdot_L2 {dl dr ds : Fin 2 → ℕ} (D : DotDims ⟨2, dl⟩ ⟨2, dr⟩ ⟨2, ds⟩) (K : ℕ) (hr : D.contr.rank = 1) (hs) (a b : ℕ → ℕ → ℕ → EReal)
    (ha : ∀ j (q : Fin K), f (D.lhsIdx j ((contrEquiv1 D K hr hs).symm q) 0).val (D.lhsIdx j ((contrEquiv1 D K hr hs).symm q) 1).val = a (j 0).val (j 1).val q.val)
    (hb : ∀ j (q : Fin K), g (D.rhsIdx j ((contrEquiv1 D K hr hs).symm q) 0).val (D.rhsIdx j ((contrEquiv1 D K hr hs).symm q) 1).val = b (j 0).val (j 1).val q.val) :
    Host.dotGeneral (φ₁ := .f32) (φ₂ := .f32) D none (L2 .f32 f) (L2 .f32 g) = L2 .f32 (fun r c => ∑ k ∈ Finset.range K, a r c k * b r c k) := by
  funext j
  simp only [Host.dotGeneral]
  rw [Ideal.dotGeneral_apply, ← Equiv.sum_comp (contrEquiv1 D K hr hs).symm]
  refine Eq.trans (Finset.sum_congr rfl fun q _ => ?_) (sum_range K (fun k => a (j 0).val (j 1).val k * b (j 0).val (j 1).val k))
  show (f _ _ : EReal) * (g _ _ : EReal) = _
  rw [ha, hb]

/-- The accumulator after a point: the sum of the terms of its group's points so far. -/
theorem accum_L2 {d : Fin 2 → ℕ} {N : ℕ} (h : 0 < N) (k : ℕ) (first : Fin N → FVec Ideal ⟨2, d⟩ .f32) (next : Fin N → FVec Ideal ⟨2, d⟩ .f32 → FVec Ideal ⟨2, d⟩ .f32)
    (b : ℕ → ℕ → ℕ → EReal) (hf : ∀ t, first t = L2 .f32 (b t.val)) (hn : ∀ t e, next t (L2 .f32 e) = L2 .f32 (fun r c => e r c + b t.val r c)) (t : ℕ) (ht : t < N) :
    Region.accumAt h k first next (t + 1) = L2 .f32 (fun r c => ∑ i ∈ Finset.range (t % k + 1), b (t - t % k + i) r c) :=
  Region.accum_sum (L2 .f32) h k first next b hf hn t ht

/-- The accumulator after the last point of a block's group holds the block of the whole product. -/
theorem accum_product {d : Fin 2 → ℕ} {N : ℕ} (h : 0 < N) (nk nj a b K : ℕ) (hk : 0 < nk) (f g : ℕ → ℕ → EReal)
    (first : Fin N → FVec Ideal ⟨2, d⟩ .f32) (next : Fin N → FVec Ideal ⟨2, d⟩ .f32 → FVec Ideal ⟨2, d⟩ .f32)
    (hf : ∀ t : Fin N, first t = L2 .f32 (fun r c => ∑ j ∈ Finset.range K, part a K (t.val / nk / nj) (t.val % nk) f r j * part K b (t.val % nk) (t.val / nk % nj) g j c))
    (hn : ∀ (t : Fin N) e, next t (L2 .f32 e) = L2 .f32 (fun r c => e r c
      + ∑ j ∈ Finset.range K, part a K (t.val / nk / nj) (t.val % nk) f r j * part K b (t.val % nk) (t.val / nk % nj) g j c))
    (t : Fin N) (ht : t.val % nk = nk - 1) :
    Region.accumAt h nk first next (t.val + 1) = L2 .f32 (part a b (t.val / nk / nj) (t.val / nk % nj) (fun r c => ∑ j ∈ Finset.range (nk * K), f r j * g j c)) :=
  Region.accum_mul (L2 .f32) h nk nj a b K hk f g first next hf hn t ht

end Cert.Wide

end
-- ==== Proof.Lift2.lean ====
/- Vectors of real numbers, continued: the row and column sums, quotients, inverse square roots, broadcasts and products of
   the layers' calls and of their reference, and the sums that a blocked product accumulates. -/
module

public import proofs.«01_k».proof.Proof.Wide

@[expose] public section

set_option maxRecDepth 16384

noncomputable section

namespace Cert.Stick

open Idealize.ShloMosaic Idealize.ShloMosaic.ValueIdx
open scoped BigOperators

/-- The vector whose entry at `i` is the real number `u i`. -/
def L1 {d : Fin 1 → ℕ} (φ : FTy) (u : ℕ → ℝ) : FVec Ideal ⟨1, d⟩ φ := fun i => ((u (i 0).val : ℝ) : EReal)

variable {d : Fin 2 → ℕ} {φ ψ : FTy} (f g : ℕ → ℕ → ℝ) (u : ℕ → ℝ) {M n : ℕ}

/-! ### Constants -/

theorem bc_2048 (s : Fin 2 → ℕ) : broadcast (⟨2, s⟩ : Shape) (Scalar.ofBits (F := Ideal) .f32 0x45000000#32) = L2 .f32 (fun _ _ => 2048) :=
  funext fun _ => ofBits_2048
theorem bc_eps (s : Fin 2 → ℕ) : broadcast (⟨2, s⟩ : Shape) (Scalar.ofBits (F := Ideal) .f32 0x358637BD#32) = L2 .f32 (fun _ _ => eps) :=
  funext fun _ => ofBits_eps_pos.1

/-- A scalar constant broadcast to a matrix. -/
theorem bcast_const {s : Fin 2 → ℕ} {b : BitVec 32} {x : ℝ} (hb : Ideal.ofBits .f32 b = ((x : ℝ) : EReal))
    (h : (⟨0, ![]⟩ : Shape).BroadcastsInDim ⟨2, s⟩ (![] : Fin 0 → Fin 2)) :
    broadcastInDim ⟨2, s⟩ ![] h (constant (F := Ideal) ⟨0, ![]⟩ .f32 b) = L2 .f32 (fun _ _ => x) := funext fun _ => hb

/-! ### Elementwise operations -/

theorem div_coe (a b : ℝ) (hb : b ≠ 0) : Ideal.div ((a : ℝ) : EReal) ((b : ℝ) : EReal) = ((a / b : ℝ) : EReal) := by
  unfold Ideal.div
  rw [if_neg (by exact_mod_cast hb), div_eq_mul_inv, EReal.coe_mul, EReal.coe_inv]
theorem divf_L2 (hg : ∀ r c, g r c ≠ 0) : divf (L2 (d := d) φ f) (L2 φ g) = L2 φ (fun r c => f r c / g r c) :=
  funext fun _ => div_coe _ _ (hg _ _)
theorem hdivf_L2 (hg : ∀ r c, g r c ≠ 0) : Host.divf (L2 (d := d) φ f) (L2 φ g) = L2 φ (fun r c => f r c / g r c) :=
  funext fun _ => div_coe _ _ (hg _ _)
theorem rsqrt_coe (a : ℝ) (ha : 0 < a) : Ideal.rsqrt ((a : ℝ) : EReal) = (((Real.sqrt a)⁻¹ : ℝ) : EReal) := by
  show (if a < 0 then ⊥ else if a = 0 then ⊤ else (((Real.sqrt a)⁻¹ : ℝ) : EReal)) = _
  rw [if_neg ha.le.not_gt, if_neg ha.ne']
theorem rsqrt_L2 (hf : ∀ r c, 0 < f r c) : rsqrt (L2 (d := d) φ f) = L2 φ (fun r c => (Real.sqrt (f r c))⁻¹) :=
  funext fun _ => rsqrt_coe _ (hf _ _)
theorem hrsqrt_L2 (hf : ∀ r c, 0 < f r c) : Host.rsqrt (L2 (d := d) φ f) = L2 φ (fun r c => (Real.sqrt (f r c))⁻¹) :=
  funext fun _ => rsqrt_coe _ (hf _ _)
theorem hexp_L2 : Host.exp (L2 (d := d) φ f) = L2 φ (fun r c => Real.exp (f r c)) := funext fun _ => Ideal.exp_coe _
theorem hnegf_L2 : Host.negf (L2 (d := d) φ f) = L2 φ (fun r c => -f r c) := funext fun _ => (EReal.coe_neg _).symm

/-! ### Sums and broadcasts in a call -/

export Cert.Region (part sum_blocks)

theorem coe_sum (n : ℕ) (u : ℕ → ℝ) : ∑ k ∈ Finset.range n, ((u k : ℝ) : EReal) = ((∑ k ∈ Finset.range n, u k : ℝ) : EReal) :=
  (Wide.sum_range n fun k => (u k : EReal)).symm.trans (coe_sum_range n u)

/-- The sums of the rows of a matrix, as a column. -/
theorem rowsums_L2 (h : (⟨2, ![M, n]⟩ : Shape).Reduces [1] ⟨1, ![M]⟩) (h1 : FKind.Formats .f32) (h2) (h3 : (⟨1, ![M]⟩ : Shape).ShapeCasts ⟨2, ![M, 1]⟩) :
    shapeCast ⟨2, ![M, 1]⟩ (multiReduction .add [1] ⟨1, ![M]⟩ (L2 .f32 f : FVec Ideal ⟨2, ![M, n]⟩ .f32) 0x00000000#32 h h1 h2) h3
      = L2 .f32 (fun r _ => ∑ c ∈ Finset.range n, f r c) :=
  (Wide.rowsums_L2 (fun r c => (f r c : EReal)) h h1 h2 h3).trans (funext fun _ => coe_sum _ _)

/-- The sums of the columns of a matrix, as a row. -/
theorem colsums_L2 (h : (⟨2, ![M, n]⟩ : Shape).Reduces [0] ⟨1, ![n]⟩) (h1 : FKind.Formats .f32) (h2) (h3 : (⟨1, ![n]⟩ : Shape).ShapeCasts ⟨2, ![1, n]⟩) :
    shapeCast ⟨2, ![1, n]⟩ (multiReduction .add [0] ⟨1, ![n]⟩ (L2 .f32 f : FVec Ideal ⟨2, ![M, n]⟩ .f32) 0x00000000#32 h h1 h2) h3
      = L2 .f32 (fun _ c => ∑ r ∈ Finset.range M, f r c) :=
  (Wide.colsums_L2 (fun r c => (f r c : EReal)) h h1 h2 h3).trans (funext fun _ => coe_sum _ _)

/-- A column broadcast across the columns of a matrix. -/
theorem spread_col (h : (⟨2, ![M, 1]⟩ : Shape).Broadcasts ⟨2, ![M, n]⟩) :
    broadcastTo ⟨2, ![M, n]⟩ (L2 φ f : FVec Ideal ⟨2, ![M, 1]⟩ φ) h = L2 φ (fun r _ => f r 0) :=
  Wide.spread_col (fun r c => (f r c : EReal)) h

/-- A row broadcast down the rows of a matrix. -/
theorem spread_row (h : (⟨2, ![1, n]⟩ : Shape).Broadcasts ⟨2, ![M, n]⟩) :
    broadcastTo ⟨2, ![M, n]⟩ (L2 φ f : FVec Ideal ⟨2, ![1, n]⟩ φ) h = L2 φ (fun _ c => f 0 c) :=
  Wide.spread_row (fun r c => (f r c : EReal)) h

/-! ### Casts of vectors, host sums and broadcasts -/

theorem cast_row (h : (⟨1, ![n]⟩ : Shape).ShapeCasts ⟨2, ![1, n]⟩) :
    shapeCast ⟨2, ![1, n]⟩ (L1 φ u : FVec Ideal ⟨1, ![n]⟩ φ) h = L2 φ (fun _ c => u c) :=
  Wide.cast_row (fun c => (u c : EReal)) h

theorem cast_col (h : (⟨1, ![M]⟩ : Shape).ShapeCasts ⟨2, ![M, 1]⟩) :
    shapeCast ⟨2, ![M, 1]⟩ (L1 φ u : FVec Ideal ⟨1, ![M]⟩ φ) h = L2 φ (fun r _ => u r) :=
  Wide.cast_col (fun c => (u c : EReal)) h

theorem uncast_row (h : (⟨2, ![1, n]⟩ : Shape).ShapeCasts ⟨1, ![n]⟩) :
    shapeCast ⟨1, ![n]⟩ (L2 φ f : FVec Ideal ⟨2, ![1, n]⟩ φ) h = L1 φ (fun c => f 0 c) :=
  Wide.uncast_row (fun r c => (f r c : EReal)) h

/-- The host's sums of the rows. -/
theorem hrowsums_L2 (h : (⟨2, ![M, n]⟩ : Shape).ReducesTo [1] ⟨1, ![M]⟩) (hu : 0 < (⟨0, ![]⟩ : Shape).numel) :
    Host.reduceAdd (L2 .f32 f : FVec Ideal ⟨2, ![M, n]⟩ .f32) (constant (F := Ideal) ⟨0, ![]⟩ .f32 0x00000000#32) h hu
      = L1 .f32 (fun r => ∑ c ∈ Finset.range n, f r c) :=
  funext fun j => (congrFun (Wide.hrowsums_L2 (fun r c => (f r c : EReal)) h hu) j).trans (coe_sum _ _)

/-- The host's sums of the columns. -/
theorem hcolsums_L2 (h : (⟨2, ![M, n]⟩ : Shape).ReducesTo [0] ⟨1, ![n]⟩) (hu : 0 < (⟨0, ![]⟩ : Shape).numel) :
    Host.reduceAdd (L2 .f32 f : FVec Ideal ⟨2, ![M, n]⟩ .f32) (constant (F := Ideal) ⟨0, ![]⟩ .f32 0x00000000#32) h hu
      = L1 .f32 (fun c => ∑ r ∈ Finset.range M, f r c) :=
  funext fun j => (congrFun (Wide.hcolsums_L2 (fun r c => (f r c : EReal)) h hu) j).trans (coe_sum _ _)

theorem hcol_L1 (h : (⟨1, ![M]⟩ : Shape).BroadcastsInDim ⟨2, ![M, n]⟩ (![0] : Fin 1 → Fin 2)) :
    broadcastInDim ⟨2, ![M, n]⟩ ![0] h (L1 φ u : FVec Ideal ⟨1, ![M]⟩ φ) = L2 φ (fun r _ => u r) :=
  Wide.hcol_L1 (fun c => (u c : EReal)) h

theorem hrow_L1 (h : (⟨1, ![n]⟩ : Shape).BroadcastsInDim ⟨2, ![M, n]⟩ (![1] : Fin 1 → Fin 2)) :
    broadcastInDim ⟨2, ![M, n]⟩ ![1] h (L1 φ u : FVec Ideal ⟨1, ![n]⟩ φ) = L2 φ (fun _ c => u c) :=
  Wide.hrow_L1 (fun c => (u c : EReal)) h

theorem hspread_col (h : (⟨2, ![M, 1]⟩ : Shape).BroadcastsInDim ⟨2, ![M, n]⟩ (![0, 1] : Fin 2 → Fin 2)) :
    broadcastInDim ⟨2, ![M, n]⟩ ![0, 1] h (L2 φ f : FVec Ideal ⟨2, ![M, 1]⟩ φ) = L2 φ (fun r _ => f r 0) :=
  Wide.hspread_col (fun r c => (f r c : EReal)) h

theorem hspread_row (h : (⟨2, ![1, n]⟩ : Shape).BroadcastsInDim ⟨2, ![M, n]⟩ (![0, 1] : Fin 2 → Fin 2)) :
    broadcastInDim ⟨2, ![M, n]⟩ ![0, 1] h (L2 φ f : FVec Ideal ⟨2, ![1, n]⟩ φ) = L2 φ (fun _ c => f 0 c) :=
  Wide.hspread_row (fun r c => (f r c : EReal)) h

theorem transpose_L2 (h : (⟨2, ![M, n]⟩ : Shape).Transposes [1, 0] ⟨2, ![n, M]⟩) :
    transpose ⟨2, ![n, M]⟩ [1, 0] (L2 φ f : FVec Ideal ⟨2, ![M, n]⟩ φ) h = L2 φ (fun r c => f c r) :=
  Wide.transpose_L2 (fun r c => (f r c : EReal)) h

/-- The columns from `o` on. -/
theorem slice_cols {N o : ℕ} (h : (⟨2, ![M, n]⟩ : Shape).Slices ![0, o] ⟨2, ![M, N]⟩) :
    extractStridedSlice ⟨2, ![M, N]⟩ ![0, o] (L2 φ f : FVec Ideal ⟨2, ![M, n]⟩ φ) h = L2 φ (fun r c => f r (o + c)) :=
  Wide.slice_cols (fun r c => (f r c : EReal)) h

/-- A host product of two matrices with one contracted axis, the factors of its terms named by `a` and `b`. -/
theorem hdot_L2 {dl dr ds : Fin 2 → ℕ} (D : DotDims ⟨2, dl⟩ ⟨2, dr⟩ ⟨2, ds⟩) (K : ℕ) (hr : D.contr.rank = 1) (hs) (a b : ℕ → ℕ → ℕ → ℝ)
    (ha : ∀ j (q : Fin K), f (D.lhsIdx j ((contrEquiv1 D K hr hs).symm q) 0).val (D.lhsIdx j ((contrEquiv1 D K hr hs).symm q) 1).val = a (j 0).val (j 1).val q.val)
    (hb : ∀ j (q : Fin K), g (D.rhsIdx j ((contrEquiv1 D K hr hs).symm q) 0).val (D.rhsIdx j ((contrEquiv1 D K hr hs).symm q) 1).val = b (j 0).val (j 1).val q.val) :
    Host.dotGeneral (φ₁ := .f32) (φ₂ := .f32) D none (L2 .f32 f) (L2 .f32 g) = L2 .f32 (fun r c => ∑ k ∈ Finset.range K, a r c k * b r c k) := by
  funext j
  simp only [Host.dotGeneral]
  rw [Ideal.dotGeneral_apply, ← Equiv.sum_comp (contrEquiv1 D K hr hs).symm]
  refine Eq.trans (Finset.sum_congr rfl fun q _ => ?_) (coe_sum_range K (fun k => a (j 0).val (j 1).val k * b (j 0).val (j 1).val k))
  show ((f _ _ : ℝ) : EReal) * ((g _ _ : ℝ) : EReal) = _
  rw [ha, hb, EReal.coe_mul]

/-- The accumulator after a point: the sum of the terms of its group's points so far. -/
theorem accum_L2 {d : Fin 2 → ℕ} {N : ℕ} (h : 0 < N) (k : ℕ) (first : Fin N → FVec Ideal ⟨2, d⟩ .f32) (next : Fin N → FVec Ideal ⟨2, d⟩ .f32 → FVec Ideal ⟨2, d⟩ .f32)
    (b : ℕ → ℕ → ℕ → ℝ) (hf : ∀ t, first t = L2 .f32 (b t.val)) (hn : ∀ t e, next t (L2 .f32 e) = L2 .f32 (fun r c => e r c + b t.val r c)) (t : ℕ) (ht : t < N) :
    Region.accumAt h k first next (t + 1) = L2 .f32 (fun r c => ∑ i ∈ Finset.range (t % k + 1), b (t - t % k + i) r c) :=
  Region.accum_sum (L2 .f32) h k first next b hf hn t ht

/-- The accumulator after the last point of a block's group holds the block of the whole product. -/
theorem accum_product {d : Fin 2 → ℕ} {N : ℕ} (h : 0 < N) (nk nj a b K : ℕ) (hk : 0 < nk) (f g : ℕ → ℕ → ℝ)
    (first : Fin N → FVec Ideal ⟨2, d⟩ .f32) (next : Fin N → FVec Ideal ⟨2, d⟩ .f32 → FVec Ideal ⟨2, d⟩ .f32)
    (hf : ∀ t : Fin N, first t = L2 .f32 (fun r c => ∑ j ∈ Finset.range K, part a K (t.val / nk / nj) (t.val % nk) f r j * part K b (t.val % nk) (t.val / nk % nj) g j c))
    (hn : ∀ (t : Fin N) e, next t (L2 .f32 e) = L2 .f32 (fun r c => e r c
      + ∑ j ∈ Finset.range K, part a K (t.val / nk / nj) (t.val % nk) f r j * part K b (t.val % nk) (t.val / nk % nj) g j c))
    (t : Fin N) (ht : t.val % nk = nk - 1) :
    Region.accumAt h nk first next (t.val + 1) = L2 .f32 (part a b (t.val / nk / nj) (t.val / nk % nj) (fun r c => ∑ j ∈ Finset.range (nk * K), f r j * g j c)) :=
  Region.accum_mul (L2 .f32) h nk nj a b K hk f g first next hf hn t ht

end Cert.Stick

end
-- ==== Proof.Run.lean ====
/- The run of the two calls with the contents that their outputs end with, and what a finite argument is. -/
module

public import proofs.«01_k».proof.Proof.BwdArray
public import proofs.«01_k».proof.Proof.Lift2
public import proofs.«01_k».proof.Pre_finite

@[expose] public section

set_option maxRecDepth 16384

noncomputable section

namespace Cert.Stick

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The four outputs hold what their calls' write-backs leave, the arguments are unchanged. -/
theorem run_arrays : θ_run defs (onTc (τ := τ) (main (F := F))) ⟨m, fun _ => 0, ρ⟩ (fun r => ∀ c : Dev nD,
      r.2.mem ((c.tc : Thread nD τ).loc main_v1) = (dat0 (V1 m ρ) c).arrAt 3 cfg0.N
      ∧ r.2.mem ((c.tc : Thread nD τ).loc main_v2_0) = (dat1 (V2 m ρ) c).arrAt 5 cfg1.N
      ∧ r.2.mem ((c.tc : Thread nD τ).loc main_v2_1) = (dat1 (V2 m ρ) c).arrAt 6 cfg1.N
      ∧ r.2.mem ((c.tc : Thread nD τ).loc main_v2_2) = (dat1 (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v1 (by decide))).trans ((W3_of m ρ c main_v1 (by decide)).trans (W2_arr m ρ c 3)),
       (h c _ (mem_uc main_v2_0 (by decide))).trans (W3_arr m ρ c 5),
       (h c _ (mem_uc main_v2_1 (by decide))).trans (W3_arr m ρ c 6),
       (h c _ (mem_uc main_v2_2 (by decide))).trans (W3_arr m ρ c 7),
       (h c _ (mem_uc main_arg0 (by decide))).trans (W3_main_arg0 m ρ c),
       (h c _ (mem_uc main_arg1 (by decide))).trans (W3_main_arg1 m ρ c)⟩)

/-- Over real arguments the four outputs are the attention and its three gradients. -/
theorem run_values (m : (ℓ : Loc nD τ sig) → Buf (Elt Ideal) ℓ) (Q U : Dev nD → ℕ → ℕ → ℝ)
    (hQ : ∀ c : Dev nD, m ((c.tc : Thread nD τ).loc main_arg0) = (L2 .f32 (Q c) : FVec Ideal S8192x3072 .f32))
    (hU : ∀ c : Dev nD, m ((c.tc : Thread nD τ).loc main_arg1) = (L2 .f32 (U c) : FVec Ideal S8192x1024 .f32)) :
    θ_run defs (onTc (τ := τ) (main (F := Ideal))) ⟨m, fun _ => 0, ρ⟩ (fun r => ∀ c : Dev nD,
      r.2.mem ((c.tc : Thread nD τ).loc main_v1) = (L2 .f32 (heads (oH (Q c))) : FVec Ideal S8192x1024 .f32)
      ∧ r.2.mem ((c.tc : Thread nD τ).loc main_v2_0) = (L2 .f32 (heads (dqH (Q c) (U c))) : FVec Ideal S8192x1024 .f32)
      ∧ r.2.mem ((c.tc : Thread nD τ).loc main_v2_1) = (L2 .f32 (heads (dkH (Q c) (U c))) : FVec Ideal S8192x1024 .f32)
      ∧ r.2.mem ((c.tc : Thread nD τ).loc main_v2_2) = (L2 .f32 (heads (dvH (Q c) (U c))) : FVec Ideal S8192x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_arrays m ρ)
  have e0 : V1 m ρ c main_v0 = (L2 .bf16 (Q c) : FVec Ideal S8192x3072 .bf16) := by
    have : V1 m ρ c main_v0 = (truncf .bf16 (m ((c.tc : Thread nD τ).loc main_arg0) : FVec Ideal S8192x3072 .f32) bitsLt_bf16_f32 : FVec Ideal S8192x3072 .bf16) := rfl
    rw [this, hQ c]; rfl
  have f0 := final0 (V1 m ρ) c (Q c) e0
  have g0 : V2 m ρ c main_v0 = (L2 .bf16 (Q c) : FVec Ideal S8192x3072 .bf16) := (W2_of m ρ c main_v0 (by decide)).trans e0
  have g1 : V2 m ρ c main_v1 = (L2 .f32 (heads (oH (Q c))) : FVec Ideal S8192x1024 .f32) := (W2_arr m ρ c 3).trans f0
  have g2 : V2 m ρ c main_arg1 = (L2 .f32 (U c) : FVec Ideal S8192x1024 .f32) := (W2_args m ρ c main_arg1 (by decide)).trans (hU c)
  obtain ⟨h1, h2, h3, h4, h5, h6⟩ := h c
  exact ⟨h1.trans f0, h2.trans (final1_5 (V2 m ρ) c (Q c) (U c) g0 g1 g2), h3.trans (final1_6 (V2 m ρ) c (Q c) (U c) g0 g1 g2),
    h4.trans (final1_7 (V2 m ρ) c (Q c) (U c) g0 g1 g2), h5, h6⟩

/-! ### A finite argument -/

instance factsFinite : Cert.Pre_finite.Facts where
  bcast_S_S8192x3072 := by decide
  bcast_S_S8192x1024 := by decide

/-- An extended real below infinity in size is a real number. -/
theorem coe_of_small {s : Shape} (x : FVec Ideal s .f32) (h : Cert.Pre_finite.S_.BroadcastsInDim s (![] : Fin 0 → Fin s.rank))
    (hx : cmpf .olt (Host.absf x) (broadcastInDim s ![] h (constant (F := Ideal) Cert.Pre_finite.S_ .f32 0x7F800000#32)) = fun _ => 1#1) (i : s.Idx) :
    (x i : EReal) = (((x i : EReal).toReal : ℝ) : EReal) := by
  have e : Ideal.ofBits .f32 0x7F800000#32 = (⊤ : EReal) := by simp [Ideal.ofBits, Ideal.ieee]
  have hi : Ideal.cmp .olt (max (x i : EReal) (-(x i : EReal))) (Ideal.ofBits .f32 0x7F800000#32) = 1#1 := congrFun hx i
  rw [e] at hi
  have hlt : max (x i : EReal) (-(x i : EReal)) < ⊤ := by
    by_contra hn
    simp only [Ideal.cmp, hn, decide_false] at hi
    exact absurd hi (by decide)
  obtain ⟨h1, h2⟩ := max_lt_iff.mp hlt
  have h3 : (x i : EReal) ≠ ⊥ := fun hb => by rw [hb, EReal.neg_bot] at h2; exact lt_irrefl _ h2
  exact (EReal.coe_toReal h1.ne h3).symm

/-- The real numbers of a matrix. -/
def real2 {a b : ℕ} (x : FVec Ideal ⟨2, ![a, b]⟩ .f32) : ℕ → ℕ → ℝ :=
  fun r c => if h : r < a ∧ c < b then (x (ValueIdx.ix2 ⟨r, h.1⟩ ⟨c, h.2⟩) : EReal).toReal else 0

/-- A matrix whose entries are below infinity in size is a matrix of real numbers. -/
theorem real2_L2 {a b : ℕ} (x : FVec Ideal ⟨2, ![a, b]⟩ .f32) (h : Cert.Pre_finite.S_.BroadcastsInDim ⟨2, ![a, b]⟩ (![] : Fin 0 → Fin 2))
    (hx : cmpf .olt (Host.absf x) (broadcastInDim ⟨2, ![a, b]⟩ ![] h (constant (F := Ideal) Cert.Pre_finite.S_ .f32 0x7F800000#32)) = fun _ => 1#1) :
    x = L2 .f32 (real2 x) := by
  funext i
  rw [L2_apply]
  unfold real2
  rw [dif_pos ⟨ValueIdx.idx2_lt0 i, ValueIdx.idx2_lt1 i⟩]
  rw [show ValueIdx.ix2 ⟨(i 0).val, ValueIdx.idx2_lt0 i⟩ ⟨(i 1).val, ValueIdx.idx2_lt1 i⟩ = i from (ValueIdx.eq_ix2 i).symm]
  exact coe_of_small x h hx i

/-- The real numbers of a vector. -/
def real1 {a : ℕ} (x : FVec Ideal ⟨1, ![a]⟩ .f32) : ℕ → ℝ := fun r => if h : r < a then (x (ValueIdx.ix1 ⟨r, h⟩) : EReal).toReal else 0

/-- A vector whose entries are below infinity in size is a vector of real numbers. -/
theorem real1_L1 {a : ℕ} (x : FVec Ideal ⟨1, ![a]⟩ .f32) (h : Cert.Pre_finite.S_.BroadcastsInDim ⟨1, ![a]⟩ (![] : Fin 0 → Fin 1))
    (hx : cmpf .olt (Host.absf x) (broadcastInDim ⟨1, ![a]⟩ ![] h (constant (F := Ideal) Cert.Pre_finite.S_ .f32 0x7F800000#32)) = fun _ => 1#1) :
    x = L1 .f32 (real1 x) := by
  funext i
  have hl : (i 0).val < a := (i 0).isLt
  show _ = ((real1 x (i 0).val : ℝ) : EReal)
  unfold real1
  rw [dif_pos hl, show ValueIdx.ix1 ⟨(i 0).val, hl⟩ = i from (ValueIdx.eq_ix1 i).symm]
  exact coe_of_small x h hx i

end Cert.Stick

end
-- ==== Proof.Lift4.lean ====
/- Arrays of extended reals with four axes, the first of size one, all of whose entries are real numbers, and what
   the reference's operations make of them. -/
module

public import proofs.«01_k».proof.Proof.Lift
public import proofs.«01_k».proof.Proof.Stick
public import Idealize.ShloMosaic.Lib.WordCmp
public import proofs.«01_k».proof.Proof.Gen.ReferenceIdeal

@[expose] public section

set_option maxRecDepth 16384

noncomputable section

namespace Cert.Stick

open Idealize.ShloMosaic Idealize.ShloMosaic.ValueIdx Cert.ReferenceIdeal Cert.ReferenceIdeal.Facts
open scoped BigOperators

/-- The array whose entry at head `h`, row `r` and column `c` is the real number `f h r c`. -/
def L4 {d : Fin 4 → ℕ} (φ : FTy) (f : ℕ → ℕ → ℕ → ℝ) : FVec Ideal ⟨4, d⟩ φ :=
  fun i => ((f (i 1).val (i 2).val (i 3).val : ℝ) : EReal)

/-- The array of single bits whose entry at row `r` and column `c` of every head says whether `p r c`. -/
def B4 {d : Fin 4 → ℕ} (p : ℕ → ℕ → Bool) : IVec ⟨4, d⟩ 1 := fun i => BitVec.ofBool (p (i 2).val (i 3).val)

variable {d : Fin 4 → ℕ} {φ ψ : FTy} (f g : ℕ → ℕ → ℕ → ℝ)

theorem L4_congr {f g : ℕ → ℕ → ℕ → ℝ} (h : ∀ a r c, a < d 1 → r < d 2 → c < d 3 → f a r c = g a r c) : L4 (d := d) φ f = L4 φ g :=
  funext fun i => congrArg _ (h _ _ _ (i 1).isLt (i 2).isLt (i 3).isLt)

theorem addf_L4 : addf (L4 (d := d) φ f) (L4 φ g) = L4 φ (fun h r c => f h r c + g h r c) := funext fun _ => (EReal.coe_add _ _).symm
theorem subf_L4 : subf (L4 (d := d) φ f) (L4 φ g) = L4 φ (fun h r c => f h r c - g h r c) := funext fun _ => (EReal.coe_sub _ _).symm
theorem mulf_L4 : mulf (L4 (d := d) φ f) (L4 φ g) = L4 φ (fun h r c => f h r c * g h r c) := funext fun _ => (EReal.coe_mul _ _).symm
theorem maximumf_L4 : maximumf (L4 (d := d) φ f) (L4 φ g) = L4 φ (fun h r c => max (f h r c) (g h r c)) :=
  funext fun _ => (EReal.coe_strictMono.monotone.map_max).symm
theorem negf_L4 : Host.negf (L4 (d := d) φ f) = L4 φ (fun h r c => -f h r c) := funext fun _ => (EReal.coe_neg _).symm
theorem absf_L4 : Host.absf (L4 (d := d) φ f) = L4 φ (fun h r c => |f h r c|) :=
  funext fun i => by
    show max ((f _ _ _ : ℝ) : EReal) (-((f _ _ _ : ℝ) : EReal)) = ((|f _ _ _| : ℝ) : EReal)
    rw [← EReal.coe_neg]; exact (EReal.coe_strictMono.monotone.map_max).symm
theorem exp_L4 : Host.exp (L4 (d := d) φ f) = L4 φ (fun h r c => Real.exp (f h r c)) := funext fun _ => Ideal.exp_coe _
/-- The logarithm of one plus an exponential. -/
theorem log1p_exp_L4 : Host.log1p (L4 (d := d) φ (fun h r c => Real.exp (f h r c))) = L4 φ (fun h r c => Real.log (1 + Real.exp (f h r c))) :=
  funext fun i => by
    show Ideal.log ((1 : EReal) + ((Real.exp _ : ℝ) : EReal)) = _
    rw [← EReal.coe_one, ← EReal.coe_add, Ideal.log_coe, if_neg (by have := Real.exp_pos (f (i 1).val (i 2).val (i 3).val); linarith)]; rfl
theorem select_L4 (p : ℕ → ℕ → Bool) :
    select (B4 p) (L4 (d := d) φ f) (L4 φ g) = L4 φ (fun h r c => if p r c then f h r c else g h r c) :=
  funext fun i => by
    show (if BitVec.ofBool (p _ _) = 1 then _ else _) = ((if p _ _ then _ else _ : ℝ) : EReal)
    cases p (i 2).val (i 3).val <;> rfl

theorem bc4_zero (h : S_.BroadcastsInDim S1x8x8192x8192 (![] : Fin 0 → Fin 4)) :
    broadcastInDim S1x8x8192x8192 ![] h (constant (F := Ideal) S_ .f32 0x00000000#32) = L4 .f32 (fun _ _ _ => 0) :=
  funext fun _ => Ideal.ofBits_zero_f32.trans EReal.coe_zero.symm
theorem bc4_scl (h : S_.BroadcastsInDim S1x8x8192x8192 (![] : Fin 0 → Fin 4)) :
    broadcastInDim S1x8x8192x8192 ![] h (constant (F := Ideal) S_ .f32 0x3DB504F3#32) = L4 .f32 (fun _ _ _ => scl) :=
  funext fun _ => ofBits_scl

/-- A real number is equal to itself. -/
theorem select_une (x y : FVec Ideal ⟨4, d⟩ φ) : select (cmpf .une (L4 (d := d) φ f) (L4 φ f)) x y = y :=
  funext fun i => by
    show (if _ = 1#1 then _ else _) = _
    rw [if_neg]
    show ¬ BitVec.ofBool _ = 1#1
    simp [Ideal.cmp, L4]

/-- A real number is not infinite. -/
theorem select_inf (h : S_.BroadcastsInDim S1x8x8192x8192 (![] : Fin 0 → Fin 4)) (x : FVec Ideal S1x8x8192x8192 .f32) :
    select (cmpf .oeq (L4 .f32 f : FVec Ideal S1x8x8192x8192 .f32) (broadcastInDim S1x8x8192x8192 ![] h (constant (F := Ideal) S_ .f32 0x7F800000#32))) x (L4 .f32 f) = L4 .f32 f :=
  funext fun i => by
    have e : Ideal.ofBits .f32 0x7F800000#32 = (⊤ : EReal) := by simp [Ideal.ofBits, Ideal.ieee]
    show (if Ideal.cmp .oeq (L4 .f32 f i) (Ideal.ofBits .f32 0x7F800000#32) = 1#1 then x i else L4 .f32 f i) = L4 .f32 f i
    rw [if_neg]
    rw [e]
    simp [Ideal.cmp, L4]

/-- The softplus of a real number, as the reference computes it. -/
theorem softplus_L4 (h : S_.BroadcastsInDim S1x8x8192x8192 (![] : Fin 0 → Fin 4)) :
    select (cmpf .une (subf (L4 .f32 f) (broadcastInDim S1x8x8192x8192 ![] h (constant (F := Ideal) S_ .f32 0x00000000#32)))
        (subf (L4 .f32 f) (broadcastInDim S1x8x8192x8192 ![] h (constant (F := Ideal) S_ .f32 0x00000000#32))))
      (addf (L4 .f32 f) (broadcastInDim S1x8x8192x8192 ![] h (constant (F := Ideal) S_ .f32 0x00000000#32)))
      (addf (maximumf (L4 .f32 f) (broadcastInDim S1x8x8192x8192 ![] h (constant (F := Ideal) S_ .f32 0x00000000#32)))
        (Host.log1p (Host.exp (Host.negf (Host.absf (subf (L4 .f32 f) (broadcastInDim S1x8x8192x8192 ![] h (constant (F := Ideal) S_ .f32 0x00000000#32))))))))
      = L4 .f32 (fun a r c => sp (f a r c)) := by
  rw [bc4_zero h]
  rw [subf_L4, select_une, absf_L4, negf_L4, exp_L4, log1p_exp_L4, maximumf_L4, addf_L4]
  refine L4_congr fun a r c _ _ _ => ?_
  unfold sp
  rw [sub_zero, zero_sub]

/-- Every head's product with the right factor transposed. -/
theorem dot4_qk : Host.dotGeneral dot_S1x8x8192x128_S1x8x8192x128_S1x8x8192x8192_3_3_2_2_01_01 none (L4 φ f) (L4 ψ g)
    = (L4 .f32 (fun h r c => ∑ k ∈ Finset.range 128, f h r k * g h c k) : FVec Ideal S1x8x8192x8192 .f32) := by
  funext j
  let D := dot_S1x8x8192x128_S1x8x8192x128_S1x8x8192x8192_3_3_2_2_01_01
  have hr : D.contr.rank = 1 := rfl
  have hs : D.contr.size ⟨0, by rw [hr]; exact Nat.one_pos⟩ = 128 := rfl
  simp only [Host.dotGeneral]
  rw [Ideal.dotGeneral_apply]
  rw [← Equiv.sum_comp (contrEquiv1 D 128 hr hs).symm]
  refine Eq.trans ?_ (coe_sum_range 128 (fun k => f (j 1).val (j 2).val k * g (j 1).val (j 3).val k))
  refine Finset.sum_congr rfl fun k _ => ?_
  have hk := contrEquiv1_symm_val D 128 hr hs k
  have el : D.lhsIdx j ((contrEquiv1 D 128 hr hs).symm k) = ix4 (j 0) (j 1) (j 2) k := by
    funext a; apply Fin.ext
    match a with
    | ⟨0, _⟩ => rfl
    | ⟨1, _⟩ => rfl
    | ⟨2, _⟩ => rfl
    | ⟨3, _⟩ => exact hk
  have er : D.rhsIdx j ((contrEquiv1 D 128 hr hs).symm k) = ix4 (j 0) (j 1) (j 3) k := by
    funext a; apply Fin.ext
    match a with
    | ⟨0, _⟩ => rfl
    | ⟨1, _⟩ => rfl
    | ⟨2, _⟩ => rfl
    | ⟨3, _⟩ => exact hk
  rw [el, er]
  exact (EReal.coe_mul _ _).symm

/-- Every head's product. -/
theorem dot4_wv : Host.dotGeneral dot_S1x8x8192x8192_S1x8x8192x128_S1x8x8192x128_3_2_2_3_01_01 none (L4 φ f) (L4 ψ g)
    = (L4 .f32 (fun h r c => ∑ k ∈ Finset.range 8192, f h r k * g h k c) : FVec Ideal S1x8x8192x128 .f32) := by
  funext j
  let D := dot_S1x8x8192x8192_S1x8x8192x128_S1x8x8192x128_3_2_2_3_01_01
  have hr : D.contr.rank = 1 := rfl
  have hs : D.contr.size ⟨0, by rw [hr]; exact Nat.one_pos⟩ = 8192 := rfl
  simp only [Host.dotGeneral]
  rw [Ideal.dotGeneral_apply]
  rw [← Equiv.sum_comp (contrEquiv1 D 8192 hr hs).symm]
  refine Eq.trans ?_ (coe_sum_range 8192 (fun k => f (j 1).val (j 2).val k * g (j 1).val k (j 3).val))
  refine Finset.sum_congr rfl fun k _ => ?_
  have hk := contrEquiv1_symm_val D 8192 hr hs k
  have el : D.lhsIdx j ((contrEquiv1 D 8192 hr hs).symm k) = ix4 (j 0) (j 1) (j 2) k := by
    funext a; apply Fin.ext
    match a with
    | ⟨0, _⟩ => rfl
    | ⟨1, _⟩ => rfl
    | ⟨2, _⟩ => rfl
    | ⟨3, _⟩ => exact hk
  have er : D.rhsIdx j ((contrEquiv1 D 8192 hr hs).symm k) = ix4 (j 0) (j 1) k (j 3) := by
    funext a; apply Fin.ext
    match a with
    | ⟨0, _⟩ => rfl
    | ⟨1, _⟩ => rfl
    | ⟨2, _⟩ => exact hk
    | ⟨3, _⟩ => rfl
  rw [el, er]
  exact (EReal.coe_mul _ _).symm

/-- Every head's product with the left factor transposed. -/
theorem dot4_zq : Host.dotGeneral dot_S1x8x8192x8192_S1x8x8192x128_S1x8x8192x128_2_2_3_3_01_01 none (L4 φ f) (L4 ψ g)
    = (L4 .f32 (fun h r c => ∑ k ∈ Finset.range 8192, f h k r * g h k c) : FVec Ideal S1x8x8192x128 .f32) := by
  funext j
  let D := dot_S1x8x8192x8192_S1x8x8192x128_S1x8x8192x128_2_2_3_3_01_01
  have hr : D.contr.rank = 1 := rfl
  have hs : D.contr.size ⟨0, by rw [hr]; exact Nat.one_pos⟩ = 8192 := rfl
  simp only [Host.dotGeneral]
  rw [Ideal.dotGeneral_apply]
  rw [← Equiv.sum_comp (contrEquiv1 D 8192 hr hs).symm]
  refine Eq.trans ?_ (coe_sum_range 8192 (fun k => f (j 1).val k (j 2).val * g (j 1).val k (j 3).val))
  refine Finset.sum_congr rfl fun k _ => ?_
  have hk := contrEquiv1_symm_val D 8192 hr hs k
  have el : D.lhsIdx j ((contrEquiv1 D 8192 hr hs).symm k) = ix4 (j 0) (j 1) k (j 2) := by
    funext a; apply Fin.ext
    match a with
    | ⟨0, _⟩ => rfl
    | ⟨1, _⟩ => rfl
    | ⟨2, _⟩ => exact hk
    | ⟨3, _⟩ => rfl
  have er : D.rhsIdx j ((contrEquiv1 D 8192 hr hs).symm k) = ix4 (j 0) (j 1) k (j 3) := by
    funext a; apply Fin.ext
    match a with
    | ⟨0, _⟩ => rfl
    | ⟨1, _⟩ => rfl
    | ⟨2, _⟩ => exact hk
    | ⟨3, _⟩ => rfl
  rw [el, er]
  exact (EReal.coe_mul _ _).symm

/-- The same with the wide factor on the right. -/
theorem dot4_uw : Host.dotGeneral dot_S1x8x8192x128_S1x8x8192x8192_S1x8x128x8192_2_2_3_3_01_01 none (L4 φ f) (L4 ψ g)
    = (L4 .f32 (fun h r c => ∑ k ∈ Finset.range 8192, f h k r * g h k c) : FVec Ideal S1x8x128x8192 .f32) := by
  funext j
  let D := dot_S1x8x8192x128_S1x8x8192x8192_S1x8x128x8192_2_2_3_3_01_01
  have hr : D.contr.rank = 1 := rfl
  have hs : D.contr.size ⟨0, by rw [hr]; exact Nat.one_pos⟩ = 8192 := rfl
  simp only [Host.dotGeneral]
  rw [Ideal.dotGeneral_apply]
  rw [← Equiv.sum_comp (contrEquiv1 D 8192 hr hs).symm]
  refine Eq.trans ?_ (coe_sum_range 8192 (fun k => f (j 1).val k (j 2).val * g (j 1).val k (j 3).val))
  refine Finset.sum_congr rfl fun k _ => ?_
  have hk := contrEquiv1_symm_val D 8192 hr hs k
  have el : D.lhsIdx j ((contrEquiv1 D 8192 hr hs).symm k) = ix4 (j 0) (j 1) k (j 2) := by
    funext a; apply Fin.ext
    match a with
    | ⟨0, _⟩ => rfl
    | ⟨1, _⟩ => rfl
    | ⟨2, _⟩ => exact hk
    | ⟨3, _⟩ => rfl
  have er : D.rhsIdx j ((contrEquiv1 D 8192 hr hs).symm k) = ix4 (j 0) (j 1) k (j 3) := by
    funext a; apply Fin.ext
    match a with
    | ⟨0, _⟩ => rfl
    | ⟨1, _⟩ => rfl
    | ⟨2, _⟩ => exact hk
    | ⟨3, _⟩ => rfl
  rw [el, er]
  exact (EReal.coe_mul _ _).symm

/-- A sum that a fold takes, of real numbers. -/
theorem foldl_coe {ι : Type} (F : EReal → ι → EReal) (a : ι → ℝ) (hF : ∀ r i, F r i = r + ((a i : ℝ) : EReal)) (l : List ι) (x : ℝ) :
    l.foldl F ((x : ℝ) : EReal) = ((x + (l.map a).sum : ℝ) : EReal) := by
  induction l generalizing x with
  | nil => simp
  | cons i l ih =>
    rw [List.foldl_cons, hF, ← EReal.coe_add, ih, List.map_cons, List.sum_cons]
    exact congrArg _ (by ring)

abbrev Wdw : Shape := ⟨4, ![1, 1, 1, 8192]⟩

theorem numel_Wdw : Wdw.numel = 8192 := by decide +kernel

theorem pos_Wdw (n : Fin Wdw.numel) : ((Wdw.rowMajor.symm n) 0).val = 0 ∧ ((Wdw.rowMajor.symm n) 1).val = 0
    ∧ ((Wdw.rowMajor.symm n) 2).val = 0 ∧ ((Wdw.rowMajor.symm n) 3).val = n.val := by
  have h0 : ((Wdw.rowMajor.symm n) 0).val < 1 := ((Wdw.rowMajor.symm n) 0).isLt
  have h1 : ((Wdw.rowMajor.symm n) 1).val < 1 := ((Wdw.rowMajor.symm n) 1).isLt
  have h2 : ((Wdw.rowMajor.symm n) 2).val < 1 := ((Wdw.rowMajor.symm n) 2).isLt
  have e : (Wdw.rowMajor (Wdw.rowMajor.symm n)).val = n.val := by rw [Equiv.apply_symm_apply]
  rw [Shape.rowMajor_val_four] at e
  change ((((Wdw.rowMajor.symm n) 0).val * 1 + ((Wdw.rowMajor.symm n) 1).val) * 1 + ((Wdw.rowMajor.symm n) 2).val) * 8192 + ((Wdw.rowMajor.symm n) 3).val = n.val at e
  omega

theorem sum_Wdw (a : ℕ → ℝ) : ((List.finRange Wdw.numel).map fun n => a n.val).sum = ∑ n ∈ Finset.range 8192, a n := by
  rw [← Fin.sum_univ_def, Fin.sum_univ_eq_sum_range a, numel_Wdw]

/-- The sums of a row from each entry on. -/
theorem cum_from (h : S1x8x8192x8192.ReduceWindows (![1, 1, 1, 8192] : Fin 4 → Nat) ![1, 1, 1, 1] ![0, 0, 0, 0] ![0, 0, 0, 8191] S1x8x8192x8192)
    (h0 : S_.BroadcastsInDim S_ (![] : Fin 0 → Fin 0)) (hu : 0 < S_.numel) :
    Host.reduceWindowAdd ![1, 1, 1, 8192] ![1, 1, 1, 1] ![0, 0, 0, 0] ![0, 0, 0, 8191] (L4 .f32 f : FVec Ideal S1x8x8192x8192 .f32)
      (broadcastInDim S_ ![] h0 (constant (F := Ideal) S_ .f32 0x00000000#32)) h hu = L4 .f32 (fun h r c => ∑ j ∈ Finset.Ico c 8192, f h r j) := by
  funext i
  have hi : (i 3).val < 8192 := (i 3).isLt
  have hi0 : (i 0).val < 1 := (i 0).isLt
  have hi1 : (i 1).val < 8 := (i 1).isLt
  have hi2 : (i 2).val < 8192 := (i 2).isLt
  have hv : (broadcastInDim S_ ![] h0 (constant (F := Ideal) S_ .f32 0x00000000#32)) (Shape.Idx.first hu) = ((0 : ℝ) : EReal) :=
    Ideal.ofBits_zero_f32.trans EReal.coe_zero.symm
  simp only [Host.reduceWindowAdd, Ideal.hostReduceWindowAdd_def]
  rw [hv]
  unfold Ideal.hostReduceWindowAdd Host.reduceWindow
  refine (foldl_coe _ (fun n : Fin Wdw.numel => (fun n : ℕ => if (i 3).val + n < 8192 then f (i 1).val (i 2).val ((i 3).val + n) else 0) n.val) (fun x n => ?_) _ 0).trans ?_
  · obtain ⟨p0, p1, p2, p3⟩ := pos_Wdw n
    have hn : n.val < 8192 := lt_of_lt_of_eq n.isLt numel_Wdw
    dsimp only
    refine congrArg (x + ·) ?_
    split
    · next hin =>
      have q3 : 0 ≤ (i 3).val * 1 + ((Wdw.rowMajor.symm n) 3).val ∧ (i 3).val * 1 + ((Wdw.rowMajor.symm n) 3).val - 0 < 8192 := hin 3
      rw [p3] at q3
      rw [if_pos (by omega)]
      show ((f ((i 1).val * 1 + ((Wdw.rowMajor.symm n) 1).val - 0) ((i 2).val * 1 + ((Wdw.rowMajor.symm n) 2).val - 0) ((i 3).val * 1 + ((Wdw.rowMajor.symm n) 3).val - 0) : ℝ) : EReal) = _
      rw [p1, p2, p3]
      simp only [Nat.mul_one, Nat.add_zero, Nat.sub_zero]
    · next hin =>
      rw [if_neg fun hle => hin fun a => by
        match a with
        | ⟨0, _⟩ =>
          show 0 ≤ (i 0).val * 1 + ((Wdw.rowMajor.symm n) 0).val ∧ (i 0).val * 1 + ((Wdw.rowMajor.symm n) 0).val - 0 < 1
          rw [p0]; omega
        | ⟨1, _⟩ =>
          show 0 ≤ (i 1).val * 1 + ((Wdw.rowMajor.symm n) 1).val ∧ (i 1).val * 1 + ((Wdw.rowMajor.symm n) 1).val - 0 < 8
          rw [p1]; omega
        | ⟨2, _⟩ =>
          show 0 ≤ (i 2).val * 1 + ((Wdw.rowMajor.symm n) 2).val ∧ (i 2).val * 1 + ((Wdw.rowMajor.symm n) 2).val - 0 < 8192
          rw [p2]; omega
        | ⟨3, _⟩ =>
          show 0 ≤ (i 3).val * 1 + ((Wdw.rowMajor.symm n) 3).val ∧ (i 3).val * 1 + ((Wdw.rowMajor.symm n) 3).val - 0 < 8192
          rw [p3]; omega]
  · rw [sum_Wdw (fun n : ℕ => if (i 3).val + n < 8192 then f (i 1).val (i 2).val ((i 3).val + n) else 0), zero_add]
    refine congrArg (fun x : ℝ => (x : EReal)) ?_
    rw [← Finset.sum_filter]
    refine Finset.sum_bij' (fun n _ => (i 3).val + n) (fun m _ => m - (i 3).val) ?_ ?_ ?_ ?_ ?_
    · intro n hn; simp at hn ⊢; omega
    · intro n hn; simp at hn ⊢; omega
    · intro n hn; simp at hn ⊢
    · intro n hn; simp at hn ⊢; omega
    · intro n hn; rfl

/-- The sums of a row up to each entry. -/
theorem cum_to (h : S1x8x8192x8192.ReduceWindows (![1, 1, 1, 8192] : Fin 4 → Nat) ![1, 1, 1, 1] ![0, 0, 0, 8191] ![0, 0, 0, 0] S1x8x8192x8192)
    (h0 : S_.BroadcastsInDim S_ (![] : Fin 0 → Fin 0)) (hu : 0 < S_.numel) :
    Host.reduceWindowAdd ![1, 1, 1, 8192] ![1, 1, 1, 1] ![0, 0, 0, 8191] ![0, 0, 0, 0] (L4 .f32 f : FVec Ideal S1x8x8192x8192 .f32)
      (broadcastInDim S_ ![] h0 (constant (F := Ideal) S_ .f32 0x00000000#32)) h hu = L4 .f32 (fun h r c => ∑ j ∈ Finset.range (c + 1), f h r j) := by
  funext i
  have hi : (i 3).val < 8192 := (i 3).isLt
  have hi0 : (i 0).val < 1 := (i 0).isLt
  have hi1 : (i 1).val < 8 := (i 1).isLt
  have hi2 : (i 2).val < 8192 := (i 2).isLt
  have hv : (broadcastInDim S_ ![] h0 (constant (F := Ideal) S_ .f32 0x00000000#32)) (Shape.Idx.first hu) = ((0 : ℝ) : EReal) :=
    Ideal.ofBits_zero_f32.trans EReal.coe_zero.symm
  simp only [Host.reduceWindowAdd, Ideal.hostReduceWindowAdd_def]
  rw [hv]
  unfold Ideal.hostReduceWindowAdd Host.reduceWindow
  refine (foldl_coe _ (fun n : Fin Wdw.numel => (fun n : ℕ => if 8191 ≤ (i 3).val + n then f (i 1).val (i 2).val ((i 3).val + n - 8191) else 0) n.val) (fun x n => ?_) _ 0).trans ?_
  · obtain ⟨p0, p1, p2, p3⟩ := pos_Wdw n
    have hn : n.val < 8192 := lt_of_lt_of_eq n.isLt numel_Wdw
    dsimp only
    refine congrArg (x + ·) ?_
    split
    · next hin =>
      have q3 : 8191 ≤ (i 3).val * 1 + ((Wdw.rowMajor.symm n) 3).val ∧ (i 3).val * 1 + ((Wdw.rowMajor.symm n) 3).val - 8191 < 8192 := hin 3
      rw [p3] at q3
      rw [if_pos (by omega)]
      show ((f ((i 1).val * 1 + ((Wdw.rowMajor.symm n) 1).val - 0) ((i 2).val * 1 + ((Wdw.rowMajor.symm n) 2).val - 0) ((i 3).val * 1 + ((Wdw.rowMajor.symm n) 3).val - 8191) : ℝ) : EReal) = _
      rw [p1, p2, p3]
      simp only [Nat.mul_one, Nat.add_zero, Nat.sub_zero]
    · next hin =>
      rw [if_neg fun hle => hin fun a => by
        match a with
        | ⟨0, _⟩ =>
          show 0 ≤ (i 0).val * 1 + ((Wdw.rowMajor.symm n) 0).val ∧ (i 0).val * 1 + ((Wdw.rowMajor.symm n) 0).val - 0 < 1
          rw [p0]; omega
        | ⟨1, _⟩ =>
          show 0 ≤ (i 1).val * 1 + ((Wdw.rowMajor.symm n) 1).val ∧ (i 1).val * 1 + ((Wdw.rowMajor.symm n) 1).val - 0 < 8
          rw [p1]; omega
        | ⟨2, _⟩ =>
          show 0 ≤ (i 2).val * 1 + ((Wdw.rowMajor.symm n) 2).val ∧ (i 2).val * 1 + ((Wdw.rowMajor.symm n) 2).val - 0 < 8192
          rw [p2]; omega
        | ⟨3, _⟩ =>
          show 8191 ≤ (i 3).val * 1 + ((Wdw.rowMajor.symm n) 3).val ∧ (i 3).val * 1 + ((Wdw.rowMajor.symm n) 3).val - 8191 < 8192
          rw [p3]; omega]
  · rw [sum_Wdw (fun n : ℕ => if 8191 ≤ (i 3).val + n then f (i 1).val (i 2).val ((i 3).val + n - 8191) else 0), zero_add]
    refine congrArg (fun x : ℝ => (x : EReal)) ?_
    rw [← Finset.sum_filter]
    refine Finset.sum_bij' (fun n _ => (i 3).val + n - 8191) (fun m _ => m + 8191 - (i 3).val) ?_ ?_ ?_ ?_ ?_
    · intro n hn; simp at hn ⊢; omega
    · intro n hn; simp at hn ⊢; omega
    · intro n hn; simp at hn ⊢; omega
    · intro n hn; simp at hn ⊢; omega
    · intro n hn; rfl

/-- A matrix of all heads' columns, cut into heads. -/
theorem split_L2 (f : ℕ → ℕ → ℝ) (h0 : S8192x1024.BroadcastsInDim S1x8192x1024 (![1, 2] : Fin 2 → Fin 3)) (h1 : S1x8192x1024.ShapeCasts S1x8192x8x128)
    (h2 : S1x8192x8x128.Transposes [0, 2, 1, 3] S1x8x8192x128) :
    transpose S1x8x8192x128 [0, 2, 1, 3] (shapeCast _ (broadcastInDim S1x8192x1024 ![1, 2] h0 (L2 φ f : FVec Ideal S8192x1024 φ)) h1) h2
      = L4 φ (fun h t c => f t (128 * h + c)) := by
  funext j
  have a0 : (j 0).val < 1 := (j 0).isLt
  have a1 : (j 1).val < 8 := (j 1).isLt
  have a2 : (j 2).val < 8192 := (j 2).isLt
  have a3 : (j 3).val < 128 := (j 3).isLt
  refine (transpose_apply _ _ h2 j (ix4 (j 0) (j 2) (j 1) (j 3)) fun a => ?_).trans ?_
  · match a with
    | ⟨0, _⟩ => rfl
    | ⟨1, _⟩ => rfl
    | ⟨2, _⟩ => rfl
    | ⟨3, _⟩ => rfl
  refine (shapeCast_apply _ h1 _ (ix3 (j 0) (j 2) ⟨128 * (j 1).val + (j 3).val, by omega⟩ : S1x8192x1024.Idx) ?_).trans ?_
  · rw [Shape.rowMajor_val_three, Shape.rowMajor_val_four]
    show ((j 0).val * 8192 + (j 2).val) * 1024 + (128 * (j 1).val + (j 3).val) = (((j 0).val * 8192 + (j 2).val) * 8 + (j 1).val) * 128 + (j 3).val
    omega
  · rfl

/-- Every head's columns side by side. -/
theorem merge_L4 (h0 : S1x8x8192x128.Transposes [0, 2, 1, 3] S1x8192x8x128) (h1 : S1x8192x8x128.ShapeCasts S1x8192x1024)
    (h2 : S1x8192x1024.ShapeCasts S8192x1024) :
    shapeCast S8192x1024 (shapeCast S1x8192x1024 (transpose S1x8192x8x128 [0, 2, 1, 3] (L4 φ f : FVec Ideal S1x8x8192x128 φ) h0) h1) h2
      = L2 φ (fun t c => f (c / 128) t (c % 128)) := by
  funext j
  have a0 : (j 0).val < 8192 := (j 0).isLt
  have a1 : (j 1).val < 1024 := (j 1).isLt
  refine (shapeCast_apply _ h2 _ (ix3 0 (j 0) (j 1) : S1x8192x1024.Idx) ?_).trans ?_
  · rw [Shape.rowMajor_val_three, Shape.rowMajor_val_two]
    show (0 * 8192 + (j 0).val) * 1024 + (j 1).val = (j 0).val * 1024 + (j 1).val
    omega
  refine (shapeCast_apply _ h1 _ (ix4 0 (j 0) ⟨(j 1).val / 128, by omega⟩ ⟨(j 1).val % 128, by omega⟩ : S1x8192x8x128.Idx) ?_).trans ?_
  · rw [Shape.rowMajor_val_three, Shape.rowMajor_val_four]
    show ((0 * 8192 + (j 0).val) * 8 + (j 1).val / 128) * 128 + (j 1).val % 128 = (0 * 8192 + (j 0).val) * 1024 + (j 1).val
    omega
  refine (transpose_apply _ _ h0 _ (ix4 0 ⟨(j 1).val / 128, by omega⟩ (j 0) ⟨(j 1).val % 128, by omega⟩ : S1x8x8192x128.Idx) fun a => ?_).trans ?_
  · match a with
    | ⟨0, _⟩ => rfl
    | ⟨1, _⟩ => rfl
    | ⟨2, _⟩ => rfl
    | ⟨3, _⟩ => rfl
  · rfl

/-- Every head's matrix transposed. -/
theorem transpose_L4 (h0 : S1x8x128x8192.Transposes [0, 1, 3, 2] S1x8x8192x128) :
    transpose S1x8x8192x128 [0, 1, 3, 2] (L4 φ f : FVec Ideal S1x8x128x8192 φ) h0 = L4 φ (fun h r c => f h c r) := by
  funext j
  refine (transpose_apply _ _ h0 j (ix4 (j 0) (j 1) (j 3) (j 2)) fun a => ?_).trans ?_
  · match a with
    | ⟨0, _⟩ => rfl
    | ⟨1, _⟩ => rfl
    | ⟨2, _⟩ => rfl
    | ⟨3, _⟩ => rfl
  · rfl

/-- The keys that a query looks at. -/
theorem mask_B4 (h1 : S8192.BroadcastsInDim S1x8192 (![1] : Fin 1 → Fin 2)) (h2 : S1x8192.BroadcastsInDim S8192x8192 (![0, 1] : Fin 2 → Fin 2))
    (h3 : S8192.BroadcastsInDim S8192x1 (![0] : Fin 1 → Fin 2)) (h4 : S8192x1.BroadcastsInDim S8192x8192 (![0, 1] : Fin 2 → Fin 2))
    (h5 : S8192x8192.BroadcastsInDim S1x8x8192x8192 (![2, 3] : Fin 2 → Fin 4)) :
    broadcastInDim S1x8x8192x8192 ![2, 3] h5 (cmpi .slt (broadcastInDim S8192x8192 ![0, 1] h2 (broadcastInDim S1x8192 ![1] h1 (iotaInDim S8192 32 0)))
      (broadcastInDim S8192x8192 ![0, 1] h4 (broadcastInDim S8192x1 ![0] h3 (iotaInDim S8192 32 0)))) = B4 (fun t s => decide (s < t)) := by
  funext j
  have a2 : (j 2).val < 8192 := (j 2).isLt
  have a3 : (j 3).val < 8192 := (j 3).isLt
  exact WordCmp.cmpi_slt_ofNat (a := (j 3).val) (b := (j 2).val) (by omega) (by omega)

end Cert.Stick

end
-- ==== Proof.Ref.lean ====
/- The reference's four results as real numbers: they are the sums that the kernel computes. -/
module

public import proofs.«01_k».proof.Proof.Lift4
public import proofs.«01_k».proof.Proof.FwdArray
public import proofs.«01_k».proof.Proof.BwdArray
public import proofs.«01_k».proof.Proof.Gen.ReferenceIdeal.Run

@[expose] public section

set_option maxRecDepth 16384

noncomputable section

namespace Cert.Stick

open Idealize.ShloMosaic Idealize.ShloMosaic.ValueIdx Cert.ReferenceIdeal Cert.ReferenceIdeal.Facts₀ Cert.ReferenceIdeal.Facts Cert.ReferenceIdeal.Value
open scoped BigOperators

/-! ### The identities between real numbers -/

theorem sp_neg (x : ℝ) : x - sp x = -sp (-x) := by
  unfold sp
  rw [abs_neg]
  have h : max x 0 = x + max (-x) 0 := by
    rcases le_total x 0 with h | h
    · rw [max_eq_right h, max_eq_left (by linarith)]; ring
    · rw [max_eq_left h, max_eq_right (by linarith)]; ring
  rw [h]; ring

theorem sp_eq (x : ℝ) : sp x = Real.log (1 + Real.exp x) := by
  unfold sp
  rcases le_total x 0 with h | h
  · rw [max_eq_right h, abs_of_nonpos h, zero_add]; ring_nf
  · rw [max_eq_left h, abs_of_nonneg h, zero_sub]
    have e : 1 + Real.exp x = Real.exp x * (1 + Real.exp (-x)) := by
      rw [mul_add, mul_one, ← Real.exp_add, add_neg_cancel, Real.exp_zero]; ring
    rw [e, Real.log_mul (Real.exp_ne_zero _) (by have := Real.exp_pos (-x); linarith), Real.log_exp]

theorem exp_sub_sp (x : ℝ) : Real.exp (x - sp x) = Real.exp x / (1 + Real.exp x) := by
  rw [sp_eq, Real.exp_sub, Real.exp_log (by have := Real.exp_pos x; linarith)]

/-- The two shares of the stick sum to one. -/
theorem exp_neg_sub_sp (x : ℝ) : Real.exp (-x - sp (-x)) = 1 - Real.exp (x - sp x) := by
  have h1 := Real.exp_pos x
  have h2 : Real.exp x * Real.exp (-x) = 1 := by rw [← Real.exp_add, add_neg_cancel, Real.exp_zero]
  have h3 := Real.exp_pos (-x)
  rw [exp_sub_sp, exp_sub_sp, div_eq_iff (by linarith), sub_mul, one_mul, eq_sub_iff_add_eq, ← eq_sub_iff_add_eq', div_mul_eq_mul_div, div_eq_iff (by linarith)]
  linear_combination (1 : ℝ) * h2

section
variable (scl : ℝ) (q k v u : ℕ → ℕ → ℝ) (t s : ℕ)

/-- The weight, as the reference has it: the whole sum from a key on, less the key's own term. -/
theorem w_ref (hs : s < 8192) : (if s < t then Real.exp (-sp (-z scl q k t s) + ((∑ j ∈ Finset.Ico s 8192, lk scl q k t j) - lk scl q k t s)) else 0)
    = w scl q k t s := by
  unfold w
  by_cases h : s < t
  · rw [if_pos h, if_pos h, ← sp_neg, Finset.sum_eq_sum_Ico_succ_bot hs]
    congr 1; ring
  · rw [if_neg h, if_neg h]

theorem e_above (h : ¬ s < t) : e scl q k v u t s = 0 := by
  unfold e w; rw [if_neg h, mul_zero]

/-- The sum of a query's `e` is what the output gives. -/
theorem sum_e : ∑ j ∈ Finset.range 8192, e scl q k v u t j = delta scl q k v u t := by
  unfold e delta o
  simp only [Finset.sum_mul, Finset.mul_sum]
  rw [Finset.sum_comm]
  exact Finset.sum_congr rfl fun _ _ => Finset.sum_congr rfl fun _ _ => by ring

/-- The gradient of a score, as the reference has it: with the sum of the earlier keys' `e`. -/
theorem dz_ref (hs : s < 8192) :
    (-(-(e scl q k v u t s) * Real.exp (-z scl q k t s - sp (-z scl q k t s)))
      + -(-(-(if s < t then -(e scl q k v u t s) + ∑ j ∈ Finset.range (s + 1), e scl q k v u t j else 0)
          * Real.exp (z scl q k t s - sp (z scl q k t s))))) * scl = dz scl q k v u t s := by
  unfold dz
  by_cases h : s < t
  · rw [if_pos h, if_pos h, exp_neg_sub_sp, Finset.sum_range_succ, ← sum_e,
      ← Finset.sum_range_add_sum_Ico _ hs.le]
    ring
  · rw [if_neg h, if_neg h, e_above scl q k v u t s h]; ring

end

/-! ### The reference's arrays -/

variable (V : Valuation τ sig (Elt Ideal)) (Q U : ℕ → ℕ → ℝ)

/-- The queries, keys, values and the output's gradient of head `h`. -/
abbrev qH (h : ℕ) : ℕ → ℕ → ℝ := cols (128 * h) Q
abbrev kH (h : ℕ) : ℕ → ℕ → ℝ := cols (1024 + 128 * h) Q
abbrev vH (h : ℕ) : ℕ → ℕ → ℝ := cols (2048 + 128 * h) Q
abbrev uH (h : ℕ) : ℕ → ℕ → ℝ := cols (128 * h) U

theorem slice_L2 (n : ℕ) (h : S8192x3072.Slices ![0, n] S8192x1024) :
    extractStridedSlice S8192x1024 ![0, n] (L2 .f32 Q : FVec Ideal S8192x3072 .f32) h = L2 .f32 (fun r c => Q r (n + c)) := by
  funext j
  show ((Q (0 + (j 0).val) (n + (j 1).val) : ℝ) : EReal) = _
  rw [Nat.zero_add]; rfl

theorem v7_L4 (hQ : V (Proc.devRef .tc main_arg0) = (L2 .f32 Q : FVec Ideal S8192x3072 .f32)) :
    res_main_v7 V = (L4 .f32 (fun h => qH Q h) : FVec Ideal S1x8x8192x128 .f32) := by
  unfold res_main_v7
  rw [hQ, slice_L2, split_L2]
  refine L4_congr fun h t c _ _ _ => ?_
  dsimp only [qH, kH, vH, cols]
  rw [Nat.zero_add]

theorem v9_L4 (hQ : V (Proc.devRef .tc main_arg0) = (L2 .f32 Q : FVec Ideal S8192x3072 .f32)) :
    res_main_v9 V = (L4 .f32 (fun h => kH Q h) : FVec Ideal S1x8x8192x128 .f32) := by
  unfold res_main_v9
  rw [hQ, slice_L2, split_L2]
  refine L4_congr fun h t c _ _ _ => ?_
  dsimp only [qH, kH, vH, cols]
  rw [Nat.add_assoc]

theorem v11_L4 (hQ : V (Proc.devRef .tc main_arg0) = (L2 .f32 Q : FVec Ideal S8192x3072 .f32)) :
    res_main_v11 V = (L4 .f32 (fun h => vH Q h) : FVec Ideal S1x8x8192x128 .f32) := by
  unfold res_main_v11
  rw [hQ, slice_L2, split_L2]
  refine L4_congr fun h t c _ _ _ => ?_
  dsimp only [qH, kH, vH, cols]
  rw [Nat.add_assoc]

theorem v37_L4 (hU : V (Proc.devRef .tc main_arg1) = (L2 .f32 U : FVec Ideal S8192x1024 .f32)) :
    res_main_v37 V = (L4 .f32 (fun h => uH U h) : FVec Ideal S1x8x8192x128 .f32) := by
  unfold res_main_v37
  rw [hU, split_L2]
  rfl

theorem v14_L4 (hQ : V (Proc.devRef .tc main_arg0) = (L2 .f32 Q : FVec Ideal S8192x3072 .f32)) :
    res_main_v14 V = (L4 .f32 (fun h => z scl (qH Q h) (kH Q h)) : FVec Ideal S1x8x8192x8192 .f32) := by
  unfold res_main_v14
  rw [v7_L4 V Q hQ, v9_L4 V Q hQ, dot4_qk, bc4_scl, mulf_L4]
  rfl

theorem v24_1_B4 : res_main_v24_1 V = (B4 (fun t s => decide (s < t)) : IVec S1x8x8192x8192 1) := by
  unfold res_main_v24_1 res_main_v21
  exact mask_B4 _ _ _ _ _

theorem v30_1_B4 : res_main_v30_1 V = (B4 (fun t s => decide (s < t)) : IVec S1x8x8192x8192 1) := by
  unfold res_main_v30_1 res_main_v21
  exact mask_B4 _ _ _ _ _

theorem c0_L4 (hQ : V (Proc.devRef .tc main_arg0) = (L2 .f32 Q : FVec Ideal S8192x3072 .f32)) :
    res_main_call0_v0 V = (L4 .f32 (fun h => z scl (qH Q h) (kH Q h)) : FVec Ideal S1x8x8192x8192 .f32) := by
  unfold res_main_call0_v0
  rw [v14_L4 V Q hQ, negf_L4, negf_L4]
  simp only [neg_neg]

theorem c3_L4 (hQ : V (Proc.devRef .tc main_arg0) = (L2 .f32 Q : FVec Ideal S8192x3072 .f32)) :
    res_main_call3_v0 V = (L4 .f32 (fun h t s => -z scl (qH Q h) (kH Q h) t s) : FVec Ideal S1x8x8192x8192 .f32) := by
  unfold res_main_call3_v0
  rw [v14_L4 V Q hQ, negf_L4]

theorem c0s_L4 (hQ : V (Proc.devRef .tc main_arg0) = (L2 .f32 Q : FVec Ideal S8192x3072 .f32)) :
    res_main_call0_v1_0 V = (L4 .f32 (fun h t s => sp (z scl (qH Q h) (kH Q h) t s)) : FVec Ideal S1x8x8192x8192 .f32) := by
  unfold res_main_call0_v1_0 res_main_call0_call0_v3 res_main_call0_call0_cst
  rw [c0_L4 V Q hQ, softplus_L4]

theorem c3s_L4 (hQ : V (Proc.devRef .tc main_arg0) = (L2 .f32 Q : FVec Ideal S8192x3072 .f32)) :
    res_main_call3_v1_0 V = (L4 .f32 (fun h t s => sp (-z scl (qH Q h) (kH Q h) t s)) : FVec Ideal S1x8x8192x8192 .f32) := by
  unfold res_main_call3_v1_0 res_main_call3_call0_v3 res_main_call3_call0_cst
  rw [c3_L4 V Q hQ, softplus_L4]

theorem v24_0_L4 (hQ : V (Proc.devRef .tc main_arg0) = (L2 .f32 Q : FVec Ideal S8192x3072 .f32)) :
    res_main_v24_0 V = (L4 .f32 (fun h => lk scl (qH Q h) (kH Q h)) : FVec Ideal S1x8x8192x8192 .f32) := by
  unfold res_main_v24_0
  dsimp only [id]
  rw [v24_1_B4, c0s_L4 V Q hQ, negf_L4, bc4_zero, select_L4]
  refine L4_congr fun h t c _ _ _ => ?_
  simp only [lk, decide_eq_true_eq, zero_sub]

theorem v29_L4 (hQ : V (Proc.devRef .tc main_arg0) = (L2 .f32 Q : FVec Ideal S8192x3072 .f32)) :
    res_main_v29 V = (L4 .f32 (fun h t s => Real.exp (-sp (-z scl (qH Q h) (kH Q h) t s)
      + ((∑ j ∈ Finset.Ico s 8192, lk scl (qH Q h) (kH Q h) t j) - lk scl (qH Q h) (kH Q h) t s))) : FVec Ideal S1x8x8192x8192 .f32) := by
  unfold res_main_v29
  rw [v24_0_L4 V Q hQ, c3s_L4 V Q hQ, cum_from, negf_L4, subf_L4, addf_L4, exp_L4]

/-- The weights. -/
theorem v30_0_L4 (hQ : V (Proc.devRef .tc main_arg0) = (L2 .f32 Q : FVec Ideal S8192x3072 .f32)) :
    res_main_v30_0 V = (L4 .f32 (fun h => w scl (qH Q h) (kH Q h)) : FVec Ideal S1x8x8192x8192 .f32) := by
  unfold res_main_v30_0
  dsimp only [id]
  rw [v30_1_B4, v29_L4 V Q hQ, bc4_zero, select_L4]
  refine L4_congr fun h t s _ _ hs => ?_
  simp only [decide_eq_true_eq]
  exact w_ref scl _ _ t s hs

theorem v42_L4 (hQ : V (Proc.devRef .tc main_arg0) = (L2 .f32 Q : FVec Ideal S8192x3072 .f32)) (hU : V (Proc.devRef .tc main_arg1) = (L2 .f32 U : FVec Ideal S8192x1024 .f32)) :
    res_main_v42 V = (L4 .f32 (fun h => e scl (qH Q h) (kH Q h) (vH Q h) (uH U h)) : FVec Ideal S1x8x8192x8192 .f32) := by
  unfold res_main_v42
  rw [v30_1_B4, v29_L4 V Q hQ, v37_L4 V U hU, v11_L4 V Q hQ, dot4_qk, bc4_zero, select_L4, mulf_L4]
  refine L4_congr fun h t s _ _ hs => ?_
  unfold e
  rw [← w_ref scl _ _ t s hs]
  by_cases hst : s < t
  · simp only [hst, decide_true, if_true]
  · simp [hst]

/-- The gradients of the scores. -/
theorem v52_L4 (hQ : V (Proc.devRef .tc main_arg0) = (L2 .f32 Q : FVec Ideal S8192x3072 .f32)) (hU : V (Proc.devRef .tc main_arg1) = (L2 .f32 U : FVec Ideal S8192x1024 .f32)) :
    res_main_v52 V = (L4 .f32 (fun h => dz scl (qH Q h) (kH Q h) (vH Q h) (uH U h)) : FVec Ideal S1x8x8192x8192 .f32) := by
  unfold res_main_v52
  rw [v24_1_B4, v42_L4 V Q U hQ hU, c0_L4 V Q hQ, c3_L4 V Q hQ, c0s_L4 V Q hQ, c3s_L4 V Q hQ, select_inf, select_inf, select_inf, select_inf,
    cum_to, negf_L4, addf_L4, bc4_zero, select_L4, subf_L4, subf_L4, exp_L4, exp_L4, mulf_L4, negf_L4, negf_L4, mulf_L4, negf_L4, negf_L4, addf_L4, bc4_scl, mulf_L4]
  refine L4_congr fun h t s _ _ hs => ?_
  simp only [decide_eq_true_eq]
  exact dz_ref scl _ _ _ _ t s hs

/-- The output. -/
theorem ref_o (hQ : V (Proc.devRef .tc main_arg0) = (L2 .f32 Q : FVec Ideal S8192x3072 .f32)) :
    (shapeCast _ (shapeCast _ (transpose S1x8192x8x128 [0, 2, 1, 3] (Host.dotGeneral (φ₁ := .f32) (φ₂ := .f32) dot_S1x8x8192x8192_S1x8x8192x128_S1x8x8192x128_3_2_2_3_01_01 none (res_main_v30_0 V) (res_main_v11 V)) transposes_S1x8x8192x128_S1x8192x8x128_0_2_1_3) shapeCasts_S1x8192x8x128_S1x8192x1024) shapeCasts_S1x8192x1024_S8192x1024 : FVec Ideal S8192x1024 .f32)
      = L2 .f32 (heads (oH Q)) := by
  rw [v30_0_L4 V Q hQ, v11_L4 V Q hQ, dot4_wv, merge_L4]
  rfl

/-- The gradient of the queries. -/
theorem ref_dq (hQ : V (Proc.devRef .tc main_arg0) = (L2 .f32 Q : FVec Ideal S8192x3072 .f32)) (hU : V (Proc.devRef .tc main_arg1) = (L2 .f32 U : FVec Ideal S8192x1024 .f32)) :
    (shapeCast _ (shapeCast _ (transpose S1x8192x8x128 [0, 2, 1, 3] (Host.dotGeneral (φ₁ := .f32) (φ₂ := .f32) dot_S1x8x8192x8192_S1x8x8192x128_S1x8x8192x128_3_2_2_3_01_01 none (res_main_v52 V) (res_main_v9 V)) transposes_S1x8x8192x128_S1x8192x8x128_0_2_1_3) shapeCasts_S1x8192x8x128_S1x8192x1024) shapeCasts_S1x8192x1024_S8192x1024 : FVec Ideal S8192x1024 .f32)
      = L2 .f32 (heads (dqH Q U)) := by
  rw [v52_L4 V Q U hQ hU, v9_L4 V Q hQ, dot4_wv, merge_L4]
  rfl

/-- The gradient of the keys. -/
theorem ref_dk (hQ : V (Proc.devRef .tc main_arg0) = (L2 .f32 Q : FVec Ideal S8192x3072 .f32)) (hU : V (Proc.devRef .tc main_arg1) = (L2 .f32 U : FVec Ideal S8192x1024 .f32)) :
    (shapeCast _ (shapeCast _ (transpose S1x8192x8x128 [0, 2, 1, 3] (Host.dotGeneral (φ₁ := .f32) (φ₂ := .f32) dot_S1x8x8192x8192_S1x8x8192x128_S1x8x8192x128_2_2_3_3_01_01 none (res_main_v52 V) (res_main_v7 V)) transposes_S1x8x8192x128_S1x8192x8x128_0_2_1_3) shapeCasts_S1x8192x8x128_S1x8192x1024) shapeCasts_S1x8192x1024_S8192x1024 : FVec Ideal S8192x1024 .f32)
      = L2 .f32 (heads (dkH Q U)) := by
  rw [v52_L4 V Q U hQ hU, v7_L4 V Q hQ, dot4_zq, merge_L4]
  rfl

/-- The gradient of the values. -/
theorem ref_dv (hQ : V (Proc.devRef .tc main_arg0) = (L2 .f32 Q : FVec Ideal S8192x3072 .f32)) (hU : V (Proc.devRef .tc main_arg1) = (L2 .f32 U : FVec Ideal S8192x1024 .f32)) :
    (shapeCast _ (shapeCast _ (transpose S1x8192x8x128 [0, 2, 1, 3] (transpose S1x8x8192x128 [0, 1, 3, 2] (Host.dotGeneral (φ₁ := .f32) (φ₂ := .f32) dot_S1x8x8192x128_S1x8x8192x8192_S1x8x128x8192_2_2_3_3_01_01 none (res_main_v37 V) (res_main_v30_0 V)) transposes_S1x8x128x8192_S1x8x8192x128_0_1_3_2) transposes_S1x8x8192x128_S1x8192x8x128_0_2_1_3) shapeCasts_S1x8192x8x128_S1x8192x1024) shapeCasts_S1x8192x1024_S8192x1024 : FVec Ideal S8192x1024 .f32)
      = L2 .f32 (heads (dvH Q U)) := by
  rw [v37_L4 V U hU, v30_0_L4 V Q hQ, dot4_uw, transpose_L4, merge_L4]
  refine L2_congr fun t c _ _ => ?_
  exact Finset.sum_congr rfl fun _ _ => mul_comm _ _

end Cert.Stick

end
-- ==== Proof.Point.lean ====
/-
One grid point of a call, stated over whatever the body is: from what its memory operations do to what the pipeline asks.
-/
module

public import proofs.«01_k».proof.Proof.Region

@[expose] public section

set_option maxRecDepth 16384

noncomputable section

namespace Cert.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type}
variable {U : Type} [URA U]

local notation "𝕄" => MT nD τ sig Unit Val ℕ U ℕ

/-- Device `c`'s buffer `m` holds `x`. -/
abbrev has {S : Shape} {e : EltTy} (c : Dev nD) (m : Memref sig .tc .vmem S e) (x : S.Idx → Val e) : sProp 𝕄 := owns (c : Thread nD τ) m fullShare x

/-- The invariant of a call with an accumulator before point `n`, its output blocks taking `k` points each: between two
    output blocks the accumulator holds anything, inside one it holds `acc n`. `R` and `G` are the rest. -/
def between {S : Shape} {e : EltTy} (c : Dev nD) (m : Memref sig .tc .vmem S e) (R G : sProp 𝕄) (k : ℕ) (acc : ℕ → S.Idx → Val e) (n : ℕ) : sProp 𝕄 :=
  if n % k = 0 then iprop(iprop((∃ d, has c m d) ∗ R) ∗ G)
  else iprop(iprop(has c m (acc n) ∗ R) ∗ G)

theorem between_zero {S : Shape} {e : EltTy} (c : Dev nD) (m : Memref sig .tc .vmem S e) (R G : sProp 𝕄) (k : ℕ) (acc : ℕ → S.Idx → Val e) (n : ℕ) (h : n % k = 0) :
    between c m R G k acc n = iprop(iprop((∃ d, has c m d) ∗ R) ∗ G) := if_pos h
theorem between_pos {S : Shape} {e : EltTy} (c : Dev nD) (m : Memref sig .tc .vmem S e) (R G : sProp 𝕄) (k : ℕ) (acc : ℕ → S.Idx → Val e) (n : ℕ) (h : ¬n % k = 0) :
    between c m R G k acc n = iprop(iprop(has c m (acc n) ∗ R) ∗ G) := if_neg h

theorem succ_mod_iff (k n : ℕ) (hk : 0 < k) : (n + 1) % k = 0 ↔ n % k = k - 1 := by
  have h1 := Nat.mod_lt n hk
  rw [← Nat.mod_add_mod]
  by_cases h : n % k + 1 < k
  · rw [Nat.mod_eq_of_lt h]; omega
  · have e : n % k + 1 = k := by omega
    rw [e, Nat.mod_self]; omega

/-- One point of a blocked product: the body makes the accumulator `p2` at the first point of an output block and `p3` of what
    it holds at the others, and writes `out` of it at the last. -/
theorem product_point {S S' : Shape} {e e' : EltTy} {δ₀ δ₁ δ₂ : Type} (c : Dev nD) (m : Memref sig .tc .vmem S e) (o : Memref sig .tc .vmem S' e')
    (A B R G O Z T : sProp 𝕄) (k n : ℕ) (hk : 0 < k) (acc : ℕ → S.Idx → Val e) (bf : δ₂ → S'.Idx → Val e') (out : (S.Idx → Val e) → S'.Idx → Val e')
    (p2 : S.Idx → Val e) (p3 : (S.Idx → Val e) → S.Idx → Val e) (first last : Prop) [Decidable first] [Decidable last]
    (hfirst : first ↔ n % k = 0) (hlast : last ↔ n % k = k - 1)
    (hacc0 : n % k = 0 → acc (n + 1) = p2) (hacc1 : ¬n % k = 0 → acc (n + 1) = p3 (acc n))
    (hZ1 : n % k = k - 1 → Z = has c o (out (acc (n + 1))))
    (hZ0 : ¬n % k = k - 1 → Z = iprop(∃ d, has c o (bf d)))
    (hrun : ∀ xi xs, iprop(A ∗ B ∗ has c o xi ∗ has c m xs
        ∗ (iprop(A ∗ B ∗ has c o (if last then out (if first then p2 else p3 xs) else xi)
            ∗ has c m (if first then p2 else p3 xs)) -∗ iprop(between c m R G k acc (n + 1) ∗ O ∗ A ∗ B ∗ Z))) ⊢ T) :
    iprop(between c m R G k acc n ∗ O ∗ (∃ _d : δ₀, A) ∗ (∃ _d : δ₁, B) ∗ (∃ d, has c o (bf d))) ⊢ T := by
  have hm := succ_mod_iff k n hk
  by_cases h0 : n % k = 0
  · have hf := hfirst.mpr h0
    simp only [if_pos hf] at hrun
    rw [between_zero _ _ _ _ _ _ _ h0]
    iintro ⟨⟨⟨⟨%xs, HS⟩, HR⟩, HG⟩, HO, ⟨%d0, HA⟩, ⟨%d1, HB⟩, ⟨%d2, H2⟩⟩
    iapply (hrun (bf d2) xs)
    isplitl [HA]; · iexact HA
    isplitl [HB]; · iexact HB
    isplitl [H2]; · iexact H2
    isplitl [HS]; · iexact HS
    by_cases hl : n % k = k - 1
    · rw [if_pos (hlast.mpr hl), hZ1 hl, between_zero _ _ _ _ _ _ _ (hm.mpr hl), hacc0 h0]
      iintro ⟨HA, HB, H2, HS⟩
      isplitl [HS HR HG]
      · isplitl [HS HR]
        · isplitl [HS]; · iexists _; iexact HS
          iexact HR
        iexact HG
      isplitl [HO]; · iexact HO
      isplitl [HA]; · iexact HA
      isplitl [HB]; · iexact HB
      iexact H2
    · rw [if_neg (fun h => hl (hlast.mp h)), hZ0 hl, between_pos _ _ _ _ _ _ _ (fun h => hl (hm.mp h)), hacc0 h0]
      iintro ⟨HA, HB, H2, HS⟩
      isplitl [HS HR HG]
      · isplitl [HS HR]
        · isplitl [HS]; · iexact HS
          iexact HR
        iexact HG
      isplitl [HO]; · iexact HO
      isplitl [HA]; · iexact HA
      isplitl [HB]; · iexact HB
      iexists _; iexact H2
  · have hf : ¬first := fun h => h0 (hfirst.mp h)
    simp only [if_neg hf] at hrun
    rw [between_pos _ _ _ _ _ _ _ h0]
    iintro ⟨⟨⟨HS, HR⟩, HG⟩, HO, ⟨%d0, HA⟩, ⟨%d1, HB⟩, ⟨%d2, H2⟩⟩
    iapply (hrun (bf d2) (acc n))
    isplitl [HA]; · iexact HA
    isplitl [HB]; · iexact HB
    isplitl [H2]; · iexact H2
    isplitl [HS]; · iexact HS
    by_cases hl : n % k = k - 1
    · rw [if_pos (hlast.mpr hl), hZ1 hl, between_zero _ _ _ _ _ _ _ (hm.mpr hl), hacc1 h0]
      iintro ⟨HA, HB, H2, HS⟩
      isplitl [HS HR HG]
      · isplitl [HS HR]
        · isplitl [HS]; · iexists _; iexact HS
          iexact HR
        iexact HG
      isplitl [HO]; · iexact HO
      isplitl [HA]; · iexact HA
      isplitl [HB]; · iexact HB
      iexact H2
    · rw [if_neg (fun h => hl (hlast.mp h)), hZ0 hl, between_pos _ _ _ _ _ _ _ (fun h => hl (hm.mp h)), hacc1 h0]
      iintro ⟨HA, HB, H2, HS⟩
      isplitl [HS HR HG]
      · isplitl [HS HR]
        · isplitl [HS]; · iexact HS
          iexact HR
        iexact HG
      isplitl [HO]; · iexact HO
      isplitl [HA]; · iexact HA
      isplitl [HB]; · iexact HB
      iexists _; iexact H2

/-- One point of a call of two inputs that writes its output block whole. -/
theorem point2 {S : Shape} {e : EltTy} {δ₀ δ₁ δ₂ : Type} (c : Dev nD) (o : Memref sig .tc .vmem S e) (Φ A B O T : sProp 𝕄) (bf : δ₂ → S.Idx → Val e) (z : S.Idx → Val e)
    (hrun : ∀ xi, iprop(A ∗ B ∗ has c o xi
        ∗ (iprop(A ∗ B ∗ has c o z) -∗ iprop(Φ ∗ O ∗ A ∗ B ∗ has c o z))) ⊢ T) :
    iprop(Φ ∗ O ∗ (∃ _d : δ₀, A) ∗ (∃ _d : δ₁, B) ∗ (∃ d, has c o (bf d))) ⊢ T := by
  iintro ⟨HΦ, HO, ⟨%d0, HA⟩, ⟨%d1, HB⟩, ⟨%d2, H2⟩⟩
  iapply (hrun (bf d2))
  isplitl [HA]; · iexact HA
  isplitl [HB]; · iexact HB
  isplitl [H2]; · iexact H2
  iintro ⟨HA, HB, H2⟩
  isplitl [HΦ]; · iexact HΦ
  isplitl [HO]; · iexact HO
  isplitl [HA]; · iexact HA
  isplitl [HB]; · iexact HB
  iexact H2

/-- One point of a call of three inputs that writes its output block whole. -/
theorem point3 {S : Shape} {e : EltTy} {δ₀ δ₁ δ₂ δ₃ : Type} (c : Dev nD) (o : Memref sig .tc .vmem S e) (Φ A B C O T : sProp 𝕄) (bf : δ₃ → S.Idx → Val e) (z : S.Idx → Val e)
    (hrun : ∀ xi, iprop(A ∗ B ∗ C ∗ has c o xi
        ∗ (iprop(A ∗ B ∗ C ∗ has c o z) -∗ iprop(Φ ∗ O ∗ A ∗ B ∗ C ∗ has c o z))) ⊢ T) :
    iprop(Φ ∗ O ∗ (∃ _d : δ₀, A) ∗ (∃ _d : δ₁, B) ∗ (∃ _d : δ₂, C) ∗ (∃ d, has c o (bf d))) ⊢ T := by
  iintro ⟨HΦ, HO, ⟨%d0, HA⟩, ⟨%d1, HB⟩, ⟨%d2, HC⟩, ⟨%d3, H3⟩⟩
  iapply (hrun (bf d3))
  isplitl [HA]; · iexact HA
  isplitl [HB]; · iexact HB
  isplitl [HC]; · iexact HC
  isplitl [H3]; · iexact H3
  iintro ⟨HA, HB, HC, H3⟩
  isplitl [HΦ]; · iexact HΦ
  isplitl [HO]; · iexact HO
  isplitl [HA]; · iexact HA
  isplitl [HB]; · iexact HB
  isplitl [HC]; · iexact HC
  iexact H3

/-- One point of a call of three inputs that writes one output block whole and keeps another, stored at the first point and added to
    at the others. -/
theorem rows3 {S S' : Shape} {e e' : EltTy} {δ0 δ1 δ2 γ γ' : Type} (c : Dev nD) (o : Memref sig .tc .vmem S e) (m : Memref sig .tc .vmem S' e') (Φ A B C O T : sProp 𝕄)
    (bf : γ → S.Idx → Val e) (bm : γ' → S'.Idx → Val e') (z : S.Idx → Val e) (y a' : S'.Idx → Val e') (y' : (S'.Idx → Val e') → S'.Idx → Val e') (a : S'.Idx → Val e')
    (first : Prop) [Decidable first] (hfirst : first → a' = y) (hnext : ¬first → a' = y' a) (hkept : ¬first → ∀ d, bm d = a)
    (hrun : ∀ xi xs, iprop(A ∗ B ∗ C ∗ has c o xi ∗ has c m xs
        ∗ (iprop(A ∗ B ∗ C ∗ has c o z ∗ has c m (if first then y else y' xs)) -∗ iprop(Φ ∗ O ∗ A ∗ B ∗ C ∗ has c o z ∗ has c m a'))) ⊢ T) :
    iprop(Φ ∗ O ∗ (∃ _d : δ0, A) ∗ (∃ _d : δ1, B) ∗ (∃ _d : δ2, C) ∗ (∃ d, has c o (bf d)) ∗ (∃ d, has c m (bm d))) ⊢ T := by
  iintro ⟨HΦ, HO, ⟨%d0, HA⟩, ⟨%d1, HB⟩, ⟨%d2, HC⟩, ⟨%d8, Ho⟩, ⟨%d9, Hm⟩⟩
  iapply (hrun (bf d8) (bm d9))
  isplitl [HA]; · iexact HA
  isplitl [HB]; · iexact HB
  isplitl [HC]; · iexact HC
  isplitl [Ho]; · iexact Ho
  isplitl [Hm]; · iexact Hm
  rw [show (if first then y else y' (bm d9)) = a' from by
    by_cases h : first
    · rw [if_pos h, hfirst h]
    · rw [if_neg h, hkept h, hnext h]]
  iintro ⟨HA, HB, HC, Ho, Hm⟩
  isplitl [HΦ]; · iexact HΦ
  isplitl [HO]; · iexact HO
  isplitl [HA]; · iexact HA
  isplitl [HB]; · iexact HB
  isplitl [HC]; · iexact HC
  isplitl [Ho]; · iexact Ho
  iexact Hm

/-- One point of a call of four inputs that writes one output block whole and keeps another, stored at the first point and added to
    at the others. -/
theorem rows4 {S S' : Shape} {e e' : EltTy} {δ0 δ1 δ2 δ3 γ γ' : Type} (c : Dev nD) (o : Memref sig .tc .vmem S e) (m : Memref sig .tc .vmem S' e') (Φ A B C D O T : sProp 𝕄)
    (bf : γ → S.Idx → Val e) (bm : γ' → S'.Idx → Val e') (z : S.Idx → Val e) (y a' : S'.Idx → Val e') (y' : (S'.Idx → Val e') → S'.Idx → Val e') (a : S'.Idx → Val e')
    (first : Prop) [Decidable first] (hfirst : first → a' = y) (hnext : ¬first → a' = y' a) (hkept : ¬first → ∀ d, bm d = a)
    (hrun : ∀ xi xs, iprop(A ∗ B ∗ C ∗ D ∗ has c o xi ∗ has c m xs
        ∗ (iprop(A ∗ B ∗ C ∗ D ∗ has c o z ∗ has c m (if first then y else y' xs)) -∗ iprop(Φ ∗ O ∗ A ∗ B ∗ C ∗ D ∗ has c o z ∗ has c m a'))) ⊢ T) :
    iprop(Φ ∗ O ∗ (∃ _d : δ0, A) ∗ (∃ _d : δ1, B) ∗ (∃ _d : δ2, C) ∗ (∃ _d : δ3, D) ∗ (∃ d, has c o (bf d)) ∗ (∃ d, has c m (bm d))) ⊢ T := by
  iintro ⟨HΦ, HO, ⟨%d0, HA⟩, ⟨%d1, HB⟩, ⟨%d2, HC⟩, ⟨%d3, HD⟩, ⟨%d8, Ho⟩, ⟨%d9, Hm⟩⟩
  iapply (hrun (bf d8) (bm d9))
  isplitl [HA]; · iexact HA
  isplitl [HB]; · iexact HB
  isplitl [HC]; · iexact HC
  isplitl [HD]; · iexact HD
  isplitl [Ho]; · iexact Ho
  isplitl [Hm]; · iexact Hm
  rw [show (if first then y else y' (bm d9)) = a' from by
    by_cases h : first
    · rw [if_pos h, hfirst h]
    · rw [if_neg h, hkept h, hnext h]]
  iintro ⟨HA, HB, HC, HD, Ho, Hm⟩
  isplitl [HΦ]; · iexact HΦ
  isplitl [HO]; · iexact HO
  isplitl [HA]; · iexact HA
  isplitl [HB]; · iexact HB
  isplitl [HC]; · iexact HC
  isplitl [HD]; · iexact HD
  isplitl [Ho]; · iexact Ho
  iexact Hm

end Cert.Region

end
-- ==== Proof.Product.lean ====
/-
The body of a blocked product over any shapes: what its memory operations do to its buffers.
-/
module

public import proofs.«01_k».proof.Proof.Point
public import Idealize.ShloMosaic.Lib.VecWindow

@[expose] public section

set_option maxRecDepth 16384

noncomputable section

namespace Cert.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F] {U : Type} [URA U]

local notation "𝕄" => MT nD τ sig Unit (Elt F) ℕ U ℕ

/-- Whether a coordinate is the first of its axis, and whether it is a later one, as the bodies decide it. -/
abbrev firstBit (n : ℕ) : BitVec 1 := Scalar.cmpi .ne (Scalar.extui (Scalar.cmpi .eq (BitVec.ofNat 32 n) 0#32)) 0#32
abbrev nextBit (n : ℕ) : BitVec 1 := Scalar.cmpi .ne (Scalar.extui (Scalar.cmpi .sgt (BitVec.ofNat 32 n) 0#32)) 0#32

/-- When a blocked product's body, at the points of its grid, stores the first product, adds a further one (the coordinate `n`
    decides) and writes the output (`last` decides), each output block taking `k` points; and when its window is touched. -/
abbrev Timing (cfg : Pipeline.Cfg sig Λ) (w : Fin cfg.W) (k : ℕ) (n : cfg.grid.Coords → ℕ) (last : cfg.grid.Coords → BitVec 1) : Prop :=
  ∀ t : Fin cfg.N, (firstBit (n (cfg.grid.coords t)) = 1#1 ↔ t.val % k = 0) ∧ (nextBit (n (cfg.grid.coords t)) = 1#1 ↔ ¬firstBit (n (cfg.grid.coords t)) = 1#1)
    ∧ (last (cfg.grid.coords t) = 1#1 ↔ t.val % k = k - 1) ∧ (t.val % k = k - 1 → cfg.idle w (cfg.grid.coords t) = false)
    ∧ (¬t.val % k = k - 1 → cfg.idle w (cfg.grid.coords t) = true ∧ (cfg.win w).flush t = false)

variable {S3 S4 S5 : Shape} {e3 e4 e5 e6 : EltTy} {o3 : Fin S3.rank → ℕ} {o4 : Fin S4.rank → ℕ} {o5 : Fin S5.rank → ℕ}
variable (arg3 : Memref sig .tc .vmem S3 e3) (arg4 : Memref sig .tc .vmem S4 e4) (arg5 : Memref sig .tc .vmem S5 e5) (arg6 : Memref sig .tc .vmem S5 e6)
  (i3 : ∀ a, o3 a + S3.size a ≤ S3.size a) (i4 : ∀ a, o4 a + S4.size a ≤ S4.size a) (i5 : ∀ a, o5 a + S5.size a ≤ S5.size a)
  (h3 : 0 < S3.numel) (h4 : 0 < S4.numel) (h5 : 0 < S5.numel)
  (s5 : (arg5.access (Rect.unit (s := S5) o5 S5.size i5)).Stores Finset.univ) (b6 : e6.bits = 32) (b1 b2 b3 : BitVec 1)
  (p2 : Vec F S3 e3 → Vec F S4 e4 → Vec F S5 e6) (p3 : Vec F S3 e3 → Vec F S4 e4 → Vec F S5 e6 → Vec F S5 e6) (out : Vec F S5 e6 → Vec F S5 e5)

/-- The body of a blocked product: two blocks are read; at the first point of an output block `p2` of them is stored in the
    accumulator, at a later one `p3` of them and of it; at the last, `out` of the accumulator is the output block. -/
def product : Prog (TpuEff nD τ sig (Elt F) Λ .tc) PUnit := do
  let v0 : Vec F S3 e3 ← Prog.lift (.load arg3 (Rect.unit (s := S3) o3 S3.size i3).toLoadRect (View.loadsAt_vmem h3))
  let v2 : Vec F S4 e4 ← Prog.lift (.load arg4 (Rect.unit (s := S4) o4 S4.size i4).toLoadRect (View.loadsAt_vmem h4))
  if h1 : b1 = 1#1 then do
    let v14 : Vec F S5 e6 ← Prog.lift (.load arg6 (Rect.unit (s := S5) o5 S5.size i5).toLoadRect (View.loadsAt_vmem h5))
    Prog.lift (.store arg6 (Rect.unit (s := S5) o5 S5.size i5) (p2 v0 v2) Finset.univ (View.stores_vmem_bits_univ h5 b6) (.inl rfl))
    pure ⟨⟩
  else do
    pure ⟨⟩
  if h2 : b2 = 1#1 then do
    let v14 : Vec F S5 e6 ← Prog.lift (.load arg6 (Rect.unit (s := S5) o5 S5.size i5).toLoadRect (View.loadsAt_vmem h5))
    let v16 : Vec F S5 e6 ← Prog.lift (.load arg6 (Rect.unit (s := S5) o5 S5.size i5).toLoadRect (View.loadsAt_vmem h5))
    Prog.lift (.store arg6 (Rect.unit (s := S5) o5 S5.size i5) (p3 v0 v2 v14) Finset.univ (View.stores_vmem_bits_univ h5 b6) (.inl rfl))
    pure ⟨⟩
  else do
    pure ⟨⟩
  if h3 : b3 = 1#1 then do
    let v14 : Vec F S5 e6 ← Prog.lift (.load arg6 (Rect.unit (s := S5) o5 S5.size i5).toLoadRect (View.loadsAt_vmem h5))
    let v15 : Vec F S5 e5 ← Prog.lift (.load arg5 (Rect.unit (s := S5) o5 S5.size i5).toLoadRect (View.loadsAt_vmem h5))
    Prog.lift (.store arg5 (Rect.unit (s := S5) o5 S5.size i5) (out v14) Finset.univ s5 (.inl rfl))
    pure ⟨⟩
  else do
    pure ⟨⟩
  pure ⟨⟩

variable {b1 b2}

set_option maxHeartbeats 2000000 in
/-- What the body does to its buffers. -/
theorem product_run (defs : Defs nD τ sig (Elt F) Λ) (c : Dev nD)
    (harg3 : arg3.IsWhole) (harg4 : arg4.IsWhole) (harg5 : arg5.IsWhole) (harg6 : arg6.IsWhole) (hn : b2 = 1#1 ↔ ¬b1 = 1#1)
    (x0 : Vec F S3 e3) (x1 : Vec F S4 e4) (xi : Vec F S5 e5) (xs : Vec F S5 e6) (E : Set ℕ) (Q : PUnit → sProp 𝕄) :
    iprop(has c arg3 x0 ∗ has c arg4 x1 ∗ has c arg5 xi ∗ has c arg6 xs
        ∗ (iprop(has c arg3 x0 ∗ has c arg4 x1 ∗ has c arg5 (if b3 = 1#1 then out (if b1 = 1#1 then p2 x0 x1 else p3 x0 x1 xs) else xi) ∗ has c arg6 (if b1 = 1#1 then p2 x0 x1 else p3 x0 x1 xs)) -∗ Q ⟨⟩))
      ⊢ wp frame (wpE defs Variants.none c none) E (product arg3 arg4 arg5 arg6 i3 i4 i5 h3 h4 h5 s5 b6 b1 b2 b3 p2 p3 out) Q := by
  unfold product
  unfold has owns
  by_cases hc0 : b1 = 1#1 <;> [have hc1 : ¬b2 = 1#1 := fun h => hn.mp h hc0; have hc1 : b2 = 1#1 := hn.mpr hc0] <;> by_cases hc2 : b3 = 1#1
  all_goals
    try simp only [if_pos hc0]
    try simp only [if_neg hc0]
    try simp only [if_pos hc2]
    try simp only [if_neg hc2]
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr
      swap; · iexact H2
      ipureintro
      first
       | (refine (View.read_writes_full _ _ _ _ _).trans ?_
          try sl_unfold_words
          try rw [View.readAt_writes_full]
          try rw [readAt_unread harg3, readAt_unread harg4]
          try rw [readAt_unread harg6])
       | exact harg5.read_unread _
    iexists _; isplitr
    swap; · iexact H3
    ipureintro
    first
     | (refine (View.read_writes_full _ _ _ _ _).trans ?_
        try sl_unfold_words
        try rw [View.readAt_writes_full]
        try rw [readAt_unread harg3, readAt_unread harg4]
        try rw [readAt_unread harg6])
     | exact harg6.read_unread _

end Cert.Region

end
-- ==== Proof.CallsFfnA.lean ====
/-
The calls of the feed-forward half, the first six: what each leaves, point by point.
-/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Product
public import Idealize.ShloMosaic.Lib.WordCmp
public import Idealize.ShloMosaic.Lib.VecWindow

@[expose] public section

set_option maxRecDepth 16384
set_option maxHeartbeats 2000000

noncomputable section

namespace Cert.Kernel2Ideal.Calls

open Cert.Kernel2Ideal Cert.Kernel2Ideal.Gen Cert.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (W : Dev nD → Valuation τ sig (Elt F))

/-! ## Call 0: `rms_ffn_pre` -/

/-- The blocks of the call's windows. -/
abbrev blk0 := blockAt cfg0 W

/-- What the body does to its buffers. -/
theorem run0 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole)
    (x0 : Vec F S256x2048 .f32) (x1 : Vec F S1x2048 .f32) (xi : Vec F S256x2048 .bf16) (E : Set ℕ) (Q : PUnit → sProp 𝕄) :
    iprop(has c arg1 x0 ∗ has c arg2 x1 ∗ has c arg3 xi
        ∗ (iprop(has c arg1 x0 ∗ has c arg2 x1 ∗ has c arg3 (k0_pay1 x0 x1)) -∗ Q ⟨⟩))
      ⊢ wp frame (wpE (defs₀ (F := F)) Variants.none c none) E (cc0_rms_ffn_pre i arg1 harg1 arg2 harg2 arg3 harg3) Q := by
  simp only [cc0_rms_ffn_pre_eq_skeleton]; unfold cc0_rms_ffn_pre_skel
  unfold has owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  first
   | (refine (View.read_writes_full _ _ _ _ _).trans ?_
      try sl_unfold_words
      try rw [View.readCov_full]
      try rw [readAt_unread harg1]
      try rw [readAt_unread harg2]
      try rw [readAt_unread harg3])
   | exact harg3.read_unread _

/-- The call's proof data: the arrays as found, each input's buffer at its block after every point, the outputs' as computed. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => k0_pay1 (blk0 W c 0 t) (blk0 W c 1 t)
  Φ t := Pipeline.ΦA spec0 c
  q w := Pipeline.shareOf spec0 w
  owed _ := 0
theorem before0_0 (c : Dev nD) (t : Fin cfg0.N) (d) : (dat0 W c).before 0 t d = blk0 W c 0 t :=
  ((dat0 W c).before_in_eq_fetched 0 rfl (fun _ => rfl) (fun _ _ _ => rfl) (fun _ => rfl) t d).trans rfl
theorem before0_1 (c : Dev nD) (t : Fin cfg0.N) (d) : (dat0 W c).before 1 t d = blk0 W c 1 t :=
  ((dat0 W c).before_in_eq_fetched 1 rfl (fun _ => rfl) (fun _ _ _ => rfl) (fun _ => rfl) t d).trans rfl

/-- The body obligation at every point. -/
theorem obligation0 (c : Dev nD) : BodyObligation (dat0 W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  unfold bodyAt0; simp only [before0_0, before0_1]
  exact point2 c _ (Pipeline.ΦA spec0 c) _ _ _ _ _ (k0_pay1 (blk0 W c 0 t) (blk0 W c 1 t)) fun xi => run0 c (grid0.coords t) _ _ _ _ _ _ (blk0 W c 0 t) (blk0 W c 1 t) xi Set.univ (fun _ => _)

/-! ## Call 1: `mm_gu` -/

/-- The blocks of the call's windows. -/
abbrev blk1 := blockAt cfg1 W

theorem when1 : Timing cfg1 2 1 (fun i => (i 2).val) k1_cond3 := by decide +kernel

/-- The accumulator before point `n`: the sum of the products of the points of its output block so far. -/
def acc1 (c : Dev nD) : ℕ → Vec F S1024x1408 .f32 :=
  accumAt (N := grid1.N) (by decide) 1 (fun t => k1_pay2 (blk1 W c 0 t) (blk1 W c 1 t)) (fun t a => k1_pay3 (blk1 W c 0 t) (blk1 W c 1 t) a)

/-- The invariant before point `n`. -/
def inv1 (c : Dev nD) (n : ℕ) : sProp 𝕄 := between c (Memref.whole cc1_scratch0) (Pipeline.scopedRestBut (Ix := Unit) (Name := ℕ) (U := UR sig nD τ) (Lvl := ℕ) (Val := Elt F) spec1 c [cc1_scratch0]) iprop(∃ r, prngReg c r) 1 (acc1 W c) n
theorem inv1_zero (c : Dev nD) (n : ℕ) (h : n % 1 = 0) : inv1 W c n = Pipeline.ΦA spec1 c := by
  unfold inv1; rw [between_zero _ _ _ _ _ _ _ h]; unfold Pipeline.ΦA; rw [scopedRest1_split]; simp only [has, owns_whole]; try rfl

/-- The call's proof data. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => (k1_pay4 (acc1 W c (t.val + 1)))
  Φ t := inv1 W c t.val
  q w := Pipeline.shareOf spec1 w
  owed _ := 0
theorem before1_0 (c : Dev nD) (t : Fin cfg1.N) (d) : (dat1 W c).before 0 t d = blk1 W c 0 t :=
  ((dat1 W c).before_in_eq_fetched 0 rfl (fun _ => rfl) (fun _ _ _ => rfl) (fun _ => rfl) t d).trans rfl
theorem before1_1 (c : Dev nD) (t : Fin cfg1.N) (d) : (dat1 W c).before 1 t d = blk1 W c 1 t :=
  ((dat1 W c).before_in_eq_fetched 1 rfl (fun _ => rfl) (fun _ _ _ => rfl) (fun _ => rfl) t d).trans rfl

/-- The body obligation at every point. -/
theorem obligation1 (c : Dev nD) : BodyObligation (dat1 W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  unfold bodyAt1; simp only [before1_0, before1_1]
  have w := when1 t
  exact product_point c _ _ _ _ _ _ _ _ _ 1 t.val (by decide) (acc1 W c) _ k1_pay4 _ (k1_pay3 (blk1 W c 0 t) (blk1 W c 1 t)) _ _ w.1 w.2.2.1
    (accumAt_first _ _ _ _ t) (accumAt_next _ _ _ _ t)
    (fun h => by unfold Dat.leavesExact; rw [w.2.2.2.1 h]; dsimp only [dat1]; try rfl)
    (fun h => Dat.leavesExact_idle (dat1 W c) 2 t (w.2.2.2.2 h).1 (w.2.2.2.2 h).2)
    fun xi xs => by
      rw [cc1_mm_gu_eq_skeleton]
      exact product_run (win1_0.stage (cfg1.slots t 0)) (win1_1.stage (cfg1.slots t 1)) (win1_2.stage (cfg1.slots t 2)) (Memref.whole cc1_scratch0) inb_S1024x2048_S1024x2048_0_0 inb_S2048x1408_S2048x1408_0_0 inb_S1024x1408_S1024x1408_0_0
        h_S1024x2048 h_S2048x1408 h_S1024x1408 (View.stores_vmem h_S1024x1408 ((hstage1_2 ((cfg1.slots t 2).cast nbuf1_2)).storeExact_slice rfl _ packedbf16_S1024x1408_S1024x1408_0_0) (fun _ => rfl)) rfl (k1_cond3 (grid1.coords t)) k1_pay2 k1_pay3 (fun a => k1_pay4 a) defs₀ c
        (hstage1_0 ((cfg1.slots t 0).cast nbuf1_0)) (hstage1_1 ((cfg1.slots t 1).cast nbuf1_1)) (hstage1_2 ((cfg1.slots t 2).cast nbuf1_2)) (Memref.isWhole_whole _) w.2.1 (blk1 W c 0 t) (blk1 W c 1 t) xi xs Set.univ (fun _ => _)

theorem hin1 (c : Dev nD) : (Pipeline.ΦA spec1 c : sProp 𝕄) ⊢ (dat1 W c).Φ 0 := Entails.of_eq (inv1_zero W c 0 (by decide)).symm
theorem hout1 (c : Dev nD) : (dat1 W c).Φ (Fin.last _) ⊢ (Pipeline.ΦA spec1 c : sProp 𝕄) :=
  Entails.of_eq (inv1_zero W c 64 (by decide))

/-! ## Call 2: `swiglu_fwd` -/

/-- The blocks of the call's windows. -/
abbrev blk2 := blockAt cfg2 W

/-- What the body does to its buffers. -/
theorem run2 (c : Dev nD) (i : grid2.Coords) (arg1 : Memref sig .tc .vmem S128x5632 .bf16) (harg1 : arg1.IsWhole) (arg2 : Memref sig .tc .vmem S128x5632 .bf16) (harg2 : arg2.IsWhole) (arg3 : Memref sig .tc .vmem S128x5632 .bf16) (harg3 : arg3.IsWhole)
    (x0 : Vec F S128x5632 .bf16) (x1 : Vec F S128x5632 .bf16) (xi : Vec F S128x5632 .bf16) (E : Set ℕ) (Q : PUnit → sProp 𝕄) :
    iprop(has c arg1 x0 ∗ has c arg2 x1 ∗ has c arg3 xi
        ∗ (iprop(has c arg1 x0 ∗ has c arg2 x1 ∗ has c arg3 (k2_pay1 x0 x1)) -∗ Q ⟨⟩))
      ⊢ wp frame (wpE (defs₀ (F := F)) Variants.none c none) E (cc2_swiglu_fwd i arg1 harg1 arg2 harg2 arg3 harg3) Q := by
  simp only [cc2_swiglu_fwd_eq_skeleton]; unfold cc2_swiglu_fwd_skel
  unfold has owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  first
   | (refine (View.read_writes_full _ _ _ _ _).trans ?_
      try sl_unfold_words
      try rw [View.readCov_full]
      try rw [readAt_unread harg1]
      try rw [readAt_unread harg2]
      try rw [readAt_unread harg3])
   | exact harg3.read_unread _

/-- The call's proof data. -/
def dat2 (c : Dev nD) : Dat τ (Elt F) Unit ℕ (UR sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => k2_pay1 (blk2 W c 0 t) (blk2 W c 1 t)
  Φ t := Pipeline.ΦA spec2 c
  q w := Pipeline.shareOf spec2 w
  owed _ := 0
theorem before2_0 (c : Dev nD) (t : Fin cfg2.N) (d) : (dat2 W c).before 0 t d = blk2 W c 0 t :=
  ((dat2 W c).before_in_eq_fetched 0 rfl (fun _ => rfl) (fun _ _ _ => rfl) (fun _ => rfl) t d).trans rfl
theorem before2_1 (c : Dev nD) (t : Fin cfg2.N) (d) : (dat2 W c).before 1 t d = blk2 W c 1 t :=
  ((dat2 W c).before_in_eq_fetched 1 rfl (fun _ => rfl) (fun _ _ _ => rfl) (fun _ => rfl) t d).trans rfl

/-- The body obligation at every point. -/
theorem obligation2 (c : Dev nD) : BodyObligation (dat2 W c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  unfold bodyAt2; simp only [before2_0, before2_1]
  exact point2 c _ (Pipeline.ΦA spec2 c) _ _ _ _ _ (k2_pay1 (blk2 W c 0 t) (blk2 W c 1 t)) fun xi => run2 c (grid2.coords t) _ _ _ _ _ _ (blk2 W c 0 t) (blk2 W c 1 t) xi Set.univ (fun _ => _)

/-! ## Call 3: `mm_down` -/

/-- The blocks of the call's windows. -/
abbrev blk3 := blockAt cfg3 W

theorem when3 : Timing cfg3 2 4 (fun i => (i 2).val) k3_cond3 := by decide +kernel

/-- The accumulator before point `n`: the sum of the products of the points of its output block so far. -/
def acc3 (c : Dev nD) : ℕ → Vec F S1024x1024 .f32 :=
  accumAt (N := grid3.N) (by decide) 4 (fun t => k3_pay2 (blk3 W c 0 t) (blk3 W c 1 t)) (fun t a => k3_pay3 (blk3 W c 0 t) (blk3 W c 1 t) a)

/-- The invariant before point `n`. -/
def inv3 (c : Dev nD) (n : ℕ) : sProp 𝕄 := between c (Memref.whole cc3_scratch0) (Pipeline.scopedRestBut (Ix := Unit) (Name := ℕ) (U := UR sig nD τ) (Lvl := ℕ) (Val := Elt F) spec3 c [cc3_scratch0]) iprop(∃ r, prngReg c r) 4 (acc3 W c) n
theorem inv3_zero (c : Dev nD) (n : ℕ) (h : n % 4 = 0) : inv3 W c n = Pipeline.ΦA spec3 c := by
  unfold inv3; rw [between_zero _ _ _ _ _ _ _ h]; unfold Pipeline.ΦA; rw [scopedRest3_split]; simp only [has, owns_whole]; try rfl

/-- The call's proof data. -/
def dat3 (c : Dev nD) : Dat τ (Elt F) Unit ℕ (UR sig nD τ) ℕ cfg3 c where
  A w := W c (Proc.devRef .tc (Pipeline.arrRef spec3 w))
  after w t := match w with
    | ⟨0, _⟩ => blk3 W c 0 t
    | ⟨1, _⟩ => blk3 W c 1 t
    | ⟨2, _⟩ => (acc3 W c (t.val + 1))
  Φ t := inv3 W c t.val
  q w := Pipeline.shareOf spec3 w
  owed _ := 0
theorem before3_0 (c : Dev nD) (t : Fin cfg3.N) (d) : (dat3 W c).before 0 t d = blk3 W c 0 t :=
  ((dat3 W c).before_in_eq_fetched 0 rfl (fun _ => rfl) (fun _ _ _ => rfl) (fun _ => rfl) t d).trans rfl
theorem before3_1 (c : Dev nD) (t : Fin cfg3.N) (d) : (dat3 W c).before 1 t d = blk3 W c 1 t :=
  ((dat3 W c).before_in_eq_fetched 1 rfl (fun _ => rfl) (fun _ _ _ => rfl) (fun _ => rfl) t d).trans rfl

/-- The body obligation at every point. -/
theorem obligation3 (c : Dev nD) : BodyObligation (dat3 W c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  unfold bodyAt3; simp only [before3_0, before3_1]
  have w := when3 t
  exact product_point c _ _ _ _ _ _ _ _ _ 4 t.val (by decide) (acc3 W c) _ (fun a => a) _ (k3_pay3 (blk3 W c 0 t) (blk3 W c 1 t)) _ _ w.1 w.2.2.1
    (accumAt_first _ _ _ _ t) (accumAt_next _ _ _ _ t)
    (fun h => by unfold Dat.leavesExact; rw [w.2.2.2.1 h]; dsimp only [dat3]; try rfl)
    (fun h => Dat.leavesExact_idle (dat3 W c) 2 t (w.2.2.2.2 h).1 (w.2.2.2.2 h).2)
    fun xi xs => by
      rw [cc3_mm_down_eq_skeleton]
      exact product_run (win3_0.stage (cfg3.slots t 0)) (win3_1.stage (cfg3.slots t 1)) (win3_2.stage (cfg3.slots t 2)) (Memref.whole cc3_scratch0) inb_S1024x1408_S1024x1408_0_0 inb_S1408x1024_S1408x1024_0_0 inb_S1024x1024_S1024x1024_0_0
        h_S1024x1408 h_S1408x1024 h_S1024x1024 (View.stores_vmem_bits_univ h_S1024x1024 rfl) rfl (k3_cond3 (grid3.coords t)) k3_pay2 k3_pay3 (fun a => a) defs₀ c
        (hstage3_0 ((cfg3.slots t 0).cast nbuf3_0)) (hstage3_1 ((cfg3.slots t 1).cast nbuf3_1)) (hstage3_2 ((cfg3.slots t 2).cast nbuf3_2)) (Memref.isWhole_whole _) w.2.1 (blk3 W c 0 t) (blk3 W c 1 t) xi xs Set.univ (fun _ => _)

theorem hin3 (c : Dev nD) : (Pipeline.ΦA spec3 c : sProp 𝕄) ⊢ (dat3 W c).Φ 0 := Entails.of_eq (inv3_zero W c 0 (by decide)).symm
theorem hout3 (c : Dev nD) : (dat3 W c).Φ (Fin.last _) ⊢ (Pipeline.ΦA spec3 c : sProp 𝕄) :=
  Entails.of_eq (inv3_zero W c 64 (by decide))

/-! ## Call 4: `rms_ffn_post` -/

/-- The blocks of the call's windows. -/
abbrev blk4 := blockAt cfg4 W

/-- What the body does to its buffers. -/
theorem run4 (c : Dev nD) (i : grid4.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole)
    (x0 : Vec F S256x2048 .f32) (x1 : Vec F S1x2048 .f32) (x2 : Vec F S256x2048 .f32) (xi : Vec F S256x2048 .f32) (E : Set ℕ) (Q : PUnit → sProp 𝕄) :
    iprop(has c arg1 x0 ∗ has c arg2 x1 ∗ has c arg3 x2 ∗ has c arg4 xi
        ∗ (iprop(has c arg1 x0 ∗ has c arg2 x1 ∗ has c arg3 x2 ∗ has c arg4 (k4_pay1 x0 x1 x2)) -∗ Q ⟨⟩))
      ⊢ wp frame (wpE (defs₀ (F := F)) Variants.none c none) E (cc4_rms_ffn_post i arg1 harg1 arg2 harg2 arg3 harg3 arg4 harg4) Q := by
  simp only [cc4_rms_ffn_post_eq_skeleton]; unfold cc4_rms_ffn_post_skel
  unfold has owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  first
   | (refine (View.read_writes_full _ _ _ _ _).trans ?_
      try sl_unfold_words
      try rw [View.readCov_full]
      try rw [readAt_unread harg1]
      try rw [readAt_unread harg2]
      try rw [readAt_unread harg3]
      try rw [readAt_unread harg4])
   | exact harg4.read_unread _

/-- The call's proof data. -/
def dat4 (c : Dev nD) : Dat τ (Elt F) Unit ℕ (UR sig nD τ) ℕ cfg4 c where
  A w := W c (Proc.devRef .tc (Pipeline.arrRef spec4 w))
  after w t := match w with
    | ⟨0, _⟩ => blk4 W c 0 t
    | ⟨1, _⟩ => blk4 W c 1 t
    | ⟨2, _⟩ => blk4 W c 2 t
    | ⟨3, _⟩ => k4_pay1 (blk4 W c 0 t) (blk4 W c 1 t) (blk4 W c 2 t)
  Φ t := Pipeline.ΦA spec4 c
  q w := Pipeline.shareOf spec4 w
  owed _ := 0
theorem before4_0 (c : Dev nD) (t : Fin cfg4.N) (d) : (dat4 W c).before 0 t d = blk4 W c 0 t :=
  ((dat4 W c).before_in_eq_fetched 0 rfl (fun _ => rfl) (fun _ _ _ => rfl) (fun _ => rfl) t d).trans rfl
theorem before4_1 (c : Dev nD) (t : Fin cfg4.N) (d) : (dat4 W c).before 1 t d = blk4 W c 1 t :=
  ((dat4 W c).before_in_eq_fetched 1 rfl (fun _ => rfl) (fun _ _ _ => rfl) (fun _ => rfl) t d).trans rfl
theorem before4_2 (c : Dev nD) (t : Fin cfg4.N) (d) : (dat4 W c).before 2 t d = blk4 W c 2 t :=
  ((dat4 W c).before_in_eq_fetched 2 rfl (fun _ => rfl) (fun _ _ _ => rfl) (fun _ => rfl) t d).trans rfl

/-- The body obligation at every point. -/
theorem obligation4 (c : Dev nD) : BodyObligation (dat4 W c) (defs₀ (F := F)) Variants.none () Set.univ := fun t => by
  rw [bigSep_W4, bigSep_W4, show defs₀ (F := F) .tc cfg4.body (cfg4.bodyArgs t (cfg4.slots t)) = bodyAt4 t from by unfold defs₀; rw [Defs.onTc_tc]]
  unfold bodyAt4; simp only [before4_0, before4_1, before4_2]
  exact point3 c _ (Pipeline.ΦA spec4 c) _ _ _ _ _ _ (k4_pay1 (blk4 W c 0 t) (blk4 W c 1 t) (blk4 W c 2 t)) fun xi => run4 c (grid4.coords t) _ _ _ _ _ _ _ _ (blk4 W c 0 t) (blk4 W c 1 t) (blk4 W c 2 t) xi Set.univ (fun _ => _)

/-! ## Call 5: `rms_ffn_post_bwd` -/

/-- The blocks of the call's windows. -/
abbrev blk5 := blockAt cfg5 W

/-- At the first point the row sums are stored, at every other one added. -/
theorem when5 : ∀ t : Fin grid5.N, (k5_cond1 (grid5.coords t) = 1#1 ↔ t.val % 32 = 0) ∧ (k5_cond2 (grid5.coords t) = 1#1 ↔ ¬k5_cond1 (grid5.coords t) = 1#1) := by
  decide +kernel
theorem live5 : ∀ i : grid5.Coords, cfg5.idle 4 i = false := by decide +kernel

/-- What the body does to its buffers. -/
theorem run5 (c : Dev nD) (i : grid5.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S1x2048 .f32) (harg5 : arg5.IsWhole) (hn : k5_cond2 i = 1#1 ↔ ¬k5_cond1 i = 1#1)
    (x0 : Vec F S256x2048 .f32) (x1 : Vec F S1x2048 .f32) (x2 : Vec F S256x2048 .f32) (xi : Vec F S256x2048 .bf16) (xs : Vec F S1x2048 .f32) (y : Vec F S1x2048 .f32) (hy : y = if k5_cond1 i = 1#1 then (k5_pay4 x0 x2) else (k5_pay6 x0 x2 xs)) (E : Set ℕ) (Q : PUnit → sProp 𝕄) :
    iprop(has c arg1 x0 ∗ has c arg2 x1 ∗ has c arg3 x2 ∗ has c arg4 xi ∗ has c arg5 xs
        ∗ (iprop(has c arg1 x0 ∗ has c arg2 x1 ∗ has c arg3 x2 ∗ has c arg4 (k5_pay5 x0 x1 x2) ∗ has c arg5 y) -∗ Q ⟨⟩))
      ⊢ wp frame (wpE (defs₀ (F := F)) Variants.none c none) E (cc5_rms_ffn_post_bwd i arg1 harg1 arg2 harg2 arg3 harg3 arg4 harg4 arg5 harg5) Q := by
  simp only [cc5_rms_ffn_post_bwd_eq_skeleton]; unfold cc5_rms_ffn_post_bwd_skel
  unfold has owns
  by_cases hc0 : k5_cond1 i = 1#1 <;> [have hc1 : ¬k5_cond2 i = 1#1 := fun h => hn.mp h hc0; have hc1 : k5_cond2 i = 1#1 := hn.mpr hc0]
  all_goals
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      first
       | (refine (View.read_writes_full _ _ _ _ _).trans ?_
          try sl_unfold_words
          try rw [View.readCov_full]
          try rw [readAt_unread harg1]
          try rw [readAt_unread harg2]
          try rw [readAt_unread harg3]
          try rw [readAt_unread harg4]
          try rw [readAt_unread harg5])
       | exact harg4.read_unread _
    iexists _; isplitr
    swap; · iexact H4
    ipureintro
    rw [hy]; first | rw [if_pos hc0] | rw [if_neg hc0]
    first
     | (refine (View.read_writes_full _ _ _ _ _).trans ?_
        try sl_unfold_words
        try rw [View.readCov_full]
        try rw [readAt_unread harg1]
        try rw [readAt_unread harg2]
        try rw [readAt_unread harg3]
        try rw [readAt_unread harg4]
        try rw [readAt_unread harg5])
     | exact harg5.read_unread _

/-- The row sums of the points before `n`. -/
def acc5 (c : Dev nD) : ℕ → Vec F S1x2048 .f32 :=
  accumAt (N := grid5.N) (by decide) 32 (fun t => (k5_pay4 (blk5 W c 0 t) (blk5 W c 2 t))) (fun t a => (k5_pay6 (blk5 W c 0 t) (blk5 W c 2 t) a))

/-- The call's proof data. -/
def dat5 (c : Dev nD) : Dat τ (Elt F) Unit ℕ (UR sig nD τ) ℕ cfg5 c where
  A w := W c (Proc.devRef .tc (Pipeline.arrRef spec5 w))
  after w t := match w with
    | ⟨0, _⟩ => blk5 W c 0 t
    | ⟨1, _⟩ => blk5 W c 1 t
    | ⟨2, _⟩ => blk5 W c 2 t
    | ⟨3, _⟩ => (k5_pay5 (blk5 W c 0 t) (blk5 W c 1 t) (blk5 W c 2 t))
    | ⟨4, _⟩ => acc5 W c (t.val + 1)
  Φ t := Pipeline.ΦA spec5 c
  q w := Pipeline.shareOf spec5 w
  owed _ := 0
theorem before5_0 (c : Dev nD) (t : Fin cfg5.N) (d) : (dat5 W c).before 0 t d = blk5 W c 0 t :=
  ((dat5 W c).before_in_eq_fetched 0 rfl (fun _ => rfl) (fun _ _ _ => rfl) (fun _ => rfl) t d).trans rfl
theorem before5_1 (c : Dev nD) (t : Fin cfg5.N) (d) : (dat5 W c).before 1 t d = blk5 W c 1 t :=
  ((dat5 W c).before_in_eq_fetched 1 rfl (fun _ => rfl) (fun _ _ _ => rfl) (fun _ => rfl) t d).trans rfl
theorem before5_2 (c : Dev nD) (t : Fin cfg5.N) (d) : (dat5 W c).before 2 t d = blk5 W c 2 t :=
  ((dat5 W c).before_in_eq_fetched 2 rfl (fun _ => rfl) (fun _ _ _ => rfl) (fun _ => rfl) t d).trans rfl
theorem kept5 (c : Dev nD) (t : Fin cfg5.N) (h : ¬t.val % 32 = 0) (d) : (dat5 W c).before 4 t d = acc5 W c t.val := by
  have ht0 : t.val < 32 := lt_of_lt_of_eq t.isLt (show cfg5.N = 32 from N_5)
  have h1 : ¬t.val = 0 := fun e => h (by rw [e])
  refine ((dat5 W c).before_out_kept 4 rfl t h1 (Bool.eq_false_iff.mpr fun e => ?_) live5 (fun _ _ => rfl) d).trans ?_
  · have := (flush5_4 _).mp e; have : (t.val - 1) % 32 = 31 := this; omega
  · dsimp only [dat5]; rw [Nat.sub_add_cancel (Nat.one_le_iff_ne_zero.mpr h1)]

/-- The body obligation at every point. -/
theorem obligation5 (c : Dev nD) : BodyObligation (dat5 W c) (defs₀ (F := F)) Variants.none () Set.univ := fun t => by
  rw [bigSep_W5, bigSep_W5, show defs₀ (F := F) .tc cfg5.body (cfg5.bodyArgs t (cfg5.slots t)) = bodyAt5 t from by unfold defs₀; rw [Defs.onTc_tc]]
  unfold bodyAt5; simp only [before5_0, before5_1, before5_2]
  rw [show idle5 4 (grid5.coords t) = false from live5 _]
  have w := when5 t
  exact rows3 c _ _ (Pipeline.ΦA spec5 c) _ _ _ _ _ _ _ (k5_pay5 (blk5 W c 0 t) (blk5 W c 1 t) (blk5 W c 2 t)) (k5_pay4 (blk5 W c 0 t) (blk5 W c 2 t)) (acc5 W c (t.val + 1)) (fun a => (k5_pay6 (blk5 W c 0 t) (blk5 W c 2 t) a)) (acc5 W c t.val) _
    (fun h => accumAt_first _ _ _ _ t (w.1.mp h)) (fun h => accumAt_next _ _ _ _ t (fun e => h (w.1.mpr e))) (fun h => kept5 W c t (fun e => h (w.1.mpr e)))
    fun xi xs => run5 c (grid5.coords t) _ _ _ _ _ _ _ _ _ _ w.2 (blk5 W c 0 t) (blk5 W c 1 t) (blk5 W c 2 t) xi xs _ rfl Set.univ (fun _ => _)

end Cert.Kernel2Ideal.Calls

end
-- ==== Proof.CallsFfnB.lean ====
/-
The calls of the feed-forward half, the last six: what each leaves, point by point.
-/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Product
public import Idealize.ShloMosaic.Lib.WordCmp
public import Idealize.ShloMosaic.Lib.VecWindow

@[expose] public section

set_option maxRecDepth 16384
set_option maxHeartbeats 2000000

noncomputable section

namespace Cert.Kernel2Ideal.Calls

open Cert.Kernel2Ideal Cert.Kernel2Ideal.Gen Cert.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (W : Dev nD → Valuation τ sig (Elt F))

/-! ## Call 6: `mm_down_dx` -/

/-- The blocks of the call's windows. -/
abbrev blk6 := blockAt cfg6 W

theorem when6 : Timing cfg6 2 1 (fun i => (i 2).val) k6_cond3 := by decide +kernel

/-- The accumulator before point `n`: the sum of the products of the points of its output block so far. -/
def acc6 (c : Dev nD) : ℕ → Vec F S1024x1408 .f32 :=
  accumAt (N := grid6.N) (by decide) 1 (fun t => k6_pay2 (blk6 W c 0 t) (blk6 W c 1 t)) (fun t a => k6_pay3 (blk6 W c 0 t) (blk6 W c 1 t) a)

/-- The invariant before point `n`. -/
def inv6 (c : Dev nD) (n : ℕ) : sProp 𝕄 := between c (Memref.whole cc6_scratch0) (Pipeline.scopedRestBut (Ix := Unit) (Name := ℕ) (U := UR sig nD τ) (Lvl := ℕ) (Val := Elt F) spec6 c [cc6_scratch0]) iprop(∃ r, prngReg c r) 1 (acc6 W c) n
theorem inv6_zero (c : Dev nD) (n : ℕ) (h : n % 1 = 0) : inv6 W c n = Pipeline.ΦA spec6 c := by
  unfold inv6; rw [between_zero _ _ _ _ _ _ _ h]; unfold Pipeline.ΦA; rw [scopedRest6_split]; simp only [has, owns_whole]; try rfl

/-- The call's proof data: the arrays as found, each input's buffer at its block after every point, the outputs' as computed. -/
def dat6 (c : Dev nD) : Dat τ (Elt F) Unit ℕ (UR sig nD τ) ℕ cfg6 c where
  A w := W c (Proc.devRef .tc (Pipeline.arrRef spec6 w))
  after w t := match w with
    | ⟨0, _⟩ => blk6 W c 0 t
    | ⟨1, _⟩ => blk6 W c 1 t
    | ⟨2, _⟩ => (acc6 W c (t.val + 1))
  Φ t := inv6 W c t.val
  q w := Pipeline.shareOf spec6 w
  owed _ := 0
theorem before6_0 (c : Dev nD) (t : Fin cfg6.N) (d) : (dat6 W c).before 0 t d = blk6 W c 0 t :=
  ((dat6 W c).before_in_eq_fetched 0 rfl (fun _ => rfl) (fun _ _ _ => rfl) (fun _ => rfl) t d).trans rfl
theorem before6_1 (c : Dev nD) (t : Fin cfg6.N) (d) : (dat6 W c).before 1 t d = blk6 W c 1 t :=
  ((dat6 W c).before_in_eq_fetched 1 rfl (fun _ => rfl) (fun _ _ _ => rfl) (fun _ => rfl) t d).trans rfl

/-- The body obligation at every point. -/
theorem obligation6 (c : Dev nD) : BodyObligation (dat6 W c) (defs₀ (F := F)) Variants.none () Set.univ := fun t => by
  rw [bigSep_W6, bigSep_W6, show defs₀ (F := F) .tc cfg6.body (cfg6.bodyArgs t (cfg6.slots t)) = bodyAt6 t from by unfold defs₀; rw [Defs.onTc_tc]]
  unfold bodyAt6; simp only [before6_0, before6_1]
  have w := when6 t
  exact product_point c _ _ _ _ _ _ _ _ _ 1 t.val (by decide) (acc6 W c) _ (fun a => a) _ (k6_pay3 (blk6 W c 0 t) (blk6 W c 1 t)) _ _ w.1 w.2.2.1
    (accumAt_first _ _ _ _ t) (accumAt_next _ _ _ _ t)
    (fun h => by unfold Dat.leavesExact; rw [w.2.2.2.1 h]; dsimp only [dat6]; try rfl)
    (fun h => Dat.leavesExact_idle (dat6 W c) 2 t (w.2.2.2.2 h).1 (w.2.2.2.2 h).2)
    fun xi xs => by
      rw [cc6_mm_down_dx_eq_skeleton]
      exact product_run (win6_0.stage (cfg6.slots t 0)) (win6_1.stage (cfg6.slots t 1)) (win6_2.stage (cfg6.slots t 2)) (Memref.whole cc6_scratch0) inb_S1024x2048_S1024x2048_0_0 inb_S1408x2048_S1408x2048_0_0 inb_S1024x1408_S1024x1408_0_0
        h_S1024x2048 h_S1408x2048 h_S1024x1408 (View.stores_vmem_bits_univ h_S1024x1408 rfl) rfl (k6_cond3 (grid6.coords t)) k6_pay2 k6_pay3 (fun a => a) defs₀ c
        (hstage6_0 ((cfg6.slots t 0).cast nbuf6_0)) (hstage6_1 ((cfg6.slots t 1).cast nbuf6_1)) (hstage6_2 ((cfg6.slots t 2).cast nbuf6_2)) (Memref.isWhole_whole _) w.2.1 (blk6 W c 0 t) (blk6 W c 1 t) xi xs Set.univ (fun _ => _)

theorem hin6 (c : Dev nD) : (Pipeline.ΦA spec6 c : sProp 𝕄) ⊢ (dat6 W c).Φ 0 := Entails.of_eq (inv6_zero W c 0 (by decide)).symm
theorem hout6 (c : Dev nD) : (dat6 W c).Φ (Fin.last _) ⊢ (Pipeline.ΦA spec6 c : sProp 𝕄) :=
  Entails.of_eq (inv6_zero W c 32 (by decide))

/-! ## Call 7: `mm_down_dw` -/

/-- The blocks of the call's windows. -/
abbrev blk7 := blockAt cfg7 W

theorem when7 : Timing cfg7 2 4 (fun i => (i 2).val) k7_cond3 := by decide +kernel

/-- The accumulator before point `n`: the sum of the products of the points of its output block so far. -/
def acc7 (c : Dev nD) : ℕ → Vec F S1408x1024 .f32 :=
  accumAt (N := grid7.N) (by decide) 4 (fun t => k7_pay2 (blk7 W c 0 t) (blk7 W c 1 t)) (fun t a => k7_pay3 (blk7 W c 0 t) (blk7 W c 1 t) a)

/-- The invariant before point `n`. -/
def inv7 (c : Dev nD) (n : ℕ) : sProp 𝕄 := between c (Memref.whole cc7_scratch0) (Pipeline.scopedRestBut (Ix := Unit) (Name := ℕ) (U := UR sig nD τ) (Lvl := ℕ) (Val := Elt F) spec7 c [cc7_scratch0]) iprop(∃ r, prngReg c r) 4 (acc7 W c) n
theorem inv7_zero (c : Dev nD) (n : ℕ) (h : n % 4 = 0) : inv7 W c n = Pipeline.ΦA spec7 c := by
  unfold inv7; rw [between_zero _ _ _ _ _ _ _ h]; unfold Pipeline.ΦA; rw [scopedRest7_split]; simp only [has, owns_whole]; try rfl

/-- The call's proof data. -/
def dat7 (c : Dev nD) : Dat τ (Elt F) Unit ℕ (UR sig nD τ) ℕ cfg7 c where
  A w := W c (Proc.devRef .tc (Pipeline.arrRef spec7 w))
  after w t := match w with
    | ⟨0, _⟩ => blk7 W c 0 t
    | ⟨1, _⟩ => blk7 W c 1 t
    | ⟨2, _⟩ => (k7_pay4 (acc7 W c (t.val + 1)))
  Φ t := inv7 W c t.val
  q w := Pipeline.shareOf spec7 w
  owed _ := 0
theorem before7_0 (c : Dev nD) (t : Fin cfg7.N) (d) : (dat7 W c).before 0 t d = blk7 W c 0 t :=
  ((dat7 W c).before_in_eq_fetched 0 rfl (fun _ => rfl) (fun _ _ _ => rfl) (fun _ => rfl) t d).trans rfl
theorem before7_1 (c : Dev nD) (t : Fin cfg7.N) (d) : (dat7 W c).before 1 t d = blk7 W c 1 t :=
  ((dat7 W c).before_in_eq_fetched 1 rfl (fun _ => rfl) (fun _ _ _ => rfl) (fun _ => rfl) t d).trans rfl

/-- The body obligation at every point. -/
theorem obligation7 (c : Dev nD) : BodyObligation (dat7 W c) (defs₀ (F := F)) Variants.none () Set.univ := fun t => by
  rw [bigSep_W7, bigSep_W7, show defs₀ (F := F) .tc cfg7.body (cfg7.bodyArgs t (cfg7.slots t)) = bodyAt7 t from by unfold defs₀; rw [Defs.onTc_tc]]
  unfold bodyAt7; simp only [before7_0, before7_1]
  have w := when7 t
  exact product_point c _ _ _ _ _ _ _ _ _ 4 t.val (by decide) (acc7 W c) _ k7_pay4 _ (k7_pay3 (blk7 W c 0 t) (blk7 W c 1 t)) _ _ w.1 w.2.2.1
    (accumAt_first _ _ _ _ t) (accumAt_next _ _ _ _ t)
    (fun h => by unfold Dat.leavesExact; rw [w.2.2.2.1 h]; dsimp only [dat7]; try rfl)
    (fun h => Dat.leavesExact_idle (dat7 W c) 2 t (w.2.2.2.2 h).1 (w.2.2.2.2 h).2)
    fun xi xs => by
      rw [cc7_mm_down_dw_eq_skeleton]
      exact product_run (win7_0.stage (cfg7.slots t 0)) (win7_1.stage (cfg7.slots t 1)) (win7_2.stage (cfg7.slots t 2)) (Memref.whole cc7_scratch0) inb_S1408x2048_S1408x2048_0_0 inb_S2048x1024_S2048x1024_0_0 inb_S1408x1024_S1408x1024_0_0
        h_S1408x2048 h_S2048x1024 h_S1408x1024 (View.stores_vmem h_S1408x1024 ((hstage7_2 ((cfg7.slots t 2).cast nbuf7_2)).storeExact_slice rfl _ packedbf16_S1408x1024_S1408x1024_0_0) (fun _ => rfl)) rfl (k7_cond3 (grid7.coords t)) k7_pay2 k7_pay3 (fun a => k7_pay4 a) defs₀ c
        (hstage7_0 ((cfg7.slots t 0).cast nbuf7_0)) (hstage7_1 ((cfg7.slots t 1).cast nbuf7_1)) (hstage7_2 ((cfg7.slots t 2).cast nbuf7_2)) (Memref.isWhole_whole _) w.2.1 (blk7 W c 0 t) (blk7 W c 1 t) xi xs Set.univ (fun _ => _)

theorem hin7 (c : Dev nD) : (Pipeline.ΦA spec7 c : sProp 𝕄) ⊢ (dat7 W c).Φ 0 := Entails.of_eq (inv7_zero W c 0 (by decide)).symm
theorem hout7 (c : Dev nD) : (dat7 W c).Φ (Fin.last _) ⊢ (Pipeline.ΦA spec7 c : sProp 𝕄) :=
  Entails.of_eq (inv7_zero W c 32 (by decide))

/-! ## Call 8: `swiglu_bwd` -/

/-- The blocks of the call's windows. -/
abbrev blk8 := blockAt cfg8 W

/-- What the body does to its buffers. -/
theorem run8 (c : Dev nD) (i : grid8.Coords) (arg1 : Memref sig .tc .vmem S128x5632 .bf16) (harg1 : arg1.IsWhole) (arg2 : Memref sig .tc .vmem S128x5632 .bf16) (harg2 : arg2.IsWhole) (arg3 : Memref sig .tc .vmem S128x5632 .f32) (harg3 : arg3.IsWhole) (arg4 : Memref sig .tc .vmem S128x11264 .bf16) (harg4 : arg4.IsWhole)
    (x0 : Vec F S128x5632 .bf16) (x1 : Vec F S128x5632 .bf16) (x2 : Vec F S128x5632 .f32) (xi : Vec F S128x11264 .bf16) (E : Set ℕ) (Q : PUnit → sProp 𝕄) :
    iprop(has c arg1 x0 ∗ has c arg2 x1 ∗ has c arg3 x2 ∗ has c arg4 xi
        ∗ (iprop(has c arg1 x0 ∗ has c arg2 x1 ∗ has c arg3 x2 ∗ has c arg4 (k8_pay1 x0 x1 x2)) -∗ Q ⟨⟩))
      ⊢ wp frame (wpE (defs₀ (F := F)) Variants.none c none) E (cc8_swiglu_bwd i arg1 harg1 arg2 harg2 arg3 harg3 arg4 harg4) Q := by
  simp only [cc8_swiglu_bwd_eq_skeleton]; unfold cc8_swiglu_bwd_skel
  unfold has owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  first
   | (refine (View.read_writes_full _ _ _ _ _).trans ?_
      try sl_unfold_words
      try rw [View.readCov_full]
      try rw [readAt_unread harg1]
      try rw [readAt_unread harg2]
      try rw [readAt_unread harg3]
      try rw [readAt_unread harg4])
   | exact harg4.read_unread _

/-- The call's proof data. -/
def dat8 (c : Dev nD) : Dat τ (Elt F) Unit ℕ (UR sig nD τ) ℕ cfg8 c where
  A w := W c (Proc.devRef .tc (Pipeline.arrRef spec8 w))
  after w t := match w with
    | ⟨0, _⟩ => blk8 W c 0 t
    | ⟨1, _⟩ => blk8 W c 1 t
    | ⟨2, _⟩ => blk8 W c 2 t
    | ⟨3, _⟩ => k8_pay1 (blk8 W c 0 t) (blk8 W c 1 t) (blk8 W c 2 t)
  Φ t := Pipeline.ΦA spec8 c
  q w := Pipeline.shareOf spec8 w
  owed _ := 0
theorem before8_0 (c : Dev nD) (t : Fin cfg8.N) (d) : (dat8 W c).before 0 t d = blk8 W c 0 t :=
  ((dat8 W c).before_in_eq_fetched 0 rfl (fun _ => rfl) (fun _ _ _ => rfl) (fun _ => rfl) t d).trans rfl
theorem before8_1 (c : Dev nD) (t : Fin cfg8.N) (d) : (dat8 W c).before 1 t d = blk8 W c 1 t :=
  ((dat8 W c).before_in_eq_fetched 1 rfl (fun _ => rfl) (fun _ _ _ => rfl) (fun _ => rfl) t d).trans rfl
theorem before8_2 (c : Dev nD) (t : Fin cfg8.N) (d) : (dat8 W c).before 2 t d = blk8 W c 2 t :=
  ((dat8 W c).before_in_eq_fetched 2 rfl (fun _ => rfl) (fun _ _ _ => rfl) (fun _ => rfl) t d).trans rfl

/-- The body obligation at every point. -/
theorem obligation8 (c : Dev nD) : BodyObligation (dat8 W c) (defs₀ (F := F)) Variants.none () Set.univ := fun t => by
  rw [bigSep_W8, bigSep_W8, show defs₀ (F := F) .tc cfg8.body (cfg8.bodyArgs t (cfg8.slots t)) = bodyAt8 t from by unfold defs₀; rw [Defs.onTc_tc]]
  unfold bodyAt8; simp only [before8_0, before8_1, before8_2]
  exact point3 c _ (Pipeline.ΦA spec8 c) _ _ _ _ _ _ (k8_pay1 (blk8 W c 0 t) (blk8 W c 1 t) (blk8 W c 2 t)) fun xi => run8 c (grid8.coords t) _ _ _ _ _ _ _ _ (blk8 W c 0 t) (blk8 W c 1 t) (blk8 W c 2 t) xi Set.univ (fun _ => _)

/-! ## Call 9: `mm_gu_dx` -/

/-- The blocks of the call's windows. -/
abbrev blk9 := blockAt cfg9 W

theorem when9 : Timing cfg9 2 8 (fun i => (i 2).val) k9_cond3 := by decide +kernel

/-- The accumulator before point `n`: the sum of the products of the points of its output block so far. -/
def acc9 (c : Dev nD) : ℕ → Vec F S1024x1024 .f32 :=
  accumAt (N := grid9.N) (by decide) 8 (fun t => k9_pay2 (blk9 W c 0 t) (blk9 W c 1 t)) (fun t a => k9_pay3 (blk9 W c 0 t) (blk9 W c 1 t) a)

/-- The invariant before point `n`. -/
def inv9 (c : Dev nD) (n : ℕ) : sProp 𝕄 := between c (Memref.whole cc9_scratch0) (Pipeline.scopedRestBut (Ix := Unit) (Name := ℕ) (U := UR sig nD τ) (Lvl := ℕ) (Val := Elt F) spec9 c [cc9_scratch0]) iprop(∃ r, prngReg c r) 8 (acc9 W c) n
theorem inv9_zero (c : Dev nD) (n : ℕ) (h : n % 8 = 0) : inv9 W c n = Pipeline.ΦA spec9 c := by
  unfold inv9; rw [between_zero _ _ _ _ _ _ _ h]; unfold Pipeline.ΦA; rw [scopedRest9_split]; simp only [has, owns_whole]; try rfl

/-- The call's proof data. -/
def dat9 (c : Dev nD) : Dat τ (Elt F) Unit ℕ (UR sig nD τ) ℕ cfg9 c where
  A w := W c (Proc.devRef .tc (Pipeline.arrRef spec9 w))
  after w t := match w with
    | ⟨0, _⟩ => blk9 W c 0 t
    | ⟨1, _⟩ => blk9 W c 1 t
    | ⟨2, _⟩ => (acc9 W c (t.val + 1))
  Φ t := inv9 W c t.val
  q w := Pipeline.shareOf spec9 w
  owed _ := 0
theorem before9_0 (c : Dev nD) (t : Fin cfg9.N) (d) : (dat9 W c).before 0 t d = blk9 W c 0 t :=
  ((dat9 W c).before_in_eq_fetched 0 rfl (fun _ => rfl) (fun _ _ _ => rfl) (fun _ => rfl) t d).trans rfl
theorem before9_1 (c : Dev nD) (t : Fin cfg9.N) (d) : (dat9 W c).before 1 t d = blk9 W c 1 t :=
  ((dat9 W c).before_in_eq_fetched 1 rfl (fun _ => rfl) (fun _ _ _ => rfl) (fun _ => rfl) t d).trans rfl

/-- The body obligation at every point. -/
theorem obligation9 (c : Dev nD) : BodyObligation (dat9 W c) (defs₀ (F := F)) Variants.none () Set.univ := fun t => by
  rw [bigSep_W9, bigSep_W9, show defs₀ (F := F) .tc cfg9.body (cfg9.bodyArgs t (cfg9.slots t)) = bodyAt9 t from by unfold defs₀; rw [Defs.onTc_tc]]
  unfold bodyAt9; simp only [before9_0, before9_1]
  have w := when9 t
  exact product_point c _ _ _ _ _ _ _ _ _ 8 t.val (by decide) (acc9 W c) _ (fun a => a) _ (k9_pay3 (blk9 W c 0 t) (blk9 W c 1 t)) _ _ w.1 w.2.2.1
    (accumAt_first _ _ _ _ t) (accumAt_next _ _ _ _ t)
    (fun h => by unfold Dat.leavesExact; rw [w.2.2.2.1 h]; dsimp only [dat9]; try rfl)
    (fun h => Dat.leavesExact_idle (dat9 W c) 2 t (w.2.2.2.2 h).1 (w.2.2.2.2 h).2)
    fun xi xs => by
      rw [cc9_mm_gu_dx_eq_skeleton]
      exact product_run (win9_0.stage (cfg9.slots t 0)) (win9_1.stage (cfg9.slots t 1)) (win9_2.stage (cfg9.slots t 2)) (Memref.whole cc9_scratch0) inb_S1024x1408_S1024x1408_0_0 inb_S1024x1408_S1024x1408_0_0 inb_S1024x1024_S1024x1024_0_0
        h_S1024x1408 h_S1024x1408 h_S1024x1024 (View.stores_vmem_bits_univ h_S1024x1024 rfl) rfl (k9_cond3 (grid9.coords t)) k9_pay2 k9_pay3 (fun a => a) defs₀ c
        (hstage9_0 ((cfg9.slots t 0).cast nbuf9_0)) (hstage9_1 ((cfg9.slots t 1).cast nbuf9_1)) (hstage9_2 ((cfg9.slots t 2).cast nbuf9_2)) (Memref.isWhole_whole _) w.2.1 (blk9 W c 0 t) (blk9 W c 1 t) xi xs Set.univ (fun _ => _)

theorem hin9 (c : Dev nD) : (Pipeline.ΦA spec9 c : sProp 𝕄) ⊢ (dat9 W c).Φ 0 := Entails.of_eq (inv9_zero W c 0 (by decide)).symm
theorem hout9 (c : Dev nD) : (dat9 W c).Φ (Fin.last _) ⊢ (Pipeline.ΦA spec9 c : sProp 𝕄) :=
  Entails.of_eq (inv9_zero W c 128 (by decide))

/-! ## Call 10: `mm_gu_dw` -/

/-- The blocks of the call's windows. -/
abbrev blk10 := blockAt cfg10 W

theorem when10 : Timing cfg10 2 4 (fun i => (i 2).val) k10_cond3 := by decide +kernel

/-- The accumulator before point `n`: the sum of the products of the points of its output block so far. -/
def acc10 (c : Dev nD) : ℕ → Vec F S1024x1408 .f32 :=
  accumAt (N := grid10.N) (by decide) 4 (fun t => k10_pay2 (blk10 W c 0 t) (blk10 W c 1 t)) (fun t a => k10_pay3 (blk10 W c 0 t) (blk10 W c 1 t) a)

/-- The invariant before point `n`. -/
def inv10 (c : Dev nD) (n : ℕ) : sProp 𝕄 := between c (Memref.whole cc10_scratch0) (Pipeline.scopedRestBut (Ix := Unit) (Name := ℕ) (U := UR sig nD τ) (Lvl := ℕ) (Val := Elt F) spec10 c [cc10_scratch0]) iprop(∃ r, prngReg c r) 4 (acc10 W c) n
theorem inv10_zero (c : Dev nD) (n : ℕ) (h : n % 4 = 0) : inv10 W c n = Pipeline.ΦA spec10 c := by
  unfold inv10; rw [between_zero _ _ _ _ _ _ _ h]; unfold Pipeline.ΦA; rw [scopedRest10_split]; simp only [has, owns_whole]; try rfl

/-- The call's proof data. -/
def dat10 (c : Dev nD) : Dat τ (Elt F) Unit ℕ (UR sig nD τ) ℕ cfg10 c where
  A w := W c (Proc.devRef .tc (Pipeline.arrRef spec10 w))
  after w t := match w with
    | ⟨0, _⟩ => blk10 W c 0 t
    | ⟨1, _⟩ => blk10 W c 1 t
    | ⟨2, _⟩ => (k10_pay4 (acc10 W c (t.val + 1)))
  Φ t := inv10 W c t.val
  q w := Pipeline.shareOf spec10 w
  owed _ := 0
theorem before10_0 (c : Dev nD) (t : Fin cfg10.N) (d) : (dat10 W c).before 0 t d = blk10 W c 0 t :=
  ((dat10 W c).before_in_eq_fetched 0 rfl (fun _ => rfl) (fun _ _ _ => rfl) (fun _ => rfl) t d).trans rfl
theorem before10_1 (c : Dev nD) (t : Fin cfg10.N) (d) : (dat10 W c).before 1 t d = blk10 W c 1 t :=
  ((dat10 W c).before_in_eq_fetched 1 rfl (fun _ => rfl) (fun _ _ _ => rfl) (fun _ => rfl) t d).trans rfl

/-- The body obligation at every point. -/
theorem obligation10 (c : Dev nD) : BodyObligation (dat10 W c) (defs₀ (F := F)) Variants.none () Set.univ := fun t => by
  rw [bigSep_W10, bigSep_W10, show defs₀ (F := F) .tc cfg10.body (cfg10.bodyArgs t (cfg10.slots t)) = bodyAt10 t from by unfold defs₀; rw [Defs.onTc_tc]]
  unfold bodyAt10; simp only [before10_0, before10_1]
  have w := when10 t
  exact product_point c _ _ _ _ _ _ _ _ _ 4 t.val (by decide) (acc10 W c) _ k10_pay4 _ (k10_pay3 (blk10 W c 0 t) (blk10 W c 1 t)) _ _ w.1 w.2.2.1
    (accumAt_first _ _ _ _ t) (accumAt_next _ _ _ _ t)
    (fun h => by unfold Dat.leavesExact; rw [w.2.2.2.1 h]; dsimp only [dat10]; try rfl)
    (fun h => Dat.leavesExact_idle (dat10 W c) 2 t (w.2.2.2.2 h).1 (w.2.2.2.2 h).2)
    fun xi xs => by
      rw [cc10_mm_gu_dw_eq_skeleton]
      exact product_run (win10_0.stage (cfg10.slots t 0)) (win10_1.stage (cfg10.slots t 1)) (win10_2.stage (cfg10.slots t 2)) (Memref.whole cc10_scratch0) inb_S1024x2048_S1024x2048_0_0 inb_S2048x1408_S2048x1408_0_0 inb_S1024x1408_S1024x1408_0_0
        h_S1024x2048 h_S2048x1408 h_S1024x1408 (View.stores_vmem h_S1024x1408 ((hstage10_2 ((cfg10.slots t 2).cast nbuf10_2)).storeExact_slice rfl _ packedbf16_S1024x1408_S1024x1408_0_0) (fun _ => rfl)) rfl (k10_cond3 (grid10.coords t)) k10_pay2 k10_pay3 (fun a => k10_pay4 a) defs₀ c
        (hstage10_0 ((cfg10.slots t 0).cast nbuf10_0)) (hstage10_1 ((cfg10.slots t 1).cast nbuf10_1)) (hstage10_2 ((cfg10.slots t 2).cast nbuf10_2)) (Memref.isWhole_whole _) w.2.1 (blk10 W c 0 t) (blk10 W c 1 t) xi xs Set.univ (fun _ => _)

theorem hin10 (c : Dev nD) : (Pipeline.ΦA spec10 c : sProp 𝕄) ⊢ (dat10 W c).Φ 0 := Entails.of_eq (inv10_zero W c 0 (by decide)).symm
theorem hout10 (c : Dev nD) : (dat10 W c).Φ (Fin.last _) ⊢ (Pipeline.ΦA spec10 c : sProp 𝕄) :=
  Entails.of_eq (inv10_zero W c 64 (by decide))

/-! ## Call 11: `rms_ffn_pre_bwd` -/

/-- The blocks of the call's windows. -/
abbrev blk11 := blockAt cfg11 W

/-- At the first point the row sums are stored, at every other one added. -/
theorem when11 : ∀ t : Fin grid11.N, (k11_cond1 (grid11.coords t) = 1#1 ↔ t.val % 32 = 0) ∧ (k11_cond2 (grid11.coords t) = 1#1 ↔ ¬k11_cond1 (grid11.coords t) = 1#1) := by
  decide +kernel
theorem live11 : ∀ i : grid11.Coords, cfg11.idle 5 i = false := by decide +kernel

/-- What the body does to its buffers. -/
theorem run11 (c : Dev nD) (i : grid11.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (hn : k11_cond2 i = 1#1 ↔ ¬k11_cond1 i = 1#1)
    (x0 : Vec F S256x2048 .f32) (x1 : Vec F S1x2048 .f32) (x2 : Vec F S256x2048 .f32) (x3 : Vec F S256x2048 .f32) (xi : Vec F S256x2048 .f32) (xs : Vec F S1x2048 .f32) (y : Vec F S1x2048 .f32) (hy : y = if k11_cond1 i = 1#1 then (k11_pay6 x0 x2) else (k11_pay1 (k11_pay6 x0 x2) xs)) (E : Set ℕ) (Q : PUnit → sProp 𝕄) :
    iprop(has c arg1 x0 ∗ has c arg2 x1 ∗ has c arg3 x2 ∗ has c arg4 x3 ∗ has c arg5 xi ∗ has c arg6 xs
        ∗ (iprop(has c arg1 x0 ∗ has c arg2 x1 ∗ has c arg3 x2 ∗ has c arg4 x3 ∗ has c arg5 (k11_pay5 x0 x1 x2 x3) ∗ has c arg6 y) -∗ Q ⟨⟩))
      ⊢ wp frame (wpE (defs₀ (F := F)) Variants.none c none) E (cc11_rms_ffn_pre_bwd i arg1 harg1 arg2 harg2 arg3 harg3 arg4 harg4 arg5 harg5 arg6 harg6) Q := by
  simp only [cc11_rms_ffn_pre_bwd_eq_skeleton]; unfold cc11_rms_ffn_pre_bwd_skel
  unfold has owns
  by_cases hc0 : k11_cond1 i = 1#1 <;> [have hc1 : ¬k11_cond2 i = 1#1 := fun h => hn.mp h hc0; have hc1 : k11_cond2 i = 1#1 := hn.mpr hc0]
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro
      first
       | (refine (View.read_writes_full _ _ _ _ _).trans ?_
          try sl_unfold_words
          try rw [View.readCov_full]
          try rw [readAt_unread harg1]
          try rw [readAt_unread harg2]
          try rw [readAt_unread harg3]
          try rw [readAt_unread harg4]
          try rw [readAt_unread harg5]
          try rw [readAt_unread harg6])
       | exact harg5.read_unread _
    iexists _; isplitr
    swap; · iexact H5
    ipureintro
    rw [hy]; first | rw [if_pos hc0] | rw [if_neg hc0]
    first
     | (refine (View.read_writes_full _ _ _ _ _).trans ?_
        try sl_unfold_words
        try rw [View.readCov_full]
        try rw [readAt_unread harg1]
        try rw [readAt_unread harg2]
        try rw [readAt_unread harg3]
        try rw [readAt_unread harg4]
        try rw [readAt_unread harg5]
        try rw [readAt_unread harg6])
     | exact harg6.read_unread _

/-- The row sums of the points before `n`. -/
def acc11 (c : Dev nD) : ℕ → Vec F S1x2048 .f32 :=
  accumAt (N := grid11.N) (by decide) 32 (fun t => (k11_pay6 (blk11 W c 0 t) (blk11 W c 2 t))) (fun t a => (k11_pay1 (k11_pay6 (blk11 W c 0 t) (blk11 W c 2 t)) a))

/-- The call's proof data. -/
def dat11 (c : Dev nD) : Dat τ (Elt F) Unit ℕ (UR sig nD τ) ℕ cfg11 c where
  A w := W c (Proc.devRef .tc (Pipeline.arrRef spec11 w))
  after w t := match w with
    | ⟨0, _⟩ => blk11 W c 0 t
    | ⟨1, _⟩ => blk11 W c 1 t
    | ⟨2, _⟩ => blk11 W c 2 t
    | ⟨3, _⟩ => blk11 W c 3 t
    | ⟨4, _⟩ => (k11_pay5 (blk11 W c 0 t) (blk11 W c 1 t) (blk11 W c 2 t) (blk11 W c 3 t))
    | ⟨5, _⟩ => acc11 W c (t.val + 1)
  Φ t := Pipeline.ΦA spec11 c
  q w := Pipeline.shareOf spec11 w
  owed _ := 0
theorem before11_0 (c : Dev nD) (t : Fin cfg11.N) (d) : (dat11 W c).before 0 t d = blk11 W c 0 t :=
  ((dat11 W c).before_in_eq_fetched 0 rfl (fun _ => rfl) (fun _ _ _ => rfl) (fun _ => rfl) t d).trans rfl
theorem before11_1 (c : Dev nD) (t : Fin cfg11.N) (d) : (dat11 W c).before 1 t d = blk11 W c 1 t :=
  ((dat11 W c).before_in_eq_fetched 1 rfl (fun _ => rfl) (fun _ _ _ => rfl) (fun _ => rfl) t d).trans rfl
theorem before11_2 (c : Dev nD) (t : Fin cfg11.N) (d) : (dat11 W c).before 2 t d = blk11 W c 2 t :=
  ((dat11 W c).before_in_eq_fetched 2 rfl (fun _ => rfl) (fun _ _ _ => rfl) (fun _ => rfl) t d).trans rfl
theorem before11_3 (c : Dev nD) (t : Fin cfg11.N) (d) : (dat11 W c).before 3 t d = blk11 W c 3 t :=
  ((dat11 W c).before_in_eq_fetched 3 rfl (fun _ => rfl) (fun _ _ _ => rfl) (fun _ => rfl) t d).trans rfl
theorem kept11 (c : Dev nD) (t : Fin cfg11.N) (h : ¬t.val % 32 = 0) (d) : (dat11 W c).before 5 t d = acc11 W c t.val := by
  have ht0 : t.val < 32 := lt_of_lt_of_eq t.isLt (show cfg11.N = 32 from N_11)
  have h1 : ¬t.val = 0 := fun e => h (by rw [e])
  refine ((dat11 W c).before_out_kept 5 rfl t h1 (Bool.eq_false_iff.mpr fun e => ?_) live11 (fun _ _ => rfl) d).trans ?_
  · have := (flush11_5 _).mp e; have : (t.val - 1) % 32 = 31 := this; omega
  · dsimp only [dat11]; rw [Nat.sub_add_cancel (Nat.one_le_iff_ne_zero.mpr h1)]

/-- The body obligation at every point. -/
theorem obligation11 (c : Dev nD) : BodyObligation (dat11 W c) (defs₀ (F := F)) Variants.none () Set.univ := fun t => by
  rw [bigSep_W11, bigSep_W11, show defs₀ (F := F) .tc cfg11.body (cfg11.bodyArgs t (cfg11.slots t)) = bodyAt11 t from by unfold defs₀; rw [Defs.onTc_tc]]
  unfold bodyAt11; simp only [before11_0, before11_1, before11_2, before11_3]
  rw [show idle11 5 (grid11.coords t) = false from live11 _]
  have w := when11 t
  exact rows4 c _ _ (Pipeline.ΦA spec11 c) _ _ _ _ _ _ _ _ (k11_pay5 (blk11 W c 0 t) (blk11 W c 1 t) (blk11 W c 2 t) (blk11 W c 3 t)) (k11_pay6 (blk11 W c 0 t) (blk11 W c 2 t)) (acc11 W c (t.val + 1)) (fun a => (k11_pay1 (k11_pay6 (blk11 W c 0 t) (blk11 W c 2 t)) a)) (acc11 W c t.val) _
    (fun h => accumAt_first _ _ _ _ t (w.1.mp h)) (fun h => accumAt_next _ _ _ _ t (fun e => h (w.1.mpr e))) (fun h => kept11 W c t (fun e => h (w.1.mpr e)))
    fun xi xs => run11 c (grid11.coords t) _ _ _ _ _ _ _ _ _ _ _ _ w.2 (blk11 W c 0 t) (blk11 W c 1 t) (blk11 W c 2 t) (blk11 W c 3 t) xi xs _ rfl Set.univ (fun _ => _)

end Cert.Kernel2Ideal.Calls

end
-- ==== Proof.RunFfn.lean ====
/-
The feed-forward half from launch to return: its frame, and what every buffer holds at the end.
-/
module

public import proofs.«01_k».proof.Proof.CallsFfnA
public import proofs.«01_k».proof.Proof.CallsFfnB
public import proofs.«01_k».proof.Proof.Gen.Kernel2Ideal.Regions

@[expose] public section

set_option maxRecDepth 16384

noncomputable section

namespace Cert.Kernel2Ideal.Calls

open Cert.Kernel2Ideal Cert.Kernel2Ideal.Gen Cert.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary of @main, and what each item leaves unchanged -/

/-- Core `c`'s buffers at launch. -/
def B0 : Dev nD → Valuation τ sig (Elt F) := fun c b => m (c, b)
/-- After the host operations `hostOps0`. -/
def B1 : Dev nD → Valuation τ sig (Elt F) := fun c => StableHlo.after hostOps0 (B0 m c)
theorem B1_of (c : Dev nD) (r : Ref sig .tc) (h : r ∉ hostOps0_W) : B1 m c (Proc.devRef .tc r) = B0 m c (Proc.devRef .tc r) :=
  StableHlo.after_of_writes_sub hostOps0 _ hostOps0_writes h
/-- After call 0. -/
def B2 : Dev nD → Valuation τ sig (Elt F) := exitW (dat0 (B1 m)) (B1 m)
theorem B2_of (c : Dev nD) (r : Ref sig .tc) (h : OnlyRead cfg0 r) :
    B2 m c (Proc.devRef .tc r) = B1 m c (Proc.devRef .tc r) :=
  exitW_of _ _ (launch0.to₀).sharedIn (fun _ _ => rfl) c r h
/-- After call 1. -/
def B3 : Dev nD → Valuation τ sig (Elt F) := exitW (dat1 (B2 m)) (B2 m)
theorem B3_of (c : Dev nD) (r : Ref sig .tc) (h : OnlyRead cfg1 r) :
    B3 m c (Proc.devRef .tc r) = B2 m c (Proc.devRef .tc r) :=
  exitW_of _ _ (launch1.to₀).sharedIn (fun _ _ => rfl) c r h
/-- After call 2. -/
def B4 : Dev nD → Valuation τ sig (Elt F) := exitW (dat2 (B3 m)) (B3 m)
theorem B4_of (c : Dev nD) (r : Ref sig .tc) (h : OnlyRead cfg2 r) :
    B4 m c (Proc.devRef .tc r) = B3 m c (Proc.devRef .tc r) :=
  exitW_of _ _ (launch₀2).sharedIn (fun _ _ => rfl) c r h
/-- After call 3. -/
def B5 : Dev nD → Valuation τ sig (Elt F) := exitW (dat3 (B4 m)) (B4 m)
theorem B5_of (c : Dev nD) (r : Ref sig .tc) (h : OnlyRead cfg3 r) :
    B5 m c (Proc.devRef .tc r) = B4 m c (Proc.devRef .tc r) :=
  exitW_of _ _ (launch3.to₀).sharedIn (fun _ _ => rfl) c r h
/-- After the host operations `hostOps4`. -/
def B6 : Dev nD → Valuation τ sig (Elt F) := fun c => StableHlo.after hostOps4 (B5 m c)
theorem B6_of (c : Dev nD) (r : Ref sig .tc) (h : r ∉ hostOps4_W) : B6 m c (Proc.devRef .tc r) = B5 m c (Proc.devRef .tc r) :=
  StableHlo.after_of_writes_sub hostOps4 _ hostOps4_writes h
/-- After call 4. -/
def B7 : Dev nD → Valuation τ sig (Elt F) := exitW (dat4 (B6 m)) (B6 m)
theorem B7_of (c : Dev nD) (r : Ref sig .tc) (h : OnlyRead cfg4 r) :
    B7 m c (Proc.devRef .tc r) = B6 m c (Proc.devRef .tc r) :=
  exitW_of _ _ (launch4.to₀).sharedIn (fun _ _ => rfl) c r h
/-- After the host operations `hostOps5`. -/
def B8 : Dev nD → Valuation τ sig (Elt F) := fun c => StableHlo.after hostOps5 (B7 m c)
theorem B8_of (c : Dev nD) (r : Ref sig .tc) (h : r ∉ hostOps5_W) : B8 m c (Proc.devRef .tc r) = B7 m c (Proc.devRef .tc r) :=
  StableHlo.after_of_writes_sub hostOps5 _ hostOps5_writes h
/-- After call 5. -/
def B9 : Dev nD → Valuation τ sig (Elt F) := exitW (dat5 (B8 m)) (B8 m)
theorem B9_of (c : Dev nD) (r : Ref sig .tc) (h : OnlyRead cfg5 r) :
    B9 m c (Proc.devRef .tc r) = B8 m c (Proc.devRef .tc r) :=
  exitW_of _ _ (launch5.to₀).sharedIn (fun _ _ => rfl) c r h
/-- After the host operations `hostOps6`. -/
def B10 : Dev nD → Valuation τ sig (Elt F) := fun c => StableHlo.after hostOps6 (B9 m c)
theorem B10_of (c : Dev nD) (r : Ref sig .tc) (h : r ∉ hostOps6_W) : B10 m c (Proc.devRef .tc r) = B9 m c (Proc.devRef .tc r) :=
  StableHlo.after_of_writes_sub hostOps6 _ hostOps6_writes h
/-- After call 6. -/
def B11 : Dev nD → Valuation τ sig (Elt F) := exitW (dat6 (B10 m)) (B10 m)
theorem B11_of (c : Dev nD) (r : Ref sig .tc) (h : OnlyRead cfg6 r) :
    B11 m c (Proc.devRef .tc r) = B10 m c (Proc.devRef .tc r) :=
  exitW_of _ _ (launch6.to₀).sharedIn (fun _ _ => rfl) c r h
/-- After the host operations `hostOps7`. -/
def B12 : Dev nD → Valuation τ sig (Elt F) := fun c => StableHlo.after hostOps7 (B11 m c)
theorem B12_of (c : Dev nD) (r : Ref sig .tc) (h : r ∉ hostOps7_W) : B12 m c (Proc.devRef .tc r) = B11 m c (Proc.devRef .tc r) :=
  StableHlo.after_of_writes_sub hostOps7 _ hostOps7_writes h
/-- After call 7. -/
def B13 : Dev nD → Valuation τ sig (Elt F) := exitW (dat7 (B12 m)) (B12 m)
theorem B13_of (c : Dev nD) (r : Ref sig .tc) (h : OnlyRead cfg7 r) :
    B13 m c (Proc.devRef .tc r) = B12 m c (Proc.devRef .tc r) :=
  exitW_of _ _ (launch7.to₀).sharedIn (fun _ _ => rfl) c r h
/-- After call 8. -/
def B14 : Dev nD → Valuation τ sig (Elt F) := exitW (dat8 (B13 m)) (B13 m)
theorem B14_of (c : Dev nD) (r : Ref sig .tc) (h : OnlyRead cfg8 r) :
    B14 m c (Proc.devRef .tc r) = B13 m c (Proc.devRef .tc r) :=
  exitW_of _ _ (launch₀8).sharedIn (fun _ _ => rfl) c r h
/-- After call 9. -/
def B15 : Dev nD → Valuation τ sig (Elt F) := exitW (dat9 (B14 m)) (B14 m)
theorem B15_of (c : Dev nD) (r : Ref sig .tc) (h : OnlyRead cfg9 r) :
    B15 m c (Proc.devRef .tc r) = B14 m c (Proc.devRef .tc r) :=
  exitW_of _ _ (launch9.to₀).sharedIn (fun _ _ => rfl) c r h
/-- After the host operations `hostOps10`. -/
def B16 : Dev nD → Valuation τ sig (Elt F) := fun c => StableHlo.after hostOps10 (B15 m c)
theorem B16_of (c : Dev nD) (r : Ref sig .tc) (h : r ∉ hostOps10_W) : B16 m c (Proc.devRef .tc r) = B15 m c (Proc.devRef .tc r) :=
  StableHlo.after_of_writes_sub hostOps10 _ hostOps10_writes h
/-- After call 10. -/
def B17 : Dev nD → Valuation τ sig (Elt F) := exitW (dat10 (B16 m)) (B16 m)
theorem B17_of (c : Dev nD) (r : Ref sig .tc) (h : OnlyRead cfg10 r) :
    B17 m c (Proc.devRef .tc r) = B16 m c (Proc.devRef .tc r) :=
  exitW_of _ _ (launch10.to₀).sharedIn (fun _ _ => rfl) c r h
/-- After the host operations `hostOps11`. -/
def B18 : Dev nD → Valuation τ sig (Elt F) := fun c => StableHlo.after hostOps11 (B17 m c)
theorem B18_of (c : Dev nD) (r : Ref sig .tc) (h : r ∉ hostOps11_W) : B18 m c (Proc.devRef .tc r) = B17 m c (Proc.devRef .tc r) :=
  StableHlo.after_of_writes_sub hostOps11 _ hostOps11_writes h
/-- After call 11. -/
def B19 : Dev nD → Valuation τ sig (Elt F) := exitW (dat11 (B18 m)) (B18 m)
theorem B19_of (c : Dev nD) (r : Ref sig .tc) (h : OnlyRead cfg11 r) :
    B19 m c (Proc.devRef .tc r) = B18 m c (Proc.devRef .tc r) :=
  exitW_of _ _ (launch11.to₀).sharedIn (fun _ _ => rfl) c r h
/-- After the host operations `hostOps12`. -/
def B20 : Dev nD → Valuation τ sig (Elt F) := fun c => StableHlo.after hostOps12 (B19 m c)
theorem B20_of (c : Dev nD) (r : Ref sig .tc) (h : r ∉ hostOps12_W) : B20 m c (Proc.devRef .tc r) = B19 m c (Proc.devRef .tc r) :=
  StableHlo.after_of_writes_sub hostOps12 _ hostOps12_writes h

/-! ## The launch -/

/-- Every call's proof data, each at the contents it is entered from. -/
def pdats : (p : Fin 12) → (c : Dev nD) → Dat τ (Elt F) Unit ℕ (UR sig nD τ) ℕ (Pipeline.pin (plain (Val := Elt F) cfgs) (plainAdm cfgs) p) c
  | ⟨0, _⟩ => fun c => dat0 (B1 m) c
  | ⟨1, _⟩ => fun c => dat1 (B2 m) c
  | ⟨2, _⟩ => fun c => dat2 (B3 m) c
  | ⟨3, _⟩ => fun c => dat3 (B4 m) c
  | ⟨4, _⟩ => fun c => dat4 (B6 m) c
  | ⟨5, _⟩ => fun c => dat5 (B8 m) c
  | ⟨6, _⟩ => fun c => dat6 (B10 m) c
  | ⟨7, _⟩ => fun c => dat7 (B12 m) c
  | ⟨8, _⟩ => fun c => dat8 (B13 m) c
  | ⟨9, _⟩ => fun c => dat9 (B14 m) c
  | ⟨10, _⟩ => fun c => dat10 (B16 m) c
  | ⟨11, _⟩ => fun c => dat11 (B18 m) c

/-- A call as a segment. -/
abbrev Reg (p : Fin 12) := Pipeline.RegionSeg (plain (Val := Elt F) cfgs) (plainAdm cfgs) (pdats m) () defs₀ Variants.none (fun _ => ∅) (fun _ _ => 0) p

/-- Call 0 as a segment. -/
def reg0 : Reg m 0 :=
  callRegion cfgs (pdats m) defs₀ 0 launch0.to₀ (B1 m) (obligation0 (B1 m)) (fun _ => .rfl) (fun _ => .rfl)
/-- Call 1 as a segment. -/
def reg1 : Reg m 1 :=
  callRegion cfgs (pdats m) defs₀ 1 launch1.to₀ (B2 m) (obligation1 (B2 m)) (hin1 (B2 m)) (hout1 (B2 m))
/-- Call 2 as a segment. -/
def reg2 : Reg m 2 :=
  callRegion cfgs (pdats m) defs₀ 2 launch₀2 (B3 m) (obligation2 (B3 m)) (fun _ => .rfl) (fun _ => .rfl)
/-- Call 3 as a segment. -/
def reg3 : Reg m 3 :=
  callRegion cfgs (pdats m) defs₀ 3 launch3.to₀ (B4 m) (obligation3 (B4 m)) (hin3 (B4 m)) (hout3 (B4 m))
/-- Call 4 as a segment. -/
def reg4 : Reg m 4 :=
  callRegion cfgs (pdats m) defs₀ 4 launch4.to₀ (B6 m) (obligation4 (B6 m)) (fun _ => .rfl) (fun _ => .rfl)
/-- Call 5 as a segment. -/
def reg5 : Reg m 5 :=
  callRegion cfgs (pdats m) defs₀ 5 launch5.to₀ (B8 m) (obligation5 (B8 m)) (fun _ => .rfl) (fun _ => .rfl)
/-- Call 6 as a segment. -/
def reg6 : Reg m 6 :=
  callRegion cfgs (pdats m) defs₀ 6 launch6.to₀ (B10 m) (obligation6 (B10 m)) (hin6 (B10 m)) (hout6 (B10 m))
/-- Call 7 as a segment. -/
def reg7 : Reg m 7 :=
  callRegion cfgs (pdats m) defs₀ 7 launch7.to₀ (B12 m) (obligation7 (B12 m)) (hin7 (B12 m)) (hout7 (B12 m))
/-- Call 8 as a segment. -/
def reg8 : Reg m 8 :=
  callRegion cfgs (pdats m) defs₀ 8 launch₀8 (B13 m) (obligation8 (B13 m)) (fun _ => .rfl) (fun _ => .rfl)
/-- Call 9 as a segment. -/
def reg9 : Reg m 9 :=
  callRegion cfgs (pdats m) defs₀ 9 launch9.to₀ (B14 m) (obligation9 (B14 m)) (hin9 (B14 m)) (hout9 (B14 m))
/-- Call 10 as a segment. -/
def reg10 : Reg m 10 :=
  callRegion cfgs (pdats m) defs₀ 10 launch10.to₀ (B16 m) (obligation10 (B16 m)) (hin10 (B16 m)) (hout10 (B16 m))
/-- Call 11 as a segment. -/
def reg11 : Reg m 11 :=
  callRegion cfgs (pdats m) defs₀ 11 launch11.to₀ (B18 m) (obligation11 (B18 m)) (fun _ => .rfl) (fun _ => .rfl)

/-- @main's segments in order. -/
abbrev segs : List (Pipeline.Seg (plain (Val := Elt F) cfgs) (plainAdm cfgs) (pdats m) () defs₀ Variants.none (fun _ => ∅) (fun _ _ => 0)) :=
  [ .host (hostSeg cfgs defs₀ hostOps0 hostOps0_sub hostOps0_fresh (B0 m)),
    .region (reg0 m),
    .region (reg1 m),
    .region (reg2 m),
    .region (reg3 m),
    .host (hostSeg cfgs defs₀ hostOps4 hostOps4_sub hostOps4_fresh (B5 m)),
    .region (reg4 m),
    .host (hostSeg cfgs defs₀ hostOps5 hostOps5_sub hostOps5_fresh (B7 m)),
    .region (reg5 m),
    .host (hostSeg cfgs defs₀ hostOps6 hostOps6_sub hostOps6_fresh (B9 m)),
    .region (reg6 m),
    .host (hostSeg cfgs defs₀ hostOps7 hostOps7_sub hostOps7_fresh (B11 m)),
    .region (reg7 m),
    .region (reg8 m),
    .region (reg9 m),
    .host (hostSeg cfgs defs₀ hostOps10 hostOps10_sub hostOps10_fresh (B15 m)),
    .region (reg10 m),
    .host (hostSeg cfgs defs₀ hostOps11 hostOps11_sub hostOps11_fresh (B17 m)),
    .region (reg11 m),
    .host (hostSeg cfgs defs₀ hostOps12 hostOps12_sub hostOps12_fresh (B19 m)) ]
theorem main_run (c : Dev nD) : main (F := F) c = Pipeline.Seg.run (segs m) := (main_chain c).trans (by chain_rfl)
theorem no_unscoped : ∀ sm : SemLoc sig, sm.isScoped .tc = true := by decide

/-- From any memory with zero counters every weakly fair execution terminates without a fault, and ends with every unscoped buffer
    at the contents of the last boundary and every counter at zero. -/
theorem final : θ_run defs (onTc (τ := τ) (main (F := F))) ⟨m, fun _ => 0, ρ⟩ (fun r =>
      (∀ c : Dev nD, ∀ b : Ref sig .tc, ¬ (Proc.devRef .tc b : DevRef τ sig).isScoped → r.2.mem ((c.tc : Thread nD τ).loc b) = B20 m c (Proc.devRef .tc b))
      ∧ r.2.sem = fun _ => 0) :=
  launched cfgs cellOf_inj (pdats m) defs₀ m ρ main (segs m) (main_run m)
    (by simp only [segs, Pipeline.Seg.pipes_host, Pipeline.Seg.pipes_region, Pipeline.Seg.pipes_nil]; decide) (B0 m) (B20 m) rfl
    ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, lands _⟩ no_unscoped

/-! ## The arguments -/

/-- The arguments end as launched. -/
theorem end_arg (c : Dev nD) (r : Ref sig .tc) (h : r ∈ ([main_arg0, main_arg1, main_arg2, main_arg3, main_arg4, main_arg5, main_arg6] : List (Ref sig .tc))) : B20 m c (Proc.devRef .tc r) = m ((c : Thread nD τ).loc r) :=
  (B20_of m c r (by revert r; decide)).trans <| (B19_of m c r (by revert r; decide)).trans <| (B18_of m c r (by revert r; decide)).trans <| (B17_of m c r (by revert r; decide)).trans <| (B16_of m c r (by revert r; decide)).trans <| (B15_of m c r (by revert r; decide)).trans <| (B14_of m c r (by revert r; decide)).trans <| (B13_of m c r (by revert r; decide)).trans <| (B12_of m c r (by revert r; decide)).trans <| (B11_of m c r (by revert r; decide)).trans <| (B10_of m c r (by revert r; decide)).trans <| (B9_of m c r (by revert r; decide)).trans <| (B8_of m c r (by revert r; decide)).trans <| (B7_of m c r (by revert r; decide)).trans <| (B6_of m c r (by revert r; decide)).trans <| (B5_of m c r (by revert r; decide)).trans <| (B4_of m c r (by revert r; decide)).trans <| (B3_of m c r (by revert r; decide)).trans <| (B2_of m c r (by revert r; decide)).trans <| (B1_of m c r (by revert r; decide))

/-- The frame: every execution terminates without a fault, the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c main_arg0 (by decide)).trans (end_arg m c main_arg0 (by decide)), (h.1 c main_arg1 (by decide)).trans (end_arg m c main_arg1 (by decide)), (h.1 c main_arg2 (by decide)).trans (end_arg m c main_arg2 (by decide)), (h.1 c main_arg3 (by decide)).trans (end_arg m c main_arg3 (by decide)), (h.1 c main_arg4 (by decide)).trans (end_arg m c main_arg4 (by decide)), (h.1 c main_arg5 (by decide)).trans (end_arg m c main_arg5 (by decide)), (h.1 c main_arg6 (by decide)).trans (end_arg m c main_arg6 (by decide))⟩, h.2⟩) (final m ρ)

end Cert.Kernel2Ideal.Calls

end
-- ==== Proof.CallsIn.lean ====
/-
The calls of the input projection: what each leaves, point by point.
-/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Product
public import Idealize.ShloMosaic.Lib.WordCmp
public import Idealize.ShloMosaic.Lib.VecWindow

@[expose] public section

set_option maxRecDepth 16384
set_option maxHeartbeats 2000000

noncomputable section

namespace Cert.Kernel3Ideal.Calls

open Cert.Kernel3Ideal Cert.Kernel3Ideal.Gen Cert.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (W : Dev nD → Valuation τ sig (Elt F))

/-! ## Call 0: `rms_mix_pre` -/

/-- The blocks of the call's windows. -/
abbrev blk0 := blockAt cfg0 W

/-- What the body does to its buffers. -/
theorem run0 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole)
    (x0 : Vec F S256x2048 .f32) (x1 : Vec F S1x2048 .f32) (xi : Vec F S256x2048 .bf16) (E : Set ℕ) (Q : PUnit → sProp 𝕄) :
    iprop(has c arg1 x0 ∗ has c arg2 x1 ∗ has c arg3 xi
        ∗ (iprop(has c arg1 x0 ∗ has c arg2 x1 ∗ has c arg3 (k0_pay1 x0 x1)) -∗ Q ⟨⟩))
      ⊢ wp frame (wpE (defs₀ (F := F)) Variants.none c none) E (cc0_rms_mix_pre i arg1 harg1 arg2 harg2 arg3 harg3) Q := by
  simp only [cc0_rms_mix_pre_eq_skeleton]; unfold cc0_rms_mix_pre_skel
  unfold has owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  first
   | (refine (View.read_writes_full _ _ _ _ _).trans ?_
      try sl_unfold_words
      try rw [View.readCov_full]
      try rw [readAt_unread harg1]
      try rw [readAt_unread harg2]
      try rw [readAt_unread harg3])
   | exact harg3.read_unread _

/-- The call's proof data: the arrays as found, each input's buffer at its block after every point, the outputs' as computed. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => k0_pay1 (blk0 W c 0 t) (blk0 W c 1 t)
  Φ t := Pipeline.ΦA spec0 c
  q w := Pipeline.shareOf spec0 w
  owed _ := 0
theorem before0_0 (c : Dev nD) (t : Fin cfg0.N) (d) : (dat0 W c).before 0 t d = blk0 W c 0 t :=
  ((dat0 W c).before_in_eq_fetched 0 rfl (fun _ => rfl) (fun _ _ _ => rfl) (fun _ => rfl) t d).trans rfl
theorem before0_1 (c : Dev nD) (t : Fin cfg0.N) (d) : (dat0 W c).before 1 t d = blk0 W c 1 t :=
  ((dat0 W c).before_in_eq_fetched 1 rfl (fun _ => rfl) (fun _ _ _ => rfl) (fun _ => rfl) t d).trans rfl

/-- The body obligation at every point. -/
theorem obligation0 (c : Dev nD) : BodyObligation (dat0 W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  unfold bodyAt0; simp only [before0_0, before0_1]
  exact point2 c _ (Pipeline.ΦA spec0 c) _ _ _ _ _ (k0_pay1 (blk0 W c 0 t) (blk0 W c 1 t)) fun xi => run0 c (grid0.coords t) _ _ _ _ _ _ (blk0 W c 0 t) (blk0 W c 1 t) xi Set.univ (fun _ => _)

/-! ## Call 1: `mm_in` -/

/-- The blocks of the call's windows. -/
abbrev blk1 := blockAt cfg1 W

theorem when1 : Timing cfg1 2 1 (fun i => (i 2).val) k1_cond3 := by decide +kernel

/-- The accumulator before point `n`: the sum of the products of the points of its output block so far. -/
def acc1 (c : Dev nD) : ℕ → Vec F S1024x1408 .f32 :=
  accumAt (N := grid1.N) (by decide) 1 (fun t => k1_pay2 (blk1 W c 0 t) (blk1 W c 1 t)) (fun t a => k1_pay3 (blk1 W c 0 t) (blk1 W c 1 t) a)

/-- The invariant before point `n`. -/
def inv1 (c : Dev nD) (n : ℕ) : sProp 𝕄 := between c (Memref.whole cc1_scratch0) (Pipeline.scopedRestBut (Ix := Unit) (Name := ℕ) (U := UR sig nD τ) (Lvl := ℕ) (Val := Elt F) spec1 c [cc1_scratch0]) iprop(∃ r, prngReg c r) 1 (acc1 W c) n
theorem inv1_zero (c : Dev nD) (n : ℕ) (h : n % 1 = 0) : inv1 W c n = Pipeline.ΦA spec1 c := by
  unfold inv1; rw [between_zero _ _ _ _ _ _ _ h]; unfold Pipeline.ΦA; rw [scopedRest1_split]; simp only [has, owns_whole]; try rfl

/-- The call's proof data. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => (acc1 W c (t.val + 1))
  Φ t := inv1 W c t.val
  q w := Pipeline.shareOf spec1 w
  owed _ := 0
theorem before1_0 (c : Dev nD) (t : Fin cfg1.N) (d) : (dat1 W c).before 0 t d = blk1 W c 0 t :=
  ((dat1 W c).before_in_eq_fetched 0 rfl (fun _ => rfl) (fun _ _ _ => rfl) (fun _ => rfl) t d).trans rfl
theorem before1_1 (c : Dev nD) (t : Fin cfg1.N) (d) : (dat1 W c).before 1 t d = blk1 W c 1 t :=
  ((dat1 W c).before_in_eq_fetched 1 rfl (fun _ => rfl) (fun _ _ _ => rfl) (fun _ => rfl) t d).trans rfl

/-- The body obligation at every point. -/
theorem obligation1 (c : Dev nD) : BodyObligation (dat1 W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  unfold bodyAt1; simp only [before1_0, before1_1]
  have w := when1 t
  exact product_point c _ _ _ _ _ _ _ _ _ 1 t.val (by decide) (acc1 W c) _ (fun a => a) _ (k1_pay3 (blk1 W c 0 t) (blk1 W c 1 t)) _ _ w.1 w.2.2.1
    (accumAt_first _ _ _ _ t) (accumAt_next _ _ _ _ t)
    (fun h => by unfold Dat.leavesExact; rw [w.2.2.2.1 h]; dsimp only [dat1]; try rfl)
    (fun h => Dat.leavesExact_idle (dat1 W c) 2 t (w.2.2.2.2 h).1 (w.2.2.2.2 h).2)
    fun xi xs => by
      rw [cc1_mm_in_eq_skeleton]
      exact product_run (win1_0.stage (cfg1.slots t 0)) (win1_1.stage (cfg1.slots t 1)) (win1_2.stage (cfg1.slots t 2)) (Memref.whole cc1_scratch0) inb_S1024x2048_S1024x2048_0_0 inb_S2048x1408_S2048x1408_0_0 inb_S1024x1408_S1024x1408_0_0
        h_S1024x2048 h_S2048x1408 h_S1024x1408 (View.stores_vmem_bits_univ h_S1024x1408 rfl) rfl (k1_cond3 (grid1.coords t)) k1_pay2 k1_pay3 (fun a => a) defs₀ c
        (hstage1_0 ((cfg1.slots t 0).cast nbuf1_0)) (hstage1_1 ((cfg1.slots t 1).cast nbuf1_1)) (hstage1_2 ((cfg1.slots t 2).cast nbuf1_2)) (Memref.isWhole_whole _) w.2.1 (blk1 W c 0 t) (blk1 W c 1 t) xi xs Set.univ (fun _ => _)

theorem hin1 (c : Dev nD) : (Pipeline.ΦA spec1 c : sProp 𝕄) ⊢ (dat1 W c).Φ 0 := Entails.of_eq (inv1_zero W c 0 (by decide)).symm
theorem hout1 (c : Dev nD) : (dat1 W c).Φ (Fin.last _) ⊢ (Pipeline.ΦA spec1 c : sProp 𝕄) :=
  Entails.of_eq (inv1_zero W c 96 (by decide))

/-! ## Call 2: `mm_in_dx` -/

/-- The blocks of the call's windows. -/
abbrev blk2 := blockAt cfg2 W

theorem when2 : Timing cfg2 2 11 (fun i => (i 2).val) k2_cond3 := by decide +kernel

/-- The accumulator before point `n`: the sum of the products of the points of its output block so far. -/
def acc2 (c : Dev nD) : ℕ → Vec F S1024x1024 .f32 :=
  accumAt (N := grid2.N) (by decide) 11 (fun t => k2_pay2 (blk2 W c 0 t) (blk2 W c 1 t)) (fun t a => k2_pay3 (blk2 W c 0 t) (blk2 W c 1 t) a)

/-- The invariant before point `n`. -/
def inv2 (c : Dev nD) (n : ℕ) : sProp 𝕄 := between c (Memref.whole cc2_scratch0) (Pipeline.scopedRestBut (Ix := Unit) (Name := ℕ) (U := UR sig nD τ) (Lvl := ℕ) (Val := Elt F) spec2 c [cc2_scratch0]) iprop(∃ r, prngReg c r) 11 (acc2 W c) n
theorem inv2_zero (c : Dev nD) (n : ℕ) (h : n % 11 = 0) : inv2 W c n = Pipeline.ΦA spec2 c := by
  unfold inv2; rw [between_zero _ _ _ _ _ _ _ h]; unfold Pipeline.ΦA; rw [scopedRest2_split]; simp only [has, owns_whole]; try rfl

/-- The call's proof data. -/
def dat2 (c : Dev nD) : Dat τ (Elt F) Unit ℕ (UR sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => (acc2 W c (t.val + 1))
  Φ t := inv2 W c t.val
  q w := Pipeline.shareOf spec2 w
  owed _ := 0
theorem before2_0 (c : Dev nD) (t : Fin cfg2.N) (d) : (dat2 W c).before 0 t d = blk2 W c 0 t :=
  ((dat2 W c).before_in_eq_fetched 0 rfl (fun _ => rfl) (fun _ _ _ => rfl) (fun _ => rfl) t d).trans rfl
theorem before2_1 (c : Dev nD) (t : Fin cfg2.N) (d) : (dat2 W c).before 1 t d = blk2 W c 1 t :=
  ((dat2 W c).before_in_eq_fetched 1 rfl (fun _ => rfl) (fun _ _ _ => rfl) (fun _ => rfl) t d).trans rfl

/-- The body obligation at every point. -/
theorem obligation2 (c : Dev nD) : BodyObligation (dat2 W c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  unfold bodyAt2; simp only [before2_0, before2_1]
  have w := when2 t
  exact product_point c _ _ _ _ _ _ _ _ _ 11 t.val (by decide) (acc2 W c) _ (fun a => a) _ (k2_pay3 (blk2 W c 0 t) (blk2 W c 1 t)) _ _ w.1 w.2.2.1
    (accumAt_first _ _ _ _ t) (accumAt_next _ _ _ _ t)
    (fun h => by unfold Dat.leavesExact; rw [w.2.2.2.1 h]; dsimp only [dat2]; try rfl)
    (fun h => Dat.leavesExact_idle (dat2 W c) 2 t (w.2.2.2.2 h).1 (w.2.2.2.2 h).2)
    fun xi xs => by
      rw [cc2_mm_in_dx_eq_skeleton]
      exact product_run (win2_0.stage (cfg2.slots t 0)) (win2_1.stage (cfg2.slots t 1)) (win2_2.stage (cfg2.slots t 2)) (Memref.whole cc2_scratch0) inb_S1024x1536_S1024x1536_0_0 inb_S1024x1536_S1024x1536_0_0 inb_S1024x1024_S1024x1024_0_0
        h_S1024x1536 h_S1024x1536 h_S1024x1024 (View.stores_vmem_bits_univ h_S1024x1024 rfl) rfl (k2_cond3 (grid2.coords t)) k2_pay2 k2_pay3 (fun a => a) defs₀ c
        (hstage2_0 ((cfg2.slots t 0).cast nbuf2_0)) (hstage2_1 ((cfg2.slots t 1).cast nbuf2_1)) (hstage2_2 ((cfg2.slots t 2).cast nbuf2_2)) (Memref.isWhole_whole _) w.2.1 (blk2 W c 0 t) (blk2 W c 1 t) xi xs Set.univ (fun _ => _)

theorem hin2 (c : Dev nD) : (Pipeline.ΦA spec2 c : sProp 𝕄) ⊢ (dat2 W c).Φ 0 := Entails.of_eq (inv2_zero W c 0 (by decide)).symm
theorem hout2 (c : Dev nD) : (dat2 W c).Φ (Fin.last _) ⊢ (Pipeline.ΦA spec2 c : sProp 𝕄) :=
  Entails.of_eq (inv2_zero W c 176 (by decide))

/-! ## Call 3: `mm_in_dw` -/

/-- The blocks of the call's windows. -/
abbrev blk3 := blockAt cfg3 W

theorem when3 : Timing cfg3 2 4 (fun i => (i 2).val) k3_cond3 := by decide +kernel

/-- The accumulator before point `n`: the sum of the products of the points of its output block so far. -/
def acc3 (c : Dev nD) : ℕ → Vec F S1024x1536 .f32 :=
  accumAt (N := grid3.N) (by decide) 4 (fun t => k3_pay2 (blk3 W c 0 t) (blk3 W c 1 t)) (fun t a => k3_pay3 (blk3 W c 0 t) (blk3 W c 1 t) a)

/-- The invariant before point `n`. -/
def inv3 (c : Dev nD) (n : ℕ) : sProp 𝕄 := between c (Memref.whole cc3_scratch0) (Pipeline.scopedRestBut (Ix := Unit) (Name := ℕ) (U := UR sig nD τ) (Lvl := ℕ) (Val := Elt F) spec3 c [cc3_scratch0]) iprop(∃ r, prngReg c r) 4 (acc3 W c) n
theorem inv3_zero (c : Dev nD) (n : ℕ) (h : n % 4 = 0) : inv3 W c n = Pipeline.ΦA spec3 c := by
  unfold inv3; rw [between_zero _ _ _ _ _ _ _ h]; unfold Pipeline.ΦA; rw [scopedRest3_split]; simp only [has, owns_whole]; try rfl

/-- The call's proof data. -/
def dat3 (c : Dev nD) : Dat τ (Elt F) Unit ℕ (UR sig nD τ) ℕ cfg3 c where
  A w := W c (Proc.devRef .tc (Pipeline.arrRef spec3 w))
  after w t := match w with
    | ⟨0, _⟩ => blk3 W c 0 t
    | ⟨1, _⟩ => blk3 W c 1 t
    | ⟨2, _⟩ => (k3_pay4 (acc3 W c (t.val + 1)))
  Φ t := inv3 W c t.val
  q w := Pipeline.shareOf spec3 w
  owed _ := 0
theorem before3_0 (c : Dev nD) (t : Fin cfg3.N) (d) : (dat3 W c).before 0 t d = blk3 W c 0 t :=
  ((dat3 W c).before_in_eq_fetched 0 rfl (fun _ => rfl) (fun _ _ _ => rfl) (fun _ => rfl) t d).trans rfl
theorem before3_1 (c : Dev nD) (t : Fin cfg3.N) (d) : (dat3 W c).before 1 t d = blk3 W c 1 t :=
  ((dat3 W c).before_in_eq_fetched 1 rfl (fun _ => rfl) (fun _ _ _ => rfl) (fun _ => rfl) t d).trans rfl

/-- The body obligation at every point. -/
theorem obligation3 (c : Dev nD) : BodyObligation (dat3 W c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  unfold bodyAt3; simp only [before3_0, before3_1]
  have w := when3 t
  exact product_point c _ _ _ _ _ _ _ _ _ 4 t.val (by decide) (acc3 W c) _ k3_pay4 _ (k3_pay3 (blk3 W c 0 t) (blk3 W c 1 t)) _ _ w.1 w.2.2.1
    (accumAt_first _ _ _ _ t) (accumAt_next _ _ _ _ t)
    (fun h => by unfold Dat.leavesExact; rw [w.2.2.2.1 h]; dsimp only [dat3]; try rfl)
    (fun h => Dat.leavesExact_idle (dat3 W c) 2 t (w.2.2.2.2 h).1 (w.2.2.2.2 h).2)
    fun xi xs => by
      rw [cc3_mm_in_dw_eq_skeleton]
      exact product_run (win3_0.stage (cfg3.slots t 0)) (win3_1.stage (cfg3.slots t 1)) (win3_2.stage (cfg3.slots t 2)) (Memref.whole cc3_scratch0) inb_S1024x2048_S1024x2048_0_0 inb_S2048x1536_S2048x1536_0_0 inb_S1024x1536_S1024x1536_0_0
        h_S1024x2048 h_S2048x1536 h_S1024x1536 (View.stores_vmem h_S1024x1536 ((hstage3_2 ((cfg3.slots t 2).cast nbuf3_2)).storeExact_slice rfl _ packedbf16_S1024x1536_S1024x1536_0_0) (fun _ => rfl)) rfl (k3_cond3 (grid3.coords t)) k3_pay2 k3_pay3 (fun a => k3_pay4 a) defs₀ c
        (hstage3_0 ((cfg3.slots t 0).cast nbuf3_0)) (hstage3_1 ((cfg3.slots t 1).cast nbuf3_1)) (hstage3_2 ((cfg3.slots t 2).cast nbuf3_2)) (Memref.isWhole_whole _) w.2.1 (blk3 W c 0 t) (blk3 W c 1 t) xi xs Set.univ (fun _ => _)

theorem hin3 (c : Dev nD) : (Pipeline.ΦA spec3 c : sProp 𝕄) ⊢ (dat3 W c).Φ 0 := Entails.of_eq (inv3_zero W c 0 (by decide)).symm
theorem hout3 (c : Dev nD) : (dat3 W c).Φ (Fin.last _) ⊢ (Pipeline.ΦA spec3 c : sProp 𝕄) :=
  Entails.of_eq (inv3_zero W c 88 (by decide))

/-! ## Call 4: `rms_mix_pre_bwd` -/

/-- The blocks of the call's windows. -/
abbrev blk4 := blockAt cfg4 W

/-- At the first point the row sums are stored, at every other one added. -/
theorem when4 : ∀ t : Fin grid4.N, (k4_cond1 (grid4.coords t) = 1#1 ↔ t.val % 32 = 0) ∧ (k4_cond2 (grid4.coords t) = 1#1 ↔ ¬k4_cond1 (grid4.coords t) = 1#1) := by
  decide +kernel
theorem live4 : ∀ i : grid4.Coords, cfg4.idle 5 i = false := by decide +kernel

/-- What the body does to its buffers. -/
theorem run4 (c : Dev nD) (i : grid4.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (hn : k4_cond2 i = 1#1 ↔ ¬k4_cond1 i = 1#1)
    (x0 : Vec F S256x2048 .f32) (x1 : Vec F S1x2048 .f32) (x2 : Vec F S256x2048 .f32) (x3 : Vec F S256x2048 .f32) (xi : Vec F S256x2048 .f32) (xs : Vec F S1x2048 .f32) (y : Vec F S1x2048 .f32) (hy : y = if k4_cond1 i = 1#1 then (k4_pay6 x0 x2) else (k4_pay1 (k4_pay6 x0 x2) xs)) (E : Set ℕ) (Q : PUnit → sProp 𝕄) :
    iprop(has c arg1 x0 ∗ has c arg2 x1 ∗ has c arg3 x2 ∗ has c arg4 x3 ∗ has c arg5 xi ∗ has c arg6 xs
        ∗ (iprop(has c arg1 x0 ∗ has c arg2 x1 ∗ has c arg3 x2 ∗ has c arg4 x3 ∗ has c arg5 (k4_pay5 x0 x1 x2 x3) ∗ has c arg6 y) -∗ Q ⟨⟩))
      ⊢ wp frame (wpE (defs₀ (F := F)) Variants.none c none) E (cc4_rms_mix_pre_bwd i arg1 harg1 arg2 harg2 arg3 harg3 arg4 harg4 arg5 harg5 arg6 harg6) Q := by
  simp only [cc4_rms_mix_pre_bwd_eq_skeleton]; unfold cc4_rms_mix_pre_bwd_skel
  unfold has owns
  by_cases hc0 : k4_cond1 i = 1#1 <;> [have hc1 : ¬k4_cond2 i = 1#1 := fun h => hn.mp h hc0; have hc1 : k4_cond2 i = 1#1 := hn.mpr hc0]
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro
      first
       | (refine (View.read_writes_full _ _ _ _ _).trans ?_
          try sl_unfold_words
          try rw [View.readCov_full]
          try rw [readAt_unread harg1]
          try rw [readAt_unread harg2]
          try rw [readAt_unread harg3]
          try rw [readAt_unread harg4]
          try rw [readAt_unread harg5]
          try rw [readAt_unread harg6])
       | exact harg5.read_unread _
    iexists _; isplitr
    swap; · iexact H5
    ipureintro
    rw [hy]; first | rw [if_pos hc0] | rw [if_neg hc0]
    first
     | (refine (View.read_writes_full _ _ _ _ _).trans ?_
        try sl_unfold_words
        try rw [View.readCov_full]
        try rw [readAt_unread harg1]
        try rw [readAt_unread harg2]
        try rw [readAt_unread harg3]
        try rw [readAt_unread harg4]
        try rw [readAt_unread harg5]
        try rw [readAt_unread harg6])
     | exact harg6.read_unread _

/-- The row sums of the points before `n`. -/
def acc4 (c : Dev nD) : ℕ → Vec F S1x2048 .f32 :=
  accumAt (N := grid4.N) (by decide) 32 (fun t => (k4_pay6 (blk4 W c 0 t) (blk4 W c 2 t))) (fun t a => (k4_pay1 (k4_pay6 (blk4 W c 0 t) (blk4 W c 2 t)) a))

/-- The call's proof data. -/
def dat4 (c : Dev nD) : Dat τ (Elt F) Unit ℕ (UR sig nD τ) ℕ cfg4 c where
  A w := W c (Proc.devRef .tc (Pipeline.arrRef spec4 w))
  after w t := match w with
    | ⟨0, _⟩ => blk4 W c 0 t
    | ⟨1, _⟩ => blk4 W c 1 t
    | ⟨2, _⟩ => blk4 W c 2 t
    | ⟨3, _⟩ => blk4 W c 3 t
    | ⟨4, _⟩ => (k4_pay5 (blk4 W c 0 t) (blk4 W c 1 t) (blk4 W c 2 t) (blk4 W c 3 t))
    | ⟨5, _⟩ => acc4 W c (t.val + 1)
  Φ t := Pipeline.ΦA spec4 c
  q w := Pipeline.shareOf spec4 w
  owed _ := 0
theorem before4_0 (c : Dev nD) (t : Fin cfg4.N) (d) : (dat4 W c).before 0 t d = blk4 W c 0 t :=
  ((dat4 W c).before_in_eq_fetched 0 rfl (fun _ => rfl) (fun _ _ _ => rfl) (fun _ => rfl) t d).trans rfl
theorem before4_1 (c : Dev nD) (t : Fin cfg4.N) (d) : (dat4 W c).before 1 t d = blk4 W c 1 t :=
  ((dat4 W c).before_in_eq_fetched 1 rfl (fun _ => rfl) (fun _ _ _ => rfl) (fun _ => rfl) t d).trans rfl
theorem before4_2 (c : Dev nD) (t : Fin cfg4.N) (d) : (dat4 W c).before 2 t d = blk4 W c 2 t :=
  ((dat4 W c).before_in_eq_fetched 2 rfl (fun _ => rfl) (fun _ _ _ => rfl) (fun _ => rfl) t d).trans rfl
theorem before4_3 (c : Dev nD) (t : Fin cfg4.N) (d) : (dat4 W c).before 3 t d = blk4 W c 3 t :=
  ((dat4 W c).before_in_eq_fetched 3 rfl (fun _ => rfl) (fun _ _ _ => rfl) (fun _ => rfl) t d).trans rfl
theorem kept4 (c : Dev nD) (t : Fin cfg4.N) (h : ¬t.val % 32 = 0) (d) : (dat4 W c).before 5 t d = acc4 W c t.val := by
  have ht0 : t.val < 32 := lt_of_lt_of_eq t.isLt (show cfg4.N = 32 from N_4)
  have h1 : ¬t.val = 0 := fun e => h (by rw [e])
  refine ((dat4 W c).before_out_kept 5 rfl t h1 (Bool.eq_false_iff.mpr fun e => ?_) live4 (fun _ _ => rfl) d).trans ?_
  · have := (flush4_5 _).mp e; have : (t.val - 1) % 32 = 31 := this; omega
  · dsimp only [dat4]; rw [Nat.sub_add_cancel (Nat.one_le_iff_ne_zero.mpr h1)]

/-- The body obligation at every point. -/
theorem obligation4 (c : Dev nD) : BodyObligation (dat4 W c) (defs₀ (F := F)) Variants.none () Set.univ := fun t => by
  rw [bigSep_W4, bigSep_W4, show defs₀ (F := F) .tc cfg4.body (cfg4.bodyArgs t (cfg4.slots t)) = bodyAt4 t from by unfold defs₀; rw [Defs.onTc_tc]]
  unfold bodyAt4; simp only [before4_0, before4_1, before4_2, before4_3]
  rw [show idle4 5 (grid4.coords t) = false from live4 _]
  have w := when4 t
  exact rows4 c _ _ (Pipeline.ΦA spec4 c) _ _ _ _ _ _ _ _ (k4_pay5 (blk4 W c 0 t) (blk4 W c 1 t) (blk4 W c 2 t) (blk4 W c 3 t)) (k4_pay6 (blk4 W c 0 t) (blk4 W c 2 t)) (acc4 W c (t.val + 1)) (fun a => (k4_pay1 (k4_pay6 (blk4 W c 0 t) (blk4 W c 2 t)) a)) (acc4 W c t.val) _
    (fun h => accumAt_first _ _ _ _ t (w.1.mp h)) (fun h => accumAt_next _ _ _ _ t (fun e => h (w.1.mpr e))) (fun h => kept4 W c t (fun e => h (w.1.mpr e)))
    fun xi xs => run4 c (grid4.coords t) _ _ _ _ _ _ _ _ _ _ _ _ w.2 (blk4 W c 0 t) (blk4 W c 1 t) (blk4 W c 2 t) (blk4 W c 3 t) xi xs _ rfl Set.univ (fun _ => _)

end Cert.Kernel3Ideal.Calls

end
-- ==== Proof.RunIn.lean ====
/-
The input projection from launch to return: its frame, and what every buffer holds at the end.
-/
module

public import proofs.«01_k».proof.Proof.CallsIn
public import proofs.«01_k».proof.Proof.Gen.Kernel3Ideal.Regions

@[expose] public section

set_option maxRecDepth 16384

noncomputable section

namespace Cert.Kernel3Ideal.Calls

open Cert.Kernel3Ideal Cert.Kernel3Ideal.Gen Cert.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary of @main, and what each item leaves unchanged -/

/-- Core `c`'s buffers at launch. -/
def B0 : Dev nD → Valuation τ sig (Elt F) := fun c b => m (c, b)
/-- After the host operations `hostOps0`. -/
def B1 : Dev nD → Valuation τ sig (Elt F) := fun c => StableHlo.after hostOps0 (B0 m c)
theorem B1_of (c : Dev nD) (r : Ref sig .tc) (h : r ∉ hostOps0_W) : B1 m c (Proc.devRef .tc r) = B0 m c (Proc.devRef .tc r) :=
  StableHlo.after_of_writes_sub hostOps0 _ hostOps0_writes h
/-- After call 0. -/
def B2 : Dev nD → Valuation τ sig (Elt F) := exitW (dat0 (B1 m)) (B1 m)
theorem B2_of (c : Dev nD) (r : Ref sig .tc) (h : OnlyRead cfg0 r) :
    B2 m c (Proc.devRef .tc r) = B1 m c (Proc.devRef .tc r) :=
  exitW_of _ _ (launch0.to₀).sharedIn (fun _ _ => rfl) c r h
/-- After call 1. -/
def B3 : Dev nD → Valuation τ sig (Elt F) := exitW (dat1 (B2 m)) (B2 m)
theorem B3_of (c : Dev nD) (r : Ref sig .tc) (h : OnlyRead cfg1 r) :
    B3 m c (Proc.devRef .tc r) = B2 m c (Proc.devRef .tc r) :=
  exitW_of _ _ (launch1.to₀).sharedIn (fun _ _ => rfl) c r h
/-- After the host operations `hostOps2`. -/
def B4 : Dev nD → Valuation τ sig (Elt F) := fun c => StableHlo.after hostOps2 (B3 m c)
theorem B4_of (c : Dev nD) (r : Ref sig .tc) (h : r ∉ hostOps2_W) : B4 m c (Proc.devRef .tc r) = B3 m c (Proc.devRef .tc r) :=
  StableHlo.after_of_writes_sub hostOps2 _ hostOps2_writes h
/-- After call 2. -/
def B5 : Dev nD → Valuation τ sig (Elt F) := exitW (dat2 (B4 m)) (B4 m)
theorem B5_of (c : Dev nD) (r : Ref sig .tc) (h : OnlyRead cfg2 r) :
    B5 m c (Proc.devRef .tc r) = B4 m c (Proc.devRef .tc r) :=
  exitW_of _ _ (launch2.to₀).sharedIn (fun _ _ => rfl) c r h
/-- After the host operations `hostOps3`. -/
def B6 : Dev nD → Valuation τ sig (Elt F) := fun c => StableHlo.after hostOps3 (B5 m c)
theorem B6_of (c : Dev nD) (r : Ref sig .tc) (h : r ∉ hostOps3_W) : B6 m c (Proc.devRef .tc r) = B5 m c (Proc.devRef .tc r) :=
  StableHlo.after_of_writes_sub hostOps3 _ hostOps3_writes h
/-- After call 3. -/
def B7 : Dev nD → Valuation τ sig (Elt F) := exitW (dat3 (B6 m)) (B6 m)
theorem B7_of (c : Dev nD) (r : Ref sig .tc) (h : OnlyRead cfg3 r) :
    B7 m c (Proc.devRef .tc r) = B6 m c (Proc.devRef .tc r) :=
  exitW_of _ _ (launch3.to₀).sharedIn (fun _ _ => rfl) c r h
/-- After the host operations `hostOps4`. -/
def B8 : Dev nD → Valuation τ sig (Elt F) := fun c => StableHlo.after hostOps4 (B7 m c)
theorem B8_of (c : Dev nD) (r : Ref sig .tc) (h : r ∉ hostOps4_W) : B8 m c (Proc.devRef .tc r) = B7 m c (Proc.devRef .tc r) :=
  StableHlo.after_of_writes_sub hostOps4 _ hostOps4_writes h
/-- After call 4. -/
def B9 : Dev nD → Valuation τ sig (Elt F) := exitW (dat4 (B8 m)) (B8 m)
theorem B9_of (c : Dev nD) (r : Ref sig .tc) (h : OnlyRead cfg4 r) :
    B9 m c (Proc.devRef .tc r) = B8 m c (Proc.devRef .tc r) :=
  exitW_of _ _ (launch4.to₀).sharedIn (fun _ _ => rfl) c r h
/-- After the host operations `hostOps5`. -/
def B10 : Dev nD → Valuation τ sig (Elt F) := fun c => StableHlo.after hostOps5 (B9 m c)
theorem B10_of (c : Dev nD) (r : Ref sig .tc) (h : r ∉ hostOps5_W) : B10 m c (Proc.devRef .tc r) = B9 m c (Proc.devRef .tc r) :=
  StableHlo.after_of_writes_sub hostOps5 _ hostOps5_writes h

/-! ## The launch -/

/-- Every call's proof data, each at the contents it is entered from. -/
def pdats : (p : Fin 5) → (c : Dev nD) → Dat τ (Elt F) Unit ℕ (UR sig nD τ) ℕ (Pipeline.pin (plain (Val := Elt F) cfgs) (plainAdm cfgs) p) c
  | ⟨0, _⟩ => fun c => dat0 (B1 m) c
  | ⟨1, _⟩ => fun c => dat1 (B2 m) c
  | ⟨2, _⟩ => fun c => dat2 (B4 m) c
  | ⟨3, _⟩ => fun c => dat3 (B6 m) c
  | ⟨4, _⟩ => fun c => dat4 (B8 m) c

/-- A call as a segment. -/
abbrev Reg (p : Fin 5) := Pipeline.RegionSeg (plain (Val := Elt F) cfgs) (plainAdm cfgs) (pdats m) () defs₀ Variants.none (fun _ => ∅) (fun _ _ => 0) p

/-- Call 0 as a segment. -/
def reg0 : Reg m 0 :=
  callRegion cfgs (pdats m) defs₀ 0 launch0.to₀ (B1 m) (obligation0 (B1 m)) (fun _ => .rfl) (fun _ => .rfl)
/-- Call 1 as a segment. -/
def reg1 : Reg m 1 :=
  callRegion cfgs (pdats m) defs₀ 1 launch1.to₀ (B2 m) (obligation1 (B2 m)) (hin1 (B2 m)) (hout1 (B2 m))
/-- Call 2 as a segment. -/
def reg2 : Reg m 2 :=
  callRegion cfgs (pdats m) defs₀ 2 launch2.to₀ (B4 m) (obligation2 (B4 m)) (hin2 (B4 m)) (hout2 (B4 m))
/-- Call 3 as a segment. -/
def reg3 : Reg m 3 :=
  callRegion cfgs (pdats m) defs₀ 3 launch3.to₀ (B6 m) (obligation3 (B6 m)) (hin3 (B6 m)) (hout3 (B6 m))
/-- Call 4 as a segment. -/
def reg4 : Reg m 4 :=
  callRegion cfgs (pdats m) defs₀ 4 launch4.to₀ (B8 m) (obligation4 (B8 m)) (fun _ => .rfl) (fun _ => .rfl)

/-- @main's segments in order. -/
abbrev segs : List (Pipeline.Seg (plain (Val := Elt F) cfgs) (plainAdm cfgs) (pdats m) () defs₀ Variants.none (fun _ => ∅) (fun _ _ => 0)) :=
  [ .host (hostSeg cfgs defs₀ hostOps0 hostOps0_sub hostOps0_fresh (B0 m)),
    .region (reg0 m),
    .region (reg1 m),
    .host (hostSeg cfgs defs₀ hostOps2 hostOps2_sub hostOps2_fresh (B3 m)),
    .region (reg2 m),
    .host (hostSeg cfgs defs₀ hostOps3 hostOps3_sub hostOps3_fresh (B5 m)),
    .region (reg3 m),
    .host (hostSeg cfgs defs₀ hostOps4 hostOps4_sub hostOps4_fresh (B7 m)),
    .region (reg4 m),
    .host (hostSeg cfgs defs₀ hostOps5 hostOps5_sub hostOps5_fresh (B9 m)) ]
theorem main_run (c : Dev nD) : main (F := F) c = Pipeline.Seg.run (segs m) := (main_chain c).trans (by chain_rfl)
theorem no_unscoped : ∀ sm : SemLoc sig, sm.isScoped .tc = true := by decide

/-- From any memory with zero counters every weakly fair execution terminates without a fault, and ends with every unscoped buffer
    at the contents of the last boundary and every counter at zero. -/
theorem final : θ_run defs (onTc (τ := τ) (main (F := F))) ⟨m, fun _ => 0, ρ⟩ (fun r =>
      (∀ c : Dev nD, ∀ b : Ref sig .tc, ¬ (Proc.devRef .tc b : DevRef τ sig).isScoped → r.2.mem ((c.tc : Thread nD τ).loc b) = B10 m c (Proc.devRef .tc b))
      ∧ r.2.sem = fun _ => 0) :=
  launched cfgs cellOf_inj (pdats m) defs₀ m ρ main (segs m) (main_run m)
    (by simp only [segs, Pipeline.Seg.pipes_host, Pipeline.Seg.pipes_region, Pipeline.Seg.pipes_nil]; decide) (B0 m) (B10 m) rfl
    ⟨fun _ => .rfl, fun _ => .rfl, fun _ => .rfl, fun _ => .rfl, fun _ => .rfl, fun _ => .rfl, fun _ => .rfl, fun _ => .rfl, fun _ => .rfl, fun _ => .rfl, lands _⟩ no_unscoped

/-! ## The arguments -/

/-- The arguments end as launched. -/
theorem end_arg (c : Dev nD) (r : Ref sig .tc) (h : r ∈ ([main_arg0, main_arg1, main_arg2, main_arg3, main_arg4] : List (Ref sig .tc))) : B10 m c (Proc.devRef .tc r) = m ((c : Thread nD τ).loc r) :=
  (B10_of m c r (by revert r; decide)).trans <| (B9_of m c r (by revert r; decide)).trans <| (B8_of m c r (by revert r; decide)).trans <| (B7_of m c r (by revert r; decide)).trans <| (B6_of m c r (by revert r; decide)).trans <| (B5_of m c r (by revert r; decide)).trans <| (B4_of m c r (by revert r; decide)).trans <| (B3_of m c r (by revert r; decide)).trans <| (B2_of m c r (by revert r; decide)).trans <| (B1_of m c r (by revert r; decide))

/-- The frame: every execution terminates without a fault, the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c main_arg0 (by decide)).trans (end_arg m c main_arg0 (by decide)), (h.1 c main_arg1 (by decide)).trans (end_arg m c main_arg1 (by decide)), (h.1 c main_arg2 (by decide)).trans (end_arg m c main_arg2 (by decide)), (h.1 c main_arg3 (by decide)).trans (end_arg m c main_arg3 (by decide)), (h.1 c main_arg4 (by decide)).trans (end_arg m c main_arg4 (by decide))⟩, h.2⟩) (final m ρ)

end Cert.Kernel3Ideal.Calls

end
-- ==== Proof.CallsOut.lean ====
/-
The calls of the output product and of the norm behind it: what each leaves, point by point.
-/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Product
public import Idealize.ShloMosaic.Lib.WordCmp
public import Idealize.ShloMosaic.Lib.VecWindow

@[expose] public section

set_option maxRecDepth 16384
set_option maxHeartbeats 2000000

noncomputable section

namespace Cert.Kernel4Ideal.Calls

open Cert.Kernel4Ideal Cert.Kernel4Ideal.Gen Cert.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (W : Dev nD → Valuation τ sig (Elt F))

/-! ## Call 0: `mm_out` -/

/-- The blocks of the call's windows. -/
abbrev blk0 := blockAt cfg0 W

theorem when0 : Timing cfg0 2 1 (fun i => (i 2).val) k0_cond3 := by decide +kernel

/-- The accumulator before point `n`: the sum of the products of the points of its output block so far. -/
def acc0 (c : Dev nD) : ℕ → Vec F S1024x1024 .f32 :=
  accumAt (N := grid0.N) (by decide) 1 (fun t => k0_pay2 (blk0 W c 0 t) (blk0 W c 1 t)) (fun t a => k0_pay3 (blk0 W c 0 t) (blk0 W c 1 t) a)

/-- The invariant before point `n`. -/
def inv0 (c : Dev nD) (n : ℕ) : sProp 𝕄 := between c (Memref.whole cc0_scratch0) (Pipeline.scopedRestBut (Ix := Unit) (Name := ℕ) (U := UR sig nD τ) (Lvl := ℕ) (Val := Elt F) spec0 c [cc0_scratch0]) iprop(∃ r, prngReg c r) 1 (acc0 W c) n
theorem inv0_zero (c : Dev nD) (n : ℕ) (h : n % 1 = 0) : inv0 W c n = Pipeline.ΦA spec0 c := by
  unfold inv0; rw [between_zero _ _ _ _ _ _ _ h]; unfold Pipeline.ΦA; rw [scopedRest0_split]; simp only [has, owns_whole]; try rfl

/-- The call's proof data: the arrays as found, each input's buffer at its block after every point, the outputs' as computed. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => (acc0 W c (t.val + 1))
  Φ t := inv0 W c t.val
  q w := Pipeline.shareOf spec0 w
  owed _ := 0
theorem before0_0 (c : Dev nD) (t : Fin cfg0.N) (d) : (dat0 W c).before 0 t d = blk0 W c 0 t :=
  ((dat0 W c).before_in_eq_fetched 0 rfl (fun _ => rfl) (fun _ _ _ => rfl) (fun _ => rfl) t d).trans rfl
theorem before0_1 (c : Dev nD) (t : Fin cfg0.N) (d) : (dat0 W c).before 1 t d = blk0 W c 1 t :=
  ((dat0 W c).before_in_eq_fetched 1 rfl (fun _ => rfl) (fun _ _ _ => rfl) (fun _ => rfl) t d).trans rfl

/-- The body obligation at every point. -/
theorem obligation0 (c : Dev nD) : BodyObligation (dat0 W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  unfold bodyAt0; simp only [before0_0, before0_1]
  have w := when0 t
  exact product_point c _ _ _ _ _ _ _ _ _ 1 t.val (by decide) (acc0 W c) _ (fun a => a) _ (k0_pay3 (blk0 W c 0 t) (blk0 W c 1 t)) _ _ w.1 w.2.2.1
    (accumAt_first _ _ _ _ t) (accumAt_next _ _ _ _ t)
    (fun h => by unfold Dat.leavesExact; rw [w.2.2.2.1 h]; dsimp only [dat0]; try rfl)
    (fun h => Dat.leavesExact_idle (dat0 W c) 2 t (w.2.2.2.2 h).1 (w.2.2.2.2 h).2)
    fun xi xs => by
      rw [cc0_mm_out_eq_skeleton]
      exact product_run (win0_0.stage (cfg0.slots t 0)) (win0_1.stage (cfg0.slots t 1)) (win0_2.stage (cfg0.slots t 2)) (Memref.whole cc0_scratch0) inb_S1024x2048_S1024x2048_0_0 inb_S2048x1024_S2048x1024_0_0 inb_S1024x1024_S1024x1024_0_0
        h_S1024x2048 h_S2048x1024 h_S1024x1024 (View.stores_vmem_bits_univ h_S1024x1024 rfl) rfl (k0_cond3 (grid0.coords t)) k0_pay2 k0_pay3 (fun a => a) defs₀ c
        (hstage0_0 ((cfg0.slots t 0).cast nbuf0_0)) (hstage0_1 ((cfg0.slots t 1).cast nbuf0_1)) (hstage0_2 ((cfg0.slots t 2).cast nbuf0_2)) (Memref.isWhole_whole _) w.2.1 (blk0 W c 0 t) (blk0 W c 1 t) xi xs Set.univ (fun _ => _)

theorem hin0 (c : Dev nD) : (Pipeline.ΦA spec0 c : sProp 𝕄) ⊢ (dat0 W c).Φ 0 := Entails.of_eq (inv0_zero W c 0 (by decide)).symm
theorem hout0 (c : Dev nD) : (dat0 W c).Φ (Fin.last _) ⊢ (Pipeline.ΦA spec0 c : sProp 𝕄) :=
  Entails.of_eq (inv0_zero W c 16 (by decide))

/-! ## Call 1: `rms_mix_post` -/

/-- The blocks of the call's windows. -/
abbrev blk1 := blockAt cfg1 W

/-- What the body does to its buffers. -/
theorem run1 (c : Dev nD) (i : grid1.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole)
    (x0 : Vec F S256x2048 .f32) (x1 : Vec F S1x2048 .f32) (x2 : Vec F S256x2048 .f32) (xi : Vec F S256x2048 .f32) (E : Set ℕ) (Q : PUnit → sProp 𝕄) :
    iprop(has c arg1 x0 ∗ has c arg2 x1 ∗ has c arg3 x2 ∗ has c arg4 xi
        ∗ (iprop(has c arg1 x0 ∗ has c arg2 x1 ∗ has c arg3 x2 ∗ has c arg4 (k1_pay1 x0 x1 x2)) -∗ Q ⟨⟩))
      ⊢ wp frame (wpE (defs₀ (F := F)) Variants.none c none) E (cc1_rms_mix_post i arg1 harg1 arg2 harg2 arg3 harg3 arg4 harg4) Q := by
  simp only [cc1_rms_mix_post_eq_skeleton]; unfold cc1_rms_mix_post_skel
  unfold has owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  first
   | (refine (View.read_writes_full _ _ _ _ _).trans ?_
      try sl_unfold_words
      try rw [View.readCov_full]
      try rw [readAt_unread harg1]
      try rw [readAt_unread harg2]
      try rw [readAt_unread harg3]
      try rw [readAt_unread harg4])
   | exact harg4.read_unread _

/-- The call's proof data. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => k1_pay1 (blk1 W c 0 t) (blk1 W c 1 t) (blk1 W c 2 t)
  Φ t := Pipeline.ΦA spec1 c
  q w := Pipeline.shareOf spec1 w
  owed _ := 0
theorem before1_0 (c : Dev nD) (t : Fin cfg1.N) (d) : (dat1 W c).before 0 t d = blk1 W c 0 t :=
  ((dat1 W c).before_in_eq_fetched 0 rfl (fun _ => rfl) (fun _ _ _ => rfl) (fun _ => rfl) t d).trans rfl
theorem before1_1 (c : Dev nD) (t : Fin cfg1.N) (d) : (dat1 W c).before 1 t d = blk1 W c 1 t :=
  ((dat1 W c).before_in_eq_fetched 1 rfl (fun _ => rfl) (fun _ _ _ => rfl) (fun _ => rfl) t d).trans rfl
theorem before1_2 (c : Dev nD) (t : Fin cfg1.N) (d) : (dat1 W c).before 2 t d = blk1 W c 2 t :=
  ((dat1 W c).before_in_eq_fetched 2 rfl (fun _ => rfl) (fun _ _ _ => rfl) (fun _ => rfl) t d).trans rfl

/-- The body obligation at every point. -/
theorem obligation1 (c : Dev nD) : BodyObligation (dat1 W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  unfold bodyAt1; simp only [before1_0, before1_1, before1_2]
  exact point3 c _ (Pipeline.ΦA spec1 c) _ _ _ _ _ _ (k1_pay1 (blk1 W c 0 t) (blk1 W c 1 t) (blk1 W c 2 t)) fun xi => run1 c (grid1.coords t) _ _ _ _ _ _ _ _ (blk1 W c 0 t) (blk1 W c 1 t) (blk1 W c 2 t) xi Set.univ (fun _ => _)

/-! ## Call 2: `rms_mix_post_bwd` -/

/-- The blocks of the call's windows. -/
abbrev blk2 := blockAt cfg2 W

/-- At the first point the row sums are stored, at every other one added. -/
theorem when2 : ∀ t : Fin grid2.N, (k2_cond1 (grid2.coords t) = 1#1 ↔ t.val % 32 = 0) ∧ (k2_cond2 (grid2.coords t) = 1#1 ↔ ¬k2_cond1 (grid2.coords t) = 1#1) := by
  decide +kernel
theorem live2 : ∀ i : grid2.Coords, cfg2.idle 4 i = false := by decide +kernel

/-- What the body does to its buffers. -/
theorem run2 (c : Dev nD) (i : grid2.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .bf16) (harg4 : arg4.IsWhole) (arg5 : Memref sig .tc .vmem S1x2048 .f32) (harg5 : arg5.IsWhole) (hn : k2_cond2 i = 1#1 ↔ ¬k2_cond1 i = 1#1)
    (x0 : Vec F S256x2048 .f32) (x1 : Vec F S1x2048 .f32) (x2 : Vec F S256x2048 .f32) (xi : Vec F S256x2048 .bf16) (xs : Vec F S1x2048 .f32) (y : Vec F S1x2048 .f32) (hy : y = if k2_cond1 i = 1#1 then (k2_pay4 x0 x2) else (k2_pay6 x0 x2 xs)) (E : Set ℕ) (Q : PUnit → sProp 𝕄) :
    iprop(has c arg1 x0 ∗ has c arg2 x1 ∗ has c arg3 x2 ∗ has c arg4 xi ∗ has c arg5 xs
        ∗ (iprop(has c arg1 x0 ∗ has c arg2 x1 ∗ has c arg3 x2 ∗ has c arg4 (k2_pay5 x0 x1 x2) ∗ has c arg5 y) -∗ Q ⟨⟩))
      ⊢ wp frame (wpE (defs₀ (F := F)) Variants.none c none) E (cc2_rms_mix_post_bwd i arg1 harg1 arg2 harg2 arg3 harg3 arg4 harg4 arg5 harg5) Q := by
  simp only [cc2_rms_mix_post_bwd_eq_skeleton]; unfold cc2_rms_mix_post_bwd_skel
  unfold has owns
  by_cases hc0 : k2_cond1 i = 1#1 <;> [have hc1 : ¬k2_cond2 i = 1#1 := fun h => hn.mp h hc0; have hc1 : k2_cond2 i = 1#1 := hn.mpr hc0]
  all_goals
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      first
       | (refine (View.read_writes_full _ _ _ _ _).trans ?_
          try sl_unfold_words
          try rw [View.readCov_full]
          try rw [readAt_unread harg1]
          try rw [readAt_unread harg2]
          try rw [readAt_unread harg3]
          try rw [readAt_unread harg4]
          try rw [readAt_unread harg5])
       | exact harg4.read_unread _
    iexists _; isplitr
    swap; · iexact H4
    ipureintro
    rw [hy]; first | rw [if_pos hc0] | rw [if_neg hc0]
    first
     | (refine (View.read_writes_full _ _ _ _ _).trans ?_
        try sl_unfold_words
        try rw [View.readCov_full]
        try rw [readAt_unread harg1]
        try rw [readAt_unread harg2]
        try rw [readAt_unread harg3]
        try rw [readAt_unread harg4]
        try rw [readAt_unread harg5])
     | exact harg5.read_unread _

/-- The row sums of the points before `n`. -/
def acc2 (c : Dev nD) : ℕ → Vec F S1x2048 .f32 :=
  accumAt (N := grid2.N) (by decide) 32 (fun t => (k2_pay4 (blk2 W c 0 t) (blk2 W c 2 t))) (fun t a => (k2_pay6 (blk2 W c 0 t) (blk2 W c 2 t) a))

/-- The call's proof data. -/
def dat2 (c : Dev nD) : Dat τ (Elt F) Unit ℕ (UR sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => blk2 W c 2 t
    | ⟨3, _⟩ => (k2_pay5 (blk2 W c 0 t) (blk2 W c 1 t) (blk2 W c 2 t))
    | ⟨4, _⟩ => acc2 W c (t.val + 1)
  Φ t := Pipeline.ΦA spec2 c
  q w := Pipeline.shareOf spec2 w
  owed _ := 0
theorem before2_0 (c : Dev nD) (t : Fin cfg2.N) (d) : (dat2 W c).before 0 t d = blk2 W c 0 t :=
  ((dat2 W c).before_in_eq_fetched 0 rfl (fun _ => rfl) (fun _ _ _ => rfl) (fun _ => rfl) t d).trans rfl
theorem before2_1 (c : Dev nD) (t : Fin cfg2.N) (d) : (dat2 W c).before 1 t d = blk2 W c 1 t :=
  ((dat2 W c).before_in_eq_fetched 1 rfl (fun _ => rfl) (fun _ _ _ => rfl) (fun _ => rfl) t d).trans rfl
theorem before2_2 (c : Dev nD) (t : Fin cfg2.N) (d) : (dat2 W c).before 2 t d = blk2 W c 2 t :=
  ((dat2 W c).before_in_eq_fetched 2 rfl (fun _ => rfl) (fun _ _ _ => rfl) (fun _ => rfl) t d).trans rfl
theorem kept2 (c : Dev nD) (t : Fin cfg2.N) (h : ¬t.val % 32 = 0) (d) : (dat2 W c).before 4 t d = acc2 W c t.val := by
  have ht0 : t.val < 32 := lt_of_lt_of_eq t.isLt (show cfg2.N = 32 from N_2)
  have h1 : ¬t.val = 0 := fun e => h (by rw [e])
  refine ((dat2 W c).before_out_kept 4 rfl t h1 (Bool.eq_false_iff.mpr fun e => ?_) live2 (fun _ _ => rfl) d).trans ?_
  · have := (flush2_4 _).mp e; have : (t.val - 1) % 32 = 31 := this; omega
  · dsimp only [dat2]; rw [Nat.sub_add_cancel (Nat.one_le_iff_ne_zero.mpr h1)]

/-- The body obligation at every point. -/
theorem obligation2 (c : Dev nD) : BodyObligation (dat2 W c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  unfold bodyAt2; simp only [before2_0, before2_1, before2_2]
  rw [show idle2 4 (grid2.coords t) = false from live2 _]
  have w := when2 t
  exact rows3 c _ _ (Pipeline.ΦA spec2 c) _ _ _ _ _ _ _ (k2_pay5 (blk2 W c 0 t) (blk2 W c 1 t) (blk2 W c 2 t)) (k2_pay4 (blk2 W c 0 t) (blk2 W c 2 t)) (acc2 W c (t.val + 1)) (fun a => (k2_pay6 (blk2 W c 0 t) (blk2 W c 2 t) a)) (acc2 W c t.val) _
    (fun h => accumAt_first _ _ _ _ t (w.1.mp h)) (fun h => accumAt_next _ _ _ _ t (fun e => h (w.1.mpr e))) (fun h => kept2 W c t (fun e => h (w.1.mpr e)))
    fun xi xs => run2 c (grid2.coords t) _ _ _ _ _ _ _ _ _ _ w.2 (blk2 W c 0 t) (blk2 W c 1 t) (blk2 W c 2 t) xi xs _ rfl Set.univ (fun _ => _)

/-! ## Call 3: `mm_out_dx` -/

/-- The blocks of the call's windows. -/
abbrev blk3 := blockAt cfg3 W

theorem when3 : Timing cfg3 2 1 (fun i => (i 2).val) k3_cond3 := by decide +kernel

/-- The accumulator before point `n`: the sum of the products of the points of its output block so far. -/
def acc3 (c : Dev nD) : ℕ → Vec F S1024x1024 .f32 :=
  accumAt (N := grid3.N) (by decide) 1 (fun t => k3_pay2 (blk3 W c 0 t) (blk3 W c 1 t)) (fun t a => k3_pay3 (blk3 W c 0 t) (blk3 W c 1 t) a)

/-- The invariant before point `n`. -/
def inv3 (c : Dev nD) (n : ℕ) : sProp 𝕄 := between c (Memref.whole cc3_scratch0) (Pipeline.scopedRestBut (Ix := Unit) (Name := ℕ) (U := UR sig nD τ) (Lvl := ℕ) (Val := Elt F) spec3 c [cc3_scratch0]) iprop(∃ r, prngReg c r) 1 (acc3 W c) n
theorem inv3_zero (c : Dev nD) (n : ℕ) (h : n % 1 = 0) : inv3 W c n = Pipeline.ΦA spec3 c := by
  unfold inv3; rw [between_zero _ _ _ _ _ _ _ h]; unfold Pipeline.ΦA; rw [scopedRest3_split]; simp only [has, owns_whole]; try rfl

/-- The call's proof data. -/
def dat3 (c : Dev nD) : Dat τ (Elt F) Unit ℕ (UR sig nD τ) ℕ cfg3 c where
  A w := W c (Proc.devRef .tc (Pipeline.arrRef spec3 w))
  after w t := match w with
    | ⟨0, _⟩ => blk3 W c 0 t
    | ⟨1, _⟩ => blk3 W c 1 t
    | ⟨2, _⟩ => (acc3 W c (t.val + 1))
  Φ t := inv3 W c t.val
  q w := Pipeline.shareOf spec3 w
  owed _ := 0
theorem before3_0 (c : Dev nD) (t : Fin cfg3.N) (d) : (dat3 W c).before 0 t d = blk3 W c 0 t :=
  ((dat3 W c).before_in_eq_fetched 0 rfl (fun _ => rfl) (fun _ _ _ => rfl) (fun _ => rfl) t d).trans rfl
theorem before3_1 (c : Dev nD) (t : Fin cfg3.N) (d) : (dat3 W c).before 1 t d = blk3 W c 1 t :=
  ((dat3 W c).before_in_eq_fetched 1 rfl (fun _ => rfl) (fun _ _ _ => rfl) (fun _ => rfl) t d).trans rfl

/-- The body obligation at every point. -/
theorem obligation3 (c : Dev nD) : BodyObligation (dat3 W c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  unfold bodyAt3; simp only [before3_0, before3_1]
  have w := when3 t
  exact product_point c _ _ _ _ _ _ _ _ _ 1 t.val (by decide) (acc3 W c) _ (fun a => a) _ (k3_pay3 (blk3 W c 0 t) (blk3 W c 1 t)) _ _ w.1 w.2.2.1
    (accumAt_first _ _ _ _ t) (accumAt_next _ _ _ _ t)
    (fun h => by unfold Dat.leavesExact; rw [w.2.2.2.1 h]; dsimp only [dat3]; try rfl)
    (fun h => Dat.leavesExact_idle (dat3 W c) 2 t (w.2.2.2.2 h).1 (w.2.2.2.2 h).2)
    fun xi xs => by
      rw [cc3_mm_out_dx_eq_skeleton]
      exact product_run (win3_0.stage (cfg3.slots t 0)) (win3_1.stage (cfg3.slots t 1)) (win3_2.stage (cfg3.slots t 2)) (Memref.whole cc3_scratch0) inb_S1024x2048_S1024x2048_0_0 inb_S1024x2048_S1024x2048_0_0 inb_S1024x1024_S1024x1024_0_0
        h_S1024x2048 h_S1024x2048 h_S1024x1024 (View.stores_vmem_bits_univ h_S1024x1024 rfl) rfl (k3_cond3 (grid3.coords t)) k3_pay2 k3_pay3 (fun a => a) defs₀ c
        (hstage3_0 ((cfg3.slots t 0).cast nbuf3_0)) (hstage3_1 ((cfg3.slots t 1).cast nbuf3_1)) (hstage3_2 ((cfg3.slots t 2).cast nbuf3_2)) (Memref.isWhole_whole _) w.2.1 (blk3 W c 0 t) (blk3 W c 1 t) xi xs Set.univ (fun _ => _)

theorem hin3 (c : Dev nD) : (Pipeline.ΦA spec3 c : sProp 𝕄) ⊢ (dat3 W c).Φ 0 := Entails.of_eq (inv3_zero W c 0 (by decide)).symm
theorem hout3 (c : Dev nD) : (dat3 W c).Φ (Fin.last _) ⊢ (Pipeline.ΦA spec3 c : sProp 𝕄) :=
  Entails.of_eq (inv3_zero W c 16 (by decide))

/-! ## Call 4: `mm_out_dw` -/

/-- The blocks of the call's windows. -/
abbrev blk4 := blockAt cfg4 W

theorem when4 : Timing cfg4 2 4 (fun i => (i 2).val) k4_cond3 := by decide +kernel

/-- The accumulator before point `n`: the sum of the products of the points of its output block so far. -/
def acc4 (c : Dev nD) : ℕ → Vec F S1024x1024 .f32 :=
  accumAt (N := grid4.N) (by decide) 4 (fun t => k4_pay2 (blk4 W c 0 t) (blk4 W c 1 t)) (fun t a => k4_pay3 (blk4 W c 0 t) (blk4 W c 1 t) a)

/-- The invariant before point `n`. -/
def inv4 (c : Dev nD) (n : ℕ) : sProp 𝕄 := between c (Memref.whole cc4_scratch0) (Pipeline.scopedRestBut (Ix := Unit) (Name := ℕ) (U := UR sig nD τ) (Lvl := ℕ) (Val := Elt F) spec4 c [cc4_scratch0]) iprop(∃ r, prngReg c r) 4 (acc4 W c) n
theorem inv4_zero (c : Dev nD) (n : ℕ) (h : n % 4 = 0) : inv4 W c n = Pipeline.ΦA spec4 c := by
  unfold inv4; rw [between_zero _ _ _ _ _ _ _ h]; unfold Pipeline.ΦA; rw [scopedRest4_split]; simp only [has, owns_whole]; try rfl

/-- The call's proof data. -/
def dat4 (c : Dev nD) : Dat τ (Elt F) Unit ℕ (UR sig nD τ) ℕ cfg4 c where
  A w := W c (Proc.devRef .tc (Pipeline.arrRef spec4 w))
  after w t := match w with
    | ⟨0, _⟩ => blk4 W c 0 t
    | ⟨1, _⟩ => blk4 W c 1 t
    | ⟨2, _⟩ => (k4_pay4 (acc4 W c (t.val + 1)))
  Φ t := inv4 W c t.val
  q w := Pipeline.shareOf spec4 w
  owed _ := 0
theorem before4_0 (c : Dev nD) (t : Fin cfg4.N) (d) : (dat4 W c).before 0 t d = blk4 W c 0 t :=
  ((dat4 W c).before_in_eq_fetched 0 rfl (fun _ => rfl) (fun _ _ _ => rfl) (fun _ => rfl) t d).trans rfl
theorem before4_1 (c : Dev nD) (t : Fin cfg4.N) (d) : (dat4 W c).before 1 t d = blk4 W c 1 t :=
  ((dat4 W c).before_in_eq_fetched 1 rfl (fun _ => rfl) (fun _ _ _ => rfl) (fun _ => rfl) t d).trans rfl

/-- The body obligation at every point. -/
theorem obligation4 (c : Dev nD) : BodyObligation (dat4 W c) (defs₀ (F := F)) Variants.none () Set.univ := fun t => by
  rw [bigSep_W4, bigSep_W4, show defs₀ (F := F) .tc cfg4.body (cfg4.bodyArgs t (cfg4.slots t)) = bodyAt4 t from by unfold defs₀; rw [Defs.onTc_tc]]
  unfold bodyAt4; simp only [before4_0, before4_1]
  have w := when4 t
  exact product_point c _ _ _ _ _ _ _ _ _ 4 t.val (by decide) (acc4 W c) _ k4_pay4 _ (k4_pay3 (blk4 W c 0 t) (blk4 W c 1 t)) _ _ w.1 w.2.2.1
    (accumAt_first _ _ _ _ t) (accumAt_next _ _ _ _ t)
    (fun h => by unfold Dat.leavesExact; rw [w.2.2.2.1 h]; dsimp only [dat4]; try rfl)
    (fun h => Dat.leavesExact_idle (dat4 W c) 2 t (w.2.2.2.2 h).1 (w.2.2.2.2 h).2)
    fun xi xs => by
      rw [cc4_mm_out_dw_eq_skeleton]
      exact product_run (win4_0.stage (cfg4.slots t 0)) (win4_1.stage (cfg4.slots t 1)) (win4_2.stage (cfg4.slots t 2)) (Memref.whole cc4_scratch0) inb_S1024x2048_S1024x2048_0_0 inb_S2048x1024_S2048x1024_0_0 inb_S1024x1024_S1024x1024_0_0
        h_S1024x2048 h_S2048x1024 h_S1024x1024 (View.stores_vmem h_S1024x1024 ((hstage4_2 ((cfg4.slots t 2).cast nbuf4_2)).storeExact_slice rfl _ packedbf16_S1024x1024_S1024x1024_0_0) (fun _ => rfl)) rfl (k4_cond3 (grid4.coords t)) k4_pay2 k4_pay3 (fun a => k4_pay4 a) defs₀ c
        (hstage4_0 ((cfg4.slots t 0).cast nbuf4_0)) (hstage4_1 ((cfg4.slots t 1).cast nbuf4_1)) (hstage4_2 ((cfg4.slots t 2).cast nbuf4_2)) (Memref.isWhole_whole _) w.2.1 (blk4 W c 0 t) (blk4 W c 1 t) xi xs Set.univ (fun _ => _)

theorem hin4 (c : Dev nD) : (Pipeline.ΦA spec4 c : sProp 𝕄) ⊢ (dat4 W c).Φ 0 := Entails.of_eq (inv4_zero W c 0 (by decide)).symm
theorem hout4 (c : Dev nD) : (dat4 W c).Φ (Fin.last _) ⊢ (Pipeline.ΦA spec4 c : sProp 𝕄) :=
  Entails.of_eq (inv4_zero W c 16 (by decide))

end Cert.Kernel4Ideal.Calls

end
-- ==== Proof.RunOut.lean ====
/-
The output product and the norm behind it from launch to return: its frame, and what every buffer holds at the end.
-/
module

public import proofs.«01_k».proof.Proof.CallsOut
public import proofs.«01_k».proof.Proof.Gen.Kernel4Ideal.Regions

@[expose] public section

set_option maxRecDepth 16384

noncomputable section

namespace Cert.Kernel4Ideal.Calls

open Cert.Kernel4Ideal Cert.Kernel4Ideal.Gen Cert.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary of @main, and what each item leaves unchanged -/

/-- Core `c`'s buffers at launch. -/
def B0 : Dev nD → Valuation τ sig (Elt F) := fun c b => m (c, b)
/-- After the host operations `hostOps0`. -/
def B1 : Dev nD → Valuation τ sig (Elt F) := fun c => StableHlo.after hostOps0 (B0 m c)
theorem B1_of (c : Dev nD) (r : Ref sig .tc) (h : r ∉ hostOps0_W) : B1 m c (Proc.devRef .tc r) = B0 m c (Proc.devRef .tc r) :=
  StableHlo.after_of_writes_sub hostOps0 _ hostOps0_writes h
/-- After call 0. -/
def B2 : Dev nD → Valuation τ sig (Elt F) := exitW (dat0 (B1 m)) (B1 m)
theorem B2_of (c : Dev nD) (r : Ref sig .tc) (h : OnlyRead cfg0 r) :
    B2 m c (Proc.devRef .tc r) = B1 m c (Proc.devRef .tc r) :=
  exitW_of _ _ (launch0.to₀).sharedIn (fun _ _ => rfl) c r h
/-- After the host operations `hostOps1`. -/
def B3 : Dev nD → Valuation τ sig (Elt F) := fun c => StableHlo.after hostOps1 (B2 m c)
theorem B3_of (c : Dev nD) (r : Ref sig .tc) (h : r ∉ hostOps1_W) : B3 m c (Proc.devRef .tc r) = B2 m c (Proc.devRef .tc r) :=
  StableHlo.after_of_writes_sub hostOps1 _ hostOps1_writes h
/-- After call 1. -/
def B4 : Dev nD → Valuation τ sig (Elt F) := exitW (dat1 (B3 m)) (B3 m)
theorem B4_of (c : Dev nD) (r : Ref sig .tc) (h : OnlyRead cfg1 r) :
    B4 m c (Proc.devRef .tc r) = B3 m c (Proc.devRef .tc r) :=
  exitW_of _ _ (launch1.to₀).sharedIn (fun _ _ => rfl) c r h
/-- After the host operations `hostOps2`. -/
def B5 : Dev nD → Valuation τ sig (Elt F) := fun c => StableHlo.after hostOps2 (B4 m c)
theorem B5_of (c : Dev nD) (r : Ref sig .tc) (h : r ∉ hostOps2_W) : B5 m c (Proc.devRef .tc r) = B4 m c (Proc.devRef .tc r) :=
  StableHlo.after_of_writes_sub hostOps2 _ hostOps2_writes h
/-- After call 2. -/
def B6 : Dev nD → Valuation τ sig (Elt F) := exitW (dat2 (B5 m)) (B5 m)
theorem B6_of (c : Dev nD) (r : Ref sig .tc) (h : OnlyRead cfg2 r) :
    B6 m c (Proc.devRef .tc r) = B5 m c (Proc.devRef .tc r) :=
  exitW_of _ _ (launch2.to₀).sharedIn (fun _ _ => rfl) c r h
/-- After the host operations `hostOps3`. -/
def B7 : Dev nD → Valuation τ sig (Elt F) := fun c => StableHlo.after hostOps3 (B6 m c)
theorem B7_of (c : Dev nD) (r : Ref sig .tc) (h : r ∉ hostOps3_W) : B7 m c (Proc.devRef .tc r) = B6 m c (Proc.devRef .tc r) :=
  StableHlo.after_of_writes_sub hostOps3 _ hostOps3_writes h
/-- After call 3. -/
def B8 : Dev nD → Valuation τ sig (Elt F) := exitW (dat3 (B7 m)) (B7 m)
theorem B8_of (c : Dev nD) (r : Ref sig .tc) (h : OnlyRead cfg3 r) :
    B8 m c (Proc.devRef .tc r) = B7 m c (Proc.devRef .tc r) :=
  exitW_of _ _ (launch3.to₀).sharedIn (fun _ _ => rfl) c r h
/-- After the host operations `hostOps4`. -/
def B9 : Dev nD → Valuation τ sig (Elt F) := fun c => StableHlo.after hostOps4 (B8 m c)
theorem B9_of (c : Dev nD) (r : Ref sig .tc) (h : r ∉ hostOps4_W) : B9 m c (Proc.devRef .tc r) = B8 m c (Proc.devRef .tc r) :=
  StableHlo.after_of_writes_sub hostOps4 _ hostOps4_writes h
/-- After call 4. -/
def B10 : Dev nD → Valuation τ sig (Elt F) := exitW (dat4 (B9 m)) (B9 m)
theorem B10_of (c : Dev nD) (r : Ref sig .tc) (h : OnlyRead cfg4 r) :
    B10 m c (Proc.devRef .tc r) = B9 m c (Proc.devRef .tc r) :=
  exitW_of _ _ (launch4.to₀).sharedIn (fun _ _ => rfl) c r h
/-- After the host operations `hostOps5`. -/
def B11 : Dev nD → Valuation τ sig (Elt F) := fun c => StableHlo.after hostOps5 (B10 m c)
theorem B11_of (c : Dev nD) (r : Ref sig .tc) (h : r ∉ hostOps5_W) : B11 m c (Proc.devRef .tc r) = B10 m c (Proc.devRef .tc r) :=
  StableHlo.after_of_writes_sub hostOps5 _ hostOps5_writes h

/-! ## The launch -/

/-- Every call's proof data, each at the contents it is entered from. -/
def pdats : (p : Fin 5) → (c : Dev nD) → Dat τ (Elt F) Unit ℕ (UR sig nD τ) ℕ (Pipeline.pin (plain (Val := Elt F) cfgs) (plainAdm cfgs) p) c
  | ⟨0, _⟩ => fun c => dat0 (B1 m) c
  | ⟨1, _⟩ => fun c => dat1 (B3 m) c
  | ⟨2, _⟩ => fun c => dat2 (B5 m) c
  | ⟨3, _⟩ => fun c => dat3 (B7 m) c
  | ⟨4, _⟩ => fun c => dat4 (B9 m) c

/-- A call as a segment. -/
abbrev Reg (p : Fin 5) := Pipeline.RegionSeg (plain (Val := Elt F) cfgs) (plainAdm cfgs) (pdats m) () defs₀ Variants.none (fun _ => ∅) (fun _ _ => 0) p

/-- Call 0 as a segment. -/
def reg0 : Reg m 0 :=
  callRegion cfgs (pdats m) defs₀ 0 launch0.to₀ (B1 m) (obligation0 (B1 m)) (hin0 (B1 m)) (hout0 (B1 m))
/-- Call 1 as a segment. -/
def reg1 : Reg m 1 :=
  callRegion cfgs (pdats m) defs₀ 1 launch1.to₀ (B3 m) (obligation1 (B3 m)) (fun _ => .rfl) (fun _ => .rfl)
/-- Call 2 as a segment. -/
def reg2 : Reg m 2 :=
  callRegion cfgs (pdats m) defs₀ 2 launch2.to₀ (B5 m) (obligation2 (B5 m)) (fun _ => .rfl) (fun _ => .rfl)
/-- Call 3 as a segment. -/
def reg3 : Reg m 3 :=
  callRegion cfgs (pdats m) defs₀ 3 launch3.to₀ (B7 m) (obligation3 (B7 m)) (hin3 (B7 m)) (hout3 (B7 m))
/-- Call 4 as a segment. -/
def reg4 : Reg m 4 :=
  callRegion cfgs (pdats m) defs₀ 4 launch4.to₀ (B9 m) (obligation4 (B9 m)) (hin4 (B9 m)) (hout4 (B9 m))

/-- @main's segments in order. -/
abbrev segs : List (Pipeline.Seg (plain (Val := Elt F) cfgs) (plainAdm cfgs) (pdats m) () defs₀ Variants.none (fun _ => ∅) (fun _ _ => 0)) :=
  [ .host (hostSeg cfgs defs₀ hostOps0 hostOps0_sub hostOps0_fresh (B0 m)),
    .region (reg0 m),
    .host (hostSeg cfgs defs₀ hostOps1 hostOps1_sub hostOps1_fresh (B2 m)),
    .region (reg1 m),
    .host (hostSeg cfgs defs₀ hostOps2 hostOps2_sub hostOps2_fresh (B4 m)),
    .region (reg2 m),
    .host (hostSeg cfgs defs₀ hostOps3 hostOps3_sub hostOps3_fresh (B6 m)),
    .region (reg3 m),
    .host (hostSeg cfgs defs₀ hostOps4 hostOps4_sub hostOps4_fresh (B8 m)),
    .region (reg4 m),
    .host (hostSeg cfgs defs₀ hostOps5 hostOps5_sub hostOps5_fresh (B10 m)) ]
theorem main_run (c : Dev nD) : main (F := F) c = Pipeline.Seg.run (segs m) := (main_chain c).trans (by chain_rfl)
theorem no_unscoped : ∀ sm : SemLoc sig, sm.isScoped .tc = true := by decide

/-- From any memory with zero counters every weakly fair execution terminates without a fault, and ends with every unscoped buffer
    at the contents of the last boundary and every counter at zero. -/
theorem final : θ_run defs (onTc (τ := τ) (main (F := F))) ⟨m, fun _ => 0, ρ⟩ (fun r =>
      (∀ c : Dev nD, ∀ b : Ref sig .tc, ¬ (Proc.devRef .tc b : DevRef τ sig).isScoped → r.2.mem ((c.tc : Thread nD τ).loc b) = B11 m c (Proc.devRef .tc b))
      ∧ r.2.sem = fun _ => 0) :=
  launched cfgs cellOf_inj (pdats m) defs₀ m ρ main (segs m) (main_run m)
    (by simp only [segs, Pipeline.Seg.pipes_host, Pipeline.Seg.pipes_region, Pipeline.Seg.pipes_nil]; decide) (B0 m) (B11 m) rfl
    ⟨fun _ => .rfl, fun _ => .rfl, fun _ => .rfl, fun _ => .rfl, fun _ => .rfl, fun _ => .rfl, fun _ => .rfl, fun _ => .rfl, fun _ => .rfl, fun _ => .rfl, fun _ => .rfl, lands _⟩ no_unscoped

/-! ## The arguments -/

/-- The arguments end as launched. -/
theorem end_arg (c : Dev nD) (r : Ref sig .tc) (h : r ∈ ([main_arg0, main_arg1, main_arg2, main_arg3, main_arg4] : List (Ref sig .tc))) : B11 m c (Proc.devRef .tc r) = m ((c : Thread nD τ).loc r) :=
  (B11_of m c r (by revert r; decide)).trans <| (B10_of m c r (by revert r; decide)).trans <| (B9_of m c r (by revert r; decide)).trans <| (B8_of m c r (by revert r; decide)).trans <| (B7_of m c r (by revert r; decide)).trans <| (B6_of m c r (by revert r; decide)).trans <| (B5_of m c r (by revert r; decide)).trans <| (B4_of m c r (by revert r; decide)).trans <| (B3_of m c r (by revert r; decide)).trans <| (B2_of m c r (by revert r; decide)).trans <| (B1_of m c r (by revert r; decide))

/-- The frame: every execution terminates without a fault, the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c main_arg0 (by decide)).trans (end_arg m c main_arg0 (by decide)), (h.1 c main_arg1 (by decide)).trans (end_arg m c main_arg1 (by decide)), (h.1 c main_arg2 (by decide)).trans (end_arg m c main_arg2 (by decide)), (h.1 c main_arg3 (by decide)).trans (end_arg m c main_arg3 (by decide)), (h.1 c main_arg4 (by decide)).trans (end_arg m c main_arg4 (by decide))⟩, h.2⟩) (final m ρ)

end Cert.Kernel4Ideal.Calls

end
-- ==== Proof.CallsBranch.lean ====
/-
The calls of a branch's product: what each leaves, point by point.
-/
module

public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Product
public import Idealize.ShloMosaic.Lib.WordCmp
public import Idealize.ShloMosaic.Lib.VecWindow

@[expose] public section

set_option maxRecDepth 16384
set_option maxHeartbeats 2000000

noncomputable section

namespace Cert.Kernel5Ideal.Calls

open Cert.Kernel5Ideal Cert.Kernel5Ideal.Gen Cert.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (W : Dev nD → Valuation τ sig (Elt F))

/-! ## Call 0: `mm_branch` -/

/-- The blocks of the call's windows. -/
abbrev blk0 := blockAt cfg0 W

theorem when0 : Timing cfg0 2 1 (fun i => (i 2).val) k0_cond3 := by decide +kernel

/-- The accumulator before point `n`: the sum of the products of the points of its output block so far. -/
def acc0 (c : Dev nD) : ℕ → Vec F S1024x1024 .f32 :=
  accumAt (N := grid0.N) (by decide) 1 (fun t => k0_pay2 (blk0 W c 0 t) (blk0 W c 1 t)) (fun t a => k0_pay3 (blk0 W c 0 t) (blk0 W c 1 t) a)

/-- The invariant before point `n`. -/
def inv0 (c : Dev nD) (n : ℕ) : sProp 𝕄 := between c (Memref.whole cc0_scratch0) (Pipeline.scopedRestBut (Ix := Unit) (Name := ℕ) (U := UR sig nD τ) (Lvl := ℕ) (Val := Elt F) spec0 c [cc0_scratch0]) iprop(∃ r, prngReg c r) 1 (acc0 W c) n
theorem inv0_zero (c : Dev nD) (n : ℕ) (h : n % 1 = 0) : inv0 W c n = Pipeline.ΦA spec0 c := by
  unfold inv0; rw [between_zero _ _ _ _ _ _ _ h]; unfold Pipeline.ΦA; rw [Pipeline.scopedRest_split_of_list spec0 c [cc0_scratch0] (by decide) (by decide)]; simp only [has, owns_whole]; try rfl

/-- The call's proof data: the arrays as found, each input's buffer at its block after every point, the outputs' as computed. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => (acc0 W c (t.val + 1))
  Φ t := inv0 W c t.val
  q w := Pipeline.shareOf spec0 w
  owed _ := 0
theorem before0_0 (c : Dev nD) (t : Fin cfg0.N) (d) : (dat0 W c).before 0 t d = blk0 W c 0 t :=
  ((dat0 W c).before_in_eq_fetched 0 rfl (fun _ => rfl) (fun _ _ _ => rfl) (fun _ => rfl) t d).trans rfl
theorem before0_1 (c : Dev nD) (t : Fin cfg0.N) (d) : (dat0 W c).before 1 t d = blk0 W c 1 t :=
  ((dat0 W c).before_in_eq_fetched 1 rfl (fun _ => rfl) (fun _ _ _ => rfl) (fun _ => rfl) t d).trans rfl

/-- The body obligation at every point. -/
theorem obligation0 (c : Dev nD) : BodyObligation (dat0 W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  unfold bodyAt0; simp only [before0_0, before0_1]
  have w := when0 t
  exact product_point c _ _ _ _ _ _ _ _ _ 1 t.val (by decide) (acc0 W c) _ (fun a => a) _ (k0_pay3 (blk0 W c 0 t) (blk0 W c 1 t)) _ _ w.1 w.2.2.1
    (accumAt_first _ _ _ _ t) (accumAt_next _ _ _ _ t)
    (fun h => by unfold Dat.leavesExact; rw [w.2.2.2.1 h]; dsimp only [dat0]; try rfl)
    (fun h => Dat.leavesExact_idle (dat0 W c) 2 t (w.2.2.2.2 h).1 (w.2.2.2.2 h).2)
    fun xi xs => by
      rw [cc0_mm_branch_eq_skeleton]
      exact product_run (win0_0.stage (cfg0.slots t 0)) (win0_1.stage (cfg0.slots t 1)) (win0_2.stage (cfg0.slots t 2)) (Memref.whole cc0_scratch0) inb_S1024x1024_S1024x1024_0_0 inb_S1024x1024_S1024x1024_0_0 inb_S1024x1024_S1024x1024_0_0
        h_S1024x1024 h_S1024x1024 h_S1024x1024 (View.stores_vmem_bits_univ h_S1024x1024 rfl) rfl (k0_cond3 (grid0.coords t)) k0_pay2 k0_pay3 (fun a => a) defs₀ c
        (hstage0_0 ((cfg0.slots t 0).cast nbuf0_0)) (hstage0_1 ((cfg0.slots t 1).cast nbuf0_1)) (hstage0_2 ((cfg0.slots t 2).cast nbuf0_2)) (Memref.isWhole_whole _) w.2.1 (blk0 W c 0 t) (blk0 W c 1 t) xi xs Set.univ (fun _ => _)

theorem hin0 (c : Dev nD) : (Pipeline.ΦA spec0 c : sProp 𝕄) ⊢ (dat0 W c).Φ 0 := Entails.of_eq (inv0_zero W c 0 (by decide)).symm
theorem hout0 (c : Dev nD) : (dat0 W c).Φ (Fin.last _) ⊢ (Pipeline.ΦA spec0 c : sProp 𝕄) :=
  Entails.of_eq (inv0_zero W c 16 (by decide))

/-! ## Call 1: `mm_branch_dx` -/

/-- The blocks of the call's windows. -/
abbrev blk1 := blockAt cfg1 W

theorem when1 : Timing cfg1 2 1 (fun i => (i 2).val) k1_cond3 := by decide +kernel

/-- The accumulator before point `n`: the sum of the products of the points of its output block so far. -/
def acc1 (c : Dev nD) : ℕ → Vec F S1024x1024 .f32 :=
  accumAt (N := grid1.N) (by decide) 1 (fun t => k1_pay2 (blk1 W c 0 t) (blk1 W c 1 t)) (fun t a => k1_pay3 (blk1 W c 0 t) (blk1 W c 1 t) a)

/-- The invariant before point `n`. -/
def inv1 (c : Dev nD) (n : ℕ) : sProp 𝕄 := between c (Memref.whole cc1_scratch0) (Pipeline.scopedRestBut (Ix := Unit) (Name := ℕ) (U := UR sig nD τ) (Lvl := ℕ) (Val := Elt F) spec1 c [cc1_scratch0]) iprop(∃ r, prngReg c r) 1 (acc1 W c) n
theorem inv1_zero (c : Dev nD) (n : ℕ) (h : n % 1 = 0) : inv1 W c n = Pipeline.ΦA spec1 c := by
  unfold inv1; rw [between_zero _ _ _ _ _ _ _ h]; unfold Pipeline.ΦA; rw [Pipeline.scopedRest_split_of_list spec1 c [cc1_scratch0] (by decide) (by decide)]; simp only [has, owns_whole]; try rfl

/-- The call's proof data. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => (acc1 W c (t.val + 1))
  Φ t := inv1 W c t.val
  q w := Pipeline.shareOf spec1 w
  owed _ := 0
theorem before1_0 (c : Dev nD) (t : Fin cfg1.N) (d) : (dat1 W c).before 0 t d = blk1 W c 0 t :=
  ((dat1 W c).before_in_eq_fetched 0 rfl (fun _ => rfl) (fun _ _ _ => rfl) (fun _ => rfl) t d).trans rfl
theorem before1_1 (c : Dev nD) (t : Fin cfg1.N) (d) : (dat1 W c).before 1 t d = blk1 W c 1 t :=
  ((dat1 W c).before_in_eq_fetched 1 rfl (fun _ => rfl) (fun _ _ _ => rfl) (fun _ => rfl) t d).trans rfl

/-- The body obligation at every point. -/
theorem obligation1 (c : Dev nD) : BodyObligation (dat1 W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  unfold bodyAt1; simp only [before1_0, before1_1]
  have w := when1 t
  exact product_point c _ _ _ _ _ _ _ _ _ 1 t.val (by decide) (acc1 W c) _ (fun a => a) _ (k1_pay3 (blk1 W c 0 t) (blk1 W c 1 t)) _ _ w.1 w.2.2.1
    (accumAt_first _ _ _ _ t) (accumAt_next _ _ _ _ t)
    (fun h => by unfold Dat.leavesExact; rw [w.2.2.2.1 h]; dsimp only [dat1]; try rfl)
    (fun h => Dat.leavesExact_idle (dat1 W c) 2 t (w.2.2.2.2 h).1 (w.2.2.2.2 h).2)
    fun xi xs => by
      rw [cc1_mm_branch_dx_eq_skeleton]
      exact product_run (win1_0.stage (cfg1.slots t 0)) (win1_1.stage (cfg1.slots t 1)) (win1_2.stage (cfg1.slots t 2)) (Memref.whole cc1_scratch0) inb_S1024x2048_S1024x2048_0_0 inb_S1024x2048_S1024x2048_0_0 inb_S1024x1024_S1024x1024_0_0
        h_S1024x2048 h_S1024x2048 h_S1024x1024 (View.stores_vmem_bits_univ h_S1024x1024 rfl) rfl (k1_cond3 (grid1.coords t)) k1_pay2 k1_pay3 (fun a => a) defs₀ c
        (hstage1_0 ((cfg1.slots t 0).cast nbuf1_0)) (hstage1_1 ((cfg1.slots t 1).cast nbuf1_1)) (hstage1_2 ((cfg1.slots t 2).cast nbuf1_2)) (Memref.isWhole_whole _) w.2.1 (blk1 W c 0 t) (blk1 W c 1 t) xi xs Set.univ (fun _ => _)

theorem hin1 (c : Dev nD) : (Pipeline.ΦA spec1 c : sProp 𝕄) ⊢ (dat1 W c).Φ 0 := Entails.of_eq (inv1_zero W c 0 (by decide)).symm
theorem hout1 (c : Dev nD) : (dat1 W c).Φ (Fin.last _) ⊢ (Pipeline.ΦA spec1 c : sProp 𝕄) :=
  Entails.of_eq (inv1_zero W c 8 (by decide))

/-! ## Call 2: `mm_branch_dw` -/

/-- The blocks of the call's windows. -/
abbrev blk2 := blockAt cfg2 W

theorem when2 : Timing cfg2 2 4 (fun i => (i 2).val) k2_cond3 := by decide +kernel

/-- The accumulator before point `n`: the sum of the products of the points of its output block so far. -/
def acc2 (c : Dev nD) : ℕ → Vec F S1024x1024 .f32 :=
  accumAt (N := grid2.N) (by decide) 4 (fun t => k2_pay2 (blk2 W c 0 t) (blk2 W c 1 t)) (fun t a => k2_pay3 (blk2 W c 0 t) (blk2 W c 1 t) a)

/-- The invariant before point `n`. -/
def inv2 (c : Dev nD) (n : ℕ) : sProp 𝕄 := between c (Memref.whole cc2_scratch0) (Pipeline.scopedRestBut (Ix := Unit) (Name := ℕ) (U := UR sig nD τ) (Lvl := ℕ) (Val := Elt F) spec2 c [cc2_scratch0]) iprop(∃ r, prngReg c r) 4 (acc2 W c) n
theorem inv2_zero (c : Dev nD) (n : ℕ) (h : n % 4 = 0) : inv2 W c n = Pipeline.ΦA spec2 c := by
  unfold inv2; rw [between_zero _ _ _ _ _ _ _ h]; unfold Pipeline.ΦA; rw [Pipeline.scopedRest_split_of_list spec2 c [cc2_scratch0] (by decide) (by decide)]; simp only [has, owns_whole]; try rfl

/-- The call's proof data. -/
def dat2 (c : Dev nD) : Dat τ (Elt F) Unit ℕ (UR sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => (k2_pay4 (acc2 W c (t.val + 1)))
  Φ t := inv2 W c t.val
  q w := Pipeline.shareOf spec2 w
  owed _ := 0
theorem before2_0 (c : Dev nD) (t : Fin cfg2.N) (d) : (dat2 W c).before 0 t d = blk2 W c 0 t :=
  ((dat2 W c).before_in_eq_fetched 0 rfl (fun _ => rfl) (fun _ _ _ => rfl) (fun _ => rfl) t d).trans rfl
theorem before2_1 (c : Dev nD) (t : Fin cfg2.N) (d) : (dat2 W c).before 1 t d = blk2 W c 1 t :=
  ((dat2 W c).before_in_eq_fetched 1 rfl (fun _ => rfl) (fun _ _ _ => rfl) (fun _ => rfl) t d).trans rfl

/-- The body obligation at every point. -/
theorem obligation2 (c : Dev nD) : BodyObligation (dat2 W c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  unfold bodyAt2; simp only [before2_0, before2_1]
  have w := when2 t
  exact product_point c _ _ _ _ _ _ _ _ _ 4 t.val (by decide) (acc2 W c) _ k2_pay4 _ (k2_pay3 (blk2 W c 0 t) (blk2 W c 1 t)) _ _ w.1 w.2.2.1
    (accumAt_first _ _ _ _ t) (accumAt_next _ _ _ _ t)
    (fun h => by unfold Dat.leavesExact; rw [w.2.2.2.1 h]; dsimp only [dat2]; try rfl)
    (fun h => Dat.leavesExact_idle (dat2 W c) 2 t (w.2.2.2.2 h).1 (w.2.2.2.2 h).2)
    fun xi xs => by
      rw [cc2_mm_branch_dw_eq_skeleton]
      exact product_run (win2_0.stage (cfg2.slots t 0)) (win2_1.stage (cfg2.slots t 1)) (win2_2.stage (cfg2.slots t 2)) (Memref.whole cc2_scratch0) inb_S1024x2048_S1024x2048_0_0 inb_S2048x1024_S2048x1024_0_0 inb_S1024x1024_S1024x1024_0_0
        h_S1024x2048 h_S2048x1024 h_S1024x1024 (View.stores_vmem h_S1024x1024 ((hstage2_2 ((cfg2.slots t 2).cast nbuf2_2)).storeExact_slice rfl _ packedbf16_S1024x1024_S1024x1024_0_0) (fun _ => rfl)) rfl (k2_cond3 (grid2.coords t)) k2_pay2 k2_pay3 (fun a => k2_pay4 a) defs₀ c
        (hstage2_0 ((cfg2.slots t 0).cast nbuf2_0)) (hstage2_1 ((cfg2.slots t 1).cast nbuf2_1)) (hstage2_2 ((cfg2.slots t 2).cast nbuf2_2)) (Memref.isWhole_whole _) w.2.1 (blk2 W c 0 t) (blk2 W c 1 t) xi xs Set.univ (fun _ => _)

theorem hin2 (c : Dev nD) : (Pipeline.ΦA spec2 c : sProp 𝕄) ⊢ (dat2 W c).Φ 0 := Entails.of_eq (inv2_zero W c 0 (by decide)).symm
theorem hout2 (c : Dev nD) : (dat2 W c).Φ (Fin.last _) ⊢ (Pipeline.ΦA spec2 c : sProp 𝕄) :=
  Entails.of_eq (inv2_zero W c 8 (by decide))

end Cert.Kernel5Ideal.Calls

end
-- ==== Proof.RunBranch.lean ====
/-
A branch's product from launch to return: its frame, and what every buffer holds at the end.
-/
module

public import proofs.«01_k».proof.Proof.CallsBranch
public import proofs.«01_k».proof.Proof.Gen.Kernel5Ideal.Regions

@[expose] public section

set_option maxRecDepth 16384

noncomputable section

namespace Cert.Kernel5Ideal.Calls

open Cert.Kernel5Ideal Cert.Kernel5Ideal.Gen Cert.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary of @main, and what each item leaves unchanged -/

/-- Core `c`'s buffers at launch. -/
def B0 : Dev nD → Valuation τ sig (Elt F) := fun c b => m (c, b)
/-- After the host operations `hostOps0`. -/
def B1 : Dev nD → Valuation τ sig (Elt F) := fun c => StableHlo.after hostOps0 (B0 m c)
theorem B1_of (c : Dev nD) (r : Ref sig .tc) (h : r ∉ hostOps0_W) : B1 m c (Proc.devRef .tc r) = B0 m c (Proc.devRef .tc r) :=
  StableHlo.after_of_writes_sub hostOps0 _ hostOps0_writes h
/-- After call 0. -/
def B2 : Dev nD → Valuation τ sig (Elt F) := exitW (dat0 (B1 m)) (B1 m)
theorem B2_of (c : Dev nD) (r : Ref sig .tc) (h : OnlyRead cfg0 r) :
    B2 m c (Proc.devRef .tc r) = B1 m c (Proc.devRef .tc r) :=
  exitW_of _ _ (launch0.to₀).sharedIn (fun _ _ => rfl) c r h
/-- After call 1. -/
def B3 : Dev nD → Valuation τ sig (Elt F) := exitW (dat1 (B2 m)) (B2 m)
theorem B3_of (c : Dev nD) (r : Ref sig .tc) (h : OnlyRead cfg1 r) :
    B3 m c (Proc.devRef .tc r) = B2 m c (Proc.devRef .tc r) :=
  exitW_of _ _ (launch1.to₀).sharedIn (fun _ _ => rfl) c r h
/-- After the host operations `hostOps2`. -/
def B4 : Dev nD → Valuation τ sig (Elt F) := fun c => StableHlo.after hostOps2 (B3 m c)
theorem B4_of (c : Dev nD) (r : Ref sig .tc) (h : r ∉ hostOps2_W) : B4 m c (Proc.devRef .tc r) = B3 m c (Proc.devRef .tc r) :=
  StableHlo.after_of_writes_sub hostOps2 _ hostOps2_writes h
/-- After call 2. -/
def B5 : Dev nD → Valuation τ sig (Elt F) := exitW (dat2 (B4 m)) (B4 m)
theorem B5_of (c : Dev nD) (r : Ref sig .tc) (h : OnlyRead cfg2 r) :
    B5 m c (Proc.devRef .tc r) = B4 m c (Proc.devRef .tc r) :=
  exitW_of _ _ (launch2.to₀).sharedIn (fun _ _ => rfl) c r h
/-- After the host operations `hostOps3`. -/
def B6 : Dev nD → Valuation τ sig (Elt F) := fun c => StableHlo.after hostOps3 (B5 m c)
theorem B6_of (c : Dev nD) (r : Ref sig .tc) (h : r ∉ hostOps3_W) : B6 m c (Proc.devRef .tc r) = B5 m c (Proc.devRef .tc r) :=
  StableHlo.after_of_writes_sub hostOps3 _ hostOps3_writes h

/-! ## The launch -/

/-- Every call's proof data, each at the contents it is entered from. -/
def pdats : (p : Fin 3) → (c : Dev nD) → Dat τ (Elt F) Unit ℕ (UR sig nD τ) ℕ (Pipeline.pin (plain (Val := Elt F) cfgs) (plainAdm cfgs) p) c
  | ⟨0, _⟩ => fun c => dat0 (B1 m) c
  | ⟨1, _⟩ => fun c => dat1 (B2 m) c
  | ⟨2, _⟩ => fun c => dat2 (B4 m) c

/-- A call as a segment. -/
abbrev Reg (p : Fin 3) := Pipeline.RegionSeg (plain (Val := Elt F) cfgs) (plainAdm cfgs) (pdats m) () defs₀ Variants.none (fun _ => ∅) (fun _ _ => 0) p

/-- Call 0 as a segment. -/
def reg0 : Reg m 0 :=
  callRegion cfgs (pdats m) defs₀ 0 launch0.to₀ (B1 m) (obligation0 (B1 m)) (hin0 (B1 m)) (hout0 (B1 m))
/-- Call 1 as a segment. -/
def reg1 : Reg m 1 :=
  callRegion cfgs (pdats m) defs₀ 1 launch1.to₀ (B2 m) (obligation1 (B2 m)) (hin1 (B2 m)) (hout1 (B2 m))
/-- Call 2 as a segment. -/
def reg2 : Reg m 2 :=
  callRegion cfgs (pdats m) defs₀ 2 launch2.to₀ (B4 m) (obligation2 (B4 m)) (hin2 (B4 m)) (hout2 (B4 m))

/-- @main's segments in order. -/
abbrev segs : List (Pipeline.Seg (plain (Val := Elt F) cfgs) (plainAdm cfgs) (pdats m) () defs₀ Variants.none (fun _ => ∅) (fun _ _ => 0)) :=
  [ .host (hostSeg cfgs defs₀ hostOps0 hostOps0_sub hostOps0_fresh (B0 m)),
    .region (reg0 m),
    .region (reg1 m),
    .host (hostSeg cfgs defs₀ hostOps2 hostOps2_sub hostOps2_fresh (B3 m)),
    .region (reg2 m),
    .host (hostSeg cfgs defs₀ hostOps3 hostOps3_sub hostOps3_fresh (B5 m)) ]
theorem main_run (c : Dev nD) : main (F := F) c = Pipeline.Seg.run (segs m) := (main_chain c).trans (by chain_rfl)
theorem no_unscoped : ∀ sm : SemLoc sig, sm.isScoped .tc = true := by decide

/-- From any memory with zero counters every weakly fair execution terminates without a fault, and ends with every unscoped buffer
    at the contents of the last boundary and every counter at zero. -/
theorem final : θ_run defs (onTc (τ := τ) (main (F := F))) ⟨m, fun _ => 0, ρ⟩ (fun r =>
      (∀ c : Dev nD, ∀ b : Ref sig .tc, ¬ (Proc.devRef .tc b : DevRef τ sig).isScoped → r.2.mem ((c.tc : Thread nD τ).loc b) = B6 m c (Proc.devRef .tc b))
      ∧ r.2.sem = fun _ => 0) :=
  launched cfgs cellOf_inj (pdats m) defs₀ m ρ main (segs m) (main_run m)
    (by simp only [segs, Pipeline.Seg.pipes_host, Pipeline.Seg.pipes_region, Pipeline.Seg.pipes_nil]; decide) (B0 m) (B6 m) rfl
    ⟨fun _ => .rfl, fun _ => .rfl, fun _ => .rfl, fun _ => .rfl, fun _ => .rfl, fun _ => .rfl, lands _⟩ no_unscoped

/-! ## The arguments -/

/-- The arguments end as launched. -/
theorem end_arg (c : Dev nD) (r : Ref sig .tc) (h : r ∈ ([main_arg0, main_arg1, main_arg2] : List (Ref sig .tc))) : B6 m c (Proc.devRef .tc r) = m ((c : Thread nD τ).loc r) :=
  (B6_of m c r (by revert r; decide)).trans <| (B5_of m c r (by revert r; decide)).trans <| (B4_of m c r (by revert r; decide)).trans <| (B3_of m c r (by revert r; decide)).trans <| (B2_of m c r (by revert r; decide)).trans <| (B1_of m c r (by revert r; decide))

/-- The frame: every execution terminates without a fault, the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c main_arg0 (by decide)).trans (end_arg m c main_arg0 (by decide)), (h.1 c main_arg1 (by decide)).trans (end_arg m c main_arg1 (by decide)), (h.1 c main_arg2 (by decide)).trans (end_arg m c main_arg2 (by decide))⟩, h.2⟩) (final m ρ)

end Cert.Kernel5Ideal.Calls

end
-- ==== Proof.Printed.lean ====
/- The frames of four programs as printed. Each has, operation by operation, the text of the program that is read over the
   extended reals, whose run is proved over any float operations. -/
module

public import proofs.«01_k».proof.Proof.RunIn
public import proofs.«01_k».proof.Proof.RunFfn
public import proofs.«01_k».proof.Proof.RunOut
public import proofs.«01_k».proof.Proof.RunBranch
public import proofs.«01_k».proof.Proof.Gen.Kernel2
public import proofs.«01_k».proof.Proof.Gen.Kernel3
public import proofs.«01_k».proof.Proof.Gen.Kernel4
public import proofs.«01_k».proof.Proof.Gen.Kernel5
public import Idealize.ShloMosaic.Lib.Tactic

@[expose] public section

set_option maxRecDepth 16384

noncomputable section

namespace Cert.Kernel2.Calls

open Cert.Kernel2 Cert.Kernel2.Gen
open Idealize.ShloMosaic Idealize.ShloMosaic.TcCoe Idealize.ShloMosaic.Tactic Idealize.SL.Sem

variable {F : FTy → Type} [FloatOps F] (m : (ℓ : Loc nD τ sig) → Buf (Elt F) ℓ) (ρ : Dev nD → PrngReg)

/-- The feed-forward half ends with its arguments unchanged and no signal pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Eq.mp ?_ (Cert.Kernel2Ideal.Calls.frame (F := F) m ρ)
  sl_kernel_rfl

end Cert.Kernel2.Calls

namespace Cert.Kernel3.Calls

open Cert.Kernel3 Cert.Kernel3.Gen
open Idealize.ShloMosaic Idealize.ShloMosaic.TcCoe Idealize.ShloMosaic.Tactic Idealize.SL.Sem

variable {F : FTy → Type} [FloatOps F] (m : (ℓ : Loc nD τ sig) → Buf (Elt F) ℓ) (ρ : Dev nD → PrngReg)

/-- The input projection ends with its arguments unchanged and no signal pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Eq.mp ?_ (Cert.Kernel3Ideal.Calls.frame (F := F) m ρ)
  sl_kernel_rfl

end Cert.Kernel3.Calls

namespace Cert.Kernel4.Calls

open Cert.Kernel4 Cert.Kernel4.Gen
open Idealize.ShloMosaic Idealize.ShloMosaic.TcCoe Idealize.ShloMosaic.Tactic Idealize.SL.Sem

variable {F : FTy → Type} [FloatOps F] (m : (ℓ : Loc nD τ sig) → Buf (Elt F) ℓ) (ρ : Dev nD → PrngReg)

/-- The calls of the output product and of the norm behind it end with their arguments unchanged and no signal pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Eq.mp ?_ (Cert.Kernel4Ideal.Calls.frame (F := F) m ρ)
  sl_kernel_rfl

end Cert.Kernel4.Calls

namespace Cert.Kernel5.Calls

open Cert.Kernel5 Cert.Kernel5.Gen
open Idealize.ShloMosaic Idealize.ShloMosaic.TcCoe Idealize.ShloMosaic.Tactic Idealize.SL.Sem

variable {F : FTy → Type} [FloatOps F] (m : (ℓ : Loc nD τ sig) → Buf (Elt F) ℓ) (ρ : Dev nD → PrngReg)

/-- The calls of a branch's product end with their arguments unchanged and no signal pending. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Eq.mp ?_ (Cert.Kernel5Ideal.Calls.frame (F := F) m ρ)
  sl_kernel_rfl

end Cert.Kernel5.Calls

end
-- ==== Proof.Norm.lean ====
/- Root-mean-square normalisation of the rows of a matrix, its gradients, and the gated unit of the feed-forward half, as
   functions of real numbers; that a block of rows is treated as the whole matrix is; and that the gradients which
   differentiation leaves are the ones that the calls compute. -/
module

public import proofs.«01_k».proof.Proof.Lift2

@[expose] public section

set_option maxRecDepth 16384

noncomputable section

namespace Cert.Stick

open Idealize.ShloMosaic Idealize.ShloMosaic.ValueIdx
open scoped BigOperators

variable (x u : ℕ → ℕ → ℝ) (w : ℕ → ℝ)

/-- The mean of a row's squares and a small number. -/
def ms (r : ℕ) : ℝ := (∑ c ∈ Finset.range 2048, x r c * x r c) / 2048 + eps
/-- Its inverse square root. -/
def rs (r : ℕ) : ℝ := (Real.sqrt (ms x r))⁻¹
/-- The normalised rows, scaled by `w`. -/
def rms (r c : ℕ) : ℝ := x r c * rs x r * w c
/-- The gradient of the rows, `u` that of the scaled ones. -/
def rmsDx (r c : ℕ) : ℝ := rs x r * (u r c * w c - x r c * rs x r * ((∑ j ∈ Finset.range 2048, u r j * w j * (x r j * rs x r)) / 2048))
/-- The gradient of the scale, over `n` rows. -/
def rmsDw (n c : ℕ) : ℝ := ∑ r ∈ Finset.range n, u r c * (x r c * rs x r)

theorem ms_pos (r : ℕ) : 0 < ms x r :=
  add_pos_of_nonneg_of_pos (div_nonneg (Finset.sum_nonneg fun _ _ => mul_self_nonneg _) (by norm_num)) eps_pos

theorem rs_div_ms (r : ℕ) : rs x r / ms x r = rs x r * (rs x r * rs x r) := by
  have h := Real.mul_self_sqrt (ms_pos x r).le
  have h0 : Real.sqrt (ms x r) ≠ 0 := (Real.sqrt_pos.mpr (ms_pos x r)).ne'
  have : rs x r * rs x r = (ms x r)⁻¹ := by unfold rs; rw [← mul_inv, h]
  rw [this, div_eq_mul_inv]

/-- What the product rule leaves is the gradient of the rows: `s` is the share of the mean of squares. -/
theorem rmsDx_ref (r c : ℕ) (s : ℝ) (hs : s = (∑ j ∈ Finset.range 2048, x r j * (u r j * w j)) * (-(1 / 2) * (rs x r / ms x r)) / 2048) :
    u r c * w c * rs x r + x r c * s + s * x r c = rmsDx x u w r c := by
  have e : ∑ j ∈ Finset.range 2048, u r j * w j * (x r j * rs x r) = rs x r * ∑ j ∈ Finset.range 2048, x r j * (u r j * w j) := by
    rw [Finset.mul_sum]; exact Finset.sum_congr rfl fun _ _ => by ring
  unfold rmsDx
  rw [hs, e, rs_div_ms]; ring

/-! ### Blocks of whole rows -/

variable (a t : ℕ)

theorem part_row (f : ℕ → ℕ → ℝ) (b r c : ℕ) : part a b t 0 f r c = f (t * a + 1 * r) c := by
  unfold part; rw [Nat.zero_mul, Nat.zero_add, Nat.one_mul c]
theorem rs_part (r : ℕ) : rs (part a 2048 t 0 x) r = rs x (t * a + 1 * r) := by
  unfold rs ms; simp only [part_row]
theorem rms_part : rms (part a 2048 t 0 x) w = part a 2048 t 0 (rms x w) := by
  funext r c; rw [part_row]; unfold rms; rw [rs_part, part_row]
theorem rmsDx_part : rmsDx (part a 2048 t 0 x) (part a 2048 t 0 u) w = part a 2048 t 0 (rmsDx x u w) := by
  funext r c; rw [part_row]; unfold rmsDx; simp only [rs_part, part_row]

/-- The scale's gradient from the sums of the blocks of rows. -/
theorem rmsDw_blocks (k c : ℕ) : ∑ i ∈ Finset.range k, rmsDw (part a 2048 i 0 x) (part a 2048 i 0 u) a c = rmsDw x u (k * a) c := by
  unfold rmsDw
  rw [← sum_blocks k a]
  simp only [rs_part, part_row]

/-! ### The gated unit -/

/-- The logistic function. -/
def lg (y : ℝ) : ℝ := 1 / (1 + Real.exp (-y))
/-- Its slope times the argument, with the function: the slope of the gate. -/
def lgD (y : ℝ) : ℝ := lg y * (1 + y * (1 - lg y))

theorem one_add_exp_ne (y : ℝ) : 1 + Real.exp y ≠ 0 := by have := Real.exp_pos y; positivity

section Tile
variable {M : ℕ} {f g : ℕ → ℕ → ℝ} {v : ℕ → ℝ}

/-- The inverse square root of the mean square of each row, as a call computes it. -/
theorem root_tile (h : (⟨2, ![M, 2048]⟩ : Shape).Reduces [1] ⟨1, ![M]⟩) (h1 : FKind.Formats .f32) (h2) (h3 : (⟨1, ![M]⟩ : Shape).ShapeCasts ⟨2, ![M, 1]⟩) :
    rsqrt (addf (divf (shapeCast ⟨2, ![M, 1]⟩ (multiReduction .add [1] ⟨1, ![M]⟩ (mulf (L2 .f32 f : FVec Ideal ⟨2, ![M, 2048]⟩ .f32) (L2 .f32 f)) 0x00000000#32 h h1 h2) h3)
      (broadcast ⟨2, ![M, 1]⟩ (Scalar.ofBits (F := Ideal) .f32 0x45000000#32))) (broadcast ⟨2, ![M, 1]⟩ (Scalar.ofBits (F := Ideal) .f32 0x358637BD#32)))
      = L2 .f32 (fun r _ => rs f r) := by
  rw [mulf_L2, rowsums_L2, bc_2048, divf_L2 _ _ (fun _ _ => by norm_num), bc_eps, addf_L2]
  exact rsqrt_L2 _ (fun r _ => ms_pos f r)

/-- The normalised rows, scaled, as a call computes them. -/
theorem norm_tile (h : (⟨2, ![M, 2048]⟩ : Shape).Reduces [1] ⟨1, ![M]⟩) (h1 : FKind.Formats .f32) (h2) (h3 : (⟨1, ![M]⟩ : Shape).ShapeCasts ⟨2, ![M, 1]⟩)
    (hb : (⟨2, ![M, 1]⟩ : Shape).Broadcasts ⟨2, ![M, 2048]⟩) (hw : (⟨2, ![1, 2048]⟩ : Shape).Broadcasts ⟨2, ![M, 2048]⟩) :
    mulf (mulf (L2 .f32 f : FVec Ideal ⟨2, ![M, 2048]⟩ .f32) (broadcastTo ⟨2, ![M, 2048]⟩
      (rsqrt (addf (divf (shapeCast ⟨2, ![M, 1]⟩ (multiReduction .add [1] ⟨1, ![M]⟩ (mulf (L2 .f32 f : FVec Ideal ⟨2, ![M, 2048]⟩ .f32) (L2 .f32 f)) 0x00000000#32 h h1 h2) h3)
      (broadcast ⟨2, ![M, 1]⟩ (Scalar.ofBits (F := Ideal) .f32 0x45000000#32))) (broadcast ⟨2, ![M, 1]⟩ (Scalar.ofBits (F := Ideal) .f32 0x358637BD#32)))) hb))
      (broadcastTo ⟨2, ![M, 2048]⟩ (L2 .f32 (fun _ c => v c) : FVec Ideal ⟨2, ![1, 2048]⟩ .f32) hw) = L2 .f32 (rms f v) := by
  rw [root_tile, spread_col, mulf_L2, spread_row, mulf_L2]
  rfl

/-- The gradient of normalised rows, as a call computes it. -/
theorem grad_tile (h : (⟨2, ![M, 2048]⟩ : Shape).Reduces [1] ⟨1, ![M]⟩) (h1 : FKind.Formats .f32) (h2) (h3 : (⟨1, ![M]⟩ : Shape).ShapeCasts ⟨2, ![M, 1]⟩)
    (hb : (⟨2, ![M, 1]⟩ : Shape).Broadcasts ⟨2, ![M, 2048]⟩) (hw : (⟨2, ![1, 2048]⟩ : Shape).Broadcasts ⟨2, ![M, 2048]⟩) :
    mulf (broadcastTo ⟨2, ![M, 2048]⟩ (L2 .f32 (fun r _ => rs f r) : FVec Ideal ⟨2, ![M, 1]⟩ .f32) hb)
      (subf (mulf (L2 .f32 g : FVec Ideal ⟨2, ![M, 2048]⟩ .f32) (broadcastTo ⟨2, ![M, 2048]⟩ (L2 .f32 (fun _ c => v c) : FVec Ideal ⟨2, ![1, 2048]⟩ .f32) hw))
        (mulf (L2 .f32 (fun r c => f r c * rs f r)) (broadcastTo ⟨2, ![M, 2048]⟩ (divf (shapeCast ⟨2, ![M, 1]⟩ (multiReduction .add [1] ⟨1, ![M]⟩
          (mulf (mulf (L2 .f32 g : FVec Ideal ⟨2, ![M, 2048]⟩ .f32) (broadcastTo ⟨2, ![M, 2048]⟩ (L2 .f32 (fun _ c => v c) : FVec Ideal ⟨2, ![1, 2048]⟩ .f32) hw)) (L2 .f32 (fun r c => f r c * rs f r))) 0x00000000#32 h h1 h2) h3)
          (broadcast ⟨2, ![M, 1]⟩ (Scalar.ofBits (F := Ideal) .f32 0x45000000#32))) hb)))
      = L2 .f32 (rmsDx f g v) := by
  rw [spread_row, mulf_L2, mulf_L2, rowsums_L2, bc_2048, divf_L2 _ _ (fun _ _ => by norm_num), spread_col, spread_col, mulf_L2, subf_L2, mulf_L2]
  rfl

/-- The gradient of the scale over the rows of a block. -/
theorem scale_tile (h : (⟨2, ![M, 2048]⟩ : Shape).Reduces [0] ⟨1, ![2048]⟩) (h1 : FKind.Formats .f32) (h2) (h3 : (⟨1, ![2048]⟩ : Shape).ShapeCasts ⟨2, ![1, 2048]⟩) :
    shapeCast ⟨2, ![1, 2048]⟩ (multiReduction .add [0] ⟨1, ![2048]⟩ (mulf (L2 .f32 g : FVec Ideal ⟨2, ![M, 2048]⟩ .f32) (L2 .f32 (fun r c => f r c * rs f r))) 0x00000000#32 h h1 h2) h3
      = L2 .f32 (fun _ c => rmsDw f g M c) := by
  rw [mulf_L2, colsums_L2]
  rfl

/-- The logistic function, as a call computes it. -/
theorem lg_tile {d : Fin 2 → ℕ} : divf (broadcast ⟨2, d⟩ (Scalar.ofBits (F := Ideal) .f32 0x3F800000#32)) (addf (broadcast ⟨2, d⟩ (Scalar.ofBits (F := Ideal) .f32 0x3F800000#32))
      (exp (subf (broadcast ⟨2, d⟩ (Scalar.ofBits (F := Ideal) .f32 0x00000000#32)) (L2 .f32 f)))) = L2 .f32 (fun r c => lg (f r c)) := by
  rw [bc_zero, subf_L2, exp_L2, bc_one, addf_L2, divf_L2 _ _ (fun _ _ => one_add_exp_ne _)]
  exact L2_congr fun r c _ _ => by unfold lg; rw [zero_sub]

/-- The gated product, as a call computes it. -/
theorem gated_tile {d : Fin 2 → ℕ} : mulf (mulf (L2 .f32 f) (divf (broadcast ⟨2, d⟩ (Scalar.ofBits (F := Ideal) .f32 0x3F800000#32)) (addf (broadcast ⟨2, d⟩ (Scalar.ofBits (F := Ideal) .f32 0x3F800000#32))
      (exp (subf (broadcast ⟨2, d⟩ (Scalar.ofBits (F := Ideal) .f32 0x00000000#32)) (L2 .f32 f)))))) (L2 .f32 g) = L2 .f32 (fun r c => f r c * lg (f r c) * g r c) := by
  rw [lg_tile, mulf_L2, mulf_L2]

/-- The gradient of the gate, as a call computes it: `u` is the gated product's. -/
theorem gate_tile {d : Fin 2 → ℕ} {u : ℕ → ℕ → ℝ} : mulf (mulf (L2 .f32 u) (L2 .f32 g)) (mulf (divf (broadcast ⟨2, d⟩ (Scalar.ofBits (F := Ideal) .f32 0x3F800000#32)) (addf (broadcast ⟨2, d⟩ (Scalar.ofBits (F := Ideal) .f32 0x3F800000#32))
      (exp (subf (broadcast ⟨2, d⟩ (Scalar.ofBits (F := Ideal) .f32 0x00000000#32)) (L2 .f32 f)))))
      (addf (broadcast ⟨2, d⟩ (Scalar.ofBits (F := Ideal) .f32 0x3F800000#32)) (mulf (L2 .f32 f) (subf (broadcast ⟨2, d⟩ (Scalar.ofBits (F := Ideal) .f32 0x3F800000#32))
        (divf (broadcast ⟨2, d⟩ (Scalar.ofBits (F := Ideal) .f32 0x3F800000#32)) (addf (broadcast ⟨2, d⟩ (Scalar.ofBits (F := Ideal) .f32 0x3F800000#32))
      (exp (subf (broadcast ⟨2, d⟩ (Scalar.ofBits (F := Ideal) .f32 0x00000000#32)) (L2 .f32 f)))))))))
      = L2 .f32 (fun r c => u r c * g r c * lgD (f r c)) := by
  rw [lg_tile, bc_one, subf_L2, mulf_L2, mulf_L2, addf_L2, mulf_L2, mulf_L2]
  rfl

/-- The gradient of the other factor, as a call computes it. -/
theorem factor_tile {d : Fin 2 → ℕ} {u : ℕ → ℕ → ℝ} : mulf (L2 .f32 u) (mulf (L2 .f32 f) (divf (broadcast ⟨2, d⟩ (Scalar.ofBits (F := Ideal) .f32 0x3F800000#32)) (addf (broadcast ⟨2, d⟩ (Scalar.ofBits (F := Ideal) .f32 0x3F800000#32))
      (exp (subf (broadcast ⟨2, d⟩ (Scalar.ofBits (F := Ideal) .f32 0x00000000#32)) (L2 .f32 f)))))) = L2 .f32 (fun r c => u r c * (f r c * lg (f r c))) := by
  rw [lg_tile, mulf_L2, mulf_L2]

end Tile

end Cert.Stick

end
-- ==== Proof.Pad.lean ====
/- Matrices of real numbers joined side by side, and that a product over both is the sum of the two products. -/
module

public import proofs.«01_k».proof.Proof.Norm

@[expose] public section

set_option maxRecDepth 16384

noncomputable section

namespace Cert.Stick

open Idealize.ShloMosaic Idealize.ShloMosaic.ValueIdx
open scoped BigOperators

variable {M N : ℕ} {φ : FTy}

/-- Of matrices joined side by side, an entry is one of the piece whose columns hold it. -/
theorem joined (xs : List ((s : Shape) × (s.Idx → EReal))) (h : Shape.Concatenates (xs.map (·.1)) ⟨2, ![M, N]⟩ (1 : Fin 2)) (j : (⟨2, ![M, N]⟩ : Shape).Idx)
    (k n pre : ℕ) (g : ℕ → ℕ → ℝ) (hk : k < xs.length) (hx : xs[k] = ⟨⟨2, ![M, n]⟩, (L2 φ g : FVec Ideal ⟨2, ![M, n]⟩ φ)⟩)
    (hp : (((xs.take k).map (·.1)).map fun s => if h : s.rank = (⟨2, ![M, N]⟩ : Shape).rank then s.size ((1 : Fin 2).cast h.symm) else 0).sum = pre)
    (h1 : pre ≤ (j 1).val) (h2 : (j 1).val < pre + n) :
    concatenate ⟨2, ![M, N]⟩ (1 : Fin 2) xs h j = ((g (j 0).val ((j 1).val - pre) : ℝ) : EReal) := by
  refine (concatenate_apply_piece (t := ⟨2, ![M, N]⟩) (1 : Fin 2) xs h j k hk _ _ hx rfl pre hp
    (ValueIdx.ix2 ⟨(j 0).val, idx2_lt0 j⟩ ⟨(j 1).val - pre, by omega⟩) (fun b hb => ?_) ?_).trans rfl
  · match b with
    | ⟨0, _⟩ => rfl
    | ⟨1, _⟩ => exact absurd rfl hb
  · show pre + ((j 1).val - pre) = (j 1).val
    omega

/-- Two matrices side by side, the first of `n` columns. -/
def beside (n : ℕ) (a b : ℕ → ℕ → ℝ) (r c : ℕ) : ℝ := if c < n then a r c else b r (c - n)

theorem beside_lt {n : ℕ} (a b : ℕ → ℕ → ℝ) (r c : ℕ) (h : c < n) : beside n a b r c = a r c := if_pos h
theorem beside_add {n : ℕ} (a b : ℕ → ℕ → ℝ) (r c : ℕ) : beside n a b r (n + c) = b r c := by
  unfold beside; rw [if_neg (by omega), Nat.add_sub_cancel_left]

theorem sum_beside (n k : ℕ) (a b a' b' : ℕ → ℕ → ℝ) (r r' : ℕ) : ∑ j ∈ Finset.range (n + k), beside n a b r j * beside n a' b' r' j
    = (∑ j ∈ Finset.range n, a r j * a' r' j) + ∑ j ∈ Finset.range k, b r j * b' r' j := by
  rw [Finset.sum_range_add]
  simp only [beside_add]
  exact congrArg (· + _) (Finset.sum_congr rfl fun j hj => by rw [beside_lt _ _ _ _ (Finset.mem_range.mp hj), beside_lt _ _ _ _ (Finset.mem_range.mp hj)])

theorem joined_two (n : ℕ) (hN : N = n + n) (a b : ℕ → ℕ → ℝ) (h) : (concatenate ⟨2, ![M, N]⟩ (1 : Fin 2) [⟨⟨2, ![M, n]⟩, (L2 φ a : FVec Ideal ⟨2, ![M, n]⟩ φ)⟩,
    ⟨⟨2, ![M, n]⟩, (L2 φ b : FVec Ideal ⟨2, ![M, n]⟩ φ)⟩] h : FVec Ideal ⟨2, ![M, N]⟩ φ) = L2 φ (beside n a b) := by
  funext j
  have hj := idx2_lt1 j
  show _ = ((beside n a b (j 0).val (j 1).val : ℝ) : EReal)
  unfold beside
  split_ifs with l
  · exact (joined (φ := φ) _ _ j 0 n 0 a (by simp) (by simp) (by simp) (by omega) (by omega)).trans rfl
  · exact joined (φ := φ) _ _ j 1 n n b (by simp) (by simp) (by simp) (by omega) (by omega)

end Cert.Stick

end
-- ==== Proof.ValFfn.lean ====
/- The contents of every output of the feed-forward half's calls, over arrays of real numbers. -/
module

public import proofs.«01_k».proof.Proof.CallsFfnB
public import proofs.«01_k».proof.Proof.CallsFfnA
public import proofs.«01_k».proof.Proof.Pad
public import Idealize.ShloMosaic.Lib.Pipeline.ValueKit.Geometry

@[expose] public section

set_option maxRecDepth 16384

noncomputable section

namespace Cert.Kernel2Ideal.Calls

open Cert.Kernel2Ideal Cert.Kernel2Ideal.Gen Cert.Kernel2Ideal.Facts₀ Cert.Kernel2Ideal.Facts Cert.Stick
open Idealize.ShloMosaic Idealize.ShloMosaic.TcCoe Idealize.ShloMosaic.ValueIdx
open Idealize.SL Idealize.SL.RA
open Idealize.ShloMosaic.Pipeline (Dat)
open scoped BigOperators

variable (W : Dev nD → Valuation τ sig (Elt Ideal)) (c : Dev nD)
variable {f g u v : ℕ → ℕ → ℝ} {w : ℕ → ℝ}

/-! ### Call 0: `rms_ffn_pre` -/

theorem idx0 (t : Fin cfg0.N) : (win0_0.index t 0 = t.val ∧ win0_0.index t 1 = 0)
    ∧ (win0_1.index t 0 = 0 ∧ win0_1.index t 1 = 0)
    ∧ (win0_2.index t 0 = t.val ∧ win0_2.index t 1 = 0) := by
  revert t; decide +kernel

theorem blk0_0 (h : W c (Proc.devRef .tc main_arg0) = (L2 .f32 f : FVec Ideal S8192x2048 .f32)) (t : Fin cfg0.N) :
    (blk0 W c 0 t : FVec Ideal S256x2048 .f32) = L2 .f32 (part 256 2048 t.val 0 f) := by
  funext y
  unfold blk0 Region.blockAt
  rw [View.read_apply]
  show W c (Proc.devRef .tc main_arg0) _ = _
  rw [h]
  refine congrArg (fun x : ℝ => (x : EReal)) ?_
  show f (win0_0.index t 0 * 256 + 1 * (y 0).val) (win0_0.index t 1 * 2048 + 1 * (y 1).val) = _
  rw [(idx0 t).1.1, (idx0 t).1.2]
  rfl
theorem blk0_1 (h : W c (Proc.devRef .tc main_v4) = (L2 .f32 f : FVec Ideal S1x2048 .f32)) (t : Fin cfg0.N) :
    (blk0 W c 1 t : FVec Ideal S1x2048 .f32) = L2 .f32 (part 1 2048 0 0 f) := by
  funext y
  unfold blk0 Region.blockAt
  rw [View.read_apply]
  show W c (Proc.devRef .tc main_v4) _ = _
  rw [h]
  refine congrArg (fun x : ℝ => (x : EReal)) ?_
  show f (win0_1.index t 0 * 1 + 1 * (y 0).val) (win0_1.index t 1 * 2048 + 1 * (y 1).val) = _
  rw [(idx0 t).2.1.1, (idx0 t).2.1.2]
  rfl

theorem norm0 : k0_pay1 (L2 .f32 f : FVec Ideal S256x2048 .f32) (L2 .f32 (fun _ c => w c) : FVec Ideal S1x2048 .f32) = L2 .bf16 (fun r c => rms f w r c) := by
  unfold k0_pay1
  rw [shapeCast_L2]
  exact (congrArg (fun z => truncf .bf16 z Gen.bitsLt_bf16_f32) (norm_tile _ _ _ _ _ _)).trans rfl

/-- The normalised rows. -/
theorem arr0 (h0 : W c (Proc.devRef .tc main_arg0) = (L2 .f32 f : FVec Ideal S8192x2048 .f32)) (h1 : W c (Proc.devRef .tc main_v4) = (L2 .f32 (fun _ c => w c) : FVec Ideal S1x2048 .f32))
    : (dat0 W c).arrAt 2 cfg0.N = (L2 .bf16 (fun r c => rms f w r c) : FVec Ideal S8192x2048 .bf16) := by
  refine (dat0 W c).arrAt_eq_of_covers 2 (L2 .bf16 (fun r c => rms f w r c) : FVec Ideal S8192x2048 .bf16) (by decide +kernel) fun t hf y => ?_
  show (k0_pay1 (blk0 W c 0 t) (blk0 W c 1 t) : FVec Ideal S256x2048 .bf16) y = _
  rw [blk0_0 W c h0, blk0_1 W c h1]
  rw [show (L2 .f32 (part 1 2048 0 0 fun _ c => w c) : FVec Ideal S1x2048 .f32) = L2 .f32 (fun _ c => w c) from L2_congr fun r c _ _ => by rw [part_row]]
  rw [norm0, rms_part, ← (idx0 t).2.2.1]
  refine congrArg (fun x : ℝ => (x : EReal)) ?_
  show part 256 2048 _ 0 _ _ _ = rms f w (win0_2.index t 0 * 256 + 1 * (y 0).val) (win0_2.index t 1 * 2048 + 1 * (y 1).val)
  rw [(idx0 t).2.2.2]
  rfl

/-! ### Call 1: `mm_gu` -/

theorem idx1 (t : Fin cfg1.N) : (win1_0.index t 0 = t.val / 1 / 8 ∧ win1_0.index t 1 = t.val % 1)
    ∧ (win1_1.index t 0 = t.val % 1 ∧ win1_1.index t 1 = t.val / 1 % 8)
    ∧ (win1_2.index t 0 = t.val / 1 / 8 ∧ win1_2.index t 1 = t.val / 1 % 8) := by
  revert t; decide +kernel

theorem blk1_0 (h : W c (Proc.devRef .tc main_v5) = (L2 .bf16 f : FVec Ideal S8192x2048 .bf16)) (t : Fin cfg1.N) :
    (blk1 W c 0 t : FVec Ideal S1024x2048 .bf16) = L2 .bf16 (part 1024 2048 (t.val / 1 / 8) (t.val % 1) f) := by
  funext y
  unfold blk1 Region.blockAt
  rw [View.read_apply]
  show W c (Proc.devRef .tc main_v5) _ = _
  rw [h, ← (idx1 t).1.1, ← (idx1 t).1.2]
  rfl
theorem blk1_1 (h : W c (Proc.devRef .tc main_v2) = (L2 .bf16 f : FVec Ideal S2048x11264 .bf16)) (t : Fin cfg1.N) :
    (blk1 W c 1 t : FVec Ideal S2048x1408 .bf16) = L2 .bf16 (part 2048 1408 (t.val % 1) (t.val / 1 % 8) f) := by
  funext y
  unfold blk1 Region.blockAt
  rw [View.read_apply]
  show W c (Proc.devRef .tc main_v2) _ = _
  rw [h, ← (idx1 t).2.1.1, ← (idx1 t).2.1.2]
  rfl

theorem prod1 : k1_pay1 (L2 .bf16 f : FVec Ideal S1024x2048 .bf16) (L2 .bf16 g : FVec Ideal S2048x1408 .bf16) = L2 .f32 (fun r c => ∑ j ∈ Finset.range 2048, f r j * g j c) := by
  unfold k1_pay1
  rw [shapeCast_L2, shapeCast_L2]
  exact matmul_plain_L2 (M := 1024) (K := 2048) (N := 1408) f g

/-- The gate and the other factor. -/
theorem arr1 (h0 : W c (Proc.devRef .tc main_v5) = (L2 .bf16 f : FVec Ideal S8192x2048 .bf16)) (h1 : W c (Proc.devRef .tc main_v2) = (L2 .bf16 g : FVec Ideal S2048x11264 .bf16)) :
    (dat1 W c).arrAt 2 cfg1.N = (L2 .bf16 (fun r c => ∑ j ∈ Finset.range 2048, f r j * g j c) : FVec Ideal S8192x11264 .bf16) := by
  refine (dat1 W c).arrAt_eq_of_covers 2 (L2 .bf16 (fun r c => ∑ j ∈ Finset.range 2048, f r j * g j c) : FVec Ideal S8192x11264 .bf16) (by decide +kernel) fun t hf y => ?_
  have e : acc1 W c (t.val + 1) = L2 .f32 (part 1024 1408 (t.val / 1 / 8) (t.val / 1 % 8) (fun r c => ∑ j ∈ Finset.range 2048, f r j * g j c)) := by
    unfold acc1
    refine accum_product (N := grid1.N) (by decide) 1 8 1024 1408 2048 (by decide) f g _ _ (fun t => ?_) (fun t e => ?_) t (Nat.mod_one _)
    · unfold k1_pay2
      rw [blk1_0 W c h0, blk1_1 W c h1, prod1, shapeCast_L2]
      try rfl
    · unfold k1_pay3
      rw [blk1_0 W c h0, blk1_1 W c h1, prod1]
      conv_lhs => zeta
      rw [addf_L2, shapeCast_L2]
      try rfl
  show ((k1_pay4 (acc1 W c (t.val + 1))) : FVec Ideal S1024x1408 .bf16) y = _
  unfold k1_pay4
  rw [e]
  refine congrArg (fun x : ℝ => (x : EReal)) ?_
  show part 1024 1408 (t.val / 1 / 8) (t.val / 1 % 8) _ _ _ = (fun r c => ∑ j ∈ Finset.range 2048, f r j * g j c) (win1_2.index t 0 * 1024 + 1 * (y 0).val) (win1_2.index t 1 * 1408 + 1 * (y 1).val)
  rw [(idx1 t).2.2.1, (idx1 t).2.2.2]
  rfl

/-! ### Call 2: `swiglu_fwd` -/

theorem idx2 (t : Fin cfg2.N) : (win2_0.index t 0 = t.val ∧ win2_0.index t 1 = 0)
    ∧ (win2_1.index t 0 = t.val ∧ win2_1.index t 1 = 1)
    ∧ (win2_2.index t 0 = t.val ∧ win2_2.index t 1 = 0) := by
  revert t; decide +kernel

theorem blk2_0 (h : W c (Proc.devRef .tc main_v6) = (L2 .bf16 f : FVec Ideal S8192x11264 .bf16)) (t : Fin cfg2.N) :
    (blk2 W c 0 t : FVec Ideal S128x5632 .bf16) = L2 .bf16 (part 128 5632 t.val 0 f) := by
  funext y
  unfold blk2 Region.blockAt
  rw [View.read_apply]
  show W c (Proc.devRef .tc main_v6) _ = _
  rw [h]
  refine congrArg (fun x : ℝ => (x : EReal)) ?_
  show f (win2_0.index t 0 * 128 + 1 * (y 0).val) (win2_0.index t 1 * 5632 + 1 * (y 1).val) = _
  rw [(idx2 t).1.1, (idx2 t).1.2]
  rfl
theorem blk2_1 (h : W c (Proc.devRef .tc main_v6) = (L2 .bf16 f : FVec Ideal S8192x11264 .bf16)) (t : Fin cfg2.N) :
    (blk2 W c 1 t : FVec Ideal S128x5632 .bf16) = L2 .bf16 (part 128 5632 t.val 1 f) := by
  funext y
  unfold blk2 Region.blockAt
  rw [View.read_apply]
  show W c (Proc.devRef .tc main_v6) _ = _
  rw [h]
  refine congrArg (fun x : ℝ => (x : EReal)) ?_
  show f (win2_1.index t 0 * 128 + 1 * (y 0).val) (win2_1.index t 1 * 5632 + 1 * (y 1).val) = _
  rw [(idx2 t).2.1.1, (idx2 t).2.1.2]
  rfl

theorem gated2 : k2_pay1 (L2 .bf16 f : FVec Ideal S128x5632 .bf16) (L2 .bf16 g : FVec Ideal S128x5632 .bf16) = L2 .bf16 (fun r c => f r c * lg (f r c) * g r c) := by
  unfold k2_pay1
  rw [shapeCast_L2, shapeCast_L2]
  exact (congrArg (fun z => truncf .bf16 z Gen.bitsLt_bf16_f32) (gated_tile (d := ![128, 5632]) (f := f) (g := g))).trans rfl

/-- The gated product. -/
theorem arr2 (h0 : W c (Proc.devRef .tc main_v6) = (L2 .bf16 f : FVec Ideal S8192x11264 .bf16)) :
    (dat2 W c).arrAt 2 cfg2.N = (L2 .bf16 (fun r c => f r c * lg (f r c) * f r (5632 + c)) : FVec Ideal S8192x5632 .bf16) := by
  refine (dat2 W c).arrAt_eq_of_covers 2 (L2 .bf16 (fun r c => f r c * lg (f r c) * f r (5632 + c)) : FVec Ideal S8192x5632 .bf16) (by decide +kernel) fun t hf y => ?_
  show (k2_pay1 (blk2 W c 0 t) (blk2 W c 1 t) : FVec Ideal S128x5632 .bf16) y = _
  rw [blk2_0 W c h0, blk2_1 W c h0, gated2]
  refine congrArg (fun x : ℝ => (x : EReal)) ?_
  show (fun r c => part 128 5632 t.val 0 f r c * lg (part 128 5632 t.val 0 f r c) * part 128 5632 t.val 1 f r c) (y 0).val (y 1).val = (fun r c => f r c * lg (f r c) * f r (5632 + c)) (win2_2.index t 0 * 128 + 1 * (y 0).val) (win2_2.index t 1 * 5632 + 1 * (y 1).val)
  rw [(idx2 t).2.2.1, (idx2 t).2.2.2]
  simp only [part, Nat.zero_mul, Nat.zero_add, Nat.one_mul]

/-! ### Call 3: `mm_down` -/

theorem idx3 (t : Fin cfg3.N) : (win3_0.index t 0 = t.val / 4 / 2 ∧ win3_0.index t 1 = t.val % 4)
    ∧ (win3_1.index t 0 = t.val % 4 ∧ win3_1.index t 1 = t.val / 4 % 2)
    ∧ (win3_2.index t 0 = t.val / 4 / 2 ∧ win3_2.index t 1 = t.val / 4 % 2) := by
  revert t; decide +kernel

theorem blk3_0 (h : W c (Proc.devRef .tc main_v7) = (L2 .bf16 f : FVec Ideal S8192x5632 .bf16)) (t : Fin cfg3.N) :
    (blk3 W c 0 t : FVec Ideal S1024x1408 .bf16) = L2 .bf16 (part 1024 1408 (t.val / 4 / 2) (t.val % 4) f) := by
  funext y
  unfold blk3 Region.blockAt
  rw [View.read_apply]
  show W c (Proc.devRef .tc main_v7) _ = _
  rw [h, ← (idx3 t).1.1, ← (idx3 t).1.2]
  rfl
theorem blk3_1 (h : W c (Proc.devRef .tc main_v3) = (L2 .bf16 f : FVec Ideal S5632x2048 .bf16)) (t : Fin cfg3.N) :
    (blk3 W c 1 t : FVec Ideal S1408x1024 .bf16) = L2 .bf16 (part 1408 1024 (t.val % 4) (t.val / 4 % 2) f) := by
  funext y
  unfold blk3 Region.blockAt
  rw [View.read_apply]
  show W c (Proc.devRef .tc main_v3) _ = _
  rw [h, ← (idx3 t).2.1.1, ← (idx3 t).2.1.2]
  rfl

theorem prod3 : k3_pay1 (L2 .bf16 f : FVec Ideal S1024x1408 .bf16) (L2 .bf16 g : FVec Ideal S1408x1024 .bf16) = L2 .f32 (fun r c => ∑ j ∈ Finset.range 1408, f r j * g j c) := by
  unfold k3_pay1
  rw [shapeCast_L2, shapeCast_L2]
  exact matmul_plain_L2 (M := 1024) (K := 1408) (N := 1024) f g

/-- The down product. -/
theorem arr3 (h0 : W c (Proc.devRef .tc main_v7) = (L2 .bf16 f : FVec Ideal S8192x5632 .bf16)) (h1 : W c (Proc.devRef .tc main_v3) = (L2 .bf16 g : FVec Ideal S5632x2048 .bf16)) :
    (dat3 W c).arrAt 2 cfg3.N = (L2 .f32 (fun r c => ∑ j ∈ Finset.range 5632, f r j * g j c) : FVec Ideal S8192x2048 .f32) := by
  refine (dat3 W c).arrAt_eq_of_covers 2 (L2 .f32 (fun r c => ∑ j ∈ Finset.range 5632, f r j * g j c) : FVec Ideal S8192x2048 .f32) (by decide +kernel) fun t hf y => ?_
  have e : acc3 W c (t.val + 1) = L2 .f32 (part 1024 1024 (t.val / 4 / 2) (t.val / 4 % 2) (fun r c => ∑ j ∈ Finset.range 5632, f r j * g j c)) := by
    unfold acc3
    refine accum_product (N := grid3.N) (by decide) 4 2 1024 1024 1408 (by decide) f g _ _ (fun t => ?_) (fun t e => ?_) t ((flush3_2 t).mp hf)
    · unfold k3_pay2
      rw [blk3_0 W c h0, blk3_1 W c h1, prod3, shapeCast_L2]
      try rfl
    · unfold k3_pay3
      rw [blk3_0 W c h0, blk3_1 W c h1, prod3]
      conv_lhs => zeta
      rw [addf_L2, shapeCast_L2]
      try rfl
  show ((acc3 W c (t.val + 1)) : FVec Ideal S1024x1024 .f32) y = _
  rw [e]
  refine congrArg (fun x : ℝ => (x : EReal)) ?_
  show part 1024 1024 (t.val / 4 / 2) (t.val / 4 % 2) _ _ _ = (fun r c => ∑ j ∈ Finset.range 5632, f r j * g j c) (win3_2.index t 0 * 1024 + 1 * (y 0).val) (win3_2.index t 1 * 1024 + 1 * (y 1).val)
  rw [(idx3 t).2.2.1, (idx3 t).2.2.2]
  rfl

/-! ### Call 4: `rms_ffn_post` -/

theorem idx4 (t : Fin cfg4.N) : (win4_0.index t 0 = t.val ∧ win4_0.index t 1 = 0)
    ∧ (win4_1.index t 0 = 0 ∧ win4_1.index t 1 = 0)
    ∧ (win4_2.index t 0 = t.val ∧ win4_2.index t 1 = 0)
    ∧ (win4_3.index t 0 = t.val ∧ win4_3.index t 1 = 0) := by
  revert t; decide +kernel

theorem blk4_0 (h : W c (Proc.devRef .tc main_v8) = (L2 .f32 f : FVec Ideal S8192x2048 .f32)) (t : Fin cfg4.N) :
    (blk4 W c 0 t : FVec Ideal S256x2048 .f32) = L2 .f32 (part 256 2048 t.val 0 f) := by
  funext y
  unfold blk4 Region.blockAt
  rw [View.read_apply]
  show W c (Proc.devRef .tc main_v8) _ = _
  rw [h]
  refine congrArg (fun x : ℝ => (x : EReal)) ?_
  show f (win4_0.index t 0 * 256 + 1 * (y 0).val) (win4_0.index t 1 * 2048 + 1 * (y 1).val) = _
  rw [(idx4 t).1.1, (idx4 t).1.2]
  rfl
theorem blk4_1 (h : W c (Proc.devRef .tc main_v9) = (L2 .f32 f : FVec Ideal S1x2048 .f32)) (t : Fin cfg4.N) :
    (blk4 W c 1 t : FVec Ideal S1x2048 .f32) = L2 .f32 (part 1 2048 0 0 f) := by
  funext y
  unfold blk4 Region.blockAt
  rw [View.read_apply]
  show W c (Proc.devRef .tc main_v9) _ = _
  rw [h]
  refine congrArg (fun x : ℝ => (x : EReal)) ?_
  show f (win4_1.index t 0 * 1 + 1 * (y 0).val) (win4_1.index t 1 * 2048 + 1 * (y 1).val) = _
  rw [(idx4 t).2.1.1, (idx4 t).2.1.2]
  rfl
theorem blk4_2 (h : W c (Proc.devRef .tc main_arg0) = (L2 .f32 f : FVec Ideal S8192x2048 .f32)) (t : Fin cfg4.N) :
    (blk4 W c 2 t : FVec Ideal S256x2048 .f32) = L2 .f32 (part 256 2048 t.val 0 f) := by
  funext y
  unfold blk4 Region.blockAt
  rw [View.read_apply]
  show W c (Proc.devRef .tc main_arg0) _ = _
  rw [h]
  refine congrArg (fun x : ℝ => (x : EReal)) ?_
  show f (win4_2.index t 0 * 256 + 1 * (y 0).val) (win4_2.index t 1 * 2048 + 1 * (y 1).val) = _
  rw [(idx4 t).2.2.1.1, (idx4 t).2.2.1.2]
  rfl

theorem norm4 : k4_pay1 (L2 .f32 f : FVec Ideal S256x2048 .f32) (L2 .f32 (fun _ c => w c) : FVec Ideal S1x2048 .f32) (L2 .f32 u : FVec Ideal S256x2048 .f32) = L2 .f32 (fun r c => rms f w r c + u r c) := by
  unfold k4_pay1
  rw [shapeCast_L2, shapeCast_L2]
  exact (congrArg (fun z => addf z (L2 .f32 u)) (norm_tile _ _ _ _ _ _)).trans (addf_L2 _ _)

/-- The normalised rows, added to the residual. -/
theorem arr4 (h0 : W c (Proc.devRef .tc main_v8) = (L2 .f32 f : FVec Ideal S8192x2048 .f32)) (h1 : W c (Proc.devRef .tc main_v9) = (L2 .f32 (fun _ c => w c) : FVec Ideal S1x2048 .f32))
    (h2 : W c (Proc.devRef .tc main_arg0) = (L2 .f32 u : FVec Ideal S8192x2048 .f32)) : (dat4 W c).arrAt 3 cfg4.N = (L2 .f32 (fun r c => rms f w r c + u r c) : FVec Ideal S8192x2048 .f32) := by
  refine (dat4 W c).arrAt_eq_of_covers 3 (L2 .f32 (fun r c => rms f w r c + u r c) : FVec Ideal S8192x2048 .f32) (by decide +kernel) fun t hf y => ?_
  show (k4_pay1 (blk4 W c 0 t) (blk4 W c 1 t) (blk4 W c 2 t) : FVec Ideal S256x2048 .f32) y = _
  rw [blk4_0 W c h0, blk4_1 W c h1, blk4_2 W c h2]
  rw [show (L2 .f32 (part 1 2048 0 0 fun _ c => w c) : FVec Ideal S1x2048 .f32) = L2 .f32 (fun _ c => w c) from L2_congr fun r c _ _ => by rw [part_row]]
  rw [norm4, rms_part, ← (idx4 t).2.2.2.1]
  refine congrArg (fun x : ℝ => (x : EReal)) ?_
  show part 256 2048 _ 0 _ _ _ + part 256 2048 _ 0 _ _ _ = rms f w (win4_3.index t 0 * 256 + 1 * (y 0).val) (win4_3.index t 1 * 2048 + 1 * (y 1).val) + u (win4_3.index t 0 * 256 + 1 * (y 0).val) (win4_3.index t 1 * 2048 + 1 * (y 1).val)
  rw [(idx4 t).2.2.2.2]
  rfl

/-! ### Call 5: `rms_ffn_post_bwd` -/

theorem idx5 (t : Fin cfg5.N) : (win5_0.index t 0 = t.val ∧ win5_0.index t 1 = 0)
    ∧ (win5_1.index t 0 = 0 ∧ win5_1.index t 1 = 0)
    ∧ (win5_2.index t 0 = t.val ∧ win5_2.index t 1 = 0)
    ∧ (win5_3.index t 0 = t.val ∧ win5_3.index t 1 = 0)
    ∧ (win5_4.index t 0 = 0 ∧ win5_4.index t 1 = 0) := by
  revert t; decide +kernel

theorem blk5_0 (h : W c (Proc.devRef .tc main_v8) = (L2 .f32 f : FVec Ideal S8192x2048 .f32)) (t : Fin cfg5.N) :
    (blk5 W c 0 t : FVec Ideal S256x2048 .f32) = L2 .f32 (part 256 2048 t.val 0 f) := by
  funext y
  unfold blk5 Region.blockAt
  rw [View.read_apply]
  show W c (Proc.devRef .tc main_v8) _ = _
  rw [h]
  refine congrArg (fun x : ℝ => (x : EReal)) ?_
  show f (win5_0.index t 0 * 256 + 1 * (y 0).val) (win5_0.index t 1 * 2048 + 1 * (y 1).val) = _
  rw [(idx5 t).1.1, (idx5 t).1.2]
  rfl
theorem blk5_1 (h : W c (Proc.devRef .tc main_v11) = (L2 .f32 f : FVec Ideal S1x2048 .f32)) (t : Fin cfg5.N) :
    (blk5 W c 1 t : FVec Ideal S1x2048 .f32) = L2 .f32 (part 1 2048 0 0 f) := by
  funext y
  unfold blk5 Region.blockAt
  rw [View.read_apply]
  show W c (Proc.devRef .tc main_v11) _ = _
  rw [h]
  refine congrArg (fun x : ℝ => (x : EReal)) ?_
  show f (win5_1.index t 0 * 1 + 1 * (y 0).val) (win5_1.index t 1 * 2048 + 1 * (y 1).val) = _
  rw [(idx5 t).2.1.1, (idx5 t).2.1.2]
  rfl
theorem blk5_2 (h : W c (Proc.devRef .tc main_arg6) = (L2 .f32 f : FVec Ideal S8192x2048 .f32)) (t : Fin cfg5.N) :
    (blk5 W c 2 t : FVec Ideal S256x2048 .f32) = L2 .f32 (part 256 2048 t.val 0 f) := by
  funext y
  unfold blk5 Region.blockAt
  rw [View.read_apply]
  show W c (Proc.devRef .tc main_arg6) _ = _
  rw [h]
  refine congrArg (fun x : ℝ => (x : EReal)) ?_
  show f (win5_2.index t 0 * 256 + 1 * (y 0).val) (win5_2.index t 1 * 2048 + 1 * (y 1).val) = _
  rw [(idx5 t).2.2.1.1, (idx5 t).2.2.1.2]
  rfl

theorem root5 : k5_pay2 (L2 .f32 f : FVec Ideal S256x2048 .f32) = L2 .f32 (fun r _ => rs f r) := by
  unfold k5_pay2 k5_pay1
  rw [shapeCast_L2]
  exact root_tile _ _ _ _
theorem unit5 : k5_pay3 (L2 .f32 f : FVec Ideal S256x2048 .f32) = L2 .f32 (fun r c => f r c * rs f r) := by
  unfold k5_pay3 k5_pay1
  rw [shapeCast_L2, root5, spread_col]
  exact mulf_L2 _ _
theorem grad5 : k5_pay5 (L2 .f32 f : FVec Ideal S256x2048 .f32) (L2 .f32 (fun _ c => w c) : FVec Ideal S1x2048 .f32) (L2 .f32 u : FVec Ideal S256x2048 .f32) = L2 .bf16 (fun r c => rmsDx f u w r c) := by
  unfold k5_pay5
  rw [shapeCast_L2, root5, unit5]
  exact (congrArg (fun z => truncf .bf16 z Gen.bitsLt_bf16_f32) (grad_tile _ _ _ _ _ _)).trans rfl
theorem scale5 : k5_pay4 (L2 .f32 f : FVec Ideal S256x2048 .f32) (L2 .f32 u : FVec Ideal S256x2048 .f32) = L2 .f32 (fun _ c => rmsDw f u 256 c) := by
  unfold k5_pay4
  rw [unit5]
  exact scale_tile _ _ _ _

/-- The gradient of the rows. -/
theorem arr5_3 (h0 : W c (Proc.devRef .tc main_v8) = (L2 .f32 f : FVec Ideal S8192x2048 .f32)) (h1 : W c (Proc.devRef .tc main_v11) = (L2 .f32 (fun _ c => w c) : FVec Ideal S1x2048 .f32))
    (h2 : W c (Proc.devRef .tc main_arg6) = (L2 .f32 u : FVec Ideal S8192x2048 .f32)) :
    (dat5 W c).arrAt 3 cfg5.N = (L2 .bf16 (fun r c => rmsDx f u w r c) : FVec Ideal S8192x2048 .bf16) := by
  refine (dat5 W c).arrAt_eq_of_covers 3 (L2 .bf16 (fun r c => rmsDx f u w r c) : FVec Ideal S8192x2048 .bf16) (by decide +kernel) fun t hf y => ?_
  show (k5_pay5 (blk5 W c 0 t) (blk5 W c 1 t) (blk5 W c 2 t) : FVec Ideal S256x2048 .bf16) y = _
  rw [blk5_0 W c h0, blk5_1 W c h1, blk5_2 W c h2]
  rw [show (L2 .f32 (part 1 2048 0 0 fun _ c => w c) : FVec Ideal S1x2048 .f32) = L2 .f32 (fun _ c => w c) from L2_congr fun r c _ _ => by rw [part_row]]
  rw [grad5, rmsDx_part, ← (idx5 t).2.2.2.1.1]
  refine congrArg (fun x : ℝ => (x : EReal)) ?_
  show part 256 2048 _ 0 _ _ _ = rmsDx f u w (win5_3.index t 0 * 256 + 1 * (y 0).val) (win5_3.index t 1 * 2048 + 1 * (y 1).val)
  rw [(idx5 t).2.2.2.1.2]
  rfl

/-- The gradient of the scale. -/
theorem arr5_4 (h0 : W c (Proc.devRef .tc main_v8) = (L2 .f32 f : FVec Ideal S8192x2048 .f32)) (h2 : W c (Proc.devRef .tc main_arg6) = (L2 .f32 u : FVec Ideal S8192x2048 .f32)) :
    (dat5 W c).arrAt 4 cfg5.N = (L2 .f32 (fun _ c => rmsDw f u 8192 c) : FVec Ideal S1x2048 .f32) := by
  refine (dat5 W c).arrAt_eq_of_covers 4 (L2 .f32 (fun _ c => rmsDw f u 8192 c) : FVec Ideal S1x2048 .f32) (by decide +kernel) fun t hf y => ?_
  have e : acc5 W c (t.val + 1) = L2 .f32 (fun _ c => rmsDw f u 8192 c) := by
    unfold acc5
    have ht := (flush5_4 t).mp hf
    refine (accum_L2 (N := grid5.N) (by decide) 32 _ _ (fun t _ c => rmsDw (part 256 2048 t 0 f) (part 256 2048 t 0 u) 256 c) (fun t => ?_) (fun t e => ?_) t.val t.isLt).trans ?_
    · rw [blk5_0 W c h0, blk5_2 W c h2, scale5]
    · unfold k5_pay6
      rw [blk5_0 W c h0, blk5_2 W c h2, scale5, shapeCast_L2]
      exact addf_L2 _ _
    · have hN : t.val < 32 := t.isLt
      rw [show t.val = 31 by omega]
      congr 1; funext r c
      simp only [show 31 % 32 + 1 = 32 from rfl, show 31 - 31 % 32 = 0 from rfl, Nat.zero_add]
      exact rmsDw_blocks f u 256 32 c
  show (acc5 W c (t.val + 1) : FVec Ideal S1x2048 .f32) y = _
  rw [e]
  refine congrArg (fun x : ℝ => (x : EReal)) ?_
  show rmsDw f u 8192 (y 1).val = rmsDw f u 8192 (win5_4.index t 1 * 2048 + 1 * (y 1).val)
  rw [(idx5 t).2.2.2.2.2, Nat.zero_mul, Nat.zero_add, Nat.one_mul]

/-! ### Call 6: `mm_down_dx` -/

theorem idx6 (t : Fin cfg6.N) : (win6_0.index t 0 = t.val / 1 / 4 ∧ win6_0.index t 1 = t.val % 1)
    ∧ (win6_1.index t 0 = t.val / 1 % 4 ∧ win6_1.index t 1 = t.val % 1)
    ∧ (win6_2.index t 0 = t.val / 1 / 4 ∧ win6_2.index t 1 = t.val / 1 % 4) := by
  revert t; decide +kernel

theorem blk6_0 (h : W c (Proc.devRef .tc main_v12_0) = (L2 .bf16 f : FVec Ideal S8192x2048 .bf16)) (t : Fin cfg6.N) :
    (blk6 W c 0 t : FVec Ideal S1024x2048 .bf16) = L2 .bf16 (part 1024 2048 (t.val / 1 / 4) (t.val % 1) f) := by
  funext y
  unfold blk6 Region.blockAt
  rw [View.read_apply]
  show W c (Proc.devRef .tc main_v12_0) _ = _
  rw [h, ← (idx6 t).1.1, ← (idx6 t).1.2]
  rfl
theorem blk6_1 (h : W c (Proc.devRef .tc main_v3) = (L2 .bf16 f : FVec Ideal S5632x2048 .bf16)) (t : Fin cfg6.N) :
    (blk6 W c 1 t : FVec Ideal S1408x2048 .bf16) = L2 .bf16 (part 1408 2048 (t.val / 1 % 4) (t.val % 1) f) := by
  funext y
  unfold blk6 Region.blockAt
  rw [View.read_apply]
  show W c (Proc.devRef .tc main_v3) _ = _
  rw [h, ← (idx6 t).2.1.1, ← (idx6 t).2.1.2]
  rfl

theorem prod6 : k6_pay1 (L2 .bf16 f : FVec Ideal S1024x2048 .bf16) (L2 .bf16 g : FVec Ideal S1408x2048 .bf16) = L2 .f32 (fun r c => ∑ j ∈ Finset.range 2048, f r j * g c j) := by
  unfold k6_pay1
  rw [shapeCast_L2, shapeCast_L2]
  exact matmul_transposedRhs_L2 (M := 1024) (K := 2048) (N := 1408) f g

/-- The gradient of the gated product. -/
theorem arr6 (h0 : W c (Proc.devRef .tc main_v12_0) = (L2 .bf16 f : FVec Ideal S8192x2048 .bf16)) (h1 : W c (Proc.devRef .tc main_v3) = (L2 .bf16 g : FVec Ideal S5632x2048 .bf16)) :
    (dat6 W c).arrAt 2 cfg6.N = (L2 .f32 (fun r c => ∑ j ∈ Finset.range 2048, f r j * g c j) : FVec Ideal S8192x5632 .f32) := by
  refine (dat6 W c).arrAt_eq_of_covers 2 (L2 .f32 (fun r c => ∑ j ∈ Finset.range 2048, f r j * g c j) : FVec Ideal S8192x5632 .f32) (by decide +kernel) fun t hf y => ?_
  have e : acc6 W c (t.val + 1) = L2 .f32 (part 1024 1408 (t.val / 1 / 4) (t.val / 1 % 4) (fun r c => ∑ j ∈ Finset.range 2048, f r j * g c j)) := by
    unfold acc6
    refine accum_product (N := grid6.N) (by decide) 1 4 1024 1408 2048 (by decide) f (fun k c => g c k) _ _ (fun t => ?_) (fun t e => ?_) t (Nat.mod_one _)
    · unfold k6_pay2
      rw [blk6_0 W c h0, blk6_1 W c h1, prod6, shapeCast_L2]
      try rfl
    · unfold k6_pay3
      rw [blk6_0 W c h0, blk6_1 W c h1, prod6]
      conv_lhs => zeta
      rw [addf_L2, shapeCast_L2]
      try rfl
  show ((acc6 W c (t.val + 1)) : FVec Ideal S1024x1408 .f32) y = _
  rw [e]
  refine congrArg (fun x : ℝ => (x : EReal)) ?_
  show part 1024 1408 (t.val / 1 / 4) (t.val / 1 % 4) _ _ _ = (fun r c => ∑ j ∈ Finset.range 2048, f r j * g c j) (win6_2.index t 0 * 1024 + 1 * (y 0).val) (win6_2.index t 1 * 1408 + 1 * (y 1).val)
  rw [(idx6 t).2.2.1, (idx6 t).2.2.2]
  rfl

/-! ### Call 7: `mm_down_dw` -/

theorem idx7 (t : Fin cfg7.N) : (win7_0.index t 0 = t.val / 4 / 2 ∧ win7_0.index t 1 = t.val % 4)
    ∧ (win7_1.index t 0 = t.val % 4 ∧ win7_1.index t 1 = t.val / 4 % 2)
    ∧ (win7_2.index t 0 = t.val / 4 / 2 ∧ win7_2.index t 1 = t.val / 4 % 2) := by
  revert t; decide +kernel

theorem blk7_0 (h : W c (Proc.devRef .tc main_v15) = (L2 .bf16 f : FVec Ideal S5632x8192 .bf16)) (t : Fin cfg7.N) :
    (blk7 W c 0 t : FVec Ideal S1408x2048 .bf16) = L2 .bf16 (part 1408 2048 (t.val / 4 / 2) (t.val % 4) f) := by
  funext y
  unfold blk7 Region.blockAt
  rw [View.read_apply]
  show W c (Proc.devRef .tc main_v15) _ = _
  rw [h, ← (idx7 t).1.1, ← (idx7 t).1.2]
  rfl
theorem blk7_1 (h : W c (Proc.devRef .tc main_v12_0) = (L2 .bf16 f : FVec Ideal S8192x2048 .bf16)) (t : Fin cfg7.N) :
    (blk7 W c 1 t : FVec Ideal S2048x1024 .bf16) = L2 .bf16 (part 2048 1024 (t.val % 4) (t.val / 4 % 2) f) := by
  funext y
  unfold blk7 Region.blockAt
  rw [View.read_apply]
  show W c (Proc.devRef .tc main_v12_0) _ = _
  rw [h, ← (idx7 t).2.1.1, ← (idx7 t).2.1.2]
  rfl

theorem prod7 : k7_pay1 (L2 .bf16 f : FVec Ideal S1408x2048 .bf16) (L2 .bf16 g : FVec Ideal S2048x1024 .bf16) = L2 .f32 (fun r c => ∑ j ∈ Finset.range 2048, f r j * g j c) := by
  unfold k7_pay1
  rw [shapeCast_L2, shapeCast_L2]
  exact matmul_plain_L2 (M := 1408) (K := 2048) (N := 1024) f g

/-- The gradient of the down weights. -/
theorem arr7 (h0 : W c (Proc.devRef .tc main_v15) = (L2 .bf16 f : FVec Ideal S5632x8192 .bf16)) (h1 : W c (Proc.devRef .tc main_v12_0) = (L2 .bf16 g : FVec Ideal S8192x2048 .bf16)) :
    (dat7 W c).arrAt 2 cfg7.N = (L2 .bf16 (fun r c => ∑ j ∈ Finset.range 8192, f r j * g j c) : FVec Ideal S5632x2048 .bf16) := by
  refine (dat7 W c).arrAt_eq_of_covers 2 (L2 .bf16 (fun r c => ∑ j ∈ Finset.range 8192, f r j * g j c) : FVec Ideal S5632x2048 .bf16) (by decide +kernel) fun t hf y => ?_
  have e : acc7 W c (t.val + 1) = L2 .f32 (part 1408 1024 (t.val / 4 / 2) (t.val / 4 % 2) (fun r c => ∑ j ∈ Finset.range 8192, f r j * g j c)) := by
    unfold acc7
    refine accum_product (N := grid7.N) (by decide) 4 2 1408 1024 2048 (by decide) f g _ _ (fun t => ?_) (fun t e => ?_) t ((flush7_2 t).mp hf)
    · unfold k7_pay2
      rw [blk7_0 W c h0, blk7_1 W c h1, prod7, shapeCast_L2]
      try rfl
    · unfold k7_pay3
      rw [blk7_0 W c h0, blk7_1 W c h1, prod7]
      conv_lhs => zeta
      rw [addf_L2, shapeCast_L2]
      try rfl
  show ((k7_pay4 (acc7 W c (t.val + 1))) : FVec Ideal S1408x1024 .bf16) y = _
  unfold k7_pay4
  rw [e]
  refine congrArg (fun x : ℝ => (x : EReal)) ?_
  show part 1408 1024 (t.val / 4 / 2) (t.val / 4 % 2) _ _ _ = (fun r c => ∑ j ∈ Finset.range 8192, f r j * g j c) (win7_2.index t 0 * 1408 + 1 * (y 0).val) (win7_2.index t 1 * 1024 + 1 * (y 1).val)
  rw [(idx7 t).2.2.1, (idx7 t).2.2.2]
  rfl

/-! ### Call 8: `swiglu_bwd` -/

theorem idx8 (t : Fin cfg8.N) : (win8_0.index t 0 = t.val ∧ win8_0.index t 1 = 0)
    ∧ (win8_1.index t 0 = t.val ∧ win8_1.index t 1 = 1)
    ∧ (win8_2.index t 0 = t.val ∧ win8_2.index t 1 = 0)
    ∧ (win8_3.index t 0 = t.val ∧ win8_3.index t 1 = 0) := by
  revert t; decide +kernel

theorem blk8_0 (h : W c (Proc.devRef .tc main_v6) = (L2 .bf16 f : FVec Ideal S8192x11264 .bf16)) (t : Fin cfg8.N) :
    (blk8 W c 0 t : FVec Ideal S128x5632 .bf16) = L2 .bf16 (part 128 5632 t.val 0 f) := by
  funext y
  unfold blk8 Region.blockAt
  rw [View.read_apply]
  show W c (Proc.devRef .tc main_v6) _ = _
  rw [h]
  refine congrArg (fun x : ℝ => (x : EReal)) ?_
  show f (win8_0.index t 0 * 128 + 1 * (y 0).val) (win8_0.index t 1 * 5632 + 1 * (y 1).val) = _
  rw [(idx8 t).1.1, (idx8 t).1.2]
  rfl
theorem blk8_1 (h : W c (Proc.devRef .tc main_v6) = (L2 .bf16 f : FVec Ideal S8192x11264 .bf16)) (t : Fin cfg8.N) :
    (blk8 W c 1 t : FVec Ideal S128x5632 .bf16) = L2 .bf16 (part 128 5632 t.val 1 f) := by
  funext y
  unfold blk8 Region.blockAt
  rw [View.read_apply]
  show W c (Proc.devRef .tc main_v6) _ = _
  rw [h]
  refine congrArg (fun x : ℝ => (x : EReal)) ?_
  show f (win8_1.index t 0 * 128 + 1 * (y 0).val) (win8_1.index t 1 * 5632 + 1 * (y 1).val) = _
  rw [(idx8 t).2.1.1, (idx8 t).2.1.2]
  rfl
theorem blk8_2 (h : W c (Proc.devRef .tc main_v14) = (L2 .f32 f : FVec Ideal S8192x5632 .f32)) (t : Fin cfg8.N) :
    (blk8 W c 2 t : FVec Ideal S128x5632 .f32) = L2 .f32 (part 128 5632 t.val 0 f) := by
  funext y
  unfold blk8 Region.blockAt
  rw [View.read_apply]
  show W c (Proc.devRef .tc main_v14) _ = _
  rw [h]
  refine congrArg (fun x : ℝ => (x : EReal)) ?_
  show f (win8_2.index t 0 * 128 + 1 * (y 0).val) (win8_2.index t 1 * 5632 + 1 * (y 1).val) = _
  rw [(idx8 t).2.2.1.1, (idx8 t).2.2.1.2]
  rfl

theorem gated8 : k8_pay1 (L2 .bf16 f : FVec Ideal S128x5632 .bf16) (L2 .bf16 g : FVec Ideal S128x5632 .bf16) (L2 .f32 u : FVec Ideal S128x5632 .f32) = L2 .bf16 (beside 5632 (fun r c => u r c * g r c * lgD (f r c)) (fun r c => u r c * (f r c * lg (f r c)))) := by
  unfold k8_pay1
  rw [shapeCast_L2, shapeCast_L2, shapeCast_L2]
  refine (congrArg₂ (fun x y => truncf .bf16 (concatenate S128x11264 1 [⟨S128x5632, x⟩, ⟨S128x5632, y⟩] Facts₀.concatenates_S128x5632_S128x5632_S128x11264_d1) Gen.bitsLt_bf16_f32)
    (gate_tile (d := ![128, 5632]) (f := f) (g := g) (u := u)) (factor_tile (d := ![128, 5632]) (f := f) (u := u))).trans ?_
  exact (congrArg (fun z => truncf .bf16 z Gen.bitsLt_bf16_f32) (joined_two (M := 128) (N := 11264) (φ := .f32) 5632 rfl _ _ _)).trans rfl

/-- The gradients of the gate and of the other factor. -/
theorem arr8 (h0 : W c (Proc.devRef .tc main_v6) = (L2 .bf16 f : FVec Ideal S8192x11264 .bf16)) (h2 : W c (Proc.devRef .tc main_v14) = (L2 .f32 u : FVec Ideal S8192x5632 .f32)) :
    (dat8 W c).arrAt 3 cfg8.N = (L2 .bf16 (beside 5632 (fun r c => u r c * f r (5632 + c) * lgD (f r c)) (fun r c => u r c * (f r c * lg (f r c)))) : FVec Ideal S8192x11264 .bf16) := by
  refine (dat8 W c).arrAt_eq_of_covers 3 (L2 .bf16 (beside 5632 (fun r c => u r c * f r (5632 + c) * lgD (f r c)) (fun r c => u r c * (f r c * lg (f r c)))) : FVec Ideal S8192x11264 .bf16) (by decide +kernel) fun t hf y => ?_
  show (k8_pay1 (blk8 W c 0 t) (blk8 W c 1 t) (blk8 W c 2 t) : FVec Ideal S128x11264 .bf16) y = _
  rw [blk8_0 W c h0, blk8_1 W c h0, blk8_2 W c h2, gated8]
  refine congrArg (fun x : ℝ => (x : EReal)) ?_
  show (beside 5632 (fun r c => part 128 5632 t.val 0 u r c * part 128 5632 t.val 1 f r c * lgD (part 128 5632 t.val 0 f r c)) (fun r c => part 128 5632 t.val 0 u r c * (part 128 5632 t.val 0 f r c * lg (part 128 5632 t.val 0 f r c)))) (y 0).val (y 1).val = (beside 5632 (fun r c => u r c * f r (5632 + c) * lgD (f r c)) (fun r c => u r c * (f r c * lg (f r c)))) (win8_3.index t 0 * 128 + 1 * (y 0).val) (win8_3.index t 1 * 11264 + 1 * (y 1).val)
  rw [(idx8 t).2.2.2.1, (idx8 t).2.2.2.2]
  simp only [beside, part, Nat.zero_mul, Nat.zero_add, Nat.one_mul]

/-! ### Call 9: `mm_gu_dx` -/

theorem idx9 (t : Fin cfg9.N) : (win9_0.index t 0 = t.val / 8 / 2 ∧ win9_0.index t 1 = t.val % 8)
    ∧ (win9_1.index t 0 = t.val / 8 % 2 ∧ win9_1.index t 1 = t.val % 8)
    ∧ (win9_2.index t 0 = t.val / 8 / 2 ∧ win9_2.index t 1 = t.val / 8 % 2) := by
  revert t; decide +kernel

theorem blk9_0 (h : W c (Proc.devRef .tc main_v17) = (L2 .bf16 f : FVec Ideal S8192x11264 .bf16)) (t : Fin cfg9.N) :
    (blk9 W c 0 t : FVec Ideal S1024x1408 .bf16) = L2 .bf16 (part 1024 1408 (t.val / 8 / 2) (t.val % 8) f) := by
  funext y
  unfold blk9 Region.blockAt
  rw [View.read_apply]
  show W c (Proc.devRef .tc main_v17) _ = _
  rw [h, ← (idx9 t).1.1, ← (idx9 t).1.2]
  rfl
theorem blk9_1 (h : W c (Proc.devRef .tc main_v2) = (L2 .bf16 f : FVec Ideal S2048x11264 .bf16)) (t : Fin cfg9.N) :
    (blk9 W c 1 t : FVec Ideal S1024x1408 .bf16) = L2 .bf16 (part 1024 1408 (t.val / 8 % 2) (t.val % 8) f) := by
  funext y
  unfold blk9 Region.blockAt
  rw [View.read_apply]
  show W c (Proc.devRef .tc main_v2) _ = _
  rw [h, ← (idx9 t).2.1.1, ← (idx9 t).2.1.2]
  rfl

theorem prod9 : k9_pay1 (L2 .bf16 f : FVec Ideal S1024x1408 .bf16) (L2 .bf16 g : FVec Ideal S1024x1408 .bf16) = L2 .f32 (fun r c => ∑ j ∈ Finset.range 1408, f r j * g c j) := by
  unfold k9_pay1
  rw [shapeCast_L2, shapeCast_L2]
  exact matmul_transposedRhs_L2 (M := 1024) (K := 1408) (N := 1024) f g

/-- The gradient of the normalised rows. -/
theorem arr9 (h0 : W c (Proc.devRef .tc main_v17) = (L2 .bf16 f : FVec Ideal S8192x11264 .bf16)) (h1 : W c (Proc.devRef .tc main_v2) = (L2 .bf16 g : FVec Ideal S2048x11264 .bf16)) :
    (dat9 W c).arrAt 2 cfg9.N = (L2 .f32 (fun r c => ∑ j ∈ Finset.range 11264, f r j * g c j) : FVec Ideal S8192x2048 .f32) := by
  refine (dat9 W c).arrAt_eq_of_covers 2 (L2 .f32 (fun r c => ∑ j ∈ Finset.range 11264, f r j * g c j) : FVec Ideal S8192x2048 .f32) (by decide +kernel) fun t hf y => ?_
  have e : acc9 W c (t.val + 1) = L2 .f32 (part 1024 1024 (t.val / 8 / 2) (t.val / 8 % 2) (fun r c => ∑ j ∈ Finset.range 11264, f r j * g c j)) := by
    unfold acc9
    refine accum_product (N := grid9.N) (by decide) 8 2 1024 1024 1408 (by decide) f (fun k c => g c k) _ _ (fun t => ?_) (fun t e => ?_) t ((flush9_2 t).mp hf)
    · unfold k9_pay2
      rw [blk9_0 W c h0, blk9_1 W c h1, prod9, shapeCast_L2]
      try rfl
    · unfold k9_pay3
      rw [blk9_0 W c h0, blk9_1 W c h1, prod9]
      conv_lhs => zeta
      rw [addf_L2, shapeCast_L2]
      try rfl
  show ((acc9 W c (t.val + 1)) : FVec Ideal S1024x1024 .f32) y = _
  rw [e]
  refine congrArg (fun x : ℝ => (x : EReal)) ?_
  show part 1024 1024 (t.val / 8 / 2) (t.val / 8 % 2) _ _ _ = (fun r c => ∑ j ∈ Finset.range 11264, f r j * g c j) (win9_2.index t 0 * 1024 + 1 * (y 0).val) (win9_2.index t 1 * 1024 + 1 * (y 1).val)
  rw [(idx9 t).2.2.1, (idx9 t).2.2.2]
  rfl

/-! ### Call 10: `mm_gu_dw` -/

theorem idx10 (t : Fin cfg10.N) : (win10_0.index t 0 = t.val / 4 / 8 ∧ win10_0.index t 1 = t.val % 4)
    ∧ (win10_1.index t 0 = t.val % 4 ∧ win10_1.index t 1 = t.val / 4 % 8)
    ∧ (win10_2.index t 0 = t.val / 4 / 8 ∧ win10_2.index t 1 = t.val / 4 % 8) := by
  revert t; decide +kernel

theorem blk10_0 (h : W c (Proc.devRef .tc main_v19) = (L2 .bf16 f : FVec Ideal S2048x8192 .bf16)) (t : Fin cfg10.N) :
    (blk10 W c 0 t : FVec Ideal S1024x2048 .bf16) = L2 .bf16 (part 1024 2048 (t.val / 4 / 8) (t.val % 4) f) := by
  funext y
  unfold blk10 Region.blockAt
  rw [View.read_apply]
  show W c (Proc.devRef .tc main_v19) _ = _
  rw [h, ← (idx10 t).1.1, ← (idx10 t).1.2]
  rfl
theorem blk10_1 (h : W c (Proc.devRef .tc main_v17) = (L2 .bf16 f : FVec Ideal S8192x11264 .bf16)) (t : Fin cfg10.N) :
    (blk10 W c 1 t : FVec Ideal S2048x1408 .bf16) = L2 .bf16 (part 2048 1408 (t.val % 4) (t.val / 4 % 8) f) := by
  funext y
  unfold blk10 Region.blockAt
  rw [View.read_apply]
  show W c (Proc.devRef .tc main_v17) _ = _
  rw [h, ← (idx10 t).2.1.1, ← (idx10 t).2.1.2]
  rfl

theorem prod10 : k10_pay1 (L2 .bf16 f : FVec Ideal S1024x2048 .bf16) (L2 .bf16 g : FVec Ideal S2048x1408 .bf16) = L2 .f32 (fun r c => ∑ j ∈ Finset.range 2048, f r j * g j c) := by
  unfold k10_pay1
  rw [shapeCast_L2, shapeCast_L2]
  exact matmul_plain_L2 (M := 1024) (K := 2048) (N := 1408) f g

/-- The gradient of the gate's and the other factor's weights. -/
theorem arr10 (h0 : W c (Proc.devRef .tc main_v19) = (L2 .bf16 f : FVec Ideal S2048x8192 .bf16)) (h1 : W c (Proc.devRef .tc main_v17) = (L2 .bf16 g : FVec Ideal S8192x11264 .bf16)) :
    (dat10 W c).arrAt 2 cfg10.N = (L2 .bf16 (fun r c => ∑ j ∈ Finset.range 8192, f r j * g j c) : FVec Ideal S2048x11264 .bf16) := by
  refine (dat10 W c).arrAt_eq_of_covers 2 (L2 .bf16 (fun r c => ∑ j ∈ Finset.range 8192, f r j * g j c) : FVec Ideal S2048x11264 .bf16) (by decide +kernel) fun t hf y => ?_
  have e : acc10 W c (t.val + 1) = L2 .f32 (part 1024 1408 (t.val / 4 / 8) (t.val / 4 % 8) (fun r c => ∑ j ∈ Finset.range 8192, f r j * g j c)) := by
    unfold acc10
    refine accum_product (N := grid10.N) (by decide) 4 8 1024 1408 2048 (by decide) f g _ _ (fun t => ?_) (fun t e => ?_) t ((flush10_2 t).mp hf)
    · unfold k10_pay2
      rw [blk10_0 W c h0, blk10_1 W c h1, prod10, shapeCast_L2]
      try rfl
    · unfold k10_pay3
      rw [blk10_0 W c h0, blk10_1 W c h1, prod10]
      conv_lhs => zeta
      rw [addf_L2, shapeCast_L2]
      try rfl
  show ((k10_pay4 (acc10 W c (t.val + 1))) : FVec Ideal S1024x1408 .bf16) y = _
  unfold k10_pay4
  rw [e]
  refine congrArg (fun x : ℝ => (x : EReal)) ?_
  show part 1024 1408 (t.val / 4 / 8) (t.val / 4 % 8) _ _ _ = (fun r c => ∑ j ∈ Finset.range 8192, f r j * g j c) (win10_2.index t 0 * 1024 + 1 * (y 0).val) (win10_2.index t 1 * 1408 + 1 * (y 1).val)
  rw [(idx10 t).2.2.1, (idx10 t).2.2.2]
  rfl

/-! ### Call 11: `rms_ffn_pre_bwd` -/

theorem idx11 (t : Fin cfg11.N) : (win11_0.index t 0 = t.val ∧ win11_0.index t 1 = 0)
    ∧ (win11_1.index t 0 = 0 ∧ win11_1.index t 1 = 0)
    ∧ (win11_2.index t 0 = t.val ∧ win11_2.index t 1 = 0)
    ∧ (win11_3.index t 0 = t.val ∧ win11_3.index t 1 = 0)
    ∧ (win11_4.index t 0 = t.val ∧ win11_4.index t 1 = 0)
    ∧ (win11_5.index t 0 = 0 ∧ win11_5.index t 1 = 0) := by
  revert t; decide +kernel

theorem blk11_0 (h : W c (Proc.devRef .tc main_arg0) = (L2 .f32 f : FVec Ideal S8192x2048 .f32)) (t : Fin cfg11.N) :
    (blk11 W c 0 t : FVec Ideal S256x2048 .f32) = L2 .f32 (part 256 2048 t.val 0 f) := by
  funext y
  unfold blk11 Region.blockAt
  rw [View.read_apply]
  show W c (Proc.devRef .tc main_arg0) _ = _
  rw [h]
  refine congrArg (fun x : ℝ => (x : EReal)) ?_
  show f (win11_0.index t 0 * 256 + 1 * (y 0).val) (win11_0.index t 1 * 2048 + 1 * (y 1).val) = _
  rw [(idx11 t).1.1, (idx11 t).1.2]
  rfl
theorem blk11_1 (h : W c (Proc.devRef .tc main_v21) = (L2 .f32 f : FVec Ideal S1x2048 .f32)) (t : Fin cfg11.N) :
    (blk11 W c 1 t : FVec Ideal S1x2048 .f32) = L2 .f32 (part 1 2048 0 0 f) := by
  funext y
  unfold blk11 Region.blockAt
  rw [View.read_apply]
  show W c (Proc.devRef .tc main_v21) _ = _
  rw [h]
  refine congrArg (fun x : ℝ => (x : EReal)) ?_
  show f (win11_1.index t 0 * 1 + 1 * (y 0).val) (win11_1.index t 1 * 2048 + 1 * (y 1).val) = _
  rw [(idx11 t).2.1.1, (idx11 t).2.1.2]
  rfl
theorem blk11_2 (h : W c (Proc.devRef .tc main_v18) = (L2 .f32 f : FVec Ideal S8192x2048 .f32)) (t : Fin cfg11.N) :
    (blk11 W c 2 t : FVec Ideal S256x2048 .f32) = L2 .f32 (part 256 2048 t.val 0 f) := by
  funext y
  unfold blk11 Region.blockAt
  rw [View.read_apply]
  show W c (Proc.devRef .tc main_v18) _ = _
  rw [h]
  refine congrArg (fun x : ℝ => (x : EReal)) ?_
  show f (win11_2.index t 0 * 256 + 1 * (y 0).val) (win11_2.index t 1 * 2048 + 1 * (y 1).val) = _
  rw [(idx11 t).2.2.1.1, (idx11 t).2.2.1.2]
  rfl
theorem blk11_3 (h : W c (Proc.devRef .tc main_arg6) = (L2 .f32 f : FVec Ideal S8192x2048 .f32)) (t : Fin cfg11.N) :
    (blk11 W c 3 t : FVec Ideal S256x2048 .f32) = L2 .f32 (part 256 2048 t.val 0 f) := by
  funext y
  unfold blk11 Region.blockAt
  rw [View.read_apply]
  show W c (Proc.devRef .tc main_arg6) _ = _
  rw [h]
  refine congrArg (fun x : ℝ => (x : EReal)) ?_
  show f (win11_3.index t 0 * 256 + 1 * (y 0).val) (win11_3.index t 1 * 2048 + 1 * (y 1).val) = _
  rw [(idx11 t).2.2.2.1.1, (idx11 t).2.2.2.1.2]
  rfl

theorem root11 : k11_pay3 (L2 .f32 f : FVec Ideal S256x2048 .f32) = L2 .f32 (fun r _ => rs f r) := by
  unfold k11_pay3
  skip
  exact root_tile _ _ _ _
theorem unit11 : k11_pay4 (L2 .f32 f : FVec Ideal S256x2048 .f32) = L2 .f32 (fun r c => f r c * rs f r) := by
  unfold k11_pay4
  rw [root11, spread_col]
  exact mulf_L2 _ _
theorem grad11 : k11_pay5 (L2 .f32 f : FVec Ideal S256x2048 .f32) (L2 .f32 (fun _ c => w c) : FVec Ideal S1x2048 .f32) (L2 .f32 u : FVec Ideal S256x2048 .f32) (L2 .f32 v : FVec Ideal S256x2048 .f32) = L2 .f32 (fun r c => rmsDx f u w r c + v r c) := by
  unfold k11_pay5 k11_pay2
  rw [shapeCast_L2, shapeCast_L2, root11, unit11]
  exact (congrArg (fun z => addf z (L2 .f32 v)) (grad_tile _ _ _ _ _ _)).trans (addf_L2 _ _)
theorem scale11 : k11_pay6 (L2 .f32 f : FVec Ideal S256x2048 .f32) (L2 .f32 u : FVec Ideal S256x2048 .f32) = L2 .f32 (fun _ c => rmsDw f u 256 c) := by
  unfold k11_pay6 k11_pay2
  rw [shapeCast_L2, unit11]
  exact scale_tile _ _ _ _

/-- The gradient of the rows, added to the residual. -/
theorem arr11_4 (h0 : W c (Proc.devRef .tc main_arg0) = (L2 .f32 f : FVec Ideal S8192x2048 .f32)) (h1 : W c (Proc.devRef .tc main_v21) = (L2 .f32 (fun _ c => w c) : FVec Ideal S1x2048 .f32))
    (h2 : W c (Proc.devRef .tc main_v18) = (L2 .f32 u : FVec Ideal S8192x2048 .f32)) (h3 : W c (Proc.devRef .tc main_arg6) = (L2 .f32 v : FVec Ideal S8192x2048 .f32)) :
    (dat11 W c).arrAt 4 cfg11.N = (L2 .f32 (fun r c => rmsDx f u w r c + v r c) : FVec Ideal S8192x2048 .f32) := by
  refine (dat11 W c).arrAt_eq_of_covers 4 (L2 .f32 (fun r c => rmsDx f u w r c + v r c) : FVec Ideal S8192x2048 .f32) (by decide +kernel) fun t hf y => ?_
  show (k11_pay5 (blk11 W c 0 t) (blk11 W c 1 t) (blk11 W c 2 t) (blk11 W c 3 t) : FVec Ideal S256x2048 .f32) y = _
  rw [blk11_0 W c h0, blk11_1 W c h1, blk11_2 W c h2, blk11_3 W c h3]
  rw [show (L2 .f32 (part 1 2048 0 0 fun _ c => w c) : FVec Ideal S1x2048 .f32) = L2 .f32 (fun _ c => w c) from L2_congr fun r c _ _ => by rw [part_row]]
  rw [grad11, rmsDx_part, ← (idx11 t).2.2.2.2.1.1]
  refine congrArg (fun x : ℝ => (x : EReal)) ?_
  show part 256 2048 _ 0 _ _ _ + part 256 2048 _ 0 _ _ _ = rmsDx f u w (win11_4.index t 0 * 256 + 1 * (y 0).val) (win11_4.index t 1 * 2048 + 1 * (y 1).val) + v (win11_4.index t 0 * 256 + 1 * (y 0).val) (win11_4.index t 1 * 2048 + 1 * (y 1).val)
  rw [(idx11 t).2.2.2.2.1.2]
  rfl

/-- The gradient of the scale. -/
theorem arr11_5 (h0 : W c (Proc.devRef .tc main_arg0) = (L2 .f32 f : FVec Ideal S8192x2048 .f32)) (h2 : W c (Proc.devRef .tc main_v18) = (L2 .f32 u : FVec Ideal S8192x2048 .f32)) :
    (dat11 W c).arrAt 5 cfg11.N = (L2 .f32 (fun _ c => rmsDw f u 8192 c) : FVec Ideal S1x2048 .f32) := by
  refine (dat11 W c).arrAt_eq_of_covers 5 (L2 .f32 (fun _ c => rmsDw f u 8192 c) : FVec Ideal S1x2048 .f32) (by decide +kernel) fun t hf y => ?_
  have e : acc11 W c (t.val + 1) = L2 .f32 (fun _ c => rmsDw f u 8192 c) := by
    unfold acc11
    have ht := (flush11_5 t).mp hf
    refine (accum_L2 (N := grid11.N) (by decide) 32 _ _ (fun t _ c => rmsDw (part 256 2048 t 0 f) (part 256 2048 t 0 u) 256 c) (fun t => ?_) (fun t e => ?_) t.val t.isLt).trans ?_
    · rw [blk11_0 W c h0, blk11_2 W c h2, scale11]
    · unfold k11_pay1
      rw [blk11_0 W c h0, blk11_2 W c h2, scale11, shapeCast_L2]
      exact addf_L2 _ _
    · have hN : t.val < 32 := t.isLt
      rw [show t.val = 31 by omega]
      congr 1; funext r c
      simp only [show 31 % 32 + 1 = 32 from rfl, show 31 - 31 % 32 = 0 from rfl, Nat.zero_add]
      exact rmsDw_blocks f u 256 32 c
  show (acc11 W c (t.val + 1) : FVec Ideal S1x2048 .f32) y = _
  rw [e]
  refine congrArg (fun x : ℝ => (x : EReal)) ?_
  show rmsDw f u 8192 (y 1).val = rmsDw f u 8192 (win11_5.index t 1 * 2048 + 1 * (y 1).val)
  rw [(idx11 t).2.2.2.2.2.2, Nat.zero_mul, Nat.zero_add, Nat.one_mul]

end Cert.Kernel2Ideal.Calls

end
-- ==== Proof.FfnReal.lean ====
/- The feed-forward half and its gradients, over the real numbers. -/
module

public import proofs.«01_k».proof.Proof.Norm

@[expose] public section

set_option maxRecDepth 16384

noncomputable section

namespace Cert.Stick

open scoped BigOperators

/- The rows, the scales before and after, the weights of the gate, of the other factor and of the down product, and the
    gradient of the result. -/
variable (x : ℕ → ℕ → ℝ) (w v : ℕ → ℝ) (G U D E : ℕ → ℕ → ℝ)

/-- The gate before its logistic factor. -/
def ffGate (r c : ℕ) : ℝ := ∑ k ∈ Finset.range 2048, rms x w r k * G k c
/-- The gated product. -/
def ffAct (r c : ℕ) : ℝ := ffGate x w G r c * lg (ffGate x w G r c) * ffGate x w U r c
/-- The down product. -/
def ffOut (r c : ℕ) : ℝ := ∑ k ∈ Finset.range 5632, ffAct x w G U r k * D k c
/-- The gradient of the down product. -/
def ffDout : ℕ → ℕ → ℝ := rmsDx (ffOut x w G U D) E v
/-- The gradient of the gated product. -/
def ffDact (r c : ℕ) : ℝ := ∑ k ∈ Finset.range 2048, ffDout x w v G U D E r k * D c k
/-- The gradient of the gate. -/
def ffDgate (r c : ℕ) : ℝ := ffDact x w v G U D E r c * ffGate x w U r c * lgD (ffGate x w G r c)
/-- The gradient of the other factor. -/
def ffDup (r c : ℕ) : ℝ := ffDact x w v G U D E r c * (ffGate x w G r c * lg (ffGate x w G r c))
/-- The gradient of the normalised rows. -/
def ffDh (r c : ℕ) : ℝ := (∑ k ∈ Finset.range 5632, ffDgate x w v G U D E r k * G c k) + ∑ k ∈ Finset.range 5632, ffDup x w v G U D E r k * U c k

end Cert.Stick

end
-- ==== Proof.FfnValue.lean ====
/- What the feed-forward half's program leaves in its results when its arguments are matrices of real numbers. -/
module

public import proofs.«01_k».proof.Proof.RunFfn
public import proofs.«01_k».proof.Proof.ValFfn
public import proofs.«01_k».proof.Proof.FfnReal
public import proofs.«01_k».proof.Proof.Pad

@[expose] public section

set_option maxRecDepth 16384

noncomputable section

namespace Cert.Kernel2Ideal.Calls

open Cert.Kernel2Ideal Cert.Kernel2Ideal.Gen Cert.Stick
open Idealize.ShloMosaic Idealize.ShloMosaic.TcCoe Idealize.ShloMosaic.Tactic Idealize.ShloMosaic.StableHlo
open scoped BigOperators

section Host
variable (V : Valuation τ sig (Elt Ideal)) {f g : ℕ → ℕ → ℝ} {w : ℕ → ℝ}

theorem host0_v4 (h : V (Proc.devRef .tc main_arg1) = (L1 .f32 w : FVec Ideal S2048 .f32)) :
    StableHlo.after hostOps0 V (Proc.devRef .tc main_v4) = (L2 .f32 (fun _ c => w c) : FVec Ideal S1x2048 .f32) := by
  after_results_simp
  rw [h]
  exact cast_row w _
theorem host4_v9 (h : V (Proc.devRef .tc main_arg2) = (L1 .f32 w : FVec Ideal S2048 .f32)) :
    StableHlo.after hostOps4 V (Proc.devRef .tc main_v9) = (L2 .f32 (fun _ c => w c) : FVec Ideal S1x2048 .f32) := by
  after_results_simp
  rw [h]
  exact cast_row w _
theorem host5_v11 (h : V (Proc.devRef .tc main_arg2) = (L1 .f32 w : FVec Ideal S2048 .f32)) :
    StableHlo.after hostOps5 V (Proc.devRef .tc main_v11) = (L2 .f32 (fun _ c => w c) : FVec Ideal S1x2048 .f32) := by
  after_results_simp
  rw [h]
  exact cast_row w _
theorem host11_v21 (h : V (Proc.devRef .tc main_arg1) = (L1 .f32 w : FVec Ideal S2048 .f32)) :
    StableHlo.after hostOps11 V (Proc.devRef .tc main_v21) = (L2 .f32 (fun _ c => w c) : FVec Ideal S1x2048 .f32) := by
  after_results_simp
  rw [h]
  exact cast_row w _
theorem host6_v13 (h : V (Proc.devRef .tc main_v12_1) = (L2 .f32 (fun _ c => w c) : FVec Ideal S1x2048 .f32)) :
    StableHlo.after hostOps6 V (Proc.devRef .tc main_v13) = (L1 .f32 w : FVec Ideal S2048 .f32) := by
  after_results_simp
  rw [h]
  exact uncast_row _ _
theorem host12_v23 (h : V (Proc.devRef .tc main_v22_1) = (L2 .f32 (fun _ c => w c) : FVec Ideal S1x2048 .f32)) :
    StableHlo.after hostOps12 V (Proc.devRef .tc main_v23) = (L1 .f32 w : FVec Ideal S2048 .f32) := by
  after_results_simp
  rw [h]
  exact uncast_row _ _
theorem host0_v3 (h : V (Proc.devRef .tc main_arg5) = (L2 .f32 f : FVec Ideal S5632x2048 .f32)) :
    StableHlo.after hostOps0 V (Proc.devRef .tc main_v3) = (L2 .bf16 f : FVec Ideal S5632x2048 .bf16) := by
  after_results_simp
  rw [h]
  exact rfl
theorem host0_v2 (h : V (Proc.devRef .tc main_arg3) = (L2 .f32 f : FVec Ideal S2048x5632 .f32)) (h' : V (Proc.devRef .tc main_arg4) = (L2 .f32 g : FVec Ideal S2048x5632 .f32)) :
    StableHlo.after hostOps0 V (Proc.devRef .tc main_v2) = (L2 .bf16 (beside 5632 f g) : FVec Ideal S2048x11264 .bf16) := by
  have a : (L2 .bf16 f : FVec Ideal S2048x5632 .bf16) = truncf .bf16 (V (Proc.devRef .tc main_arg3) : FVec Ideal S2048x5632 .f32) bitsLt_bf16_f32 := by rw [h]; rfl
  have b : (L2 .bf16 g : FVec Ideal S2048x5632 .bf16) = truncf .bf16 (V (Proc.devRef .tc main_arg4) : FVec Ideal S2048x5632 .f32) bitsLt_bf16_f32 := by rw [h']; rfl
  have e := joined_two (M := 2048) (N := 11264) (φ := .bf16) 5632 rfl f g concatenates_S2048x5632_S2048x5632_S2048x11264_d1
  rw [a, b] at e
  refine Eq.trans ?_ e
  after_results_simp
  rfl
theorem host7_v15 (h : V (Proc.devRef .tc main_v7) = (L2 .bf16 f : FVec Ideal S8192x5632 .bf16)) :
    StableHlo.after hostOps7 V (Proc.devRef .tc main_v15) = (L2 .bf16 (fun r c => f c r) : FVec Ideal S5632x8192 .bf16) := by
  after_results_simp
  rw [h]
  exact transpose_L2 f _
theorem host10_v19 (h : V (Proc.devRef .tc main_v5) = (L2 .bf16 f : FVec Ideal S8192x2048 .bf16)) :
    StableHlo.after hostOps10 V (Proc.devRef .tc main_v19) = (L2 .bf16 (fun r c => f c r) : FVec Ideal S2048x8192 .bf16) := by
  after_results_simp
  rw [h]
  exact transpose_L2 f _
theorem host12_v28 (h : V (Proc.devRef .tc main_v16) = (L2 .bf16 f : FVec Ideal S5632x2048 .bf16)) :
    StableHlo.after hostOps12 V (Proc.devRef .tc main_v28) = (L2 .f32 f : FVec Ideal S5632x2048 .f32) := by
  after_results_simp
  rw [h]
  exact rfl
theorem host12_v25 (h : V (Proc.devRef .tc main_v20) = (L2 .bf16 f : FVec Ideal S2048x11264 .bf16)) :
    StableHlo.after hostOps12 V (Proc.devRef .tc main_v25) = (L2 .f32 (fun r c => f r (0 + c)) : FVec Ideal S2048x5632 .f32) := by
  after_results_simp
  rw [h]
  exact congrArg (fun z : FVec Ideal S2048x5632 .bf16 => extf .f32 z bitsLt_bf16_f32) (slice_cols (f := f) slices_S2048x11264_S2048x5632_0_0)
theorem host12_v27 (h : V (Proc.devRef .tc main_v20) = (L2 .bf16 f : FVec Ideal S2048x11264 .bf16)) :
    StableHlo.after hostOps12 V (Proc.devRef .tc main_v27) = (L2 .f32 (fun r c => f r (5632 + c)) : FVec Ideal S2048x5632 .f32) := by
  after_results_simp
  rw [h]
  exact congrArg (fun z : FVec Ideal S2048x5632 .bf16 => extf .f32 z bitsLt_bf16_f32) (slice_cols (f := f) slices_S2048x11264_S2048x5632_0_5632)

end Host

section Results
variable (m : (ℓ : Loc nD τ sig) → Buf (Elt Ideal) ℓ) (ρ : Dev nD → PrngReg) (c : Dev nD) {x G U D E : ℕ → ℕ → ℝ} {w v : ℕ → ℝ}

/-- The arguments are the matrices `x`, `G`, `U`, `D`, `E` and the vectors `w` and `v`. -/
structure Args (x : ℕ → ℕ → ℝ) (w v : ℕ → ℝ) (G U D E : ℕ → ℕ → ℝ) : Prop where
  h0 : m ((c.tc : Thread nD τ).loc main_arg0) = (L2 .f32 x : FVec Ideal S8192x2048 .f32)
  h1 : m ((c.tc : Thread nD τ).loc main_arg1) = (L1 .f32 w : FVec Ideal S2048 .f32)
  h2 : m ((c.tc : Thread nD τ).loc main_arg2) = (L1 .f32 v : FVec Ideal S2048 .f32)
  h3 : m ((c.tc : Thread nD τ).loc main_arg3) = (L2 .f32 G : FVec Ideal S2048x5632 .f32)
  h4 : m ((c.tc : Thread nD τ).loc main_arg4) = (L2 .f32 U : FVec Ideal S2048x5632 .f32)
  h5 : m ((c.tc : Thread nD τ).loc main_arg5) = (L2 .f32 D : FVec Ideal S5632x2048 .f32)
  h6 : m ((c.tc : Thread nD τ).loc main_arg6) = (L2 .f32 E : FVec Ideal S8192x2048 .f32)

variable (h : Args m c x w v G U D E)
include h

theorem v2_1 : B1 m c (Proc.devRef .tc main_v2) = (L2 .bf16 (beside 5632 G U) : FVec Ideal S2048x11264 .bf16) :=
  host0_v2 _ h.h3 h.h4
theorem v3_1 : B1 m c (Proc.devRef .tc main_v3) = (L2 .bf16 D : FVec Ideal S5632x2048 .bf16) :=
  host0_v3 _ h.h5
theorem v5_2 : B2 m c (Proc.devRef .tc main_v5) = (L2 .bf16 (rms x w) : FVec Ideal S8192x2048 .bf16) :=
  (Region.exitW_arr (dat0 (B1 m)) (B1 m) launch0.to₀.sharedIn (fun _ _ => rfl) c 2).trans (arr0 (B1 m) c ((B1_of m c main_arg0 (by decide)).trans h.h0) (host0_v4 _ h.h1))
theorem v6_3 : B3 m c (Proc.devRef .tc main_v6) = (L2 .bf16 (beside 5632 (ffGate x w G) (ffGate x w U)) : FVec Ideal S8192x11264 .bf16) :=
  (Region.exitW_arr (dat1 (B2 m)) (B2 m) launch1.to₀.sharedIn (fun _ _ => rfl) c 2).trans ((arr1 (B2 m) c (v5_2 m c h) ((B2_of m c main_v2 (by decide)).trans (v2_1 m c h))).trans
    (L2_congr fun r c _ _ => by unfold beside; split <;> rfl))
theorem v7_4 : B4 m c (Proc.devRef .tc main_v7) = (L2 .bf16 (ffAct x w G U) : FVec Ideal S8192x5632 .bf16) :=
  (Region.exitW_arr (dat2 (B3 m)) (B3 m) launch₀2.sharedIn (fun _ _ => rfl) c 2).trans ((arr2 (B3 m) c (v6_3 m c h)).trans
    (L2_congr fun r c _ (hc : c < 5632) => by rw [beside_lt _ _ _ _ hc, beside_add]; rfl))
theorem v8_5 : B5 m c (Proc.devRef .tc main_v8) = (L2 .f32 (ffOut x w G U D) : FVec Ideal S8192x2048 .f32) :=
  (Region.exitW_arr (dat3 (B4 m)) (B4 m) launch3.to₀.sharedIn (fun _ _ => rfl) c 2).trans (arr3 (B4 m) c (v7_4 m c h) ((B4_of m c main_v3 (by decide)).trans ((B3_of m c main_v3 (by decide)).trans ((B2_of m c main_v3 (by decide)).trans (v3_1 m c h)))))
theorem v10_7 : B7 m c (Proc.devRef .tc main_v10) = (L2 .f32 (fun i j => rms (ffOut x w G U D) v i j + x i j) : FVec Ideal S8192x2048 .f32) :=
  (Region.exitW_arr (dat4 (B6 m)) (B6 m) launch4.to₀.sharedIn (fun _ _ => rfl) c 3).trans (arr4 (B6 m) c ((B6_of m c main_v8 (by decide)).trans (v8_5 m c h)) (host4_v9 _ ((B5_of m c main_arg2 (by decide)).trans ((B4_of m c main_arg2 (by decide)).trans ((B3_of m c main_arg2 (by decide)).trans ((B2_of m c main_arg2 (by decide)).trans ((B1_of m c main_arg2 (by decide)).trans h.h2)))))) ((B6_of m c main_arg0 (by decide)).trans ((B5_of m c main_arg0 (by decide)).trans ((B4_of m c main_arg0 (by decide)).trans ((B3_of m c main_arg0 (by decide)).trans ((B2_of m c main_arg0 (by decide)).trans ((B1_of m c main_arg0 (by decide)).trans h.h0)))))))
theorem v12_0_9 : B9 m c (Proc.devRef .tc main_v12_0) = (L2 .bf16 (ffDout x w v G U D E) : FVec Ideal S8192x2048 .bf16) :=
  (Region.exitW_arr (dat5 (B8 m)) (B8 m) launch5.to₀.sharedIn (fun _ _ => rfl) c 3).trans (arr5_3 (B8 m) c ((B8_of m c main_v8 (by decide)).trans ((B7_of m c main_v8 (by decide)).trans ((B6_of m c main_v8 (by decide)).trans (v8_5 m c h)))) (host5_v11 _ ((B7_of m c main_arg2 (by decide)).trans ((B6_of m c main_arg2 (by decide)).trans ((B5_of m c main_arg2 (by decide)).trans ((B4_of m c main_arg2 (by decide)).trans ((B3_of m c main_arg2 (by decide)).trans ((B2_of m c main_arg2 (by decide)).trans ((B1_of m c main_arg2 (by decide)).trans h.h2)))))))) ((B8_of m c main_arg6 (by decide)).trans ((B7_of m c main_arg6 (by decide)).trans ((B6_of m c main_arg6 (by decide)).trans ((B5_of m c main_arg6 (by decide)).trans ((B4_of m c main_arg6 (by decide)).trans ((B3_of m c main_arg6 (by decide)).trans ((B2_of m c main_arg6 (by decide)).trans ((B1_of m c main_arg6 (by decide)).trans h.h6)))))))))
theorem v12_1_9 : B9 m c (Proc.devRef .tc main_v12_1) = (L2 .f32 (fun _ c => rmsDw (ffOut x w G U D) E 8192 c) : FVec Ideal S1x2048 .f32) :=
  (Region.exitW_arr (dat5 (B8 m)) (B8 m) launch5.to₀.sharedIn (fun _ _ => rfl) c 4).trans (arr5_4 (B8 m) c ((B8_of m c main_v8 (by decide)).trans ((B7_of m c main_v8 (by decide)).trans ((B6_of m c main_v8 (by decide)).trans (v8_5 m c h)))) ((B8_of m c main_arg6 (by decide)).trans ((B7_of m c main_arg6 (by decide)).trans ((B6_of m c main_arg6 (by decide)).trans ((B5_of m c main_arg6 (by decide)).trans ((B4_of m c main_arg6 (by decide)).trans ((B3_of m c main_arg6 (by decide)).trans ((B2_of m c main_arg6 (by decide)).trans ((B1_of m c main_arg6 (by decide)).trans h.h6)))))))))
theorem v13_10 : B10 m c (Proc.devRef .tc main_v13) = (L1 .f32 (fun j => rmsDw (ffOut x w G U D) E 8192 j) : FVec Ideal S2048 .f32) :=
  host6_v13 _ (v12_1_9 m c h)
theorem v14_11 : B11 m c (Proc.devRef .tc main_v14) = (L2 .f32 (ffDact x w v G U D E) : FVec Ideal S8192x5632 .f32) :=
  (Region.exitW_arr (dat6 (B10 m)) (B10 m) launch6.to₀.sharedIn (fun _ _ => rfl) c 2).trans (arr6 (B10 m) c ((B10_of m c main_v12_0 (by decide)).trans (v12_0_9 m c h)) ((B10_of m c main_v3 (by decide)).trans ((B9_of m c main_v3 (by decide)).trans ((B8_of m c main_v3 (by decide)).trans ((B7_of m c main_v3 (by decide)).trans ((B6_of m c main_v3 (by decide)).trans ((B5_of m c main_v3 (by decide)).trans ((B4_of m c main_v3 (by decide)).trans ((B3_of m c main_v3 (by decide)).trans ((B2_of m c main_v3 (by decide)).trans (v3_1 m c h)))))))))))
theorem v15_12 : B12 m c (Proc.devRef .tc main_v15) = (L2 .bf16 (fun r c => ffAct x w G U c r) : FVec Ideal S5632x8192 .bf16) :=
  host7_v15 _ ((B11_of m c main_v7 (by decide)).trans ((B10_of m c main_v7 (by decide)).trans ((B9_of m c main_v7 (by decide)).trans ((B8_of m c main_v7 (by decide)).trans ((B7_of m c main_v7 (by decide)).trans ((B6_of m c main_v7 (by decide)).trans ((B5_of m c main_v7 (by decide)).trans (v7_4 m c h))))))))
theorem v16_13 : B13 m c (Proc.devRef .tc main_v16) = (L2 .bf16 (fun r c => ∑ k ∈ Finset.range 8192, ffAct x w G U k r * ffDout x w v G U D E k c) : FVec Ideal S5632x2048 .bf16) :=
  (Region.exitW_arr (dat7 (B12 m)) (B12 m) launch7.to₀.sharedIn (fun _ _ => rfl) c 2).trans (arr7 (B12 m) c (v15_12 m c h) ((B12_of m c main_v12_0 (by decide)).trans ((B11_of m c main_v12_0 (by decide)).trans ((B10_of m c main_v12_0 (by decide)).trans (v12_0_9 m c h)))))
theorem v17_14 : B14 m c (Proc.devRef .tc main_v17) = (L2 .bf16 (beside 5632 (ffDgate x w v G U D E) (ffDup x w v G U D E)) : FVec Ideal S8192x11264 .bf16) :=
  (Region.exitW_arr (dat8 (B13 m)) (B13 m) launch₀8.sharedIn (fun _ _ => rfl) c 3).trans ((arr8 (B13 m) c ((B13_of m c main_v6 (by decide)).trans ((B12_of m c main_v6 (by decide)).trans ((B11_of m c main_v6 (by decide)).trans ((B10_of m c main_v6 (by decide)).trans ((B9_of m c main_v6 (by decide)).trans ((B8_of m c main_v6 (by decide)).trans ((B7_of m c main_v6 (by decide)).trans ((B6_of m c main_v6 (by decide)).trans ((B5_of m c main_v6 (by decide)).trans ((B4_of m c main_v6 (by decide)).trans (v6_3 m c h))))))))))) ((B13_of m c main_v14 (by decide)).trans ((B12_of m c main_v14 (by decide)).trans (v14_11 m c h)))).trans
    (L2_congr fun r c _ (hc : c < 11264) => by
      by_cases e : c < 5632
      · rw [beside_lt _ _ _ _ e, beside_lt _ _ _ _ e, beside_lt _ _ _ _ e, beside_add]; rfl
      · obtain ⟨d, rfl⟩ : ∃ d, c = 5632 + d := ⟨c - 5632, by omega⟩
        rw [beside_add, beside_add, beside_lt _ _ r d (by omega)]; rfl))
theorem v18_15 : B15 m c (Proc.devRef .tc main_v18) = (L2 .f32 (ffDh x w v G U D E) : FVec Ideal S8192x2048 .f32) :=
  (Region.exitW_arr (dat9 (B14 m)) (B14 m) launch9.to₀.sharedIn (fun _ _ => rfl) c 2).trans ((arr9 (B14 m) c (v17_14 m c h) ((B14_of m c main_v2 (by decide)).trans ((B13_of m c main_v2 (by decide)).trans ((B12_of m c main_v2 (by decide)).trans ((B11_of m c main_v2 (by decide)).trans ((B10_of m c main_v2 (by decide)).trans ((B9_of m c main_v2 (by decide)).trans ((B8_of m c main_v2 (by decide)).trans ((B7_of m c main_v2 (by decide)).trans ((B6_of m c main_v2 (by decide)).trans ((B5_of m c main_v2 (by decide)).trans ((B4_of m c main_v2 (by decide)).trans ((B3_of m c main_v2 (by decide)).trans ((B2_of m c main_v2 (by decide)).trans (v2_1 m c h))))))))))))))).trans
    (L2_congr fun r c _ _ => sum_beside 5632 5632 _ _ _ _ r c))
theorem v19_16 : B16 m c (Proc.devRef .tc main_v19) = (L2 .bf16 (fun r c => rms x w c r) : FVec Ideal S2048x8192 .bf16) :=
  host10_v19 _ ((B15_of m c main_v5 (by decide)).trans ((B14_of m c main_v5 (by decide)).trans ((B13_of m c main_v5 (by decide)).trans ((B12_of m c main_v5 (by decide)).trans ((B11_of m c main_v5 (by decide)).trans ((B10_of m c main_v5 (by decide)).trans ((B9_of m c main_v5 (by decide)).trans ((B8_of m c main_v5 (by decide)).trans ((B7_of m c main_v5 (by decide)).trans ((B6_of m c main_v5 (by decide)).trans ((B5_of m c main_v5 (by decide)).trans ((B4_of m c main_v5 (by decide)).trans ((B3_of m c main_v5 (by decide)).trans (v5_2 m c h))))))))))))))
theorem v20_17 : B17 m c (Proc.devRef .tc main_v20) = (L2 .bf16 (beside 5632 (fun r c => ∑ k ∈ Finset.range 8192, rms x w k r * ffDgate x w v G U D E k c) (fun r c => ∑ k ∈ Finset.range 8192, rms x w k r * ffDup x w v G U D E k c)) : FVec Ideal S2048x11264 .bf16) :=
  (Region.exitW_arr (dat10 (B16 m)) (B16 m) launch10.to₀.sharedIn (fun _ _ => rfl) c 2).trans ((arr10 (B16 m) c (v19_16 m c h) ((B16_of m c main_v17 (by decide)).trans ((B15_of m c main_v17 (by decide)).trans (v17_14 m c h)))).trans
    (L2_congr fun r c _ _ => by unfold beside; split <;> rfl))
theorem v22_0_19 : B19 m c (Proc.devRef .tc main_v22_0) = (L2 .f32 (fun i j => rmsDx x (ffDh x w v G U D E) w i j + E i j) : FVec Ideal S8192x2048 .f32) :=
  (Region.exitW_arr (dat11 (B18 m)) (B18 m) launch11.to₀.sharedIn (fun _ _ => rfl) c 4).trans (arr11_4 (B18 m) c ((B18_of m c main_arg0 (by decide)).trans ((B17_of m c main_arg0 (by decide)).trans ((B16_of m c main_arg0 (by decide)).trans ((B15_of m c main_arg0 (by decide)).trans ((B14_of m c main_arg0 (by decide)).trans ((B13_of m c main_arg0 (by decide)).trans ((B12_of m c main_arg0 (by decide)).trans ((B11_of m c main_arg0 (by decide)).trans ((B10_of m c main_arg0 (by decide)).trans ((B9_of m c main_arg0 (by decide)).trans ((B8_of m c main_arg0 (by decide)).trans ((B7_of m c main_arg0 (by decide)).trans ((B6_of m c main_arg0 (by decide)).trans ((B5_of m c main_arg0 (by decide)).trans ((B4_of m c main_arg0 (by decide)).trans ((B3_of m c main_arg0 (by decide)).trans ((B2_of m c main_arg0 (by decide)).trans ((B1_of m c main_arg0 (by decide)).trans h.h0)))))))))))))))))) (host11_v21 _ ((B17_of m c main_arg1 (by decide)).trans ((B16_of m c main_arg1 (by decide)).trans ((B15_of m c main_arg1 (by decide)).trans ((B14_of m c main_arg1 (by decide)).trans ((B13_of m c main_arg1 (by decide)).trans ((B12_of m c main_arg1 (by decide)).trans ((B11_of m c main_arg1 (by decide)).trans ((B10_of m c main_arg1 (by decide)).trans ((B9_of m c main_arg1 (by decide)).trans ((B8_of m c main_arg1 (by decide)).trans ((B7_of m c main_arg1 (by decide)).trans ((B6_of m c main_arg1 (by decide)).trans ((B5_of m c main_arg1 (by decide)).trans ((B4_of m c main_arg1 (by decide)).trans ((B3_of m c main_arg1 (by decide)).trans ((B2_of m c main_arg1 (by decide)).trans ((B1_of m c main_arg1 (by decide)).trans h.h1)))))))))))))))))) ((B18_of m c main_v18 (by decide)).trans ((B17_of m c main_v18 (by decide)).trans ((B16_of m c main_v18 (by decide)).trans (v18_15 m c h)))) ((B18_of m c main_arg6 (by decide)).trans ((B17_of m c main_arg6 (by decide)).trans ((B16_of m c main_arg6 (by decide)).trans ((B15_of m c main_arg6 (by decide)).trans ((B14_of m c main_arg6 (by decide)).trans ((B13_of m c main_arg6 (by decide)).trans ((B12_of m c main_arg6 (by decide)).trans ((B11_of m c main_arg6 (by decide)).trans ((B10_of m c main_arg6 (by decide)).trans ((B9_of m c main_arg6 (by decide)).trans ((B8_of m c main_arg6 (by decide)).trans ((B7_of m c main_arg6 (by decide)).trans ((B6_of m c main_arg6 (by decide)).trans ((B5_of m c main_arg6 (by decide)).trans ((B4_of m c main_arg6 (by decide)).trans ((B3_of m c main_arg6 (by decide)).trans ((B2_of m c main_arg6 (by decide)).trans ((B1_of m c main_arg6 (by decide)).trans h.h6)))))))))))))))))))
theorem v22_1_19 : B19 m c (Proc.devRef .tc main_v22_1) = (L2 .f32 (fun _ c => rmsDw x (ffDh x w v G U D E) 8192 c) : FVec Ideal S1x2048 .f32) :=
  (Region.exitW_arr (dat11 (B18 m)) (B18 m) launch11.to₀.sharedIn (fun _ _ => rfl) c 5).trans (arr11_5 (B18 m) c ((B18_of m c main_arg0 (by decide)).trans ((B17_of m c main_arg0 (by decide)).trans ((B16_of m c main_arg0 (by decide)).trans ((B15_of m c main_arg0 (by decide)).trans ((B14_of m c main_arg0 (by decide)).trans ((B13_of m c main_arg0 (by decide)).trans ((B12_of m c main_arg0 (by decide)).trans ((B11_of m c main_arg0 (by decide)).trans ((B10_of m c main_arg0 (by decide)).trans ((B9_of m c main_arg0 (by decide)).trans ((B8_of m c main_arg0 (by decide)).trans ((B7_of m c main_arg0 (by decide)).trans ((B6_of m c main_arg0 (by decide)).trans ((B5_of m c main_arg0 (by decide)).trans ((B4_of m c main_arg0 (by decide)).trans ((B3_of m c main_arg0 (by decide)).trans ((B2_of m c main_arg0 (by decide)).trans ((B1_of m c main_arg0 (by decide)).trans h.h0)))))))))))))))))) ((B18_of m c main_v18 (by decide)).trans ((B17_of m c main_v18 (by decide)).trans ((B16_of m c main_v18 (by decide)).trans (v18_15 m c h)))))

/-- The half's result. -/
theorem end_x2 : B20 m c (Proc.devRef .tc main_v10) = (L2 .f32 (fun i j => rms (ffOut x w G U D) v i j + x i j) : FVec Ideal S8192x2048 .f32) :=
  ((B20_of m c main_v10 (by decide)).trans ((B19_of m c main_v10 (by decide)).trans ((B18_of m c main_v10 (by decide)).trans ((B17_of m c main_v10 (by decide)).trans ((B16_of m c main_v10 (by decide)).trans ((B15_of m c main_v10 (by decide)).trans ((B14_of m c main_v10 (by decide)).trans ((B13_of m c main_v10 (by decide)).trans ((B12_of m c main_v10 (by decide)).trans ((B11_of m c main_v10 (by decide)).trans ((B10_of m c main_v10 (by decide)).trans ((B9_of m c main_v10 (by decide)).trans ((B8_of m c main_v10 (by decide)).trans (v10_7 m c h))))))))))))))
/-- The gradient of the rows. -/
theorem end_dx : B20 m c (Proc.devRef .tc main_v22_0) = (L2 .f32 (fun i j => rmsDx x (ffDh x w v G U D E) w i j + E i j) : FVec Ideal S8192x2048 .f32) :=
  ((B20_of m c main_v22_0 (by decide)).trans (v22_0_19 m c h))
/-- The gradient of the scale before. -/
theorem end_pre : B20 m c (Proc.devRef .tc main_v23) = (L1 .f32 (fun j => rmsDw x (ffDh x w v G U D E) 8192 j) : FVec Ideal S2048 .f32) :=
  host12_v23 _ (v22_1_19 m c h)
/-- The gradient of the scale after. -/
theorem end_post : B20 m c (Proc.devRef .tc main_v13) = (L1 .f32 (fun j => rmsDw (ffOut x w G U D) E 8192 j) : FVec Ideal S2048 .f32) :=
  ((B20_of m c main_v13 (by decide)).trans ((B19_of m c main_v13 (by decide)).trans ((B18_of m c main_v13 (by decide)).trans ((B17_of m c main_v13 (by decide)).trans ((B16_of m c main_v13 (by decide)).trans ((B15_of m c main_v13 (by decide)).trans ((B14_of m c main_v13 (by decide)).trans ((B13_of m c main_v13 (by decide)).trans ((B12_of m c main_v13 (by decide)).trans ((B11_of m c main_v13 (by decide)).trans (v13_10 m c h)))))))))))
/-- The gradient of the gate's weights. -/
theorem end_gate : B20 m c (Proc.devRef .tc main_v25) = (L2 .f32 (fun i j => ∑ k ∈ Finset.range 8192, rms x w k i * ffDgate x w v G U D E k j) : FVec Ideal S2048x5632 .f32) :=
  (host12_v25 _ ((B19_of m c main_v20 (by decide)).trans ((B18_of m c main_v20 (by decide)).trans (v20_17 m c h)))).trans (L2_congr fun i j _ (hj : j < 5632) => by rw [Nat.zero_add, beside_lt _ _ _ _ hj])
/-- The gradient of the other factor's weights. -/
theorem end_up : B20 m c (Proc.devRef .tc main_v27) = (L2 .f32 (fun i j => ∑ k ∈ Finset.range 8192, rms x w k i * ffDup x w v G U D E k j) : FVec Ideal S2048x5632 .f32) :=
  (host12_v27 _ ((B19_of m c main_v20 (by decide)).trans ((B18_of m c main_v20 (by decide)).trans (v20_17 m c h)))).trans (L2_congr fun i j _ hj => by rw [beside_add])
/-- The gradient of the down product's weights. -/
theorem end_down : B20 m c (Proc.devRef .tc main_v28) = (L2 .f32 (fun i j => ∑ k ∈ Finset.range 8192, ffAct x w G U k i * ffDout x w v G U D E k j) : FVec Ideal S5632x2048 .f32) :=
  host12_v28 _ ((B19_of m c main_v16 (by decide)).trans ((B18_of m c main_v16 (by decide)).trans ((B17_of m c main_v16 (by decide)).trans ((B16_of m c main_v16 (by decide)).trans ((B15_of m c main_v16 (by decide)).trans ((B14_of m c main_v16 (by decide)).trans (v16_13 m c h)))))))

end Results

end Cert.Kernel2Ideal.Calls

end
-- ==== Proof.RefNorm.lean ====
/- The normalisation of the rows and its derivative as the references compute them on the host. -/
module

public import proofs.«01_k».proof.Proof.Norm

@[expose] public section

set_option maxRecDepth 16384

noncomputable section

namespace Cert.Stick

open Idealize.ShloMosaic Idealize.ShloMosaic.ValueIdx
open scoped BigOperators

variable {M : ℕ} {x u : ℕ → ℕ → ℝ} {w : ℕ → ℝ}

section
variable (hb : (⟨1, ![M]⟩ : Shape).BroadcastsInDim ⟨2, ![M, 1]⟩ (![0] : Fin 1 → Fin 2)) (hr : (⟨2, ![M, 2048]⟩ : Shape).ReducesTo [1] ⟨1, ![M]⟩)
  (hu : 0 < (⟨0, ![]⟩ : Shape).numel) (hc : (⟨0, ![]⟩ : Shape).BroadcastsInDim ⟨2, ![M, 1]⟩ (![] : Fin 0 → Fin 2))
  (hs : (⟨2, ![M, 1]⟩ : Shape).BroadcastsInDim ⟨2, ![M, 2048]⟩ (![0, 1] : Fin 2 → Fin 2))
  (h1 : (⟨1, ![2048]⟩ : Shape).BroadcastsInDim ⟨2, ![1, 2048]⟩ (![1] : Fin 1 → Fin 2)) (h2 : (⟨2, ![1, 2048]⟩ : Shape).BroadcastsInDim ⟨2, ![M, 2048]⟩ (![0, 1] : Fin 2 → Fin 2))

theorem ms_host : addf (Host.divf (broadcastInDim ⟨2, ![M, 1]⟩ ![0] hb (Host.reduceAdd (mulf (L2 .f32 x : FVec Ideal ⟨2, ![M, 2048]⟩ .f32) (L2 .f32 x)) (constant (F := Ideal) ⟨0, ![]⟩ .f32 0x00000000#32) hr hu))
      (broadcastInDim ⟨2, ![M, 1]⟩ ![] hc (constant (F := Ideal) ⟨0, ![]⟩ .f32 0x45000000#32))) (broadcastInDim ⟨2, ![M, 1]⟩ ![] hc (constant (F := Ideal) ⟨0, ![]⟩ .f32 0x358637BD#32))
    = L2 .f32 (fun r _ => ms x r) := by
  rw [mulf_L2, hrowsums_L2, hcol_L1, bcast_const ofBits_2048, bcast_const ofBits_eps_pos.1, hdivf_L2 _ _ (fun _ _ => by norm_num)]
  exact addf_L2 _ _

theorem rs_host : Host.rsqrt (L2 .f32 (fun r _ => ms x r) : FVec Ideal ⟨2, ![M, 1]⟩ .f32) = L2 .f32 (fun r _ => rs x r) := hrsqrt_L2 _ (fun r _ => ms_pos x r)

theorem unit_host : mulf (L2 .f32 x : FVec Ideal ⟨2, ![M, 2048]⟩ .f32) (broadcastInDim ⟨2, ![M, 2048]⟩ ![0, 1] hs (L2 .f32 (fun r _ => rs x r) : FVec Ideal ⟨2, ![M, 1]⟩ .f32))
    = L2 .f32 (fun r c => x r c * rs x r) := by
  rw [hspread_col, mulf_L2]

theorem scale_host : broadcastInDim ⟨2, ![M, 2048]⟩ ![0, 1] h2 (broadcastInDim ⟨2, ![1, 2048]⟩ ![1] h1 (L1 .f32 w : FVec Ideal ⟨1, ![2048]⟩ .f32)) = L2 .f32 (fun _ c => w c) := by
  rw [hrow_L1, hspread_row]

theorem rms_host : mulf (L2 .f32 (fun r c => x r c * rs x r) : FVec Ideal ⟨2, ![M, 2048]⟩ .f32) (L2 .f32 (fun _ c => w c)) = L2 .f32 (rms x w) := mulf_L2 _ _

/-- The share of the mean of squares in the derivative. -/
def share (x u : ℕ → ℕ → ℝ) (w : ℕ → ℝ) (r : ℕ) : ℝ := (∑ j ∈ Finset.range 2048, x r j * (u r j * w j)) * (-(1 / 2) * (rs x r / ms x r)) / 2048

theorem share_host (hk : (⟨1, ![M]⟩ : Shape).ShapeCasts ⟨2, ![M, 1]⟩) (hr1 : (⟨2, ![M, 1]⟩ : Shape).ReducesTo [1] ⟨1, ![M]⟩) (hb2 : (⟨1, ![M]⟩ : Shape).BroadcastsInDim ⟨2, ![M, 2048]⟩ (![0] : Fin 1 → Fin 2)) :
    broadcastInDim ⟨2, ![M, 2048]⟩ ![0] hb2 (Host.reduceAdd (Host.divf (mulf (shapeCast ⟨2, ![M, 1]⟩ (Host.reduceAdd (mulf (L2 .f32 x : FVec Ideal ⟨2, ![M, 2048]⟩ .f32)
      (L2 .f32 (fun r c => u r c * w c))) (constant (F := Ideal) ⟨0, ![]⟩ .f32 0x00000000#32) hr hu) hk)
      (mulf (broadcastInDim ⟨2, ![M, 1]⟩ ![] hc (constant (F := Ideal) ⟨0, ![]⟩ .f32 0xBF000000#32)) (Host.divf (L2 .f32 (fun r _ => rs x r)) (L2 .f32 (fun r _ => ms x r)))))
      (broadcastInDim ⟨2, ![M, 1]⟩ ![] hc (constant (F := Ideal) ⟨0, ![]⟩ .f32 0x45000000#32))) (constant (F := Ideal) ⟨0, ![]⟩ .f32 0x00000000#32) hr1 hu)
    = L2 .f32 (fun r _ => share x u w r) := by
  rw [mulf_L2, hrowsums_L2, cast_col, bcast_const ofBits_half, bcast_const ofBits_2048, hdivf_L2 _ _ (fun r _ => (ms_pos x r).ne'), mulf_L2, mulf_L2, hdivf_L2 _ _ (fun _ _ => by norm_num), hrowsums_L2, hcol_L1]
  exact L2_congr fun r c _ _ => Finset.sum_range_one _

/-- The three terms of the product rule, beside no residual. -/
theorem rmsDx_host0 : addf (addf (mulf (L2 .f32 (fun r c => u r c * w c)) (broadcastInDim ⟨2, ![M, 2048]⟩ ![0, 1] hs (L2 .f32 (fun r _ => rs x r) : FVec Ideal ⟨2, ![M, 1]⟩ .f32)))
      (mulf (L2 .f32 x) (L2 .f32 (fun r _ => share x u w r)))) (mulf (L2 .f32 (fun r _ => share x u w r)) (L2 .f32 x)) = (L2 .f32 (rmsDx x u w) : FVec Ideal ⟨2, ![M, 2048]⟩ .f32) := by
  rw [hspread_col, mulf_L2, mulf_L2, mulf_L2, addf_L2, addf_L2]
  exact L2_congr fun r c _ _ => rmsDx_ref x u w r c _ rfl

/-- The three terms of the product rule, added. -/
theorem rmsDx_host (e : ℕ → ℕ → ℝ) : addf (addf (addf (L2 .f32 e : FVec Ideal ⟨2, ![M, 2048]⟩ .f32) (mulf (L2 .f32 (fun r c => u r c * w c)) (broadcastInDim ⟨2, ![M, 2048]⟩ ![0, 1] hs (L2 .f32 (fun r _ => rs x r) : FVec Ideal ⟨2, ![M, 1]⟩ .f32))))
      (mulf (L2 .f32 x) (L2 .f32 (fun r _ => share x u w r)))) (mulf (L2 .f32 (fun r _ => share x u w r)) (L2 .f32 x)) = L2 .f32 (fun r c => rmsDx x u w r c + e r c) := by
  rw [hspread_col, mulf_L2, mulf_L2, mulf_L2, addf_L2, addf_L2, addf_L2]
  exact L2_congr fun r c _ _ => by rw [← rmsDx_ref x u w r c _ rfl]; unfold share; ring

end

/-- The sums of the rows of a product, kept as a row and added again. -/
theorem rmsDw_host (h0 : (⟨2, ![M, 2048]⟩ : Shape).ReducesTo [0] ⟨1, ![2048]⟩) (hu : 0 < (⟨0, ![]⟩ : Shape).numel) (hk : (⟨1, ![2048]⟩ : Shape).ShapeCasts ⟨2, ![1, 2048]⟩)
    (h1 : (⟨2, ![1, 2048]⟩ : Shape).ReducesTo [0] ⟨1, ![2048]⟩) :
    Host.reduceAdd (shapeCast ⟨2, ![1, 2048]⟩ (Host.reduceAdd (mulf (L2 .f32 (fun r c => x r c * rs x r) : FVec Ideal ⟨2, ![M, 2048]⟩ .f32) (L2 .f32 u)) (constant (F := Ideal) ⟨0, ![]⟩ .f32 0x00000000#32) h0 hu) hk)
      (constant (F := Ideal) ⟨0, ![]⟩ .f32 0x00000000#32) h1 hu = L1 .f32 (fun c => rmsDw x u M c) := by
  rw [mulf_L2, hcolsums_L2, cast_row, hcolsums_L2]
  congr 1; funext c
  rw [Finset.sum_range_one]
  exact Finset.sum_congr rfl fun _ _ => mul_comm _ _

/-! ### Host products -/

variable {K N : ℕ} (f g : ℕ → ℕ → ℝ)

/-- The axes of a product of matrices whose axes 1 and 0 are summed over. -/
abbrev dims_nn (h : DotDims.WF ⟨2, ![M, K]⟩ ⟨2, ![K, N]⟩ ⟨2, ![M, N]⟩ [1] [0] [0] [1] [] []) : DotDims ⟨2, ![M, K]⟩ ⟨2, ![K, N]⟩ ⟨2, ![M, N]⟩ :=
  { lhsContracting := [1], rhsContracting := [0], lhsNonContracting := [0], rhsNonContracting := [1], lhsBatch := [], rhsBatch := [], wf := h }
theorem hdot_nn (h) : Host.dotGeneral (φ₁ := .f32) (φ₂ := .f32) (dims_nn (M := M) (K := K) (N := N) h) none (L2 .f32 f) (L2 .f32 g) = L2 .f32 (fun r c => ∑ k ∈ Finset.range K, f r k * g k c) :=
  hdot_L2 f g (dims_nn h) K rfl rfl (fun r c k => f r k) (fun r c k => g k c) (fun j q => congrArg (f (j 0).val) (contrEquiv1_symm_val (dims_nn h) K rfl rfl q)) (fun j q => congrArg (fun k => g k (j 1).val) (contrEquiv1_symm_val (dims_nn h) K rfl rfl q))

/-- The axes of a product of matrices whose axes 1 and 1 are summed over. -/
abbrev dims_nt (h : DotDims.WF ⟨2, ![M, K]⟩ ⟨2, ![N, K]⟩ ⟨2, ![M, N]⟩ [1] [1] [0] [0] [] []) : DotDims ⟨2, ![M, K]⟩ ⟨2, ![N, K]⟩ ⟨2, ![M, N]⟩ :=
  { lhsContracting := [1], rhsContracting := [1], lhsNonContracting := [0], rhsNonContracting := [0], lhsBatch := [], rhsBatch := [], wf := h }
theorem hdot_nt (h) : Host.dotGeneral (φ₁ := .f32) (φ₂ := .f32) (dims_nt (M := M) (K := K) (N := N) h) none (L2 .f32 f) (L2 .f32 g) = L2 .f32 (fun r c => ∑ k ∈ Finset.range K, f r k * g c k) :=
  hdot_L2 f g (dims_nt h) K rfl rfl (fun r c k => f r k) (fun r c k => g c k) (fun j q => congrArg (f (j 0).val) (contrEquiv1_symm_val (dims_nt h) K rfl rfl q)) (fun j q => congrArg (g (j 1).val) (contrEquiv1_symm_val (dims_nt h) K rfl rfl q))

/-- The axes of a product of matrices whose axes 0 and 0 are summed over. -/
abbrev dims_tn (h : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ :=
  { lhsContracting := [0], rhsContracting := [0], lhsNonContracting := [1], rhsNonContracting := [1], lhsBatch := [], rhsBatch := [], wf := h }
theorem hdot_tn (h) : Host.dotGeneral (φ₁ := .f32) (φ₂ := .f32) (dims_tn (M := M) (K := K) (N := N) h) none (L2 .f32 f) (L2 .f32 g) = L2 .f32 (fun r c => ∑ k ∈ Finset.range K, f k r * g k c) :=
  hdot_L2 f g (dims_tn h) K rfl rfl (fun r c k => f k r) (fun r c k => g k c) (fun j q => congrArg (fun k => f k (j 0).val) (contrEquiv1_symm_val (dims_tn h) K rfl rfl q)) (fun j q => congrArg (fun k => g k (j 1).val) (contrEquiv1_symm_val (dims_tn h) K rfl rfl q))

end Cert.Stick

end
-- ==== Proof.Ref2.lean ====
/- What the reference of the feed-forward half computes when its arguments are matrices of real numbers. -/
module

public import proofs.«01_k».proof.Proof.RefNorm
public import proofs.«01_k».proof.Proof.FfnReal
public import proofs.«01_k».proof.Proof.Gen.Reference2Ideal.Run

@[expose] public section

set_option maxRecDepth 16384

noncomputable section

namespace Cert.Reference2Ideal.Value

open Cert.Reference2Ideal Cert.Reference2Ideal.Facts₀ Cert.Reference2Ideal.Facts Cert.Stick
open Idealize.ShloMosaic Idealize.ShloMosaic.TcCoe Idealize.SL.Sem Idealize.ShloMosaic.StableHlo
open scoped BigOperators

variable [Cert.Reference2Ideal.Facts₀] [Cert.Reference2Ideal.Facts]

theorem dot_in (f g : ℕ → ℕ → ℝ) : Host.dotGeneral (φ₁ := .f32) (φ₂ := .f32) dot_S8192x2048_S2048x5632_S8192x5632_1_0_0_1_n_n none (L2 .f32 f) (L2 .f32 g)
    = (L2 .f32 (fun r c => ∑ k ∈ Finset.range 2048, f r k * g k c) : FVec Ideal S8192x5632 .f32) := hdot_nn f g _
theorem dot_out (f g : ℕ → ℕ → ℝ) : Host.dotGeneral (φ₁ := .f32) (φ₂ := .f32) dot_S8192x5632_S5632x2048_S8192x2048_1_0_0_1_n_n none (L2 .f32 f) (L2 .f32 g)
    = (L2 .f32 (fun r c => ∑ k ∈ Finset.range 5632, f r k * g k c) : FVec Ideal S8192x2048 .f32) := hdot_nn f g _
theorem dot_dact (f g : ℕ → ℕ → ℝ) : Host.dotGeneral (φ₁ := .f32) (φ₂ := .f32) dot_S8192x2048_S5632x2048_S8192x5632_1_1_0_0_n_n none (L2 .f32 f) (L2 .f32 g)
    = (L2 .f32 (fun r c => ∑ k ∈ Finset.range 2048, f r k * g c k) : FVec Ideal S8192x5632 .f32) := hdot_nt f g _
theorem dot_dh (f g : ℕ → ℕ → ℝ) : Host.dotGeneral (φ₁ := .f32) (φ₂ := .f32) dot_S8192x5632_S2048x5632_S8192x2048_1_1_0_0_n_n none (L2 .f32 f) (L2 .f32 g)
    = (L2 .f32 (fun r c => ∑ k ∈ Finset.range 5632, f r k * g c k) : FVec Ideal S8192x2048 .f32) := hdot_nt f g _
theorem dot_dw (f g : ℕ → ℕ → ℝ) : Host.dotGeneral (φ₁ := .f32) (φ₂ := .f32) dot_S8192x5632_S8192x2048_S5632x2048_0_0_1_1_n_n none (L2 .f32 f) (L2 .f32 g)
    = (L2 .f32 (fun r c => ∑ k ∈ Finset.range 8192, f k r * g k c) : FVec Ideal S5632x2048 .f32) := hdot_tn f g _
theorem dot_dd (f g : ℕ → ℕ → ℝ) : Host.dotGeneral (φ₁ := .f32) (φ₂ := .f32) dot_S8192x2048_S8192x5632_S2048x5632_0_0_1_1_n_n none (L2 .f32 f) (L2 .f32 g)
    = (L2 .f32 (fun r c => ∑ k ∈ Finset.range 8192, f k r * g k c) : FVec Ideal S2048x5632 .f32) := hdot_tn f g _

/-- The arguments, as matrices and vectors of real numbers. -/
structure Args (V : Valuation τ sig (Elt Ideal)) (x : ℕ → ℕ → ℝ) (w v : ℕ → ℝ) (G U D E : ℕ → ℕ → ℝ) : Prop where
  h0 : V (Proc.devRef .tc main_arg0) = (L2 .f32 x : FVec Ideal S8192x2048 .f32)
  h1 : V (Proc.devRef .tc main_arg1) = (L1 .f32 w : FVec Ideal S2048 .f32)
  h2 : V (Proc.devRef .tc main_arg2) = (L1 .f32 v : FVec Ideal S2048 .f32)
  h3 : V (Proc.devRef .tc main_arg3) = (L2 .f32 G : FVec Ideal S2048x5632 .f32)
  h4 : V (Proc.devRef .tc main_arg4) = (L2 .f32 U : FVec Ideal S2048x5632 .f32)
  h5 : V (Proc.devRef .tc main_arg5) = (L2 .f32 D : FVec Ideal S5632x2048 .f32)
  h6 : V (Proc.devRef .tc main_arg6) = (L2 .f32 E : FVec Ideal S8192x2048 .f32)

variable {V : Valuation τ sig (Elt Ideal)} {x : ℕ → ℕ → ℝ} {w v : ℕ → ℝ} {G U D E : ℕ → ℕ → ℝ}

/-! ### Operation by operation -/

section
variable (h : Args V x w v G U D E)
include h

theorem eq_v6 : res_main_v6 V = (L2 .f32 (fun r _ => ms x r) : FVec Ideal S8192x1 .f32) := by
  unfold res_main_v6
  rw [h.h0]; exact ms_host _ _ _ _
theorem eq_v7 : res_main_v7 V = (L2 .f32 (fun r _ => rs x r) : FVec Ideal S8192x1 .f32) := by
  unfold res_main_v7
  rw [eq_v6 h]; exact rs_host
theorem eq_v12 : res_main_v12 V = (L2 .f32 (fun r c => x r c * rs x r) : FVec Ideal S8192x2048 .f32) := by
  unfold res_main_v12
  rw [h.h0, eq_v7 h]; exact unit_host _
theorem eq_scale : broadcastInDim S8192x2048 ![0, 1] bcast_S1x2048_S8192x2048_0_1 (res_main_v13 V) = (L2 .f32 (fun _ c => w c) : FVec Ideal S8192x2048 .f32) := by
  unfold res_main_v13
  rw [h.h1]; exact scale_host _ _
theorem eq_v15 : res_main_v15 V = (L2 .f32 (rms x w) : FVec Ideal S8192x2048 .f32) := by
  unfold res_main_v15
  rw [eq_v12 h, eq_scale h]; exact rms_host
theorem eq_v16 : res_main_v16 V = (L2 .f32 (ffGate x w G) : FVec Ideal S8192x5632 .f32) := by
  unfold res_main_v16
  rw [eq_v15 h, h.h3]; exact dot_in _ _
theorem eq_v17_2 : res_main_v17_2 V = (L2 .f32 (fun r c => lg (ffGate x w G r c)) : FVec Ideal S8192x5632 .f32) := by
  unfold res_main_v17_2
  rw [eq_v16 h, hnegf_L2, hexp_L2, bcast_const ofBits_one, addf_L2, hdivf_L2 _ _ (fun _ _ => one_add_exp_ne _)]; rfl
theorem eq_v17_0 : res_main_v17_0 V = (L2 .f32 (fun r c => ffGate x w G r c * lg (ffGate x w G r c)) : FVec Ideal S8192x5632 .f32) := by
  unfold res_main_v17_0
  rw [eq_v16 h, eq_v17_2 h]; exact mulf_L2 _ _
theorem eq_v18 : res_main_v18 V = (L2 .f32 (ffGate x w U) : FVec Ideal S8192x5632 .f32) := by
  unfold res_main_v18
  rw [eq_v15 h, h.h4]; exact dot_in _ _
theorem eq_v19 : res_main_v19 V = (L2 .f32 (ffAct x w G U) : FVec Ideal S8192x5632 .f32) := by
  unfold res_main_v19
  rw [eq_v17_0 h, eq_v18 h]; exact mulf_L2 _ _
theorem eq_v20 : res_main_v20 V = (L2 .f32 (ffOut x w G U D) : FVec Ideal S8192x2048 .f32) := by
  unfold res_main_v20
  rw [eq_v19 h, h.h5]; exact dot_out _ _
theorem eq_v27 : res_main_v27 V = (L2 .f32 (fun r _ => ms (ffOut x w G U D) r) : FVec Ideal S8192x1 .f32) := by
  unfold res_main_v27
  rw [eq_v20 h]; exact ms_host _ _ _ _
theorem eq_v28 : res_main_v28 V = (L2 .f32 (fun r _ => rs (ffOut x w G U D) r) : FVec Ideal S8192x1 .f32) := by
  unfold res_main_v28
  rw [eq_v27 h]; exact rs_host
theorem eq_v33 : res_main_v33 V = (L2 .f32 (fun r c => ffOut x w G U D r c * rs (ffOut x w G U D) r) : FVec Ideal S8192x2048 .f32) := by
  unfold res_main_v33
  rw [eq_v20 h, eq_v28 h]; exact unit_host _
theorem eq_scale' : broadcastInDim S8192x2048 ![0, 1] bcast_S1x2048_S8192x2048_0_1 (res_main_v34 V) = (L2 .f32 (fun _ c => v c) : FVec Ideal S8192x2048 .f32) := by
  unfold res_main_v34
  rw [h.h2]; exact scale_host _ _
theorem eq_v38 : res_main_v38 V = (L2 .f32 (E) : FVec Ideal S8192x2048 .f32) := by
  unfold res_main_v38
  rw [h.h6]; exact shapeCast_L2 _ _
theorem eq_v43 : res_main_v43 V = (L2 .f32 (fun r c => E r c * v c) : FVec Ideal S8192x2048 .f32) := by
  unfold res_main_v43
  rw [eq_v38 h, eq_scale' h]; exact mulf_L2 _ _
theorem eq_v54 : res_main_v54 V = (L2 .f32 (fun r _ => share (ffOut x w G U D) E v r) : FVec Ideal S8192x2048 .f32) := by
  unfold res_main_v54
  rw [eq_v20 h, eq_v43 h, eq_v27 h, eq_v28 h]; exact share_host _ _ _ _ _ _
theorem eq_v58 : res_main_v58 V = (L2 .f32 (ffDout x w v G U D E) : FVec Ideal S8192x2048 .f32) := by
  unfold res_main_v58
  rw [eq_v20 h, eq_v43 h, eq_v28 h, eq_v54 h]; exact rmsDx_host0 _
theorem eq_v61 : res_main_v61 V = (L2 .f32 (ffDact x w v G U D E) : FVec Ideal S8192x5632 .f32) := by
  unfold res_main_v61
  rw [eq_v58 h, h.h5]; exact dot_dact _ _
theorem eq_v62 : res_main_v62 V = (L2 .f32 (ffDup x w v G U D E) : FVec Ideal S8192x5632 .f32) := by
  unfold res_main_v62
  rw [eq_v17_0 h, eq_v61 h, mulf_L2]; exact L2_congr fun r c _ _ => mul_comm _ _
theorem eq_v63 : res_main_v63 V = (L2 .f32 (fun r c => ffDact x w v G U D E r c * ffGate x w U r c) : FVec Ideal S8192x5632 .f32) := by
  unfold res_main_v63
  rw [eq_v18 h, eq_v61 h]; exact mulf_L2 _ _
theorem eq_v67 : res_main_v67 V = (L2 .f32 (ffDgate x w v G U D E) : FVec Ideal S8192x5632 .f32) := by
  unfold res_main_v67
  rw [eq_v63 h, eq_v17_2 h, eq_v16 h, bcast_const ofBits_one, mulf_L2, mulf_L2, subf_L2, mulf_L2, mulf_L2, addf_L2]
  exact L2_congr fun r c _ _ => by unfold ffDgate lgD; ring
theorem eq_v71 : res_main_v71 V = (L2 .f32 (ffDh x w v G U D E) : FVec Ideal S8192x2048 .f32) := by
  unfold res_main_v71
  rw [eq_v62 h, eq_v67 h, h.h3, h.h4, dot_dh, dot_dh, addf_L2]
  exact L2_congr fun r c _ _ => add_comm _ _
theorem eq_v76 : res_main_v76 V = (L2 .f32 (fun r c => ffDh x w v G U D E r c * w c) : FVec Ideal S8192x2048 .f32) := by
  unfold res_main_v76
  rw [eq_v71 h, eq_scale h]; exact mulf_L2 _ _
theorem eq_v88 : res_main_v88 V = (L2 .f32 (fun r _ => share x (ffDh x w v G U D E) w r) : FVec Ideal S8192x2048 .f32) := by
  unfold res_main_v88
  rw [h.h0, eq_v76 h, eq_v6 h, eq_v7 h]; exact share_host _ _ _ _ _ _

end

variable (m : (ℓ : Loc nD τ sig) → Buf (Elt Ideal) ℓ) (ρ : Dev nD → PrngReg)

/-- Every execution ends with the half's result, the gradients of its rows, scales and weights, and the arguments unchanged. -/
theorem run_real (x : Dev nD → ℕ → ℕ → ℝ) (w v : Dev nD → ℕ → ℝ) (G U D E : Dev nD → ℕ → ℕ → ℝ)
    (h0 : ∀ c : Dev nD, m ((c.tc : Thread nD τ).loc main_arg0) = (L2 .f32 (x c) : FVec Ideal S8192x2048 .f32))
    (h1 : ∀ c : Dev nD, m ((c.tc : Thread nD τ).loc main_arg1) = (L1 .f32 (w c) : FVec Ideal S2048 .f32))
    (h2 : ∀ c : Dev nD, m ((c.tc : Thread nD τ).loc main_arg2) = (L1 .f32 (v c) : FVec Ideal S2048 .f32))
    (h3 : ∀ c : Dev nD, m ((c.tc : Thread nD τ).loc main_arg3) = (L2 .f32 (G c) : FVec Ideal S2048x5632 .f32))
    (h4 : ∀ c : Dev nD, m ((c.tc : Thread nD τ).loc main_arg4) = (L2 .f32 (U c) : FVec Ideal S2048x5632 .f32))
    (h5 : ∀ c : Dev nD, m ((c.tc : Thread nD τ).loc main_arg5) = (L2 .f32 (D c) : FVec Ideal S5632x2048 .f32))
    (h6 : ∀ c : Dev nD, m ((c.tc : Thread nD τ).loc main_arg6) = (L2 .f32 (E c) : FVec Ideal S8192x2048 .f32)) :
    θ_run defs (onTc (τ := τ) (main (F := Ideal))) ⟨m, fun _ => 0, ρ⟩ fun r => ∀ c : Dev nD,
      r.2.mem ((c.tc : Thread nD τ).loc main_v37) = (L2 .f32 (fun i j => rms (ffOut (x c) (w c) (G c) (U c) (D c)) (v c) i j + (x c) i j) : FVec Ideal S8192x2048 .f32)
      ∧ r.2.mem ((c.tc : Thread nD τ).loc main_v92) = (L2 .f32 (fun i j => rmsDx (x c) (ffDh (x c) (w c) (v c) (G c) (U c) (D c) (E c)) (w c) i j + (E c) i j) : FVec Ideal S8192x2048 .f32)
      ∧ r.2.mem ((c.tc : Thread nD τ).loc main_v77) = (L1 .f32 (fun j => rmsDw (x c) (ffDh (x c) (w c) (v c) (G c) (U c) (D c) (E c)) 8192 j) : FVec Ideal S2048 .f32)
      ∧ r.2.mem ((c.tc : Thread nD τ).loc main_v44) = (L1 .f32 (fun j => rmsDw (ffOut (x c) (w c) (G c) (U c) (D c)) (E c) 8192 j) : FVec Ideal S2048 .f32)
      ∧ r.2.mem ((c.tc : Thread nD τ).loc main_v69) = (L2 .f32 (fun i j => ∑ k ∈ Finset.range 8192, rms (x c) (w c) k i * ffDgate (x c) (w c) (v c) (G c) (U c) (D c) (E c) k j) : FVec Ideal S2048x5632 .f32)
      ∧ r.2.mem ((c.tc : Thread nD τ).loc main_v65) = (L2 .f32 (fun i j => ∑ k ∈ Finset.range 8192, rms (x c) (w c) k i * ffDup (x c) (w c) (v c) (G c) (U c) (D c) (E c) k j) : FVec Ideal S2048x5632 .f32)
      ∧ r.2.mem ((c.tc : Thread nD τ).loc main_v60) = (L2 .f32 (fun i j => ∑ k ∈ Finset.range 8192, ffAct (x c) (w c) (G c) (U c) k i * ffDout (x c) (w c) (v c) (G c) (U c) (D c) (E c) k j) : FVec Ideal S5632x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run m ρ)
  obtain ⟨e0, e1, e2, e3, e4, e5, e6, e7⟩ := h c
  have a : Args (launchContents m c) (x c) (w c) (v c) (G c) (U c) (D c) (E c) := ⟨h0 c, h1 c, h2 c, h3 c, h4 c, h5 c, h6 c⟩
  refine ⟨e0.trans ?_, e1.trans ?_, e2.trans ?_, e3.trans ?_, e4.trans ?_, e5.trans ?_, e6.trans ?_, e7⟩
  · rw [a.h0, eq_v33 a, eq_scale' a, mulf_L2, addf_L2]
    exact L2_congr fun r c _ _ => add_comm _ _
  · rw [a.h0, a.h6, eq_v76 a, eq_v7 a, eq_v88 a]
    exact rmsDx_host _ _
  · rw [eq_v12 a, eq_v71 a]
    exact rmsDw_host _ _ _ _
  · rw [eq_v33 a, eq_v38 a]
    exact rmsDw_host _ _ _ _
  · rw [eq_v67 a, eq_v15 a, dot_dw, transpose_L2]
    exact L2_congr fun i j _ _ => Finset.sum_congr rfl fun _ _ => mul_comm _ _
  · rw [eq_v62 a, eq_v15 a, dot_dw, transpose_L2]
    exact L2_congr fun i j _ _ => Finset.sum_congr rfl fun _ _ => mul_comm _ _
  · rw [eq_v58 a, eq_v19 a, dot_dd, transpose_L2]
    exact L2_congr fun i j _ _ => Finset.sum_congr rfl fun _ _ => mul_comm _ _

end Cert.Reference2Ideal.Value

end
-- ==== Proof.Claim2.lean ====
/- The frames of the feed-forward half and of its reference, and the equality of their results. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Pre_finite2
public import proofs.«01_k».proof.Proof.FfnValue
public import proofs.«01_k».proof.Proof.Ref2
public import proofs.«01_k».proof.Proof.Run
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Stick

/-- The reference's run leaves its arguments and every counter as they were. -/
theorem reference2_frame : Cert.quiescent_Reference2Ideal (hReference2Ideal := Cert.Reference2Ideal.Gen.facts) :=
  fun m ρ _ => (θ_run _ _ _).mono (fun r h => ⟨fun c => (h c).2.2.2.2.2.2.2, sem_eq_zero_of_no_sems rfl r.2⟩) (Cert.Reference2Ideal.Value.run m ρ)

/-- From finite arguments the feed-forward half ends with the reference's results. -/
theorem values2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m ρ m' ρ' hpre hag
  have ha : ∀ c : Dev Cert.Kernel2Ideal.nD, Cert.Kernel2Ideal.Calls.Args m c (real2 (m ((c.tc : Thread Cert.Kernel2Ideal.nD Cert.Kernel2Ideal.τ).loc Cert.Kernel2Ideal.main_arg0))) (real1 (m ((c.tc : Thread Cert.Kernel2Ideal.nD Cert.Kernel2Ideal.τ).loc Cert.Kernel2Ideal.main_arg1))) (real1 (m ((c.tc : Thread Cert.Kernel2Ideal.nD Cert.Kernel2Ideal.τ).loc Cert.Kernel2Ideal.main_arg2))) (real2 (m ((c.tc : Thread Cert.Kernel2Ideal.nD Cert.Kernel2Ideal.τ).loc Cert.Kernel2Ideal.main_arg3))) (real2 (m ((c.tc : Thread Cert.Kernel2Ideal.nD Cert.Kernel2Ideal.τ).loc Cert.Kernel2Ideal.main_arg4))) (real2 (m ((c.tc : Thread Cert.Kernel2Ideal.nD Cert.Kernel2Ideal.τ).loc Cert.Kernel2Ideal.main_arg5))) (real2 (m ((c.tc : Thread Cert.Kernel2Ideal.nD Cert.Kernel2Ideal.τ).loc Cert.Kernel2Ideal.main_arg6))) := fun c =>
    ⟨real2_L2 _ _ (hpre c).1, real1_L1 _ _ (hpre c).2.1, real1_L1 _ _ (hpre c).2.2.1, real2_L2 _ _ (hpre c).2.2.2.1, real2_L2 _ _ (hpre c).2.2.2.2.1, real2_L2 _ _ (hpre c).2.2.2.2.2.1, real2_L2 _ _ (hpre c).2.2.2.2.2.2⟩
  refine ⟨fun _ => _, fun _ => _, fun _ => _, fun _ => _, fun _ => _, fun _ => _, fun _ => _, ?_,
    Cert.Reference2Ideal.Value.run_real m' ρ' (fun c => real2 (m ((c.tc : Thread Cert.Kernel2Ideal.nD Cert.Kernel2Ideal.τ).loc Cert.Kernel2Ideal.main_arg0))) (fun c => real1 (m ((c.tc : Thread Cert.Kernel2Ideal.nD Cert.Kernel2Ideal.τ).loc Cert.Kernel2Ideal.main_arg1))) (fun c => real1 (m ((c.tc : Thread Cert.Kernel2Ideal.nD Cert.Kernel2Ideal.τ).loc Cert.Kernel2Ideal.main_arg2))) (fun c => real2 (m ((c.tc : Thread Cert.Kernel2Ideal.nD Cert.Kernel2Ideal.τ).loc Cert.Kernel2Ideal.main_arg3))) (fun c => real2 (m ((c.tc : Thread Cert.Kernel2Ideal.nD Cert.Kernel2Ideal.τ).loc Cert.Kernel2Ideal.main_arg4))) (fun c => real2 (m ((c.tc : Thread Cert.Kernel2Ideal.nD Cert.Kernel2Ideal.τ).loc Cert.Kernel2Ideal.main_arg5))) (fun c => real2 (m ((c.tc : Thread Cert.Kernel2Ideal.nD Cert.Kernel2Ideal.τ).loc Cert.Kernel2Ideal.main_arg6)))
      (fun c => (hag c).1.trans (ha c).h0) (fun c => (hag c).2.1.trans (ha c).h1) (fun c => (hag c).2.2.1.trans (ha c).h2) (fun c => (hag c).2.2.2.1.trans (ha c).h3) (fun c => (hag c).2.2.2.2.1.trans (ha c).h4) (fun c => (hag c).2.2.2.2.2.1.trans (ha c).h5) (fun c => (hag c).2.2.2.2.2.2.trans (ha c).h6)⟩
  exact (θ_run _ _ _).mono (fun r h c => ⟨(h.1 c Cert.Kernel2Ideal.main_v10 (by decide)).trans (Cert.Kernel2Ideal.Calls.end_x2 m c (ha c)), (h.1 c Cert.Kernel2Ideal.main_v22_0 (by decide)).trans (Cert.Kernel2Ideal.Calls.end_dx m c (ha c)), (h.1 c Cert.Kernel2Ideal.main_v23 (by decide)).trans (Cert.Kernel2Ideal.Calls.end_pre m c (ha c)), (h.1 c Cert.Kernel2Ideal.main_v13 (by decide)).trans (Cert.Kernel2Ideal.Calls.end_post m c (ha c)), (h.1 c Cert.Kernel2Ideal.main_v25 (by decide)).trans (Cert.Kernel2Ideal.Calls.end_gate m c (ha c)), (h.1 c Cert.Kernel2Ideal.main_v27 (by decide)).trans (Cert.Kernel2Ideal.Calls.end_up m c (ha c)), (h.1 c Cert.Kernel2Ideal.main_v28 (by decide)).trans (Cert.Kernel2Ideal.Calls.end_down m c (ha c)),
    (h.1 c Cert.Kernel2Ideal.main_arg0 (by decide)).trans (Cert.Kernel2Ideal.Calls.end_arg m c _ (by decide)), (h.1 c Cert.Kernel2Ideal.main_arg1 (by decide)).trans (Cert.Kernel2Ideal.Calls.end_arg m c _ (by decide)), (h.1 c Cert.Kernel2Ideal.main_arg2 (by decide)).trans (Cert.Kernel2Ideal.Calls.end_arg m c _ (by decide)), (h.1 c Cert.Kernel2Ideal.main_arg3 (by decide)).trans (Cert.Kernel2Ideal.Calls.end_arg m c _ (by decide)), (h.1 c Cert.Kernel2Ideal.main_arg4 (by decide)).trans (Cert.Kernel2Ideal.Calls.end_arg m c _ (by decide)), (h.1 c Cert.Kernel2Ideal.main_arg5 (by decide)).trans (Cert.Kernel2Ideal.Calls.end_arg m c _ (by decide)), (h.1 c Cert.Kernel2Ideal.main_arg6 (by decide)).trans (Cert.Kernel2Ideal.Calls.end_arg m c _ (by decide))⟩) (Cert.Kernel2Ideal.Calls.final m ρ)

end Cert.Proof

end
-- ==== Proof.WideNorm.lean ====
/- Root-mean-square normalisation of the rows of a matrix and its gradients over the extended reals, as the calls and as the
   reference compute them; that a block of rows is treated as the whole matrix is; and that the gradient which
   differentiation leaves is the one that the calls compute, at every entry, infinite ones included. -/
module

public import proofs.«01_k».proof.Proof.Wide
public import proofs.«01_k».proof.Proof.RefNorm

@[expose] public section

set_option maxRecDepth 16384

noncomputable section

namespace Cert.Wide

open Idealize.ShloMosaic Idealize.ShloMosaic.ValueIdx
open Cert.Stick (eps ofBits_eps_pos ofBits_2048 ofBits_half)
open scoped BigOperators

variable (x u : ℕ → ℕ → EReal) (w : ℕ → EReal)

/-- The mean of a row's squares and a small number. -/
def ms (r : ℕ) : EReal := Ideal.div (∑ c ∈ Finset.range 2048, x r c * x r c) ((2048 : ℝ) : EReal) + (eps : EReal)
/-- Its inverse square root. -/
def rs (r : ℕ) : EReal := Ideal.rsqrt (ms x r)
/-- The normalised rows, scaled by `w`. -/
def rms (r c : ℕ) : EReal := x r c * rs x r * w c
/-- The gradient of the rows, `u` that of the scaled ones. -/
def rmsDx (r c : ℕ) : EReal := rs x r * (u r c * w c - x r c * rs x r * Ideal.div (∑ j ∈ Finset.range 2048, u r j * w j * (x r j * rs x r)) ((2048 : ℝ) : EReal))
/-- The gradient of the scale, over `n` rows. -/
def rmsDw (n c : ℕ) : EReal := ∑ r ∈ Finset.range n, u r c * (x r c * rs x r)
/-- The share of the mean of squares in the derivative. -/
def share (r : ℕ) : EReal := Ideal.div ((∑ j ∈ Finset.range 2048, x r j * (u r j * w j)) * (((-(1 / 2) : ℝ) : EReal) * Ideal.div (rs x r) (ms x r))) ((2048 : ℝ) : EReal)

theorem div_real (y : EReal) {b : ℝ} (hb : b ≠ 0) : Ideal.div y (b : EReal) = y * ((b⁻¹ : ℝ) : EReal) := by
  unfold Ideal.div
  rw [if_neg (by exact_mod_cast hb), EReal.coe_inv]

theorem sq_nonneg (y : EReal) : 0 ≤ y * y := by
  rcases le_total 0 y with h | h
  · exact EReal.mul_nonneg_iff.mpr (Or.inl ⟨h, h⟩)
  · exact EReal.mul_nonneg_iff.mpr (Or.inr ⟨h, h⟩)

theorem ms_pos (r : ℕ) : 0 < ms x r := by
  have h : 0 ≤ Ideal.div (∑ c ∈ Finset.range 2048, x r c * x r c) ((2048 : ℝ) : EReal) := by
    rw [div_real _ (by norm_num)]
    exact EReal.mul_nonneg_iff.mpr (Or.inl ⟨Finset.sum_nonneg fun _ _ => sq_nonneg _, by exact_mod_cast (by norm_num : (0 : ℝ) ≤ 2048⁻¹)⟩)
  refine lt_of_lt_of_le (b := (eps : EReal)) (by exact_mod_cast ofBits_eps_pos.2) ?_
  have := add_le_add_left h (eps : EReal)
  unfold ms
  simpa using this

/-- A real factor moves out of a sum of extended reals if it is not negative. -/
theorem sum_mul_real (n : ℕ) (a : ℕ → EReal) {p : ℝ} (hp : 0 ≤ p) : ∑ j ∈ Finset.range n, a j * (p : EReal) = (∑ j ∈ Finset.range n, a j) * (p : EReal) := by
  induction n with
  | zero => simp
  | succ n ih => rw [Finset.sum_range_succ, Finset.sum_range_succ, ih, EReal.right_distrib_of_nonneg_of_ne_top (by exact_mod_cast hp) (EReal.coe_ne_top _)]

theorem mul_real_twice (z : EReal) (p : ℝ) : z * (p : EReal) + z * (p : EReal) = z * ((p + p : ℝ) : EReal) := by
  rcases lt_trichotomy p 0 with h | h | h
  · have h2 : p + p < 0 := by linarith
    cases z with
    | bot => rw [EReal.bot_mul_coe_of_neg h, EReal.bot_mul_coe_of_neg h2]; rfl
    | coe z => rw [← EReal.coe_mul, ← EReal.coe_mul, ← EReal.coe_add, mul_add]
    | top => rw [EReal.top_mul_coe_of_neg h, EReal.top_mul_coe_of_neg h2]; rfl
  · subst h; simp
  · have h2 : 0 < p + p := by linarith
    cases z with
    | bot => rw [EReal.bot_mul_coe_of_pos h, EReal.bot_mul_coe_of_pos h2]; rfl
    | coe z => rw [← EReal.coe_mul, ← EReal.coe_mul, ← EReal.coe_add, mul_add]
    | top => rw [EReal.top_mul_coe_of_pos h, EReal.top_mul_coe_of_pos h2]; rfl

/-- What the product rule leaves, added to `e`, is the gradient of the rows and `e`. -/
theorem rmsDx_ref (r c : ℕ) (e : EReal) : e + u r c * w c * rs x r + x r c * share x u w r + share x u w r * x r c = rmsDx x u w r c + e := by
  have hm := ms_pos x r
  unfold share rmsDx
  generalize hS : (∑ j ∈ Finset.range 2048, x r j * (u r j * w j)) = S
  have hrs : rs x r = Ideal.rsqrt (ms x r) := rfl
  generalize ms x r = m at hm hrs
  cases m with
  | bot => exact absurd hm (by simp)
  | top =>
    rw [hrs, Ideal.rsqrt_top]
    have h0 : Ideal.div 0 ⊤ = 0 := by unfold Ideal.div; simp
    rw [h0, div_real _ (by norm_num)]
    simp
  | coe m =>
    have hm : 0 < m := by exact_mod_cast hm
    have hp := Stick.rsqrt_coe m hm
    have hp0 : 0 < (Real.sqrt m)⁻¹ := inv_pos.mpr (Real.sqrt_pos.mpr hm)
    have hpp : (Real.sqrt m)⁻¹ * (Real.sqrt m)⁻¹ = m⁻¹ := by rw [← mul_inv, Real.mul_self_sqrt hm.le]
    generalize (Real.sqrt m)⁻¹ = p at hp hp0 hpp
    rw [hrs, hp]
    have hT : (∑ j ∈ Finset.range 2048, u r j * w j * (x r j * (p : EReal))) = S * (p : EReal) := by
      rw [← hS, ← sum_mul_real _ _ hp0.le]
      exact Finset.sum_congr rfl fun j _ => by rw [← mul_assoc, mul_comm (u r j * w j)]
    rw [hT, div_real _ hm.ne', div_real _ (by norm_num), div_real _ (by norm_num), EReal.mul_sub_of_nonneg_of_ne_top (by exact_mod_cast hp0.le) (EReal.coe_ne_top _)]
    have e1 : S * (((-(1 / 2) : ℝ) : EReal) * ((p : EReal) * ((m⁻¹ : ℝ) : EReal))) * (((2048 : ℝ)⁻¹ : ℝ) : EReal) = S * ((-(1 / 2) * (p * m⁻¹) * 2048⁻¹ : ℝ) : EReal) := by
      simp only [EReal.coe_mul, mul_assoc]
    have e2 : (p : EReal) * (x r c * (p : EReal) * (S * (p : EReal) * (((2048 : ℝ)⁻¹ : ℝ) : EReal))) = x r c * S * ((p * p * p * 2048⁻¹ : ℝ) : EReal) := by
      simp only [EReal.coe_mul]; ac_rfl
    rw [e1, e2, mul_comm (S * _) (x r c), ← mul_assoc, add_assoc _ (x r c * S * _), mul_real_twice, ← hpp,
      show -(1 / 2) * (p * (p * p)) * 2048⁻¹ + -(1 / 2) * (p * (p * p)) * 2048⁻¹ = -(p * p * p * 2048⁻¹) by ring, EReal.coe_neg, mul_neg, sub_eq_add_neg,
      add_assoc, add_comm e, mul_comm (p : EReal)]

/-! ### Blocks of whole rows -/

variable (a t : ℕ)

theorem part_row (f : ℕ → ℕ → EReal) (b r c : ℕ) : part a b t 0 f r c = f (t * a + 1 * r) c := by
  unfold part; rw [Nat.zero_mul, Nat.zero_add, Nat.one_mul c]
theorem rs_part (r : ℕ) : rs (part a 2048 t 0 x) r = rs x (t * a + 1 * r) := by
  unfold rs ms; simp only [part_row]
theorem rms_part : rms (part a 2048 t 0 x) w = part a 2048 t 0 (rms x w) := by
  funext r c; rw [part_row]; unfold rms; rw [rs_part, part_row]
theorem rmsDx_part : rmsDx (part a 2048 t 0 x) (part a 2048 t 0 u) w = part a 2048 t 0 (rmsDx x u w) := by
  funext r c; rw [part_row]; unfold rmsDx; simp only [rs_part, part_row]

/-- The scale's gradient from the sums of the blocks of rows. -/
theorem rmsDw_blocks (k c : ℕ) : ∑ i ∈ Finset.range k, rmsDw (part a 2048 i 0 x) (part a 2048 i 0 u) a c = rmsDw x u (k * a) c := by
  unfold rmsDw
  rw [← sum_blocks k a]
  simp only [rs_part, part_row]

section Tile
variable {M : ℕ} {f g : ℕ → ℕ → EReal} {v : ℕ → EReal}

/-- The inverse square root of the mean square of each row, as a call computes it. -/
theorem root_tile (h : (⟨2, ![M, 2048]⟩ : Shape).Reduces [1] ⟨1, ![M]⟩) (h1 : FKind.Formats .f32) (h2) (h3 : (⟨1, ![M]⟩ : Shape).ShapeCasts ⟨2, ![M, 1]⟩) :
    rsqrt (addf (divf (shapeCast ⟨2, ![M, 1]⟩ (multiReduction .add [1] ⟨1, ![M]⟩ (mulf (L2 .f32 f : FVec Ideal ⟨2, ![M, 2048]⟩ .f32) (L2 .f32 f)) 0x00000000#32 h h1 h2) h3)
      (broadcast ⟨2, ![M, 1]⟩ (Scalar.ofBits (F := Ideal) .f32 0x45000000#32))) (broadcast ⟨2, ![M, 1]⟩ (Scalar.ofBits (F := Ideal) .f32 0x358637BD#32)))
      = L2 .f32 (fun r _ => rs f r) := by
  rw [mulf_L2, rowsums_L2, bc_2048, divf_L2, bc_eps, addf_L2]
  rfl

/-- The normalised rows, scaled, as a call computes them. -/
theorem norm_tile (h : (⟨2, ![M, 2048]⟩ : Shape).Reduces [1] ⟨1, ![M]⟩) (h1 : FKind.Formats .f32) (h2) (h3 : (⟨1, ![M]⟩ : Shape).ShapeCasts ⟨2, ![M, 1]⟩)
    (hb : (⟨2, ![M, 1]⟩ : Shape).Broadcasts ⟨2, ![M, 2048]⟩) (hw : (⟨2, ![1, 2048]⟩ : Shape).Broadcasts ⟨2, ![M, 2048]⟩) :
    mulf (mulf (L2 .f32 f : FVec Ideal ⟨2, ![M, 2048]⟩ .f32) (broadcastTo ⟨2, ![M, 2048]⟩
      (rsqrt (addf (divf (shapeCast ⟨2, ![M, 1]⟩ (multiReduction .add [1] ⟨1, ![M]⟩ (mulf (L2 .f32 f : FVec Ideal ⟨2, ![M, 2048]⟩ .f32) (L2 .f32 f)) 0x00000000#32 h h1 h2) h3)
      (broadcast ⟨2, ![M, 1]⟩ (Scalar.ofBits (F := Ideal) .f32 0x45000000#32))) (broadcast ⟨2, ![M, 1]⟩ (Scalar.ofBits (F := Ideal) .f32 0x358637BD#32)))) hb))
      (broadcastTo ⟨2, ![M, 2048]⟩ (L2 .f32 (fun _ c => v c) : FVec Ideal ⟨2, ![1, 2048]⟩ .f32) hw) = L2 .f32 (rms f v) := by
  rw [root_tile, spread_col, mulf_L2, spread_row, mulf_L2]
  rfl

/-- The gradient of normalised rows, as a call computes it. -/
theorem grad_tile (h : (⟨2, ![M, 2048]⟩ : Shape).Reduces [1] ⟨1, ![M]⟩) (h1 : FKind.Formats .f32) (h2) (h3 : (⟨1, ![M]⟩ : Shape).ShapeCasts ⟨2, ![M, 1]⟩)
    (hb : (⟨2, ![M, 1]⟩ : Shape).Broadcasts ⟨2, ![M, 2048]⟩) (hw : (⟨2, ![1, 2048]⟩ : Shape).Broadcasts ⟨2, ![M, 2048]⟩) :
    mulf (broadcastTo ⟨2, ![M, 2048]⟩ (L2 .f32 (fun r _ => rs f r) : FVec Ideal ⟨2, ![M, 1]⟩ .f32) hb)
      (subf (mulf (L2 .f32 g : FVec Ideal ⟨2, ![M, 2048]⟩ .f32) (broadcastTo ⟨2, ![M, 2048]⟩ (L2 .f32 (fun _ c => v c) : FVec Ideal ⟨2, ![1, 2048]⟩ .f32) hw))
        (mulf (L2 .f32 (fun r c => f r c * rs f r)) (broadcastTo ⟨2, ![M, 2048]⟩ (divf (shapeCast ⟨2, ![M, 1]⟩ (multiReduction .add [1] ⟨1, ![M]⟩
          (mulf (mulf (L2 .f32 g : FVec Ideal ⟨2, ![M, 2048]⟩ .f32) (broadcastTo ⟨2, ![M, 2048]⟩ (L2 .f32 (fun _ c => v c) : FVec Ideal ⟨2, ![1, 2048]⟩ .f32) hw)) (L2 .f32 (fun r c => f r c * rs f r))) 0x00000000#32 h h1 h2) h3)
          (broadcast ⟨2, ![M, 1]⟩ (Scalar.ofBits (F := Ideal) .f32 0x45000000#32))) hb)))
      = L2 .f32 (rmsDx f g v) := by
  rw [spread_row, mulf_L2, mulf_L2, rowsums_L2, bc_2048, divf_L2, spread_col, spread_col, mulf_L2, subf_L2, mulf_L2]
  rfl

/-- The gradient of the scale over the rows of a block. -/
theorem scale_tile (h : (⟨2, ![M, 2048]⟩ : Shape).Reduces [0] ⟨1, ![2048]⟩) (h1 : FKind.Formats .f32) (h2) (h3 : (⟨1, ![2048]⟩ : Shape).ShapeCasts ⟨2, ![1, 2048]⟩) :
    shapeCast ⟨2, ![1, 2048]⟩ (multiReduction .add [0] ⟨1, ![2048]⟩ (mulf (L2 .f32 g : FVec Ideal ⟨2, ![M, 2048]⟩ .f32) (L2 .f32 (fun r c => f r c * rs f r))) 0x00000000#32 h h1 h2) h3
      = L2 .f32 (fun _ c => rmsDw f g M c) := by
  rw [mulf_L2, colsums_L2]
  rfl

end Tile

/-! ### The same on the host -/

section Host
variable {M : ℕ} {x u : ℕ → ℕ → EReal} {w : ℕ → EReal}
variable (hb : (⟨1, ![M]⟩ : Shape).BroadcastsInDim ⟨2, ![M, 1]⟩ (![0] : Fin 1 → Fin 2)) (hr : (⟨2, ![M, 2048]⟩ : Shape).ReducesTo [1] ⟨1, ![M]⟩)
  (hu : 0 < (⟨0, ![]⟩ : Shape).numel) (hc : (⟨0, ![]⟩ : Shape).BroadcastsInDim ⟨2, ![M, 1]⟩ (![] : Fin 0 → Fin 2))
  (hs : (⟨2, ![M, 1]⟩ : Shape).BroadcastsInDim ⟨2, ![M, 2048]⟩ (![0, 1] : Fin 2 → Fin 2))
  (h1 : (⟨1, ![2048]⟩ : Shape).BroadcastsInDim ⟨2, ![1, 2048]⟩ (![1] : Fin 1 → Fin 2)) (h2 : (⟨2, ![1, 2048]⟩ : Shape).BroadcastsInDim ⟨2, ![M, 2048]⟩ (![0, 1] : Fin 2 → Fin 2))

theorem ms_host : addf (Host.divf (broadcastInDim ⟨2, ![M, 1]⟩ ![0] hb (Host.reduceAdd (mulf (L2 .f32 x : FVec Ideal ⟨2, ![M, 2048]⟩ .f32) (L2 .f32 x)) (constant (F := Ideal) ⟨0, ![]⟩ .f32 0x00000000#32) hr hu))
      (broadcastInDim ⟨2, ![M, 1]⟩ ![] hc (constant (F := Ideal) ⟨0, ![]⟩ .f32 0x45000000#32))) (broadcastInDim ⟨2, ![M, 1]⟩ ![] hc (constant (F := Ideal) ⟨0, ![]⟩ .f32 0x358637BD#32))
    = L2 .f32 (fun r _ => ms x r) := by
  rw [mulf_L2, hrowsums_L2, hcol_L1, bcast_const ofBits_2048, bcast_const ofBits_eps_pos.1, hdivf_L2]
  exact addf_L2 _ _

theorem rs_host : Host.rsqrt (L2 .f32 (fun r _ => ms x r) : FVec Ideal ⟨2, ![M, 1]⟩ .f32) = L2 .f32 (fun r _ => rs x r) := rfl

theorem unit_host : mulf (L2 .f32 x : FVec Ideal ⟨2, ![M, 2048]⟩ .f32) (broadcastInDim ⟨2, ![M, 2048]⟩ ![0, 1] hs (L2 .f32 (fun r _ => rs x r) : FVec Ideal ⟨2, ![M, 1]⟩ .f32))
    = L2 .f32 (fun r c => x r c * rs x r) := by
  rw [hspread_col, mulf_L2]

theorem scale_host : broadcastInDim ⟨2, ![M, 2048]⟩ ![0, 1] h2 (broadcastInDim ⟨2, ![1, 2048]⟩ ![1] h1 (L1 .f32 w : FVec Ideal ⟨1, ![2048]⟩ .f32)) = L2 .f32 (fun _ c => w c) := by
  rw [hrow_L1, hspread_row]

theorem rms_host : mulf (L2 .f32 (fun r c => x r c * rs x r) : FVec Ideal ⟨2, ![M, 2048]⟩ .f32) (L2 .f32 (fun _ c => w c)) = L2 .f32 (rms x w) := mulf_L2 _ _

theorem share_host (hk : (⟨1, ![M]⟩ : Shape).ShapeCasts ⟨2, ![M, 1]⟩) (hr1 : (⟨2, ![M, 1]⟩ : Shape).ReducesTo [1] ⟨1, ![M]⟩) (hb2 : (⟨1, ![M]⟩ : Shape).BroadcastsInDim ⟨2, ![M, 2048]⟩ (![0] : Fin 1 → Fin 2)) :
    broadcastInDim ⟨2, ![M, 2048]⟩ ![0] hb2 (Host.reduceAdd (Host.divf (mulf (shapeCast ⟨2, ![M, 1]⟩ (Host.reduceAdd (mulf (L2 .f32 x : FVec Ideal ⟨2, ![M, 2048]⟩ .f32)
      (L2 .f32 (fun r c => u r c * w c))) (constant (F := Ideal) ⟨0, ![]⟩ .f32 0x00000000#32) hr hu) hk)
      (mulf (broadcastInDim ⟨2, ![M, 1]⟩ ![] hc (constant (F := Ideal) ⟨0, ![]⟩ .f32 0xBF000000#32)) (Host.divf (L2 .f32 (fun r _ => rs x r)) (L2 .f32 (fun r _ => ms x r)))))
      (broadcastInDim ⟨2, ![M, 1]⟩ ![] hc (constant (F := Ideal) ⟨0, ![]⟩ .f32 0x45000000#32))) (constant (F := Ideal) ⟨0, ![]⟩ .f32 0x00000000#32) hr1 hu)
    = L2 .f32 (fun r _ => share x u w r) := by
  rw [mulf_L2, hrowsums_L2, cast_col, bcast_const ofBits_half, bcast_const ofBits_2048, hdivf_L2, mulf_L2, mulf_L2, hdivf_L2, hrowsums_L2, hcol_L1]
  exact L2_congr fun r c _ _ => Finset.sum_range_one _

/-- The three terms of the product rule, added to `e`. -/
theorem rmsDx_host (e : ℕ → ℕ → EReal) : addf (addf (addf (L2 .f32 e : FVec Ideal ⟨2, ![M, 2048]⟩ .f32) (mulf (L2 .f32 (fun r c => u r c * w c)) (broadcastInDim ⟨2, ![M, 2048]⟩ ![0, 1] hs (L2 .f32 (fun r _ => rs x r) : FVec Ideal ⟨2, ![M, 1]⟩ .f32))))
      (mulf (L2 .f32 x) (L2 .f32 (fun r _ => share x u w r)))) (mulf (L2 .f32 (fun r _ => share x u w r)) (L2 .f32 x)) = L2 .f32 (fun r c => rmsDx x u w r c + e r c) := by
  rw [hspread_col, mulf_L2, mulf_L2, mulf_L2, addf_L2, addf_L2, addf_L2]
  exact L2_congr fun r c _ _ => rmsDx_ref x u w r c _

theorem rmsDx_host' : addf (addf (mulf (L2 .f32 (fun r c => u r c * w c)) (broadcastInDim ⟨2, ![M, 2048]⟩ ![0, 1] hs (L2 .f32 (fun r _ => rs x r) : FVec Ideal ⟨2, ![M, 1]⟩ .f32)))
      (mulf (L2 .f32 x) (L2 .f32 (fun r _ => share x u w r)))) (mulf (L2 .f32 (fun r _ => share x u w r)) (L2 .f32 x)) = (L2 .f32 (rmsDx x u w) : FVec Ideal ⟨2, ![M, 2048]⟩ .f32) := by
  rw [hspread_col, mulf_L2, mulf_L2, mulf_L2, addf_L2, addf_L2]
  refine L2_congr fun r c _ _ => ?_
  have e := rmsDx_ref x u w r c 0
  rwa [zero_add, add_zero] at e

end Host

section Host
variable {M K N : ℕ} {x u : ℕ → ℕ → EReal} (f g : ℕ → ℕ → EReal)

/-- The sums of the rows of a product, kept as a row and added again. -/
theorem rmsDw_host (h0 : (⟨2, ![M, 2048]⟩ : Shape).ReducesTo [0] ⟨1, ![2048]⟩) (hu : 0 < (⟨0, ![]⟩ : Shape).numel) (hk : (⟨1, ![2048]⟩ : Shape).ShapeCasts ⟨2, ![1, 2048]⟩)
    (h1 : (⟨2, ![1, 2048]⟩ : Shape).ReducesTo [0] ⟨1, ![2048]⟩) :
    Host.reduceAdd (shapeCast ⟨2, ![1, 2048]⟩ (Host.reduceAdd (mulf (L2 .f32 (fun r c => x r c * rs x r) : FVec Ideal ⟨2, ![M, 2048]⟩ .f32) (L2 .f32 u)) (constant (F := Ideal) ⟨0, ![]⟩ .f32 0x00000000#32) h0 hu) hk)
      (constant (F := Ideal) ⟨0, ![]⟩ .f32 0x00000000#32) h1 hu = L1 .f32 (fun c => rmsDw x u M c) := by
  rw [mulf_L2, hcolsums_L2, cast_row, hcolsums_L2]
  congr 1; funext c
  rw [Finset.sum_range_one]
  exact Finset.sum_congr rfl fun _ _ => mul_comm _ _

theorem hdot_nn (h) : Host.dotGeneral (φ₁ := .f32) (φ₂ := .f32) (Stick.dims_nn (M := M) (K := K) (N := N) h) none (L2 .f32 f) (L2 .f32 g) = L2 .f32 (fun r c => ∑ k ∈ Finset.range K, f r k * g k c) :=
  hdot_L2 f g (Stick.dims_nn h) K rfl rfl (fun r c k => f r k) (fun r c k => g k c) (fun j q => congrArg (f (j 0).val) (contrEquiv1_symm_val (Stick.dims_nn h) K rfl rfl q)) (fun j q => congrArg (fun k => g k (j 1).val) (contrEquiv1_symm_val (Stick.dims_nn h) K rfl rfl q))
theorem hdot_nt (h) : Host.dotGeneral (φ₁ := .f32) (φ₂ := .f32) (Stick.dims_nt (M := M) (K := K) (N := N) h) none (L2 .f32 f) (L2 .f32 g) = L2 .f32 (fun r c => ∑ k ∈ Finset.range K, f r k * g c k) :=
  hdot_L2 f g (Stick.dims_nt h) K rfl rfl (fun r c k => f r k) (fun r c k => g c k) (fun j q => congrArg (f (j 0).val) (contrEquiv1_symm_val (Stick.dims_nt h) K rfl rfl q)) (fun j q => congrArg (g (j 1).val) (contrEquiv1_symm_val (Stick.dims_nt h) K rfl rfl q))
theorem hdot_tn (h) : Host.dotGeneral (φ₁ := .f32) (φ₂ := .f32) (Stick.dims_tn (M := M) (K := K) (N := N) h) none (L2 .f32 f) (L2 .f32 g) = L2 .f32 (fun r c => ∑ k ∈ Finset.range K, f k r * g k c) :=
  hdot_L2 f g (Stick.dims_tn h) K rfl rfl (fun r c k => f k r) (fun r c k => g k c) (fun j q => congrArg (fun k => f k (j 0).val) (contrEquiv1_symm_val (Stick.dims_tn h) K rfl rfl q)) (fun j q => congrArg (fun k => g k (j 1).val) (contrEquiv1_symm_val (Stick.dims_tn h) K rfl rfl q))

end Host

end Cert.Wide

end
-- ==== Proof.ValIn.lean ====
/- The contents of every output of the input projection's calls, over arrays of extended reals. -/
module

public import proofs.«01_k».proof.Proof.CallsIn
public import proofs.«01_k».proof.Proof.WideNorm
public import Idealize.ShloMosaic.Lib.Pipeline.ValueKit.Geometry

@[expose] public section

set_option maxRecDepth 16384

noncomputable section

namespace Cert.Kernel3Ideal.Calls

open Cert.Kernel3Ideal Cert.Kernel3Ideal.Gen Cert.Kernel3Ideal.Facts₀ Cert.Kernel3Ideal.Facts Cert.Wide
open Idealize.ShloMosaic Idealize.ShloMosaic.TcCoe Idealize.ShloMosaic.ValueIdx
open Idealize.SL Idealize.SL.RA
open Idealize.ShloMosaic.Pipeline (Dat)
open scoped BigOperators

variable (W : Dev nD → Valuation τ sig (Elt Ideal)) (c : Dev nD)
variable {f g u v : ℕ → ℕ → EReal} {w : ℕ → EReal}

/-! ### Call 0: `rms_mix_pre` -/

theorem idx0 (t : Fin cfg0.N) : (win0_0.index t 0 = t.val ∧ win0_0.index t 1 = 0)
    ∧ (win0_1.index t 0 = 0 ∧ win0_1.index t 1 = 0)
    ∧ (win0_2.index t 0 = t.val ∧ win0_2.index t 1 = 0) := by
  revert t; decide +kernel

theorem blk0_0 (h : W c (Proc.devRef .tc main_arg0) = (L2 .f32 f : FVec Ideal S8192x2048 .f32)) (t : Fin cfg0.N) :
    (blk0 W c 0 t : FVec Ideal S256x2048 .f32) = L2 .f32 (part 256 2048 t.val 0 f) := by
  funext y
  unfold blk0 Region.blockAt
  rw [View.read_apply]
  show W c (Proc.devRef .tc main_arg0) _ = _
  rw [h]
  show f (win0_0.index t 0 * 256 + 1 * (y 0).val) (win0_0.index t 1 * 2048 + 1 * (y 1).val) = _
  rw [(idx0 t).1.1, (idx0 t).1.2]
  rfl
theorem blk0_1 (h : W c (Proc.devRef .tc main_v6) = (L2 .f32 f : FVec Ideal S1x2048 .f32)) (t : Fin cfg0.N) :
    (blk0 W c 1 t : FVec Ideal S1x2048 .f32) = L2 .f32 (part 1 2048 0 0 f) := by
  funext y
  unfold blk0 Region.blockAt
  rw [View.read_apply]
  show W c (Proc.devRef .tc main_v6) _ = _
  rw [h]
  show f (win0_1.index t 0 * 1 + 1 * (y 0).val) (win0_1.index t 1 * 2048 + 1 * (y 1).val) = _
  rw [(idx0 t).2.1.1, (idx0 t).2.1.2]
  rfl

theorem norm0 : k0_pay1 (L2 .f32 f : FVec Ideal S256x2048 .f32) (L2 .f32 (fun _ c => w c) : FVec Ideal S1x2048 .f32) = L2 .bf16 (fun r c => rms f w r c) := by
  unfold k0_pay1
  rw [shapeCast_L2]
  exact (congrArg (fun z => truncf .bf16 z Gen.bitsLt_bf16_f32) (norm_tile _ _ _ _ _ _)).trans rfl

/-- The normalised rows. -/
theorem arr0 (h0 : W c (Proc.devRef .tc main_arg0) = (L2 .f32 f : FVec Ideal S8192x2048 .f32)) (h1 : W c (Proc.devRef .tc main_v6) = (L2 .f32 (fun _ c => w c) : FVec Ideal S1x2048 .f32))
    : (dat0 W c).arrAt 2 cfg0.N = (L2 .bf16 (fun r c => rms f w r c) : FVec Ideal S8192x2048 .bf16) := by
  refine (dat0 W c).arrAt_eq_of_covers 2 (L2 .bf16 (fun r c => rms f w r c) : FVec Ideal S8192x2048 .bf16) (by decide +kernel) fun t hf y => ?_
  show (k0_pay1 (blk0 W c 0 t) (blk0 W c 1 t) : FVec Ideal S256x2048 .bf16) y = _
  rw [blk0_0 W c h0, blk0_1 W c h1]
  rw [show (L2 .f32 (part 1 2048 0 0 fun _ c => w c) : FVec Ideal S1x2048 .f32) = L2 .f32 (fun _ c => w c) from L2_congr fun r c _ _ => by rw [part_row]]
  rw [norm0, rms_part, ← (idx0 t).2.2.1]
  show part 256 2048 _ 0 _ _ _ = rms f w (win0_2.index t 0 * 256 + 1 * (y 0).val) (win0_2.index t 1 * 2048 + 1 * (y 1).val)
  rw [(idx0 t).2.2.2]
  rfl

/-! ### Call 1: `mm_in` -/

theorem idx1 (t : Fin cfg1.N) : (win1_0.index t 0 = t.val / 1 / 12 ∧ win1_0.index t 1 = t.val % 1)
    ∧ (win1_1.index t 0 = t.val % 1 ∧ win1_1.index t 1 = t.val / 1 % 12)
    ∧ (win1_2.index t 0 = t.val / 1 / 12 ∧ win1_2.index t 1 = t.val / 1 % 12) := by
  revert t; decide +kernel

theorem blk1_0 (h : W c (Proc.devRef .tc main_v7) = (L2 .bf16 f : FVec Ideal S8192x2048 .bf16)) (t : Fin cfg1.N) :
    (blk1 W c 0 t : FVec Ideal S1024x2048 .bf16) = L2 .bf16 (part 1024 2048 (t.val / 1 / 12) (t.val % 1) f) := by
  funext y
  unfold blk1 Region.blockAt
  rw [View.read_apply]
  show W c (Proc.devRef .tc main_v7) _ = _
  rw [h, ← (idx1 t).1.1, ← (idx1 t).1.2]
  rfl
theorem blk1_1 (h : W c (Proc.devRef .tc main_v5) = (L2 .bf16 f : FVec Ideal S2048x16896 .bf16)) (t : Fin cfg1.N) :
    (blk1 W c 1 t : FVec Ideal S2048x1408 .bf16) = L2 .bf16 (part 2048 1408 (t.val % 1) (t.val / 1 % 12) f) := by
  funext y
  unfold blk1 Region.blockAt
  rw [View.read_apply]
  show W c (Proc.devRef .tc main_v5) _ = _
  rw [h, ← (idx1 t).2.1.1, ← (idx1 t).2.1.2]
  rfl

theorem prod1 : k1_pay1 (L2 .bf16 f : FVec Ideal S1024x2048 .bf16) (L2 .bf16 g : FVec Ideal S2048x1408 .bf16) = L2 .f32 (fun r c => ∑ j ∈ Finset.range 2048, f r j * g j c) := by
  unfold k1_pay1
  rw [shapeCast_L2, shapeCast_L2]
  exact matmul_plain_L2 (M := 1024) (K := 2048) (N := 1408) f g

/-- The projection. -/
theorem arr1 (h0 : W c (Proc.devRef .tc main_v7) = (L2 .bf16 f : FVec Ideal S8192x2048 .bf16)) (h1 : W c (Proc.devRef .tc main_v5) = (L2 .bf16 g : FVec Ideal S2048x16896 .bf16)) :
    (dat1 W c).arrAt 2 cfg1.N = (L2 .f32 (fun r c => ∑ j ∈ Finset.range 2048, f r j * g j c) : FVec Ideal S8192x16896 .f32) := by
  refine (dat1 W c).arrAt_eq_of_covers 2 (L2 .f32 (fun r c => ∑ j ∈ Finset.range 2048, f r j * g j c) : FVec Ideal S8192x16896 .f32) (by decide +kernel) fun t hf y => ?_
  have e : acc1 W c (t.val + 1) = L2 .f32 (part 1024 1408 (t.val / 1 / 12) (t.val / 1 % 12) (fun r c => ∑ j ∈ Finset.range 2048, f r j * g j c)) := by
    unfold acc1
    refine accum_product (N := grid1.N) (by decide) 1 12 1024 1408 2048 (by decide) f g _ _ (fun t => ?_) (fun t e => ?_) t (Nat.mod_one _)
    · unfold k1_pay2
      rw [blk1_0 W c h0, blk1_1 W c h1, prod1, shapeCast_L2]
      try rfl
    · unfold k1_pay3
      rw [blk1_0 W c h0, blk1_1 W c h1, prod1]
      conv_lhs => zeta
      rw [addf_L2, shapeCast_L2]
      try rfl
  show ((acc1 W c (t.val + 1)) : FVec Ideal S1024x1408 .f32) y = _
  rw [e]
  show part 1024 1408 (t.val / 1 / 12) (t.val / 1 % 12) _ _ _ = (fun r c => ∑ j ∈ Finset.range 2048, f r j * g j c) (win1_2.index t 0 * 1024 + 1 * (y 0).val) (win1_2.index t 1 * 1408 + 1 * (y 1).val)
  rw [(idx1 t).2.2.1, (idx1 t).2.2.2]
  rfl

/-! ### Call 2: `mm_in_dx` -/

theorem idx2 (t : Fin cfg2.N) : (win2_0.index t 0 = t.val / 11 / 2 ∧ win2_0.index t 1 = t.val % 11)
    ∧ (win2_1.index t 0 = t.val / 11 % 2 ∧ win2_1.index t 1 = t.val % 11)
    ∧ (win2_2.index t 0 = t.val / 11 / 2 ∧ win2_2.index t 1 = t.val / 11 % 2) := by
  revert t; decide +kernel

theorem blk2_0 (h : W c (Proc.devRef .tc main_v14) = (L2 .bf16 f : FVec Ideal S8192x16896 .bf16)) (t : Fin cfg2.N) :
    (blk2 W c 0 t : FVec Ideal S1024x1536 .bf16) = L2 .bf16 (part 1024 1536 (t.val / 11 / 2) (t.val % 11) f) := by
  funext y
  unfold blk2 Region.blockAt
  rw [View.read_apply]
  show W c (Proc.devRef .tc main_v14) _ = _
  rw [h, ← (idx2 t).1.1, ← (idx2 t).1.2]
  rfl
theorem blk2_1 (h : W c (Proc.devRef .tc main_v5) = (L2 .bf16 f : FVec Ideal S2048x16896 .bf16)) (t : Fin cfg2.N) :
    (blk2 W c 1 t : FVec Ideal S1024x1536 .bf16) = L2 .bf16 (part 1024 1536 (t.val / 11 % 2) (t.val % 11) f) := by
  funext y
  unfold blk2 Region.blockAt
  rw [View.read_apply]
  show W c (Proc.devRef .tc main_v5) _ = _
  rw [h, ← (idx2 t).2.1.1, ← (idx2 t).2.1.2]
  rfl

theorem prod2 : k2_pay1 (L2 .bf16 f : FVec Ideal S1024x1536 .bf16) (L2 .bf16 g : FVec Ideal S1024x1536 .bf16) = L2 .f32 (fun r c => ∑ j ∈ Finset.range 1536, f r j * g c j) := by
  unfold k2_pay1
  rw [shapeCast_L2, shapeCast_L2]
  exact matmul_transposedRhs_L2 (M := 1024) (K := 1536) (N := 1024) f g

/-- The gradient of the normalised rows. -/
theorem arr2 (h0 : W c (Proc.devRef .tc main_v14) = (L2 .bf16 f : FVec Ideal S8192x16896 .bf16)) (h1 : W c (Proc.devRef .tc main_v5) = (L2 .bf16 g : FVec Ideal S2048x16896 .bf16)) :
    (dat2 W c).arrAt 2 cfg2.N = (L2 .f32 (fun r c => ∑ j ∈ Finset.range 16896, f r j * g c j) : FVec Ideal S8192x2048 .f32) := by
  refine (dat2 W c).arrAt_eq_of_covers 2 (L2 .f32 (fun r c => ∑ j ∈ Finset.range 16896, f r j * g c j) : FVec Ideal S8192x2048 .f32) (by decide +kernel) fun t hf y => ?_
  have e : acc2 W c (t.val + 1) = L2 .f32 (part 1024 1024 (t.val / 11 / 2) (t.val / 11 % 2) (fun r c => ∑ j ∈ Finset.range 16896, f r j * g c j)) := by
    unfold acc2
    refine accum_product (N := grid2.N) (by decide) 11 2 1024 1024 1536 (by decide) f (fun k c => g c k) _ _ (fun t => ?_) (fun t e => ?_) t ((flush2_2 t).mp hf)
    · unfold k2_pay2
      rw [blk2_0 W c h0, blk2_1 W c h1, prod2, shapeCast_L2]
      try rfl
    · unfold k2_pay3
      rw [blk2_0 W c h0, blk2_1 W c h1, prod2]
      conv_lhs => zeta
      rw [addf_L2, shapeCast_L2]
      try rfl
  show ((acc2 W c (t.val + 1)) : FVec Ideal S1024x1024 .f32) y = _
  rw [e]
  show part 1024 1024 (t.val / 11 / 2) (t.val / 11 % 2) _ _ _ = (fun r c => ∑ j ∈ Finset.range 16896, f r j * g c j) (win2_2.index t 0 * 1024 + 1 * (y 0).val) (win2_2.index t 1 * 1024 + 1 * (y 1).val)
  rw [(idx2 t).2.2.1, (idx2 t).2.2.2]
  rfl

/-! ### Call 3: `mm_in_dw` -/

theorem idx3 (t : Fin cfg3.N) : (win3_0.index t 0 = t.val / 4 / 11 ∧ win3_0.index t 1 = t.val % 4)
    ∧ (win3_1.index t 0 = t.val % 4 ∧ win3_1.index t 1 = t.val / 4 % 11)
    ∧ (win3_2.index t 0 = t.val / 4 / 11 ∧ win3_2.index t 1 = t.val / 4 % 11) := by
  revert t; decide +kernel

theorem blk3_0 (h : W c (Proc.devRef .tc main_v16) = (L2 .bf16 f : FVec Ideal S2048x8192 .bf16)) (t : Fin cfg3.N) :
    (blk3 W c 0 t : FVec Ideal S1024x2048 .bf16) = L2 .bf16 (part 1024 2048 (t.val / 4 / 11) (t.val % 4) f) := by
  funext y
  unfold blk3 Region.blockAt
  rw [View.read_apply]
  show W c (Proc.devRef .tc main_v16) _ = _
  rw [h, ← (idx3 t).1.1, ← (idx3 t).1.2]
  rfl
theorem blk3_1 (h : W c (Proc.devRef .tc main_v14) = (L2 .bf16 f : FVec Ideal S8192x16896 .bf16)) (t : Fin cfg3.N) :
    (blk3 W c 1 t : FVec Ideal S2048x1536 .bf16) = L2 .bf16 (part 2048 1536 (t.val % 4) (t.val / 4 % 11) f) := by
  funext y
  unfold blk3 Region.blockAt
  rw [View.read_apply]
  show W c (Proc.devRef .tc main_v14) _ = _
  rw [h, ← (idx3 t).2.1.1, ← (idx3 t).2.1.2]
  rfl

theorem prod3 : k3_pay1 (L2 .bf16 f : FVec Ideal S1024x2048 .bf16) (L2 .bf16 g : FVec Ideal S2048x1536 .bf16) = L2 .f32 (fun r c => ∑ j ∈ Finset.range 2048, f r j * g j c) := by
  unfold k3_pay1
  rw [shapeCast_L2, shapeCast_L2]
  exact matmul_plain_L2 (M := 1024) (K := 2048) (N := 1536) f g

/-- The gradient of the projection's weights. -/
theorem arr3 (h0 : W c (Proc.devRef .tc main_v16) = (L2 .bf16 f : FVec Ideal S2048x8192 .bf16)) (h1 : W c (Proc.devRef .tc main_v14) = (L2 .bf16 g : FVec Ideal S8192x16896 .bf16)) :
    (dat3 W c).arrAt 2 cfg3.N = (L2 .bf16 (fun r c => ∑ j ∈ Finset.range 8192, f r j * g j c) : FVec Ideal S2048x16896 .bf16) := by
  refine (dat3 W c).arrAt_eq_of_covers 2 (L2 .bf16 (fun r c => ∑ j ∈ Finset.range 8192, f r j * g j c) : FVec Ideal S2048x16896 .bf16) (by decide +kernel) fun t hf y => ?_
  have e : acc3 W c (t.val + 1) = L2 .f32 (part 1024 1536 (t.val / 4 / 11) (t.val / 4 % 11) (fun r c => ∑ j ∈ Finset.range 8192, f r j * g j c)) := by
    unfold acc3
    refine accum_product (N := grid3.N) (by decide) 4 11 1024 1536 2048 (by decide) f g _ _ (fun t => ?_) (fun t e => ?_) t ((flush3_2 t).mp hf)
    · unfold k3_pay2
      rw [blk3_0 W c h0, blk3_1 W c h1, prod3, shapeCast_L2]
      try rfl
    · unfold k3_pay3
      rw [blk3_0 W c h0, blk3_1 W c h1, prod3]
      conv_lhs => zeta
      rw [addf_L2, shapeCast_L2]
      try rfl
  show ((k3_pay4 (acc3 W c (t.val + 1))) : FVec Ideal S1024x1536 .bf16) y = _
  unfold k3_pay4
  rw [e]
  show part 1024 1536 (t.val / 4 / 11) (t.val / 4 % 11) (fun r c => ∑ j ∈ Finset.range 8192, f r j * g j c) (y 0).val (y 1).val = (fun r c => ∑ j ∈ Finset.range 8192, f r j * g j c) (win3_2.index t 0 * 1024 + 1 * (y 0).val) (win3_2.index t 1 * 1536 + 1 * (y 1).val)
  rw [(idx3 t).2.2.1, (idx3 t).2.2.2]
  rfl

/-! ### Call 4: `rms_mix_pre_bwd` -/

theorem idx4 (t : Fin cfg4.N) : (win4_0.index t 0 = t.val ∧ win4_0.index t 1 = 0)
    ∧ (win4_1.index t 0 = 0 ∧ win4_1.index t 1 = 0)
    ∧ (win4_2.index t 0 = t.val ∧ win4_2.index t 1 = 0)
    ∧ (win4_3.index t 0 = t.val ∧ win4_3.index t 1 = 0)
    ∧ (win4_4.index t 0 = t.val ∧ win4_4.index t 1 = 0)
    ∧ (win4_5.index t 0 = 0 ∧ win4_5.index t 1 = 0) := by
  revert t; decide +kernel

theorem blk4_0 (h : W c (Proc.devRef .tc main_arg0) = (L2 .f32 f : FVec Ideal S8192x2048 .f32)) (t : Fin cfg4.N) :
    (blk4 W c 0 t : FVec Ideal S256x2048 .f32) = L2 .f32 (part 256 2048 t.val 0 f) := by
  funext y
  unfold blk4 Region.blockAt
  rw [View.read_apply]
  show W c (Proc.devRef .tc main_arg0) _ = _
  rw [h]
  show f (win4_0.index t 0 * 256 + 1 * (y 0).val) (win4_0.index t 1 * 2048 + 1 * (y 1).val) = _
  rw [(idx4 t).1.1, (idx4 t).1.2]
  rfl
theorem blk4_1 (h : W c (Proc.devRef .tc main_v18) = (L2 .f32 f : FVec Ideal S1x2048 .f32)) (t : Fin cfg4.N) :
    (blk4 W c 1 t : FVec Ideal S1x2048 .f32) = L2 .f32 (part 1 2048 0 0 f) := by
  funext y
  unfold blk4 Region.blockAt
  rw [View.read_apply]
  show W c (Proc.devRef .tc main_v18) _ = _
  rw [h]
  show f (win4_1.index t 0 * 1 + 1 * (y 0).val) (win4_1.index t 1 * 2048 + 1 * (y 1).val) = _
  rw [(idx4 t).2.1.1, (idx4 t).2.1.2]
  rfl
theorem blk4_2 (h : W c (Proc.devRef .tc main_v15) = (L2 .f32 f : FVec Ideal S8192x2048 .f32)) (t : Fin cfg4.N) :
    (blk4 W c 2 t : FVec Ideal S256x2048 .f32) = L2 .f32 (part 256 2048 t.val 0 f) := by
  funext y
  unfold blk4 Region.blockAt
  rw [View.read_apply]
  show W c (Proc.devRef .tc main_v15) _ = _
  rw [h]
  show f (win4_2.index t 0 * 256 + 1 * (y 0).val) (win4_2.index t 1 * 2048 + 1 * (y 1).val) = _
  rw [(idx4 t).2.2.1.1, (idx4 t).2.2.1.2]
  rfl
theorem blk4_3 (h : W c (Proc.devRef .tc main_arg4) = (L2 .f32 f : FVec Ideal S8192x2048 .f32)) (t : Fin cfg4.N) :
    (blk4 W c 3 t : FVec Ideal S256x2048 .f32) = L2 .f32 (part 256 2048 t.val 0 f) := by
  funext y
  unfold blk4 Region.blockAt
  rw [View.read_apply]
  show W c (Proc.devRef .tc main_arg4) _ = _
  rw [h]
  show f (win4_3.index t 0 * 256 + 1 * (y 0).val) (win4_3.index t 1 * 2048 + 1 * (y 1).val) = _
  rw [(idx4 t).2.2.2.1.1, (idx4 t).2.2.2.1.2]
  rfl

theorem root4 : k4_pay3 (L2 .f32 f : FVec Ideal S256x2048 .f32) = L2 .f32 (fun r _ => rs f r) := by
  unfold k4_pay3
  skip
  exact root_tile _ _ _ _
theorem unit4 : k4_pay4 (L2 .f32 f : FVec Ideal S256x2048 .f32) = L2 .f32 (fun r c => f r c * rs f r) := by
  unfold k4_pay4
  rw [root4, spread_col]
  exact mulf_L2 _ _
theorem grad4 : k4_pay5 (L2 .f32 f : FVec Ideal S256x2048 .f32) (L2 .f32 (fun _ c => w c) : FVec Ideal S1x2048 .f32) (L2 .f32 u : FVec Ideal S256x2048 .f32) (L2 .f32 v : FVec Ideal S256x2048 .f32) = L2 .f32 (fun r c => rmsDx f u w r c + v r c) := by
  unfold k4_pay5 k4_pay2
  rw [shapeCast_L2, shapeCast_L2, root4, unit4]
  exact (congrArg (fun z => addf z (L2 .f32 v)) (grad_tile _ _ _ _ _ _)).trans (addf_L2 _ _)
theorem scale4 : k4_pay6 (L2 .f32 f : FVec Ideal S256x2048 .f32) (L2 .f32 u : FVec Ideal S256x2048 .f32) = L2 .f32 (fun _ c => rmsDw f u 256 c) := by
  unfold k4_pay6 k4_pay2
  rw [shapeCast_L2, unit4]
  exact scale_tile _ _ _ _

/-- The gradient of the rows, added to the residual. -/
theorem arr4_4 (h0 : W c (Proc.devRef .tc main_arg0) = (L2 .f32 f : FVec Ideal S8192x2048 .f32)) (h1 : W c (Proc.devRef .tc main_v18) = (L2 .f32 (fun _ c => w c) : FVec Ideal S1x2048 .f32))
    (h2 : W c (Proc.devRef .tc main_v15) = (L2 .f32 u : FVec Ideal S8192x2048 .f32)) (h3 : W c (Proc.devRef .tc main_arg4) = (L2 .f32 v : FVec Ideal S8192x2048 .f32)) :
    (dat4 W c).arrAt 4 cfg4.N = (L2 .f32 (fun r c => rmsDx f u w r c + v r c) : FVec Ideal S8192x2048 .f32) := by
  refine (dat4 W c).arrAt_eq_of_covers 4 (L2 .f32 (fun r c => rmsDx f u w r c + v r c) : FVec Ideal S8192x2048 .f32) (by decide +kernel) fun t hf y => ?_
  show (k4_pay5 (blk4 W c 0 t) (blk4 W c 1 t) (blk4 W c 2 t) (blk4 W c 3 t) : FVec Ideal S256x2048 .f32) y = _
  rw [blk4_0 W c h0, blk4_1 W c h1, blk4_2 W c h2, blk4_3 W c h3]
  rw [show (L2 .f32 (part 1 2048 0 0 fun _ c => w c) : FVec Ideal S1x2048 .f32) = L2 .f32 (fun _ c => w c) from L2_congr fun r c _ _ => by rw [part_row]]
  rw [grad4, rmsDx_part, ← (idx4 t).2.2.2.2.1.1]
  show part 256 2048 _ 0 _ _ _ + part 256 2048 _ 0 _ _ _ = rmsDx f u w (win4_4.index t 0 * 256 + 1 * (y 0).val) (win4_4.index t 1 * 2048 + 1 * (y 1).val) + v (win4_4.index t 0 * 256 + 1 * (y 0).val) (win4_4.index t 1 * 2048 + 1 * (y 1).val)
  rw [(idx4 t).2.2.2.2.1.2]
  rfl

/-- The gradient of the scale. -/
theorem arr4_5 (h0 : W c (Proc.devRef .tc main_arg0) = (L2 .f32 f : FVec Ideal S8192x2048 .f32)) (h2 : W c (Proc.devRef .tc main_v15) = (L2 .f32 u : FVec Ideal S8192x2048 .f32)) :
    (dat4 W c).arrAt 5 cfg4.N = (L2 .f32 (fun _ c => rmsDw f u 8192 c) : FVec Ideal S1x2048 .f32) := by
  refine (dat4 W c).arrAt_eq_of_covers 5 (L2 .f32 (fun _ c => rmsDw f u 8192 c) : FVec Ideal S1x2048 .f32) (by decide +kernel) fun t hf y => ?_
  have e : acc4 W c (t.val + 1) = L2 .f32 (fun _ c => rmsDw f u 8192 c) := by
    unfold acc4
    have ht := (flush4_5 t).mp hf
    refine (accum_L2 (N := grid4.N) (by decide) 32 _ _ (fun t _ c => rmsDw (part 256 2048 t 0 f) (part 256 2048 t 0 u) 256 c) (fun t => ?_) (fun t e => ?_) t.val t.isLt).trans ?_
    · rw [blk4_0 W c h0, blk4_2 W c h2, scale4]
    · unfold k4_pay1
      rw [blk4_0 W c h0, blk4_2 W c h2, scale4, shapeCast_L2]
      exact addf_L2 _ _
    · have hN : t.val < 32 := t.isLt
      rw [show t.val = 31 by omega]
      congr 1; funext r c
      simp only [show 31 % 32 + 1 = 32 from rfl, show 31 - 31 % 32 = 0 from rfl, Nat.zero_add]
      exact rmsDw_blocks f u 256 32 c
  show (acc4 W c (t.val + 1) : FVec Ideal S1x2048 .f32) y = _
  rw [e]
  show rmsDw f u 8192 (y 1).val = rmsDw f u 8192 (win4_5.index t 1 * 2048 + 1 * (y 1).val)
  rw [(idx4 t).2.2.2.2.2.2, Nat.zero_mul, Nat.zero_add, Nat.one_mul]

end Cert.Kernel3Ideal.Calls

end
-- ==== Proof.WidePad.lean ====
/- Columns of a matrix moved to tile bounds: the padding of the projection's columns and its inverse, and that a sum over
   padded columns is the sum over the columns themselves. -/
module

public import proofs.«01_k».proof.Proof.Wide

@[expose] public section

set_option maxRecDepth 16384

noncomputable section

namespace Cert.Wide

open Idealize.ShloMosaic Idealize.ShloMosaic.ValueIdx
open Cert.Stick (eps ofBits_eps_pos ofBits_2048 ofBits_half)
open scoped BigOperators

variable {M N : ℕ} {φ : FTy} {f : ℕ → ℕ → EReal}

/-- Of matrices joined side by side, an entry is one of the piece whose columns hold it. -/
theorem joined (xs : List ((s : Shape) × (s.Idx → EReal))) (h : Shape.Concatenates (xs.map (·.1)) ⟨2, ![M, N]⟩ (1 : Fin 2)) (j : (⟨2, ![M, N]⟩ : Shape).Idx)
    (k n pre : ℕ) (g : ℕ → ℕ → EReal) (hk : k < xs.length) (hx : xs[k] = ⟨⟨2, ![M, n]⟩, (L2 φ g : FVec Ideal ⟨2, ![M, n]⟩ φ)⟩)
    (hp : (((xs.take k).map (·.1)).map fun s => if h : s.rank = (⟨2, ![M, N]⟩ : Shape).rank then s.size ((1 : Fin 2).cast h.symm) else 0).sum = pre)
    (h1 : pre ≤ (j 1).val) (h2 : (j 1).val < pre + n) :
    concatenate ⟨2, ![M, N]⟩ (1 : Fin 2) xs h j = (g (j 0).val ((j 1).val - pre) : EReal) := by
  refine (concatenate_apply_piece (t := ⟨2, ![M, N]⟩) (1 : Fin 2) xs h j k hk _ _ hx rfl pre hp
    (ValueIdx.ix2 ⟨(j 0).val, idx2_lt0 j⟩ ⟨(j 1).val - pre, by omega⟩) (fun b hb => ?_) ?_).trans rfl
  · match b with
    | ⟨0, _⟩ => rfl
    | ⟨1, _⟩ => exact absurd rfl hb
  · show pre + ((j 1).val - pre) = (j 1).val
    omega

/-- A row with its columns moved to tile bounds: the last 6144 before the 16 of the gate, and zeros after. -/
def pad (f : ℕ → EReal) (c : ℕ) : EReal := if c < 10240 then f (0 + c) else if c < 16384 then f (10256 + (c - 10240)) else if c < 16400 then f (10240 + (c - 16384)) else 0

/-- Where a column stands among the padded ones. -/
def moved (c : ℕ) : ℕ := if c < 10240 then 0 + c else if c < 10256 then 16384 + (c - 10240) else 10240 + (c - 10256)

theorem pad_moved (f : ℕ → EReal) (c : ℕ) (h : c < 16400) : pad f (moved c) = f c := by
  unfold pad moved
  split_ifs <;> first | omega | exact congrArg f (by omega)

theorem sum_pad (f g : ℕ → EReal) : ∑ j ∈ Finset.range 16896, pad f j * pad g j = ∑ j ∈ Finset.range 16400, f j * g j := by
  rw [show 16896 = 10240 + 6144 + 16 + 496 from rfl, show 16400 = 10240 + 16 + 6144 from rfl]
  simp only [Finset.sum_range_add]
  have e0 : ∑ x ∈ Finset.range 10240, pad f x * pad g x = ∑ x ∈ Finset.range 10240, f x * g x :=
    Finset.sum_congr rfl fun x hx => by have := Finset.mem_range.mp hx; simp [pad, this]
  have e1 : ∑ x ∈ Finset.range 6144, pad f (10240 + x) * pad g (10240 + x) = ∑ x ∈ Finset.range 6144, f (10240 + 16 + x) * g (10240 + 16 + x) :=
    Finset.sum_congr rfl fun x hx => by
      have := Finset.mem_range.mp hx
      simp [pad, show 10240 + x < 16384 by omega]
  have e2 : ∑ x ∈ Finset.range 16, pad f (10240 + 6144 + x) * pad g (10240 + 6144 + x) = ∑ x ∈ Finset.range 16, f (10240 + x) * g (10240 + x) :=
    Finset.sum_congr rfl fun x hx => by
      have := Finset.mem_range.mp hx
      simp [pad, show ¬ 16384 + x < 10240 by omega, show 16384 + x < 16400 by omega]
  have e3 : ∑ x ∈ Finset.range 496, pad f (10240 + 6144 + 16 + x) * pad g (10240 + 6144 + 16 + x) = 0 :=
    Finset.sum_eq_zero fun x _ => by simp [pad, show ¬ 16400 + x < 10240 by omega, show ¬ 16400 + x < 16384 by omega]
  rw [e0, e1, e2, e3]
  rw [add_zero, add_right_comm]

/-- The padded columns of a matrix, put together from its slices. -/
theorem padded (h0) (h1) (h2) (z : FVec Ideal ⟨2, ![M, 496]⟩ φ) (hz : z = L2 φ (fun _ _ => 0)) (h) :
    (concatenate ⟨2, ![M, 16896]⟩ (1 : Fin 2) [⟨⟨2, ![M, 10240]⟩, extractStridedSlice ⟨2, ![M, 10240]⟩ ![0, 0] (L2 φ f : FVec Ideal ⟨2, ![M, 16400]⟩ φ) h0⟩,
      ⟨⟨2, ![M, 6144]⟩, extractStridedSlice ⟨2, ![M, 6144]⟩ ![0, 10256] (L2 φ f : FVec Ideal ⟨2, ![M, 16400]⟩ φ) h1⟩,
      ⟨⟨2, ![M, 16]⟩, extractStridedSlice ⟨2, ![M, 16]⟩ ![0, 10240] (L2 φ f : FVec Ideal ⟨2, ![M, 16400]⟩ φ) h2⟩, ⟨⟨2, ![M, 496]⟩, z⟩] h : FVec Ideal ⟨2, ![M, 16896]⟩ φ)
      = L2 φ (fun r => pad (f r)) := by
  funext j
  have hj := idx2_lt1 j
  subst hz
  show _ = (pad (f (j 0).val) (j 1).val : EReal)
  unfold pad
  split_ifs with a b d
  · exact (joined _ _ j 0 10240 0 (fun r c => f r (0 + c)) (by simp) (by simp only [List.getElem_cons_succ, List.getElem_cons_zero]; rw [slice_cols]) (by simp) (by omega) (by omega)).trans rfl
  · exact (joined _ _ j 1 6144 10240 (fun r c => f r (10256 + c)) (by simp) (by simp only [List.getElem_cons_succ, List.getElem_cons_zero]; rw [slice_cols]) (by simp) (by omega) (by omega)).trans rfl
  · exact (joined _ _ j 2 16 16384 (fun r c => f r (10240 + c)) (by simp) (by simp only [List.getElem_cons_succ, List.getElem_cons_zero]; rw [slice_cols]) (by simp) (by omega) (by omega)).trans rfl
  · exact (joined _ _ j 3 496 16400 (fun _ _ => 0) (by simp) rfl (by simp) (by omega) (by omega)).trans rfl

/-- The columns of a padded matrix, put back in their order. -/
theorem unpadded (h0) (h1) (h2) (h) :
    (concatenate ⟨2, ![M, 16400]⟩ (1 : Fin 2) [⟨⟨2, ![M, 10240]⟩, extractStridedSlice ⟨2, ![M, 10240]⟩ ![0, 0] (L2 φ f : FVec Ideal ⟨2, ![M, 16896]⟩ φ) h0⟩,
      ⟨⟨2, ![M, 16]⟩, extractStridedSlice ⟨2, ![M, 16]⟩ ![0, 16384] (L2 φ f : FVec Ideal ⟨2, ![M, 16896]⟩ φ) h1⟩,
      ⟨⟨2, ![M, 6144]⟩, extractStridedSlice ⟨2, ![M, 6144]⟩ ![0, 10240] (L2 φ f : FVec Ideal ⟨2, ![M, 16896]⟩ φ) h2⟩] h : FVec Ideal ⟨2, ![M, 16400]⟩ φ)
      = L2 φ (fun r c => f r (moved c)) := by
  funext j
  have hj := idx2_lt1 j
  show _ = (f (j 0).val (moved (j 1).val) : EReal)
  unfold moved
  split_ifs with a b
  · exact (joined _ _ j 0 10240 0 (fun r c => f r (0 + c)) (by simp) (by simp only [List.getElem_cons_succ, List.getElem_cons_zero]; rw [slice_cols]) (by simp) (by omega) (by omega)).trans rfl
  · exact (joined _ _ j 1 16 10240 (fun r c => f r (16384 + c)) (by simp) (by simp only [List.getElem_cons_succ, List.getElem_cons_zero]; rw [slice_cols]) (by simp) (by omega) (by omega)).trans rfl
  · exact (joined _ _ j 2 6144 10256 (fun r c => f r (10240 + c)) (by simp) (by simp only [List.getElem_cons_succ, List.getElem_cons_zero]; rw [slice_cols]) (by simp) (by omega) (by omega)).trans rfl

end Cert.Wide

end
-- ==== Proof.InValue.lean ====
/- What the input projection's program leaves in its results. -/
module

public import proofs.«01_k».proof.Proof.RunIn
public import proofs.«01_k».proof.Proof.ValIn
public import proofs.«01_k».proof.Proof.WidePad

@[expose] public section

set_option maxRecDepth 16384

noncomputable section

namespace Cert.Kernel3Ideal.Calls

open Cert.Kernel3Ideal Cert.Kernel3Ideal.Gen Cert.Wide
open Idealize.ShloMosaic Idealize.ShloMosaic.TcCoe Idealize.ShloMosaic.Tactic Idealize.ShloMosaic.StableHlo
open scoped BigOperators

section Host
variable (V : Valuation τ sig (Elt Ideal)) {f : ℕ → ℕ → EReal} {w : ℕ → EReal}

theorem host0_v5 (h : V (Proc.devRef .tc main_arg2) = (L2 .f32 f : FVec Ideal S2048x16400 .f32)) :
    StableHlo.after hostOps0 V (Proc.devRef .tc main_v5) = (L2 .bf16 (fun r => pad (f r)) : FVec Ideal S2048x16896 .bf16) := by
  have h' : (L2 .bf16 f : FVec Ideal S2048x16400 .bf16) = truncf .bf16 (V (Proc.devRef .tc main_arg2) : FVec Ideal S2048x16400 .f32) bitsLt_bf16_f32 := by rw [h]; rfl
  have e := padded (M := 2048) (φ := .bf16) (f := f) slices_S2048x16400_S2048x10240_0_0 slices_S2048x16400_S2048x6144_0_10256 slices_S2048x16400_S2048x16_0_10240
    (broadcastInDim S2048x496 ![] bcast_S_S2048x496 (constant (F := Ideal) S_ .bf16 0x0000#16)) (funext fun _ => show Ideal.ofBits .bf16 0x0000#16 = (0 : EReal) by simp [Ideal.ofBits, Ideal.ieee]) concatenates_S2048x10240_S2048x6144_S2048x16_S2048x496_S2048x16896_d1
  rw [h'] at e
  refine Eq.trans ?_ e
  after_results_simp
  rfl
theorem host0_v6 (h : V (Proc.devRef .tc main_arg1) = (L1 .f32 w : FVec Ideal S2048 .f32)) :
    StableHlo.after hostOps0 V (Proc.devRef .tc main_v6) = (L2 .f32 (fun _ c => w c) : FVec Ideal S1x2048 .f32) := by
  after_results_simp
  rw [h]
  exact cast_row w _
theorem host2_v14 (h : V (Proc.devRef .tc main_arg3) = (L2 .f32 f : FVec Ideal S8192x16400 .f32)) :
    StableHlo.after hostOps2 V (Proc.devRef .tc main_v14) = (L2 .bf16 (fun r => pad (f r)) : FVec Ideal S8192x16896 .bf16) := by
  have e := padded (M := 8192) (φ := .f32) (f := f) slices_S8192x16400_S8192x10240_0_0 slices_S8192x16400_S8192x6144_0_10256 slices_S8192x16400_S8192x16_0_10240
    (broadcastInDim S8192x496 ![] bcast_S_S8192x496 (constant (F := Ideal) S_ .f32 0x00000000#32)) (funext fun _ => show Ideal.ofBits .f32 0x00000000#32 = (0 : EReal) by simp [Ideal.ofBits, Ideal.ieee]) concatenates_S8192x10240_S8192x6144_S8192x16_S8192x496_S8192x16896_d1
  rw [← h] at e
  refine Eq.trans ?_ (congrArg (fun z : FVec Ideal S8192x16896 .f32 => truncf .bf16 z bitsLt_bf16_f32) e)
  after_results_simp
  rfl
theorem host3_v16 (h : V (Proc.devRef .tc main_v7) = (L2 .bf16 f : FVec Ideal S8192x2048 .bf16)) :
    StableHlo.after hostOps3 V (Proc.devRef .tc main_v16) = (L2 .bf16 (fun r c => f c r) : FVec Ideal S2048x8192 .bf16) := by
  after_results_simp
  rw [h]
  exact transpose_L2 f _
theorem host4_v18 (h : V (Proc.devRef .tc main_arg1) = (L1 .f32 w : FVec Ideal S2048 .f32)) :
    StableHlo.after hostOps4 V (Proc.devRef .tc main_v18) = (L2 .f32 (fun _ c => w c) : FVec Ideal S1x2048 .f32) := by
  after_results_simp
  rw [h]
  exact cast_row w _
theorem host5_v20 (h : V (Proc.devRef .tc main_v19_1) = (L2 .f32 (fun _ c => w c) : FVec Ideal S1x2048 .f32)) :
    StableHlo.after hostOps5 V (Proc.devRef .tc main_v20) = (L1 .f32 w : FVec Ideal S2048 .f32) := by
  after_results_simp
  rw [h]
  exact uncast_row _ _
theorem host5_v24 (h : V (Proc.devRef .tc main_v8) = (L2 .f32 f : FVec Ideal S8192x16896 .f32)) :
    StableHlo.after hostOps5 V (Proc.devRef .tc main_v24) = (L2 .f32 (fun r c => f r (moved c)) : FVec Ideal S8192x16400 .f32) := by
  have e := unpadded (M := 8192) (φ := .f32) (f := f) slices_S8192x16896_S8192x10240_0_0 slices_S8192x16896_S8192x16_0_16384 slices_S8192x16896_S8192x6144_0_10240 concatenates_S8192x10240_S8192x16_S8192x6144_S8192x16400_d1
  rw [← h] at e
  refine Eq.trans ?_ e
  after_results_simp
  rfl
theorem host5_v29 (h : V (Proc.devRef .tc main_v17) = (L2 .bf16 f : FVec Ideal S2048x16896 .bf16)) :
    StableHlo.after hostOps5 V (Proc.devRef .tc main_v29) = (L2 .f32 (fun r c => f r (moved c)) : FVec Ideal S2048x16400 .f32) := by
  have e := unpadded (M := 2048) (φ := .bf16) (f := f) slices_S2048x16896_S2048x10240_0_0 slices_S2048x16896_S2048x16_0_16384 slices_S2048x16896_S2048x6144_0_10240 concatenates_S2048x10240_S2048x16_S2048x6144_S2048x16400_d1
  rw [← h] at e
  refine Eq.trans ?_ (congrArg (fun z : FVec Ideal S2048x16400 .bf16 => extf .f32 z bitsLt_bf16_f32) e)
  after_results_simp
  rfl

end Host
/-! ### The results -/

section Results
variable (m : (ℓ : Loc nD τ sig) → Buf (Elt Ideal) ℓ) (ρ : Dev nD → PrngReg) (c : Dev nD) {x W D E : ℕ → ℕ → EReal} {w : ℕ → EReal}

/-- The gradient of the normalised rows. -/
def dh (W D : ℕ → ℕ → EReal) (r c : ℕ) : EReal := ∑ j ∈ Finset.range 16400, D r j * W c j

/-- The arguments are the matrices `x`, `W`, `D`, `E` and the vector `w`. -/
structure Args (x : ℕ → ℕ → EReal) (w : ℕ → EReal) (W D E : ℕ → ℕ → EReal) : Prop where
  h0 : m ((c.tc : Thread nD τ).loc main_arg0) = (L2 .f32 x : FVec Ideal S8192x2048 .f32)
  h1 : m ((c.tc : Thread nD τ).loc main_arg1) = (L1 .f32 w : FVec Ideal S2048 .f32)
  h2 : m ((c.tc : Thread nD τ).loc main_arg2) = (L2 .f32 W : FVec Ideal S2048x16400 .f32)
  h3 : m ((c.tc : Thread nD τ).loc main_arg3) = (L2 .f32 D : FVec Ideal S8192x16400 .f32)
  h4 : m ((c.tc : Thread nD τ).loc main_arg4) = (L2 .f32 E : FVec Ideal S8192x2048 .f32)

variable (h : Args m c x w W D E)
include h

theorem v7_2 : B2 m c (Proc.devRef .tc main_v7) = (L2 .bf16 (rms x w) : FVec Ideal S8192x2048 .bf16) :=
  (Region.exitW_arr (dat0 (B1 m)) (B1 m) launch0.to₀.sharedIn (fun _ _ => rfl) c 2).trans (arr0 (B1 m) c ((B1_of m c main_arg0 (by decide)).trans h.h0) (host0_v6 _ h.h1))
theorem v5_2 : B2 m c (Proc.devRef .tc main_v5) = (L2 .bf16 (fun r => pad (W r)) : FVec Ideal S2048x16896 .bf16) :=
  (B2_of m c main_v5 (by decide)).trans (host0_v5 _ h.h2)
theorem v8_3 : B3 m c (Proc.devRef .tc main_v8) = (L2 .f32 (fun r c => ∑ j ∈ Finset.range 2048, rms x w r j * pad (W j) c) : FVec Ideal S8192x16896 .f32) :=
  (Region.exitW_arr (dat1 (B2 m)) (B2 m) launch1.to₀.sharedIn (fun _ _ => rfl) c 2).trans (arr1 (B2 m) c (v7_2 m c h) (v5_2 m c h))
theorem v14_4 : B4 m c (Proc.devRef .tc main_v14) = (L2 .bf16 (fun r => pad (D r)) : FVec Ideal S8192x16896 .bf16) :=
  host2_v14 _ ((B3_of m c main_arg3 (by decide)).trans ((B2_of m c main_arg3 (by decide)).trans ((B1_of m c main_arg3 (by decide)).trans h.h3)))
theorem v15_5 : B5 m c (Proc.devRef .tc main_v15) = (L2 .f32 (dh W D) : FVec Ideal S8192x2048 .f32) :=
  (Region.exitW_arr (dat2 (B4 m)) (B4 m) launch2.to₀.sharedIn (fun _ _ => rfl) c 2).trans ((arr2 (B4 m) c (v14_4 m c h) ((B4_of m c main_v5 (by decide)).trans ((B3_of m c main_v5 (by decide)).trans (v5_2 m c h)))).trans
    (L2_congr fun r c _ _ => sum_pad (D r) (W c)))
theorem v17_7 : B7 m c (Proc.devRef .tc main_v17) = (L2 .bf16 (fun r c => ∑ j ∈ Finset.range 8192, rms x w j r * pad (D j) c) : FVec Ideal S2048x16896 .bf16) :=
  (Region.exitW_arr (dat3 (B6 m)) (B6 m) launch3.to₀.sharedIn (fun _ _ => rfl) c 2).trans (arr3 (B6 m) c
    (host3_v16 _ ((B5_of m c main_v7 (by decide)).trans ((B4_of m c main_v7 (by decide)).trans ((B3_of m c main_v7 (by decide)).trans (v7_2 m c h)))))
    ((B6_of m c main_v14 (by decide)).trans ((B5_of m c main_v14 (by decide)).trans (v14_4 m c h))))
/-- An argument that no item before the last call writes. -/
theorem arg_8 (r : Ref sig .tc) (h0 : r ∉ hostOps0_W) (h1 : ∀ w : Fin cfg0.W, Pipeline.arrRef spec0 w = r → (cfg0.win w).isOut = false)
    (h2 : ∀ w : Fin cfg1.W, Pipeline.arrRef spec1 w = r → (cfg1.win w).isOut = false) (h3 : r ∉ hostOps2_W) (h4 : ∀ w : Fin cfg2.W, Pipeline.arrRef spec2 w = r → (cfg2.win w).isOut = false)
    (h5 : r ∉ hostOps3_W) (h6 : ∀ w : Fin cfg3.W, Pipeline.arrRef spec3 w = r → (cfg3.win w).isOut = false) :
    B7 m c (Proc.devRef .tc r) = m ((c.tc : Thread nD τ).loc r) :=
  (B7_of m c r h6).trans ((B6_of m c r h5).trans ((B5_of m c r h4).trans ((B4_of m c r h3).trans ((B3_of m c r h2).trans ((B2_of m c r h1).trans (B1_of m c r h0))))))
theorem v19_9 : B9 m c (Proc.devRef .tc main_v19_0) = (L2 .f32 (fun r c => rmsDx x (dh W D) w r c + E r c) : FVec Ideal S8192x2048 .f32)
    ∧ B9 m c (Proc.devRef .tc main_v19_1) = (L2 .f32 (fun _ c => rmsDw x (dh W D) 8192 c) : FVec Ideal S1x2048 .f32) := by
  have a0 : B8 m c (Proc.devRef .tc main_arg0) = (L2 .f32 x : FVec Ideal S8192x2048 .f32) :=
    (B8_of m c main_arg0 (by decide)).trans ((arg_8 m c h main_arg0 (by decide) (by decide) (by decide) (by decide) (by decide) (by decide) (by decide)).trans h.h0)
  have a4 : B8 m c (Proc.devRef .tc main_arg4) = (L2 .f32 E : FVec Ideal S8192x2048 .f32) :=
    (B8_of m c main_arg4 (by decide)).trans ((arg_8 m c h main_arg4 (by decide) (by decide) (by decide) (by decide) (by decide) (by decide) (by decide)).trans h.h4)
  have a1 : B8 m c (Proc.devRef .tc main_v18) = (L2 .f32 (fun _ c => w c) : FVec Ideal S1x2048 .f32) :=
    host4_v18 _ ((arg_8 m c h main_arg1 (by decide) (by decide) (by decide) (by decide) (by decide) (by decide) (by decide)).trans h.h1)
  have a2 : B8 m c (Proc.devRef .tc main_v15) = (L2 .f32 (dh W D) : FVec Ideal S8192x2048 .f32) :=
    (B8_of m c main_v15 (by decide)).trans ((B7_of m c main_v15 (by decide)).trans ((B6_of m c main_v15 (by decide)).trans (v15_5 m c h)))
  exact ⟨(Region.exitW_arr (dat4 (B8 m)) (B8 m) launch4.to₀.sharedIn (fun _ _ => rfl) c 4).trans (arr4_4 (B8 m) c a0 a1 a2 a4), (Region.exitW_arr (dat4 (B8 m)) (B8 m) launch4.to₀.sharedIn (fun _ _ => rfl) c 5).trans (arr4_5 (B8 m) c a0 a2)⟩

/-- The projection of the normalised rows. -/
theorem end_proj : B10 m c (Proc.devRef .tc main_v24) = (L2 .f32 (fun r c => ∑ j ∈ Finset.range 2048, rms x w r j * W j c) : FVec Ideal S8192x16400 .f32) :=
  (host5_v24 _ ((B9_of m c main_v8 (by decide)).trans ((B8_of m c main_v8 (by decide)).trans ((B7_of m c main_v8 (by decide)).trans ((B6_of m c main_v8 (by decide)).trans
    ((B5_of m c main_v8 (by decide)).trans ((B4_of m c main_v8 (by decide)).trans (v8_3 m c h)))))))).trans
    (L2_congr fun r c _ hc => Finset.sum_congr rfl fun j _ => by rw [pad_moved (W j) c hc])
/-- The gradient of the rows. -/
theorem end_dx : B10 m c (Proc.devRef .tc main_v19_0) = (L2 .f32 (fun r c => rmsDx x (dh W D) w r c + E r c) : FVec Ideal S8192x2048 .f32) :=
  (B10_of m c main_v19_0 (by decide)).trans (v19_9 m c h).1
/-- The gradient of the scale. -/
theorem end_dn : B10 m c (Proc.devRef .tc main_v20) = (L1 .f32 (fun c => rmsDw x (dh W D) 8192 c) : FVec Ideal S2048 .f32) :=
  host5_v20 _ (v19_9 m c h).2
/-- The gradient of the projection's weights. -/
theorem end_dw : B10 m c (Proc.devRef .tc main_v29) = (L2 .f32 (fun r c => ∑ j ∈ Finset.range 8192, rms x w j r * D j c) : FVec Ideal S2048x16400 .f32) :=
  (host5_v29 _ ((B9_of m c main_v17 (by decide)).trans ((B8_of m c main_v17 (by decide)).trans (v17_7 m c h)))).trans
    (L2_congr fun r c _ hc => Finset.sum_congr rfl fun j _ => by rw [pad_moved (D j) c hc])

end Results

end Cert.Kernel3Ideal.Calls

end
-- ==== Proof.Ref3.lean ====
/- What the reference of the input projection computes. -/
module

public import proofs.«01_k».proof.Proof.WideNorm
public import proofs.«01_k».proof.Proof.Gen.Reference3Ideal.Run

@[expose] public section

set_option maxRecDepth 16384

noncomputable section

namespace Cert.Reference3Ideal.Value

open Cert.Reference3Ideal Cert.Reference3Ideal.Facts₀ Cert.Reference3Ideal.Facts Cert.Wide
open Idealize.ShloMosaic Idealize.ShloMosaic.TcCoe Idealize.SL.Sem
open scoped BigOperators

variable [Cert.Reference3Ideal.Facts₀] [Cert.Reference3Ideal.Facts]
variable {x W D E : ℕ → ℕ → EReal} {w : ℕ → EReal}

theorem dot_h (f g : ℕ → ℕ → EReal) : Host.dotGeneral (φ₁ := .f32) (φ₂ := .f32) dot_S8192x2048_S2048x16400_S8192x16400_1_0_0_1_n_n none (L2 .f32 f) (L2 .f32 g)
    = (L2 .f32 (fun r c => ∑ k ∈ Finset.range 2048, f r k * g k c) : FVec Ideal S8192x16400 .f32) := hdot_nn f g _
theorem dot_dh (f g : ℕ → ℕ → EReal) : Host.dotGeneral (φ₁ := .f32) (φ₂ := .f32) dot_S8192x16400_S2048x16400_S8192x2048_1_1_0_0_n_n none (L2 .f32 f) (L2 .f32 g)
    = (L2 .f32 (fun r c => ∑ k ∈ Finset.range 16400, f r k * g c k) : FVec Ideal S8192x2048 .f32) := hdot_nt f g _
theorem dot_dw (f g : ℕ → ℕ → EReal) : Host.dotGeneral (φ₁ := .f32) (φ₂ := .f32) dot_S8192x16400_S8192x2048_S16400x2048_0_0_1_1_n_n none (L2 .f32 f) (L2 .f32 g)
    = (L2 .f32 (fun r c => ∑ k ∈ Finset.range 8192, f k r * g k c) : FVec Ideal S16400x2048 .f32) := hdot_tn f g _

/-- The gradient of the normalised rows. -/
def dh (W D : ℕ → ℕ → EReal) (r c : ℕ) : EReal := ∑ j ∈ Finset.range 16400, D r j * W c j

variable (m : (ℓ : Loc nD τ sig) → Buf (Elt Ideal) ℓ) (ρ : Dev nD → PrngReg)

/-- Every execution ends with the projection of the normalised rows, the gradients of the rows, of the scale and of the
    projection's weights, and the arguments unchanged. -/
theorem run_wide (x : Dev nD → ℕ → ℕ → EReal) (w : Dev nD → ℕ → EReal) (W D E : Dev nD → ℕ → ℕ → EReal)
    (h0 : ∀ c : Dev nD, m ((c.tc : Thread nD τ).loc main_arg0) = (L2 .f32 (x c) : FVec Ideal S8192x2048 .f32))
    (h1 : ∀ c : Dev nD, m ((c.tc : Thread nD τ).loc main_arg1) = (L1 .f32 (w c) : FVec Ideal S2048 .f32))
    (h2 : ∀ c : Dev nD, m ((c.tc : Thread nD τ).loc main_arg2) = (L2 .f32 (W c) : FVec Ideal S2048x16400 .f32))
    (h3 : ∀ c : Dev nD, m ((c.tc : Thread nD τ).loc main_arg3) = (L2 .f32 (D c) : FVec Ideal S8192x16400 .f32))
    (h4 : ∀ c : Dev nD, m ((c.tc : Thread nD τ).loc main_arg4) = (L2 .f32 (E c) : FVec Ideal S8192x2048 .f32)) :
    θ_run defs (onTc (τ := τ) (main (F := Ideal))) ⟨m, fun _ => 0, ρ⟩ fun r => ∀ c : Dev nD,
      r.2.mem ((c.tc : Thread nD τ).loc main_v16) = (L2 .f32 (fun i j => ∑ k ∈ Finset.range 2048, rms (x c) (w c) i k * W c k j) : FVec Ideal S8192x16400 .f32)
      ∧ r.2.mem ((c.tc : Thread nD τ).loc main_v40) = (L2 .f32 (fun i j => rmsDx (x c) (dh (W c) (D c)) (w c) i j + E c i j) : FVec Ideal S8192x2048 .f32)
      ∧ r.2.mem ((c.tc : Thread nD τ).loc main_v25) = (L1 .f32 (fun j => rmsDw (x c) (dh (W c) (D c)) 8192 j) : FVec Ideal S2048 .f32)
      ∧ r.2.mem ((c.tc : Thread nD τ).loc main_v18) = (L2 .f32 (fun i j => ∑ k ∈ Finset.range 8192, rms (x c) (w c) k i * D c k j) : FVec Ideal S2048x16400 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨e0, e1, e2, e3, e4⟩ := h c
  refine ⟨e0.trans ?_, e1.trans ?_, e2.trans ?_, e3.trans ?_, e4⟩
  · rw [h0 c, h1 c, h2 c, ms_host, rs_host, unit_host, scale_host, rms_host, dot_h]
  · unfold res_main_v40
    rw [h0 c, h1 c, h2 c, h3 c, h4 c, ms_host, rs_host, scale_host, dot_dh, mulf_L2 (fun i j => ∑ k ∈ Finset.range 16400, D c i k * W c j k) (fun _ j => w c j), share_host]
    exact rmsDx_host _ _
  · rw [h0 c, h2 c, h3 c, ms_host, rs_host, unit_host, dot_dh, rmsDw_host]
    rfl
  · rw [h0 c, h1 c, h3 c, ms_host, rs_host, unit_host, scale_host, rms_host, dot_dw, transpose_L2]
    exact L2_congr fun i j _ _ => Finset.sum_congr rfl fun _ _ => mul_comm _ _

end Cert.Reference3Ideal.Value

end
-- ==== Proof.Claim3.lean ====
/- The frames of the input projection and of its reference, and the equality of their results. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.InValue
public import proofs.«01_k».proof.Proof.Ref3
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Wide

/-- The reference's run leaves its arguments and every counter as they were. -/
theorem reference3_frame : Cert.quiescent_Reference3Ideal (hReference3Ideal := Cert.Reference3Ideal.Gen.facts) :=
  fun m ρ _ => (θ_run _ _ _).mono (fun r h => ⟨fun c => (h c).2.2.2.2, sem_eq_zero_of_no_sems rfl r.2⟩) (Cert.Reference3Ideal.Value.run m ρ)

/-- From any arguments, infinite entries among them, the input projection ends with the reference's results. -/
theorem values3 : Cert.algebraic_Kernel3Ideal_Reference3Ideal (hKernel3Ideal := Cert.Kernel3Ideal.Gen.facts)
    (hReference3Ideal := Cert.Reference3Ideal.Gen.facts) := by
  intro m ρ m' ρ' _ hag
  have ha : ∀ c : Dev Cert.Kernel3Ideal.nD, Cert.Kernel3Ideal.Calls.Args m c (entry2 (m ((c.tc : Thread Cert.Kernel3Ideal.nD Cert.Kernel3Ideal.τ).loc Cert.Kernel3Ideal.main_arg0))) (entry1 (m ((c.tc : Thread Cert.Kernel3Ideal.nD Cert.Kernel3Ideal.τ).loc Cert.Kernel3Ideal.main_arg1))) (entry2 (m ((c.tc : Thread Cert.Kernel3Ideal.nD Cert.Kernel3Ideal.τ).loc Cert.Kernel3Ideal.main_arg2))) (entry2 (m ((c.tc : Thread Cert.Kernel3Ideal.nD Cert.Kernel3Ideal.τ).loc Cert.Kernel3Ideal.main_arg3))) (entry2 (m ((c.tc : Thread Cert.Kernel3Ideal.nD Cert.Kernel3Ideal.τ).loc Cert.Kernel3Ideal.main_arg4))) := fun c =>
    ⟨entry2_L2 _, entry1_L1 _, entry2_L2 _, entry2_L2 _, entry2_L2 _⟩
  refine ⟨fun _ => _, fun _ => _, fun _ => _, fun _ => _, ?_,
    Cert.Reference3Ideal.Value.run_wide m' ρ' (fun c => entry2 (m ((c.tc : Thread Cert.Kernel3Ideal.nD Cert.Kernel3Ideal.τ).loc Cert.Kernel3Ideal.main_arg0))) (fun c => entry1 (m ((c.tc : Thread Cert.Kernel3Ideal.nD Cert.Kernel3Ideal.τ).loc Cert.Kernel3Ideal.main_arg1))) (fun c => entry2 (m ((c.tc : Thread Cert.Kernel3Ideal.nD Cert.Kernel3Ideal.τ).loc Cert.Kernel3Ideal.main_arg2))) (fun c => entry2 (m ((c.tc : Thread Cert.Kernel3Ideal.nD Cert.Kernel3Ideal.τ).loc Cert.Kernel3Ideal.main_arg3))) (fun c => entry2 (m ((c.tc : Thread Cert.Kernel3Ideal.nD Cert.Kernel3Ideal.τ).loc Cert.Kernel3Ideal.main_arg4)))
      (fun c => (hag c).1.trans (ha c).h0) (fun c => (hag c).2.1.trans (ha c).h1) (fun c => (hag c).2.2.1.trans (ha c).h2) (fun c => (hag c).2.2.2.1.trans (ha c).h3) (fun c => (hag c).2.2.2.2.trans (ha c).h4)⟩
  exact (θ_run _ _ _).mono (fun r h c => ⟨(h.1 c Cert.Kernel3Ideal.main_v24 (by decide)).trans (Cert.Kernel3Ideal.Calls.end_proj m c (ha c)), (h.1 c Cert.Kernel3Ideal.main_v19_0 (by decide)).trans (Cert.Kernel3Ideal.Calls.end_dx m c (ha c)), (h.1 c Cert.Kernel3Ideal.main_v20 (by decide)).trans (Cert.Kernel3Ideal.Calls.end_dn m c (ha c)), (h.1 c Cert.Kernel3Ideal.main_v29 (by decide)).trans (Cert.Kernel3Ideal.Calls.end_dw m c (ha c)),
    (h.1 c Cert.Kernel3Ideal.main_arg0 (by decide)).trans (Cert.Kernel3Ideal.Calls.end_arg m c _ (by decide)), (h.1 c Cert.Kernel3Ideal.main_arg1 (by decide)).trans (Cert.Kernel3Ideal.Calls.end_arg m c _ (by decide)), (h.1 c Cert.Kernel3Ideal.main_arg2 (by decide)).trans (Cert.Kernel3Ideal.Calls.end_arg m c _ (by decide)), (h.1 c Cert.Kernel3Ideal.main_arg3 (by decide)).trans (Cert.Kernel3Ideal.Calls.end_arg m c _ (by decide)), (h.1 c Cert.Kernel3Ideal.main_arg4 (by decide)).trans (Cert.Kernel3Ideal.Calls.end_arg m c _ (by decide))⟩) (Cert.Kernel3Ideal.Calls.final m ρ)

end Cert.Proof

end
-- ==== Proof.ValOut.lean ====
/- The contents of every output of the calls of the output product and of the norm behind it, over arrays of extended reals. -/
module

public import proofs.«01_k».proof.Proof.CallsOut
public import proofs.«01_k».proof.Proof.WideNorm
public import Idealize.ShloMosaic.Lib.Pipeline.ValueKit.Geometry

@[expose] public section

set_option maxRecDepth 16384

noncomputable section

namespace Cert.Kernel4Ideal.Calls

open Cert.Kernel4Ideal Cert.Kernel4Ideal.Gen Cert.Kernel4Ideal.Facts₀ Cert.Kernel4Ideal.Facts Cert.Wide
open Idealize.ShloMosaic Idealize.ShloMosaic.TcCoe Idealize.ShloMosaic.ValueIdx
open Idealize.SL Idealize.SL.RA
open Idealize.ShloMosaic.Pipeline (Dat)
open scoped BigOperators

variable (W : Dev nD → Valuation τ sig (Elt Ideal)) (c : Dev nD)
variable {f g u v : ℕ → ℕ → EReal} {w : ℕ → EReal}

/-! ### Call 0: `mm_out` -/

theorem idx0 (t : Fin cfg0.N) : (win0_0.index t 0 = t.val / 1 / 2 ∧ win0_0.index t 1 = t.val % 1)
    ∧ (win0_1.index t 0 = t.val % 1 ∧ win0_1.index t 1 = t.val / 1 % 2)
    ∧ (win0_2.index t 0 = t.val / 1 / 2 ∧ win0_2.index t 1 = t.val / 1 % 2) := by
  revert t; decide +kernel

theorem blk0_0 (h : W c (Proc.devRef .tc main_v0) = (L2 .bf16 f : FVec Ideal S8192x2048 .bf16)) (t : Fin cfg0.N) :
    (blk0 W c 0 t : FVec Ideal S1024x2048 .bf16) = L2 .bf16 (part 1024 2048 (t.val / 1 / 2) (t.val % 1) f) := by
  funext y
  unfold blk0 Region.blockAt
  rw [View.read_apply]
  show W c (Proc.devRef .tc main_v0) _ = _
  rw [h, ← (idx0 t).1.1, ← (idx0 t).1.2]
  rfl
theorem blk0_1 (h : W c (Proc.devRef .tc main_v1) = (L2 .bf16 f : FVec Ideal S2048x2048 .bf16)) (t : Fin cfg0.N) :
    (blk0 W c 1 t : FVec Ideal S2048x1024 .bf16) = L2 .bf16 (part 2048 1024 (t.val % 1) (t.val / 1 % 2) f) := by
  funext y
  unfold blk0 Region.blockAt
  rw [View.read_apply]
  show W c (Proc.devRef .tc main_v1) _ = _
  rw [h, ← (idx0 t).2.1.1, ← (idx0 t).2.1.2]
  rfl

theorem prod0 : k0_pay1 (L2 .bf16 f : FVec Ideal S1024x2048 .bf16) (L2 .bf16 g : FVec Ideal S2048x1024 .bf16) = L2 .f32 (fun r c => ∑ j ∈ Finset.range 2048, f r j * g j c) := by
  unfold k0_pay1
  rw [shapeCast_L2, shapeCast_L2]
  exact matmul_plain_L2 (M := 1024) (K := 2048) (N := 1024) f g

/-- The product. -/
theorem arr0 (h0 : W c (Proc.devRef .tc main_v0) = (L2 .bf16 f : FVec Ideal S8192x2048 .bf16)) (h1 : W c (Proc.devRef .tc main_v1) = (L2 .bf16 g : FVec Ideal S2048x2048 .bf16)) :
    (dat0 W c).arrAt 2 cfg0.N = (L2 .f32 (fun r c => ∑ j ∈ Finset.range 2048, f r j * g j c) : FVec Ideal S8192x2048 .f32) := by
  refine (dat0 W c).arrAt_eq_of_covers 2 (L2 .f32 (fun r c => ∑ j ∈ Finset.range 2048, f r j * g j c) : FVec Ideal S8192x2048 .f32) (by decide +kernel) fun t hf y => ?_
  have e : acc0 W c (t.val + 1) = L2 .f32 (part 1024 1024 (t.val / 1 / 2) (t.val / 1 % 2) (fun r c => ∑ j ∈ Finset.range 2048, f r j * g j c)) := by
    unfold acc0
    refine accum_product (N := grid0.N) (by decide) 1 2 1024 1024 2048 (by decide) f g _ _ (fun t => ?_) (fun t e => ?_) t (Nat.mod_one _)
    · unfold k0_pay2
      rw [blk0_0 W c h0, blk0_1 W c h1, prod0, shapeCast_L2]
      try rfl
    · unfold k0_pay3
      rw [blk0_0 W c h0, blk0_1 W c h1, prod0]
      conv_lhs => zeta
      rw [addf_L2, shapeCast_L2]
      try rfl
  show ((acc0 W c (t.val + 1)) : FVec Ideal S1024x1024 .f32) y = _
  rw [e]
  show part 1024 1024 (t.val / 1 / 2) (t.val / 1 % 2) _ _ _ = (fun r c => ∑ j ∈ Finset.range 2048, f r j * g j c) (win0_2.index t 0 * 1024 + 1 * (y 0).val) (win0_2.index t 1 * 1024 + 1 * (y 1).val)
  rw [(idx0 t).2.2.1, (idx0 t).2.2.2]
  rfl

/-! ### Call 1: `rms_mix_post` -/

theorem idx1 (t : Fin cfg1.N) : (win1_0.index t 0 = t.val ∧ win1_0.index t 1 = 0)
    ∧ (win1_1.index t 0 = 0 ∧ win1_1.index t 1 = 0)
    ∧ (win1_2.index t 0 = t.val ∧ win1_2.index t 1 = 0)
    ∧ (win1_3.index t 0 = t.val ∧ win1_3.index t 1 = 0) := by
  revert t; decide +kernel

theorem blk1_0 (h : W c (Proc.devRef .tc main_v2) = (L2 .f32 f : FVec Ideal S8192x2048 .f32)) (t : Fin cfg1.N) :
    (blk1 W c 0 t : FVec Ideal S256x2048 .f32) = L2 .f32 (part 256 2048 t.val 0 f) := by
  funext y
  unfold blk1 Region.blockAt
  rw [View.read_apply]
  show W c (Proc.devRef .tc main_v2) _ = _
  rw [h]
  show f (win1_0.index t 0 * 256 + 1 * (y 0).val) (win1_0.index t 1 * 2048 + 1 * (y 1).val) = _
  rw [(idx1 t).1.1, (idx1 t).1.2]
  rfl
theorem blk1_1 (h : W c (Proc.devRef .tc main_v3) = (L2 .f32 f : FVec Ideal S1x2048 .f32)) (t : Fin cfg1.N) :
    (blk1 W c 1 t : FVec Ideal S1x2048 .f32) = L2 .f32 (part 1 2048 0 0 f) := by
  funext y
  unfold blk1 Region.blockAt
  rw [View.read_apply]
  show W c (Proc.devRef .tc main_v3) _ = _
  rw [h]
  show f (win1_1.index t 0 * 1 + 1 * (y 0).val) (win1_1.index t 1 * 2048 + 1 * (y 1).val) = _
  rw [(idx1 t).2.1.1, (idx1 t).2.1.2]
  rfl
theorem blk1_2 (h : W c (Proc.devRef .tc main_arg0) = (L2 .f32 f : FVec Ideal S8192x2048 .f32)) (t : Fin cfg1.N) :
    (blk1 W c 2 t : FVec Ideal S256x2048 .f32) = L2 .f32 (part 256 2048 t.val 0 f) := by
  funext y
  unfold blk1 Region.blockAt
  rw [View.read_apply]
  show W c (Proc.devRef .tc main_arg0) _ = _
  rw [h]
  show f (win1_2.index t 0 * 256 + 1 * (y 0).val) (win1_2.index t 1 * 2048 + 1 * (y 1).val) = _
  rw [(idx1 t).2.2.1.1, (idx1 t).2.2.1.2]
  rfl

theorem norm1 : k1_pay1 (L2 .f32 f : FVec Ideal S256x2048 .f32) (L2 .f32 (fun _ c => w c) : FVec Ideal S1x2048 .f32) (L2 .f32 u : FVec Ideal S256x2048 .f32) = L2 .f32 (fun r c => rms f w r c + u r c) := by
  unfold k1_pay1
  rw [shapeCast_L2, shapeCast_L2]
  exact (congrArg (fun z => addf z (L2 .f32 u)) (norm_tile _ _ _ _ _ _)).trans (addf_L2 _ _)

/-- The normalised rows, added to the residual. -/
theorem arr1 (h0 : W c (Proc.devRef .tc main_v2) = (L2 .f32 f : FVec Ideal S8192x2048 .f32)) (h1 : W c (Proc.devRef .tc main_v3) = (L2 .f32 (fun _ c => w c) : FVec Ideal S1x2048 .f32))
    (h2 : W c (Proc.devRef .tc main_arg0) = (L2 .f32 u : FVec Ideal S8192x2048 .f32)) : (dat1 W c).arrAt 3 cfg1.N = (L2 .f32 (fun r c => rms f w r c + u r c) : FVec Ideal S8192x2048 .f32) := by
  refine (dat1 W c).arrAt_eq_of_covers 3 (L2 .f32 (fun r c => rms f w r c + u r c) : FVec Ideal S8192x2048 .f32) (by decide +kernel) fun t hf y => ?_
  show (k1_pay1 (blk1 W c 0 t) (blk1 W c 1 t) (blk1 W c 2 t) : FVec Ideal S256x2048 .f32) y = _
  rw [blk1_0 W c h0, blk1_1 W c h1, blk1_2 W c h2]
  rw [show (L2 .f32 (part 1 2048 0 0 fun _ c => w c) : FVec Ideal S1x2048 .f32) = L2 .f32 (fun _ c => w c) from L2_congr fun r c _ _ => by rw [part_row]]
  rw [norm1, rms_part, ← (idx1 t).2.2.2.1]
  show part 256 2048 _ 0 _ _ _ + part 256 2048 _ 0 _ _ _ = rms f w (win1_3.index t 0 * 256 + 1 * (y 0).val) (win1_3.index t 1 * 2048 + 1 * (y 1).val) + u (win1_3.index t 0 * 256 + 1 * (y 0).val) (win1_3.index t 1 * 2048 + 1 * (y 1).val)
  rw [(idx1 t).2.2.2.2]
  rfl

/-! ### Call 2: `rms_mix_post_bwd` -/

theorem idx2 (t : Fin cfg2.N) : (win2_0.index t 0 = t.val ∧ win2_0.index t 1 = 0)
    ∧ (win2_1.index t 0 = 0 ∧ win2_1.index t 1 = 0)
    ∧ (win2_2.index t 0 = t.val ∧ win2_2.index t 1 = 0)
    ∧ (win2_3.index t 0 = t.val ∧ win2_3.index t 1 = 0)
    ∧ (win2_4.index t 0 = 0 ∧ win2_4.index t 1 = 0) := by
  revert t; decide +kernel

theorem blk2_0 (h : W c (Proc.devRef .tc main_v2) = (L2 .f32 f : FVec Ideal S8192x2048 .f32)) (t : Fin cfg2.N) :
    (blk2 W c 0 t : FVec Ideal S256x2048 .f32) = L2 .f32 (part 256 2048 t.val 0 f) := by
  funext y
  unfold blk2 Region.blockAt
  rw [View.read_apply]
  show W c (Proc.devRef .tc main_v2) _ = _
  rw [h]
  show f (win2_0.index t 0 * 256 + 1 * (y 0).val) (win2_0.index t 1 * 2048 + 1 * (y 1).val) = _
  rw [(idx2 t).1.1, (idx2 t).1.2]
  rfl
theorem blk2_1 (h : W c (Proc.devRef .tc main_v5) = (L2 .f32 f : FVec Ideal S1x2048 .f32)) (t : Fin cfg2.N) :
    (blk2 W c 1 t : FVec Ideal S1x2048 .f32) = L2 .f32 (part 1 2048 0 0 f) := by
  funext y
  unfold blk2 Region.blockAt
  rw [View.read_apply]
  show W c (Proc.devRef .tc main_v5) _ = _
  rw [h]
  show f (win2_1.index t 0 * 1 + 1 * (y 0).val) (win2_1.index t 1 * 2048 + 1 * (y 1).val) = _
  rw [(idx2 t).2.1.1, (idx2 t).2.1.2]
  rfl
theorem blk2_2 (h : W c (Proc.devRef .tc main_arg4) = (L2 .f32 f : FVec Ideal S8192x2048 .f32)) (t : Fin cfg2.N) :
    (blk2 W c 2 t : FVec Ideal S256x2048 .f32) = L2 .f32 (part 256 2048 t.val 0 f) := by
  funext y
  unfold blk2 Region.blockAt
  rw [View.read_apply]
  show W c (Proc.devRef .tc main_arg4) _ = _
  rw [h]
  show f (win2_2.index t 0 * 256 + 1 * (y 0).val) (win2_2.index t 1 * 2048 + 1 * (y 1).val) = _
  rw [(idx2 t).2.2.1.1, (idx2 t).2.2.1.2]
  rfl

theorem root2 : k2_pay2 (L2 .f32 f : FVec Ideal S256x2048 .f32) = L2 .f32 (fun r _ => rs f r) := by
  unfold k2_pay2 k2_pay1
  rw [shapeCast_L2]
  exact root_tile _ _ _ _
theorem unit2 : k2_pay3 (L2 .f32 f : FVec Ideal S256x2048 .f32) = L2 .f32 (fun r c => f r c * rs f r) := by
  unfold k2_pay3 k2_pay1
  rw [shapeCast_L2, root2, spread_col]
  exact mulf_L2 _ _
theorem grad2 : k2_pay5 (L2 .f32 f : FVec Ideal S256x2048 .f32) (L2 .f32 (fun _ c => w c) : FVec Ideal S1x2048 .f32) (L2 .f32 u : FVec Ideal S256x2048 .f32) = L2 .bf16 (fun r c => rmsDx f u w r c) := by
  unfold k2_pay5
  rw [shapeCast_L2, root2, unit2]
  exact (congrArg (fun z => truncf .bf16 z Gen.bitsLt_bf16_f32) (grad_tile _ _ _ _ _ _)).trans rfl
theorem scale2 : k2_pay4 (L2 .f32 f : FVec Ideal S256x2048 .f32) (L2 .f32 u : FVec Ideal S256x2048 .f32) = L2 .f32 (fun _ c => rmsDw f u 256 c) := by
  unfold k2_pay4
  rw [unit2]
  exact scale_tile _ _ _ _

/-- The gradient of the rows. -/
theorem arr2_3 (h0 : W c (Proc.devRef .tc main_v2) = (L2 .f32 f : FVec Ideal S8192x2048 .f32)) (h1 : W c (Proc.devRef .tc main_v5) = (L2 .f32 (fun _ c => w c) : FVec Ideal S1x2048 .f32))
    (h2 : W c (Proc.devRef .tc main_arg4) = (L2 .f32 u : FVec Ideal S8192x2048 .f32)) :
    (dat2 W c).arrAt 3 cfg2.N = (L2 .bf16 (fun r c => rmsDx f u w r c) : FVec Ideal S8192x2048 .bf16) := by
  refine (dat2 W c).arrAt_eq_of_covers 3 (L2 .bf16 (fun r c => rmsDx f u w r c) : FVec Ideal S8192x2048 .bf16) (by decide +kernel) fun t hf y => ?_
  show (k2_pay5 (blk2 W c 0 t) (blk2 W c 1 t) (blk2 W c 2 t) : FVec Ideal S256x2048 .bf16) y = _
  rw [blk2_0 W c h0, blk2_1 W c h1, blk2_2 W c h2]
  rw [show (L2 .f32 (part 1 2048 0 0 fun _ c => w c) : FVec Ideal S1x2048 .f32) = L2 .f32 (fun _ c => w c) from L2_congr fun r c _ _ => by rw [part_row]]
  rw [grad2, rmsDx_part, ← (idx2 t).2.2.2.1.1]
  show part 256 2048 _ 0 _ _ _ = rmsDx f u w (win2_3.index t 0 * 256 + 1 * (y 0).val) (win2_3.index t 1 * 2048 + 1 * (y 1).val)
  rw [(idx2 t).2.2.2.1.2]
  rfl

/-- The gradient of the scale. -/
theorem arr2_4 (h0 : W c (Proc.devRef .tc main_v2) = (L2 .f32 f : FVec Ideal S8192x2048 .f32)) (h2 : W c (Proc.devRef .tc main_arg4) = (L2 .f32 u : FVec Ideal S8192x2048 .f32)) :
    (dat2 W c).arrAt 4 cfg2.N = (L2 .f32 (fun _ c => rmsDw f u 8192 c) : FVec Ideal S1x2048 .f32) := by
  refine (dat2 W c).arrAt_eq_of_covers 4 (L2 .f32 (fun _ c => rmsDw f u 8192 c) : FVec Ideal S1x2048 .f32) (by decide +kernel) fun t hf y => ?_
  have e : acc2 W c (t.val + 1) = L2 .f32 (fun _ c => rmsDw f u 8192 c) := by
    unfold acc2
    have ht := (flush2_4 t).mp hf
    refine (accum_L2 (N := grid2.N) (by decide) 32 _ _ (fun t _ c => rmsDw (part 256 2048 t 0 f) (part 256 2048 t 0 u) 256 c) (fun t => ?_) (fun t e => ?_) t.val t.isLt).trans ?_
    · rw [blk2_0 W c h0, blk2_2 W c h2, scale2]
    · unfold k2_pay6
      rw [blk2_0 W c h0, blk2_2 W c h2, scale2, shapeCast_L2]
      exact addf_L2 _ _
    · have hN : t.val < 32 := t.isLt
      rw [show t.val = 31 by omega]
      congr 1; funext r c
      simp only [show 31 % 32 + 1 = 32 from rfl, show 31 - 31 % 32 = 0 from rfl, Nat.zero_add]
      exact rmsDw_blocks f u 256 32 c
  show (acc2 W c (t.val + 1) : FVec Ideal S1x2048 .f32) y = _
  rw [e]
  show rmsDw f u 8192 (y 1).val = rmsDw f u 8192 (win2_4.index t 1 * 2048 + 1 * (y 1).val)
  rw [(idx2 t).2.2.2.2.2, Nat.zero_mul, Nat.zero_add, Nat.one_mul]

/-! ### Call 3: `mm_out_dx` -/

theorem idx3 (t : Fin cfg3.N) : (win3_0.index t 0 = t.val / 1 / 2 ∧ win3_0.index t 1 = t.val % 1)
    ∧ (win3_1.index t 0 = t.val / 1 % 2 ∧ win3_1.index t 1 = t.val % 1)
    ∧ (win3_2.index t 0 = t.val / 1 / 2 ∧ win3_2.index t 1 = t.val / 1 % 2) := by
  revert t; decide +kernel

theorem blk3_0 (h : W c (Proc.devRef .tc main_v6_0) = (L2 .bf16 f : FVec Ideal S8192x2048 .bf16)) (t : Fin cfg3.N) :
    (blk3 W c 0 t : FVec Ideal S1024x2048 .bf16) = L2 .bf16 (part 1024 2048 (t.val / 1 / 2) (t.val % 1) f) := by
  funext y
  unfold blk3 Region.blockAt
  rw [View.read_apply]
  show W c (Proc.devRef .tc main_v6_0) _ = _
  rw [h, ← (idx3 t).1.1, ← (idx3 t).1.2]
  rfl
theorem blk3_1 (h : W c (Proc.devRef .tc main_v1) = (L2 .bf16 f : FVec Ideal S2048x2048 .bf16)) (t : Fin cfg3.N) :
    (blk3 W c 1 t : FVec Ideal S1024x2048 .bf16) = L2 .bf16 (part 1024 2048 (t.val / 1 % 2) (t.val % 1) f) := by
  funext y
  unfold blk3 Region.blockAt
  rw [View.read_apply]
  show W c (Proc.devRef .tc main_v1) _ = _
  rw [h, ← (idx3 t).2.1.1, ← (idx3 t).2.1.2]
  rfl

theorem prod3 : k3_pay1 (L2 .bf16 f : FVec Ideal S1024x2048 .bf16) (L2 .bf16 g : FVec Ideal S1024x2048 .bf16) = L2 .f32 (fun r c => ∑ j ∈ Finset.range 2048, f r j * g c j) := by
  unfold k3_pay1
  rw [shapeCast_L2, shapeCast_L2]
  exact matmul_transposedRhs_L2 (M := 1024) (K := 2048) (N := 1024) f g

/-- The gradient of the rows. -/
theorem arr3 (h0 : W c (Proc.devRef .tc main_v6_0) = (L2 .bf16 f : FVec Ideal S8192x2048 .bf16)) (h1 : W c (Proc.devRef .tc main_v1) = (L2 .bf16 g : FVec Ideal S2048x2048 .bf16)) :
    (dat3 W c).arrAt 2 cfg3.N = (L2 .f32 (fun r c => ∑ j ∈ Finset.range 2048, f r j * g c j) : FVec Ideal S8192x2048 .f32) := by
  refine (dat3 W c).arrAt_eq_of_covers 2 (L2 .f32 (fun r c => ∑ j ∈ Finset.range 2048, f r j * g c j) : FVec Ideal S8192x2048 .f32) (by decide +kernel) fun t hf y => ?_
  have e : acc3 W c (t.val + 1) = L2 .f32 (part 1024 1024 (t.val / 1 / 2) (t.val / 1 % 2) (fun r c => ∑ j ∈ Finset.range 2048, f r j * g c j)) := by
    unfold acc3
    refine accum_product (N := grid3.N) (by decide) 1 2 1024 1024 2048 (by decide) f (fun k c => g c k) _ _ (fun t => ?_) (fun t e => ?_) t (Nat.mod_one _)
    · unfold k3_pay2
      rw [blk3_0 W c h0, blk3_1 W c h1, prod3, shapeCast_L2]
      try rfl
    · unfold k3_pay3
      rw [blk3_0 W c h0, blk3_1 W c h1, prod3]
      conv_lhs => zeta
      rw [addf_L2, shapeCast_L2]
      try rfl
  show ((acc3 W c (t.val + 1)) : FVec Ideal S1024x1024 .f32) y = _
  rw [e]
  show part 1024 1024 (t.val / 1 / 2) (t.val / 1 % 2) _ _ _ = (fun r c => ∑ j ∈ Finset.range 2048, f r j * g c j) (win3_2.index t 0 * 1024 + 1 * (y 0).val) (win3_2.index t 1 * 1024 + 1 * (y 1).val)
  rw [(idx3 t).2.2.1, (idx3 t).2.2.2]
  rfl

/-! ### Call 4: `mm_out_dw` -/

theorem idx4 (t : Fin cfg4.N) : (win4_0.index t 0 = t.val / 4 / 2 ∧ win4_0.index t 1 = t.val % 4)
    ∧ (win4_1.index t 0 = t.val % 4 ∧ win4_1.index t 1 = t.val / 4 % 2)
    ∧ (win4_2.index t 0 = t.val / 4 / 2 ∧ win4_2.index t 1 = t.val / 4 % 2) := by
  revert t; decide +kernel

theorem blk4_0 (h : W c (Proc.devRef .tc main_v9) = (L2 .bf16 f : FVec Ideal S2048x8192 .bf16)) (t : Fin cfg4.N) :
    (blk4 W c 0 t : FVec Ideal S1024x2048 .bf16) = L2 .bf16 (part 1024 2048 (t.val / 4 / 2) (t.val % 4) f) := by
  funext y
  unfold blk4 Region.blockAt
  rw [View.read_apply]
  show W c (Proc.devRef .tc main_v9) _ = _
  rw [h, ← (idx4 t).1.1, ← (idx4 t).1.2]
  rfl
theorem blk4_1 (h : W c (Proc.devRef .tc main_v6_0) = (L2 .bf16 f : FVec Ideal S8192x2048 .bf16)) (t : Fin cfg4.N) :
    (blk4 W c 1 t : FVec Ideal S2048x1024 .bf16) = L2 .bf16 (part 2048 1024 (t.val % 4) (t.val / 4 % 2) f) := by
  funext y
  unfold blk4 Region.blockAt
  rw [View.read_apply]
  show W c (Proc.devRef .tc main_v6_0) _ = _
  rw [h, ← (idx4 t).2.1.1, ← (idx4 t).2.1.2]
  rfl

theorem prod4 : k4_pay1 (L2 .bf16 f : FVec Ideal S1024x2048 .bf16) (L2 .bf16 g : FVec Ideal S2048x1024 .bf16) = L2 .f32 (fun r c => ∑ j ∈ Finset.range 2048, f r j * g j c) := by
  unfold k4_pay1
  rw [shapeCast_L2, shapeCast_L2]
  exact matmul_plain_L2 (M := 1024) (K := 2048) (N := 1024) f g

/-- The gradient of the weights. -/
theorem arr4 (h0 : W c (Proc.devRef .tc main_v9) = (L2 .bf16 f : FVec Ideal S2048x8192 .bf16)) (h1 : W c (Proc.devRef .tc main_v6_0) = (L2 .bf16 g : FVec Ideal S8192x2048 .bf16)) :
    (dat4 W c).arrAt 2 cfg4.N = (L2 .bf16 (fun r c => ∑ j ∈ Finset.range 8192, f r j * g j c) : FVec Ideal S2048x2048 .bf16) := by
  refine (dat4 W c).arrAt_eq_of_covers 2 (L2 .bf16 (fun r c => ∑ j ∈ Finset.range 8192, f r j * g j c) : FVec Ideal S2048x2048 .bf16) (by decide +kernel) fun t hf y => ?_
  have e : acc4 W c (t.val + 1) = L2 .f32 (part 1024 1024 (t.val / 4 / 2) (t.val / 4 % 2) (fun r c => ∑ j ∈ Finset.range 8192, f r j * g j c)) := by
    unfold acc4
    refine accum_product (N := grid4.N) (by decide) 4 2 1024 1024 2048 (by decide) f g _ _ (fun t => ?_) (fun t e => ?_) t ((flush4_2 t).mp hf)
    · unfold k4_pay2
      rw [blk4_0 W c h0, blk4_1 W c h1, prod4, shapeCast_L2]
      try rfl
    · unfold k4_pay3
      rw [blk4_0 W c h0, blk4_1 W c h1, prod4]
      conv_lhs => zeta
      rw [addf_L2, shapeCast_L2]
      try rfl
  show ((k4_pay4 (acc4 W c (t.val + 1))) : FVec Ideal S1024x1024 .bf16) y = _
  unfold k4_pay4
  rw [e]
  show part 1024 1024 (t.val / 4 / 2) (t.val / 4 % 2) (fun r c => ∑ j ∈ Finset.range 8192, f r j * g j c) (y 0).val (y 1).val = (fun r c => ∑ j ∈ Finset.range 8192, f r j * g j c) (win4_2.index t 0 * 1024 + 1 * (y 0).val) (win4_2.index t 1 * 1024 + 1 * (y 1).val)
  rw [(idx4 t).2.2.1, (idx4 t).2.2.2]
  rfl

end Cert.Kernel4Ideal.Calls

end
-- ==== Proof.OutValue.lean ====
/- What the program of the output product and of the norm behind it leaves in its results. -/
module

public import proofs.«01_k».proof.Proof.RunOut
public import proofs.«01_k».proof.Proof.ValOut

@[expose] public section

set_option maxRecDepth 16384

noncomputable section

namespace Cert.Kernel4Ideal.Calls

open Cert.Kernel4Ideal Cert.Kernel4Ideal.Gen Cert.Wide
open Idealize.ShloMosaic Idealize.ShloMosaic.TcCoe Idealize.ShloMosaic.Tactic Idealize.ShloMosaic.StableHlo
open scoped BigOperators

variable (m : (ℓ : Loc nD τ sig) → Buf (Elt Ideal) ℓ) (c : Dev nD) {x y W D : ℕ → ℕ → EReal} {w : ℕ → EReal}

/-- The product. -/
def prod (y W : ℕ → ℕ → EReal) (r c : ℕ) : EReal := ∑ j ∈ Finset.range 2048, y r j * W j c

section Host
variable (V : Valuation τ sig (Elt Ideal))

theorem host0_v0 (h : V (Proc.devRef .tc main_arg1) = (L2 .f32 y : FVec Ideal S8192x2048 .f32)) :
    StableHlo.after hostOps0 V (Proc.devRef .tc main_v0) = (L2 .bf16 y : FVec Ideal S8192x2048 .bf16) := by
  after_results_simp; rw [h]; rfl
theorem host0_v1 (h : V (Proc.devRef .tc main_arg2) = (L2 .f32 W : FVec Ideal S2048x2048 .f32)) :
    StableHlo.after hostOps0 V (Proc.devRef .tc main_v1) = (L2 .bf16 W : FVec Ideal S2048x2048 .bf16) := by
  after_results_simp; rw [h]; rfl
theorem host1_v3 (h : V (Proc.devRef .tc main_arg3) = (L1 .f32 w : FVec Ideal S2048 .f32)) :
    StableHlo.after hostOps1 V (Proc.devRef .tc main_v3) = (L2 .f32 (fun _ c => w c) : FVec Ideal S1x2048 .f32) := by
  after_results_simp
  rw [h]
  exact cast_row w _
theorem host2_v5 (h : V (Proc.devRef .tc main_arg3) = (L1 .f32 w : FVec Ideal S2048 .f32)) :
    StableHlo.after hostOps2 V (Proc.devRef .tc main_v5) = (L2 .f32 (fun _ c => w c) : FVec Ideal S1x2048 .f32) := by
  after_results_simp
  rw [h]
  exact cast_row w _
theorem host3_v7 (h : V (Proc.devRef .tc main_v6_1) = (L2 .f32 (fun _ c => w c) : FVec Ideal S1x2048 .f32)) :
    StableHlo.after hostOps3 V (Proc.devRef .tc main_v7) = (L1 .f32 w : FVec Ideal S2048 .f32) := by
  after_results_simp
  rw [h]
  exact uncast_row _ _
theorem host4_v9 (h : V (Proc.devRef .tc main_v0) = (L2 .bf16 y : FVec Ideal S8192x2048 .bf16)) :
    StableHlo.after hostOps4 V (Proc.devRef .tc main_v9) = (L2 .bf16 (fun r c => y c r) : FVec Ideal S2048x8192 .bf16) := by
  after_results_simp
  rw [h]
  exact transpose_L2 y _
theorem host5_v11 (h : V (Proc.devRef .tc main_v10) = (L2 .bf16 W : FVec Ideal S2048x2048 .bf16)) :
    StableHlo.after hostOps5 V (Proc.devRef .tc main_v11) = (L2 .f32 W : FVec Ideal S2048x2048 .f32) := by
  after_results_simp
  rw [h]; rfl

end Host

/-- The arguments are the matrices `x`, `y`, `W` and `D` and the row `w`. -/
structure Args (x y W D : ℕ → ℕ → EReal) (w : ℕ → EReal) : Prop where
  h0 : m ((c.tc : Thread nD τ).loc main_arg0) = (L2 .f32 x : FVec Ideal S8192x2048 .f32)
  h1 : m ((c.tc : Thread nD τ).loc main_arg1) = (L2 .f32 y : FVec Ideal S8192x2048 .f32)
  h2 : m ((c.tc : Thread nD τ).loc main_arg2) = (L2 .f32 W : FVec Ideal S2048x2048 .f32)
  h3 : m ((c.tc : Thread nD τ).loc main_arg3) = (L1 .f32 w : FVec Ideal S2048 .f32)
  h4 : m ((c.tc : Thread nD τ).loc main_arg4) = (L2 .f32 D : FVec Ideal S8192x2048 .f32)

variable (h : Args m c x y W D w)
include h

theorem at1_v0 : B1 m c (Proc.devRef .tc main_v0) = (L2 .bf16 y : FVec Ideal S8192x2048 .bf16) := host0_v0 _ h.h1
theorem at1_v1 : B1 m c (Proc.devRef .tc main_v1) = (L2 .bf16 W : FVec Ideal S2048x2048 .bf16) := host0_v1 _ h.h2
theorem at2_v2 : B2 m c (Proc.devRef .tc main_v2) = (L2 .f32 (prod y W) : FVec Ideal S8192x2048 .f32) :=
  (Region.exitW_arr (dat0 (B1 m)) (B1 m) launch0.to₀.sharedIn (fun _ _ => rfl) c 2).trans (arr0 (B1 m) c (at1_v0 m c h) (at1_v1 m c h))
theorem at5_v2 : B5 m c (Proc.devRef .tc main_v2) = (L2 .f32 (prod y W) : FVec Ideal S8192x2048 .f32) :=
  (B5_of m c main_v2 (by decide)).trans <| (B4_of m c main_v2 (by decide)).trans <| (B3_of m c main_v2 (by decide)).trans <| at2_v2 m c h
theorem at6_dmo : B6 m c (Proc.devRef .tc main_v6_0) = (L2 .bf16 (rmsDx (prod y W) D w) : FVec Ideal S8192x2048 .bf16) :=
  (Region.exitW_arr (dat2 (B5 m)) (B5 m) launch2.to₀.sharedIn (fun _ _ => rfl) c 3).trans (arr2_3 (B5 m) c (at5_v2 m c h) (host2_v5 _ <| (B4_of m c main_arg3 (by decide)).trans <| (B3_of m c main_arg3 (by decide)).trans <| (B2_of m c main_arg3 (by decide)).trans <| (B1_of m c main_arg3 (by decide)).trans <| h.h3)
    ((B5_of m c main_arg4 (by decide)).trans <| (B4_of m c main_arg4 (by decide)).trans <| (B3_of m c main_arg4 (by decide)).trans <| (B2_of m c main_arg4 (by decide)).trans <| (B1_of m c main_arg4 (by decide)).trans <| h.h4))

/-- The norm of the product, scaled, added to the residual. -/
theorem end_out : B11 m c (Proc.devRef .tc main_v4) = (L2 .f32 (fun r c => rms (prod y W) w r c + x r c) : FVec Ideal S8192x2048 .f32) :=
  (B11_of m c main_v4 (by decide)).trans <| (B10_of m c main_v4 (by decide)).trans <| (B9_of m c main_v4 (by decide)).trans <| (B8_of m c main_v4 (by decide)).trans <| (B7_of m c main_v4 (by decide)).trans <| (B6_of m c main_v4 (by decide)).trans <| (B5_of m c main_v4 (by decide)).trans <|
    (Region.exitW_arr (dat1 (B3 m)) (B3 m) launch1.to₀.sharedIn (fun _ _ => rfl) c 3).trans (arr1 (B3 m) c ((B3_of m c main_v2 (by decide)).trans <| at2_v2 m c h) (host1_v3 _ <| (B2_of m c main_arg3 (by decide)).trans <| (B1_of m c main_arg3 (by decide)).trans <| h.h3)
      ((B3_of m c main_arg0 (by decide)).trans <| (B2_of m c main_arg0 (by decide)).trans <| (B1_of m c main_arg0 (by decide)).trans <| h.h0))
/-- The gradient of the rows. -/
theorem end_dx : B11 m c (Proc.devRef .tc main_v8) = (L2 .f32 (fun r c => ∑ j ∈ Finset.range 2048, rmsDx (prod y W) D w r j * W c j) : FVec Ideal S8192x2048 .f32) :=
  (B11_of m c main_v8 (by decide)).trans <| (B10_of m c main_v8 (by decide)).trans <| (B9_of m c main_v8 (by decide)).trans <|
    (Region.exitW_arr (dat3 (B7 m)) (B7 m) launch3.to₀.sharedIn (fun _ _ => rfl) c 2).trans (arr3 (B7 m) c ((B7_of m c main_v6_0 (by decide)).trans <| at6_dmo m c h) ((B7_of m c main_v1 (by decide)).trans <| (B6_of m c main_v1 (by decide)).trans <| (B5_of m c main_v1 (by decide)).trans <| (B4_of m c main_v1 (by decide)).trans <| (B3_of m c main_v1 (by decide)).trans <| (B2_of m c main_v1 (by decide)).trans <| at1_v1 m c h))
/-- The gradient of the weights. -/
theorem end_dw : B11 m c (Proc.devRef .tc main_v11) = (L2 .f32 (fun r c => ∑ j ∈ Finset.range 8192, y j r * rmsDx (prod y W) D w j c) : FVec Ideal S2048x2048 .f32) :=
  host5_v11 _ <| (Region.exitW_arr (dat4 (B9 m)) (B9 m) launch4.to₀.sharedIn (fun _ _ => rfl) c 2).trans <| arr4 (B9 m) c (host4_v9 _ <| (B8_of m c main_v0 (by decide)).trans <| (B7_of m c main_v0 (by decide)).trans <| (B6_of m c main_v0 (by decide)).trans <| (B5_of m c main_v0 (by decide)).trans <| (B4_of m c main_v0 (by decide)).trans <| (B3_of m c main_v0 (by decide)).trans <| (B2_of m c main_v0 (by decide)).trans <| at1_v0 m c h)
    ((B9_of m c main_v6_0 (by decide)).trans <| (B8_of m c main_v6_0 (by decide)).trans <| (B7_of m c main_v6_0 (by decide)).trans <| at6_dmo m c h)
/-- The gradient of the scale. -/
theorem end_dn : B11 m c (Proc.devRef .tc main_v7) = (L1 .f32 (fun c => rmsDw (prod y W) D 8192 c) : FVec Ideal S2048 .f32) :=
  (B11_of m c main_v7 (by decide)).trans <| (B10_of m c main_v7 (by decide)).trans <| (B9_of m c main_v7 (by decide)).trans <| (B8_of m c main_v7 (by decide)).trans <| host3_v7 _ <|
    (Region.exitW_arr (dat2 (B5 m)) (B5 m) launch2.to₀.sharedIn (fun _ _ => rfl) c 4).trans (arr2_4 (B5 m) c (at5_v2 m c h) ((B5_of m c main_arg4 (by decide)).trans <| (B4_of m c main_arg4 (by decide)).trans <| (B3_of m c main_arg4 (by decide)).trans <| (B2_of m c main_arg4 (by decide)).trans <| (B1_of m c main_arg4 (by decide)).trans <| h.h4))

end Cert.Kernel4Ideal.Calls

end
-- ==== Proof.Claim4.lean ====
/- What the reference of the output product and of the norm behind it computes, its frame, and the equality of the results. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.OutValue
public import proofs.«01_k».proof.Proof.WideNorm
public import Idealize.ShloMosaic.Lib.Quiescent
public import Idealize.ShloMosaic.Adequacy
public import Idealize.ShloMosaic.Init

@[expose] public section

set_option maxRecDepth 16384

noncomputable section

namespace Cert.Reference4Ideal.Value

open Cert.Reference4Ideal Cert.Reference4Ideal.Facts₀ Cert.Reference4Ideal.Facts Cert.Wide
open Idealize.ShloMosaic Idealize.ShloMosaic.TcCoe Idealize.SL.Sem
open scoped BigOperators

variable [Cert.Reference4Ideal.Facts₀] [Cert.Reference4Ideal.Facts] (f g : ℕ → ℕ → EReal)

theorem dot_out : Host.dotGeneral (φ₁ := .f32) (φ₂ := .f32) dot_S8192x2048_S2048x2048_S8192x2048_1_0_0_1_n_n none (L2 .f32 f) (L2 .f32 g)
    = (L2 .f32 (fun r c => ∑ k ∈ Finset.range 2048, f r k * g k c) : FVec Ideal S8192x2048 .f32) := hdot_nn f g _
theorem dot_dx : Host.dotGeneral (φ₁ := .f32) (φ₂ := .f32) dot_S8192x2048_S2048x2048_S8192x2048_1_1_0_0_n_n none (L2 .f32 f) (L2 .f32 g)
    = (L2 .f32 (fun r c => ∑ k ∈ Finset.range 2048, f r k * g c k) : FVec Ideal S8192x2048 .f32) := hdot_nt f g _
theorem dot_dw : transpose S2048x2048 [1, 0] (Host.dotGeneral (φ₁ := .f32) (φ₂ := .f32) dot_S8192x2048_S8192x2048_S2048x2048_0_0_1_1_n_n none (L2 .f32 f) (L2 .f32 g)) transposes_S2048x2048_S2048x2048_1_0
    = (L2 .f32 (fun r c => ∑ k ∈ Finset.range 8192, g k r * f k c) : FVec Ideal S2048x2048 .f32) := by
  rw [show Host.dotGeneral (φ₁ := .f32) (φ₂ := .f32) dot_S8192x2048_S8192x2048_S2048x2048_0_0_1_1_n_n none (L2 .f32 f) (L2 .f32 g)
    = (L2 .f32 (fun r c => ∑ k ∈ Finset.range 8192, f k r * g k c) : FVec Ideal S2048x2048 .f32) from hdot_tn f g _, transpose_L2]
  exact L2_congr fun i j _ _ => Finset.sum_congr rfl fun _ _ => mul_comm _ _

variable (m : (ℓ : Loc nD τ sig) → Buf (Elt Ideal) ℓ) (ρ : Dev nD → PrngReg)

/-- Every execution ends with the residual plus the norm of the product, the gradients of the rows, of the weights and of the
    scale, and the arguments unchanged. -/
theorem run_wide (x y W : Dev nD → ℕ → ℕ → EReal) (w : Dev nD → ℕ → EReal) (D : Dev nD → ℕ → ℕ → EReal)
    (h0 : ∀ c : Dev nD, m ((c.tc : Thread nD τ).loc main_arg0) = (L2 .f32 (x c) : FVec Ideal S8192x2048 .f32))
    (h1 : ∀ c : Dev nD, m ((c.tc : Thread nD τ).loc main_arg1) = (L2 .f32 (y c) : FVec Ideal S8192x2048 .f32))
    (h2 : ∀ c : Dev nD, m ((c.tc : Thread nD τ).loc main_arg2) = (L2 .f32 (W c) : FVec Ideal S2048x2048 .f32))
    (h3 : ∀ c : Dev nD, m ((c.tc : Thread nD τ).loc main_arg3) = (L1 .f32 (w c) : FVec Ideal S2048 .f32))
    (h4 : ∀ c : Dev nD, m ((c.tc : Thread nD τ).loc main_arg4) = (L2 .f32 (D c) : FVec Ideal S8192x2048 .f32)) :
    θ_run defs (onTc (τ := τ) (main (F := Ideal))) ⟨m, fun _ => 0, ρ⟩ fun r => ∀ c : Dev nD,
      r.2.mem ((c.tc : Thread nD τ).loc main_v17) = (L2 .f32 (fun i j => rms (Kernel4Ideal.Calls.prod (y c) (W c)) (w c) i j + x c i j) : FVec Ideal S8192x2048 .f32)
      ∧ r.2.mem ((c.tc : Thread nD τ).loc main_v40) = (L2 .f32 (fun i j => ∑ k ∈ Finset.range 2048, rmsDx (Kernel4Ideal.Calls.prod (y c) (W c)) (D c) (w c) i k * W c j k) : FVec Ideal S8192x2048 .f32)
      ∧ r.2.mem ((c.tc : Thread nD τ).loc main_v39) = (L2 .f32 (fun i j => ∑ k ∈ Finset.range 8192, y c k i * rmsDx (Kernel4Ideal.Calls.prod (y c) (W c)) (D c) (w c) k j) : FVec Ideal S2048x2048 .f32)
      ∧ r.2.mem ((c.tc : Thread nD τ).loc main_v23) = (L1 .f32 (fun j => rmsDw (Kernel4Ideal.Calls.prod (y c) (W c)) (D c) 8192 j) : FVec Ideal S2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨e0, e1, e2, e3, e4⟩ := h c
  refine ⟨e0.trans ?_, e1.trans ?_, e2.trans ?_, e3.trans ?_, e4⟩
  · rw [h0 c, h1 c, h2 c, h3 c, dot_out, ms_host, rs_host, unit_host, scale_host, rms_host, addf_L2]
    exact L2_congr fun _ _ _ _ => add_comm _ _
  · unfold res_main_v40
    rw [h1 c, h2 c, h3 c, h4 c, dot_out, ms_host, rs_host, scale_host, mulf_L2 (D c) (fun _ j => w c j), share_host, rmsDx_host', dot_dx]
    rfl
  · unfold res_main_v39
    rw [h1 c, h2 c, h3 c, h4 c, dot_out, ms_host, rs_host, scale_host, mulf_L2 (D c) (fun _ j => w c j), share_host, rmsDx_host', dot_dw]
    rfl
  · rw [h1 c, h2 c, h4 c, dot_out, ms_host, rs_host, unit_host, rmsDw_host]
    rfl

end Cert.Reference4Ideal.Value

namespace Cert.Proof

open Idealize.ShloMosaic Idealize.ShloMosaic.TcCoe Idealize.SL.Sem Cert.Wide

/-- The reference's run leaves its arguments and every counter as they were. -/
theorem reference4_frame : Cert.quiescent_Reference4Ideal (hReference4Ideal := Cert.Reference4Ideal.Gen.facts) :=
  fun m ρ _ => (θ_run _ _ _).mono (fun r h => ⟨fun c => (h c).2.2.2.2, sem_eq_zero_of_no_sems rfl r.2⟩) (Cert.Reference4Ideal.Value.run m ρ)

/-- From any arguments, infinite entries among them, the calls of the output product and of the norm behind it end with the
    reference's results: the residual plus the norm, and the gradients of the rows, of the weights and of the scale. -/
theorem values4 : Cert.algebraic_Kernel4Ideal_Reference4Ideal (hKernel4Ideal := Cert.Kernel4Ideal.Gen.facts)
    (hReference4Ideal := Cert.Reference4Ideal.Gen.facts) := by
  intro m ρ m' ρ' _ hag
  let x (c : Dev Cert.Kernel4Ideal.nD) := entry2 (φ := .f32) (m ((c.tc : Thread Cert.Kernel4Ideal.nD Cert.Kernel4Ideal.τ).loc Cert.Kernel4Ideal.main_arg0))
  let y (c : Dev Cert.Kernel4Ideal.nD) := entry2 (φ := .f32) (m ((c.tc : Thread Cert.Kernel4Ideal.nD Cert.Kernel4Ideal.τ).loc Cert.Kernel4Ideal.main_arg1))
  let W (c : Dev Cert.Kernel4Ideal.nD) := entry2 (φ := .f32) (m ((c.tc : Thread Cert.Kernel4Ideal.nD Cert.Kernel4Ideal.τ).loc Cert.Kernel4Ideal.main_arg2))
  let w (c : Dev Cert.Kernel4Ideal.nD) := entry1 (φ := .f32) (m ((c.tc : Thread Cert.Kernel4Ideal.nD Cert.Kernel4Ideal.τ).loc Cert.Kernel4Ideal.main_arg3))
  let D (c : Dev Cert.Kernel4Ideal.nD) := entry2 (φ := .f32) (m ((c.tc : Thread Cert.Kernel4Ideal.nD Cert.Kernel4Ideal.τ).loc Cert.Kernel4Ideal.main_arg4))
  have ha : ∀ c, Cert.Kernel4Ideal.Calls.Args m c (x c) (y c) (W c) (D c) (w c) := fun c => ⟨entry2_L2 _, entry2_L2 _, entry2_L2 _, entry1_L1 _, entry2_L2 _⟩
  refine ⟨fun _ => _, fun _ => _, fun _ => _, fun _ => _,
    (θ_run _ _ _).mono (fun r h c => ⟨(h.1 c Cert.Kernel4Ideal.main_v4 (by decide)).trans (Cert.Kernel4Ideal.Calls.end_out m c (ha c)),
      (h.1 c Cert.Kernel4Ideal.main_v8 (by decide)).trans (Cert.Kernel4Ideal.Calls.end_dx m c (ha c)),
      (h.1 c Cert.Kernel4Ideal.main_v11 (by decide)).trans (Cert.Kernel4Ideal.Calls.end_dw m c (ha c)),
      (h.1 c Cert.Kernel4Ideal.main_v7 (by decide)).trans (Cert.Kernel4Ideal.Calls.end_dn m c (ha c)),
      (h.1 c Cert.Kernel4Ideal.main_arg0 (by decide)).trans (Cert.Kernel4Ideal.Calls.end_arg m c _ (by decide)),
      (h.1 c Cert.Kernel4Ideal.main_arg1 (by decide)).trans (Cert.Kernel4Ideal.Calls.end_arg m c _ (by decide)),
      (h.1 c Cert.Kernel4Ideal.main_arg2 (by decide)).trans (Cert.Kernel4Ideal.Calls.end_arg m c _ (by decide)),
      (h.1 c Cert.Kernel4Ideal.main_arg3 (by decide)).trans (Cert.Kernel4Ideal.Calls.end_arg m c _ (by decide)),
      (h.1 c Cert.Kernel4Ideal.main_arg4 (by decide)).trans (Cert.Kernel4Ideal.Calls.end_arg m c _ (by decide))⟩) (Cert.Kernel4Ideal.Calls.final m ρ),
    Cert.Reference4Ideal.Value.run_wide m' ρ' x y W w D (fun c => (hag c).1.trans (ha c).h0) (fun c => (hag c).2.1.trans (ha c).h1)
      (fun c => (hag c).2.2.1.trans (ha c).h2) (fun c => (hag c).2.2.2.1.trans (ha c).h3) (fun c => (hag c).2.2.2.2.trans (ha c).h4)⟩

end Cert.Proof

end
-- ==== Proof.ValBranch.lean ====
/- The contents of every output of the calls of a branch's product, over arrays of extended reals. -/
module

public import proofs.«01_k».proof.Proof.CallsBranch
public import proofs.«01_k».proof.Proof.WideNorm
public import Idealize.ShloMosaic.Lib.Pipeline.ValueKit.Geometry

@[expose] public section

set_option maxRecDepth 16384

noncomputable section

namespace Cert.Kernel5Ideal.Calls

open Cert.Kernel5Ideal Cert.Kernel5Ideal.Gen Cert.Kernel5Ideal.Facts₀ Cert.Kernel5Ideal.Facts Cert.Wide
open Idealize.ShloMosaic Idealize.ShloMosaic.TcCoe Idealize.ShloMosaic.ValueIdx
open Idealize.SL Idealize.SL.RA
open Idealize.ShloMosaic.Pipeline (Dat)
open scoped BigOperators

variable (W : Dev nD → Valuation τ sig (Elt Ideal)) (c : Dev nD)
variable {f g : ℕ → ℕ → EReal}

/-! ### Call 0: `mm_branch` -/

theorem idx0 (t : Fin cfg0.N) : (win0_0.index t 0 = t.val / 1 / 2 ∧ win0_0.index t 1 = t.val % 1)
    ∧ (win0_1.index t 0 = t.val % 1 ∧ win0_1.index t 1 = t.val / 1 % 2)
    ∧ (win0_2.index t 0 = t.val / 1 / 2 ∧ win0_2.index t 1 = t.val / 1 % 2) := by
  revert t; decide +kernel

theorem blk0_0 (h : W c (Proc.devRef .tc main_v0) = (L2 .bf16 f : FVec Ideal S8192x1024 .bf16)) (t : Fin cfg0.N) :
    (blk0 W c 0 t : FVec Ideal S1024x1024 .bf16) = L2 .bf16 (part 1024 1024 (t.val / 1 / 2) (t.val % 1) f) := by
  funext y
  unfold blk0 Region.blockAt
  rw [View.read_apply]
  show W c (Proc.devRef .tc main_v0) _ = _
  rw [h, ← (idx0 t).1.1, ← (idx0 t).1.2]
  rfl
theorem blk0_1 (h : W c (Proc.devRef .tc main_v1) = (L2 .bf16 f : FVec Ideal S1024x2048 .bf16)) (t : Fin cfg0.N) :
    (blk0 W c 1 t : FVec Ideal S1024x1024 .bf16) = L2 .bf16 (part 1024 1024 (t.val % 1) (t.val / 1 % 2) f) := by
  funext y
  unfold blk0 Region.blockAt
  rw [View.read_apply]
  show W c (Proc.devRef .tc main_v1) _ = _
  rw [h, ← (idx0 t).2.1.1, ← (idx0 t).2.1.2]
  rfl

theorem prod0 : k0_pay1 (L2 .bf16 f : FVec Ideal S1024x1024 .bf16) (L2 .bf16 g : FVec Ideal S1024x1024 .bf16) = L2 .f32 (fun r c => ∑ j ∈ Finset.range 1024, f r j * g j c) := by
  unfold k0_pay1
  rw [shapeCast_L2, shapeCast_L2]
  exact matmul_plain_L2 (M := 1024) (K := 1024) (N := 1024) f g

/-- The product. -/
theorem arr0 (h0 : W c (Proc.devRef .tc main_v0) = (L2 .bf16 f : FVec Ideal S8192x1024 .bf16)) (h1 : W c (Proc.devRef .tc main_v1) = (L2 .bf16 g : FVec Ideal S1024x2048 .bf16)) :
    (dat0 W c).arrAt 2 cfg0.N = (L2 .f32 (fun r c => ∑ j ∈ Finset.range 1024, f r j * g j c) : FVec Ideal S8192x2048 .f32) := by
  refine (dat0 W c).arrAt_eq_of_covers 2 (L2 .f32 (fun r c => ∑ j ∈ Finset.range 1024, f r j * g j c) : FVec Ideal S8192x2048 .f32) (by decide +kernel) fun t hf y => ?_
  have e : acc0 W c (t.val + 1) = L2 .f32 (part 1024 1024 (t.val / 1 / 2) (t.val / 1 % 2) (fun r c => ∑ j ∈ Finset.range 1024, f r j * g j c)) := by
    unfold acc0
    refine accum_product (N := grid0.N) (by decide) 1 2 1024 1024 1024 (by decide) f g _ _ (fun t => ?_) (fun t e => ?_) t (Nat.mod_one _)
    · unfold k0_pay2
      rw [blk0_0 W c h0, blk0_1 W c h1, prod0, shapeCast_L2]
      try rfl
    · unfold k0_pay3
      rw [blk0_0 W c h0, blk0_1 W c h1, prod0]
      conv_lhs => zeta
      rw [addf_L2, shapeCast_L2]
      try rfl
  show ((acc0 W c (t.val + 1)) : FVec Ideal S1024x1024 .f32) y = _
  rw [e]
  show part 1024 1024 (t.val / 1 / 2) (t.val / 1 % 2) _ _ _ = (fun r c => ∑ j ∈ Finset.range 1024, f r j * g j c) (win0_2.index t 0 * 1024 + 1 * (y 0).val) (win0_2.index t 1 * 1024 + 1 * (y 1).val)
  rw [(idx0 t).2.2.1, (idx0 t).2.2.2]
  rfl

/-! ### Call 1: `mm_branch_dx` -/

theorem idx1 (t : Fin cfg1.N) : (win1_0.index t 0 = t.val / 1 / 1 ∧ win1_0.index t 1 = t.val % 1)
    ∧ (win1_1.index t 0 = t.val / 1 % 1 ∧ win1_1.index t 1 = t.val % 1)
    ∧ (win1_2.index t 0 = t.val / 1 / 1 ∧ win1_2.index t 1 = t.val / 1 % 1) := by
  revert t; decide +kernel

theorem blk1_0 (h : W c (Proc.devRef .tc main_v2) = (L2 .bf16 f : FVec Ideal S8192x2048 .bf16)) (t : Fin cfg1.N) :
    (blk1 W c 0 t : FVec Ideal S1024x2048 .bf16) = L2 .bf16 (part 1024 2048 (t.val / 1 / 1) (t.val % 1) f) := by
  funext y
  unfold blk1 Region.blockAt
  rw [View.read_apply]
  show W c (Proc.devRef .tc main_v2) _ = _
  rw [h, ← (idx1 t).1.1, ← (idx1 t).1.2]
  rfl
theorem blk1_1 (h : W c (Proc.devRef .tc main_v1) = (L2 .bf16 f : FVec Ideal S1024x2048 .bf16)) (t : Fin cfg1.N) :
    (blk1 W c 1 t : FVec Ideal S1024x2048 .bf16) = L2 .bf16 (part 1024 2048 (t.val / 1 % 1) (t.val % 1) f) := by
  funext y
  unfold blk1 Region.blockAt
  rw [View.read_apply]
  show W c (Proc.devRef .tc main_v1) _ = _
  rw [h, ← (idx1 t).2.1.1, ← (idx1 t).2.1.2]
  rfl

theorem prod1 : k1_pay1 (L2 .bf16 f : FVec Ideal S1024x2048 .bf16) (L2 .bf16 g : FVec Ideal S1024x2048 .bf16) = L2 .f32 (fun r c => ∑ j ∈ Finset.range 2048, f r j * g c j) := by
  unfold k1_pay1
  rw [shapeCast_L2, shapeCast_L2]
  exact matmul_transposedRhs_L2 (M := 1024) (K := 2048) (N := 1024) f g

/-- The gradient of the rows. -/
theorem arr1 (h0 : W c (Proc.devRef .tc main_v2) = (L2 .bf16 f : FVec Ideal S8192x2048 .bf16)) (h1 : W c (Proc.devRef .tc main_v1) = (L2 .bf16 g : FVec Ideal S1024x2048 .bf16)) :
    (dat1 W c).arrAt 2 cfg1.N = (L2 .f32 (fun r c => ∑ j ∈ Finset.range 2048, f r j * g c j) : FVec Ideal S8192x1024 .f32) := by
  refine (dat1 W c).arrAt_eq_of_covers 2 (L2 .f32 (fun r c => ∑ j ∈ Finset.range 2048, f r j * g c j) : FVec Ideal S8192x1024 .f32) (by decide +kernel) fun t hf y => ?_
  have e : acc1 W c (t.val + 1) = L2 .f32 (part 1024 1024 (t.val / 1 / 1) (t.val / 1 % 1) (fun r c => ∑ j ∈ Finset.range 2048, f r j * g c j)) := by
    unfold acc1
    refine accum_product (N := grid1.N) (by decide) 1 1 1024 1024 2048 (by decide) f (fun k c => g c k) _ _ (fun t => ?_) (fun t e => ?_) t (Nat.mod_one _)
    · unfold k1_pay2
      rw [blk1_0 W c h0, blk1_1 W c h1, prod1, shapeCast_L2]
      try rfl
    · unfold k1_pay3
      rw [blk1_0 W c h0, blk1_1 W c h1, prod1]
      conv_lhs => zeta
      rw [addf_L2, shapeCast_L2]
      try rfl
  show ((acc1 W c (t.val + 1)) : FVec Ideal S1024x1024 .f32) y = _
  rw [e]
  show part 1024 1024 (t.val / 1 / 1) (t.val / 1 % 1) _ _ _ = (fun r c => ∑ j ∈ Finset.range 2048, f r j * g c j) (win1_2.index t 0 * 1024 + 1 * (y 0).val) (win1_2.index t 1 * 1024 + 1 * (y 1).val)
  rw [(idx1 t).2.2.1, (idx1 t).2.2.2]
  rfl

/-! ### Call 2: `mm_branch_dw` -/

theorem idx2 (t : Fin cfg2.N) : (win2_0.index t 0 = t.val / 4 / 2 ∧ win2_0.index t 1 = t.val % 4)
    ∧ (win2_1.index t 0 = t.val % 4 ∧ win2_1.index t 1 = t.val / 4 % 2)
    ∧ (win2_2.index t 0 = t.val / 4 / 2 ∧ win2_2.index t 1 = t.val / 4 % 2) := by
  revert t; decide +kernel

theorem blk2_0 (h : W c (Proc.devRef .tc main_v5) = (L2 .bf16 f : FVec Ideal S1024x8192 .bf16)) (t : Fin cfg2.N) :
    (blk2 W c 0 t : FVec Ideal S1024x2048 .bf16) = L2 .bf16 (part 1024 2048 (t.val / 4 / 2) (t.val % 4) f) := by
  funext y
  unfold blk2 Region.blockAt
  rw [View.read_apply]
  show W c (Proc.devRef .tc main_v5) _ = _
  rw [h, ← (idx2 t).1.1, ← (idx2 t).1.2]
  rfl
theorem blk2_1 (h : W c (Proc.devRef .tc main_v2) = (L2 .bf16 f : FVec Ideal S8192x2048 .bf16)) (t : Fin cfg2.N) :
    (blk2 W c 1 t : FVec Ideal S2048x1024 .bf16) = L2 .bf16 (part 2048 1024 (t.val % 4) (t.val / 4 % 2) f) := by
  funext y
  unfold blk2 Region.blockAt
  rw [View.read_apply]
  show W c (Proc.devRef .tc main_v2) _ = _
  rw [h, ← (idx2 t).2.1.1, ← (idx2 t).2.1.2]
  rfl

theorem prod2 : k2_pay1 (L2 .bf16 f : FVec Ideal S1024x2048 .bf16) (L2 .bf16 g : FVec Ideal S2048x1024 .bf16) = L2 .f32 (fun r c => ∑ j ∈ Finset.range 2048, f r j * g j c) := by
  unfold k2_pay1
  rw [shapeCast_L2, shapeCast_L2]
  exact matmul_plain_L2 (M := 1024) (K := 2048) (N := 1024) f g

/-- The gradient of the weights. -/
theorem arr2 (h0 : W c (Proc.devRef .tc main_v5) = (L2 .bf16 f : FVec Ideal S1024x8192 .bf16)) (h1 : W c (Proc.devRef .tc main_v2) = (L2 .bf16 g : FVec Ideal S8192x2048 .bf16)) :
    (dat2 W c).arrAt 2 cfg2.N = (L2 .bf16 (fun r c => ∑ j ∈ Finset.range 8192, f r j * g j c) : FVec Ideal S1024x2048 .bf16) := by
  refine (dat2 W c).arrAt_eq_of_covers 2 (L2 .bf16 (fun r c => ∑ j ∈ Finset.range 8192, f r j * g j c) : FVec Ideal S1024x2048 .bf16) (by decide +kernel) fun t hf y => ?_
  have e : acc2 W c (t.val + 1) = L2 .f32 (part 1024 1024 (t.val / 4 / 2) (t.val / 4 % 2) (fun r c => ∑ j ∈ Finset.range 8192, f r j * g j c)) := by
    unfold acc2
    refine accum_product (N := grid2.N) (by decide) 4 2 1024 1024 2048 (by decide) f g _ _ (fun t => ?_) (fun t e => ?_) t ((flush2_2 t).mp hf)
    · unfold k2_pay2
      rw [blk2_0 W c h0, blk2_1 W c h1, prod2, shapeCast_L2]
      try rfl
    · unfold k2_pay3
      rw [blk2_0 W c h0, blk2_1 W c h1, prod2]
      conv_lhs => zeta
      rw [addf_L2, shapeCast_L2]
      try rfl
  show ((k2_pay4 (acc2 W c (t.val + 1))) : FVec Ideal S1024x1024 .bf16) y = _
  unfold k2_pay4
  rw [e]
  show part 1024 1024 (t.val / 4 / 2) (t.val / 4 % 2) (fun r c => ∑ j ∈ Finset.range 8192, f r j * g j c) (y 0).val (y 1).val = (fun r c => ∑ j ∈ Finset.range 8192, f r j * g j c) (win2_2.index t 0 * 1024 + 1 * (y 0).val) (win2_2.index t 1 * 1024 + 1 * (y 1).val)
  rw [(idx2 t).2.2.1, (idx2 t).2.2.2]
  rfl

end Cert.Kernel5Ideal.Calls

end
-- ==== Proof.BranchValue.lean ====
/- What the program of a branch's product leaves in its results. -/
module

public import proofs.«01_k».proof.Proof.RunBranch
public import proofs.«01_k».proof.Proof.ValBranch

@[expose] public section

set_option maxRecDepth 16384

noncomputable section

namespace Cert.Kernel5Ideal.Calls

open Cert.Kernel5Ideal Cert.Kernel5Ideal.Gen Cert.Wide
open Idealize.ShloMosaic Idealize.ShloMosaic.TcCoe Idealize.ShloMosaic.Tactic Idealize.ShloMosaic.StableHlo
open scoped BigOperators

variable (m : (ℓ : Loc nD τ sig) → Buf (Elt Ideal) ℓ) (c : Dev nD) {x W D : ℕ → ℕ → EReal}

theorem v0_1 (h : m ((c.tc : Thread nD τ).loc main_arg0) = (L2 .f32 x : FVec Ideal S8192x1024 .f32)) :
    B1 m c (Proc.devRef .tc main_v0) = (L2 .bf16 x : FVec Ideal S8192x1024 .bf16) := by
  unfold B1 B0; after_results_simp; rw [h]; rfl
theorem v1_1 (h : m ((c.tc : Thread nD τ).loc main_arg1) = (L2 .f32 W : FVec Ideal S1024x2048 .f32)) :
    B1 m c (Proc.devRef .tc main_v1) = (L2 .bf16 W : FVec Ideal S1024x2048 .bf16) := by
  unfold B1 B0; after_results_simp; rw [h]; rfl
theorem v2_1 (h : m ((c.tc : Thread nD τ).loc main_arg2) = (L2 .f32 D : FVec Ideal S8192x2048 .f32)) :
    B1 m c (Proc.devRef .tc main_v2) = (L2 .bf16 D : FVec Ideal S8192x2048 .bf16) := by
  unfold B1 B0; after_results_simp; rw [h]; rfl
theorem host2_v5 (V : Valuation τ sig (Elt Ideal)) (h : V (Proc.devRef .tc main_v0) = (L2 .bf16 x : FVec Ideal S8192x1024 .bf16)) :
    StableHlo.after hostOps2 V (Proc.devRef .tc main_v5) = (L2 .bf16 (fun r c => x c r) : FVec Ideal S1024x8192 .bf16) := by
  after_results_simp
  rw [h]
  exact transpose_L2 x _
theorem host3_v7 (V : Valuation τ sig (Elt Ideal)) (h : V (Proc.devRef .tc main_v6) = (L2 .bf16 x : FVec Ideal S1024x2048 .bf16)) :
    StableHlo.after hostOps3 V (Proc.devRef .tc main_v7) = (L2 .f32 x : FVec Ideal S1024x2048 .f32) := by
  after_results_simp
  rw [h]; rfl

/-- The arguments are the matrices `x`, `W` and `D`. -/
structure Args (x W D : ℕ → ℕ → EReal) : Prop where
  h0 : m ((c.tc : Thread nD τ).loc main_arg0) = (L2 .f32 x : FVec Ideal S8192x1024 .f32)
  h1 : m ((c.tc : Thread nD τ).loc main_arg1) = (L2 .f32 W : FVec Ideal S1024x2048 .f32)
  h2 : m ((c.tc : Thread nD τ).loc main_arg2) = (L2 .f32 D : FVec Ideal S8192x2048 .f32)

variable (h : Args m c x W D)
include h

/-- The product. -/
theorem end_out : B6 m c (Proc.devRef .tc main_v3) = (L2 .f32 (fun r c => ∑ j ∈ Finset.range 1024, x r j * W j c) : FVec Ideal S8192x2048 .f32) :=
  (B6_of m c main_v3 (by decide)).trans <| (B5_of m c main_v3 (by decide)).trans <| (B4_of m c main_v3 (by decide)).trans <| (B3_of m c main_v3 (by decide)).trans <|
    (Region.exitW_arr (dat0 (B1 m)) (B1 m) launch0.to₀.sharedIn (fun _ _ => rfl) c 2).trans (arr0 (B1 m) c (v0_1 m c h.h0) (v1_1 m c h.h1))
/-- The gradient of the rows. -/
theorem end_dx : B6 m c (Proc.devRef .tc main_v4) = (L2 .f32 (fun r c => ∑ j ∈ Finset.range 2048, D r j * W c j) : FVec Ideal S8192x1024 .f32) :=
  (B6_of m c main_v4 (by decide)).trans <| (B5_of m c main_v4 (by decide)).trans <| (B4_of m c main_v4 (by decide)).trans <| (Region.exitW_arr (dat1 (B2 m)) (B2 m) launch1.to₀.sharedIn (fun _ _ => rfl) c 2).trans
    (arr1 (B2 m) c ((B2_of m c main_v2 (by decide)).trans (v2_1 m c h.h2)) ((B2_of m c main_v1 (by decide)).trans (v1_1 m c h.h1)))
/-- The gradient of the weights. -/
theorem end_dw : B6 m c (Proc.devRef .tc main_v7) = (L2 .f32 (fun r c => ∑ j ∈ Finset.range 8192, x j r * D j c) : FVec Ideal S1024x2048 .f32) :=
  host3_v7 _ <| (Region.exitW_arr (dat2 (B4 m)) (B4 m) launch2.to₀.sharedIn (fun _ _ => rfl) c 2).trans <| arr2 (B4 m) c
    (host2_v5 _ ((B3_of m c main_v0 (by decide)).trans ((B2_of m c main_v0 (by decide)).trans (v0_1 m c h.h0))))
    ((B4_of m c main_v2 (by decide)).trans ((B3_of m c main_v2 (by decide)).trans ((B2_of m c main_v2 (by decide)).trans (v2_1 m c h.h2))))

end Cert.Kernel5Ideal.Calls

end
-- ==== Proof.Claim5.lean ====
/- What the reference of a branch's product and of the norm behind it computes, its frame, and the equality of the results. -/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.BranchValue
public import Idealize.ShloMosaic.Lib.Quiescent
public import Idealize.ShloMosaic.Adequacy
public import Idealize.ShloMosaic.Init

@[expose] public section

set_option maxRecDepth 16384

noncomputable section

namespace Cert.Reference5Ideal.Value

open Cert.Reference5Ideal Cert.Reference5Ideal.Facts₀ Cert.Reference5Ideal.Facts Cert.Wide
open Idealize.ShloMosaic Idealize.ShloMosaic.TcCoe
open scoped BigOperators

variable [Cert.Reference5Ideal.Facts₀] [Cert.Reference5Ideal.Facts] (f g : ℕ → ℕ → EReal)

theorem dot_out : Host.dotGeneral (φ₁ := .f32) (φ₂ := .f32) dot_S8192x1024_S1024x2048_S8192x2048_1_0_0_1_n_n none (L2 .f32 f) (L2 .f32 g)
    = (L2 .f32 (fun r c => ∑ k ∈ Finset.range 1024, f r k * g k c) : FVec Ideal S8192x2048 .f32) := hdot_nn f g _
theorem dot_dx : Host.dotGeneral (φ₁ := .f32) (φ₂ := .f32) dot_S8192x2048_S1024x2048_S8192x1024_1_1_0_0_n_n none (L2 .f32 f) (L2 .f32 g)
    = (L2 .f32 (fun r c => ∑ k ∈ Finset.range 2048, f r k * g c k) : FVec Ideal S8192x1024 .f32) := hdot_nt f g _
theorem dot_dw : transpose S1024x2048 [1, 0] (Host.dotGeneral (φ₁ := .f32) (φ₂ := .f32) dot_S8192x2048_S8192x1024_S2048x1024_0_0_1_1_n_n none (L2 .f32 f) (L2 .f32 g)) transposes_S2048x1024_S1024x2048_1_0
    = (L2 .f32 (fun r c => ∑ k ∈ Finset.range 8192, g k r * f k c) : FVec Ideal S1024x2048 .f32) := by
  rw [show Host.dotGeneral (φ₁ := .f32) (φ₂ := .f32) dot_S8192x2048_S8192x1024_S2048x1024_0_0_1_1_n_n none (L2 .f32 f) (L2 .f32 g)
    = (L2 .f32 (fun r c => ∑ k ∈ Finset.range 8192, f k r * g k c) : FVec Ideal S2048x1024 .f32) from hdot_tn f g _, transpose_L2]
  exact L2_congr fun i j _ _ => Finset.sum_congr rfl fun _ _ => mul_comm _ _

end Cert.Reference5Ideal.Value

namespace Cert.Proof

open Idealize.ShloMosaic Idealize.ShloMosaic.TcCoe Idealize.SL.Sem Cert.Wide

/-- The reference's run leaves its arguments and every counter as they were. -/
theorem reference5_frame : Cert.quiescent_Reference5Ideal (hReference5Ideal := Cert.Reference5Ideal.Gen.facts) :=
  fun m ρ _ => (θ_run _ _ _).mono (fun r h => ⟨fun c => (h c).2.2.2, sem_eq_zero_of_no_sems rfl r.2⟩) (Cert.Reference5Ideal.Value.run m ρ)

/-- From any arguments, infinite entries among them, a branch's product's calls end with the reference's results: the product
    and the gradients of the rows and of the weights. -/
theorem values5 : Cert.algebraic_Kernel5Ideal_Reference5Ideal (hKernel5Ideal := Cert.Kernel5Ideal.Gen.facts)
    (hReference5Ideal := Cert.Reference5Ideal.Gen.facts) := by
  intro m ρ m' ρ' _ hag
  let a (c : Dev Cert.Kernel5Ideal.nD) : ℕ → ℕ → EReal := entry2 (φ := .f32) (m ((c.tc : Thread Cert.Kernel5Ideal.nD Cert.Kernel5Ideal.τ).loc Cert.Kernel5Ideal.main_arg0))
  let b (c : Dev Cert.Kernel5Ideal.nD) : ℕ → ℕ → EReal := entry2 (φ := .f32) (m ((c.tc : Thread Cert.Kernel5Ideal.nD Cert.Kernel5Ideal.τ).loc Cert.Kernel5Ideal.main_arg1))
  let d (c : Dev Cert.Kernel5Ideal.nD) : ℕ → ℕ → EReal := entry2 (φ := .f32) (m ((c.tc : Thread Cert.Kernel5Ideal.nD Cert.Kernel5Ideal.τ).loc Cert.Kernel5Ideal.main_arg2))
  have ha : ∀ c, Cert.Kernel5Ideal.Calls.Args m c (a c) (b c) (d c) := fun c => ⟨entry2_L2 _, entry2_L2 _, entry2_L2 _⟩
  refine ⟨fun _ => _, fun _ => _, fun _ => _,
    (θ_run _ _ _).mono (fun r h c => ⟨(h.1 c Cert.Kernel5Ideal.main_v3 (by decide)).trans (Cert.Kernel5Ideal.Calls.end_out m c (ha c)),
      (h.1 c Cert.Kernel5Ideal.main_v4 (by decide)).trans (Cert.Kernel5Ideal.Calls.end_dx m c (ha c)),
      (h.1 c Cert.Kernel5Ideal.main_v7 (by decide)).trans (Cert.Kernel5Ideal.Calls.end_dw m c (ha c)),
      (h.1 c Cert.Kernel5Ideal.main_arg0 (by decide)).trans (Cert.Kernel5Ideal.Calls.end_arg m c _ (by decide)),
      (h.1 c Cert.Kernel5Ideal.main_arg1 (by decide)).trans (Cert.Kernel5Ideal.Calls.end_arg m c _ (by decide)),
      (h.1 c Cert.Kernel5Ideal.main_arg2 (by decide)).trans (Cert.Kernel5Ideal.Calls.end_arg m c _ (by decide))⟩) (Cert.Kernel5Ideal.Calls.final m ρ),
    (θ_run _ _ _).mono (fun r h c => ?_) (Cert.Reference5Ideal.Value.run m' ρ')⟩
  have e0 := (hag c).1.trans (ha c).h0
  have e1 := (hag c).2.1.trans (ha c).h1
  have e2 := (hag c).2.2.trans (ha c).h2
  obtain ⟨h1, h2, h3, h4⟩ := h c
  rw [e0, e1] at h1; rw [e2, e1] at h2; rw [e2, e0] at h3
  exact ⟨h1.trans (Cert.Reference5Ideal.Value.dot_out _ _), h2.trans (Cert.Reference5Ideal.Value.dot_dx _ _),
    h3.trans (Cert.Reference5Ideal.Value.dot_dw _ _), h4⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Run
public import proofs.«01_k».proof.Proof.Ref
public import proofs.«01_k».proof.Proof.RunFfn
public import proofs.«01_k».proof.Proof.Printed
public import proofs.«01_k».proof.Proof.Claim2
public import proofs.«01_k».proof.Proof.Claim3
public import proofs.«01_k».proof.Proof.Claim4
public import proofs.«01_k».proof.Proof.Claim5
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Stick

/-- The reference's run leaves its arguments and every counter as they were. -/
theorem reference_frame : Cert.quiescent_ReferenceIdeal (hReferenceIdeal := Cert.ReferenceIdeal.Gen.facts) :=
  fun m ρ _ => (θ_run _ _ _).mono (fun r h => ⟨fun c => ⟨(h c).2.2.2.2.1, (h c).2.2.2.2.2⟩,
    sem_eq_zero_of_no_sems rfl r.2⟩) (Cert.ReferenceIdeal.Value.run m ρ)

/-- From finite arguments the two calls end with the reference's four results: the output and the gradients of the
    queries, the keys and the values. -/
theorem values : Cert.algebraic_KernelIdeal_ReferenceIdeal_pre_finite (hKernelIdeal := Cert.KernelIdeal.Gen.facts)
    (hReferenceIdeal := Cert.ReferenceIdeal.Gen.facts) (hPre_finite := factsFinite) := by
  intro m ρ m' ρ' hpre hag
  have hQ : ∀ c : Dev Cert.KernelIdeal.nD, m ((c.tc : Thread Cert.KernelIdeal.nD Cert.KernelIdeal.τ).loc Cert.KernelIdeal.main_arg0)
      = (L2 .f32 (real2 (m ((c.tc : Thread Cert.KernelIdeal.nD Cert.KernelIdeal.τ).loc Cert.KernelIdeal.main_arg0))) : FVec Ideal Cert.KernelIdeal.S8192x3072 .f32) :=
    fun c => real2_L2 _ _ (hpre c).1
  have hU : ∀ c : Dev Cert.KernelIdeal.nD, m ((c.tc : Thread Cert.KernelIdeal.nD Cert.KernelIdeal.τ).loc Cert.KernelIdeal.main_arg1)
      = (L2 .f32 (real2 (m ((c.tc : Thread Cert.KernelIdeal.nD Cert.KernelIdeal.τ).loc Cert.KernelIdeal.main_arg1))) : FVec Ideal Cert.KernelIdeal.S8192x1024 .f32) :=
    fun c => real2_L2 _ _ (hpre c).2
  refine ⟨fun c => L2 .f32 (heads (oH (real2 (m ((c.tc : Thread Cert.KernelIdeal.nD Cert.KernelIdeal.τ).loc Cert.KernelIdeal.main_arg0))))),
    fun c => L2 .f32 (heads (dqH (real2 (m ((c.tc : Thread Cert.KernelIdeal.nD Cert.KernelIdeal.τ).loc Cert.KernelIdeal.main_arg0)))
      (real2 (m ((c.tc : Thread Cert.KernelIdeal.nD Cert.KernelIdeal.τ).loc Cert.KernelIdeal.main_arg1))))),
    fun c => L2 .f32 (heads (dkH (real2 (m ((c.tc : Thread Cert.KernelIdeal.nD Cert.KernelIdeal.τ).loc Cert.KernelIdeal.main_arg0)))
      (real2 (m ((c.tc : Thread Cert.KernelIdeal.nD Cert.KernelIdeal.τ).loc Cert.KernelIdeal.main_arg1))))),
    fun c => L2 .f32 (heads (dvH (real2 (m ((c.tc : Thread Cert.KernelIdeal.nD Cert.KernelIdeal.τ).loc Cert.KernelIdeal.main_arg0)))
      (real2 (m ((c.tc : Thread Cert.KernelIdeal.nD Cert.KernelIdeal.τ).loc Cert.KernelIdeal.main_arg1))))),
    run_values ρ m _ _ hQ hU, ?_⟩
  refine (θ_run _ _ _).mono (fun r h c => ?_) (Cert.ReferenceIdeal.Value.run m' ρ')
  have e0 := (hag c).1.trans (hQ c)
  have e1 := (hag c).2.trans (hU c)
  obtain ⟨h1, h2, h3, h4, h5, h6⟩ := h c
  exact ⟨h1.trans (ref_o _ _ e0), h2.trans (ref_dq _ _ _ e0 e1), h3.trans (ref_dk _ _ _ e0 e1), h4.trans (ref_dv _ _ _ e0 e1), h5, h6⟩

/-- Everything that is claimed of the five programs. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, factsFinite, Cert.Pre_finite2.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Calls.frame m ρ, fun m ρ _ => Cert.Kernel2Ideal.Calls.frame m ρ, fun m ρ _ => Cert.Kernel2Ideal.Calls.frame m ρ,
    reference2_frame, fun m ρ _ => reference2_frame m ρ trivial,
    fun m ρ _ => Cert.Kernel3.Calls.frame m ρ, fun m ρ _ => Cert.Kernel3Ideal.Calls.frame m ρ, reference3_frame,
    fun m ρ _ => Cert.Kernel4.Calls.frame m ρ, fun m ρ _ => Cert.Kernel4Ideal.Calls.frame m ρ, reference4_frame,
    fun m ρ _ => Cert.Kernel5.Calls.frame m ρ, fun m ρ _ => Cert.Kernel5Ideal.Calls.frame m ρ, reference5_frame,
    trivial, values, trivial, values2, trivial, values3, trivial, values4, trivial, values5⟩

end Cert.Proof

end
